-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_bounds [hPre_real_bounds : Cert.Pre_real_bounds.Facts] (m : (ℓ : Loc Cert.KernelIdeal.nD Cert.KernelIdeal.τ Cert.KernelIdeal.sig) → Buf (Elt Ideal) ℓ) : Prop :=
  ∀ c : Dev Cert.KernelIdeal.nD,
    (Cert.Pre_real_bounds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_bounds [hPre_real_bounds : Cert.Pre_real_bounds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_bounds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelInW (m : (ℓ : Loc Cert.KernelInW.nD Cert.KernelInW.τ Cert.KernelInW.sig) → Buf (Elt Bits) ℓ) : Prop :=
  True

def Pre_KernelInWIdeal (m : (ℓ : Loc Cert.KernelInWIdeal.nD Cert.KernelInWIdeal.τ Cert.KernelInWIdeal.sig) → Buf (Elt Ideal) ℓ) : Prop :=
  True

def Pre_ReferenceInWIdeal (m : (ℓ : Loc Cert.ReferenceInWIdeal.nD Cert.ReferenceInWIdeal.τ Cert.ReferenceInWIdeal.sig) → Buf (Elt Ideal) ℓ) : Prop :=
  True

def Pre_KernelInX (m : (ℓ : Loc Cert.KernelInX.nD Cert.KernelInX.τ Cert.KernelInX.sig) → Buf (Elt Bits) ℓ) : Prop :=
  True

def Pre_KernelInXIdeal (m : (ℓ : Loc Cert.KernelInXIdeal.nD Cert.KernelInXIdeal.τ Cert.KernelInXIdeal.sig) → Buf (Elt Ideal) ℓ) : Prop :=
  True

def Pre_ReferenceInXIdeal (m : (ℓ : Loc Cert.ReferenceInXIdeal.nD Cert.ReferenceInXIdeal.τ Cert.ReferenceInXIdeal.sig) → Buf (Elt Ideal) ℓ) : Prop :=
  True

def Pre_KernelBranch (m : (ℓ : Loc Cert.KernelBranch.nD Cert.KernelBranch.τ Cert.KernelBranch.sig) → Buf (Elt Bits) ℓ) : Prop :=
  True

def Pre_KernelBranchIdeal (m : (ℓ : Loc Cert.KernelBranchIdeal.nD Cert.KernelBranchIdeal.τ Cert.KernelBranchIdeal.sig) → Buf (Elt Ideal) ℓ) : Prop :=
  True

def Pre_ReferenceBranchIdeal (m : (ℓ : Loc Cert.ReferenceBranchIdeal.nD Cert.ReferenceBranchIdeal.τ Cert.ReferenceBranchIdeal.sig) → Buf (Elt Ideal) ℓ) : Prop :=
  True

def Pre_KernelBranchW (m : (ℓ : Loc Cert.KernelBranchW.nD Cert.KernelBranchW.τ Cert.KernelBranchW.sig) → Buf (Elt Bits) ℓ) : Prop :=
  True

def Pre_KernelBranchWIdeal (m : (ℓ : Loc Cert.KernelBranchWIdeal.nD Cert.KernelBranchWIdeal.τ Cert.KernelBranchWIdeal.sig) → Buf (Elt Ideal) ℓ) : Prop :=
  True

def Pre_ReferenceBranchWIdeal (m : (ℓ : Loc Cert.ReferenceBranchWIdeal.nD Cert.ReferenceBranchWIdeal.τ Cert.ReferenceBranchWIdeal.sig) → Buf (Elt Ideal) ℓ) : Prop :=
  True

def Pre_KernelBranchX (m : (ℓ : Loc Cert.KernelBranchX.nD Cert.KernelBranchX.τ Cert.KernelBranchX.sig) → Buf (Elt Bits) ℓ) : Prop :=
  True

def Pre_KernelBranchXIdeal (m : (ℓ : Loc Cert.KernelBranchXIdeal.nD Cert.KernelBranchXIdeal.τ Cert.KernelBranchXIdeal.sig) → Buf (Elt Ideal) ℓ) : Prop :=
  True

def Pre_ReferenceBranchXIdeal (m : (ℓ : Loc Cert.ReferenceBranchXIdeal.nD Cert.ReferenceBranchXIdeal.τ Cert.ReferenceBranchXIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelOutW (m : (ℓ : Loc Cert.KernelOutW.nD Cert.KernelOutW.τ Cert.KernelOutW.sig) → Buf (Elt Bits) ℓ) : Prop :=
  True

def Pre_KernelOutWIdeal (m : (ℓ : Loc Cert.KernelOutWIdeal.nD Cert.KernelOutWIdeal.τ Cert.KernelOutWIdeal.sig) → Buf (Elt Ideal) ℓ) : Prop :=
  True

def Pre_ReferenceOutWIdeal (m : (ℓ : Loc Cert.ReferenceOutWIdeal.nD Cert.ReferenceOutWIdeal.τ Cert.ReferenceOutWIdeal.sig) → Buf (Elt Ideal) ℓ) : Prop :=
  True

def Pre_KernelOutX (m : (ℓ : Loc Cert.KernelOutX.nD Cert.KernelOutX.τ Cert.KernelOutX.sig) → Buf (Elt Bits) ℓ) : Prop :=
  True

def Pre_KernelOutXIdeal (m : (ℓ : Loc Cert.KernelOutXIdeal.nD Cert.KernelOutXIdeal.τ Cert.KernelOutXIdeal.sig) → Buf (Elt Ideal) ℓ) : Prop :=
  True

def Pre_ReferenceOutXIdeal (m : (ℓ : Loc Cert.ReferenceOutXIdeal.nD Cert.ReferenceOutXIdeal.τ Cert.ReferenceOutXIdeal.sig) → Buf (Elt Ideal) ℓ) : Prop :=
  True

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_ReferenceHIdeal (m : (ℓ : Loc Cert.ReferenceHIdeal.nD Cert.ReferenceHIdeal.τ Cert.ReferenceHIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelAdaW (m : (ℓ : Loc Cert.KernelAdaW.nD Cert.KernelAdaW.τ Cert.KernelAdaW.sig) → Buf (Elt Bits) ℓ) : Prop :=
  True

def Pre_KernelAdaWIdeal (m : (ℓ : Loc Cert.KernelAdaWIdeal.nD Cert.KernelAdaWIdeal.τ Cert.KernelAdaWIdeal.sig) → Buf (Elt Ideal) ℓ) : Prop :=
  True

def Pre_ReferenceAdaWIdeal (m : (ℓ : Loc Cert.ReferenceAdaWIdeal.nD Cert.ReferenceAdaWIdeal.τ Cert.ReferenceAdaWIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelAdamRep (m : (ℓ : Loc Cert.KernelAdamRep.nD Cert.KernelAdamRep.τ Cert.KernelAdamRep.sig) → Buf (Elt Bits) ℓ) : Prop :=
  True

def Pre_KernelAdamRepIdeal (m : (ℓ : Loc Cert.KernelAdamRepIdeal.nD Cert.KernelAdamRepIdeal.τ Cert.KernelAdamRepIdeal.sig) → Buf (Elt Ideal) ℓ) : Prop :=
  True

def Pre_ReferenceAdamRepIdeal (m : (ℓ : Loc Cert.ReferenceAdamRepIdeal.nD Cert.ReferenceAdamRepIdeal.τ Cert.ReferenceAdamRepIdeal.sig) → Buf (Elt Ideal) ℓ) : Prop :=
  True

def Pre_KernelHalvesIn (m : (ℓ : Loc Cert.KernelHalvesIn.nD Cert.KernelHalvesIn.τ Cert.KernelHalvesIn.sig) → Buf (Elt Bits) ℓ) : Prop :=
  True

def Pre_KernelHalvesInIdeal (m : (ℓ : Loc Cert.KernelHalvesInIdeal.nD Cert.KernelHalvesInIdeal.τ Cert.KernelHalvesInIdeal.sig) → Buf (Elt Ideal) ℓ) : Prop :=
  True

def Pre_ReferenceHalvesInIdeal (m : (ℓ : Loc Cert.ReferenceHalvesInIdeal.nD Cert.ReferenceHalvesInIdeal.τ Cert.ReferenceHalvesInIdeal.sig) → Buf (Elt Ideal) ℓ) : Prop :=
  True

def Pre_KernelHalvesBranch (m : (ℓ : Loc Cert.KernelHalvesBranch.nD Cert.KernelHalvesBranch.τ Cert.KernelHalvesBranch.sig) → Buf (Elt Bits) ℓ) : Prop :=
  True

def Pre_KernelHalvesBranchIdeal (m : (ℓ : Loc Cert.KernelHalvesBranchIdeal.nD Cert.KernelHalvesBranchIdeal.τ Cert.KernelHalvesBranchIdeal.sig) → Buf (Elt Ideal) ℓ) : Prop :=
  True

def Pre_ReferenceHalvesBranchIdeal (m : (ℓ : Loc Cert.ReferenceHalvesBranchIdeal.nD Cert.ReferenceHalvesBranchIdeal.τ Cert.ReferenceHalvesBranchIdeal.sig) → Buf (Elt Ideal) ℓ) : Prop :=
  True

def Pre_KernelHalvesOut (m : (ℓ : Loc Cert.KernelHalvesOut.nD Cert.KernelHalvesOut.τ Cert.KernelHalvesOut.sig) → Buf (Elt Bits) ℓ) : Prop :=
  True

def Pre_KernelHalvesOutIdeal (m : (ℓ : Loc Cert.KernelHalvesOutIdeal.nD Cert.KernelHalvesOutIdeal.τ Cert.KernelHalvesOutIdeal.sig) → Buf (Elt Ideal) ℓ) : Prop :=
  True

def Pre_ReferenceHalvesOutIdeal (m : (ℓ : Loc Cert.ReferenceHalvesOutIdeal.nD Cert.ReferenceHalvesOutIdeal.τ Cert.ReferenceHalvesOutIdeal.sig) → Buf (Elt Ideal) ℓ) : Prop :=
  True

def Pre_KernelHalvesSmall (m : (ℓ : Loc Cert.KernelHalvesSmall.nD Cert.KernelHalvesSmall.τ Cert.KernelHalvesSmall.sig) → Buf (Elt Bits) ℓ) : Prop :=
  True

def Pre_KernelHalvesSmallIdeal (m : (ℓ : Loc Cert.KernelHalvesSmallIdeal.nD Cert.KernelHalvesSmallIdeal.τ Cert.KernelHalvesSmallIdeal.sig) → Buf (Elt Ideal) ℓ) : Prop :=
  True

def Pre_ReferenceHalvesSmallIdeal (m : (ℓ : Loc Cert.ReferenceHalvesSmallIdeal.nD Cert.ReferenceHalvesSmallIdeal.τ Cert.ReferenceHalvesSmallIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_KernelHFwd (m : (ℓ : Loc Cert.KernelHFwd.nD Cert.KernelHFwd.τ Cert.KernelHFwd.sig) → Buf (Elt Bits) ℓ) : Prop :=
  True

def Pre_KernelHFwdIdeal (m : (ℓ : Loc Cert.KernelHFwdIdeal.nD Cert.KernelHFwdIdeal.τ Cert.KernelHFwdIdeal.sig) → Buf (Elt Ideal) ℓ) : Prop :=
  True

def Pre_ReferenceHFwdIdeal (m : (ℓ : Loc Cert.ReferenceHFwdIdeal.nD Cert.ReferenceHFwdIdeal.τ Cert.ReferenceHFwdIdeal.sig) → Buf (Elt Ideal) ℓ) : Prop :=
  True

def Pre_KernelMergeFwd (m : (ℓ : Loc Cert.KernelMergeFwd.nD Cert.KernelMergeFwd.τ Cert.KernelMergeFwd.sig) → Buf (Elt Bits) ℓ) : Prop :=
  True

def Pre_KernelMergeFwdIdeal (m : (ℓ : Loc Cert.KernelMergeFwdIdeal.nD Cert.KernelMergeFwdIdeal.τ Cert.KernelMergeFwdIdeal.sig) → Buf (Elt Ideal) ℓ) : Prop :=
  True

def Pre_ReferenceMergeFwdIdeal (m : (ℓ : Loc Cert.ReferenceMergeFwdIdeal.nD Cert.ReferenceMergeFwdIdeal.τ Cert.ReferenceMergeFwdIdeal.sig) → Buf (Elt Ideal) ℓ) : Prop :=
  True

def Pre_KernelPostFwd (m : (ℓ : Loc Cert.KernelPostFwd.nD Cert.KernelPostFwd.τ Cert.KernelPostFwd.sig) → Buf (Elt Bits) ℓ) : Prop :=
  True

def Pre_KernelPostFwdIdeal (m : (ℓ : Loc Cert.KernelPostFwdIdeal.nD Cert.KernelPostFwdIdeal.τ Cert.KernelPostFwdIdeal.sig) → Buf (Elt Ideal) ℓ) : Prop :=
  True

def Pre_ReferencePostFwdIdeal (m : (ℓ : Loc Cert.ReferencePostFwdIdeal.nD Cert.ReferencePostFwdIdeal.τ Cert.ReferencePostFwdIdeal.sig) → Buf (Elt Ideal) ℓ) : Prop :=
  True

def Pre_KernelSilu (m : (ℓ : Loc Cert.KernelSilu.nD Cert.KernelSilu.τ Cert.KernelSilu.sig) → Buf (Elt Bits) ℓ) : Prop :=
  True

def Pre_KernelSiluIdeal (m : (ℓ : Loc Cert.KernelSiluIdeal.nD Cert.KernelSiluIdeal.τ Cert.KernelSiluIdeal.sig) → Buf (Elt Ideal) ℓ) : Prop :=
  True

def Pre_ReferenceSiluIdeal (m : (ℓ : Loc Cert.ReferenceSiluIdeal.nD Cert.ReferenceSiluIdeal.τ Cert.ReferenceSiluIdeal.sig) → Buf (Elt Ideal) ℓ) : Prop :=
  True

def Pre_KernelSiluBwd (m : (ℓ : Loc Cert.KernelSiluBwd.nD Cert.KernelSiluBwd.τ Cert.KernelSiluBwd.sig) → Buf (Elt Bits) ℓ) : Prop :=
  True

def Pre_KernelSiluBwdIdeal (m : (ℓ : Loc Cert.KernelSiluBwdIdeal.nD Cert.KernelSiluBwdIdeal.τ Cert.KernelSiluBwdIdeal.sig) → Buf (Elt Ideal) ℓ) : Prop :=
  True

def Pre_ReferenceSiluBwdIdeal (m : (ℓ : Loc Cert.ReferenceSiluBwdIdeal.nD Cert.ReferenceSiluBwdIdeal.τ Cert.ReferenceSiluBwdIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelAdaX (m : (ℓ : Loc Cert.KernelAdaX.nD Cert.KernelAdaX.τ Cert.KernelAdaX.sig) → Buf (Elt Bits) ℓ) : Prop :=
  True

def Pre_KernelAdaXIdeal (m : (ℓ : Loc Cert.KernelAdaXIdeal.nD Cert.KernelAdaXIdeal.τ Cert.KernelAdaXIdeal.sig) → Buf (Elt Ideal) ℓ) : Prop :=
  True

def Pre_ReferenceAdaXIdeal (m : (ℓ : Loc Cert.ReferenceAdaXIdeal.nD Cert.ReferenceAdaXIdeal.τ Cert.ReferenceAdaXIdeal.sig) → Buf (Elt Ideal) ℓ) : Prop :=
  True

def Pre_KernelRwPost (m : (ℓ : Loc Cert.KernelRwPost.nD Cert.KernelRwPost.τ Cert.KernelRwPost.sig) → Buf (Elt Bits) ℓ) : Prop :=
  True

def Pre_KernelRwPostIdeal (m : (ℓ : Loc Cert.KernelRwPostIdeal.nD Cert.KernelRwPostIdeal.τ Cert.KernelRwPostIdeal.sig) → Buf (Elt Ideal) ℓ) : Prop :=
  True

def Pre_KernelRwPostIdeal_real_keys [hPre_real_keys : Cert.Pre_real_keys.Facts] (m : (ℓ : Loc Cert.KernelRwPostIdeal.nD Cert.KernelRwPostIdeal.τ Cert.KernelRwPostIdeal.sig) → Buf (Elt Ideal) ℓ) : Prop :=
  ∀ c : Dev Cert.KernelRwPostIdeal.nD,
    (Cert.Pre_real_keys.fn (F := Ideal) (m ((c.tc : Thread Cert.KernelRwPostIdeal.nD Cert.KernelRwPostIdeal.τ).loc Cert.KernelRwPostIdeal.main_arg0)) (m ((c.tc : Thread Cert.KernelRwPostIdeal.nD Cert.KernelRwPostIdeal.τ).loc Cert.KernelRwPostIdeal.main_arg1)) (m ((c.tc : Thread Cert.KernelRwPostIdeal.nD Cert.KernelRwPostIdeal.τ).loc Cert.KernelRwPostIdeal.main_arg2)) (m ((c.tc : Thread Cert.KernelRwPostIdeal.nD Cert.KernelRwPostIdeal.τ).loc Cert.KernelRwPostIdeal.main_arg3)) (m ((c.tc : Thread Cert.KernelRwPostIdeal.nD Cert.KernelRwPostIdeal.τ).loc Cert.KernelRwPostIdeal.main_arg4)) (m ((c.tc : Thread Cert.KernelRwPostIdeal.nD Cert.KernelRwPostIdeal.τ).loc Cert.KernelRwPostIdeal.main_arg5)) (m ((c.tc : Thread Cert.KernelRwPostIdeal.nD Cert.KernelRwPostIdeal.τ).loc Cert.KernelRwPostIdeal.main_arg6)) (m ((c.tc : Thread Cert.KernelRwPostIdeal.nD Cert.KernelRwPostIdeal.τ).loc Cert.KernelRwPostIdeal.main_arg7)) (m ((c.tc : Thread Cert.KernelRwPostIdeal.nD Cert.KernelRwPostIdeal.τ).loc Cert.KernelRwPostIdeal.main_arg8)) (m ((c.tc : Thread Cert.KernelRwPostIdeal.nD Cert.KernelRwPostIdeal.τ).loc Cert.KernelRwPostIdeal.main_arg9))) = (fun _ => 1#1)

def Pre_ReferenceRwPostIdeal (m : (ℓ : Loc Cert.ReferenceRwPostIdeal.nD Cert.ReferenceRwPostIdeal.τ Cert.ReferenceRwPostIdeal.sig) → Buf (Elt Ideal) ℓ) : Prop :=
  True

def Pre_ReferenceRwPostIdeal_real_keys [hPre_real_keys : Cert.Pre_real_keys.Facts] (m : (ℓ : Loc Cert.ReferenceRwPostIdeal.nD Cert.ReferenceRwPostIdeal.τ Cert.ReferenceRwPostIdeal.sig) → Buf (Elt Ideal) ℓ) : Prop :=
  ∀ c : Dev Cert.ReferenceRwPostIdeal.nD,
    (Cert.Pre_real_keys.fn (F := Ideal) (m ((c.tc : Thread Cert.ReferenceRwPostIdeal.nD Cert.ReferenceRwPostIdeal.τ).loc Cert.ReferenceRwPostIdeal.main_arg0)) (m ((c.tc : Thread Cert.ReferenceRwPostIdeal.nD Cert.ReferenceRwPostIdeal.τ).loc Cert.ReferenceRwPostIdeal.main_arg1)) (m ((c.tc : Thread Cert.ReferenceRwPostIdeal.nD Cert.ReferenceRwPostIdeal.τ).loc Cert.ReferenceRwPostIdeal.main_arg2)) (m ((c.tc : Thread Cert.ReferenceRwPostIdeal.nD Cert.ReferenceRwPostIdeal.τ).loc Cert.ReferenceRwPostIdeal.main_arg3)) (m ((c.tc : Thread Cert.ReferenceRwPostIdeal.nD Cert.ReferenceRwPostIdeal.τ).loc Cert.ReferenceRwPostIdeal.main_arg4)) (m ((c.tc : Thread Cert.ReferenceRwPostIdeal.nD Cert.ReferenceRwPostIdeal.τ).loc Cert.ReferenceRwPostIdeal.main_arg5)) (m ((c.tc : Thread Cert.ReferenceRwPostIdeal.nD Cert.ReferenceRwPostIdeal.τ).loc Cert.ReferenceRwPostIdeal.main_arg6)) (m ((c.tc : Thread Cert.ReferenceRwPostIdeal.nD Cert.ReferenceRwPostIdeal.τ).loc Cert.ReferenceRwPostIdeal.main_arg7)) (m ((c.tc : Thread Cert.ReferenceRwPostIdeal.nD Cert.ReferenceRwPostIdeal.τ).loc Cert.ReferenceRwPostIdeal.main_arg8)) (m ((c.tc : Thread Cert.ReferenceRwPostIdeal.nD Cert.ReferenceRwPostIdeal.τ).loc Cert.ReferenceRwPostIdeal.main_arg9))) = (fun _ => 1#1)

def Pre_KernelShift (m : (ℓ : Loc Cert.KernelShift.nD Cert.KernelShift.τ Cert.KernelShift.sig) → Buf (Elt Bits) ℓ) : Prop :=
  True

def Pre_KernelShiftIdeal (m : (ℓ : Loc Cert.KernelShiftIdeal.nD Cert.KernelShiftIdeal.τ Cert.KernelShiftIdeal.sig) → Buf (Elt Ideal) ℓ) : Prop :=
  True

def Pre_ReferenceShiftIdeal (m : (ℓ : Loc Cert.ReferenceShiftIdeal.nD Cert.ReferenceShiftIdeal.τ Cert.ReferenceShiftIdeal.sig) → Buf (Elt Ideal) ℓ) : Prop :=
  True

def Pre_KernelShiftBwd (m : (ℓ : Loc Cert.KernelShiftBwd.nD Cert.KernelShiftBwd.τ Cert.KernelShiftBwd.sig) → Buf (Elt Bits) ℓ) : Prop :=
  True

def Pre_KernelShiftBwdIdeal (m : (ℓ : Loc Cert.KernelShiftBwdIdeal.nD Cert.KernelShiftBwdIdeal.τ Cert.KernelShiftBwdIdeal.sig) → Buf (Elt Ideal) ℓ) : Prop :=
  True

def Pre_KernelShiftBwdIdeal_real_shift [hPre_real_shift : Cert.Pre_real_shift.Facts] (m : (ℓ : Loc Cert.KernelShiftBwdIdeal.nD Cert.KernelShiftBwdIdeal.τ Cert.KernelShiftBwdIdeal.sig) → Buf (Elt Ideal) ℓ) : Prop :=
  ∀ c : Dev Cert.KernelShiftBwdIdeal.nD,
    (Cert.Pre_real_shift.fn (F := Ideal) (m ((c.tc : Thread Cert.KernelShiftBwdIdeal.nD Cert.KernelShiftBwdIdeal.τ).loc Cert.KernelShiftBwdIdeal.main_arg0)) (m ((c.tc : Thread Cert.KernelShiftBwdIdeal.nD Cert.KernelShiftBwdIdeal.τ).loc Cert.KernelShiftBwdIdeal.main_arg1)) (m ((c.tc : Thread Cert.KernelShiftBwdIdeal.nD Cert.KernelShiftBwdIdeal.τ).loc Cert.KernelShiftBwdIdeal.main_arg2)) (m ((c.tc : Thread Cert.KernelShiftBwdIdeal.nD Cert.KernelShiftBwdIdeal.τ).loc Cert.KernelShiftBwdIdeal.main_arg3)) (m ((c.tc : Thread Cert.KernelShiftBwdIdeal.nD Cert.KernelShiftBwdIdeal.τ).loc Cert.KernelShiftBwdIdeal.main_arg4))) = (fun _ => 1#1)

def Pre_ReferenceShiftBwdIdeal (m : (ℓ : Loc Cert.ReferenceShiftBwdIdeal.nD Cert.ReferenceShiftBwdIdeal.τ Cert.ReferenceShiftBwdIdeal.sig) → Buf (Elt Ideal) ℓ) : Prop :=
  True

def Pre_ReferenceShiftBwdIdeal_real_shift [hPre_real_shift : Cert.Pre_real_shift.Facts] (m : (ℓ : Loc Cert.ReferenceShiftBwdIdeal.nD Cert.ReferenceShiftBwdIdeal.τ Cert.ReferenceShiftBwdIdeal.sig) → Buf (Elt Ideal) ℓ) : Prop :=
  ∀ c : Dev Cert.ReferenceShiftBwdIdeal.nD,
    (Cert.Pre_real_shift.fn (F := Ideal) (m ((c.tc : Thread Cert.ReferenceShiftBwdIdeal.nD Cert.ReferenceShiftBwdIdeal.τ).loc Cert.ReferenceShiftBwdIdeal.main_arg0)) (m ((c.tc : Thread Cert.ReferenceShiftBwdIdeal.nD Cert.ReferenceShiftBwdIdeal.τ).loc Cert.ReferenceShiftBwdIdeal.main_arg1)) (m ((c.tc : Thread Cert.ReferenceShiftBwdIdeal.nD Cert.ReferenceShiftBwdIdeal.τ).loc Cert.ReferenceShiftBwdIdeal.main_arg2)) (m ((c.tc : Thread Cert.ReferenceShiftBwdIdeal.nD Cert.ReferenceShiftBwdIdeal.τ).loc Cert.ReferenceShiftBwdIdeal.main_arg3)) (m ((c.tc : Thread Cert.ReferenceShiftBwdIdeal.nD Cert.ReferenceShiftBwdIdeal.τ).loc Cert.ReferenceShiftBwdIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_real_bounds [hKernelIdeal : Cert.KernelIdeal.Facts] [hPre_real_bounds : Cert.Pre_real_bounds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_bounds m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_real_bounds [hReferenceIdeal : Cert.ReferenceIdeal.Facts] [hPre_real_bounds : Cert.Pre_real_bounds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_bounds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelInW [hKernelInW : Cert.KernelInW.Facts] : Prop :=
  ∀ (m : (ℓ : Loc Cert.KernelInW.nD Cert.KernelInW.τ Cert.KernelInW.sig) → Buf (Elt Bits) ℓ) (g : Dev Cert.KernelInW.nD → PrngReg), Pre_KernelInW m →
    θ_run (Cert.KernelInW.defs (F := Bits)) (onTc (τ := Cert.KernelInW.τ) (Cert.KernelInW.main (F := Bits))) ⟨m, fun _ => 0, g⟩ (fun r => (∀ c : Dev Cert.KernelInW.nD,
      r.2.mem ((c.tc : Thread Cert.KernelInW.nD Cert.KernelInW.τ).loc Cert.KernelInW.main_arg0) = m ((c.tc : Thread Cert.KernelInW.nD Cert.KernelInW.τ).loc Cert.KernelInW.main_arg0)
      ∧ r.2.mem ((c.tc : Thread Cert.KernelInW.nD Cert.KernelInW.τ).loc Cert.KernelInW.main_arg1) = m ((c.tc : Thread Cert.KernelInW.nD Cert.KernelInW.τ).loc Cert.KernelInW.main_arg1))
      ∧ r.2.sem = fun _ => 0)

def quiescent_KernelInWIdeal [hKernelInWIdeal : Cert.KernelInWIdeal.Facts] : Prop :=
  ∀ (m : (ℓ : Loc Cert.KernelInWIdeal.nD Cert.KernelInWIdeal.τ Cert.KernelInWIdeal.sig) → Buf (Elt Ideal) ℓ) (g : Dev Cert.KernelInWIdeal.nD → PrngReg), Pre_KernelInWIdeal m →
    θ_run (Cert.KernelInWIdeal.defs (F := Ideal)) (onTc (τ := Cert.KernelInWIdeal.τ) (Cert.KernelInWIdeal.main (F := Ideal))) ⟨m, fun _ => 0, g⟩ (fun r => (∀ c : Dev Cert.KernelInWIdeal.nD,
      r.2.mem ((c.tc : Thread Cert.KernelInWIdeal.nD Cert.KernelInWIdeal.τ).loc Cert.KernelInWIdeal.main_arg0) = m ((c.tc : Thread Cert.KernelInWIdeal.nD Cert.KernelInWIdeal.τ).loc Cert.KernelInWIdeal.main_arg0)
      ∧ r.2.mem ((c.tc : Thread Cert.KernelInWIdeal.nD Cert.KernelInWIdeal.τ).loc Cert.KernelInWIdeal.main_arg1) = m ((c.tc : Thread Cert.KernelInWIdeal.nD Cert.KernelInWIdeal.τ).loc Cert.KernelInWIdeal.main_arg1))
      ∧ r.2.sem = fun _ => 0)

def quiescent_ReferenceInWIdeal [hReferenceInWIdeal : Cert.ReferenceInWIdeal.Facts] : Prop :=
  ∀ (m : (ℓ : Loc Cert.ReferenceInWIdeal.nD Cert.ReferenceInWIdeal.τ Cert.ReferenceInWIdeal.sig) → Buf (Elt Ideal) ℓ) (g : Dev Cert.ReferenceInWIdeal.nD → PrngReg), Pre_ReferenceInWIdeal m →
    θ_run (Cert.ReferenceInWIdeal.defs (F := Ideal)) (onTc (τ := Cert.ReferenceInWIdeal.τ) (Cert.ReferenceInWIdeal.main (F := Ideal))) ⟨m, fun _ => 0, g⟩ (fun r => (∀ c : Dev Cert.ReferenceInWIdeal.nD,
      r.2.mem ((c.tc : Thread Cert.ReferenceInWIdeal.nD Cert.ReferenceInWIdeal.τ).loc Cert.ReferenceInWIdeal.main_arg0) = m ((c.tc : Thread Cert.ReferenceInWIdeal.nD Cert.ReferenceInWIdeal.τ).loc Cert.ReferenceInWIdeal.main_arg0)
      ∧ r.2.mem ((c.tc : Thread Cert.ReferenceInWIdeal.nD Cert.ReferenceInWIdeal.τ).loc Cert.ReferenceInWIdeal.main_arg1) = m ((c.tc : Thread Cert.ReferenceInWIdeal.nD Cert.ReferenceInWIdeal.τ).loc Cert.ReferenceInWIdeal.main_arg1))
      ∧ r.2.sem = fun _ => 0)

def quiescent_KernelInX [hKernelInX : Cert.KernelInX.Facts] : Prop :=
  ∀ (m : (ℓ : Loc Cert.KernelInX.nD Cert.KernelInX.τ Cert.KernelInX.sig) → Buf (Elt Bits) ℓ) (g : Dev Cert.KernelInX.nD → PrngReg), Pre_KernelInX m →
    θ_run (Cert.KernelInX.defs (F := Bits)) (onTc (τ := Cert.KernelInX.τ) (Cert.KernelInX.main (F := Bits))) ⟨m, fun _ => 0, g⟩ (fun r => (∀ c : Dev Cert.KernelInX.nD,
      r.2.mem ((c.tc : Thread Cert.KernelInX.nD Cert.KernelInX.τ).loc Cert.KernelInX.main_arg0) = m ((c.tc : Thread Cert.KernelInX.nD Cert.KernelInX.τ).loc Cert.KernelInX.main_arg0)
      ∧ r.2.mem ((c.tc : Thread Cert.KernelInX.nD Cert.KernelInX.τ).loc Cert.KernelInX.main_arg1) = m ((c.tc : Thread Cert.KernelInX.nD Cert.KernelInX.τ).loc Cert.KernelInX.main_arg1))
      ∧ r.2.sem = fun _ => 0)

def quiescent_KernelInXIdeal [hKernelInXIdeal : Cert.KernelInXIdeal.Facts] : Prop :=
  ∀ (m : (ℓ : Loc Cert.KernelInXIdeal.nD Cert.KernelInXIdeal.τ Cert.KernelInXIdeal.sig) → Buf (Elt Ideal) ℓ) (g : Dev Cert.KernelInXIdeal.nD → PrngReg), Pre_KernelInXIdeal m →
    θ_run (Cert.KernelInXIdeal.defs (F := Ideal)) (onTc (τ := Cert.KernelInXIdeal.τ) (Cert.KernelInXIdeal.main (F := Ideal))) ⟨m, fun _ => 0, g⟩ (fun r => (∀ c : Dev Cert.KernelInXIdeal.nD,
      r.2.mem ((c.tc : Thread Cert.KernelInXIdeal.nD Cert.KernelInXIdeal.τ).loc Cert.KernelInXIdeal.main_arg0) = m ((c.tc : Thread Cert.KernelInXIdeal.nD Cert.KernelInXIdeal.τ).loc Cert.KernelInXIdeal.main_arg0)
      ∧ r.2.mem ((c.tc : Thread Cert.KernelInXIdeal.nD Cert.KernelInXIdeal.τ).loc Cert.KernelInXIdeal.main_arg1) = m ((c.tc : Thread Cert.KernelInXIdeal.nD Cert.KernelInXIdeal.τ).loc Cert.KernelInXIdeal.main_arg1))
      ∧ r.2.sem = fun _ => 0)

def quiescent_ReferenceInXIdeal [hReferenceInXIdeal : Cert.ReferenceInXIdeal.Facts] : Prop :=
  ∀ (m : (ℓ : Loc Cert.ReferenceInXIdeal.nD Cert.ReferenceInXIdeal.τ Cert.ReferenceInXIdeal.sig) → Buf (Elt Ideal) ℓ) (g : Dev Cert.ReferenceInXIdeal.nD → PrngReg), Pre_ReferenceInXIdeal m →
    θ_run (Cert.ReferenceInXIdeal.defs (F := Ideal)) (onTc (τ := Cert.ReferenceInXIdeal.τ) (Cert.ReferenceInXIdeal.main (F := Ideal))) ⟨m, fun _ => 0, g⟩ (fun r => (∀ c : Dev Cert.ReferenceInXIdeal.nD,
      r.2.mem ((c.tc : Thread Cert.ReferenceInXIdeal.nD Cert.ReferenceInXIdeal.τ).loc Cert.ReferenceInXIdeal.main_arg0) = m ((c.tc : Thread Cert.ReferenceInXIdeal.nD Cert.ReferenceInXIdeal.τ).loc Cert.ReferenceInXIdeal.main_arg0)
      ∧ r.2.mem ((c.tc : Thread Cert.ReferenceInXIdeal.nD Cert.ReferenceInXIdeal.τ).loc Cert.ReferenceInXIdeal.main_arg1) = m ((c.tc : Thread Cert.ReferenceInXIdeal.nD Cert.ReferenceInXIdeal.τ).loc Cert.ReferenceInXIdeal.main_arg1))
      ∧ r.2.sem = fun _ => 0)

def quiescent_KernelBranch [hKernelBranch : Cert.KernelBranch.Facts] : Prop :=
  ∀ (m : (ℓ : Loc Cert.KernelBranch.nD Cert.KernelBranch.τ Cert.KernelBranch.sig) → Buf (Elt Bits) ℓ) (g : Dev Cert.KernelBranch.nD → PrngReg), Pre_KernelBranch m →
    θ_run (Cert.KernelBranch.defs (F := Bits)) (onTc (τ := Cert.KernelBranch.τ) (Cert.KernelBranch.main (F := Bits))) ⟨m, fun _ => 0, g⟩ (fun r => (∀ c : Dev Cert.KernelBranch.nD,
      r.2.mem ((c.tc : Thread Cert.KernelBranch.nD Cert.KernelBranch.τ).loc Cert.KernelBranch.main_arg0) = m ((c.tc : Thread Cert.KernelBranch.nD Cert.KernelBranch.τ).loc Cert.KernelBranch.main_arg0)
      ∧ r.2.mem ((c.tc : Thread Cert.KernelBranch.nD Cert.KernelBranch.τ).loc Cert.KernelBranch.main_arg1) = m ((c.tc : Thread Cert.KernelBranch.nD Cert.KernelBranch.τ).loc Cert.KernelBranch.main_arg1))
      ∧ r.2.sem = fun _ => 0)

def quiescent_KernelBranchIdeal [hKernelBranchIdeal : Cert.KernelBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg), Pre_KernelBranchIdeal m →
    θ_run (Cert.KernelBranchIdeal.defs (F := Ideal)) (onTc (τ := Cert.KernelBranchIdeal.τ) (Cert.KernelBranchIdeal.main (F := Ideal))) ⟨m, fun _ => 0, g⟩ (fun r => (∀ c : Dev Cert.KernelBranchIdeal.nD,
      r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
      ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ r.2.sem = fun _ => 0)

def quiescent_ReferenceBranchIdeal [hReferenceBranchIdeal : Cert.ReferenceBranchIdeal.Facts] : Prop :=
  ∀ (m : (ℓ : Loc Cert.ReferenceBranchIdeal.nD Cert.ReferenceBranchIdeal.τ Cert.ReferenceBranchIdeal.sig) → Buf (Elt Ideal) ℓ) (g : Dev Cert.ReferenceBranchIdeal.nD → PrngReg), Pre_ReferenceBranchIdeal m →
    θ_run (Cert.ReferenceBranchIdeal.defs (F := Ideal)) (onTc (τ := Cert.ReferenceBranchIdeal.τ) (Cert.ReferenceBranchIdeal.main (F := Ideal))) ⟨m, fun _ => 0, g⟩ (fun r => (∀ c : Dev Cert.ReferenceBranchIdeal.nD,
      r.2.mem ((c.tc : Thread Cert.ReferenceBranchIdeal.nD Cert.ReferenceBranchIdeal.τ).loc Cert.ReferenceBranchIdeal.main_arg0) = m ((c.tc : Thread Cert.ReferenceBranchIdeal.nD Cert.ReferenceBranchIdeal.τ).loc Cert.ReferenceBranchIdeal.main_arg0)
      ∧ r.2.mem ((c.tc : Thread Cert.ReferenceBranchIdeal.nD Cert.ReferenceBranchIdeal.τ).loc Cert.ReferenceBranchIdeal.main_arg1) = m ((c.tc : Thread Cert.ReferenceBranchIdeal.nD Cert.ReferenceBranchIdeal.τ).loc Cert.ReferenceBranchIdeal.main_arg1))
      ∧ r.2.sem = fun _ => 0)

def quiescent_KernelBranchW [hKernelBranchW : Cert.KernelBranchW.Facts] : Prop :=
  ∀ (m : (ℓ : Loc Cert.KernelBranchW.nD Cert.KernelBranchW.τ Cert.KernelBranchW.sig) → Buf (Elt Bits) ℓ) (g : Dev Cert.KernelBranchW.nD → PrngReg), Pre_KernelBranchW m →
    θ_run (Cert.KernelBranchW.defs (F := Bits)) (onTc (τ := Cert.KernelBranchW.τ) (Cert.KernelBranchW.main (F := Bits))) ⟨m, fun _ => 0, g⟩ (fun r => (∀ c : Dev Cert.KernelBranchW.nD,
      r.2.mem ((c.tc : Thread Cert.KernelBranchW.nD Cert.KernelBranchW.τ).loc Cert.KernelBranchW.main_arg0) = m ((c.tc : Thread Cert.KernelBranchW.nD Cert.KernelBranchW.τ).loc Cert.KernelBranchW.main_arg0)
      ∧ r.2.mem ((c.tc : Thread Cert.KernelBranchW.nD Cert.KernelBranchW.τ).loc Cert.KernelBranchW.main_arg1) = m ((c.tc : Thread Cert.KernelBranchW.nD Cert.KernelBranchW.τ).loc Cert.KernelBranchW.main_arg1))
      ∧ r.2.sem = fun _ => 0)

def quiescent_KernelBranchWIdeal [hKernelBranchWIdeal : Cert.KernelBranchWIdeal.Facts] : Prop :=
  ∀ (m : (ℓ : Loc Cert.KernelBranchWIdeal.nD Cert.KernelBranchWIdeal.τ Cert.KernelBranchWIdeal.sig) → Buf (Elt Ideal) ℓ) (g : Dev Cert.KernelBranchWIdeal.nD → PrngReg), Pre_KernelBranchWIdeal m →
    θ_run (Cert.KernelBranchWIdeal.defs (F := Ideal)) (onTc (τ := Cert.KernelBranchWIdeal.τ) (Cert.KernelBranchWIdeal.main (F := Ideal))) ⟨m, fun _ => 0, g⟩ (fun r => (∀ c : Dev Cert.KernelBranchWIdeal.nD,
      r.2.mem ((c.tc : Thread Cert.KernelBranchWIdeal.nD Cert.KernelBranchWIdeal.τ).loc Cert.KernelBranchWIdeal.main_arg0) = m ((c.tc : Thread Cert.KernelBranchWIdeal.nD Cert.KernelBranchWIdeal.τ).loc Cert.KernelBranchWIdeal.main_arg0)
      ∧ r.2.mem ((c.tc : Thread Cert.KernelBranchWIdeal.nD Cert.KernelBranchWIdeal.τ).loc Cert.KernelBranchWIdeal.main_arg1) = m ((c.tc : Thread Cert.KernelBranchWIdeal.nD Cert.KernelBranchWIdeal.τ).loc Cert.KernelBranchWIdeal.main_arg1))
      ∧ r.2.sem = fun _ => 0)

def quiescent_ReferenceBranchWIdeal [hReferenceBranchWIdeal : Cert.ReferenceBranchWIdeal.Facts] : Prop :=
  ∀ (m : (ℓ : Loc Cert.ReferenceBranchWIdeal.nD Cert.ReferenceBranchWIdeal.τ Cert.ReferenceBranchWIdeal.sig) → Buf (Elt Ideal) ℓ) (g : Dev Cert.ReferenceBranchWIdeal.nD → PrngReg), Pre_ReferenceBranchWIdeal m →
    θ_run (Cert.ReferenceBranchWIdeal.defs (F := Ideal)) (onTc (τ := Cert.ReferenceBranchWIdeal.τ) (Cert.ReferenceBranchWIdeal.main (F := Ideal))) ⟨m, fun _ => 0, g⟩ (fun r => (∀ c : Dev Cert.ReferenceBranchWIdeal.nD,
      r.2.mem ((c.tc : Thread Cert.ReferenceBranchWIdeal.nD Cert.ReferenceBranchWIdeal.τ).loc Cert.ReferenceBranchWIdeal.main_arg0) = m ((c.tc : Thread Cert.ReferenceBranchWIdeal.nD Cert.ReferenceBranchWIdeal.τ).loc Cert.ReferenceBranchWIdeal.main_arg0)
      ∧ r.2.mem ((c.tc : Thread Cert.ReferenceBranchWIdeal.nD Cert.ReferenceBranchWIdeal.τ).loc Cert.ReferenceBranchWIdeal.main_arg1) = m ((c.tc : Thread Cert.ReferenceBranchWIdeal.nD Cert.ReferenceBranchWIdeal.τ).loc Cert.ReferenceBranchWIdeal.main_arg1))
      ∧ r.2.sem = fun _ => 0)

def quiescent_KernelBranchX [hKernelBranchX : Cert.KernelBranchX.Facts] : Prop :=
  ∀ (m : (ℓ : Loc Cert.KernelBranchX.nD Cert.KernelBranchX.τ Cert.KernelBranchX.sig) → Buf (Elt Bits) ℓ) (g : Dev Cert.KernelBranchX.nD → PrngReg), Pre_KernelBranchX m →
    θ_run (Cert.KernelBranchX.defs (F := Bits)) (onTc (τ := Cert.KernelBranchX.τ) (Cert.KernelBranchX.main (F := Bits))) ⟨m, fun _ => 0, g⟩ (fun r => (∀ c : Dev Cert.KernelBranchX.nD,
      r.2.mem ((c.tc : Thread Cert.KernelBranchX.nD Cert.KernelBranchX.τ).loc Cert.KernelBranchX.main_arg0) = m ((c.tc : Thread Cert.KernelBranchX.nD Cert.KernelBranchX.τ).loc Cert.KernelBranchX.main_arg0)
      ∧ r.2.mem ((c.tc : Thread Cert.KernelBranchX.nD Cert.KernelBranchX.τ).loc Cert.KernelBranchX.main_arg1) = m ((c.tc : Thread Cert.KernelBranchX.nD Cert.KernelBranchX.τ).loc Cert.KernelBranchX.main_arg1))
      ∧ r.2.sem = fun _ => 0)

def quiescent_KernelBranchXIdeal [hKernelBranchXIdeal : Cert.KernelBranchXIdeal.Facts] : Prop :=
  ∀ (m : (ℓ : Loc Cert.KernelBranchXIdeal.nD Cert.KernelBranchXIdeal.τ Cert.KernelBranchXIdeal.sig) → Buf (Elt Ideal) ℓ) (g : Dev Cert.KernelBranchXIdeal.nD → PrngReg), Pre_KernelBranchXIdeal m →
    θ_run (Cert.KernelBranchXIdeal.defs (F := Ideal)) (onTc (τ := Cert.KernelBranchXIdeal.τ) (Cert.KernelBranchXIdeal.main (F := Ideal))) ⟨m, fun _ => 0, g⟩ (fun r => (∀ c : Dev Cert.KernelBranchXIdeal.nD,
      r.2.mem ((c.tc : Thread Cert.KernelBranchXIdeal.nD Cert.KernelBranchXIdeal.τ).loc Cert.KernelBranchXIdeal.main_arg0) = m ((c.tc : Thread Cert.KernelBranchXIdeal.nD Cert.KernelBranchXIdeal.τ).loc Cert.KernelBranchXIdeal.main_arg0)
      ∧ r.2.mem ((c.tc : Thread Cert.KernelBranchXIdeal.nD Cert.KernelBranchXIdeal.τ).loc Cert.KernelBranchXIdeal.main_arg1) = m ((c.tc : Thread Cert.KernelBranchXIdeal.nD Cert.KernelBranchXIdeal.τ).loc Cert.KernelBranchXIdeal.main_arg1))
      ∧ r.2.sem = fun _ => 0)

def quiescent_ReferenceBranchXIdeal [hReferenceBranchXIdeal : Cert.ReferenceBranchXIdeal.Facts] : Prop :=
  ∀ (m : (ℓ : Loc Cert.ReferenceBranchXIdeal.nD Cert.ReferenceBranchXIdeal.τ Cert.ReferenceBranchXIdeal.sig) → Buf (Elt Ideal) ℓ) (g : Dev Cert.ReferenceBranchXIdeal.nD → PrngReg), Pre_ReferenceBranchXIdeal m →
    θ_run (Cert.ReferenceBranchXIdeal.defs (F := Ideal)) (onTc (τ := Cert.ReferenceBranchXIdeal.τ) (Cert.ReferenceBranchXIdeal.main (F := Ideal))) ⟨m, fun _ => 0, g⟩ (fun r => (∀ c : Dev Cert.ReferenceBranchXIdeal.nD,
      r.2.mem ((c.tc : Thread Cert.ReferenceBranchXIdeal.nD Cert.ReferenceBranchXIdeal.τ).loc Cert.ReferenceBranchXIdeal.main_arg0) = m ((c.tc : Thread Cert.ReferenceBranchXIdeal.nD Cert.ReferenceBranchXIdeal.τ).loc Cert.ReferenceBranchXIdeal.main_arg0)
      ∧ r.2.mem ((c.tc : Thread Cert.ReferenceBranchXIdeal.nD Cert.ReferenceBranchXIdeal.τ).loc Cert.ReferenceBranchXIdeal.main_arg1) = m ((c.tc : Thread Cert.ReferenceBranchXIdeal.nD Cert.ReferenceBranchXIdeal.τ).loc Cert.ReferenceBranchXIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelOutW [hKernelOutW : Cert.KernelOutW.Facts] : Prop :=
  ∀ (m : (ℓ : Loc Cert.KernelOutW.nD Cert.KernelOutW.τ Cert.KernelOutW.sig) → Buf (Elt Bits) ℓ) (g : Dev Cert.KernelOutW.nD → PrngReg), Pre_KernelOutW m →
    θ_run (Cert.KernelOutW.defs (F := Bits)) (onTc (τ := Cert.KernelOutW.τ) (Cert.KernelOutW.main (F := Bits))) ⟨m, fun _ => 0, g⟩ (fun r => (∀ c : Dev Cert.KernelOutW.nD,
      r.2.mem ((c.tc : Thread Cert.KernelOutW.nD Cert.KernelOutW.τ).loc Cert.KernelOutW.main_arg0) = m ((c.tc : Thread Cert.KernelOutW.nD Cert.KernelOutW.τ).loc Cert.KernelOutW.main_arg0)
      ∧ r.2.mem ((c.tc : Thread Cert.KernelOutW.nD Cert.KernelOutW.τ).loc Cert.KernelOutW.main_arg1) = m ((c.tc : Thread Cert.KernelOutW.nD Cert.KernelOutW.τ).loc Cert.KernelOutW.main_arg1))
      ∧ r.2.sem = fun _ => 0)

def quiescent_KernelOutWIdeal [hKernelOutWIdeal : Cert.KernelOutWIdeal.Facts] : Prop :=
  ∀ (m : (ℓ : Loc Cert.KernelOutWIdeal.nD Cert.KernelOutWIdeal.τ Cert.KernelOutWIdeal.sig) → Buf (Elt Ideal) ℓ) (g : Dev Cert.KernelOutWIdeal.nD → PrngReg), Pre_KernelOutWIdeal m →
    θ_run (Cert.KernelOutWIdeal.defs (F := Ideal)) (onTc (τ := Cert.KernelOutWIdeal.τ) (Cert.KernelOutWIdeal.main (F := Ideal))) ⟨m, fun _ => 0, g⟩ (fun r => (∀ c : Dev Cert.KernelOutWIdeal.nD,
      r.2.mem ((c.tc : Thread Cert.KernelOutWIdeal.nD Cert.KernelOutWIdeal.τ).loc Cert.KernelOutWIdeal.main_arg0) = m ((c.tc : Thread Cert.KernelOutWIdeal.nD Cert.KernelOutWIdeal.τ).loc Cert.KernelOutWIdeal.main_arg0)
      ∧ r.2.mem ((c.tc : Thread Cert.KernelOutWIdeal.nD Cert.KernelOutWIdeal.τ).loc Cert.KernelOutWIdeal.main_arg1) = m ((c.tc : Thread Cert.KernelOutWIdeal.nD Cert.KernelOutWIdeal.τ).loc Cert.KernelOutWIdeal.main_arg1))
      ∧ r.2.sem = fun _ => 0)

def quiescent_ReferenceOutWIdeal [hReferenceOutWIdeal : Cert.ReferenceOutWIdeal.Facts] : Prop :=
  ∀ (m : (ℓ : Loc Cert.ReferenceOutWIdeal.nD Cert.ReferenceOutWIdeal.τ Cert.ReferenceOutWIdeal.sig) → Buf (Elt Ideal) ℓ) (g : Dev Cert.ReferenceOutWIdeal.nD → PrngReg), Pre_ReferenceOutWIdeal m →
    θ_run (Cert.ReferenceOutWIdeal.defs (F := Ideal)) (onTc (τ := Cert.ReferenceOutWIdeal.τ) (Cert.ReferenceOutWIdeal.main (F := Ideal))) ⟨m, fun _ => 0, g⟩ (fun r => (∀ c : Dev Cert.ReferenceOutWIdeal.nD,
      r.2.mem ((c.tc : Thread Cert.ReferenceOutWIdeal.nD Cert.ReferenceOutWIdeal.τ).loc Cert.ReferenceOutWIdeal.main_arg0) = m ((c.tc : Thread Cert.ReferenceOutWIdeal.nD Cert.ReferenceOutWIdeal.τ).loc Cert.ReferenceOutWIdeal.main_arg0)
      ∧ r.2.mem ((c.tc : Thread Cert.ReferenceOutWIdeal.nD Cert.ReferenceOutWIdeal.τ).loc Cert.ReferenceOutWIdeal.main_arg1) = m ((c.tc : Thread Cert.ReferenceOutWIdeal.nD Cert.ReferenceOutWIdeal.τ).loc Cert.ReferenceOutWIdeal.main_arg1))
      ∧ r.2.sem = fun _ => 0)

def quiescent_KernelOutX [hKernelOutX : Cert.KernelOutX.Facts] : Prop :=
  ∀ (m : (ℓ : Loc Cert.KernelOutX.nD Cert.KernelOutX.τ Cert.KernelOutX.sig) → Buf (Elt Bits) ℓ) (g : Dev Cert.KernelOutX.nD → PrngReg), Pre_KernelOutX m →
    θ_run (Cert.KernelOutX.defs (F := Bits)) (onTc (τ := Cert.KernelOutX.τ) (Cert.KernelOutX.main (F := Bits))) ⟨m, fun _ => 0, g⟩ (fun r => (∀ c : Dev Cert.KernelOutX.nD,
      r.2.mem ((c.tc : Thread Cert.KernelOutX.nD Cert.KernelOutX.τ).loc Cert.KernelOutX.main_arg0) = m ((c.tc : Thread Cert.KernelOutX.nD Cert.KernelOutX.τ).loc Cert.KernelOutX.main_arg0)
      ∧ r.2.mem ((c.tc : Thread Cert.KernelOutX.nD Cert.KernelOutX.τ).loc Cert.KernelOutX.main_arg1) = m ((c.tc : Thread Cert.KernelOutX.nD Cert.KernelOutX.τ).loc Cert.KernelOutX.main_arg1))
      ∧ r.2.sem = fun _ => 0)

def quiescent_KernelOutXIdeal [hKernelOutXIdeal : Cert.KernelOutXIdeal.Facts] : Prop :=
  ∀ (m : (ℓ : Loc Cert.KernelOutXIdeal.nD Cert.KernelOutXIdeal.τ Cert.KernelOutXIdeal.sig) → Buf (Elt Ideal) ℓ) (g : Dev Cert.KernelOutXIdeal.nD → PrngReg), Pre_KernelOutXIdeal m →
    θ_run (Cert.KernelOutXIdeal.defs (F := Ideal)) (onTc (τ := Cert.KernelOutXIdeal.τ) (Cert.KernelOutXIdeal.main (F := Ideal))) ⟨m, fun _ => 0, g⟩ (fun r => (∀ c : Dev Cert.KernelOutXIdeal.nD,
      r.2.mem ((c.tc : Thread Cert.KernelOutXIdeal.nD Cert.KernelOutXIdeal.τ).loc Cert.KernelOutXIdeal.main_arg0) = m ((c.tc : Thread Cert.KernelOutXIdeal.nD Cert.KernelOutXIdeal.τ).loc Cert.KernelOutXIdeal.main_arg0)
      ∧ r.2.mem ((c.tc : Thread Cert.KernelOutXIdeal.nD Cert.KernelOutXIdeal.τ).loc Cert.KernelOutXIdeal.main_arg1) = m ((c.tc : Thread Cert.KernelOutXIdeal.nD Cert.KernelOutXIdeal.τ).loc Cert.KernelOutXIdeal.main_arg1))
      ∧ r.2.sem = fun _ => 0)

def quiescent_ReferenceOutXIdeal [hReferenceOutXIdeal : Cert.ReferenceOutXIdeal.Facts] : Prop :=
  ∀ (m : (ℓ : Loc Cert.ReferenceOutXIdeal.nD Cert.ReferenceOutXIdeal.τ Cert.ReferenceOutXIdeal.sig) → Buf (Elt Ideal) ℓ) (g : Dev Cert.ReferenceOutXIdeal.nD → PrngReg), Pre_ReferenceOutXIdeal m →
    θ_run (Cert.ReferenceOutXIdeal.defs (F := Ideal)) (onTc (τ := Cert.ReferenceOutXIdeal.τ) (Cert.ReferenceOutXIdeal.main (F := Ideal))) ⟨m, fun _ => 0, g⟩ (fun r => (∀ c : Dev Cert.ReferenceOutXIdeal.nD,
      r.2.mem ((c.tc : Thread Cert.ReferenceOutXIdeal.nD Cert.ReferenceOutXIdeal.τ).loc Cert.ReferenceOutXIdeal.main_arg0) = m ((c.tc : Thread Cert.ReferenceOutXIdeal.nD Cert.ReferenceOutXIdeal.τ).loc Cert.ReferenceOutXIdeal.main_arg0)
      ∧ r.2.mem ((c.tc : Thread Cert.ReferenceOutXIdeal.nD Cert.ReferenceOutXIdeal.τ).loc Cert.ReferenceOutXIdeal.main_arg1) = m ((c.tc : Thread Cert.ReferenceOutXIdeal.nD Cert.ReferenceOutXIdeal.τ).loc Cert.ReferenceOutXIdeal.main_arg1))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1)
      ∧ r.2.mem ((c.tc : Thread Cert.KernelH.nD Cert.KernelH.τ).loc Cert.KernelH.main_arg2) = m ((c.tc : Thread Cert.KernelH.nD Cert.KernelH.τ).loc Cert.KernelH.main_arg2)
      ∧ r.2.mem ((c.tc : Thread Cert.KernelH.nD Cert.KernelH.τ).loc Cert.KernelH.main_arg3) = m ((c.tc : Thread Cert.KernelH.nD Cert.KernelH.τ).loc Cert.KernelH.main_arg3)
      ∧ r.2.mem ((c.tc : Thread Cert.KernelH.nD Cert.KernelH.τ).loc Cert.KernelH.main_arg4) = m ((c.tc : Thread Cert.KernelH.nD Cert.KernelH.τ).loc Cert.KernelH.main_arg4)
      ∧ r.2.mem ((c.tc : Thread Cert.KernelH.nD Cert.KernelH.τ).loc Cert.KernelH.main_arg5) = m ((c.tc : Thread Cert.KernelH.nD Cert.KernelH.τ).loc Cert.KernelH.main_arg5))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
      ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
      ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
      ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4)
      ∧ r.2.mem ((c.tc : Thread Cert.KernelHIdeal.nD Cert.KernelHIdeal.τ).loc Cert.KernelHIdeal.main_arg5) = m ((c.tc : Thread Cert.KernelHIdeal.nD Cert.KernelHIdeal.τ).loc Cert.KernelHIdeal.main_arg5))
      ∧ r.2.sem = fun _ => 0)

def quiescent_ReferenceHIdeal [hReferenceHIdeal : Cert.ReferenceHIdeal.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1)
      ∧ r.2.mem ((c.tc : Thread Cert.ReferenceHIdeal.nD Cert.ReferenceHIdeal.τ).loc Cert.ReferenceHIdeal.main_arg2) = m ((c.tc : Thread Cert.ReferenceHIdeal.nD Cert.ReferenceHIdeal.τ).loc Cert.ReferenceHIdeal.main_arg2)
      ∧ r.2.mem ((c.tc : Thread Cert.ReferenceHIdeal.nD Cert.ReferenceHIdeal.τ).loc Cert.ReferenceHIdeal.main_arg3) = m ((c.tc : Thread Cert.ReferenceHIdeal.nD Cert.ReferenceHIdeal.τ).loc Cert.ReferenceHIdeal.main_arg3)
      ∧ r.2.mem ((c.tc : Thread Cert.ReferenceHIdeal.nD Cert.ReferenceHIdeal.τ).loc Cert.ReferenceHIdeal.main_arg4) = m ((c.tc : Thread Cert.ReferenceHIdeal.nD Cert.ReferenceHIdeal.τ).loc Cert.ReferenceHIdeal.main_arg4)
      ∧ r.2.mem ((c.tc : Thread Cert.ReferenceHIdeal.nD Cert.ReferenceHIdeal.τ).loc Cert.ReferenceHIdeal.main_arg5) = m ((c.tc : Thread Cert.ReferenceHIdeal.nD Cert.ReferenceHIdeal.τ).loc Cert.ReferenceHIdeal.main_arg5))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4))
      ∧ r.2.sem = fun _ => 0)

def quiescent_KernelAdaW [hKernelAdaW : Cert.KernelAdaW.Facts] : Prop :=
  ∀ (m : (ℓ : Loc Cert.KernelAdaW.nD Cert.KernelAdaW.τ Cert.KernelAdaW.sig) → Buf (Elt Bits) ℓ) (g : Dev Cert.KernelAdaW.nD → PrngReg), Pre_KernelAdaW m →
    θ_run (Cert.KernelAdaW.defs (F := Bits)) (onTc (τ := Cert.KernelAdaW.τ) (Cert.KernelAdaW.main (F := Bits))) ⟨m, fun _ => 0, g⟩ (fun r => (∀ c : Dev Cert.KernelAdaW.nD,
      r.2.mem ((c.tc : Thread Cert.KernelAdaW.nD Cert.KernelAdaW.τ).loc Cert.KernelAdaW.main_arg0) = m ((c.tc : Thread Cert.KernelAdaW.nD Cert.KernelAdaW.τ).loc Cert.KernelAdaW.main_arg0)
      ∧ r.2.mem ((c.tc : Thread Cert.KernelAdaW.nD Cert.KernelAdaW.τ).loc Cert.KernelAdaW.main_arg1) = m ((c.tc : Thread Cert.KernelAdaW.nD Cert.KernelAdaW.τ).loc Cert.KernelAdaW.main_arg1))
      ∧ r.2.sem = fun _ => 0)

def quiescent_KernelAdaWIdeal [hKernelAdaWIdeal : Cert.KernelAdaWIdeal.Facts] : Prop :=
  ∀ (m : (ℓ : Loc Cert.KernelAdaWIdeal.nD Cert.KernelAdaWIdeal.τ Cert.KernelAdaWIdeal.sig) → Buf (Elt Ideal) ℓ) (g : Dev Cert.KernelAdaWIdeal.nD → PrngReg), Pre_KernelAdaWIdeal m →
    θ_run (Cert.KernelAdaWIdeal.defs (F := Ideal)) (onTc (τ := Cert.KernelAdaWIdeal.τ) (Cert.KernelAdaWIdeal.main (F := Ideal))) ⟨m, fun _ => 0, g⟩ (fun r => (∀ c : Dev Cert.KernelAdaWIdeal.nD,
      r.2.mem ((c.tc : Thread Cert.KernelAdaWIdeal.nD Cert.KernelAdaWIdeal.τ).loc Cert.KernelAdaWIdeal.main_arg0) = m ((c.tc : Thread Cert.KernelAdaWIdeal.nD Cert.KernelAdaWIdeal.τ).loc Cert.KernelAdaWIdeal.main_arg0)
      ∧ r.2.mem ((c.tc : Thread Cert.KernelAdaWIdeal.nD Cert.KernelAdaWIdeal.τ).loc Cert.KernelAdaWIdeal.main_arg1) = m ((c.tc : Thread Cert.KernelAdaWIdeal.nD Cert.KernelAdaWIdeal.τ).loc Cert.KernelAdaWIdeal.main_arg1))
      ∧ r.2.sem = fun _ => 0)

def quiescent_ReferenceAdaWIdeal [hReferenceAdaWIdeal : Cert.ReferenceAdaWIdeal.Facts] : Prop :=
  ∀ (m : (ℓ : Loc Cert.ReferenceAdaWIdeal.nD Cert.ReferenceAdaWIdeal.τ Cert.ReferenceAdaWIdeal.sig) → Buf (Elt Ideal) ℓ) (g : Dev Cert.ReferenceAdaWIdeal.nD → PrngReg), Pre_ReferenceAdaWIdeal m →
    θ_run (Cert.ReferenceAdaWIdeal.defs (F := Ideal)) (onTc (τ := Cert.ReferenceAdaWIdeal.τ) (Cert.ReferenceAdaWIdeal.main (F := Ideal))) ⟨m, fun _ => 0, g⟩ (fun r => (∀ c : Dev Cert.ReferenceAdaWIdeal.nD,
      r.2.mem ((c.tc : Thread Cert.ReferenceAdaWIdeal.nD Cert.ReferenceAdaWIdeal.τ).loc Cert.ReferenceAdaWIdeal.main_arg0) = m ((c.tc : Thread Cert.ReferenceAdaWIdeal.nD Cert.ReferenceAdaWIdeal.τ).loc Cert.ReferenceAdaWIdeal.main_arg0)
      ∧ r.2.mem ((c.tc : Thread Cert.ReferenceAdaWIdeal.nD Cert.ReferenceAdaWIdeal.τ).loc Cert.ReferenceAdaWIdeal.main_arg1) = m ((c.tc : Thread Cert.ReferenceAdaWIdeal.nD Cert.ReferenceAdaWIdeal.τ).loc Cert.ReferenceAdaWIdeal.main_arg1))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def quiescent_KernelAdamRep [hKernelAdamRep : Cert.KernelAdamRep.Facts] : Prop :=
  ∀ (m : (ℓ : Loc Cert.KernelAdamRep.nD Cert.KernelAdamRep.τ Cert.KernelAdamRep.sig) → Buf (Elt Bits) ℓ) (g : Dev Cert.KernelAdamRep.nD → PrngReg), Pre_KernelAdamRep m →
    θ_run (Cert.KernelAdamRep.defs (F := Bits)) (onTc (τ := Cert.KernelAdamRep.τ) (Cert.KernelAdamRep.main (F := Bits))) ⟨m, fun _ => 0, g⟩ (fun r => (∀ c : Dev Cert.KernelAdamRep.nD,
      r.2.mem ((c.tc : Thread Cert.KernelAdamRep.nD Cert.KernelAdamRep.τ).loc Cert.KernelAdamRep.main_arg0) = m ((c.tc : Thread Cert.KernelAdamRep.nD Cert.KernelAdamRep.τ).loc Cert.KernelAdamRep.main_arg0)
      ∧ r.2.mem ((c.tc : Thread Cert.KernelAdamRep.nD Cert.KernelAdamRep.τ).loc Cert.KernelAdamRep.main_arg1) = m ((c.tc : Thread Cert.KernelAdamRep.nD Cert.KernelAdamRep.τ).loc Cert.KernelAdamRep.main_arg1)
      ∧ r.2.mem ((c.tc : Thread Cert.KernelAdamRep.nD Cert.KernelAdamRep.τ).loc Cert.KernelAdamRep.main_arg2) = m ((c.tc : Thread Cert.KernelAdamRep.nD Cert.KernelAdamRep.τ).loc Cert.KernelAdamRep.main_arg2)
      ∧ r.2.mem ((c.tc : Thread Cert.KernelAdamRep.nD Cert.KernelAdamRep.τ).loc Cert.KernelAdamRep.main_arg3) = m ((c.tc : Thread Cert.KernelAdamRep.nD Cert.KernelAdamRep.τ).loc Cert.KernelAdamRep.main_arg3))
      ∧ r.2.sem = fun _ => 0)

def quiescent_KernelAdamRepIdeal [hKernelAdamRepIdeal : Cert.KernelAdamRepIdeal.Facts] : Prop :=
  ∀ (m : (ℓ : Loc Cert.KernelAdamRepIdeal.nD Cert.KernelAdamRepIdeal.τ Cert.KernelAdamRepIdeal.sig) → Buf (Elt Ideal) ℓ) (g : Dev Cert.KernelAdamRepIdeal.nD → PrngReg), Pre_KernelAdamRepIdeal m →
    θ_run (Cert.KernelAdamRepIdeal.defs (F := Ideal)) (onTc (τ := Cert.KernelAdamRepIdeal.τ) (Cert.KernelAdamRepIdeal.main (F := Ideal))) ⟨m, fun _ => 0, g⟩ (fun r => (∀ c : Dev Cert.KernelAdamRepIdeal.nD,
      r.2.mem ((c.tc : Thread Cert.KernelAdamRepIdeal.nD Cert.KernelAdamRepIdeal.τ).loc Cert.KernelAdamRepIdeal.main_arg0) = m ((c.tc : Thread Cert.KernelAdamRepIdeal.nD Cert.KernelAdamRepIdeal.τ).loc Cert.KernelAdamRepIdeal.main_arg0)
      ∧ r.2.mem ((c.tc : Thread Cert.KernelAdamRepIdeal.nD Cert.KernelAdamRepIdeal.τ).loc Cert.KernelAdamRepIdeal.main_arg1) = m ((c.tc : Thread Cert.KernelAdamRepIdeal.nD Cert.KernelAdamRepIdeal.τ).loc Cert.KernelAdamRepIdeal.main_arg1)
      ∧ r.2.mem ((c.tc : Thread Cert.KernelAdamRepIdeal.nD Cert.KernelAdamRepIdeal.τ).loc Cert.KernelAdamRepIdeal.main_arg2) = m ((c.tc : Thread Cert.KernelAdamRepIdeal.nD Cert.KernelAdamRepIdeal.τ).loc Cert.KernelAdamRepIdeal.main_arg2)
      ∧ r.2.mem ((c.tc : Thread Cert.KernelAdamRepIdeal.nD Cert.KernelAdamRepIdeal.τ).loc Cert.KernelAdamRepIdeal.main_arg3) = m ((c.tc : Thread Cert.KernelAdamRepIdeal.nD Cert.KernelAdamRepIdeal.τ).loc Cert.KernelAdamRepIdeal.main_arg3))
      ∧ r.2.sem = fun _ => 0)

def quiescent_ReferenceAdamRepIdeal [hReferenceAdamRepIdeal : Cert.ReferenceAdamRepIdeal.Facts] : Prop :=
  ∀ (m : (ℓ : Loc Cert.ReferenceAdamRepIdeal.nD Cert.ReferenceAdamRepIdeal.τ Cert.ReferenceAdamRepIdeal.sig) → Buf (Elt Ideal) ℓ) (g : Dev Cert.ReferenceAdamRepIdeal.nD → PrngReg), Pre_ReferenceAdamRepIdeal m →
    θ_run (Cert.ReferenceAdamRepIdeal.defs (F := Ideal)) (onTc (τ := Cert.ReferenceAdamRepIdeal.τ) (Cert.ReferenceAdamRepIdeal.main (F := Ideal))) ⟨m, fun _ => 0, g⟩ (fun r => (∀ c : Dev Cert.ReferenceAdamRepIdeal.nD,
      r.2.mem ((c.tc : Thread Cert.ReferenceAdamRepIdeal.nD Cert.ReferenceAdamRepIdeal.τ).loc Cert.ReferenceAdamRepIdeal.main_arg0) = m ((c.tc : Thread Cert.ReferenceAdamRepIdeal.nD Cert.ReferenceAdamRepIdeal.τ).loc Cert.ReferenceAdamRepIdeal.main_arg0)
      ∧ r.2.mem ((c.tc : Thread Cert.ReferenceAdamRepIdeal.nD Cert.ReferenceAdamRepIdeal.τ).loc Cert.ReferenceAdamRepIdeal.main_arg1) = m ((c.tc : Thread Cert.ReferenceAdamRepIdeal.nD Cert.ReferenceAdamRepIdeal.τ).loc Cert.ReferenceAdamRepIdeal.main_arg1)
      ∧ r.2.mem ((c.tc : Thread Cert.ReferenceAdamRepIdeal.nD Cert.ReferenceAdamRepIdeal.τ).loc Cert.ReferenceAdamRepIdeal.main_arg2) = m ((c.tc : Thread Cert.ReferenceAdamRepIdeal.nD Cert.ReferenceAdamRepIdeal.τ).loc Cert.ReferenceAdamRepIdeal.main_arg2)
      ∧ r.2.mem ((c.tc : Thread Cert.ReferenceAdamRepIdeal.nD Cert.ReferenceAdamRepIdeal.τ).loc Cert.ReferenceAdamRepIdeal.main_arg3) = m ((c.tc : Thread Cert.ReferenceAdamRepIdeal.nD Cert.ReferenceAdamRepIdeal.τ).loc Cert.ReferenceAdamRepIdeal.main_arg3))
      ∧ r.2.sem = fun _ => 0)

def quiescent_KernelHalvesIn [hKernelHalvesIn : Cert.KernelHalvesIn.Facts] : Prop :=
  ∀ (m : (ℓ : Loc Cert.KernelHalvesIn.nD Cert.KernelHalvesIn.τ Cert.KernelHalvesIn.sig) → Buf (Elt Bits) ℓ) (g : Dev Cert.KernelHalvesIn.nD → PrngReg), Pre_KernelHalvesIn m →
    θ_run (Cert.KernelHalvesIn.defs (F := Bits)) (onTc (τ := Cert.KernelHalvesIn.τ) (Cert.KernelHalvesIn.main (F := Bits))) ⟨m, fun _ => 0, g⟩ (fun r => (∀ c : Dev Cert.KernelHalvesIn.nD,
      r.2.mem ((c.tc : Thread Cert.KernelHalvesIn.nD Cert.KernelHalvesIn.τ).loc Cert.KernelHalvesIn.main_arg0) = m ((c.tc : Thread Cert.KernelHalvesIn.nD Cert.KernelHalvesIn.τ).loc Cert.KernelHalvesIn.main_arg0)
      ∧ r.2.mem ((c.tc : Thread Cert.KernelHalvesIn.nD Cert.KernelHalvesIn.τ).loc Cert.KernelHalvesIn.main_arg1) = m ((c.tc : Thread Cert.KernelHalvesIn.nD Cert.KernelHalvesIn.τ).loc Cert.KernelHalvesIn.main_arg1)
      ∧ r.2.mem ((c.tc : Thread Cert.KernelHalvesIn.nD Cert.KernelHalvesIn.τ).loc Cert.KernelHalvesIn.main_arg2) = m ((c.tc : Thread Cert.KernelHalvesIn.nD Cert.KernelHalvesIn.τ).loc Cert.KernelHalvesIn.main_arg2)
      ∧ r.2.mem ((c.tc : Thread Cert.KernelHalvesIn.nD Cert.KernelHalvesIn.τ).loc Cert.KernelHalvesIn.main_arg3) = m ((c.tc : Thread Cert.KernelHalvesIn.nD Cert.KernelHalvesIn.τ).loc Cert.KernelHalvesIn.main_arg3)
      ∧ r.2.mem ((c.tc : Thread Cert.KernelHalvesIn.nD Cert.KernelHalvesIn.τ).loc Cert.KernelHalvesIn.main_arg4) = m ((c.tc : Thread Cert.KernelHalvesIn.nD Cert.KernelHalvesIn.τ).loc Cert.KernelHalvesIn.main_arg4)
      ∧ r.2.mem ((c.tc : Thread Cert.KernelHalvesIn.nD Cert.KernelHalvesIn.τ).loc Cert.KernelHalvesIn.main_arg5) = m ((c.tc : Thread Cert.KernelHalvesIn.nD Cert.KernelHalvesIn.τ).loc Cert.KernelHalvesIn.main_arg5))
      ∧ r.2.sem = fun _ => 0)

def quiescent_KernelHalvesInIdeal [hKernelHalvesInIdeal : Cert.KernelHalvesInIdeal.Facts] : Prop :=
  ∀ (m : (ℓ : Loc Cert.KernelHalvesInIdeal.nD Cert.KernelHalvesInIdeal.τ Cert.KernelHalvesInIdeal.sig) → Buf (Elt Ideal) ℓ) (g : Dev Cert.KernelHalvesInIdeal.nD → PrngReg), Pre_KernelHalvesInIdeal m →
    θ_run (Cert.KernelHalvesInIdeal.defs (F := Ideal)) (onTc (τ := Cert.KernelHalvesInIdeal.τ) (Cert.KernelHalvesInIdeal.main (F := Ideal))) ⟨m, fun _ => 0, g⟩ (fun r => (∀ c : Dev Cert.KernelHalvesInIdeal.nD,
      r.2.mem ((c.tc : Thread Cert.KernelHalvesInIdeal.nD Cert.KernelHalvesInIdeal.τ).loc Cert.KernelHalvesInIdeal.main_arg0) = m ((c.tc : Thread Cert.KernelHalvesInIdeal.nD Cert.KernelHalvesInIdeal.τ).loc Cert.KernelHalvesInIdeal.main_arg0)
      ∧ r.2.mem ((c.tc : Thread Cert.KernelHalvesInIdeal.nD Cert.KernelHalvesInIdeal.τ).loc Cert.KernelHalvesInIdeal.main_arg1) = m ((c.tc : Thread Cert.KernelHalvesInIdeal.nD Cert.KernelHalvesInIdeal.τ).loc Cert.KernelHalvesInIdeal.main_arg1)
      ∧ r.2.mem ((c.tc : Thread Cert.KernelHalvesInIdeal.nD Cert.KernelHalvesInIdeal.τ).loc Cert.KernelHalvesInIdeal.main_arg2) = m ((c.tc : Thread Cert.KernelHalvesInIdeal.nD Cert.KernelHalvesInIdeal.τ).loc Cert.KernelHalvesInIdeal.main_arg2)
      ∧ r.2.mem ((c.tc : Thread Cert.KernelHalvesInIdeal.nD Cert.KernelHalvesInIdeal.τ).loc Cert.KernelHalvesInIdeal.main_arg3) = m ((c.tc : Thread Cert.KernelHalvesInIdeal.nD Cert.KernelHalvesInIdeal.τ).loc Cert.KernelHalvesInIdeal.main_arg3)
      ∧ r.2.mem ((c.tc : Thread Cert.KernelHalvesInIdeal.nD Cert.KernelHalvesInIdeal.τ).loc Cert.KernelHalvesInIdeal.main_arg4) = m ((c.tc : Thread Cert.KernelHalvesInIdeal.nD Cert.KernelHalvesInIdeal.τ).loc Cert.KernelHalvesInIdeal.main_arg4)
      ∧ r.2.mem ((c.tc : Thread Cert.KernelHalvesInIdeal.nD Cert.KernelHalvesInIdeal.τ).loc Cert.KernelHalvesInIdeal.main_arg5) = m ((c.tc : Thread Cert.KernelHalvesInIdeal.nD Cert.KernelHalvesInIdeal.τ).loc Cert.KernelHalvesInIdeal.main_arg5))
      ∧ r.2.sem = fun _ => 0)

def quiescent_ReferenceHalvesInIdeal [hReferenceHalvesInIdeal : Cert.ReferenceHalvesInIdeal.Facts] : Prop :=
  ∀ (m : (ℓ : Loc Cert.ReferenceHalvesInIdeal.nD Cert.ReferenceHalvesInIdeal.τ Cert.ReferenceHalvesInIdeal.sig) → Buf (Elt Ideal) ℓ) (g : Dev Cert.ReferenceHalvesInIdeal.nD → PrngReg), Pre_ReferenceHalvesInIdeal m →
    θ_run (Cert.ReferenceHalvesInIdeal.defs (F := Ideal)) (onTc (τ := Cert.ReferenceHalvesInIdeal.τ) (Cert.ReferenceHalvesInIdeal.main (F := Ideal))) ⟨m, fun _ => 0, g⟩ (fun r => (∀ c : Dev Cert.ReferenceHalvesInIdeal.nD,
      r.2.mem ((c.tc : Thread Cert.ReferenceHalvesInIdeal.nD Cert.ReferenceHalvesInIdeal.τ).loc Cert.ReferenceHalvesInIdeal.main_arg0) = m ((c.tc : Thread Cert.ReferenceHalvesInIdeal.nD Cert.ReferenceHalvesInIdeal.τ).loc Cert.ReferenceHalvesInIdeal.main_arg0)
      ∧ r.2.mem ((c.tc : Thread Cert.ReferenceHalvesInIdeal.nD Cert.ReferenceHalvesInIdeal.τ).loc Cert.ReferenceHalvesInIdeal.main_arg1) = m ((c.tc : Thread Cert.ReferenceHalvesInIdeal.nD Cert.ReferenceHalvesInIdeal.τ).loc Cert.ReferenceHalvesInIdeal.main_arg1)
      ∧ r.2.mem ((c.tc : Thread Cert.ReferenceHalvesInIdeal.nD Cert.ReferenceHalvesInIdeal.τ).loc Cert.ReferenceHalvesInIdeal.main_arg2) = m ((c.tc : Thread Cert.ReferenceHalvesInIdeal.nD Cert.ReferenceHalvesInIdeal.τ).loc Cert.ReferenceHalvesInIdeal.main_arg2)
      ∧ r.2.mem ((c.tc : Thread Cert.ReferenceHalvesInIdeal.nD Cert.ReferenceHalvesInIdeal.τ).loc Cert.ReferenceHalvesInIdeal.main_arg3) = m ((c.tc : Thread Cert.ReferenceHalvesInIdeal.nD Cert.ReferenceHalvesInIdeal.τ).loc Cert.ReferenceHalvesInIdeal.main_arg3)
      ∧ r.2.mem ((c.tc : Thread Cert.ReferenceHalvesInIdeal.nD Cert.ReferenceHalvesInIdeal.τ).loc Cert.ReferenceHalvesInIdeal.main_arg4) = m ((c.tc : Thread Cert.ReferenceHalvesInIdeal.nD Cert.ReferenceHalvesInIdeal.τ).loc Cert.ReferenceHalvesInIdeal.main_arg4)
      ∧ r.2.mem ((c.tc : Thread Cert.ReferenceHalvesInIdeal.nD Cert.ReferenceHalvesInIdeal.τ).loc Cert.ReferenceHalvesInIdeal.main_arg5) = m ((c.tc : Thread Cert.ReferenceHalvesInIdeal.nD Cert.ReferenceHalvesInIdeal.τ).loc Cert.ReferenceHalvesInIdeal.main_arg5))
      ∧ r.2.sem = fun _ => 0)

def quiescent_KernelHalvesBranch [hKernelHalvesBranch : Cert.KernelHalvesBranch.Facts] : Prop :=
  ∀ (m : (ℓ : Loc Cert.KernelHalvesBranch.nD Cert.KernelHalvesBranch.τ Cert.KernelHalvesBranch.sig) → Buf (Elt Bits) ℓ) (g : Dev Cert.KernelHalvesBranch.nD → PrngReg), Pre_KernelHalvesBranch m →
    θ_run (Cert.KernelHalvesBranch.defs (F := Bits)) (onTc (τ := Cert.KernelHalvesBranch.τ) (Cert.KernelHalvesBranch.main (F := Bits))) ⟨m, fun _ => 0, g⟩ (fun r => (∀ c : Dev Cert.KernelHalvesBranch.nD,
      r.2.mem ((c.tc : Thread Cert.KernelHalvesBranch.nD Cert.KernelHalvesBranch.τ).loc Cert.KernelHalvesBranch.main_arg0) = m ((c.tc : Thread Cert.KernelHalvesBranch.nD Cert.KernelHalvesBranch.τ).loc Cert.KernelHalvesBranch.main_arg0)
      ∧ r.2.mem ((c.tc : Thread Cert.KernelHalvesBranch.nD Cert.KernelHalvesBranch.τ).loc Cert.KernelHalvesBranch.main_arg1) = m ((c.tc : Thread Cert.KernelHalvesBranch.nD Cert.KernelHalvesBranch.τ).loc Cert.KernelHalvesBranch.main_arg1)
      ∧ r.2.mem ((c.tc : Thread Cert.KernelHalvesBranch.nD Cert.KernelHalvesBranch.τ).loc Cert.KernelHalvesBranch.main_arg2) = m ((c.tc : Thread Cert.KernelHalvesBranch.nD Cert.KernelHalvesBranch.τ).loc Cert.KernelHalvesBranch.main_arg2)
      ∧ r.2.mem ((c.tc : Thread Cert.KernelHalvesBranch.nD Cert.KernelHalvesBranch.τ).loc Cert.KernelHalvesBranch.main_arg3) = m ((c.tc : Thread Cert.KernelHalvesBranch.nD Cert.KernelHalvesBranch.τ).loc Cert.KernelHalvesBranch.main_arg3)
      ∧ r.2.mem ((c.tc : Thread Cert.KernelHalvesBranch.nD Cert.KernelHalvesBranch.τ).loc Cert.KernelHalvesBranch.main_arg4) = m ((c.tc : Thread Cert.KernelHalvesBranch.nD Cert.KernelHalvesBranch.τ).loc Cert.KernelHalvesBranch.main_arg4)
      ∧ r.2.mem ((c.tc : Thread Cert.KernelHalvesBranch.nD Cert.KernelHalvesBranch.τ).loc Cert.KernelHalvesBranch.main_arg5) = m ((c.tc : Thread Cert.KernelHalvesBranch.nD Cert.KernelHalvesBranch.τ).loc Cert.KernelHalvesBranch.main_arg5))
      ∧ r.2.sem = fun _ => 0)

def quiescent_KernelHalvesBranchIdeal [hKernelHalvesBranchIdeal : Cert.KernelHalvesBranchIdeal.Facts] : Prop :=
  ∀ (m : (ℓ : Loc Cert.KernelHalvesBranchIdeal.nD Cert.KernelHalvesBranchIdeal.τ Cert.KernelHalvesBranchIdeal.sig) → Buf (Elt Ideal) ℓ) (g : Dev Cert.KernelHalvesBranchIdeal.nD → PrngReg), Pre_KernelHalvesBranchIdeal m →
    θ_run (Cert.KernelHalvesBranchIdeal.defs (F := Ideal)) (onTc (τ := Cert.KernelHalvesBranchIdeal.τ) (Cert.KernelHalvesBranchIdeal.main (F := Ideal))) ⟨m, fun _ => 0, g⟩ (fun r => (∀ c : Dev Cert.KernelHalvesBranchIdeal.nD,
      r.2.mem ((c.tc : Thread Cert.KernelHalvesBranchIdeal.nD Cert.KernelHalvesBranchIdeal.τ).loc Cert.KernelHalvesBranchIdeal.main_arg0) = m ((c.tc : Thread Cert.KernelHalvesBranchIdeal.nD Cert.KernelHalvesBranchIdeal.τ).loc Cert.KernelHalvesBranchIdeal.main_arg0)
      ∧ r.2.mem ((c.tc : Thread Cert.KernelHalvesBranchIdeal.nD Cert.KernelHalvesBranchIdeal.τ).loc Cert.KernelHalvesBranchIdeal.main_arg1) = m ((c.tc : Thread Cert.KernelHalvesBranchIdeal.nD Cert.KernelHalvesBranchIdeal.τ).loc Cert.KernelHalvesBranchIdeal.main_arg1)
      ∧ r.2.mem ((c.tc : Thread Cert.KernelHalvesBranchIdeal.nD Cert.KernelHalvesBranchIdeal.τ).loc Cert.KernelHalvesBranchIdeal.main_arg2) = m ((c.tc : Thread Cert.KernelHalvesBranchIdeal.nD Cert.KernelHalvesBranchIdeal.τ).loc Cert.KernelHalvesBranchIdeal.main_arg2)
      ∧ r.2.mem ((c.tc : Thread Cert.KernelHalvesBranchIdeal.nD Cert.KernelHalvesBranchIdeal.τ).loc Cert.KernelHalvesBranchIdeal.main_arg3) = m ((c.tc : Thread Cert.KernelHalvesBranchIdeal.nD Cert.KernelHalvesBranchIdeal.τ).loc Cert.KernelHalvesBranchIdeal.main_arg3)
      ∧ r.2.mem ((c.tc : Thread Cert.KernelHalvesBranchIdeal.nD Cert.KernelHalvesBranchIdeal.τ).loc Cert.KernelHalvesBranchIdeal.main_arg4) = m ((c.tc : Thread Cert.KernelHalvesBranchIdeal.nD Cert.KernelHalvesBranchIdeal.τ).loc Cert.KernelHalvesBranchIdeal.main_arg4)
      ∧ r.2.mem ((c.tc : Thread Cert.KernelHalvesBranchIdeal.nD Cert.KernelHalvesBranchIdeal.τ).loc Cert.KernelHalvesBranchIdeal.main_arg5) = m ((c.tc : Thread Cert.KernelHalvesBranchIdeal.nD Cert.KernelHalvesBranchIdeal.τ).loc Cert.KernelHalvesBranchIdeal.main_arg5))
      ∧ r.2.sem = fun _ => 0)

def quiescent_ReferenceHalvesBranchIdeal [hReferenceHalvesBranchIdeal : Cert.ReferenceHalvesBranchIdeal.Facts] : Prop :=
  ∀ (m : (ℓ : Loc Cert.ReferenceHalvesBranchIdeal.nD Cert.ReferenceHalvesBranchIdeal.τ Cert.ReferenceHalvesBranchIdeal.sig) → Buf (Elt Ideal) ℓ) (g : Dev Cert.ReferenceHalvesBranchIdeal.nD → PrngReg), Pre_ReferenceHalvesBranchIdeal m →
    θ_run (Cert.ReferenceHalvesBranchIdeal.defs (F := Ideal)) (onTc (τ := Cert.ReferenceHalvesBranchIdeal.τ) (Cert.ReferenceHalvesBranchIdeal.main (F := Ideal))) ⟨m, fun _ => 0, g⟩ (fun r => (∀ c : Dev Cert.ReferenceHalvesBranchIdeal.nD,
      r.2.mem ((c.tc : Thread Cert.ReferenceHalvesBranchIdeal.nD Cert.ReferenceHalvesBranchIdeal.τ).loc Cert.ReferenceHalvesBranchIdeal.main_arg0) = m ((c.tc : Thread Cert.ReferenceHalvesBranchIdeal.nD Cert.ReferenceHalvesBranchIdeal.τ).loc Cert.ReferenceHalvesBranchIdeal.main_arg0)
      ∧ r.2.mem ((c.tc : Thread Cert.ReferenceHalvesBranchIdeal.nD Cert.ReferenceHalvesBranchIdeal.τ).loc Cert.ReferenceHalvesBranchIdeal.main_arg1) = m ((c.tc : Thread Cert.ReferenceHalvesBranchIdeal.nD Cert.ReferenceHalvesBranchIdeal.τ).loc Cert.ReferenceHalvesBranchIdeal.main_arg1)
      ∧ r.2.mem ((c.tc : Thread Cert.ReferenceHalvesBranchIdeal.nD Cert.ReferenceHalvesBranchIdeal.τ).loc Cert.ReferenceHalvesBranchIdeal.main_arg2) = m ((c.tc : Thread Cert.ReferenceHalvesBranchIdeal.nD Cert.ReferenceHalvesBranchIdeal.τ).loc Cert.ReferenceHalvesBranchIdeal.main_arg2)
      ∧ r.2.mem ((c.tc : Thread Cert.ReferenceHalvesBranchIdeal.nD Cert.ReferenceHalvesBranchIdeal.τ).loc Cert.ReferenceHalvesBranchIdeal.main_arg3) = m ((c.tc : Thread Cert.ReferenceHalvesBranchIdeal.nD Cert.ReferenceHalvesBranchIdeal.τ).loc Cert.ReferenceHalvesBranchIdeal.main_arg3)
      ∧ r.2.mem ((c.tc : Thread Cert.ReferenceHalvesBranchIdeal.nD Cert.ReferenceHalvesBranchIdeal.τ).loc Cert.ReferenceHalvesBranchIdeal.main_arg4) = m ((c.tc : Thread Cert.ReferenceHalvesBranchIdeal.nD Cert.ReferenceHalvesBranchIdeal.τ).loc Cert.ReferenceHalvesBranchIdeal.main_arg4)
      ∧ r.2.mem ((c.tc : Thread Cert.ReferenceHalvesBranchIdeal.nD Cert.ReferenceHalvesBranchIdeal.τ).loc Cert.ReferenceHalvesBranchIdeal.main_arg5) = m ((c.tc : Thread Cert.ReferenceHalvesBranchIdeal.nD Cert.ReferenceHalvesBranchIdeal.τ).loc Cert.ReferenceHalvesBranchIdeal.main_arg5))
      ∧ r.2.sem = fun _ => 0)

def quiescent_KernelHalvesOut [hKernelHalvesOut : Cert.KernelHalvesOut.Facts] : Prop :=
  ∀ (m : (ℓ : Loc Cert.KernelHalvesOut.nD Cert.KernelHalvesOut.τ Cert.KernelHalvesOut.sig) → Buf (Elt Bits) ℓ) (g : Dev Cert.KernelHalvesOut.nD → PrngReg), Pre_KernelHalvesOut m →
    θ_run (Cert.KernelHalvesOut.defs (F := Bits)) (onTc (τ := Cert.KernelHalvesOut.τ) (Cert.KernelHalvesOut.main (F := Bits))) ⟨m, fun _ => 0, g⟩ (fun r => (∀ c : Dev Cert.KernelHalvesOut.nD,
      r.2.mem ((c.tc : Thread Cert.KernelHalvesOut.nD Cert.KernelHalvesOut.τ).loc Cert.KernelHalvesOut.main_arg0) = m ((c.tc : Thread Cert.KernelHalvesOut.nD Cert.KernelHalvesOut.τ).loc Cert.KernelHalvesOut.main_arg0)
      ∧ r.2.mem ((c.tc : Thread Cert.KernelHalvesOut.nD Cert.KernelHalvesOut.τ).loc Cert.KernelHalvesOut.main_arg1) = m ((c.tc : Thread Cert.KernelHalvesOut.nD Cert.KernelHalvesOut.τ).loc Cert.KernelHalvesOut.main_arg1)
      ∧ r.2.mem ((c.tc : Thread Cert.KernelHalvesOut.nD Cert.KernelHalvesOut.τ).loc Cert.KernelHalvesOut.main_arg2) = m ((c.tc : Thread Cert.KernelHalvesOut.nD Cert.KernelHalvesOut.τ).loc Cert.KernelHalvesOut.main_arg2)
      ∧ r.2.mem ((c.tc : Thread Cert.KernelHalvesOut.nD Cert.KernelHalvesOut.τ).loc Cert.KernelHalvesOut.main_arg3) = m ((c.tc : Thread Cert.KernelHalvesOut.nD Cert.KernelHalvesOut.τ).loc Cert.KernelHalvesOut.main_arg3)
      ∧ r.2.mem ((c.tc : Thread Cert.KernelHalvesOut.nD Cert.KernelHalvesOut.τ).loc Cert.KernelHalvesOut.main_arg4) = m ((c.tc : Thread Cert.KernelHalvesOut.nD Cert.KernelHalvesOut.τ).loc Cert.KernelHalvesOut.main_arg4)
      ∧ r.2.mem ((c.tc : Thread Cert.KernelHalvesOut.nD Cert.KernelHalvesOut.τ).loc Cert.KernelHalvesOut.main_arg5) = m ((c.tc : Thread Cert.KernelHalvesOut.nD Cert.KernelHalvesOut.τ).loc Cert.KernelHalvesOut.main_arg5))
      ∧ r.2.sem = fun _ => 0)

def quiescent_KernelHalvesOutIdeal [hKernelHalvesOutIdeal : Cert.KernelHalvesOutIdeal.Facts] : Prop :=
  ∀ (m : (ℓ : Loc Cert.KernelHalvesOutIdeal.nD Cert.KernelHalvesOutIdeal.τ Cert.KernelHalvesOutIdeal.sig) → Buf (Elt Ideal) ℓ) (g : Dev Cert.KernelHalvesOutIdeal.nD → PrngReg), Pre_KernelHalvesOutIdeal m →
    θ_run (Cert.KernelHalvesOutIdeal.defs (F := Ideal)) (onTc (τ := Cert.KernelHalvesOutIdeal.τ) (Cert.KernelHalvesOutIdeal.main (F := Ideal))) ⟨m, fun _ => 0, g⟩ (fun r => (∀ c : Dev Cert.KernelHalvesOutIdeal.nD,
      r.2.mem ((c.tc : Thread Cert.KernelHalvesOutIdeal.nD Cert.KernelHalvesOutIdeal.τ).loc Cert.KernelHalvesOutIdeal.main_arg0) = m ((c.tc : Thread Cert.KernelHalvesOutIdeal.nD Cert.KernelHalvesOutIdeal.τ).loc Cert.KernelHalvesOutIdeal.main_arg0)
      ∧ r.2.mem ((c.tc : Thread Cert.KernelHalvesOutIdeal.nD Cert.KernelHalvesOutIdeal.τ).loc Cert.KernelHalvesOutIdeal.main_arg1) = m ((c.tc : Thread Cert.KernelHalvesOutIdeal.nD Cert.KernelHalvesOutIdeal.τ).loc Cert.KernelHalvesOutIdeal.main_arg1)
      ∧ r.2.mem ((c.tc : Thread Cert.KernelHalvesOutIdeal.nD Cert.KernelHalvesOutIdeal.τ).loc Cert.KernelHalvesOutIdeal.main_arg2) = m ((c.tc : Thread Cert.KernelHalvesOutIdeal.nD Cert.KernelHalvesOutIdeal.τ).loc Cert.KernelHalvesOutIdeal.main_arg2)
      ∧ r.2.mem ((c.tc : Thread Cert.KernelHalvesOutIdeal.nD Cert.KernelHalvesOutIdeal.τ).loc Cert.KernelHalvesOutIdeal.main_arg3) = m ((c.tc : Thread Cert.KernelHalvesOutIdeal.nD Cert.KernelHalvesOutIdeal.τ).loc Cert.KernelHalvesOutIdeal.main_arg3)
      ∧ r.2.mem ((c.tc : Thread Cert.KernelHalvesOutIdeal.nD Cert.KernelHalvesOutIdeal.τ).loc Cert.KernelHalvesOutIdeal.main_arg4) = m ((c.tc : Thread Cert.KernelHalvesOutIdeal.nD Cert.KernelHalvesOutIdeal.τ).loc Cert.KernelHalvesOutIdeal.main_arg4)
      ∧ r.2.mem ((c.tc : Thread Cert.KernelHalvesOutIdeal.nD Cert.KernelHalvesOutIdeal.τ).loc Cert.KernelHalvesOutIdeal.main_arg5) = m ((c.tc : Thread Cert.KernelHalvesOutIdeal.nD Cert.KernelHalvesOutIdeal.τ).loc Cert.KernelHalvesOutIdeal.main_arg5))
      ∧ r.2.sem = fun _ => 0)

def quiescent_ReferenceHalvesOutIdeal [hReferenceHalvesOutIdeal : Cert.ReferenceHalvesOutIdeal.Facts] : Prop :=
  ∀ (m : (ℓ : Loc Cert.ReferenceHalvesOutIdeal.nD Cert.ReferenceHalvesOutIdeal.τ Cert.ReferenceHalvesOutIdeal.sig) → Buf (Elt Ideal) ℓ) (g : Dev Cert.ReferenceHalvesOutIdeal.nD → PrngReg), Pre_ReferenceHalvesOutIdeal m →
    θ_run (Cert.ReferenceHalvesOutIdeal.defs (F := Ideal)) (onTc (τ := Cert.ReferenceHalvesOutIdeal.τ) (Cert.ReferenceHalvesOutIdeal.main (F := Ideal))) ⟨m, fun _ => 0, g⟩ (fun r => (∀ c : Dev Cert.ReferenceHalvesOutIdeal.nD,
      r.2.mem ((c.tc : Thread Cert.ReferenceHalvesOutIdeal.nD Cert.ReferenceHalvesOutIdeal.τ).loc Cert.ReferenceHalvesOutIdeal.main_arg0) = m ((c.tc : Thread Cert.ReferenceHalvesOutIdeal.nD Cert.ReferenceHalvesOutIdeal.τ).loc Cert.ReferenceHalvesOutIdeal.main_arg0)
      ∧ r.2.mem ((c.tc : Thread Cert.ReferenceHalvesOutIdeal.nD Cert.ReferenceHalvesOutIdeal.τ).loc Cert.ReferenceHalvesOutIdeal.main_arg1) = m ((c.tc : Thread Cert.ReferenceHalvesOutIdeal.nD Cert.ReferenceHalvesOutIdeal.τ).loc Cert.ReferenceHalvesOutIdeal.main_arg1)
      ∧ r.2.mem ((c.tc : Thread Cert.ReferenceHalvesOutIdeal.nD Cert.ReferenceHalvesOutIdeal.τ).loc Cert.ReferenceHalvesOutIdeal.main_arg2) = m ((c.tc : Thread Cert.ReferenceHalvesOutIdeal.nD Cert.ReferenceHalvesOutIdeal.τ).loc Cert.ReferenceHalvesOutIdeal.main_arg2)
      ∧ r.2.mem ((c.tc : Thread Cert.ReferenceHalvesOutIdeal.nD Cert.ReferenceHalvesOutIdeal.τ).loc Cert.ReferenceHalvesOutIdeal.main_arg3) = m ((c.tc : Thread Cert.ReferenceHalvesOutIdeal.nD Cert.ReferenceHalvesOutIdeal.τ).loc Cert.ReferenceHalvesOutIdeal.main_arg3)
      ∧ r.2.mem ((c.tc : Thread Cert.ReferenceHalvesOutIdeal.nD Cert.ReferenceHalvesOutIdeal.τ).loc Cert.ReferenceHalvesOutIdeal.main_arg4) = m ((c.tc : Thread Cert.ReferenceHalvesOutIdeal.nD Cert.ReferenceHalvesOutIdeal.τ).loc Cert.ReferenceHalvesOutIdeal.main_arg4)
      ∧ r.2.mem ((c.tc : Thread Cert.ReferenceHalvesOutIdeal.nD Cert.ReferenceHalvesOutIdeal.τ).loc Cert.ReferenceHalvesOutIdeal.main_arg5) = m ((c.tc : Thread Cert.ReferenceHalvesOutIdeal.nD Cert.ReferenceHalvesOutIdeal.τ).loc Cert.ReferenceHalvesOutIdeal.main_arg5))
      ∧ r.2.sem = fun _ => 0)

def quiescent_KernelHalvesSmall [hKernelHalvesSmall : Cert.KernelHalvesSmall.Facts] : Prop :=
  ∀ (m : (ℓ : Loc Cert.KernelHalvesSmall.nD Cert.KernelHalvesSmall.τ Cert.KernelHalvesSmall.sig) → Buf (Elt Bits) ℓ) (g : Dev Cert.KernelHalvesSmall.nD → PrngReg), Pre_KernelHalvesSmall m →
    θ_run (Cert.KernelHalvesSmall.defs (F := Bits)) (onTc (τ := Cert.KernelHalvesSmall.τ) (Cert.KernelHalvesSmall.main (F := Bits))) ⟨m, fun _ => 0, g⟩ (fun r => (∀ c : Dev Cert.KernelHalvesSmall.nD,
      r.2.mem ((c.tc : Thread Cert.KernelHalvesSmall.nD Cert.KernelHalvesSmall.τ).loc Cert.KernelHalvesSmall.main_arg0) = m ((c.tc : Thread Cert.KernelHalvesSmall.nD Cert.KernelHalvesSmall.τ).loc Cert.KernelHalvesSmall.main_arg0)
      ∧ r.2.mem ((c.tc : Thread Cert.KernelHalvesSmall.nD Cert.KernelHalvesSmall.τ).loc Cert.KernelHalvesSmall.main_arg1) = m ((c.tc : Thread Cert.KernelHalvesSmall.nD Cert.KernelHalvesSmall.τ).loc Cert.KernelHalvesSmall.main_arg1)
      ∧ r.2.mem ((c.tc : Thread Cert.KernelHalvesSmall.nD Cert.KernelHalvesSmall.τ).loc Cert.KernelHalvesSmall.main_arg2) = m ((c.tc : Thread Cert.KernelHalvesSmall.nD Cert.KernelHalvesSmall.τ).loc Cert.KernelHalvesSmall.main_arg2)
      ∧ r.2.mem ((c.tc : Thread Cert.KernelHalvesSmall.nD Cert.KernelHalvesSmall.τ).loc Cert.KernelHalvesSmall.main_arg3) = m ((c.tc : Thread Cert.KernelHalvesSmall.nD Cert.KernelHalvesSmall.τ).loc Cert.KernelHalvesSmall.main_arg3)
      ∧ r.2.mem ((c.tc : Thread Cert.KernelHalvesSmall.nD Cert.KernelHalvesSmall.τ).loc Cert.KernelHalvesSmall.main_arg4) = m ((c.tc : Thread Cert.KernelHalvesSmall.nD Cert.KernelHalvesSmall.τ).loc Cert.KernelHalvesSmall.main_arg4)
      ∧ r.2.mem ((c.tc : Thread Cert.KernelHalvesSmall.nD Cert.KernelHalvesSmall.τ).loc Cert.KernelHalvesSmall.main_arg5) = m ((c.tc : Thread Cert.KernelHalvesSmall.nD Cert.KernelHalvesSmall.τ).loc Cert.KernelHalvesSmall.main_arg5))
      ∧ r.2.sem = fun _ => 0)

def quiescent_KernelHalvesSmallIdeal [hKernelHalvesSmallIdeal : Cert.KernelHalvesSmallIdeal.Facts] : Prop :=
  ∀ (m : (ℓ : Loc Cert.KernelHalvesSmallIdeal.nD Cert.KernelHalvesSmallIdeal.τ Cert.KernelHalvesSmallIdeal.sig) → Buf (Elt Ideal) ℓ) (g : Dev Cert.KernelHalvesSmallIdeal.nD → PrngReg), Pre_KernelHalvesSmallIdeal m →
    θ_run (Cert.KernelHalvesSmallIdeal.defs (F := Ideal)) (onTc (τ := Cert.KernelHalvesSmallIdeal.τ) (Cert.KernelHalvesSmallIdeal.main (F := Ideal))) ⟨m, fun _ => 0, g⟩ (fun r => (∀ c : Dev Cert.KernelHalvesSmallIdeal.nD,
      r.2.mem ((c.tc : Thread Cert.KernelHalvesSmallIdeal.nD Cert.KernelHalvesSmallIdeal.τ).loc Cert.KernelHalvesSmallIdeal.main_arg0) = m ((c.tc : Thread Cert.KernelHalvesSmallIdeal.nD Cert.KernelHalvesSmallIdeal.τ).loc Cert.KernelHalvesSmallIdeal.main_arg0)
      ∧ r.2.mem ((c.tc : Thread Cert.KernelHalvesSmallIdeal.nD Cert.KernelHalvesSmallIdeal.τ).loc Cert.KernelHalvesSmallIdeal.main_arg1) = m ((c.tc : Thread Cert.KernelHalvesSmallIdeal.nD Cert.KernelHalvesSmallIdeal.τ).loc Cert.KernelHalvesSmallIdeal.main_arg1)
      ∧ r.2.mem ((c.tc : Thread Cert.KernelHalvesSmallIdeal.nD Cert.KernelHalvesSmallIdeal.τ).loc Cert.KernelHalvesSmallIdeal.main_arg2) = m ((c.tc : Thread Cert.KernelHalvesSmallIdeal.nD Cert.KernelHalvesSmallIdeal.τ).loc Cert.KernelHalvesSmallIdeal.main_arg2)
      ∧ r.2.mem ((c.tc : Thread Cert.KernelHalvesSmallIdeal.nD Cert.KernelHalvesSmallIdeal.τ).loc Cert.KernelHalvesSmallIdeal.main_arg3) = m ((c.tc : Thread Cert.KernelHalvesSmallIdeal.nD Cert.KernelHalvesSmallIdeal.τ).loc Cert.KernelHalvesSmallIdeal.main_arg3)
      ∧ r.2.mem ((c.tc : Thread Cert.KernelHalvesSmallIdeal.nD Cert.KernelHalvesSmallIdeal.τ).loc Cert.KernelHalvesSmallIdeal.main_arg4) = m ((c.tc : Thread Cert.KernelHalvesSmallIdeal.nD Cert.KernelHalvesSmallIdeal.τ).loc Cert.KernelHalvesSmallIdeal.main_arg4)
      ∧ r.2.mem ((c.tc : Thread Cert.KernelHalvesSmallIdeal.nD Cert.KernelHalvesSmallIdeal.τ).loc Cert.KernelHalvesSmallIdeal.main_arg5) = m ((c.tc : Thread Cert.KernelHalvesSmallIdeal.nD Cert.KernelHalvesSmallIdeal.τ).loc Cert.KernelHalvesSmallIdeal.main_arg5))
      ∧ r.2.sem = fun _ => 0)

def quiescent_ReferenceHalvesSmallIdeal [hReferenceHalvesSmallIdeal : Cert.ReferenceHalvesSmallIdeal.Facts] : Prop :=
  ∀ (m : (ℓ : Loc Cert.ReferenceHalvesSmallIdeal.nD Cert.ReferenceHalvesSmallIdeal.τ Cert.ReferenceHalvesSmallIdeal.sig) → Buf (Elt Ideal) ℓ) (g : Dev Cert.ReferenceHalvesSmallIdeal.nD → PrngReg), Pre_ReferenceHalvesSmallIdeal m →
    θ_run (Cert.ReferenceHalvesSmallIdeal.defs (F := Ideal)) (onTc (τ := Cert.ReferenceHalvesSmallIdeal.τ) (Cert.ReferenceHalvesSmallIdeal.main (F := Ideal))) ⟨m, fun _ => 0, g⟩ (fun r => (∀ c : Dev Cert.ReferenceHalvesSmallIdeal.nD,
      r.2.mem ((c.tc : Thread Cert.ReferenceHalvesSmallIdeal.nD Cert.ReferenceHalvesSmallIdeal.τ).loc Cert.ReferenceHalvesSmallIdeal.main_arg0) = m ((c.tc : Thread Cert.ReferenceHalvesSmallIdeal.nD Cert.ReferenceHalvesSmallIdeal.τ).loc Cert.ReferenceHalvesSmallIdeal.main_arg0)
      ∧ r.2.mem ((c.tc : Thread Cert.ReferenceHalvesSmallIdeal.nD Cert.ReferenceHalvesSmallIdeal.τ).loc Cert.ReferenceHalvesSmallIdeal.main_arg1) = m ((c.tc : Thread Cert.ReferenceHalvesSmallIdeal.nD Cert.ReferenceHalvesSmallIdeal.τ).loc Cert.ReferenceHalvesSmallIdeal.main_arg1)
      ∧ r.2.mem ((c.tc : Thread Cert.ReferenceHalvesSmallIdeal.nD Cert.ReferenceHalvesSmallIdeal.τ).loc Cert.ReferenceHalvesSmallIdeal.main_arg2) = m ((c.tc : Thread Cert.ReferenceHalvesSmallIdeal.nD Cert.ReferenceHalvesSmallIdeal.τ).loc Cert.ReferenceHalvesSmallIdeal.main_arg2)
      ∧ r.2.mem ((c.tc : Thread Cert.ReferenceHalvesSmallIdeal.nD Cert.ReferenceHalvesSmallIdeal.τ).loc Cert.ReferenceHalvesSmallIdeal.main_arg3) = m ((c.tc : Thread Cert.ReferenceHalvesSmallIdeal.nD Cert.ReferenceHalvesSmallIdeal.τ).loc Cert.ReferenceHalvesSmallIdeal.main_arg3)
      ∧ r.2.mem ((c.tc : Thread Cert.ReferenceHalvesSmallIdeal.nD Cert.ReferenceHalvesSmallIdeal.τ).loc Cert.ReferenceHalvesSmallIdeal.main_arg4) = m ((c.tc : Thread Cert.ReferenceHalvesSmallIdeal.nD Cert.ReferenceHalvesSmallIdeal.τ).loc Cert.ReferenceHalvesSmallIdeal.main_arg4)
      ∧ r.2.mem ((c.tc : Thread Cert.ReferenceHalvesSmallIdeal.nD Cert.ReferenceHalvesSmallIdeal.τ).loc Cert.ReferenceHalvesSmallIdeal.main_arg5) = m ((c.tc : Thread Cert.ReferenceHalvesSmallIdeal.nD Cert.ReferenceHalvesSmallIdeal.τ).loc Cert.ReferenceHalvesSmallIdeal.main_arg5))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1)
      ∧ r.2.mem ((c.tc : Thread Cert.KernelFinal.nD Cert.KernelFinal.τ).loc Cert.KernelFinal.main_arg2) = m ((c.tc : Thread Cert.KernelFinal.nD Cert.KernelFinal.τ).loc Cert.KernelFinal.main_arg2)
      ∧ r.2.mem ((c.tc : Thread Cert.KernelFinal.nD Cert.KernelFinal.τ).loc Cert.KernelFinal.main_arg3) = m ((c.tc : Thread Cert.KernelFinal.nD Cert.KernelFinal.τ).loc Cert.KernelFinal.main_arg3)
      ∧ r.2.mem ((c.tc : Thread Cert.KernelFinal.nD Cert.KernelFinal.τ).loc Cert.KernelFinal.main_arg4) = m ((c.tc : Thread Cert.KernelFinal.nD Cert.KernelFinal.τ).loc Cert.KernelFinal.main_arg4))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
      ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
      ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3)
      ∧ r.2.mem ((c.tc : Thread Cert.ReferenceFinalIdeal.nD Cert.ReferenceFinalIdeal.τ).loc Cert.ReferenceFinalIdeal.main_arg4) = m ((c.tc : Thread Cert.ReferenceFinalIdeal.nD Cert.ReferenceFinalIdeal.τ).loc Cert.ReferenceFinalIdeal.main_arg4))
      ∧ r.2.sem = fun _ => 0)

def quiescent_KernelHFwd [hKernelHFwd : Cert.KernelHFwd.Facts] : Prop :=
  ∀ (m : (ℓ : Loc Cert.KernelHFwd.nD Cert.KernelHFwd.τ Cert.KernelHFwd.sig) → Buf (Elt Bits) ℓ) (g : Dev Cert.KernelHFwd.nD → PrngReg), Pre_KernelHFwd m →
    θ_run (Cert.KernelHFwd.defs (F := Bits)) (onTc (τ := Cert.KernelHFwd.τ) (Cert.KernelHFwd.main (F := Bits))) ⟨m, fun _ => 0, g⟩ (fun r => (∀ c : Dev Cert.KernelHFwd.nD,
      r.2.mem ((c.tc : Thread Cert.KernelHFwd.nD Cert.KernelHFwd.τ).loc Cert.KernelHFwd.main_arg0) = m ((c.tc : Thread Cert.KernelHFwd.nD Cert.KernelHFwd.τ).loc Cert.KernelHFwd.main_arg0)
      ∧ r.2.mem ((c.tc : Thread Cert.KernelHFwd.nD Cert.KernelHFwd.τ).loc Cert.KernelHFwd.main_arg1) = m ((c.tc : Thread Cert.KernelHFwd.nD Cert.KernelHFwd.τ).loc Cert.KernelHFwd.main_arg1)
      ∧ r.2.mem ((c.tc : Thread Cert.KernelHFwd.nD Cert.KernelHFwd.τ).loc Cert.KernelHFwd.main_arg2) = m ((c.tc : Thread Cert.KernelHFwd.nD Cert.KernelHFwd.τ).loc Cert.KernelHFwd.main_arg2)
      ∧ r.2.mem ((c.tc : Thread Cert.KernelHFwd.nD Cert.KernelHFwd.τ).loc Cert.KernelHFwd.main_arg3) = m ((c.tc : Thread Cert.KernelHFwd.nD Cert.KernelHFwd.τ).loc Cert.KernelHFwd.main_arg3))
      ∧ r.2.sem = fun _ => 0)

def quiescent_KernelHFwdIdeal [hKernelHFwdIdeal : Cert.KernelHFwdIdeal.Facts] : Prop :=
  ∀ (m : (ℓ : Loc Cert.KernelHFwdIdeal.nD Cert.KernelHFwdIdeal.τ Cert.KernelHFwdIdeal.sig) → Buf (Elt Ideal) ℓ) (g : Dev Cert.KernelHFwdIdeal.nD → PrngReg), Pre_KernelHFwdIdeal m →
    θ_run (Cert.KernelHFwdIdeal.defs (F := Ideal)) (onTc (τ := Cert.KernelHFwdIdeal.τ) (Cert.KernelHFwdIdeal.main (F := Ideal))) ⟨m, fun _ => 0, g⟩ (fun r => (∀ c : Dev Cert.KernelHFwdIdeal.nD,
      r.2.mem ((c.tc : Thread Cert.KernelHFwdIdeal.nD Cert.KernelHFwdIdeal.τ).loc Cert.KernelHFwdIdeal.main_arg0) = m ((c.tc : Thread Cert.KernelHFwdIdeal.nD Cert.KernelHFwdIdeal.τ).loc Cert.KernelHFwdIdeal.main_arg0)
      ∧ r.2.mem ((c.tc : Thread Cert.KernelHFwdIdeal.nD Cert.KernelHFwdIdeal.τ).loc Cert.KernelHFwdIdeal.main_arg1) = m ((c.tc : Thread Cert.KernelHFwdIdeal.nD Cert.KernelHFwdIdeal.τ).loc Cert.KernelHFwdIdeal.main_arg1)
      ∧ r.2.mem ((c.tc : Thread Cert.KernelHFwdIdeal.nD Cert.KernelHFwdIdeal.τ).loc Cert.KernelHFwdIdeal.main_arg2) = m ((c.tc : Thread Cert.KernelHFwdIdeal.nD Cert.KernelHFwdIdeal.τ).loc Cert.KernelHFwdIdeal.main_arg2)
      ∧ r.2.mem ((c.tc : Thread Cert.KernelHFwdIdeal.nD Cert.KernelHFwdIdeal.τ).loc Cert.KernelHFwdIdeal.main_arg3) = m ((c.tc : Thread Cert.KernelHFwdIdeal.nD Cert.KernelHFwdIdeal.τ).loc Cert.KernelHFwdIdeal.main_arg3))
      ∧ r.2.sem = fun _ => 0)

def quiescent_ReferenceHFwdIdeal [hReferenceHFwdIdeal : Cert.ReferenceHFwdIdeal.Facts] : Prop :=
  ∀ (m : (ℓ : Loc Cert.ReferenceHFwdIdeal.nD Cert.ReferenceHFwdIdeal.τ Cert.ReferenceHFwdIdeal.sig) → Buf (Elt Ideal) ℓ) (g : Dev Cert.ReferenceHFwdIdeal.nD → PrngReg), Pre_ReferenceHFwdIdeal m →
    θ_run (Cert.ReferenceHFwdIdeal.defs (F := Ideal)) (onTc (τ := Cert.ReferenceHFwdIdeal.τ) (Cert.ReferenceHFwdIdeal.main (F := Ideal))) ⟨m, fun _ => 0, g⟩ (fun r => (∀ c : Dev Cert.ReferenceHFwdIdeal.nD,
      r.2.mem ((c.tc : Thread Cert.ReferenceHFwdIdeal.nD Cert.ReferenceHFwdIdeal.τ).loc Cert.ReferenceHFwdIdeal.main_arg0) = m ((c.tc : Thread Cert.ReferenceHFwdIdeal.nD Cert.ReferenceHFwdIdeal.τ).loc Cert.ReferenceHFwdIdeal.main_arg0)
      ∧ r.2.mem ((c.tc : Thread Cert.ReferenceHFwdIdeal.nD Cert.ReferenceHFwdIdeal.τ).loc Cert.ReferenceHFwdIdeal.main_arg1) = m ((c.tc : Thread Cert.ReferenceHFwdIdeal.nD Cert.ReferenceHFwdIdeal.τ).loc Cert.ReferenceHFwdIdeal.main_arg1)
      ∧ r.2.mem ((c.tc : Thread Cert.ReferenceHFwdIdeal.nD Cert.ReferenceHFwdIdeal.τ).loc Cert.ReferenceHFwdIdeal.main_arg2) = m ((c.tc : Thread Cert.ReferenceHFwdIdeal.nD Cert.ReferenceHFwdIdeal.τ).loc Cert.ReferenceHFwdIdeal.main_arg2)
      ∧ r.2.mem ((c.tc : Thread Cert.ReferenceHFwdIdeal.nD Cert.ReferenceHFwdIdeal.τ).loc Cert.ReferenceHFwdIdeal.main_arg3) = m ((c.tc : Thread Cert.ReferenceHFwdIdeal.nD Cert.ReferenceHFwdIdeal.τ).loc Cert.ReferenceHFwdIdeal.main_arg3))
      ∧ r.2.sem = fun _ => 0)

def quiescent_KernelMergeFwd [hKernelMergeFwd : Cert.KernelMergeFwd.Facts] : Prop :=
  ∀ (m : (ℓ : Loc Cert.KernelMergeFwd.nD Cert.KernelMergeFwd.τ Cert.KernelMergeFwd.sig) → Buf (Elt Bits) ℓ) (g : Dev Cert.KernelMergeFwd.nD → PrngReg), Pre_KernelMergeFwd m →
    θ_run (Cert.KernelMergeFwd.defs (F := Bits)) (onTc (τ := Cert.KernelMergeFwd.τ) (Cert.KernelMergeFwd.main (F := Bits))) ⟨m, fun _ => 0, g⟩ (fun r => (∀ c : Dev Cert.KernelMergeFwd.nD,
      r.2.mem ((c.tc : Thread Cert.KernelMergeFwd.nD Cert.KernelMergeFwd.τ).loc Cert.KernelMergeFwd.main_arg0) = m ((c.tc : Thread Cert.KernelMergeFwd.nD Cert.KernelMergeFwd.τ).loc Cert.KernelMergeFwd.main_arg0)
      ∧ r.2.mem ((c.tc : Thread Cert.KernelMergeFwd.nD Cert.KernelMergeFwd.τ).loc Cert.KernelMergeFwd.main_arg1) = m ((c.tc : Thread Cert.KernelMergeFwd.nD Cert.KernelMergeFwd.τ).loc Cert.KernelMergeFwd.main_arg1)
      ∧ r.2.mem ((c.tc : Thread Cert.KernelMergeFwd.nD Cert.KernelMergeFwd.τ).loc Cert.KernelMergeFwd.main_arg2) = m ((c.tc : Thread Cert.KernelMergeFwd.nD Cert.KernelMergeFwd.τ).loc Cert.KernelMergeFwd.main_arg2))
      ∧ r.2.sem = fun _ => 0)

def quiescent_KernelMergeFwdIdeal [hKernelMergeFwdIdeal : Cert.KernelMergeFwdIdeal.Facts] : Prop :=
  ∀ (m : (ℓ : Loc Cert.KernelMergeFwdIdeal.nD Cert.KernelMergeFwdIdeal.τ Cert.KernelMergeFwdIdeal.sig) → Buf (Elt Ideal) ℓ) (g : Dev Cert.KernelMergeFwdIdeal.nD → PrngReg), Pre_KernelMergeFwdIdeal m →
    θ_run (Cert.KernelMergeFwdIdeal.defs (F := Ideal)) (onTc (τ := Cert.KernelMergeFwdIdeal.τ) (Cert.KernelMergeFwdIdeal.main (F := Ideal))) ⟨m, fun _ => 0, g⟩ (fun r => (∀ c : Dev Cert.KernelMergeFwdIdeal.nD,
      r.2.mem ((c.tc : Thread Cert.KernelMergeFwdIdeal.nD Cert.KernelMergeFwdIdeal.τ).loc Cert.KernelMergeFwdIdeal.main_arg0) = m ((c.tc : Thread Cert.KernelMergeFwdIdeal.nD Cert.KernelMergeFwdIdeal.τ).loc Cert.KernelMergeFwdIdeal.main_arg0)
      ∧ r.2.mem ((c.tc : Thread Cert.KernelMergeFwdIdeal.nD Cert.KernelMergeFwdIdeal.τ).loc Cert.KernelMergeFwdIdeal.main_arg1) = m ((c.tc : Thread Cert.KernelMergeFwdIdeal.nD Cert.KernelMergeFwdIdeal.τ).loc Cert.KernelMergeFwdIdeal.main_arg1)
      ∧ r.2.mem ((c.tc : Thread Cert.KernelMergeFwdIdeal.nD Cert.KernelMergeFwdIdeal.τ).loc Cert.KernelMergeFwdIdeal.main_arg2) = m ((c.tc : Thread Cert.KernelMergeFwdIdeal.nD Cert.KernelMergeFwdIdeal.τ).loc Cert.KernelMergeFwdIdeal.main_arg2))
      ∧ r.2.sem = fun _ => 0)

def quiescent_ReferenceMergeFwdIdeal [hReferenceMergeFwdIdeal : Cert.ReferenceMergeFwdIdeal.Facts] : Prop :=
  ∀ (m : (ℓ : Loc Cert.ReferenceMergeFwdIdeal.nD Cert.ReferenceMergeFwdIdeal.τ Cert.ReferenceMergeFwdIdeal.sig) → Buf (Elt Ideal) ℓ) (g : Dev Cert.ReferenceMergeFwdIdeal.nD → PrngReg), Pre_ReferenceMergeFwdIdeal m →
    θ_run (Cert.ReferenceMergeFwdIdeal.defs (F := Ideal)) (onTc (τ := Cert.ReferenceMergeFwdIdeal.τ) (Cert.ReferenceMergeFwdIdeal.main (F := Ideal))) ⟨m, fun _ => 0, g⟩ (fun r => (∀ c : Dev Cert.ReferenceMergeFwdIdeal.nD,
      r.2.mem ((c.tc : Thread Cert.ReferenceMergeFwdIdeal.nD Cert.ReferenceMergeFwdIdeal.τ).loc Cert.ReferenceMergeFwdIdeal.main_arg0) = m ((c.tc : Thread Cert.ReferenceMergeFwdIdeal.nD Cert.ReferenceMergeFwdIdeal.τ).loc Cert.ReferenceMergeFwdIdeal.main_arg0)
      ∧ r.2.mem ((c.tc : Thread Cert.ReferenceMergeFwdIdeal.nD Cert.ReferenceMergeFwdIdeal.τ).loc Cert.ReferenceMergeFwdIdeal.main_arg1) = m ((c.tc : Thread Cert.ReferenceMergeFwdIdeal.nD Cert.ReferenceMergeFwdIdeal.τ).loc Cert.ReferenceMergeFwdIdeal.main_arg1)
      ∧ r.2.mem ((c.tc : Thread Cert.ReferenceMergeFwdIdeal.nD Cert.ReferenceMergeFwdIdeal.τ).loc Cert.ReferenceMergeFwdIdeal.main_arg2) = m ((c.tc : Thread Cert.ReferenceMergeFwdIdeal.nD Cert.ReferenceMergeFwdIdeal.τ).loc Cert.ReferenceMergeFwdIdeal.main_arg2))
      ∧ r.2.sem = fun _ => 0)

def quiescent_KernelPostFwd [hKernelPostFwd : Cert.KernelPostFwd.Facts] : Prop :=
  ∀ (m : (ℓ : Loc Cert.KernelPostFwd.nD Cert.KernelPostFwd.τ Cert.KernelPostFwd.sig) → Buf (Elt Bits) ℓ) (g : Dev Cert.KernelPostFwd.nD → PrngReg), Pre_KernelPostFwd m →
    θ_run (Cert.KernelPostFwd.defs (F := Bits)) (onTc (τ := Cert.KernelPostFwd.τ) (Cert.KernelPostFwd.main (F := Bits))) ⟨m, fun _ => 0, g⟩ (fun r => (∀ c : Dev Cert.KernelPostFwd.nD,
      r.2.mem ((c.tc : Thread Cert.KernelPostFwd.nD Cert.KernelPostFwd.τ).loc Cert.KernelPostFwd.main_arg0) = m ((c.tc : Thread Cert.KernelPostFwd.nD Cert.KernelPostFwd.τ).loc Cert.KernelPostFwd.main_arg0)
      ∧ r.2.mem ((c.tc : Thread Cert.KernelPostFwd.nD Cert.KernelPostFwd.τ).loc Cert.KernelPostFwd.main_arg1) = m ((c.tc : Thread Cert.KernelPostFwd.nD Cert.KernelPostFwd.τ).loc Cert.KernelPostFwd.main_arg1)
      ∧ r.2.mem ((c.tc : Thread Cert.KernelPostFwd.nD Cert.KernelPostFwd.τ).loc Cert.KernelPostFwd.main_arg2) = m ((c.tc : Thread Cert.KernelPostFwd.nD Cert.KernelPostFwd.τ).loc Cert.KernelPostFwd.main_arg2)
      ∧ r.2.mem ((c.tc : Thread Cert.KernelPostFwd.nD Cert.KernelPostFwd.τ).loc Cert.KernelPostFwd.main_arg3) = m ((c.tc : Thread Cert.KernelPostFwd.nD Cert.KernelPostFwd.τ).loc Cert.KernelPostFwd.main_arg3))
      ∧ r.2.sem = fun _ => 0)

def quiescent_KernelPostFwdIdeal [hKernelPostFwdIdeal : Cert.KernelPostFwdIdeal.Facts] : Prop :=
  ∀ (m : (ℓ : Loc Cert.KernelPostFwdIdeal.nD Cert.KernelPostFwdIdeal.τ Cert.KernelPostFwdIdeal.sig) → Buf (Elt Ideal) ℓ) (g : Dev Cert.KernelPostFwdIdeal.nD → PrngReg), Pre_KernelPostFwdIdeal m →
    θ_run (Cert.KernelPostFwdIdeal.defs (F := Ideal)) (onTc (τ := Cert.KernelPostFwdIdeal.τ) (Cert.KernelPostFwdIdeal.main (F := Ideal))) ⟨m, fun _ => 0, g⟩ (fun r => (∀ c : Dev Cert.KernelPostFwdIdeal.nD,
      r.2.mem ((c.tc : Thread Cert.KernelPostFwdIdeal.nD Cert.KernelPostFwdIdeal.τ).loc Cert.KernelPostFwdIdeal.main_arg0) = m ((c.tc : Thread Cert.KernelPostFwdIdeal.nD Cert.KernelPostFwdIdeal.τ).loc Cert.KernelPostFwdIdeal.main_arg0)
      ∧ r.2.mem ((c.tc : Thread Cert.KernelPostFwdIdeal.nD Cert.KernelPostFwdIdeal.τ).loc Cert.KernelPostFwdIdeal.main_arg1) = m ((c.tc : Thread Cert.KernelPostFwdIdeal.nD Cert.KernelPostFwdIdeal.τ).loc Cert.KernelPostFwdIdeal.main_arg1)
      ∧ r.2.mem ((c.tc : Thread Cert.KernelPostFwdIdeal.nD Cert.KernelPostFwdIdeal.τ).loc Cert.KernelPostFwdIdeal.main_arg2) = m ((c.tc : Thread Cert.KernelPostFwdIdeal.nD Cert.KernelPostFwdIdeal.τ).loc Cert.KernelPostFwdIdeal.main_arg2)
      ∧ r.2.mem ((c.tc : Thread Cert.KernelPostFwdIdeal.nD Cert.KernelPostFwdIdeal.τ).loc Cert.KernelPostFwdIdeal.main_arg3) = m ((c.tc : Thread Cert.KernelPostFwdIdeal.nD Cert.KernelPostFwdIdeal.τ).loc Cert.KernelPostFwdIdeal.main_arg3))
      ∧ r.2.sem = fun _ => 0)

def quiescent_ReferencePostFwdIdeal [hReferencePostFwdIdeal : Cert.ReferencePostFwdIdeal.Facts] : Prop :=
  ∀ (m : (ℓ : Loc Cert.ReferencePostFwdIdeal.nD Cert.ReferencePostFwdIdeal.τ Cert.ReferencePostFwdIdeal.sig) → Buf (Elt Ideal) ℓ) (g : Dev Cert.ReferencePostFwdIdeal.nD → PrngReg), Pre_ReferencePostFwdIdeal m →
    θ_run (Cert.ReferencePostFwdIdeal.defs (F := Ideal)) (onTc (τ := Cert.ReferencePostFwdIdeal.τ) (Cert.ReferencePostFwdIdeal.main (F := Ideal))) ⟨m, fun _ => 0, g⟩ (fun r => (∀ c : Dev Cert.ReferencePostFwdIdeal.nD,
      r.2.mem ((c.tc : Thread Cert.ReferencePostFwdIdeal.nD Cert.ReferencePostFwdIdeal.τ).loc Cert.ReferencePostFwdIdeal.main_arg0) = m ((c.tc : Thread Cert.ReferencePostFwdIdeal.nD Cert.ReferencePostFwdIdeal.τ).loc Cert.ReferencePostFwdIdeal.main_arg0)
      ∧ r.2.mem ((c.tc : Thread Cert.ReferencePostFwdIdeal.nD Cert.ReferencePostFwdIdeal.τ).loc Cert.ReferencePostFwdIdeal.main_arg1) = m ((c.tc : Thread Cert.ReferencePostFwdIdeal.nD Cert.ReferencePostFwdIdeal.τ).loc Cert.ReferencePostFwdIdeal.main_arg1)
      ∧ r.2.mem ((c.tc : Thread Cert.ReferencePostFwdIdeal.nD Cert.ReferencePostFwdIdeal.τ).loc Cert.ReferencePostFwdIdeal.main_arg2) = m ((c.tc : Thread Cert.ReferencePostFwdIdeal.nD Cert.ReferencePostFwdIdeal.τ).loc Cert.ReferencePostFwdIdeal.main_arg2)
      ∧ r.2.mem ((c.tc : Thread Cert.ReferencePostFwdIdeal.nD Cert.ReferencePostFwdIdeal.τ).loc Cert.ReferencePostFwdIdeal.main_arg3) = m ((c.tc : Thread Cert.ReferencePostFwdIdeal.nD Cert.ReferencePostFwdIdeal.τ).loc Cert.ReferencePostFwdIdeal.main_arg3))
      ∧ r.2.sem = fun _ => 0)

def quiescent_KernelSilu [hKernelSilu : Cert.KernelSilu.Facts] : Prop :=
  ∀ (m : (ℓ : Loc Cert.KernelSilu.nD Cert.KernelSilu.τ Cert.KernelSilu.sig) → Buf (Elt Bits) ℓ) (g : Dev Cert.KernelSilu.nD → PrngReg), Pre_KernelSilu m →
    θ_run (Cert.KernelSilu.defs (F := Bits)) (onTc (τ := Cert.KernelSilu.τ) (Cert.KernelSilu.main (F := Bits))) ⟨m, fun _ => 0, g⟩ (fun r => (∀ c : Dev Cert.KernelSilu.nD,
      r.2.mem ((c.tc : Thread Cert.KernelSilu.nD Cert.KernelSilu.τ).loc Cert.KernelSilu.main_arg0) = m ((c.tc : Thread Cert.KernelSilu.nD Cert.KernelSilu.τ).loc Cert.KernelSilu.main_arg0))
      ∧ r.2.sem = fun _ => 0)

def quiescent_KernelSiluIdeal [hKernelSiluIdeal : Cert.KernelSiluIdeal.Facts] : Prop :=
  ∀ (m : (ℓ : Loc Cert.KernelSiluIdeal.nD Cert.KernelSiluIdeal.τ Cert.KernelSiluIdeal.sig) → Buf (Elt Ideal) ℓ) (g : Dev Cert.KernelSiluIdeal.nD → PrngReg), Pre_KernelSiluIdeal m →
    θ_run (Cert.KernelSiluIdeal.defs (F := Ideal)) (onTc (τ := Cert.KernelSiluIdeal.τ) (Cert.KernelSiluIdeal.main (F := Ideal))) ⟨m, fun _ => 0, g⟩ (fun r => (∀ c : Dev Cert.KernelSiluIdeal.nD,
      r.2.mem ((c.tc : Thread Cert.KernelSiluIdeal.nD Cert.KernelSiluIdeal.τ).loc Cert.KernelSiluIdeal.main_arg0) = m ((c.tc : Thread Cert.KernelSiluIdeal.nD Cert.KernelSiluIdeal.τ).loc Cert.KernelSiluIdeal.main_arg0))
      ∧ r.2.sem = fun _ => 0)

def quiescent_ReferenceSiluIdeal [hReferenceSiluIdeal : Cert.ReferenceSiluIdeal.Facts] : Prop :=
  ∀ (m : (ℓ : Loc Cert.ReferenceSiluIdeal.nD Cert.ReferenceSiluIdeal.τ Cert.ReferenceSiluIdeal.sig) → Buf (Elt Ideal) ℓ) (g : Dev Cert.ReferenceSiluIdeal.nD → PrngReg), Pre_ReferenceSiluIdeal m →
    θ_run (Cert.ReferenceSiluIdeal.defs (F := Ideal)) (onTc (τ := Cert.ReferenceSiluIdeal.τ) (Cert.ReferenceSiluIdeal.main (F := Ideal))) ⟨m, fun _ => 0, g⟩ (fun r => (∀ c : Dev Cert.ReferenceSiluIdeal.nD,
      r.2.mem ((c.tc : Thread Cert.ReferenceSiluIdeal.nD Cert.ReferenceSiluIdeal.τ).loc Cert.ReferenceSiluIdeal.main_arg0) = m ((c.tc : Thread Cert.ReferenceSiluIdeal.nD Cert.ReferenceSiluIdeal.τ).loc Cert.ReferenceSiluIdeal.main_arg0))
      ∧ r.2.sem = fun _ => 0)

def quiescent_KernelSiluBwd [hKernelSiluBwd : Cert.KernelSiluBwd.Facts] : Prop :=
  ∀ (m : (ℓ : Loc Cert.KernelSiluBwd.nD Cert.KernelSiluBwd.τ Cert.KernelSiluBwd.sig) → Buf (Elt Bits) ℓ) (g : Dev Cert.KernelSiluBwd.nD → PrngReg), Pre_KernelSiluBwd m →
    θ_run (Cert.KernelSiluBwd.defs (F := Bits)) (onTc (τ := Cert.KernelSiluBwd.τ) (Cert.KernelSiluBwd.main (F := Bits))) ⟨m, fun _ => 0, g⟩ (fun r => (∀ c : Dev Cert.KernelSiluBwd.nD,
      r.2.mem ((c.tc : Thread Cert.KernelSiluBwd.nD Cert.KernelSiluBwd.τ).loc Cert.KernelSiluBwd.main_arg0) = m ((c.tc : Thread Cert.KernelSiluBwd.nD Cert.KernelSiluBwd.τ).loc Cert.KernelSiluBwd.main_arg0)
      ∧ r.2.mem ((c.tc : Thread Cert.KernelSiluBwd.nD Cert.KernelSiluBwd.τ).loc Cert.KernelSiluBwd.main_arg1) = m ((c.tc : Thread Cert.KernelSiluBwd.nD Cert.KernelSiluBwd.τ).loc Cert.KernelSiluBwd.main_arg1))
      ∧ r.2.sem = fun _ => 0)

def quiescent_KernelSiluBwdIdeal [hKernelSiluBwdIdeal : Cert.KernelSiluBwdIdeal.Facts] : Prop :=
  ∀ (m : (ℓ : Loc Cert.KernelSiluBwdIdeal.nD Cert.KernelSiluBwdIdeal.τ Cert.KernelSiluBwdIdeal.sig) → Buf (Elt Ideal) ℓ) (g : Dev Cert.KernelSiluBwdIdeal.nD → PrngReg), Pre_KernelSiluBwdIdeal m →
    θ_run (Cert.KernelSiluBwdIdeal.defs (F := Ideal)) (onTc (τ := Cert.KernelSiluBwdIdeal.τ) (Cert.KernelSiluBwdIdeal.main (F := Ideal))) ⟨m, fun _ => 0, g⟩ (fun r => (∀ c : Dev Cert.KernelSiluBwdIdeal.nD,
      r.2.mem ((c.tc : Thread Cert.KernelSiluBwdIdeal.nD Cert.KernelSiluBwdIdeal.τ).loc Cert.KernelSiluBwdIdeal.main_arg0) = m ((c.tc : Thread Cert.KernelSiluBwdIdeal.nD Cert.KernelSiluBwdIdeal.τ).loc Cert.KernelSiluBwdIdeal.main_arg0)
      ∧ r.2.mem ((c.tc : Thread Cert.KernelSiluBwdIdeal.nD Cert.KernelSiluBwdIdeal.τ).loc Cert.KernelSiluBwdIdeal.main_arg1) = m ((c.tc : Thread Cert.KernelSiluBwdIdeal.nD Cert.KernelSiluBwdIdeal.τ).loc Cert.KernelSiluBwdIdeal.main_arg1))
      ∧ r.2.sem = fun _ => 0)

def quiescent_ReferenceSiluBwdIdeal [hReferenceSiluBwdIdeal : Cert.ReferenceSiluBwdIdeal.Facts] : Prop :=
  ∀ (m : (ℓ : Loc Cert.ReferenceSiluBwdIdeal.nD Cert.ReferenceSiluBwdIdeal.τ Cert.ReferenceSiluBwdIdeal.sig) → Buf (Elt Ideal) ℓ) (g : Dev Cert.ReferenceSiluBwdIdeal.nD → PrngReg), Pre_ReferenceSiluBwdIdeal m →
    θ_run (Cert.ReferenceSiluBwdIdeal.defs (F := Ideal)) (onTc (τ := Cert.ReferenceSiluBwdIdeal.τ) (Cert.ReferenceSiluBwdIdeal.main (F := Ideal))) ⟨m, fun _ => 0, g⟩ (fun r => (∀ c : Dev Cert.ReferenceSiluBwdIdeal.nD,
      r.2.mem ((c.tc : Thread Cert.ReferenceSiluBwdIdeal.nD Cert.ReferenceSiluBwdIdeal.τ).loc Cert.ReferenceSiluBwdIdeal.main_arg0) = m ((c.tc : Thread Cert.ReferenceSiluBwdIdeal.nD Cert.ReferenceSiluBwdIdeal.τ).loc Cert.ReferenceSiluBwdIdeal.main_arg0)
      ∧ r.2.mem ((c.tc : Thread Cert.ReferenceSiluBwdIdeal.nD Cert.ReferenceSiluBwdIdeal.τ).loc Cert.ReferenceSiluBwdIdeal.main_arg1) = m ((c.tc : Thread Cert.ReferenceSiluBwdIdeal.nD Cert.ReferenceSiluBwdIdeal.τ).loc Cert.ReferenceSiluBwdIdeal.main_arg1))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1))
      ∧ r.2.sem = fun _ => 0)

def quiescent_KernelAdaX [hKernelAdaX : Cert.KernelAdaX.Facts] : Prop :=
  ∀ (m : (ℓ : Loc Cert.KernelAdaX.nD Cert.KernelAdaX.τ Cert.KernelAdaX.sig) → Buf (Elt Bits) ℓ) (g : Dev Cert.KernelAdaX.nD → PrngReg), Pre_KernelAdaX m →
    θ_run (Cert.KernelAdaX.defs (F := Bits)) (onTc (τ := Cert.KernelAdaX.τ) (Cert.KernelAdaX.main (F := Bits))) ⟨m, fun _ => 0, g⟩ (fun r => (∀ c : Dev Cert.KernelAdaX.nD,
      r.2.mem ((c.tc : Thread Cert.KernelAdaX.nD Cert.KernelAdaX.τ).loc Cert.KernelAdaX.main_arg0) = m ((c.tc : Thread Cert.KernelAdaX.nD Cert.KernelAdaX.τ).loc Cert.KernelAdaX.main_arg0)
      ∧ r.2.mem ((c.tc : Thread Cert.KernelAdaX.nD Cert.KernelAdaX.τ).loc Cert.KernelAdaX.main_arg1) = m ((c.tc : Thread Cert.KernelAdaX.nD Cert.KernelAdaX.τ).loc Cert.KernelAdaX.main_arg1))
      ∧ r.2.sem = fun _ => 0)

def quiescent_KernelAdaXIdeal [hKernelAdaXIdeal : Cert.KernelAdaXIdeal.Facts] : Prop :=
  ∀ (m : (ℓ : Loc Cert.KernelAdaXIdeal.nD Cert.KernelAdaXIdeal.τ Cert.KernelAdaXIdeal.sig) → Buf (Elt Ideal) ℓ) (g : Dev Cert.KernelAdaXIdeal.nD → PrngReg), Pre_KernelAdaXIdeal m →
    θ_run (Cert.KernelAdaXIdeal.defs (F := Ideal)) (onTc (τ := Cert.KernelAdaXIdeal.τ) (Cert.KernelAdaXIdeal.main (F := Ideal))) ⟨m, fun _ => 0, g⟩ (fun r => (∀ c : Dev Cert.KernelAdaXIdeal.nD,
      r.2.mem ((c.tc : Thread Cert.KernelAdaXIdeal.nD Cert.KernelAdaXIdeal.τ).loc Cert.KernelAdaXIdeal.main_arg0) = m ((c.tc : Thread Cert.KernelAdaXIdeal.nD Cert.KernelAdaXIdeal.τ).loc Cert.KernelAdaXIdeal.main_arg0)
      ∧ r.2.mem ((c.tc : Thread Cert.KernelAdaXIdeal.nD Cert.KernelAdaXIdeal.τ).loc Cert.KernelAdaXIdeal.main_arg1) = m ((c.tc : Thread Cert.KernelAdaXIdeal.nD Cert.KernelAdaXIdeal.τ).loc Cert.KernelAdaXIdeal.main_arg1))
      ∧ r.2.sem = fun _ => 0)

def quiescent_ReferenceAdaXIdeal [hReferenceAdaXIdeal : Cert.ReferenceAdaXIdeal.Facts] : Prop :=
  ∀ (m : (ℓ : Loc Cert.ReferenceAdaXIdeal.nD Cert.ReferenceAdaXIdeal.τ Cert.ReferenceAdaXIdeal.sig) → Buf (Elt Ideal) ℓ) (g : Dev Cert.ReferenceAdaXIdeal.nD → PrngReg), Pre_ReferenceAdaXIdeal m →
    θ_run (Cert.ReferenceAdaXIdeal.defs (F := Ideal)) (onTc (τ := Cert.ReferenceAdaXIdeal.τ) (Cert.ReferenceAdaXIdeal.main (F := Ideal))) ⟨m, fun _ => 0, g⟩ (fun r => (∀ c : Dev Cert.ReferenceAdaXIdeal.nD,
      r.2.mem ((c.tc : Thread Cert.ReferenceAdaXIdeal.nD Cert.ReferenceAdaXIdeal.τ).loc Cert.ReferenceAdaXIdeal.main_arg0) = m ((c.tc : Thread Cert.ReferenceAdaXIdeal.nD Cert.ReferenceAdaXIdeal.τ).loc Cert.ReferenceAdaXIdeal.main_arg0)
      ∧ r.2.mem ((c.tc : Thread Cert.ReferenceAdaXIdeal.nD Cert.ReferenceAdaXIdeal.τ).loc Cert.ReferenceAdaXIdeal.main_arg1) = m ((c.tc : Thread Cert.ReferenceAdaXIdeal.nD Cert.ReferenceAdaXIdeal.τ).loc Cert.ReferenceAdaXIdeal.main_arg1))
      ∧ r.2.sem = fun _ => 0)

def quiescent_KernelRwPost [hKernelRwPost : Cert.KernelRwPost.Facts] : Prop :=
  ∀ (m : (ℓ : Loc Cert.KernelRwPost.nD Cert.KernelRwPost.τ Cert.KernelRwPost.sig) → Buf (Elt Bits) ℓ) (g : Dev Cert.KernelRwPost.nD → PrngReg), Pre_KernelRwPost m →
    θ_run (Cert.KernelRwPost.defs (F := Bits)) (onTc (τ := Cert.KernelRwPost.τ) (Cert.KernelRwPost.main (F := Bits))) ⟨m, fun _ => 0, g⟩ (fun r => (∀ c : Dev Cert.KernelRwPost.nD,
      r.2.mem ((c.tc : Thread Cert.KernelRwPost.nD Cert.KernelRwPost.τ).loc Cert.KernelRwPost.main_arg0) = m ((c.tc : Thread Cert.KernelRwPost.nD Cert.KernelRwPost.τ).loc Cert.KernelRwPost.main_arg0)
      ∧ r.2.mem ((c.tc : Thread Cert.KernelRwPost.nD Cert.KernelRwPost.τ).loc Cert.KernelRwPost.main_arg1) = m ((c.tc : Thread Cert.KernelRwPost.nD Cert.KernelRwPost.τ).loc Cert.KernelRwPost.main_arg1)
      ∧ r.2.mem ((c.tc : Thread Cert.KernelRwPost.nD Cert.KernelRwPost.τ).loc Cert.KernelRwPost.main_arg2) = m ((c.tc : Thread Cert.KernelRwPost.nD Cert.KernelRwPost.τ).loc Cert.KernelRwPost.main_arg2)
      ∧ r.2.mem ((c.tc : Thread Cert.KernelRwPost.nD Cert.KernelRwPost.τ).loc Cert.KernelRwPost.main_arg3) = m ((c.tc : Thread Cert.KernelRwPost.nD Cert.KernelRwPost.τ).loc Cert.KernelRwPost.main_arg3)
      ∧ r.2.mem ((c.tc : Thread Cert.KernelRwPost.nD Cert.KernelRwPost.τ).loc Cert.KernelRwPost.main_arg4) = m ((c.tc : Thread Cert.KernelRwPost.nD Cert.KernelRwPost.τ).loc Cert.KernelRwPost.main_arg4)
      ∧ r.2.mem ((c.tc : Thread Cert.KernelRwPost.nD Cert.KernelRwPost.τ).loc Cert.KernelRwPost.main_arg5) = m ((c.tc : Thread Cert.KernelRwPost.nD Cert.KernelRwPost.τ).loc Cert.KernelRwPost.main_arg5)
      ∧ r.2.mem ((c.tc : Thread Cert.KernelRwPost.nD Cert.KernelRwPost.τ).loc Cert.KernelRwPost.main_arg6) = m ((c.tc : Thread Cert.KernelRwPost.nD Cert.KernelRwPost.τ).loc Cert.KernelRwPost.main_arg6)
      ∧ r.2.mem ((c.tc : Thread Cert.KernelRwPost.nD Cert.KernelRwPost.τ).loc Cert.KernelRwPost.main_arg7) = m ((c.tc : Thread Cert.KernelRwPost.nD Cert.KernelRwPost.τ).loc Cert.KernelRwPost.main_arg7)
      ∧ r.2.mem ((c.tc : Thread Cert.KernelRwPost.nD Cert.KernelRwPost.τ).loc Cert.KernelRwPost.main_arg8) = m ((c.tc : Thread Cert.KernelRwPost.nD Cert.KernelRwPost.τ).loc Cert.KernelRwPost.main_arg8)
      ∧ r.2.mem ((c.tc : Thread Cert.KernelRwPost.nD Cert.KernelRwPost.τ).loc Cert.KernelRwPost.main_arg9) = m ((c.tc : Thread Cert.KernelRwPost.nD Cert.KernelRwPost.τ).loc Cert.KernelRwPost.main_arg9))
      ∧ r.2.sem = fun _ => 0)

def quiescent_KernelRwPostIdeal [hKernelRwPostIdeal : Cert.KernelRwPostIdeal.Facts] : Prop :=
  ∀ (m : (ℓ : Loc Cert.KernelRwPostIdeal.nD Cert.KernelRwPostIdeal.τ Cert.KernelRwPostIdeal.sig) → Buf (Elt Ideal) ℓ) (g : Dev Cert.KernelRwPostIdeal.nD → PrngReg), Pre_KernelRwPostIdeal m →
    θ_run (Cert.KernelRwPostIdeal.defs (F := Ideal)) (onTc (τ := Cert.KernelRwPostIdeal.τ) (Cert.KernelRwPostIdeal.main (F := Ideal))) ⟨m, fun _ => 0, g⟩ (fun r => (∀ c : Dev Cert.KernelRwPostIdeal.nD,
      r.2.mem ((c.tc : Thread Cert.KernelRwPostIdeal.nD Cert.KernelRwPostIdeal.τ).loc Cert.KernelRwPostIdeal.main_arg0) = m ((c.tc : Thread Cert.KernelRwPostIdeal.nD Cert.KernelRwPostIdeal.τ).loc Cert.KernelRwPostIdeal.main_arg0)
      ∧ r.2.mem ((c.tc : Thread Cert.KernelRwPostIdeal.nD Cert.KernelRwPostIdeal.τ).loc Cert.KernelRwPostIdeal.main_arg1) = m ((c.tc : Thread Cert.KernelRwPostIdeal.nD Cert.KernelRwPostIdeal.τ).loc Cert.KernelRwPostIdeal.main_arg1)
      ∧ r.2.mem ((c.tc : Thread Cert.KernelRwPostIdeal.nD Cert.KernelRwPostIdeal.τ).loc Cert.KernelRwPostIdeal.main_arg2) = m ((c.tc : Thread Cert.KernelRwPostIdeal.nD Cert.KernelRwPostIdeal.τ).loc Cert.KernelRwPostIdeal.main_arg2)
      ∧ r.2.mem ((c.tc : Thread Cert.KernelRwPostIdeal.nD Cert.KernelRwPostIdeal.τ).loc Cert.KernelRwPostIdeal.main_arg3) = m ((c.tc : Thread Cert.KernelRwPostIdeal.nD Cert.KernelRwPostIdeal.τ).loc Cert.KernelRwPostIdeal.main_arg3)
      ∧ r.2.mem ((c.tc : Thread Cert.KernelRwPostIdeal.nD Cert.KernelRwPostIdeal.τ).loc Cert.KernelRwPostIdeal.main_arg4) = m ((c.tc : Thread Cert.KernelRwPostIdeal.nD Cert.KernelRwPostIdeal.τ).loc Cert.KernelRwPostIdeal.main_arg4)
      ∧ r.2.mem ((c.tc : Thread Cert.KernelRwPostIdeal.nD Cert.KernelRwPostIdeal.τ).loc Cert.KernelRwPostIdeal.main_arg5) = m ((c.tc : Thread Cert.KernelRwPostIdeal.nD Cert.KernelRwPostIdeal.τ).loc Cert.KernelRwPostIdeal.main_arg5)
      ∧ r.2.mem ((c.tc : Thread Cert.KernelRwPostIdeal.nD Cert.KernelRwPostIdeal.τ).loc Cert.KernelRwPostIdeal.main_arg6) = m ((c.tc : Thread Cert.KernelRwPostIdeal.nD Cert.KernelRwPostIdeal.τ).loc Cert.KernelRwPostIdeal.main_arg6)
      ∧ r.2.mem ((c.tc : Thread Cert.KernelRwPostIdeal.nD Cert.KernelRwPostIdeal.τ).loc Cert.KernelRwPostIdeal.main_arg7) = m ((c.tc : Thread Cert.KernelRwPostIdeal.nD Cert.KernelRwPostIdeal.τ).loc Cert.KernelRwPostIdeal.main_arg7)
      ∧ r.2.mem ((c.tc : Thread Cert.KernelRwPostIdeal.nD Cert.KernelRwPostIdeal.τ).loc Cert.KernelRwPostIdeal.main_arg8) = m ((c.tc : Thread Cert.KernelRwPostIdeal.nD Cert.KernelRwPostIdeal.τ).loc Cert.KernelRwPostIdeal.main_arg8)
      ∧ r.2.mem ((c.tc : Thread Cert.KernelRwPostIdeal.nD Cert.KernelRwPostIdeal.τ).loc Cert.KernelRwPostIdeal.main_arg9) = m ((c.tc : Thread Cert.KernelRwPostIdeal.nD Cert.KernelRwPostIdeal.τ).loc Cert.KernelRwPostIdeal.main_arg9))
      ∧ r.2.sem = fun _ => 0)

def quiescent_KernelRwPostIdeal_pre_real_keys [hKernelRwPostIdeal : Cert.KernelRwPostIdeal.Facts] [hPre_real_keys : Cert.Pre_real_keys.Facts] : Prop :=
  ∀ (m : (ℓ : Loc Cert.KernelRwPostIdeal.nD Cert.KernelRwPostIdeal.τ Cert.KernelRwPostIdeal.sig) → Buf (Elt Ideal) ℓ) (g : Dev Cert.KernelRwPostIdeal.nD → PrngReg), Pre_KernelRwPostIdeal_real_keys m →
    θ_run (Cert.KernelRwPostIdeal.defs (F := Ideal)) (onTc (τ := Cert.KernelRwPostIdeal.τ) (Cert.KernelRwPostIdeal.main (F := Ideal))) ⟨m, fun _ => 0, g⟩ (fun r => (∀ c : Dev Cert.KernelRwPostIdeal.nD,
      r.2.mem ((c.tc : Thread Cert.KernelRwPostIdeal.nD Cert.KernelRwPostIdeal.τ).loc Cert.KernelRwPostIdeal.main_arg0) = m ((c.tc : Thread Cert.KernelRwPostIdeal.nD Cert.KernelRwPostIdeal.τ).loc Cert.KernelRwPostIdeal.main_arg0)
      ∧ r.2.mem ((c.tc : Thread Cert.KernelRwPostIdeal.nD Cert.KernelRwPostIdeal.τ).loc Cert.KernelRwPostIdeal.main_arg1) = m ((c.tc : Thread Cert.KernelRwPostIdeal.nD Cert.KernelRwPostIdeal.τ).loc Cert.KernelRwPostIdeal.main_arg1)
      ∧ r.2.mem ((c.tc : Thread Cert.KernelRwPostIdeal.nD Cert.KernelRwPostIdeal.τ).loc Cert.KernelRwPostIdeal.main_arg2) = m ((c.tc : Thread Cert.KernelRwPostIdeal.nD Cert.KernelRwPostIdeal.τ).loc Cert.KernelRwPostIdeal.main_arg2)
      ∧ r.2.mem ((c.tc : Thread Cert.KernelRwPostIdeal.nD Cert.KernelRwPostIdeal.τ).loc Cert.KernelRwPostIdeal.main_arg3) = m ((c.tc : Thread Cert.KernelRwPostIdeal.nD Cert.KernelRwPostIdeal.τ).loc Cert.KernelRwPostIdeal.main_arg3)
      ∧ r.2.mem ((c.tc : Thread Cert.KernelRwPostIdeal.nD Cert.KernelRwPostIdeal.τ).loc Cert.KernelRwPostIdeal.main_arg4) = m ((c.tc : Thread Cert.KernelRwPostIdeal.nD Cert.KernelRwPostIdeal.τ).loc Cert.KernelRwPostIdeal.main_arg4)
      ∧ r.2.mem ((c.tc : Thread Cert.KernelRwPostIdeal.nD Cert.KernelRwPostIdeal.τ).loc Cert.KernelRwPostIdeal.main_arg5) = m ((c.tc : Thread Cert.KernelRwPostIdeal.nD Cert.KernelRwPostIdeal.τ).loc Cert.KernelRwPostIdeal.main_arg5)
      ∧ r.2.mem ((c.tc : Thread Cert.KernelRwPostIdeal.nD Cert.KernelRwPostIdeal.τ).loc Cert.KernelRwPostIdeal.main_arg6) = m ((c.tc : Thread Cert.KernelRwPostIdeal.nD Cert.KernelRwPostIdeal.τ).loc Cert.KernelRwPostIdeal.main_arg6)
      ∧ r.2.mem ((c.tc : Thread Cert.KernelRwPostIdeal.nD Cert.KernelRwPostIdeal.τ).loc Cert.KernelRwPostIdeal.main_arg7) = m ((c.tc : Thread Cert.KernelRwPostIdeal.nD Cert.KernelRwPostIdeal.τ).loc Cert.KernelRwPostIdeal.main_arg7)
      ∧ r.2.mem ((c.tc : Thread Cert.KernelRwPostIdeal.nD Cert.KernelRwPostIdeal.τ).loc Cert.KernelRwPostIdeal.main_arg8) = m ((c.tc : Thread Cert.KernelRwPostIdeal.nD Cert.KernelRwPostIdeal.τ).loc Cert.KernelRwPostIdeal.main_arg8)
      ∧ r.2.mem ((c.tc : Thread Cert.KernelRwPostIdeal.nD Cert.KernelRwPostIdeal.τ).loc Cert.KernelRwPostIdeal.main_arg9) = m ((c.tc : Thread Cert.KernelRwPostIdeal.nD Cert.KernelRwPostIdeal.τ).loc Cert.KernelRwPostIdeal.main_arg9))
      ∧ r.2.sem = fun _ => 0)

def quiescent_ReferenceRwPostIdeal [hReferenceRwPostIdeal : Cert.ReferenceRwPostIdeal.Facts] : Prop :=
  ∀ (m : (ℓ : Loc Cert.ReferenceRwPostIdeal.nD Cert.ReferenceRwPostIdeal.τ Cert.ReferenceRwPostIdeal.sig) → Buf (Elt Ideal) ℓ) (g : Dev Cert.ReferenceRwPostIdeal.nD → PrngReg), Pre_ReferenceRwPostIdeal m →
    θ_run (Cert.ReferenceRwPostIdeal.defs (F := Ideal)) (onTc (τ := Cert.ReferenceRwPostIdeal.τ) (Cert.ReferenceRwPostIdeal.main (F := Ideal))) ⟨m, fun _ => 0, g⟩ (fun r => (∀ c : Dev Cert.ReferenceRwPostIdeal.nD,
      r.2.mem ((c.tc : Thread Cert.ReferenceRwPostIdeal.nD Cert.ReferenceRwPostIdeal.τ).loc Cert.ReferenceRwPostIdeal.main_arg0) = m ((c.tc : Thread Cert.ReferenceRwPostIdeal.nD Cert.ReferenceRwPostIdeal.τ).loc Cert.ReferenceRwPostIdeal.main_arg0)
      ∧ r.2.mem ((c.tc : Thread Cert.ReferenceRwPostIdeal.nD Cert.ReferenceRwPostIdeal.τ).loc Cert.ReferenceRwPostIdeal.main_arg1) = m ((c.tc : Thread Cert.ReferenceRwPostIdeal.nD Cert.ReferenceRwPostIdeal.τ).loc Cert.ReferenceRwPostIdeal.main_arg1)
      ∧ r.2.mem ((c.tc : Thread Cert.ReferenceRwPostIdeal.nD Cert.ReferenceRwPostIdeal.τ).loc Cert.ReferenceRwPostIdeal.main_arg2) = m ((c.tc : Thread Cert.ReferenceRwPostIdeal.nD Cert.ReferenceRwPostIdeal.τ).loc Cert.ReferenceRwPostIdeal.main_arg2)
      ∧ r.2.mem ((c.tc : Thread Cert.ReferenceRwPostIdeal.nD Cert.ReferenceRwPostIdeal.τ).loc Cert.ReferenceRwPostIdeal.main_arg3) = m ((c.tc : Thread Cert.ReferenceRwPostIdeal.nD Cert.ReferenceRwPostIdeal.τ).loc Cert.ReferenceRwPostIdeal.main_arg3)
      ∧ r.2.mem ((c.tc : Thread Cert.ReferenceRwPostIdeal.nD Cert.ReferenceRwPostIdeal.τ).loc Cert.ReferenceRwPostIdeal.main_arg4) = m ((c.tc : Thread Cert.ReferenceRwPostIdeal.nD Cert.ReferenceRwPostIdeal.τ).loc Cert.ReferenceRwPostIdeal.main_arg4)
      ∧ r.2.mem ((c.tc : Thread Cert.ReferenceRwPostIdeal.nD Cert.ReferenceRwPostIdeal.τ).loc Cert.ReferenceRwPostIdeal.main_arg5) = m ((c.tc : Thread Cert.ReferenceRwPostIdeal.nD Cert.ReferenceRwPostIdeal.τ).loc Cert.ReferenceRwPostIdeal.main_arg5)
      ∧ r.2.mem ((c.tc : Thread Cert.ReferenceRwPostIdeal.nD Cert.ReferenceRwPostIdeal.τ).loc Cert.ReferenceRwPostIdeal.main_arg6) = m ((c.tc : Thread Cert.ReferenceRwPostIdeal.nD Cert.ReferenceRwPostIdeal.τ).loc Cert.ReferenceRwPostIdeal.main_arg6)
      ∧ r.2.mem ((c.tc : Thread Cert.ReferenceRwPostIdeal.nD Cert.ReferenceRwPostIdeal.τ).loc Cert.ReferenceRwPostIdeal.main_arg7) = m ((c.tc : Thread Cert.ReferenceRwPostIdeal.nD Cert.ReferenceRwPostIdeal.τ).loc Cert.ReferenceRwPostIdeal.main_arg7)
      ∧ r.2.mem ((c.tc : Thread Cert.ReferenceRwPostIdeal.nD Cert.ReferenceRwPostIdeal.τ).loc Cert.ReferenceRwPostIdeal.main_arg8) = m ((c.tc : Thread Cert.ReferenceRwPostIdeal.nD Cert.ReferenceRwPostIdeal.τ).loc Cert.ReferenceRwPostIdeal.main_arg8)
      ∧ r.2.mem ((c.tc : Thread Cert.ReferenceRwPostIdeal.nD Cert.ReferenceRwPostIdeal.τ).loc Cert.ReferenceRwPostIdeal.main_arg9) = m ((c.tc : Thread Cert.ReferenceRwPostIdeal.nD Cert.ReferenceRwPostIdeal.τ).loc Cert.ReferenceRwPostIdeal.main_arg9))
      ∧ r.2.sem = fun _ => 0)

def quiescent_ReferenceRwPostIdeal_pre_real_keys [hReferenceRwPostIdeal : Cert.ReferenceRwPostIdeal.Facts] [hPre_real_keys : Cert.Pre_real_keys.Facts] : Prop :=
  ∀ (m : (ℓ : Loc Cert.ReferenceRwPostIdeal.nD Cert.ReferenceRwPostIdeal.τ Cert.ReferenceRwPostIdeal.sig) → Buf (Elt Ideal) ℓ) (g : Dev Cert.ReferenceRwPostIdeal.nD → PrngReg), Pre_ReferenceRwPostIdeal_real_keys m →
    θ_run (Cert.ReferenceRwPostIdeal.defs (F := Ideal)) (onTc (τ := Cert.ReferenceRwPostIdeal.τ) (Cert.ReferenceRwPostIdeal.main (F := Ideal))) ⟨m, fun _ => 0, g⟩ (fun r => (∀ c : Dev Cert.ReferenceRwPostIdeal.nD,
      r.2.mem ((c.tc : Thread Cert.ReferenceRwPostIdeal.nD Cert.ReferenceRwPostIdeal.τ).loc Cert.ReferenceRwPostIdeal.main_arg0) = m ((c.tc : Thread Cert.ReferenceRwPostIdeal.nD Cert.ReferenceRwPostIdeal.τ).loc Cert.ReferenceRwPostIdeal.main_arg0)
      ∧ r.2.mem ((c.tc : Thread Cert.ReferenceRwPostIdeal.nD Cert.ReferenceRwPostIdeal.τ).loc Cert.ReferenceRwPostIdeal.main_arg1) = m ((c.tc : Thread Cert.ReferenceRwPostIdeal.nD Cert.ReferenceRwPostIdeal.τ).loc Cert.ReferenceRwPostIdeal.main_arg1)
      ∧ r.2.mem ((c.tc : Thread Cert.ReferenceRwPostIdeal.nD Cert.ReferenceRwPostIdeal.τ).loc Cert.ReferenceRwPostIdeal.main_arg2) = m ((c.tc : Thread Cert.ReferenceRwPostIdeal.nD Cert.ReferenceRwPostIdeal.τ).loc Cert.ReferenceRwPostIdeal.main_arg2)
      ∧ r.2.mem ((c.tc : Thread Cert.ReferenceRwPostIdeal.nD Cert.ReferenceRwPostIdeal.τ).loc Cert.ReferenceRwPostIdeal.main_arg3) = m ((c.tc : Thread Cert.ReferenceRwPostIdeal.nD Cert.ReferenceRwPostIdeal.τ).loc Cert.ReferenceRwPostIdeal.main_arg3)
      ∧ r.2.mem ((c.tc : Thread Cert.ReferenceRwPostIdeal.nD Cert.ReferenceRwPostIdeal.τ).loc Cert.ReferenceRwPostIdeal.main_arg4) = m ((c.tc : Thread Cert.ReferenceRwPostIdeal.nD Cert.ReferenceRwPostIdeal.τ).loc Cert.ReferenceRwPostIdeal.main_arg4)
      ∧ r.2.mem ((c.tc : Thread Cert.ReferenceRwPostIdeal.nD Cert.ReferenceRwPostIdeal.τ).loc Cert.ReferenceRwPostIdeal.main_arg5) = m ((c.tc : Thread Cert.ReferenceRwPostIdeal.nD Cert.ReferenceRwPostIdeal.τ).loc Cert.ReferenceRwPostIdeal.main_arg5)
      ∧ r.2.mem ((c.tc : Thread Cert.ReferenceRwPostIdeal.nD Cert.ReferenceRwPostIdeal.τ).loc Cert.ReferenceRwPostIdeal.main_arg6) = m ((c.tc : Thread Cert.ReferenceRwPostIdeal.nD Cert.ReferenceRwPostIdeal.τ).loc Cert.ReferenceRwPostIdeal.main_arg6)
      ∧ r.2.mem ((c.tc : Thread Cert.ReferenceRwPostIdeal.nD Cert.ReferenceRwPostIdeal.τ).loc Cert.ReferenceRwPostIdeal.main_arg7) = m ((c.tc : Thread Cert.ReferenceRwPostIdeal.nD Cert.ReferenceRwPostIdeal.τ).loc Cert.ReferenceRwPostIdeal.main_arg7)
      ∧ r.2.mem ((c.tc : Thread Cert.ReferenceRwPostIdeal.nD Cert.ReferenceRwPostIdeal.τ).loc Cert.ReferenceRwPostIdeal.main_arg8) = m ((c.tc : Thread Cert.ReferenceRwPostIdeal.nD Cert.ReferenceRwPostIdeal.τ).loc Cert.ReferenceRwPostIdeal.main_arg8)
      ∧ r.2.mem ((c.tc : Thread Cert.ReferenceRwPostIdeal.nD Cert.ReferenceRwPostIdeal.τ).loc Cert.ReferenceRwPostIdeal.main_arg9) = m ((c.tc : Thread Cert.ReferenceRwPostIdeal.nD Cert.ReferenceRwPostIdeal.τ).loc Cert.ReferenceRwPostIdeal.main_arg9))
      ∧ r.2.sem = fun _ => 0)

def quiescent_KernelShift [hKernelShift : Cert.KernelShift.Facts] : Prop :=
  ∀ (m : (ℓ : Loc Cert.KernelShift.nD Cert.KernelShift.τ Cert.KernelShift.sig) → Buf (Elt Bits) ℓ) (g : Dev Cert.KernelShift.nD → PrngReg), Pre_KernelShift m →
    θ_run (Cert.KernelShift.defs (F := Bits)) (onTc (τ := Cert.KernelShift.τ) (Cert.KernelShift.main (F := Bits))) ⟨m, fun _ => 0, g⟩ (fun r => (∀ c : Dev Cert.KernelShift.nD,
      r.2.mem ((c.tc : Thread Cert.KernelShift.nD Cert.KernelShift.τ).loc Cert.KernelShift.main_arg0) = m ((c.tc : Thread Cert.KernelShift.nD Cert.KernelShift.τ).loc Cert.KernelShift.main_arg0)
      ∧ r.2.mem ((c.tc : Thread Cert.KernelShift.nD Cert.KernelShift.τ).loc Cert.KernelShift.main_arg1) = m ((c.tc : Thread Cert.KernelShift.nD Cert.KernelShift.τ).loc Cert.KernelShift.main_arg1))
      ∧ r.2.sem = fun _ => 0)

def quiescent_KernelShiftIdeal [hKernelShiftIdeal : Cert.KernelShiftIdeal.Facts] : Prop :=
  ∀ (m : (ℓ : Loc Cert.KernelShiftIdeal.nD Cert.KernelShiftIdeal.τ Cert.KernelShiftIdeal.sig) → Buf (Elt Ideal) ℓ) (g : Dev Cert.KernelShiftIdeal.nD → PrngReg), Pre_KernelShiftIdeal m →
    θ_run (Cert.KernelShiftIdeal.defs (F := Ideal)) (onTc (τ := Cert.KernelShiftIdeal.τ) (Cert.KernelShiftIdeal.main (F := Ideal))) ⟨m, fun _ => 0, g⟩ (fun r => (∀ c : Dev Cert.KernelShiftIdeal.nD,
      r.2.mem ((c.tc : Thread Cert.KernelShiftIdeal.nD Cert.KernelShiftIdeal.τ).loc Cert.KernelShiftIdeal.main_arg0) = m ((c.tc : Thread Cert.KernelShiftIdeal.nD Cert.KernelShiftIdeal.τ).loc Cert.KernelShiftIdeal.main_arg0)
      ∧ r.2.mem ((c.tc : Thread Cert.KernelShiftIdeal.nD Cert.KernelShiftIdeal.τ).loc Cert.KernelShiftIdeal.main_arg1) = m ((c.tc : Thread Cert.KernelShiftIdeal.nD Cert.KernelShiftIdeal.τ).loc Cert.KernelShiftIdeal.main_arg1))
      ∧ r.2.sem = fun _ => 0)

def quiescent_ReferenceShiftIdeal [hReferenceShiftIdeal : Cert.ReferenceShiftIdeal.Facts] : Prop :=
  ∀ (m : (ℓ : Loc Cert.ReferenceShiftIdeal.nD Cert.ReferenceShiftIdeal.τ Cert.ReferenceShiftIdeal.sig) → Buf (Elt Ideal) ℓ) (g : Dev Cert.ReferenceShiftIdeal.nD → PrngReg), Pre_ReferenceShiftIdeal m →
    θ_run (Cert.ReferenceShiftIdeal.defs (F := Ideal)) (onTc (τ := Cert.ReferenceShiftIdeal.τ) (Cert.ReferenceShiftIdeal.main (F := Ideal))) ⟨m, fun _ => 0, g⟩ (fun r => (∀ c : Dev Cert.ReferenceShiftIdeal.nD,
      r.2.mem ((c.tc : Thread Cert.ReferenceShiftIdeal.nD Cert.ReferenceShiftIdeal.τ).loc Cert.ReferenceShiftIdeal.main_arg0) = m ((c.tc : Thread Cert.ReferenceShiftIdeal.nD Cert.ReferenceShiftIdeal.τ).loc Cert.ReferenceShiftIdeal.main_arg0)
      ∧ r.2.mem ((c.tc : Thread Cert.ReferenceShiftIdeal.nD Cert.ReferenceShiftIdeal.τ).loc Cert.ReferenceShiftIdeal.main_arg1) = m ((c.tc : Thread Cert.ReferenceShiftIdeal.nD Cert.ReferenceShiftIdeal.τ).loc Cert.ReferenceShiftIdeal.main_arg1))
      ∧ r.2.sem = fun _ => 0)

def quiescent_KernelShiftBwd [hKernelShiftBwd : Cert.KernelShiftBwd.Facts] : Prop :=
  ∀ (m : (ℓ : Loc Cert.KernelShiftBwd.nD Cert.KernelShiftBwd.τ Cert.KernelShiftBwd.sig) → Buf (Elt Bits) ℓ) (g : Dev Cert.KernelShiftBwd.nD → PrngReg), Pre_KernelShiftBwd m →
    θ_run (Cert.KernelShiftBwd.defs (F := Bits)) (onTc (τ := Cert.KernelShiftBwd.τ) (Cert.KernelShiftBwd.main (F := Bits))) ⟨m, fun _ => 0, g⟩ (fun r => (∀ c : Dev Cert.KernelShiftBwd.nD,
      r.2.mem ((c.tc : Thread Cert.KernelShiftBwd.nD Cert.KernelShiftBwd.τ).loc Cert.KernelShiftBwd.main_arg0) = m ((c.tc : Thread Cert.KernelShiftBwd.nD Cert.KernelShiftBwd.τ).loc Cert.KernelShiftBwd.main_arg0)
      ∧ r.2.mem ((c.tc : Thread Cert.KernelShiftBwd.nD Cert.KernelShiftBwd.τ).loc Cert.KernelShiftBwd.main_arg1) = m ((c.tc : Thread Cert.KernelShiftBwd.nD Cert.KernelShiftBwd.τ).loc Cert.KernelShiftBwd.main_arg1)
      ∧ r.2.mem ((c.tc : Thread Cert.KernelShiftBwd.nD Cert.KernelShiftBwd.τ).loc Cert.KernelShiftBwd.main_arg2) = m ((c.tc : Thread Cert.KernelShiftBwd.nD Cert.KernelShiftBwd.τ).loc Cert.KernelShiftBwd.main_arg2)
      ∧ r.2.mem ((c.tc : Thread Cert.KernelShiftBwd.nD Cert.KernelShiftBwd.τ).loc Cert.KernelShiftBwd.main_arg3) = m ((c.tc : Thread Cert.KernelShiftBwd.nD Cert.KernelShiftBwd.τ).loc Cert.KernelShiftBwd.main_arg3)
      ∧ r.2.mem ((c.tc : Thread Cert.KernelShiftBwd.nD Cert.KernelShiftBwd.τ).loc Cert.KernelShiftBwd.main_arg4) = m ((c.tc : Thread Cert.KernelShiftBwd.nD Cert.KernelShiftBwd.τ).loc Cert.KernelShiftBwd.main_arg4))
      ∧ r.2.sem = fun _ => 0)

def quiescent_KernelShiftBwdIdeal [hKernelShiftBwdIdeal : Cert.KernelShiftBwdIdeal.Facts] : Prop :=
  ∀ (m : (ℓ : Loc Cert.KernelShiftBwdIdeal.nD Cert.KernelShiftBwdIdeal.τ Cert.KernelShiftBwdIdeal.sig) → Buf (Elt Ideal) ℓ) (g : Dev Cert.KernelShiftBwdIdeal.nD → PrngReg), Pre_KernelShiftBwdIdeal m →
    θ_run (Cert.KernelShiftBwdIdeal.defs (F := Ideal)) (onTc (τ := Cert.KernelShiftBwdIdeal.τ) (Cert.KernelShiftBwdIdeal.main (F := Ideal))) ⟨m, fun _ => 0, g⟩ (fun r => (∀ c : Dev Cert.KernelShiftBwdIdeal.nD,
      r.2.mem ((c.tc : Thread Cert.KernelShiftBwdIdeal.nD Cert.KernelShiftBwdIdeal.τ).loc Cert.KernelShiftBwdIdeal.main_arg0) = m ((c.tc : Thread Cert.KernelShiftBwdIdeal.nD Cert.KernelShiftBwdIdeal.τ).loc Cert.KernelShiftBwdIdeal.main_arg0)
      ∧ r.2.mem ((c.tc : Thread Cert.KernelShiftBwdIdeal.nD Cert.KernelShiftBwdIdeal.τ).loc Cert.KernelShiftBwdIdeal.main_arg1) = m ((c.tc : Thread Cert.KernelShiftBwdIdeal.nD Cert.KernelShiftBwdIdeal.τ).loc Cert.KernelShiftBwdIdeal.main_arg1)
      ∧ r.2.mem ((c.tc : Thread Cert.KernelShiftBwdIdeal.nD Cert.KernelShiftBwdIdeal.τ).loc Cert.KernelShiftBwdIdeal.main_arg2) = m ((c.tc : Thread Cert.KernelShiftBwdIdeal.nD Cert.KernelShiftBwdIdeal.τ).loc Cert.KernelShiftBwdIdeal.main_arg2)
      ∧ r.2.mem ((c.tc : Thread Cert.KernelShiftBwdIdeal.nD Cert.KernelShiftBwdIdeal.τ).loc Cert.KernelShiftBwdIdeal.main_arg3) = m ((c.tc : Thread Cert.KernelShiftBwdIdeal.nD Cert.KernelShiftBwdIdeal.τ).loc Cert.KernelShiftBwdIdeal.main_arg3)
      ∧ r.2.mem ((c.tc : Thread Cert.KernelShiftBwdIdeal.nD Cert.KernelShiftBwdIdeal.τ).loc Cert.KernelShiftBwdIdeal.main_arg4) = m ((c.tc : Thread Cert.KernelShiftBwdIdeal.nD Cert.KernelShiftBwdIdeal.τ).loc Cert.KernelShiftBwdIdeal.main_arg4))
      ∧ r.2.sem = fun _ => 0)

def quiescent_KernelShiftBwdIdeal_pre_real_shift [hKernelShiftBwdIdeal : Cert.KernelShiftBwdIdeal.Facts] [hPre_real_shift : Cert.Pre_real_shift.Facts] : Prop :=
  ∀ (m : (ℓ : Loc Cert.KernelShiftBwdIdeal.nD Cert.KernelShiftBwdIdeal.τ Cert.KernelShiftBwdIdeal.sig) → Buf (Elt Ideal) ℓ) (g : Dev Cert.KernelShiftBwdIdeal.nD → PrngReg), Pre_KernelShiftBwdIdeal_real_shift m →
    θ_run (Cert.KernelShiftBwdIdeal.defs (F := Ideal)) (onTc (τ := Cert.KernelShiftBwdIdeal.τ) (Cert.KernelShiftBwdIdeal.main (F := Ideal))) ⟨m, fun _ => 0, g⟩ (fun r => (∀ c : Dev Cert.KernelShiftBwdIdeal.nD,
      r.2.mem ((c.tc : Thread Cert.KernelShiftBwdIdeal.nD Cert.KernelShiftBwdIdeal.τ).loc Cert.KernelShiftBwdIdeal.main_arg0) = m ((c.tc : Thread Cert.KernelShiftBwdIdeal.nD Cert.KernelShiftBwdIdeal.τ).loc Cert.KernelShiftBwdIdeal.main_arg0)
      ∧ r.2.mem ((c.tc : Thread Cert.KernelShiftBwdIdeal.nD Cert.KernelShiftBwdIdeal.τ).loc Cert.KernelShiftBwdIdeal.main_arg1) = m ((c.tc : Thread Cert.KernelShiftBwdIdeal.nD Cert.KernelShiftBwdIdeal.τ).loc Cert.KernelShiftBwdIdeal.main_arg1)
      ∧ r.2.mem ((c.tc : Thread Cert.KernelShiftBwdIdeal.nD Cert.KernelShiftBwdIdeal.τ).loc Cert.KernelShiftBwdIdeal.main_arg2) = m ((c.tc : Thread Cert.KernelShiftBwdIdeal.nD Cert.KernelShiftBwdIdeal.τ).loc Cert.KernelShiftBwdIdeal.main_arg2)
      ∧ r.2.mem ((c.tc : Thread Cert.KernelShiftBwdIdeal.nD Cert.KernelShiftBwdIdeal.τ).loc Cert.KernelShiftBwdIdeal.main_arg3) = m ((c.tc : Thread Cert.KernelShiftBwdIdeal.nD Cert.KernelShiftBwdIdeal.τ).loc Cert.KernelShiftBwdIdeal.main_arg3)
      ∧ r.2.mem ((c.tc : Thread Cert.KernelShiftBwdIdeal.nD Cert.KernelShiftBwdIdeal.τ).loc Cert.KernelShiftBwdIdeal.main_arg4) = m ((c.tc : Thread Cert.KernelShiftBwdIdeal.nD Cert.KernelShiftBwdIdeal.τ).loc Cert.KernelShiftBwdIdeal.main_arg4))
      ∧ r.2.sem = fun _ => 0)

def quiescent_ReferenceShiftBwdIdeal [hReferenceShiftBwdIdeal : Cert.ReferenceShiftBwdIdeal.Facts] : Prop :=
  ∀ (m : (ℓ : Loc Cert.ReferenceShiftBwdIdeal.nD Cert.ReferenceShiftBwdIdeal.τ Cert.ReferenceShiftBwdIdeal.sig) → Buf (Elt Ideal) ℓ) (g : Dev Cert.ReferenceShiftBwdIdeal.nD → PrngReg), Pre_ReferenceShiftBwdIdeal m →
    θ_run (Cert.ReferenceShiftBwdIdeal.defs (F := Ideal)) (onTc (τ := Cert.ReferenceShiftBwdIdeal.τ) (Cert.ReferenceShiftBwdIdeal.main (F := Ideal))) ⟨m, fun _ => 0, g⟩ (fun r => (∀ c : Dev Cert.ReferenceShiftBwdIdeal.nD,
      r.2.mem ((c.tc : Thread Cert.ReferenceShiftBwdIdeal.nD Cert.ReferenceShiftBwdIdeal.τ).loc Cert.ReferenceShiftBwdIdeal.main_arg0) = m ((c.tc : Thread Cert.ReferenceShiftBwdIdeal.nD Cert.ReferenceShiftBwdIdeal.τ).loc Cert.ReferenceShiftBwdIdeal.main_arg0)
      ∧ r.2.mem ((c.tc : Thread Cert.ReferenceShiftBwdIdeal.nD Cert.ReferenceShiftBwdIdeal.τ).loc Cert.ReferenceShiftBwdIdeal.main_arg1) = m ((c.tc : Thread Cert.ReferenceShiftBwdIdeal.nD Cert.ReferenceShiftBwdIdeal.τ).loc Cert.ReferenceShiftBwdIdeal.main_arg1)
      ∧ r.2.mem ((c.tc : Thread Cert.ReferenceShiftBwdIdeal.nD Cert.ReferenceShiftBwdIdeal.τ).loc Cert.ReferenceShiftBwdIdeal.main_arg2) = m ((c.tc : Thread Cert.ReferenceShiftBwdIdeal.nD Cert.ReferenceShiftBwdIdeal.τ).loc Cert.ReferenceShiftBwdIdeal.main_arg2)
      ∧ r.2.mem ((c.tc : Thread Cert.ReferenceShiftBwdIdeal.nD Cert.ReferenceShiftBwdIdeal.τ).loc Cert.ReferenceShiftBwdIdeal.main_arg3) = m ((c.tc : Thread Cert.ReferenceShiftBwdIdeal.nD Cert.ReferenceShiftBwdIdeal.τ).loc Cert.ReferenceShiftBwdIdeal.main_arg3)
      ∧ r.2.mem ((c.tc : Thread Cert.ReferenceShiftBwdIdeal.nD Cert.ReferenceShiftBwdIdeal.τ).loc Cert.ReferenceShiftBwdIdeal.main_arg4) = m ((c.tc : Thread Cert.ReferenceShiftBwdIdeal.nD Cert.ReferenceShiftBwdIdeal.τ).loc Cert.ReferenceShiftBwdIdeal.main_arg4))
      ∧ r.2.sem = fun _ => 0)

def quiescent_ReferenceShiftBwdIdeal_pre_real_shift [hReferenceShiftBwdIdeal : Cert.ReferenceShiftBwdIdeal.Facts] [hPre_real_shift : Cert.Pre_real_shift.Facts] : Prop :=
  ∀ (m : (ℓ : Loc Cert.ReferenceShiftBwdIdeal.nD Cert.ReferenceShiftBwdIdeal.τ Cert.ReferenceShiftBwdIdeal.sig) → Buf (Elt Ideal) ℓ) (g : Dev Cert.ReferenceShiftBwdIdeal.nD → PrngReg), Pre_ReferenceShiftBwdIdeal_real_shift m →
    θ_run (Cert.ReferenceShiftBwdIdeal.defs (F := Ideal)) (onTc (τ := Cert.ReferenceShiftBwdIdeal.τ) (Cert.ReferenceShiftBwdIdeal.main (F := Ideal))) ⟨m, fun _ => 0, g⟩ (fun r => (∀ c : Dev Cert.ReferenceShiftBwdIdeal.nD,
      r.2.mem ((c.tc : Thread Cert.ReferenceShiftBwdIdeal.nD Cert.ReferenceShiftBwdIdeal.τ).loc Cert.ReferenceShiftBwdIdeal.main_arg0) = m ((c.tc : Thread Cert.ReferenceShiftBwdIdeal.nD Cert.ReferenceShiftBwdIdeal.τ).loc Cert.ReferenceShiftBwdIdeal.main_arg0)
      ∧ r.2.mem ((c.tc : Thread Cert.ReferenceShiftBwdIdeal.nD Cert.ReferenceShiftBwdIdeal.τ).loc Cert.ReferenceShiftBwdIdeal.main_arg1) = m ((c.tc : Thread Cert.ReferenceShiftBwdIdeal.nD Cert.ReferenceShiftBwdIdeal.τ).loc Cert.ReferenceShiftBwdIdeal.main_arg1)
      ∧ r.2.mem ((c.tc : Thread Cert.ReferenceShiftBwdIdeal.nD Cert.ReferenceShiftBwdIdeal.τ).loc Cert.ReferenceShiftBwdIdeal.main_arg2) = m ((c.tc : Thread Cert.ReferenceShiftBwdIdeal.nD Cert.ReferenceShiftBwdIdeal.τ).loc Cert.ReferenceShiftBwdIdeal.main_arg2)
      ∧ r.2.mem ((c.tc : Thread Cert.ReferenceShiftBwdIdeal.nD Cert.ReferenceShiftBwdIdeal.τ).loc Cert.ReferenceShiftBwdIdeal.main_arg3) = m ((c.tc : Thread Cert.ReferenceShiftBwdIdeal.nD Cert.ReferenceShiftBwdIdeal.τ).loc Cert.ReferenceShiftBwdIdeal.main_arg3)
      ∧ r.2.mem ((c.tc : Thread Cert.ReferenceShiftBwdIdeal.nD Cert.ReferenceShiftBwdIdeal.τ).loc Cert.ReferenceShiftBwdIdeal.main_arg4) = m ((c.tc : Thread Cert.ReferenceShiftBwdIdeal.nD Cert.ReferenceShiftBwdIdeal.τ).loc Cert.ReferenceShiftBwdIdeal.main_arg4))
      ∧ r.2.sem = fun _ => 0)

def preserves_Kernel_KernelIdeal : Prop :=
  True

def algebraic_KernelIdeal_ReferenceIdeal_pre_real_bounds [hKernelIdeal : Cert.KernelIdeal.Facts] [hReferenceIdeal : Cert.ReferenceIdeal.Facts] [hPre_real_bounds : Cert.Pre_real_bounds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_bounds m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v6) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelInW_KernelInWIdeal : Prop :=
  True

def algebraic_KernelInWIdeal_ReferenceInWIdeal [hKernelInWIdeal : Cert.KernelInWIdeal.Facts] [hReferenceInWIdeal : Cert.ReferenceInWIdeal.Facts] : Prop :=
  ∀ (m : (ℓ : Loc Cert.KernelInWIdeal.nD Cert.KernelInWIdeal.τ Cert.KernelInWIdeal.sig) → Buf (Elt Ideal) ℓ) (g : Dev Cert.KernelInWIdeal.nD → PrngReg)
    (m' : (ℓ : Loc Cert.ReferenceInWIdeal.nD Cert.ReferenceInWIdeal.τ Cert.ReferenceInWIdeal.sig) → Buf (Elt Ideal) ℓ) (g' : Dev Cert.ReferenceInWIdeal.nD → PrngReg), Pre_KernelInWIdeal m →
    (∀ c : Dev Cert.KernelInWIdeal.nD,
      m' ((c.tc : Thread Cert.ReferenceInWIdeal.nD Cert.ReferenceInWIdeal.τ).loc Cert.ReferenceInWIdeal.main_arg0) = m ((c.tc : Thread Cert.KernelInWIdeal.nD Cert.KernelInWIdeal.τ).loc Cert.KernelInWIdeal.main_arg0)
      ∧ m' ((c.tc : Thread Cert.ReferenceInWIdeal.nD Cert.ReferenceInWIdeal.τ).loc Cert.ReferenceInWIdeal.main_arg1) = m ((c.tc : Thread Cert.KernelInWIdeal.nD Cert.KernelInWIdeal.τ).loc Cert.KernelInWIdeal.main_arg1)) →
    ∃ (v0 : (c : Dev Cert.KernelInWIdeal.nD) → Buf (Elt Ideal) ((c.tc : Thread Cert.KernelInWIdeal.nD Cert.KernelInWIdeal.τ).loc Cert.KernelInWIdeal.main_v0)),
      θ_run (Cert.KernelInWIdeal.defs (F := Ideal)) (onTc (τ := Cert.KernelInWIdeal.τ) (Cert.KernelInWIdeal.main (F := Ideal))) ⟨m, fun _ => 0, g⟩ (fun r => ∀ c : Dev Cert.KernelInWIdeal.nD,
          r.2.mem ((c.tc : Thread Cert.KernelInWIdeal.nD Cert.KernelInWIdeal.τ).loc Cert.KernelInWIdeal.main_v0) = v0 c
          ∧ r.2.mem ((c.tc : Thread Cert.KernelInWIdeal.nD Cert.KernelInWIdeal.τ).loc Cert.KernelInWIdeal.main_arg0) = m ((c.tc : Thread Cert.KernelInWIdeal.nD Cert.KernelInWIdeal.τ).loc Cert.KernelInWIdeal.main_arg0)
          ∧ r.2.mem ((c.tc : Thread Cert.KernelInWIdeal.nD Cert.KernelInWIdeal.τ).loc Cert.KernelInWIdeal.main_arg1) = m ((c.tc : Thread Cert.KernelInWIdeal.nD Cert.KernelInWIdeal.τ).loc Cert.KernelInWIdeal.main_arg1))
      ∧ θ_run (Cert.ReferenceInWIdeal.defs (F := Ideal)) (onTc (τ := Cert.ReferenceInWIdeal.τ) (Cert.ReferenceInWIdeal.main (F := Ideal))) ⟨m', fun _ => 0, g'⟩ (fun r => ∀ c : Dev Cert.ReferenceInWIdeal.nD,
          r.2.mem ((c.tc : Thread Cert.ReferenceInWIdeal.nD Cert.ReferenceInWIdeal.τ).loc Cert.ReferenceInWIdeal.main_v10) = v0 c
          ∧ r.2.mem ((c.tc : Thread Cert.ReferenceInWIdeal.nD Cert.ReferenceInWIdeal.τ).loc Cert.ReferenceInWIdeal.main_arg0) = m' ((c.tc : Thread Cert.ReferenceInWIdeal.nD Cert.ReferenceInWIdeal.τ).loc Cert.ReferenceInWIdeal.main_arg0)
          ∧ r.2.mem ((c.tc : Thread Cert.ReferenceInWIdeal.nD Cert.ReferenceInWIdeal.τ).loc Cert.ReferenceInWIdeal.main_arg1) = m' ((c.tc : Thread Cert.ReferenceInWIdeal.nD Cert.ReferenceInWIdeal.τ).loc Cert.ReferenceInWIdeal.main_arg1))

def preserves_KernelInX_KernelInXIdeal : Prop :=
  True

def algebraic_KernelInXIdeal_ReferenceInXIdeal [hKernelInXIdeal : Cert.KernelInXIdeal.Facts] [hReferenceInXIdeal : Cert.ReferenceInXIdeal.Facts] : Prop :=
  ∀ (m : (ℓ : Loc Cert.KernelInXIdeal.nD Cert.KernelInXIdeal.τ Cert.KernelInXIdeal.sig) → Buf (Elt Ideal) ℓ) (g : Dev Cert.KernelInXIdeal.nD → PrngReg)
    (m' : (ℓ : Loc Cert.ReferenceInXIdeal.nD Cert.ReferenceInXIdeal.τ Cert.ReferenceInXIdeal.sig) → Buf (Elt Ideal) ℓ) (g' : Dev Cert.ReferenceInXIdeal.nD → PrngReg), Pre_KernelInXIdeal m →
    (∀ c : Dev Cert.KernelInXIdeal.nD,
      m' ((c.tc : Thread Cert.ReferenceInXIdeal.nD Cert.ReferenceInXIdeal.τ).loc Cert.ReferenceInXIdeal.main_arg0) = m ((c.tc : Thread Cert.KernelInXIdeal.nD Cert.KernelInXIdeal.τ).loc Cert.KernelInXIdeal.main_arg0)
      ∧ m' ((c.tc : Thread Cert.ReferenceInXIdeal.nD Cert.ReferenceInXIdeal.τ).loc Cert.ReferenceInXIdeal.main_arg1) = m ((c.tc : Thread Cert.KernelInXIdeal.nD Cert.KernelInXIdeal.τ).loc Cert.KernelInXIdeal.main_arg1)) →
    ∃ (v0 : (c : Dev Cert.KernelInXIdeal.nD) → Buf (Elt Ideal) ((c.tc : Thread Cert.KernelInXIdeal.nD Cert.KernelInXIdeal.τ).loc Cert.KernelInXIdeal.main_v0)),
      θ_run (Cert.KernelInXIdeal.defs (F := Ideal)) (onTc (τ := Cert.KernelInXIdeal.τ) (Cert.KernelInXIdeal.main (F := Ideal))) ⟨m, fun _ => 0, g⟩ (fun r => ∀ c : Dev Cert.KernelInXIdeal.nD,
          r.2.mem ((c.tc : Thread Cert.KernelInXIdeal.nD Cert.KernelInXIdeal.τ).loc Cert.KernelInXIdeal.main_v0) = v0 c
          ∧ r.2.mem ((c.tc : Thread Cert.KernelInXIdeal.nD Cert.KernelInXIdeal.τ).loc Cert.KernelInXIdeal.main_arg0) = m ((c.tc : Thread Cert.KernelInXIdeal.nD Cert.KernelInXIdeal.τ).loc Cert.KernelInXIdeal.main_arg0)
          ∧ r.2.mem ((c.tc : Thread Cert.KernelInXIdeal.nD Cert.KernelInXIdeal.τ).loc Cert.KernelInXIdeal.main_arg1) = m ((c.tc : Thread Cert.KernelInXIdeal.nD Cert.KernelInXIdeal.τ).loc Cert.KernelInXIdeal.main_arg1))
      ∧ θ_run (Cert.ReferenceInXIdeal.defs (F := Ideal)) (onTc (τ := Cert.ReferenceInXIdeal.τ) (Cert.ReferenceInXIdeal.main (F := Ideal))) ⟨m', fun _ => 0, g'⟩ (fun r => ∀ c : Dev Cert.ReferenceInXIdeal.nD,
          r.2.mem ((c.tc : Thread Cert.ReferenceInXIdeal.nD Cert.ReferenceInXIdeal.τ).loc Cert.ReferenceInXIdeal.main_v10) = v0 c
          ∧ r.2.mem ((c.tc : Thread Cert.ReferenceInXIdeal.nD Cert.ReferenceInXIdeal.τ).loc Cert.ReferenceInXIdeal.main_arg0) = m' ((c.tc : Thread Cert.ReferenceInXIdeal.nD Cert.ReferenceInXIdeal.τ).loc Cert.ReferenceInXIdeal.main_arg0)
          ∧ r.2.mem ((c.tc : Thread Cert.ReferenceInXIdeal.nD Cert.ReferenceInXIdeal.τ).loc Cert.ReferenceInXIdeal.main_arg1) = m' ((c.tc : Thread Cert.ReferenceInXIdeal.nD Cert.ReferenceInXIdeal.τ).loc Cert.ReferenceInXIdeal.main_arg1))

def preserves_KernelBranch_KernelBranchIdeal : Prop :=
  True

def algebraic_KernelBranchIdeal_ReferenceBranchIdeal [hKernelBranchIdeal : Cert.KernelBranchIdeal.Facts] [hReferenceBranchIdeal : Cert.ReferenceBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg)
    (m' : (ℓ : Loc Cert.ReferenceBranchIdeal.nD Cert.ReferenceBranchIdeal.τ Cert.ReferenceBranchIdeal.sig) → Buf (Elt Ideal) ℓ) (g' : Dev Cert.ReferenceBranchIdeal.nD → PrngReg), Pre_KernelBranchIdeal m →
    (∀ c : Dev Cert.KernelBranchIdeal.nD,
      m' ((c.tc : Thread Cert.ReferenceBranchIdeal.nD Cert.ReferenceBranchIdeal.τ).loc Cert.ReferenceBranchIdeal.main_arg0) = m ((c.tc : Thread Cert.KernelBranchIdeal.nD Cert.KernelBranchIdeal.τ).loc Cert.KernelBranchIdeal.main_arg0)
      ∧ m' ((c.tc : Thread Cert.ReferenceBranchIdeal.nD Cert.ReferenceBranchIdeal.τ).loc Cert.ReferenceBranchIdeal.main_arg1) = m ((c.tc : Thread Cert.KernelBranchIdeal.nD Cert.KernelBranchIdeal.τ).loc Cert.KernelBranchIdeal.main_arg1)) →
    ∃ (v0 : (c : Dev Cert.KernelBranchIdeal.nD) → Buf (Elt Ideal) ((c.tc : Thread Cert.KernelBranchIdeal.nD Cert.KernelBranchIdeal.τ).loc Cert.KernelBranchIdeal.main_v0)),
      θ_run (Cert.KernelBranchIdeal.defs (F := Ideal)) (onTc (τ := Cert.KernelBranchIdeal.τ) (Cert.KernelBranchIdeal.main (F := Ideal))) ⟨m, fun _ => 0, g⟩ (fun r => ∀ c : Dev Cert.KernelBranchIdeal.nD,
          r.2.mem ((c.tc : Thread Cert.KernelBranchIdeal.nD Cert.KernelBranchIdeal.τ).loc Cert.KernelBranchIdeal.main_v0) = v0 c
          ∧ r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
          ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ θ_run (Cert.ReferenceBranchIdeal.defs (F := Ideal)) (onTc (τ := Cert.ReferenceBranchIdeal.τ) (Cert.ReferenceBranchIdeal.main (F := Ideal))) ⟨m', fun _ => 0, g'⟩ (fun r => ∀ c : Dev Cert.ReferenceBranchIdeal.nD,
          r.2.mem ((c.tc : Thread Cert.ReferenceBranchIdeal.nD Cert.ReferenceBranchIdeal.τ).loc Cert.ReferenceBranchIdeal.main_v4) = v0 c
          ∧ r.2.mem ((c.tc : Thread Cert.ReferenceBranchIdeal.nD Cert.ReferenceBranchIdeal.τ).loc Cert.ReferenceBranchIdeal.main_arg0) = m' ((c.tc : Thread Cert.ReferenceBranchIdeal.nD Cert.ReferenceBranchIdeal.τ).loc Cert.ReferenceBranchIdeal.main_arg0)
          ∧ r.2.mem ((c.tc : Thread Cert.ReferenceBranchIdeal.nD Cert.ReferenceBranchIdeal.τ).loc Cert.ReferenceBranchIdeal.main_arg1) = m' ((c.tc : Thread Cert.ReferenceBranchIdeal.nD Cert.ReferenceBranchIdeal.τ).loc Cert.ReferenceBranchIdeal.main_arg1))

def preserves_KernelBranchW_KernelBranchWIdeal : Prop :=
  True

def algebraic_KernelBranchWIdeal_ReferenceBranchWIdeal [hKernelBranchWIdeal : Cert.KernelBranchWIdeal.Facts] [hReferenceBranchWIdeal : Cert.ReferenceBranchWIdeal.Facts] : Prop :=
  ∀ (m : (ℓ : Loc Cert.KernelBranchWIdeal.nD Cert.KernelBranchWIdeal.τ Cert.KernelBranchWIdeal.sig) → Buf (Elt Ideal) ℓ) (g : Dev Cert.KernelBranchWIdeal.nD → PrngReg)
    (m' : (ℓ : Loc Cert.ReferenceBranchWIdeal.nD Cert.ReferenceBranchWIdeal.τ Cert.ReferenceBranchWIdeal.sig) → Buf (Elt Ideal) ℓ) (g' : Dev Cert.ReferenceBranchWIdeal.nD → PrngReg), Pre_KernelBranchWIdeal m →
    (∀ c : Dev Cert.KernelBranchWIdeal.nD,
      m' ((c.tc : Thread Cert.ReferenceBranchWIdeal.nD Cert.ReferenceBranchWIdeal.τ).loc Cert.ReferenceBranchWIdeal.main_arg0) = m ((c.tc : Thread Cert.KernelBranchWIdeal.nD Cert.KernelBranchWIdeal.τ).loc Cert.KernelBranchWIdeal.main_arg0)
      ∧ m' ((c.tc : Thread Cert.ReferenceBranchWIdeal.nD Cert.ReferenceBranchWIdeal.τ).loc Cert.ReferenceBranchWIdeal.main_arg1) = m ((c.tc : Thread Cert.KernelBranchWIdeal.nD Cert.KernelBranchWIdeal.τ).loc Cert.KernelBranchWIdeal.main_arg1)) →
    ∃ (v0 : (c : Dev Cert.KernelBranchWIdeal.nD) → Buf (Elt Ideal) ((c.tc : Thread Cert.KernelBranchWIdeal.nD Cert.KernelBranchWIdeal.τ).loc Cert.KernelBranchWIdeal.main_v0)),
      θ_run (Cert.KernelBranchWIdeal.defs (F := Ideal)) (onTc (τ := Cert.KernelBranchWIdeal.τ) (Cert.KernelBranchWIdeal.main (F := Ideal))) ⟨m, fun _ => 0, g⟩ (fun r => ∀ c : Dev Cert.KernelBranchWIdeal.nD,
          r.2.mem ((c.tc : Thread Cert.KernelBranchWIdeal.nD Cert.KernelBranchWIdeal.τ).loc Cert.KernelBranchWIdeal.main_v0) = v0 c
          ∧ r.2.mem ((c.tc : Thread Cert.KernelBranchWIdeal.nD Cert.KernelBranchWIdeal.τ).loc Cert.KernelBranchWIdeal.main_arg0) = m ((c.tc : Thread Cert.KernelBranchWIdeal.nD Cert.KernelBranchWIdeal.τ).loc Cert.KernelBranchWIdeal.main_arg0)
          ∧ r.2.mem ((c.tc : Thread Cert.KernelBranchWIdeal.nD Cert.KernelBranchWIdeal.τ).loc Cert.KernelBranchWIdeal.main_arg1) = m ((c.tc : Thread Cert.KernelBranchWIdeal.nD Cert.KernelBranchWIdeal.τ).loc Cert.KernelBranchWIdeal.main_arg1))
      ∧ θ_run (Cert.ReferenceBranchWIdeal.defs (F := Ideal)) (onTc (τ := Cert.ReferenceBranchWIdeal.τ) (Cert.ReferenceBranchWIdeal.main (F := Ideal))) ⟨m', fun _ => 0, g'⟩ (fun r => ∀ c : Dev Cert.ReferenceBranchWIdeal.nD,
          r.2.mem ((c.tc : Thread Cert.ReferenceBranchWIdeal.nD Cert.ReferenceBranchWIdeal.τ).loc Cert.ReferenceBranchWIdeal.main_v8) = v0 c
          ∧ r.2.mem ((c.tc : Thread Cert.ReferenceBranchWIdeal.nD Cert.ReferenceBranchWIdeal.τ).loc Cert.ReferenceBranchWIdeal.main_arg0) = m' ((c.tc : Thread Cert.ReferenceBranchWIdeal.nD Cert.ReferenceBranchWIdeal.τ).loc Cert.ReferenceBranchWIdeal.main_arg0)
          ∧ r.2.mem ((c.tc : Thread Cert.ReferenceBranchWIdeal.nD Cert.ReferenceBranchWIdeal.τ).loc Cert.ReferenceBranchWIdeal.main_arg1) = m' ((c.tc : Thread Cert.ReferenceBranchWIdeal.nD Cert.ReferenceBranchWIdeal.τ).loc Cert.ReferenceBranchWIdeal.main_arg1))

def preserves_KernelBranchX_KernelBranchXIdeal : Prop :=
  True

def algebraic_KernelBranchXIdeal_ReferenceBranchXIdeal [hKernelBranchXIdeal : Cert.KernelBranchXIdeal.Facts] [hReferenceBranchXIdeal : Cert.ReferenceBranchXIdeal.Facts] : Prop :=
  ∀ (m : (ℓ : Loc Cert.KernelBranchXIdeal.nD Cert.KernelBranchXIdeal.τ Cert.KernelBranchXIdeal.sig) → Buf (Elt Ideal) ℓ) (g : Dev Cert.KernelBranchXIdeal.nD → PrngReg)
    (m' : (ℓ : Loc Cert.ReferenceBranchXIdeal.nD Cert.ReferenceBranchXIdeal.τ Cert.ReferenceBranchXIdeal.sig) → Buf (Elt Ideal) ℓ) (g' : Dev Cert.ReferenceBranchXIdeal.nD → PrngReg), Pre_KernelBranchXIdeal m →
    (∀ c : Dev Cert.KernelBranchXIdeal.nD,
      m' ((c.tc : Thread Cert.ReferenceBranchXIdeal.nD Cert.ReferenceBranchXIdeal.τ).loc Cert.ReferenceBranchXIdeal.main_arg0) = m ((c.tc : Thread Cert.KernelBranchXIdeal.nD Cert.KernelBranchXIdeal.τ).loc Cert.KernelBranchXIdeal.main_arg0)
      ∧ m' ((c.tc : Thread Cert.ReferenceBranchXIdeal.nD Cert.ReferenceBranchXIdeal.τ).loc Cert.ReferenceBranchXIdeal.main_arg1) = m ((c.tc : Thread Cert.KernelBranchXIdeal.nD Cert.KernelBranchXIdeal.τ).loc Cert.KernelBranchXIdeal.main_arg1)) →
    ∃ (v0 : (c : Dev Cert.KernelBranchXIdeal.nD) → Buf (Elt Ideal) ((c.tc : Thread Cert.KernelBranchXIdeal.nD Cert.KernelBranchXIdeal.τ).loc Cert.KernelBranchXIdeal.main_v0)),
      θ_run (Cert.KernelBranchXIdeal.defs (F := Ideal)) (onTc (τ := Cert.KernelBranchXIdeal.τ) (Cert.KernelBranchXIdeal.main (F := Ideal))) ⟨m, fun _ => 0, g⟩ (fun r => ∀ c : Dev Cert.KernelBranchXIdeal.nD,
          r.2.mem ((c.tc : Thread Cert.KernelBranchXIdeal.nD Cert.KernelBranchXIdeal.τ).loc Cert.KernelBranchXIdeal.main_v0) = v0 c
          ∧ r.2.mem ((c.tc : Thread Cert.KernelBranchXIdeal.nD Cert.KernelBranchXIdeal.τ).loc Cert.KernelBranchXIdeal.main_arg0) = m ((c.tc : Thread Cert.KernelBranchXIdeal.nD Cert.KernelBranchXIdeal.τ).loc Cert.KernelBranchXIdeal.main_arg0)
          ∧ r.2.mem ((c.tc : Thread Cert.KernelBranchXIdeal.nD Cert.KernelBranchXIdeal.τ).loc Cert.KernelBranchXIdeal.main_arg1) = m ((c.tc : Thread Cert.KernelBranchXIdeal.nD Cert.KernelBranchXIdeal.τ).loc Cert.KernelBranchXIdeal.main_arg1))
      ∧ θ_run (Cert.ReferenceBranchXIdeal.defs (F := Ideal)) (onTc (τ := Cert.ReferenceBranchXIdeal.τ) (Cert.ReferenceBranchXIdeal.main (F := Ideal))) ⟨m', fun _ => 0, g'⟩ (fun r => ∀ c : Dev Cert.ReferenceBranchXIdeal.nD,
          r.2.mem ((c.tc : Thread Cert.ReferenceBranchXIdeal.nD Cert.ReferenceBranchXIdeal.τ).loc Cert.ReferenceBranchXIdeal.main_v8) = v0 c
          ∧ r.2.mem ((c.tc : Thread Cert.ReferenceBranchXIdeal.nD Cert.ReferenceBranchXIdeal.τ).loc Cert.ReferenceBranchXIdeal.main_arg0) = m' ((c.tc : Thread Cert.ReferenceBranchXIdeal.nD Cert.ReferenceBranchXIdeal.τ).loc Cert.ReferenceBranchXIdeal.main_arg0)
          ∧ r.2.mem ((c.tc : Thread Cert.ReferenceBranchXIdeal.nD Cert.ReferenceBranchXIdeal.τ).loc Cert.ReferenceBranchXIdeal.main_arg1) = m' ((c.tc : Thread Cert.ReferenceBranchXIdeal.nD Cert.ReferenceBranchXIdeal.τ).loc Cert.ReferenceBranchXIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelOutW_KernelOutWIdeal : Prop :=
  True

def algebraic_KernelOutWIdeal_ReferenceOutWIdeal [hKernelOutWIdeal : Cert.KernelOutWIdeal.Facts] [hReferenceOutWIdeal : Cert.ReferenceOutWIdeal.Facts] : Prop :=
  ∀ (m : (ℓ : Loc Cert.KernelOutWIdeal.nD Cert.KernelOutWIdeal.τ Cert.KernelOutWIdeal.sig) → Buf (Elt Ideal) ℓ) (g : Dev Cert.KernelOutWIdeal.nD → PrngReg)
    (m' : (ℓ : Loc Cert.ReferenceOutWIdeal.nD Cert.ReferenceOutWIdeal.τ Cert.ReferenceOutWIdeal.sig) → Buf (Elt Ideal) ℓ) (g' : Dev Cert.ReferenceOutWIdeal.nD → PrngReg), Pre_KernelOutWIdeal m →
    (∀ c : Dev Cert.KernelOutWIdeal.nD,
      m' ((c.tc : Thread Cert.ReferenceOutWIdeal.nD Cert.ReferenceOutWIdeal.τ).loc Cert.ReferenceOutWIdeal.main_arg0) = m ((c.tc : Thread Cert.KernelOutWIdeal.nD Cert.KernelOutWIdeal.τ).loc Cert.KernelOutWIdeal.main_arg0)
      ∧ m' ((c.tc : Thread Cert.ReferenceOutWIdeal.nD Cert.ReferenceOutWIdeal.τ).loc Cert.ReferenceOutWIdeal.main_arg1) = m ((c.tc : Thread Cert.KernelOutWIdeal.nD Cert.KernelOutWIdeal.τ).loc Cert.KernelOutWIdeal.main_arg1)) →
    ∃ (v0 : (c : Dev Cert.KernelOutWIdeal.nD) → Buf (Elt Ideal) ((c.tc : Thread Cert.KernelOutWIdeal.nD Cert.KernelOutWIdeal.τ).loc Cert.KernelOutWIdeal.main_v0)),
      θ_run (Cert.KernelOutWIdeal.defs (F := Ideal)) (onTc (τ := Cert.KernelOutWIdeal.τ) (Cert.KernelOutWIdeal.main (F := Ideal))) ⟨m, fun _ => 0, g⟩ (fun r => ∀ c : Dev Cert.KernelOutWIdeal.nD,
          r.2.mem ((c.tc : Thread Cert.KernelOutWIdeal.nD Cert.KernelOutWIdeal.τ).loc Cert.KernelOutWIdeal.main_v0) = v0 c
          ∧ r.2.mem ((c.tc : Thread Cert.KernelOutWIdeal.nD Cert.KernelOutWIdeal.τ).loc Cert.KernelOutWIdeal.main_arg0) = m ((c.tc : Thread Cert.KernelOutWIdeal.nD Cert.KernelOutWIdeal.τ).loc Cert.KernelOutWIdeal.main_arg0)
          ∧ r.2.mem ((c.tc : Thread Cert.KernelOutWIdeal.nD Cert.KernelOutWIdeal.τ).loc Cert.KernelOutWIdeal.main_arg1) = m ((c.tc : Thread Cert.KernelOutWIdeal.nD Cert.KernelOutWIdeal.τ).loc Cert.KernelOutWIdeal.main_arg1))
      ∧ θ_run (Cert.ReferenceOutWIdeal.defs (F := Ideal)) (onTc (τ := Cert.ReferenceOutWIdeal.τ) (Cert.ReferenceOutWIdeal.main (F := Ideal))) ⟨m', fun _ => 0, g'⟩ (fun r => ∀ c : Dev Cert.ReferenceOutWIdeal.nD,
          r.2.mem ((c.tc : Thread Cert.ReferenceOutWIdeal.nD Cert.ReferenceOutWIdeal.τ).loc Cert.ReferenceOutWIdeal.main_v5) = v0 c
          ∧ r.2.mem ((c.tc : Thread Cert.ReferenceOutWIdeal.nD Cert.ReferenceOutWIdeal.τ).loc Cert.ReferenceOutWIdeal.main_arg0) = m' ((c.tc : Thread Cert.ReferenceOutWIdeal.nD Cert.ReferenceOutWIdeal.τ).loc Cert.ReferenceOutWIdeal.main_arg0)
          ∧ r.2.mem ((c.tc : Thread Cert.ReferenceOutWIdeal.nD Cert.ReferenceOutWIdeal.τ).loc Cert.ReferenceOutWIdeal.main_arg1) = m' ((c.tc : Thread Cert.ReferenceOutWIdeal.nD Cert.ReferenceOutWIdeal.τ).loc Cert.ReferenceOutWIdeal.main_arg1))

def preserves_KernelOutX_KernelOutXIdeal : Prop :=
  True

def algebraic_KernelOutXIdeal_ReferenceOutXIdeal [hKernelOutXIdeal : Cert.KernelOutXIdeal.Facts] [hReferenceOutXIdeal : Cert.ReferenceOutXIdeal.Facts] : Prop :=
  ∀ (m : (ℓ : Loc Cert.KernelOutXIdeal.nD Cert.KernelOutXIdeal.τ Cert.KernelOutXIdeal.sig) → Buf (Elt Ideal) ℓ) (g : Dev Cert.KernelOutXIdeal.nD → PrngReg)
    (m' : (ℓ : Loc Cert.ReferenceOutXIdeal.nD Cert.ReferenceOutXIdeal.τ Cert.ReferenceOutXIdeal.sig) → Buf (Elt Ideal) ℓ) (g' : Dev Cert.ReferenceOutXIdeal.nD → PrngReg), Pre_KernelOutXIdeal m →
    (∀ c : Dev Cert.KernelOutXIdeal.nD,
      m' ((c.tc : Thread Cert.ReferenceOutXIdeal.nD Cert.ReferenceOutXIdeal.τ).loc Cert.ReferenceOutXIdeal.main_arg0) = m ((c.tc : Thread Cert.KernelOutXIdeal.nD Cert.KernelOutXIdeal.τ).loc Cert.KernelOutXIdeal.main_arg0)
      ∧ m' ((c.tc : Thread Cert.ReferenceOutXIdeal.nD Cert.ReferenceOutXIdeal.τ).loc Cert.ReferenceOutXIdeal.main_arg1) = m ((c.tc : Thread Cert.KernelOutXIdeal.nD Cert.KernelOutXIdeal.τ).loc Cert.KernelOutXIdeal.main_arg1)) →
    ∃ (v0 : (c : Dev Cert.KernelOutXIdeal.nD) → Buf (Elt Ideal) ((c.tc : Thread Cert.KernelOutXIdeal.nD Cert.KernelOutXIdeal.τ).loc Cert.KernelOutXIdeal.main_v0)),
      θ_run (Cert.KernelOutXIdeal.defs (F := Ideal)) (onTc (τ := Cert.KernelOutXIdeal.τ) (Cert.KernelOutXIdeal.main (F := Ideal))) ⟨m, fun _ => 0, g⟩ (fun r => ∀ c : Dev Cert.KernelOutXIdeal.nD,
          r.2.mem ((c.tc : Thread Cert.KernelOutXIdeal.nD Cert.KernelOutXIdeal.τ).loc Cert.KernelOutXIdeal.main_v0) = v0 c
          ∧ r.2.mem ((c.tc : Thread Cert.KernelOutXIdeal.nD Cert.KernelOutXIdeal.τ).loc Cert.KernelOutXIdeal.main_arg0) = m ((c.tc : Thread Cert.KernelOutXIdeal.nD Cert.KernelOutXIdeal.τ).loc Cert.KernelOutXIdeal.main_arg0)
          ∧ r.2.mem ((c.tc : Thread Cert.KernelOutXIdeal.nD Cert.KernelOutXIdeal.τ).loc Cert.KernelOutXIdeal.main_arg1) = m ((c.tc : Thread Cert.KernelOutXIdeal.nD Cert.KernelOutXIdeal.τ).loc Cert.KernelOutXIdeal.main_arg1))
      ∧ θ_run (Cert.ReferenceOutXIdeal.defs (F := Ideal)) (onTc (τ := Cert.ReferenceOutXIdeal.τ) (Cert.ReferenceOutXIdeal.main (F := Ideal))) ⟨m', fun _ => 0, g'⟩ (fun r => ∀ c : Dev Cert.ReferenceOutXIdeal.nD,
          r.2.mem ((c.tc : Thread Cert.ReferenceOutXIdeal.nD Cert.ReferenceOutXIdeal.τ).loc Cert.ReferenceOutXIdeal.main_v6) = v0 c
          ∧ r.2.mem ((c.tc : Thread Cert.ReferenceOutXIdeal.nD Cert.ReferenceOutXIdeal.τ).loc Cert.ReferenceOutXIdeal.main_arg0) = m' ((c.tc : Thread Cert.ReferenceOutXIdeal.nD Cert.ReferenceOutXIdeal.τ).loc Cert.ReferenceOutXIdeal.main_arg0)
          ∧ r.2.mem ((c.tc : Thread Cert.ReferenceOutXIdeal.nD Cert.ReferenceOutXIdeal.τ).loc Cert.ReferenceOutXIdeal.main_arg1) = m' ((c.tc : Thread Cert.ReferenceOutXIdeal.nD Cert.ReferenceOutXIdeal.τ).loc Cert.ReferenceOutXIdeal.main_arg1))

def preserves_KernelH_KernelHIdeal : Prop :=
  True

def algebraic_KernelHIdeal_ReferenceHIdeal [hKernelHIdeal : Cert.KernelHIdeal.Facts] [hReferenceHIdeal : Cert.ReferenceHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg)
    (m' : (ℓ : Loc Cert.ReferenceHIdeal.nD Cert.ReferenceHIdeal.τ Cert.ReferenceHIdeal.sig) → Buf (Elt Ideal) ℓ) (g' : Dev Cert.ReferenceHIdeal.nD → PrngReg), Pre_KernelHIdeal m →
    (∀ c : Dev Cert.KernelHIdeal.nD,
      m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
      ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)
      ∧ m' ((c.tc : Thread Cert.ReferenceHIdeal.nD Cert.ReferenceHIdeal.τ).loc Cert.ReferenceHIdeal.main_arg2) = m ((c.tc : Thread Cert.KernelHIdeal.nD Cert.KernelHIdeal.τ).loc Cert.KernelHIdeal.main_arg2)
      ∧ m' ((c.tc : Thread Cert.ReferenceHIdeal.nD Cert.ReferenceHIdeal.τ).loc Cert.ReferenceHIdeal.main_arg3) = m ((c.tc : Thread Cert.KernelHIdeal.nD Cert.KernelHIdeal.τ).loc Cert.KernelHIdeal.main_arg3)
      ∧ m' ((c.tc : Thread Cert.ReferenceHIdeal.nD Cert.ReferenceHIdeal.τ).loc Cert.ReferenceHIdeal.main_arg4) = m ((c.tc : Thread Cert.KernelHIdeal.nD Cert.KernelHIdeal.τ).loc Cert.KernelHIdeal.main_arg4)
      ∧ m' ((c.tc : Thread Cert.ReferenceHIdeal.nD Cert.ReferenceHIdeal.τ).loc Cert.ReferenceHIdeal.main_arg5) = m ((c.tc : Thread Cert.KernelHIdeal.nD Cert.KernelHIdeal.τ).loc Cert.KernelHIdeal.main_arg5)) →
    ∃ (v0 : (c : Dev Cert.KernelHIdeal.nD) → Buf (Elt Ideal) ((c.tc : Thread Cert.KernelHIdeal.nD Cert.KernelHIdeal.τ).loc Cert.KernelHIdeal.main_v1_0)) (v1 : (c : Dev Cert.KernelHIdeal.nD) → Buf (Elt Ideal) ((c.tc : Thread Cert.KernelHIdeal.nD Cert.KernelHIdeal.τ).loc Cert.KernelHIdeal.main_v1_1)) (v2 : (c : Dev Cert.KernelHIdeal.nD) → Buf (Elt Ideal) ((c.tc : Thread Cert.KernelHIdeal.nD Cert.KernelHIdeal.τ).loc Cert.KernelHIdeal.main_v1_2)),
      θ_run (Cert.KernelHIdeal.defs (F := Ideal)) (onTc (τ := Cert.KernelHIdeal.τ) (Cert.KernelHIdeal.main (F := Ideal))) ⟨m, fun _ => 0, g⟩ (fun r => ∀ c : Dev Cert.KernelHIdeal.nD,
          r.2.mem ((c.tc : Thread Cert.KernelHIdeal.nD Cert.KernelHIdeal.τ).loc Cert.KernelHIdeal.main_v1_0) = v0 c
          ∧ r.2.mem ((c.tc : Thread Cert.KernelHIdeal.nD Cert.KernelHIdeal.τ).loc Cert.KernelHIdeal.main_v1_1) = v1 c
          ∧ r.2.mem ((c.tc : Thread Cert.KernelHIdeal.nD Cert.KernelHIdeal.τ).loc Cert.KernelHIdeal.main_v1_2) = v2 c
          ∧ r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
          ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
          ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
          ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
          ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4)
          ∧ r.2.mem ((c.tc : Thread Cert.KernelHIdeal.nD Cert.KernelHIdeal.τ).loc Cert.KernelHIdeal.main_arg5) = m ((c.tc : Thread Cert.KernelHIdeal.nD Cert.KernelHIdeal.τ).loc Cert.KernelHIdeal.main_arg5))
      ∧ θ_run (Cert.ReferenceHIdeal.defs (F := Ideal)) (onTc (τ := Cert.ReferenceHIdeal.τ) (Cert.ReferenceHIdeal.main (F := Ideal))) ⟨m', fun _ => 0, g'⟩ (fun r => ∀ c : Dev Cert.ReferenceHIdeal.nD,
          r.2.mem ((c.tc : Thread Cert.ReferenceHIdeal.nD Cert.ReferenceHIdeal.τ).loc Cert.ReferenceHIdeal.main_v94) = v0 c
          ∧ r.2.mem ((c.tc : Thread Cert.ReferenceHIdeal.nD Cert.ReferenceHIdeal.τ).loc Cert.ReferenceHIdeal.main_v88) = v1 c
          ∧ r.2.mem ((c.tc : Thread Cert.ReferenceHIdeal.nD Cert.ReferenceHIdeal.τ).loc Cert.ReferenceHIdeal.main_v92) = v2 c
          ∧ r.2.mem ((c.tc : Thread Cert.ReferenceHIdeal.nD Cert.ReferenceHIdeal.τ).loc Cert.ReferenceHIdeal.main_arg0) = m' ((c.tc : Thread Cert.ReferenceHIdeal.nD Cert.ReferenceHIdeal.τ).loc Cert.ReferenceHIdeal.main_arg0)
          ∧ r.2.mem ((c.tc : Thread Cert.ReferenceHIdeal.nD Cert.ReferenceHIdeal.τ).loc Cert.ReferenceHIdeal.main_arg1) = m' ((c.tc : Thread Cert.ReferenceHIdeal.nD Cert.ReferenceHIdeal.τ).loc Cert.ReferenceHIdeal.main_arg1)
          ∧ r.2.mem ((c.tc : Thread Cert.ReferenceHIdeal.nD Cert.ReferenceHIdeal.τ).loc Cert.ReferenceHIdeal.main_arg2) = m' ((c.tc : Thread Cert.ReferenceHIdeal.nD Cert.ReferenceHIdeal.τ).loc Cert.ReferenceHIdeal.main_arg2)
          ∧ r.2.mem ((c.tc : Thread Cert.ReferenceHIdeal.nD Cert.ReferenceHIdeal.τ).loc Cert.ReferenceHIdeal.main_arg3) = m' ((c.tc : Thread Cert.ReferenceHIdeal.nD Cert.ReferenceHIdeal.τ).loc Cert.ReferenceHIdeal.main_arg3)
          ∧ r.2.mem ((c.tc : Thread Cert.ReferenceHIdeal.nD Cert.ReferenceHIdeal.τ).loc Cert.ReferenceHIdeal.main_arg4) = m' ((c.tc : Thread Cert.ReferenceHIdeal.nD Cert.ReferenceHIdeal.τ).loc Cert.ReferenceHIdeal.main_arg4)
          ∧ r.2.mem ((c.tc : Thread Cert.ReferenceHIdeal.nD Cert.ReferenceHIdeal.τ).loc Cert.ReferenceHIdeal.main_arg5) = m' ((c.tc : Thread Cert.ReferenceHIdeal.nD Cert.ReferenceHIdeal.τ).loc Cert.ReferenceHIdeal.main_arg5))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)) →
    ∃ (v0 : (c : Dev Cert.KernelMergeIdeal.nD) → Buf (Elt Ideal) ((c.tc : Thread Cert.KernelMergeIdeal.nD Cert.KernelMergeIdeal.τ).loc Cert.KernelMergeIdeal.main_v0_0)) (v1 : (c : Dev Cert.KernelMergeIdeal.nD) → Buf (Elt Ideal) ((c.tc : Thread Cert.KernelMergeIdeal.nD Cert.KernelMergeIdeal.τ).loc Cert.KernelMergeIdeal.main_v0_1)) (v2 : (c : Dev Cert.KernelMergeIdeal.nD) → Buf (Elt Ideal) ((c.tc : Thread Cert.KernelMergeIdeal.nD Cert.KernelMergeIdeal.τ).loc Cert.KernelMergeIdeal.main_v0_2)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0_0) = v0 c
          ∧ r.2.mem ((c.tc : Thread Cert.KernelMergeIdeal.nD Cert.KernelMergeIdeal.τ).loc Cert.KernelMergeIdeal.main_v0_1) = v1 c
          ∧ r.2.mem ((c.tc : Thread Cert.KernelMergeIdeal.nD Cert.KernelMergeIdeal.τ).loc Cert.KernelMergeIdeal.main_v0_2) = v2 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v32) = v0 c
          ∧ r.2.mem ((c.tc : Thread Cert.ReferenceMergeIdeal.nD Cert.ReferenceMergeIdeal.τ).loc Cert.ReferenceMergeIdeal.main_v33) = v1 c
          ∧ r.2.mem ((c.tc : Thread Cert.ReferenceMergeIdeal.nD Cert.ReferenceMergeIdeal.τ).loc Cert.ReferenceMergeIdeal.main_v34) = v2 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)
      ∧ m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4)) →
    ∃ (v0 : (c : Dev Cert.KernelPostIdeal.nD) → Buf (Elt Ideal) ((c.tc : Thread Cert.KernelPostIdeal.nD Cert.KernelPostIdeal.τ).loc Cert.KernelPostIdeal.main_v0_0)) (v1 : (c : Dev Cert.KernelPostIdeal.nD) → Buf (Elt Ideal) ((c.tc : Thread Cert.KernelPostIdeal.nD Cert.KernelPostIdeal.τ).loc Cert.KernelPostIdeal.main_v0_1)) (v2 : (c : Dev Cert.KernelPostIdeal.nD) → Buf (Elt Ideal) ((c.tc : Thread Cert.KernelPostIdeal.nD Cert.KernelPostIdeal.τ).loc Cert.KernelPostIdeal.main_v0_2)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v0_0) = v0 c
          ∧ r.2.mem ((c.tc : Thread Cert.KernelPostIdeal.nD Cert.KernelPostIdeal.τ).loc Cert.KernelPostIdeal.main_v0_1) = v1 c
          ∧ r.2.mem ((c.tc : Thread Cert.KernelPostIdeal.nD Cert.KernelPostIdeal.τ).loc Cert.KernelPostIdeal.main_v0_2) = v2 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
          ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v45) = v0 c
          ∧ r.2.mem ((c.tc : Thread Cert.ReferencePostIdeal.nD Cert.ReferencePostIdeal.τ).loc Cert.ReferencePostIdeal.main_v46) = v1 c
          ∧ r.2.mem ((c.tc : Thread Cert.ReferencePostIdeal.nD Cert.ReferencePostIdeal.τ).loc Cert.ReferencePostIdeal.main_v27) = v2 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3)
          ∧ r.2.mem ((c.tc : Thread Cert.ReferencePostIdeal.nD Cert.ReferencePostIdeal.τ).loc Cert.ReferencePostIdeal.main_arg4) = m' ((c.tc : Thread Cert.ReferencePostIdeal.nD Cert.ReferencePostIdeal.τ).loc Cert.ReferencePostIdeal.main_arg4))

def preserves_KernelAdaW_KernelAdaWIdeal : Prop :=
  True

def algebraic_KernelAdaWIdeal_ReferenceAdaWIdeal [hKernelAdaWIdeal : Cert.KernelAdaWIdeal.Facts] [hReferenceAdaWIdeal : Cert.ReferenceAdaWIdeal.Facts] : Prop :=
  ∀ (m : (ℓ : Loc Cert.KernelAdaWIdeal.nD Cert.KernelAdaWIdeal.τ Cert.KernelAdaWIdeal.sig) → Buf (Elt Ideal) ℓ) (g : Dev Cert.KernelAdaWIdeal.nD → PrngReg)
    (m' : (ℓ : Loc Cert.ReferenceAdaWIdeal.nD Cert.ReferenceAdaWIdeal.τ Cert.ReferenceAdaWIdeal.sig) → Buf (Elt Ideal) ℓ) (g' : Dev Cert.ReferenceAdaWIdeal.nD → PrngReg), Pre_KernelAdaWIdeal m →
    (∀ c : Dev Cert.KernelAdaWIdeal.nD,
      m' ((c.tc : Thread Cert.ReferenceAdaWIdeal.nD Cert.ReferenceAdaWIdeal.τ).loc Cert.ReferenceAdaWIdeal.main_arg0) = m ((c.tc : Thread Cert.KernelAdaWIdeal.nD Cert.KernelAdaWIdeal.τ).loc Cert.KernelAdaWIdeal.main_arg0)
      ∧ m' ((c.tc : Thread Cert.ReferenceAdaWIdeal.nD Cert.ReferenceAdaWIdeal.τ).loc Cert.ReferenceAdaWIdeal.main_arg1) = m ((c.tc : Thread Cert.KernelAdaWIdeal.nD Cert.KernelAdaWIdeal.τ).loc Cert.KernelAdaWIdeal.main_arg1)) →
    ∃ (v0 : (c : Dev Cert.KernelAdaWIdeal.nD) → Buf (Elt Ideal) ((c.tc : Thread Cert.KernelAdaWIdeal.nD Cert.KernelAdaWIdeal.τ).loc Cert.KernelAdaWIdeal.main_v0)),
      θ_run (Cert.KernelAdaWIdeal.defs (F := Ideal)) (onTc (τ := Cert.KernelAdaWIdeal.τ) (Cert.KernelAdaWIdeal.main (F := Ideal))) ⟨m, fun _ => 0, g⟩ (fun r => ∀ c : Dev Cert.KernelAdaWIdeal.nD,
          r.2.mem ((c.tc : Thread Cert.KernelAdaWIdeal.nD Cert.KernelAdaWIdeal.τ).loc Cert.KernelAdaWIdeal.main_v0) = v0 c
          ∧ r.2.mem ((c.tc : Thread Cert.KernelAdaWIdeal.nD Cert.KernelAdaWIdeal.τ).loc Cert.KernelAdaWIdeal.main_arg0) = m ((c.tc : Thread Cert.KernelAdaWIdeal.nD Cert.KernelAdaWIdeal.τ).loc Cert.KernelAdaWIdeal.main_arg0)
          ∧ r.2.mem ((c.tc : Thread Cert.KernelAdaWIdeal.nD Cert.KernelAdaWIdeal.τ).loc Cert.KernelAdaWIdeal.main_arg1) = m ((c.tc : Thread Cert.KernelAdaWIdeal.nD Cert.KernelAdaWIdeal.τ).loc Cert.KernelAdaWIdeal.main_arg1))
      ∧ θ_run (Cert.ReferenceAdaWIdeal.defs (F := Ideal)) (onTc (τ := Cert.ReferenceAdaWIdeal.τ) (Cert.ReferenceAdaWIdeal.main (F := Ideal))) ⟨m', fun _ => 0, g'⟩ (fun r => ∀ c : Dev Cert.ReferenceAdaWIdeal.nD,
          r.2.mem ((c.tc : Thread Cert.ReferenceAdaWIdeal.nD Cert.ReferenceAdaWIdeal.τ).loc Cert.ReferenceAdaWIdeal.main_v3) = v0 c
          ∧ r.2.mem ((c.tc : Thread Cert.ReferenceAdaWIdeal.nD Cert.ReferenceAdaWIdeal.τ).loc Cert.ReferenceAdaWIdeal.main_arg0) = m' ((c.tc : Thread Cert.ReferenceAdaWIdeal.nD Cert.ReferenceAdaWIdeal.τ).loc Cert.ReferenceAdaWIdeal.main_arg0)
          ∧ r.2.mem ((c.tc : Thread Cert.ReferenceAdaWIdeal.nD Cert.ReferenceAdaWIdeal.τ).loc Cert.ReferenceAdaWIdeal.main_arg1) = m' ((c.tc : Thread Cert.ReferenceAdaWIdeal.nD Cert.ReferenceAdaWIdeal.τ).loc Cert.ReferenceAdaWIdeal.main_arg1))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)) (v3 : (c : Dev Cert.KernelAdamIdeal.nD) → Buf (Elt Ideal) ((c.tc : Thread Cert.KernelAdamIdeal.nD Cert.KernelAdamIdeal.τ).loc Cert.KernelAdamIdeal.main_v0_3)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_v0_3) = v3 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v0) = v0 c
          ∧ r.2.mem ((c.tc : Thread Cert.ReferenceAdamIdeal.nD Cert.ReferenceAdamIdeal.τ).loc Cert.ReferenceAdamIdeal.main_v24) = v1 c
          ∧ r.2.mem ((c.tc : Thread Cert.ReferenceAdamIdeal.nD Cert.ReferenceAdamIdeal.τ).loc Cert.ReferenceAdamIdeal.main_v5) = v2 c
          ∧ r.2.mem ((c.tc : Thread Cert.ReferenceAdamIdeal.nD Cert.ReferenceAdamIdeal.τ).loc Cert.ReferenceAdamIdeal.main_v11) = v3 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def preserves_KernelAdamRep_KernelAdamRepIdeal : Prop :=
  True

def algebraic_KernelAdamRepIdeal_ReferenceAdamRepIdeal [hKernelAdamRepIdeal : Cert.KernelAdamRepIdeal.Facts] [hReferenceAdamRepIdeal : Cert.ReferenceAdamRepIdeal.Facts] : Prop :=
  ∀ (m : (ℓ : Loc Cert.KernelAdamRepIdeal.nD Cert.KernelAdamRepIdeal.τ Cert.KernelAdamRepIdeal.sig) → Buf (Elt Ideal) ℓ) (g : Dev Cert.KernelAdamRepIdeal.nD → PrngReg)
    (m' : (ℓ : Loc Cert.ReferenceAdamRepIdeal.nD Cert.ReferenceAdamRepIdeal.τ Cert.ReferenceAdamRepIdeal.sig) → Buf (Elt Ideal) ℓ) (g' : Dev Cert.ReferenceAdamRepIdeal.nD → PrngReg), Pre_KernelAdamRepIdeal m →
    (∀ c : Dev Cert.KernelAdamRepIdeal.nD,
      m' ((c.tc : Thread Cert.ReferenceAdamRepIdeal.nD Cert.ReferenceAdamRepIdeal.τ).loc Cert.ReferenceAdamRepIdeal.main_arg0) = m ((c.tc : Thread Cert.KernelAdamRepIdeal.nD Cert.KernelAdamRepIdeal.τ).loc Cert.KernelAdamRepIdeal.main_arg0)
      ∧ m' ((c.tc : Thread Cert.ReferenceAdamRepIdeal.nD Cert.ReferenceAdamRepIdeal.τ).loc Cert.ReferenceAdamRepIdeal.main_arg1) = m ((c.tc : Thread Cert.KernelAdamRepIdeal.nD Cert.KernelAdamRepIdeal.τ).loc Cert.KernelAdamRepIdeal.main_arg1)
      ∧ m' ((c.tc : Thread Cert.ReferenceAdamRepIdeal.nD Cert.ReferenceAdamRepIdeal.τ).loc Cert.ReferenceAdamRepIdeal.main_arg2) = m ((c.tc : Thread Cert.KernelAdamRepIdeal.nD Cert.KernelAdamRepIdeal.τ).loc Cert.KernelAdamRepIdeal.main_arg2)
      ∧ m' ((c.tc : Thread Cert.ReferenceAdamRepIdeal.nD Cert.ReferenceAdamRepIdeal.τ).loc Cert.ReferenceAdamRepIdeal.main_arg3) = m ((c.tc : Thread Cert.KernelAdamRepIdeal.nD Cert.KernelAdamRepIdeal.τ).loc Cert.KernelAdamRepIdeal.main_arg3)) →
    ∃ (v0 : (c : Dev Cert.KernelAdamRepIdeal.nD) → Buf (Elt Ideal) ((c.tc : Thread Cert.KernelAdamRepIdeal.nD Cert.KernelAdamRepIdeal.τ).loc Cert.KernelAdamRepIdeal.main_v0_0)) (v1 : (c : Dev Cert.KernelAdamRepIdeal.nD) → Buf (Elt Ideal) ((c.tc : Thread Cert.KernelAdamRepIdeal.nD Cert.KernelAdamRepIdeal.τ).loc Cert.KernelAdamRepIdeal.main_v0_1)) (v2 : (c : Dev Cert.KernelAdamRepIdeal.nD) → Buf (Elt Ideal) ((c.tc : Thread Cert.KernelAdamRepIdeal.nD Cert.KernelAdamRepIdeal.τ).loc Cert.KernelAdamRepIdeal.main_v0_2)) (v3 : (c : Dev Cert.KernelAdamRepIdeal.nD) → Buf (Elt Ideal) ((c.tc : Thread Cert.KernelAdamRepIdeal.nD Cert.KernelAdamRepIdeal.τ).loc Cert.KernelAdamRepIdeal.main_v0_3)),
      θ_run (Cert.KernelAdamRepIdeal.defs (F := Ideal)) (onTc (τ := Cert.KernelAdamRepIdeal.τ) (Cert.KernelAdamRepIdeal.main (F := Ideal))) ⟨m, fun _ => 0, g⟩ (fun r => ∀ c : Dev Cert.KernelAdamRepIdeal.nD,
          r.2.mem ((c.tc : Thread Cert.KernelAdamRepIdeal.nD Cert.KernelAdamRepIdeal.τ).loc Cert.KernelAdamRepIdeal.main_v0_0) = v0 c
          ∧ r.2.mem ((c.tc : Thread Cert.KernelAdamRepIdeal.nD Cert.KernelAdamRepIdeal.τ).loc Cert.KernelAdamRepIdeal.main_v0_1) = v1 c
          ∧ r.2.mem ((c.tc : Thread Cert.KernelAdamRepIdeal.nD Cert.KernelAdamRepIdeal.τ).loc Cert.KernelAdamRepIdeal.main_v0_2) = v2 c
          ∧ r.2.mem ((c.tc : Thread Cert.KernelAdamRepIdeal.nD Cert.KernelAdamRepIdeal.τ).loc Cert.KernelAdamRepIdeal.main_v0_3) = v3 c
          ∧ r.2.mem ((c.tc : Thread Cert.KernelAdamRepIdeal.nD Cert.KernelAdamRepIdeal.τ).loc Cert.KernelAdamRepIdeal.main_arg0) = m ((c.tc : Thread Cert.KernelAdamRepIdeal.nD Cert.KernelAdamRepIdeal.τ).loc Cert.KernelAdamRepIdeal.main_arg0)
          ∧ r.2.mem ((c.tc : Thread Cert.KernelAdamRepIdeal.nD Cert.KernelAdamRepIdeal.τ).loc Cert.KernelAdamRepIdeal.main_arg1) = m ((c.tc : Thread Cert.KernelAdamRepIdeal.nD Cert.KernelAdamRepIdeal.τ).loc Cert.KernelAdamRepIdeal.main_arg1)
          ∧ r.2.mem ((c.tc : Thread Cert.KernelAdamRepIdeal.nD Cert.KernelAdamRepIdeal.τ).loc Cert.KernelAdamRepIdeal.main_arg2) = m ((c.tc : Thread Cert.KernelAdamRepIdeal.nD Cert.KernelAdamRepIdeal.τ).loc Cert.KernelAdamRepIdeal.main_arg2)
          ∧ r.2.mem ((c.tc : Thread Cert.KernelAdamRepIdeal.nD Cert.KernelAdamRepIdeal.τ).loc Cert.KernelAdamRepIdeal.main_arg3) = m ((c.tc : Thread Cert.KernelAdamRepIdeal.nD Cert.KernelAdamRepIdeal.τ).loc Cert.KernelAdamRepIdeal.main_arg3))
      ∧ θ_run (Cert.ReferenceAdamRepIdeal.defs (F := Ideal)) (onTc (τ := Cert.ReferenceAdamRepIdeal.τ) (Cert.ReferenceAdamRepIdeal.main (F := Ideal))) ⟨m', fun _ => 0, g'⟩ (fun r => ∀ c : Dev Cert.ReferenceAdamRepIdeal.nD,
          r.2.mem ((c.tc : Thread Cert.ReferenceAdamRepIdeal.nD Cert.ReferenceAdamRepIdeal.τ).loc Cert.ReferenceAdamRepIdeal.main_v0) = v0 c
          ∧ r.2.mem ((c.tc : Thread Cert.ReferenceAdamRepIdeal.nD Cert.ReferenceAdamRepIdeal.τ).loc Cert.ReferenceAdamRepIdeal.main_v24) = v1 c
          ∧ r.2.mem ((c.tc : Thread Cert.ReferenceAdamRepIdeal.nD Cert.ReferenceAdamRepIdeal.τ).loc Cert.ReferenceAdamRepIdeal.main_v5) = v2 c
          ∧ r.2.mem ((c.tc : Thread Cert.ReferenceAdamRepIdeal.nD Cert.ReferenceAdamRepIdeal.τ).loc Cert.ReferenceAdamRepIdeal.main_v11) = v3 c
          ∧ r.2.mem ((c.tc : Thread Cert.ReferenceAdamRepIdeal.nD Cert.ReferenceAdamRepIdeal.τ).loc Cert.ReferenceAdamRepIdeal.main_arg0) = m' ((c.tc : Thread Cert.ReferenceAdamRepIdeal.nD Cert.ReferenceAdamRepIdeal.τ).loc Cert.ReferenceAdamRepIdeal.main_arg0)
          ∧ r.2.mem ((c.tc : Thread Cert.ReferenceAdamRepIdeal.nD Cert.ReferenceAdamRepIdeal.τ).loc Cert.ReferenceAdamRepIdeal.main_arg1) = m' ((c.tc : Thread Cert.ReferenceAdamRepIdeal.nD Cert.ReferenceAdamRepIdeal.τ).loc Cert.ReferenceAdamRepIdeal.main_arg1)
          ∧ r.2.mem ((c.tc : Thread Cert.ReferenceAdamRepIdeal.nD Cert.ReferenceAdamRepIdeal.τ).loc Cert.ReferenceAdamRepIdeal.main_arg2) = m' ((c.tc : Thread Cert.ReferenceAdamRepIdeal.nD Cert.ReferenceAdamRepIdeal.τ).loc Cert.ReferenceAdamRepIdeal.main_arg2)
          ∧ r.2.mem ((c.tc : Thread Cert.ReferenceAdamRepIdeal.nD Cert.ReferenceAdamRepIdeal.τ).loc Cert.ReferenceAdamRepIdeal.main_arg3) = m' ((c.tc : Thread Cert.ReferenceAdamRepIdeal.nD Cert.ReferenceAdamRepIdeal.τ).loc Cert.ReferenceAdamRepIdeal.main_arg3))

def preserves_KernelHalvesIn_KernelHalvesInIdeal : Prop :=
  True

def algebraic_KernelHalvesInIdeal_ReferenceHalvesInIdeal [hKernelHalvesInIdeal : Cert.KernelHalvesInIdeal.Facts] [hReferenceHalvesInIdeal : Cert.ReferenceHalvesInIdeal.Facts] : Prop :=
  ∀ (m : (ℓ : Loc Cert.KernelHalvesInIdeal.nD Cert.KernelHalvesInIdeal.τ Cert.KernelHalvesInIdeal.sig) → Buf (Elt Ideal) ℓ) (g : Dev Cert.KernelHalvesInIdeal.nD → PrngReg)
    (m' : (ℓ : Loc Cert.ReferenceHalvesInIdeal.nD Cert.ReferenceHalvesInIdeal.τ Cert.ReferenceHalvesInIdeal.sig) → Buf (Elt Ideal) ℓ) (g' : Dev Cert.ReferenceHalvesInIdeal.nD → PrngReg), Pre_KernelHalvesInIdeal m →
    (∀ c : Dev Cert.KernelHalvesInIdeal.nD,
      m' ((c.tc : Thread Cert.ReferenceHalvesInIdeal.nD Cert.ReferenceHalvesInIdeal.τ).loc Cert.ReferenceHalvesInIdeal.main_arg0) = m ((c.tc : Thread Cert.KernelHalvesInIdeal.nD Cert.KernelHalvesInIdeal.τ).loc Cert.KernelHalvesInIdeal.main_arg0)
      ∧ m' ((c.tc : Thread Cert.ReferenceHalvesInIdeal.nD Cert.ReferenceHalvesInIdeal.τ).loc Cert.ReferenceHalvesInIdeal.main_arg1) = m ((c.tc : Thread Cert.KernelHalvesInIdeal.nD Cert.KernelHalvesInIdeal.τ).loc Cert.KernelHalvesInIdeal.main_arg1)
      ∧ m' ((c.tc : Thread Cert.ReferenceHalvesInIdeal.nD Cert.ReferenceHalvesInIdeal.τ).loc Cert.ReferenceHalvesInIdeal.main_arg2) = m ((c.tc : Thread Cert.KernelHalvesInIdeal.nD Cert.KernelHalvesInIdeal.τ).loc Cert.KernelHalvesInIdeal.main_arg2)
      ∧ m' ((c.tc : Thread Cert.ReferenceHalvesInIdeal.nD Cert.ReferenceHalvesInIdeal.τ).loc Cert.ReferenceHalvesInIdeal.main_arg3) = m ((c.tc : Thread Cert.KernelHalvesInIdeal.nD Cert.KernelHalvesInIdeal.τ).loc Cert.KernelHalvesInIdeal.main_arg3)
      ∧ m' ((c.tc : Thread Cert.ReferenceHalvesInIdeal.nD Cert.ReferenceHalvesInIdeal.τ).loc Cert.ReferenceHalvesInIdeal.main_arg4) = m ((c.tc : Thread Cert.KernelHalvesInIdeal.nD Cert.KernelHalvesInIdeal.τ).loc Cert.KernelHalvesInIdeal.main_arg4)
      ∧ m' ((c.tc : Thread Cert.ReferenceHalvesInIdeal.nD Cert.ReferenceHalvesInIdeal.τ).loc Cert.ReferenceHalvesInIdeal.main_arg5) = m ((c.tc : Thread Cert.KernelHalvesInIdeal.nD Cert.KernelHalvesInIdeal.τ).loc Cert.KernelHalvesInIdeal.main_arg5)) →
    ∃ (v0 : (c : Dev Cert.KernelHalvesInIdeal.nD) → Buf (Elt Ideal) ((c.tc : Thread Cert.KernelHalvesInIdeal.nD Cert.KernelHalvesInIdeal.τ).loc Cert.KernelHalvesInIdeal.main_v0_0)) (v1 : (c : Dev Cert.KernelHalvesInIdeal.nD) → Buf (Elt Ideal) ((c.tc : Thread Cert.KernelHalvesInIdeal.nD Cert.KernelHalvesInIdeal.τ).loc Cert.KernelHalvesInIdeal.main_v0_1)) (v2 : (c : Dev Cert.KernelHalvesInIdeal.nD) → Buf (Elt Ideal) ((c.tc : Thread Cert.KernelHalvesInIdeal.nD Cert.KernelHalvesInIdeal.τ).loc Cert.KernelHalvesInIdeal.main_v0_2)) (v3 : (c : Dev Cert.KernelHalvesInIdeal.nD) → Buf (Elt Ideal) ((c.tc : Thread Cert.KernelHalvesInIdeal.nD Cert.KernelHalvesInIdeal.τ).loc Cert.KernelHalvesInIdeal.main_v0_3)),
      θ_run (Cert.KernelHalvesInIdeal.defs (F := Ideal)) (onTc (τ := Cert.KernelHalvesInIdeal.τ) (Cert.KernelHalvesInIdeal.main (F := Ideal))) ⟨m, fun _ => 0, g⟩ (fun r => ∀ c : Dev Cert.KernelHalvesInIdeal.nD,
          r.2.mem ((c.tc : Thread Cert.KernelHalvesInIdeal.nD Cert.KernelHalvesInIdeal.τ).loc Cert.KernelHalvesInIdeal.main_v0_0) = v0 c
          ∧ r.2.mem ((c.tc : Thread Cert.KernelHalvesInIdeal.nD Cert.KernelHalvesInIdeal.τ).loc Cert.KernelHalvesInIdeal.main_v0_1) = v1 c
          ∧ r.2.mem ((c.tc : Thread Cert.KernelHalvesInIdeal.nD Cert.KernelHalvesInIdeal.τ).loc Cert.KernelHalvesInIdeal.main_v0_2) = v2 c
          ∧ r.2.mem ((c.tc : Thread Cert.KernelHalvesInIdeal.nD Cert.KernelHalvesInIdeal.τ).loc Cert.KernelHalvesInIdeal.main_v0_3) = v3 c
          ∧ r.2.mem ((c.tc : Thread Cert.KernelHalvesInIdeal.nD Cert.KernelHalvesInIdeal.τ).loc Cert.KernelHalvesInIdeal.main_arg0) = m ((c.tc : Thread Cert.KernelHalvesInIdeal.nD Cert.KernelHalvesInIdeal.τ).loc Cert.KernelHalvesInIdeal.main_arg0)
          ∧ r.2.mem ((c.tc : Thread Cert.KernelHalvesInIdeal.nD Cert.KernelHalvesInIdeal.τ).loc Cert.KernelHalvesInIdeal.main_arg1) = m ((c.tc : Thread Cert.KernelHalvesInIdeal.nD Cert.KernelHalvesInIdeal.τ).loc Cert.KernelHalvesInIdeal.main_arg1)
          ∧ r.2.mem ((c.tc : Thread Cert.KernelHalvesInIdeal.nD Cert.KernelHalvesInIdeal.τ).loc Cert.KernelHalvesInIdeal.main_arg2) = m ((c.tc : Thread Cert.KernelHalvesInIdeal.nD Cert.KernelHalvesInIdeal.τ).loc Cert.KernelHalvesInIdeal.main_arg2)
          ∧ r.2.mem ((c.tc : Thread Cert.KernelHalvesInIdeal.nD Cert.KernelHalvesInIdeal.τ).loc Cert.KernelHalvesInIdeal.main_arg3) = m ((c.tc : Thread Cert.KernelHalvesInIdeal.nD Cert.KernelHalvesInIdeal.τ).loc Cert.KernelHalvesInIdeal.main_arg3)
          ∧ r.2.mem ((c.tc : Thread Cert.KernelHalvesInIdeal.nD Cert.KernelHalvesInIdeal.τ).loc Cert.KernelHalvesInIdeal.main_arg4) = m ((c.tc : Thread Cert.KernelHalvesInIdeal.nD Cert.KernelHalvesInIdeal.τ).loc Cert.KernelHalvesInIdeal.main_arg4)
          ∧ r.2.mem ((c.tc : Thread Cert.KernelHalvesInIdeal.nD Cert.KernelHalvesInIdeal.τ).loc Cert.KernelHalvesInIdeal.main_arg5) = m ((c.tc : Thread Cert.KernelHalvesInIdeal.nD Cert.KernelHalvesInIdeal.τ).loc Cert.KernelHalvesInIdeal.main_arg5))
      ∧ θ_run (Cert.ReferenceHalvesInIdeal.defs (F := Ideal)) (onTc (τ := Cert.ReferenceHalvesInIdeal.τ) (Cert.ReferenceHalvesInIdeal.main (F := Ideal))) ⟨m', fun _ => 0, g'⟩ (fun r => ∀ c : Dev Cert.ReferenceHalvesInIdeal.nD,
          r.2.mem ((c.tc : Thread Cert.ReferenceHalvesInIdeal.nD Cert.ReferenceHalvesInIdeal.τ).loc Cert.ReferenceHalvesInIdeal.main_v6) = v0 c
          ∧ r.2.mem ((c.tc : Thread Cert.ReferenceHalvesInIdeal.nD Cert.ReferenceHalvesInIdeal.τ).loc Cert.ReferenceHalvesInIdeal.main_v30) = v1 c
          ∧ r.2.mem ((c.tc : Thread Cert.ReferenceHalvesInIdeal.nD Cert.ReferenceHalvesInIdeal.τ).loc Cert.ReferenceHalvesInIdeal.main_v11) = v2 c
          ∧ r.2.mem ((c.tc : Thread Cert.ReferenceHalvesInIdeal.nD Cert.ReferenceHalvesInIdeal.τ).loc Cert.ReferenceHalvesInIdeal.main_v17) = v3 c
          ∧ r.2.mem ((c.tc : Thread Cert.ReferenceHalvesInIdeal.nD Cert.ReferenceHalvesInIdeal.τ).loc Cert.ReferenceHalvesInIdeal.main_arg0) = m' ((c.tc : Thread Cert.ReferenceHalvesInIdeal.nD Cert.ReferenceHalvesInIdeal.τ).loc Cert.ReferenceHalvesInIdeal.main_arg0)
          ∧ r.2.mem ((c.tc : Thread Cert.ReferenceHalvesInIdeal.nD Cert.ReferenceHalvesInIdeal.τ).loc Cert.ReferenceHalvesInIdeal.main_arg1) = m' ((c.tc : Thread Cert.ReferenceHalvesInIdeal.nD Cert.ReferenceHalvesInIdeal.τ).loc Cert.ReferenceHalvesInIdeal.main_arg1)
          ∧ r.2.mem ((c.tc : Thread Cert.ReferenceHalvesInIdeal.nD Cert.ReferenceHalvesInIdeal.τ).loc Cert.ReferenceHalvesInIdeal.main_arg2) = m' ((c.tc : Thread Cert.ReferenceHalvesInIdeal.nD Cert.ReferenceHalvesInIdeal.τ).loc Cert.ReferenceHalvesInIdeal.main_arg2)
          ∧ r.2.mem ((c.tc : Thread Cert.ReferenceHalvesInIdeal.nD Cert.ReferenceHalvesInIdeal.τ).loc Cert.ReferenceHalvesInIdeal.main_arg3) = m' ((c.tc : Thread Cert.ReferenceHalvesInIdeal.nD Cert.ReferenceHalvesInIdeal.τ).loc Cert.ReferenceHalvesInIdeal.main_arg3)
          ∧ r.2.mem ((c.tc : Thread Cert.ReferenceHalvesInIdeal.nD Cert.ReferenceHalvesInIdeal.τ).loc Cert.ReferenceHalvesInIdeal.main_arg4) = m' ((c.tc : Thread Cert.ReferenceHalvesInIdeal.nD Cert.ReferenceHalvesInIdeal.τ).loc Cert.ReferenceHalvesInIdeal.main_arg4)
          ∧ r.2.mem ((c.tc : Thread Cert.ReferenceHalvesInIdeal.nD Cert.ReferenceHalvesInIdeal.τ).loc Cert.ReferenceHalvesInIdeal.main_arg5) = m' ((c.tc : Thread Cert.ReferenceHalvesInIdeal.nD Cert.ReferenceHalvesInIdeal.τ).loc Cert.ReferenceHalvesInIdeal.main_arg5))

def preserves_KernelHalvesBranch_KernelHalvesBranchIdeal : Prop :=
  True

def algebraic_KernelHalvesBranchIdeal_ReferenceHalvesBranchIdeal [hKernelHalvesBranchIdeal : Cert.KernelHalvesBranchIdeal.Facts] [hReferenceHalvesBranchIdeal : Cert.ReferenceHalvesBranchIdeal.Facts] : Prop :=
  ∀ (m : (ℓ : Loc Cert.KernelHalvesBranchIdeal.nD Cert.KernelHalvesBranchIdeal.τ Cert.KernelHalvesBranchIdeal.sig) → Buf (Elt Ideal) ℓ) (g : Dev Cert.KernelHalvesBranchIdeal.nD → PrngReg)
    (m' : (ℓ : Loc Cert.ReferenceHalvesBranchIdeal.nD Cert.ReferenceHalvesBranchIdeal.τ Cert.ReferenceHalvesBranchIdeal.sig) → Buf (Elt Ideal) ℓ) (g' : Dev Cert.ReferenceHalvesBranchIdeal.nD → PrngReg), Pre_KernelHalvesBranchIdeal m →
    (∀ c : Dev Cert.KernelHalvesBranchIdeal.nD,
      m' ((c.tc : Thread Cert.ReferenceHalvesBranchIdeal.nD Cert.ReferenceHalvesBranchIdeal.τ).loc Cert.ReferenceHalvesBranchIdeal.main_arg0) = m ((c.tc : Thread Cert.KernelHalvesBranchIdeal.nD Cert.KernelHalvesBranchIdeal.τ).loc Cert.KernelHalvesBranchIdeal.main_arg0)
      ∧ m' ((c.tc : Thread Cert.ReferenceHalvesBranchIdeal.nD Cert.ReferenceHalvesBranchIdeal.τ).loc Cert.ReferenceHalvesBranchIdeal.main_arg1) = m ((c.tc : Thread Cert.KernelHalvesBranchIdeal.nD Cert.KernelHalvesBranchIdeal.τ).loc Cert.KernelHalvesBranchIdeal.main_arg1)
      ∧ m' ((c.tc : Thread Cert.ReferenceHalvesBranchIdeal.nD Cert.ReferenceHalvesBranchIdeal.τ).loc Cert.ReferenceHalvesBranchIdeal.main_arg2) = m ((c.tc : Thread Cert.KernelHalvesBranchIdeal.nD Cert.KernelHalvesBranchIdeal.τ).loc Cert.KernelHalvesBranchIdeal.main_arg2)
      ∧ m' ((c.tc : Thread Cert.ReferenceHalvesBranchIdeal.nD Cert.ReferenceHalvesBranchIdeal.τ).loc Cert.ReferenceHalvesBranchIdeal.main_arg3) = m ((c.tc : Thread Cert.KernelHalvesBranchIdeal.nD Cert.KernelHalvesBranchIdeal.τ).loc Cert.KernelHalvesBranchIdeal.main_arg3)
      ∧ m' ((c.tc : Thread Cert.ReferenceHalvesBranchIdeal.nD Cert.ReferenceHalvesBranchIdeal.τ).loc Cert.ReferenceHalvesBranchIdeal.main_arg4) = m ((c.tc : Thread Cert.KernelHalvesBranchIdeal.nD Cert.KernelHalvesBranchIdeal.τ).loc Cert.KernelHalvesBranchIdeal.main_arg4)
      ∧ m' ((c.tc : Thread Cert.ReferenceHalvesBranchIdeal.nD Cert.ReferenceHalvesBranchIdeal.τ).loc Cert.ReferenceHalvesBranchIdeal.main_arg5) = m ((c.tc : Thread Cert.KernelHalvesBranchIdeal.nD Cert.KernelHalvesBranchIdeal.τ).loc Cert.KernelHalvesBranchIdeal.main_arg5)) →
    ∃ (v0 : (c : Dev Cert.KernelHalvesBranchIdeal.nD) → Buf (Elt Ideal) ((c.tc : Thread Cert.KernelHalvesBranchIdeal.nD Cert.KernelHalvesBranchIdeal.τ).loc Cert.KernelHalvesBranchIdeal.main_v0_0)) (v1 : (c : Dev Cert.KernelHalvesBranchIdeal.nD) → Buf (Elt Ideal) ((c.tc : Thread Cert.KernelHalvesBranchIdeal.nD Cert.KernelHalvesBranchIdeal.τ).loc Cert.KernelHalvesBranchIdeal.main_v0_1)) (v2 : (c : Dev Cert.KernelHalvesBranchIdeal.nD) → Buf (Elt Ideal) ((c.tc : Thread Cert.KernelHalvesBranchIdeal.nD Cert.KernelHalvesBranchIdeal.τ).loc Cert.KernelHalvesBranchIdeal.main_v0_2)) (v3 : (c : Dev Cert.KernelHalvesBranchIdeal.nD) → Buf (Elt Ideal) ((c.tc : Thread Cert.KernelHalvesBranchIdeal.nD Cert.KernelHalvesBranchIdeal.τ).loc Cert.KernelHalvesBranchIdeal.main_v0_3)),
      θ_run (Cert.KernelHalvesBranchIdeal.defs (F := Ideal)) (onTc (τ := Cert.KernelHalvesBranchIdeal.τ) (Cert.KernelHalvesBranchIdeal.main (F := Ideal))) ⟨m, fun _ => 0, g⟩ (fun r => ∀ c : Dev Cert.KernelHalvesBranchIdeal.nD,
          r.2.mem ((c.tc : Thread Cert.KernelHalvesBranchIdeal.nD Cert.KernelHalvesBranchIdeal.τ).loc Cert.KernelHalvesBranchIdeal.main_v0_0) = v0 c
          ∧ r.2.mem ((c.tc : Thread Cert.KernelHalvesBranchIdeal.nD Cert.KernelHalvesBranchIdeal.τ).loc Cert.KernelHalvesBranchIdeal.main_v0_1) = v1 c
          ∧ r.2.mem ((c.tc : Thread Cert.KernelHalvesBranchIdeal.nD Cert.KernelHalvesBranchIdeal.τ).loc Cert.KernelHalvesBranchIdeal.main_v0_2) = v2 c
          ∧ r.2.mem ((c.tc : Thread Cert.KernelHalvesBranchIdeal.nD Cert.KernelHalvesBranchIdeal.τ).loc Cert.KernelHalvesBranchIdeal.main_v0_3) = v3 c
          ∧ r.2.mem ((c.tc : Thread Cert.KernelHalvesBranchIdeal.nD Cert.KernelHalvesBranchIdeal.τ).loc Cert.KernelHalvesBranchIdeal.main_arg0) = m ((c.tc : Thread Cert.KernelHalvesBranchIdeal.nD Cert.KernelHalvesBranchIdeal.τ).loc Cert.KernelHalvesBranchIdeal.main_arg0)
          ∧ r.2.mem ((c.tc : Thread Cert.KernelHalvesBranchIdeal.nD Cert.KernelHalvesBranchIdeal.τ).loc Cert.KernelHalvesBranchIdeal.main_arg1) = m ((c.tc : Thread Cert.KernelHalvesBranchIdeal.nD Cert.KernelHalvesBranchIdeal.τ).loc Cert.KernelHalvesBranchIdeal.main_arg1)
          ∧ r.2.mem ((c.tc : Thread Cert.KernelHalvesBranchIdeal.nD Cert.KernelHalvesBranchIdeal.τ).loc Cert.KernelHalvesBranchIdeal.main_arg2) = m ((c.tc : Thread Cert.KernelHalvesBranchIdeal.nD Cert.KernelHalvesBranchIdeal.τ).loc Cert.KernelHalvesBranchIdeal.main_arg2)
          ∧ r.2.mem ((c.tc : Thread Cert.KernelHalvesBranchIdeal.nD Cert.KernelHalvesBranchIdeal.τ).loc Cert.KernelHalvesBranchIdeal.main_arg3) = m ((c.tc : Thread Cert.KernelHalvesBranchIdeal.nD Cert.KernelHalvesBranchIdeal.τ).loc Cert.KernelHalvesBranchIdeal.main_arg3)
          ∧ r.2.mem ((c.tc : Thread Cert.KernelHalvesBranchIdeal.nD Cert.KernelHalvesBranchIdeal.τ).loc Cert.KernelHalvesBranchIdeal.main_arg4) = m ((c.tc : Thread Cert.KernelHalvesBranchIdeal.nD Cert.KernelHalvesBranchIdeal.τ).loc Cert.KernelHalvesBranchIdeal.main_arg4)
          ∧ r.2.mem ((c.tc : Thread Cert.KernelHalvesBranchIdeal.nD Cert.KernelHalvesBranchIdeal.τ).loc Cert.KernelHalvesBranchIdeal.main_arg5) = m ((c.tc : Thread Cert.KernelHalvesBranchIdeal.nD Cert.KernelHalvesBranchIdeal.τ).loc Cert.KernelHalvesBranchIdeal.main_arg5))
      ∧ θ_run (Cert.ReferenceHalvesBranchIdeal.defs (F := Ideal)) (onTc (τ := Cert.ReferenceHalvesBranchIdeal.τ) (Cert.ReferenceHalvesBranchIdeal.main (F := Ideal))) ⟨m', fun _ => 0, g'⟩ (fun r => ∀ c : Dev Cert.ReferenceHalvesBranchIdeal.nD,
          r.2.mem ((c.tc : Thread Cert.ReferenceHalvesBranchIdeal.nD Cert.ReferenceHalvesBranchIdeal.τ).loc Cert.ReferenceHalvesBranchIdeal.main_v6) = v0 c
          ∧ r.2.mem ((c.tc : Thread Cert.ReferenceHalvesBranchIdeal.nD Cert.ReferenceHalvesBranchIdeal.τ).loc Cert.ReferenceHalvesBranchIdeal.main_v30) = v1 c
          ∧ r.2.mem ((c.tc : Thread Cert.ReferenceHalvesBranchIdeal.nD Cert.ReferenceHalvesBranchIdeal.τ).loc Cert.ReferenceHalvesBranchIdeal.main_v11) = v2 c
          ∧ r.2.mem ((c.tc : Thread Cert.ReferenceHalvesBranchIdeal.nD Cert.ReferenceHalvesBranchIdeal.τ).loc Cert.ReferenceHalvesBranchIdeal.main_v17) = v3 c
          ∧ r.2.mem ((c.tc : Thread Cert.ReferenceHalvesBranchIdeal.nD Cert.ReferenceHalvesBranchIdeal.τ).loc Cert.ReferenceHalvesBranchIdeal.main_arg0) = m' ((c.tc : Thread Cert.ReferenceHalvesBranchIdeal.nD Cert.ReferenceHalvesBranchIdeal.τ).loc Cert.ReferenceHalvesBranchIdeal.main_arg0)
          ∧ r.2.mem ((c.tc : Thread Cert.ReferenceHalvesBranchIdeal.nD Cert.ReferenceHalvesBranchIdeal.τ).loc Cert.ReferenceHalvesBranchIdeal.main_arg1) = m' ((c.tc : Thread Cert.ReferenceHalvesBranchIdeal.nD Cert.ReferenceHalvesBranchIdeal.τ).loc Cert.ReferenceHalvesBranchIdeal.main_arg1)
          ∧ r.2.mem ((c.tc : Thread Cert.ReferenceHalvesBranchIdeal.nD Cert.ReferenceHalvesBranchIdeal.τ).loc Cert.ReferenceHalvesBranchIdeal.main_arg2) = m' ((c.tc : Thread Cert.ReferenceHalvesBranchIdeal.nD Cert.ReferenceHalvesBranchIdeal.τ).loc Cert.ReferenceHalvesBranchIdeal.main_arg2)
          ∧ r.2.mem ((c.tc : Thread Cert.ReferenceHalvesBranchIdeal.nD Cert.ReferenceHalvesBranchIdeal.τ).loc Cert.ReferenceHalvesBranchIdeal.main_arg3) = m' ((c.tc : Thread Cert.ReferenceHalvesBranchIdeal.nD Cert.ReferenceHalvesBranchIdeal.τ).loc Cert.ReferenceHalvesBranchIdeal.main_arg3)
          ∧ r.2.mem ((c.tc : Thread Cert.ReferenceHalvesBranchIdeal.nD Cert.ReferenceHalvesBranchIdeal.τ).loc Cert.ReferenceHalvesBranchIdeal.main_arg4) = m' ((c.tc : Thread Cert.ReferenceHalvesBranchIdeal.nD Cert.ReferenceHalvesBranchIdeal.τ).loc Cert.ReferenceHalvesBranchIdeal.main_arg4)
          ∧ r.2.mem ((c.tc : Thread Cert.ReferenceHalvesBranchIdeal.nD Cert.ReferenceHalvesBranchIdeal.τ).loc Cert.ReferenceHalvesBranchIdeal.main_arg5) = m' ((c.tc : Thread Cert.ReferenceHalvesBranchIdeal.nD Cert.ReferenceHalvesBranchIdeal.τ).loc Cert.ReferenceHalvesBranchIdeal.main_arg5))

def preserves_KernelHalvesOut_KernelHalvesOutIdeal : Prop :=
  True

def algebraic_KernelHalvesOutIdeal_ReferenceHalvesOutIdeal [hKernelHalvesOutIdeal : Cert.KernelHalvesOutIdeal.Facts] [hReferenceHalvesOutIdeal : Cert.ReferenceHalvesOutIdeal.Facts] : Prop :=
  ∀ (m : (ℓ : Loc Cert.KernelHalvesOutIdeal.nD Cert.KernelHalvesOutIdeal.τ Cert.KernelHalvesOutIdeal.sig) → Buf (Elt Ideal) ℓ) (g : Dev Cert.KernelHalvesOutIdeal.nD → PrngReg)
    (m' : (ℓ : Loc Cert.ReferenceHalvesOutIdeal.nD Cert.ReferenceHalvesOutIdeal.τ Cert.ReferenceHalvesOutIdeal.sig) → Buf (Elt Ideal) ℓ) (g' : Dev Cert.ReferenceHalvesOutIdeal.nD → PrngReg), Pre_KernelHalvesOutIdeal m →
    (∀ c : Dev Cert.KernelHalvesOutIdeal.nD,
      m' ((c.tc : Thread Cert.ReferenceHalvesOutIdeal.nD Cert.ReferenceHalvesOutIdeal.τ).loc Cert.ReferenceHalvesOutIdeal.main_arg0) = m ((c.tc : Thread Cert.KernelHalvesOutIdeal.nD Cert.KernelHalvesOutIdeal.τ).loc Cert.KernelHalvesOutIdeal.main_arg0)
      ∧ m' ((c.tc : Thread Cert.ReferenceHalvesOutIdeal.nD Cert.ReferenceHalvesOutIdeal.τ).loc Cert.ReferenceHalvesOutIdeal.main_arg1) = m ((c.tc : Thread Cert.KernelHalvesOutIdeal.nD Cert.KernelHalvesOutIdeal.τ).loc Cert.KernelHalvesOutIdeal.main_arg1)
      ∧ m' ((c.tc : Thread Cert.ReferenceHalvesOutIdeal.nD Cert.ReferenceHalvesOutIdeal.τ).loc Cert.ReferenceHalvesOutIdeal.main_arg2) = m ((c.tc : Thread Cert.KernelHalvesOutIdeal.nD Cert.KernelHalvesOutIdeal.τ).loc Cert.KernelHalvesOutIdeal.main_arg2)
      ∧ m' ((c.tc : Thread Cert.ReferenceHalvesOutIdeal.nD Cert.ReferenceHalvesOutIdeal.τ).loc Cert.ReferenceHalvesOutIdeal.main_arg3) = m ((c.tc : Thread Cert.KernelHalvesOutIdeal.nD Cert.KernelHalvesOutIdeal.τ).loc Cert.KernelHalvesOutIdeal.main_arg3)
      ∧ m' ((c.tc : Thread Cert.ReferenceHalvesOutIdeal.nD Cert.ReferenceHalvesOutIdeal.τ).loc Cert.ReferenceHalvesOutIdeal.main_arg4) = m ((c.tc : Thread Cert.KernelHalvesOutIdeal.nD Cert.KernelHalvesOutIdeal.τ).loc Cert.KernelHalvesOutIdeal.main_arg4)
      ∧ m' ((c.tc : Thread Cert.ReferenceHalvesOutIdeal.nD Cert.ReferenceHalvesOutIdeal.τ).loc Cert.ReferenceHalvesOutIdeal.main_arg5) = m ((c.tc : Thread Cert.KernelHalvesOutIdeal.nD Cert.KernelHalvesOutIdeal.τ).loc Cert.KernelHalvesOutIdeal.main_arg5)) →
    ∃ (v0 : (c : Dev Cert.KernelHalvesOutIdeal.nD) → Buf (Elt Ideal) ((c.tc : Thread Cert.KernelHalvesOutIdeal.nD Cert.KernelHalvesOutIdeal.τ).loc Cert.KernelHalvesOutIdeal.main_v0_0)) (v1 : (c : Dev Cert.KernelHalvesOutIdeal.nD) → Buf (Elt Ideal) ((c.tc : Thread Cert.KernelHalvesOutIdeal.nD Cert.KernelHalvesOutIdeal.τ).loc Cert.KernelHalvesOutIdeal.main_v0_1)) (v2 : (c : Dev Cert.KernelHalvesOutIdeal.nD) → Buf (Elt Ideal) ((c.tc : Thread Cert.KernelHalvesOutIdeal.nD Cert.KernelHalvesOutIdeal.τ).loc Cert.KernelHalvesOutIdeal.main_v0_2)) (v3 : (c : Dev Cert.KernelHalvesOutIdeal.nD) → Buf (Elt Ideal) ((c.tc : Thread Cert.KernelHalvesOutIdeal.nD Cert.KernelHalvesOutIdeal.τ).loc Cert.KernelHalvesOutIdeal.main_v0_3)),
      θ_run (Cert.KernelHalvesOutIdeal.defs (F := Ideal)) (onTc (τ := Cert.KernelHalvesOutIdeal.τ) (Cert.KernelHalvesOutIdeal.main (F := Ideal))) ⟨m, fun _ => 0, g⟩ (fun r => ∀ c : Dev Cert.KernelHalvesOutIdeal.nD,
          r.2.mem ((c.tc : Thread Cert.KernelHalvesOutIdeal.nD Cert.KernelHalvesOutIdeal.τ).loc Cert.KernelHalvesOutIdeal.main_v0_0) = v0 c
          ∧ r.2.mem ((c.tc : Thread Cert.KernelHalvesOutIdeal.nD Cert.KernelHalvesOutIdeal.τ).loc Cert.KernelHalvesOutIdeal.main_v0_1) = v1 c
          ∧ r.2.mem ((c.tc : Thread Cert.KernelHalvesOutIdeal.nD Cert.KernelHalvesOutIdeal.τ).loc Cert.KernelHalvesOutIdeal.main_v0_2) = v2 c
          ∧ r.2.mem ((c.tc : Thread Cert.KernelHalvesOutIdeal.nD Cert.KernelHalvesOutIdeal.τ).loc Cert.KernelHalvesOutIdeal.main_v0_3) = v3 c
          ∧ r.2.mem ((c.tc : Thread Cert.KernelHalvesOutIdeal.nD Cert.KernelHalvesOutIdeal.τ).loc Cert.KernelHalvesOutIdeal.main_arg0) = m ((c.tc : Thread Cert.KernelHalvesOutIdeal.nD Cert.KernelHalvesOutIdeal.τ).loc Cert.KernelHalvesOutIdeal.main_arg0)
          ∧ r.2.mem ((c.tc : Thread Cert.KernelHalvesOutIdeal.nD Cert.KernelHalvesOutIdeal.τ).loc Cert.KernelHalvesOutIdeal.main_arg1) = m ((c.tc : Thread Cert.KernelHalvesOutIdeal.nD Cert.KernelHalvesOutIdeal.τ).loc Cert.KernelHalvesOutIdeal.main_arg1)
          ∧ r.2.mem ((c.tc : Thread Cert.KernelHalvesOutIdeal.nD Cert.KernelHalvesOutIdeal.τ).loc Cert.KernelHalvesOutIdeal.main_arg2) = m ((c.tc : Thread Cert.KernelHalvesOutIdeal.nD Cert.KernelHalvesOutIdeal.τ).loc Cert.KernelHalvesOutIdeal.main_arg2)
          ∧ r.2.mem ((c.tc : Thread Cert.KernelHalvesOutIdeal.nD Cert.KernelHalvesOutIdeal.τ).loc Cert.KernelHalvesOutIdeal.main_arg3) = m ((c.tc : Thread Cert.KernelHalvesOutIdeal.nD Cert.KernelHalvesOutIdeal.τ).loc Cert.KernelHalvesOutIdeal.main_arg3)
          ∧ r.2.mem ((c.tc : Thread Cert.KernelHalvesOutIdeal.nD Cert.KernelHalvesOutIdeal.τ).loc Cert.KernelHalvesOutIdeal.main_arg4) = m ((c.tc : Thread Cert.KernelHalvesOutIdeal.nD Cert.KernelHalvesOutIdeal.τ).loc Cert.KernelHalvesOutIdeal.main_arg4)
          ∧ r.2.mem ((c.tc : Thread Cert.KernelHalvesOutIdeal.nD Cert.KernelHalvesOutIdeal.τ).loc Cert.KernelHalvesOutIdeal.main_arg5) = m ((c.tc : Thread Cert.KernelHalvesOutIdeal.nD Cert.KernelHalvesOutIdeal.τ).loc Cert.KernelHalvesOutIdeal.main_arg5))
      ∧ θ_run (Cert.ReferenceHalvesOutIdeal.defs (F := Ideal)) (onTc (τ := Cert.ReferenceHalvesOutIdeal.τ) (Cert.ReferenceHalvesOutIdeal.main (F := Ideal))) ⟨m', fun _ => 0, g'⟩ (fun r => ∀ c : Dev Cert.ReferenceHalvesOutIdeal.nD,
          r.2.mem ((c.tc : Thread Cert.ReferenceHalvesOutIdeal.nD Cert.ReferenceHalvesOutIdeal.τ).loc Cert.ReferenceHalvesOutIdeal.main_v6) = v0 c
          ∧ r.2.mem ((c.tc : Thread Cert.ReferenceHalvesOutIdeal.nD Cert.ReferenceHalvesOutIdeal.τ).loc Cert.ReferenceHalvesOutIdeal.main_v30) = v1 c
          ∧ r.2.mem ((c.tc : Thread Cert.ReferenceHalvesOutIdeal.nD Cert.ReferenceHalvesOutIdeal.τ).loc Cert.ReferenceHalvesOutIdeal.main_v11) = v2 c
          ∧ r.2.mem ((c.tc : Thread Cert.ReferenceHalvesOutIdeal.nD Cert.ReferenceHalvesOutIdeal.τ).loc Cert.ReferenceHalvesOutIdeal.main_v17) = v3 c
          ∧ r.2.mem ((c.tc : Thread Cert.ReferenceHalvesOutIdeal.nD Cert.ReferenceHalvesOutIdeal.τ).loc Cert.ReferenceHalvesOutIdeal.main_arg0) = m' ((c.tc : Thread Cert.ReferenceHalvesOutIdeal.nD Cert.ReferenceHalvesOutIdeal.τ).loc Cert.ReferenceHalvesOutIdeal.main_arg0)
          ∧ r.2.mem ((c.tc : Thread Cert.ReferenceHalvesOutIdeal.nD Cert.ReferenceHalvesOutIdeal.τ).loc Cert.ReferenceHalvesOutIdeal.main_arg1) = m' ((c.tc : Thread Cert.ReferenceHalvesOutIdeal.nD Cert.ReferenceHalvesOutIdeal.τ).loc Cert.ReferenceHalvesOutIdeal.main_arg1)
          ∧ r.2.mem ((c.tc : Thread Cert.ReferenceHalvesOutIdeal.nD Cert.ReferenceHalvesOutIdeal.τ).loc Cert.ReferenceHalvesOutIdeal.main_arg2) = m' ((c.tc : Thread Cert.ReferenceHalvesOutIdeal.nD Cert.ReferenceHalvesOutIdeal.τ).loc Cert.ReferenceHalvesOutIdeal.main_arg2)
          ∧ r.2.mem ((c.tc : Thread Cert.ReferenceHalvesOutIdeal.nD Cert.ReferenceHalvesOutIdeal.τ).loc Cert.ReferenceHalvesOutIdeal.main_arg3) = m' ((c.tc : Thread Cert.ReferenceHalvesOutIdeal.nD Cert.ReferenceHalvesOutIdeal.τ).loc Cert.ReferenceHalvesOutIdeal.main_arg3)
          ∧ r.2.mem ((c.tc : Thread Cert.ReferenceHalvesOutIdeal.nD Cert.ReferenceHalvesOutIdeal.τ).loc Cert.ReferenceHalvesOutIdeal.main_arg4) = m' ((c.tc : Thread Cert.ReferenceHalvesOutIdeal.nD Cert.ReferenceHalvesOutIdeal.τ).loc Cert.ReferenceHalvesOutIdeal.main_arg4)
          ∧ r.2.mem ((c.tc : Thread Cert.ReferenceHalvesOutIdeal.nD Cert.ReferenceHalvesOutIdeal.τ).loc Cert.ReferenceHalvesOutIdeal.main_arg5) = m' ((c.tc : Thread Cert.ReferenceHalvesOutIdeal.nD Cert.ReferenceHalvesOutIdeal.τ).loc Cert.ReferenceHalvesOutIdeal.main_arg5))

def preserves_KernelHalvesSmall_KernelHalvesSmallIdeal : Prop :=
  True

def algebraic_KernelHalvesSmallIdeal_ReferenceHalvesSmallIdeal [hKernelHalvesSmallIdeal : Cert.KernelHalvesSmallIdeal.Facts] [hReferenceHalvesSmallIdeal : Cert.ReferenceHalvesSmallIdeal.Facts] : Prop :=
  ∀ (m : (ℓ : Loc Cert.KernelHalvesSmallIdeal.nD Cert.KernelHalvesSmallIdeal.τ Cert.KernelHalvesSmallIdeal.sig) → Buf (Elt Ideal) ℓ) (g : Dev Cert.KernelHalvesSmallIdeal.nD → PrngReg)
    (m' : (ℓ : Loc Cert.ReferenceHalvesSmallIdeal.nD Cert.ReferenceHalvesSmallIdeal.τ Cert.ReferenceHalvesSmallIdeal.sig) → Buf (Elt Ideal) ℓ) (g' : Dev Cert.ReferenceHalvesSmallIdeal.nD → PrngReg), Pre_KernelHalvesSmallIdeal m →
    (∀ c : Dev Cert.KernelHalvesSmallIdeal.nD,
      m' ((c.tc : Thread Cert.ReferenceHalvesSmallIdeal.nD Cert.ReferenceHalvesSmallIdeal.τ).loc Cert.ReferenceHalvesSmallIdeal.main_arg0) = m ((c.tc : Thread Cert.KernelHalvesSmallIdeal.nD Cert.KernelHalvesSmallIdeal.τ).loc Cert.KernelHalvesSmallIdeal.main_arg0)
      ∧ m' ((c.tc : Thread Cert.ReferenceHalvesSmallIdeal.nD Cert.ReferenceHalvesSmallIdeal.τ).loc Cert.ReferenceHalvesSmallIdeal.main_arg1) = m ((c.tc : Thread Cert.KernelHalvesSmallIdeal.nD Cert.KernelHalvesSmallIdeal.τ).loc Cert.KernelHalvesSmallIdeal.main_arg1)
      ∧ m' ((c.tc : Thread Cert.ReferenceHalvesSmallIdeal.nD Cert.ReferenceHalvesSmallIdeal.τ).loc Cert.ReferenceHalvesSmallIdeal.main_arg2) = m ((c.tc : Thread Cert.KernelHalvesSmallIdeal.nD Cert.KernelHalvesSmallIdeal.τ).loc Cert.KernelHalvesSmallIdeal.main_arg2)
      ∧ m' ((c.tc : Thread Cert.ReferenceHalvesSmallIdeal.nD Cert.ReferenceHalvesSmallIdeal.τ).loc Cert.ReferenceHalvesSmallIdeal.main_arg3) = m ((c.tc : Thread Cert.KernelHalvesSmallIdeal.nD Cert.KernelHalvesSmallIdeal.τ).loc Cert.KernelHalvesSmallIdeal.main_arg3)
      ∧ m' ((c.tc : Thread Cert.ReferenceHalvesSmallIdeal.nD Cert.ReferenceHalvesSmallIdeal.τ).loc Cert.ReferenceHalvesSmallIdeal.main_arg4) = m ((c.tc : Thread Cert.KernelHalvesSmallIdeal.nD Cert.KernelHalvesSmallIdeal.τ).loc Cert.KernelHalvesSmallIdeal.main_arg4)
      ∧ m' ((c.tc : Thread Cert.ReferenceHalvesSmallIdeal.nD Cert.ReferenceHalvesSmallIdeal.τ).loc Cert.ReferenceHalvesSmallIdeal.main_arg5) = m ((c.tc : Thread Cert.KernelHalvesSmallIdeal.nD Cert.KernelHalvesSmallIdeal.τ).loc Cert.KernelHalvesSmallIdeal.main_arg5)) →
    ∃ (v0 : (c : Dev Cert.KernelHalvesSmallIdeal.nD) → Buf (Elt Ideal) ((c.tc : Thread Cert.KernelHalvesSmallIdeal.nD Cert.KernelHalvesSmallIdeal.τ).loc Cert.KernelHalvesSmallIdeal.main_v0_0)) (v1 : (c : Dev Cert.KernelHalvesSmallIdeal.nD) → Buf (Elt Ideal) ((c.tc : Thread Cert.KernelHalvesSmallIdeal.nD Cert.KernelHalvesSmallIdeal.τ).loc Cert.KernelHalvesSmallIdeal.main_v0_1)) (v2 : (c : Dev Cert.KernelHalvesSmallIdeal.nD) → Buf (Elt Ideal) ((c.tc : Thread Cert.KernelHalvesSmallIdeal.nD Cert.KernelHalvesSmallIdeal.τ).loc Cert.KernelHalvesSmallIdeal.main_v0_2)) (v3 : (c : Dev Cert.KernelHalvesSmallIdeal.nD) → Buf (Elt Ideal) ((c.tc : Thread Cert.KernelHalvesSmallIdeal.nD Cert.KernelHalvesSmallIdeal.τ).loc Cert.KernelHalvesSmallIdeal.main_v0_3)),
      θ_run (Cert.KernelHalvesSmallIdeal.defs (F := Ideal)) (onTc (τ := Cert.KernelHalvesSmallIdeal.τ) (Cert.KernelHalvesSmallIdeal.main (F := Ideal))) ⟨m, fun _ => 0, g⟩ (fun r => ∀ c : Dev Cert.KernelHalvesSmallIdeal.nD,
          r.2.mem ((c.tc : Thread Cert.KernelHalvesSmallIdeal.nD Cert.KernelHalvesSmallIdeal.τ).loc Cert.KernelHalvesSmallIdeal.main_v0_0) = v0 c
          ∧ r.2.mem ((c.tc : Thread Cert.KernelHalvesSmallIdeal.nD Cert.KernelHalvesSmallIdeal.τ).loc Cert.KernelHalvesSmallIdeal.main_v0_1) = v1 c
          ∧ r.2.mem ((c.tc : Thread Cert.KernelHalvesSmallIdeal.nD Cert.KernelHalvesSmallIdeal.τ).loc Cert.KernelHalvesSmallIdeal.main_v0_2) = v2 c
          ∧ r.2.mem ((c.tc : Thread Cert.KernelHalvesSmallIdeal.nD Cert.KernelHalvesSmallIdeal.τ).loc Cert.KernelHalvesSmallIdeal.main_v0_3) = v3 c
          ∧ r.2.mem ((c.tc : Thread Cert.KernelHalvesSmallIdeal.nD Cert.KernelHalvesSmallIdeal.τ).loc Cert.KernelHalvesSmallIdeal.main_arg0) = m ((c.tc : Thread Cert.KernelHalvesSmallIdeal.nD Cert.KernelHalvesSmallIdeal.τ).loc Cert.KernelHalvesSmallIdeal.main_arg0)
          ∧ r.2.mem ((c.tc : Thread Cert.KernelHalvesSmallIdeal.nD Cert.KernelHalvesSmallIdeal.τ).loc Cert.KernelHalvesSmallIdeal.main_arg1) = m ((c.tc : Thread Cert.KernelHalvesSmallIdeal.nD Cert.KernelHalvesSmallIdeal.τ).loc Cert.KernelHalvesSmallIdeal.main_arg1)
          ∧ r.2.mem ((c.tc : Thread Cert.KernelHalvesSmallIdeal.nD Cert.KernelHalvesSmallIdeal.τ).loc Cert.KernelHalvesSmallIdeal.main_arg2) = m ((c.tc : Thread Cert.KernelHalvesSmallIdeal.nD Cert.KernelHalvesSmallIdeal.τ).loc Cert.KernelHalvesSmallIdeal.main_arg2)
          ∧ r.2.mem ((c.tc : Thread Cert.KernelHalvesSmallIdeal.nD Cert.KernelHalvesSmallIdeal.τ).loc Cert.KernelHalvesSmallIdeal.main_arg3) = m ((c.tc : Thread Cert.KernelHalvesSmallIdeal.nD Cert.KernelHalvesSmallIdeal.τ).loc Cert.KernelHalvesSmallIdeal.main_arg3)
          ∧ r.2.mem ((c.tc : Thread Cert.KernelHalvesSmallIdeal.nD Cert.KernelHalvesSmallIdeal.τ).loc Cert.KernelHalvesSmallIdeal.main_arg4) = m ((c.tc : Thread Cert.KernelHalvesSmallIdeal.nD Cert.KernelHalvesSmallIdeal.τ).loc Cert.KernelHalvesSmallIdeal.main_arg4)
          ∧ r.2.mem ((c.tc : Thread Cert.KernelHalvesSmallIdeal.nD Cert.KernelHalvesSmallIdeal.τ).loc Cert.KernelHalvesSmallIdeal.main_arg5) = m ((c.tc : Thread Cert.KernelHalvesSmallIdeal.nD Cert.KernelHalvesSmallIdeal.τ).loc Cert.KernelHalvesSmallIdeal.main_arg5))
      ∧ θ_run (Cert.ReferenceHalvesSmallIdeal.defs (F := Ideal)) (onTc (τ := Cert.ReferenceHalvesSmallIdeal.τ) (Cert.ReferenceHalvesSmallIdeal.main (F := Ideal))) ⟨m', fun _ => 0, g'⟩ (fun r => ∀ c : Dev Cert.ReferenceHalvesSmallIdeal.nD,
          r.2.mem ((c.tc : Thread Cert.ReferenceHalvesSmallIdeal.nD Cert.ReferenceHalvesSmallIdeal.τ).loc Cert.ReferenceHalvesSmallIdeal.main_v6) = v0 c
          ∧ r.2.mem ((c.tc : Thread Cert.ReferenceHalvesSmallIdeal.nD Cert.ReferenceHalvesSmallIdeal.τ).loc Cert.ReferenceHalvesSmallIdeal.main_v30) = v1 c
          ∧ r.2.mem ((c.tc : Thread Cert.ReferenceHalvesSmallIdeal.nD Cert.ReferenceHalvesSmallIdeal.τ).loc Cert.ReferenceHalvesSmallIdeal.main_v11) = v2 c
          ∧ r.2.mem ((c.tc : Thread Cert.ReferenceHalvesSmallIdeal.nD Cert.ReferenceHalvesSmallIdeal.τ).loc Cert.ReferenceHalvesSmallIdeal.main_v17) = v3 c
          ∧ r.2.mem ((c.tc : Thread Cert.ReferenceHalvesSmallIdeal.nD Cert.ReferenceHalvesSmallIdeal.τ).loc Cert.ReferenceHalvesSmallIdeal.main_arg0) = m' ((c.tc : Thread Cert.ReferenceHalvesSmallIdeal.nD Cert.ReferenceHalvesSmallIdeal.τ).loc Cert.ReferenceHalvesSmallIdeal.main_arg0)
          ∧ r.2.mem ((c.tc : Thread Cert.ReferenceHalvesSmallIdeal.nD Cert.ReferenceHalvesSmallIdeal.τ).loc Cert.ReferenceHalvesSmallIdeal.main_arg1) = m' ((c.tc : Thread Cert.ReferenceHalvesSmallIdeal.nD Cert.ReferenceHalvesSmallIdeal.τ).loc Cert.ReferenceHalvesSmallIdeal.main_arg1)
          ∧ r.2.mem ((c.tc : Thread Cert.ReferenceHalvesSmallIdeal.nD Cert.ReferenceHalvesSmallIdeal.τ).loc Cert.ReferenceHalvesSmallIdeal.main_arg2) = m' ((c.tc : Thread Cert.ReferenceHalvesSmallIdeal.nD Cert.ReferenceHalvesSmallIdeal.τ).loc Cert.ReferenceHalvesSmallIdeal.main_arg2)
          ∧ r.2.mem ((c.tc : Thread Cert.ReferenceHalvesSmallIdeal.nD Cert.ReferenceHalvesSmallIdeal.τ).loc Cert.ReferenceHalvesSmallIdeal.main_arg3) = m' ((c.tc : Thread Cert.ReferenceHalvesSmallIdeal.nD Cert.ReferenceHalvesSmallIdeal.τ).loc Cert.ReferenceHalvesSmallIdeal.main_arg3)
          ∧ r.2.mem ((c.tc : Thread Cert.ReferenceHalvesSmallIdeal.nD Cert.ReferenceHalvesSmallIdeal.τ).loc Cert.ReferenceHalvesSmallIdeal.main_arg4) = m' ((c.tc : Thread Cert.ReferenceHalvesSmallIdeal.nD Cert.ReferenceHalvesSmallIdeal.τ).loc Cert.ReferenceHalvesSmallIdeal.main_arg4)
          ∧ r.2.mem ((c.tc : Thread Cert.ReferenceHalvesSmallIdeal.nD Cert.ReferenceHalvesSmallIdeal.τ).loc Cert.ReferenceHalvesSmallIdeal.main_arg5) = m' ((c.tc : Thread Cert.ReferenceHalvesSmallIdeal.nD Cert.ReferenceHalvesSmallIdeal.τ).loc Cert.ReferenceHalvesSmallIdeal.main_arg5))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)
      ∧ m' ((c.tc : Thread Cert.ReferenceFinalIdeal.nD Cert.ReferenceFinalIdeal.τ).loc Cert.ReferenceFinalIdeal.main_arg2) = m ((c.tc : Thread Cert.KernelFinalIdeal.nD Cert.KernelFinalIdeal.τ).loc Cert.KernelFinalIdeal.main_arg2)
      ∧ m' ((c.tc : Thread Cert.ReferenceFinalIdeal.nD Cert.ReferenceFinalIdeal.τ).loc Cert.ReferenceFinalIdeal.main_arg3) = m ((c.tc : Thread Cert.KernelFinalIdeal.nD Cert.KernelFinalIdeal.τ).loc Cert.KernelFinalIdeal.main_arg3)
      ∧ m' ((c.tc : Thread Cert.ReferenceFinalIdeal.nD Cert.ReferenceFinalIdeal.τ).loc Cert.ReferenceFinalIdeal.main_arg4) = m ((c.tc : Thread Cert.KernelFinalIdeal.nD Cert.KernelFinalIdeal.τ).loc Cert.KernelFinalIdeal.main_arg4)) →
    ∃ (v0 : (c : Dev Cert.KernelFinalIdeal.nD) → Buf (Elt Ideal) ((c.tc : Thread Cert.KernelFinalIdeal.nD Cert.KernelFinalIdeal.τ).loc Cert.KernelFinalIdeal.main_v1_0)) (v1 : (c : Dev Cert.KernelFinalIdeal.nD) → Buf (Elt Ideal) ((c.tc : Thread Cert.KernelFinalIdeal.nD Cert.KernelFinalIdeal.τ).loc Cert.KernelFinalIdeal.main_v1_1)) (v2 : (c : Dev Cert.KernelFinalIdeal.nD) → Buf (Elt Ideal) ((c.tc : Thread Cert.KernelFinalIdeal.nD Cert.KernelFinalIdeal.τ).loc Cert.KernelFinalIdeal.main_v1_2)) (v3 : (c : Dev Cert.KernelFinalIdeal.nD) → Buf (Elt Ideal) ((c.tc : Thread Cert.KernelFinalIdeal.nD Cert.KernelFinalIdeal.τ).loc Cert.KernelFinalIdeal.main_v1_3)) (v4 : (c : Dev Cert.KernelFinalIdeal.nD) → Buf (Elt Ideal) ((c.tc : Thread Cert.KernelFinalIdeal.nD Cert.KernelFinalIdeal.τ).loc Cert.KernelFinalIdeal.main_v1_4)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v1_0) = v0 c
          ∧ r.2.mem ((c.tc : Thread Cert.KernelFinalIdeal.nD Cert.KernelFinalIdeal.τ).loc Cert.KernelFinalIdeal.main_v1_1) = v1 c
          ∧ r.2.mem ((c.tc : Thread Cert.KernelFinalIdeal.nD Cert.KernelFinalIdeal.τ).loc Cert.KernelFinalIdeal.main_v1_2) = v2 c
          ∧ r.2.mem ((c.tc : Thread Cert.KernelFinalIdeal.nD Cert.KernelFinalIdeal.τ).loc Cert.KernelFinalIdeal.main_v1_3) = v3 c
          ∧ r.2.mem ((c.tc : Thread Cert.KernelFinalIdeal.nD Cert.KernelFinalIdeal.τ).loc Cert.KernelFinalIdeal.main_v1_4) = v4 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
          ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
          ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
          ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v68) = v0 c
          ∧ r.2.mem ((c.tc : Thread Cert.ReferenceFinalIdeal.nD Cert.ReferenceFinalIdeal.τ).loc Cert.ReferenceFinalIdeal.main_v69) = v1 c
          ∧ r.2.mem ((c.tc : Thread Cert.ReferenceFinalIdeal.nD Cert.ReferenceFinalIdeal.τ).loc Cert.ReferenceFinalIdeal.main_v70) = v2 c
          ∧ r.2.mem ((c.tc : Thread Cert.ReferenceFinalIdeal.nD Cert.ReferenceFinalIdeal.τ).loc Cert.ReferenceFinalIdeal.main_v66) = v3 c
          ∧ r.2.mem ((c.tc : Thread Cert.ReferenceFinalIdeal.nD Cert.ReferenceFinalIdeal.τ).loc Cert.ReferenceFinalIdeal.main_v40) = v4 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2)
          ∧ r.2.mem ((c.tc : Thread Cert.ReferenceFinalIdeal.nD Cert.ReferenceFinalIdeal.τ).loc Cert.ReferenceFinalIdeal.main_arg3) = m' ((c.tc : Thread Cert.ReferenceFinalIdeal.nD Cert.ReferenceFinalIdeal.τ).loc Cert.ReferenceFinalIdeal.main_arg3)
          ∧ r.2.mem ((c.tc : Thread Cert.ReferenceFinalIdeal.nD Cert.ReferenceFinalIdeal.τ).loc Cert.ReferenceFinalIdeal.main_arg4) = m' ((c.tc : Thread Cert.ReferenceFinalIdeal.nD Cert.ReferenceFinalIdeal.τ).loc Cert.ReferenceFinalIdeal.main_arg4))

def preserves_KernelHFwd_KernelHFwdIdeal : Prop :=
  True

def algebraic_KernelHFwdIdeal_ReferenceHFwdIdeal [hKernelHFwdIdeal : Cert.KernelHFwdIdeal.Facts] [hReferenceHFwdIdeal : Cert.ReferenceHFwdIdeal.Facts] : Prop :=
  ∀ (m : (ℓ : Loc Cert.KernelHFwdIdeal.nD Cert.KernelHFwdIdeal.τ Cert.KernelHFwdIdeal.sig) → Buf (Elt Ideal) ℓ) (g : Dev Cert.KernelHFwdIdeal.nD → PrngReg)
    (m' : (ℓ : Loc Cert.ReferenceHFwdIdeal.nD Cert.ReferenceHFwdIdeal.τ Cert.ReferenceHFwdIdeal.sig) → Buf (Elt Ideal) ℓ) (g' : Dev Cert.ReferenceHFwdIdeal.nD → PrngReg), Pre_KernelHFwdIdeal m →
    (∀ c : Dev Cert.KernelHFwdIdeal.nD,
      m' ((c.tc : Thread Cert.ReferenceHFwdIdeal.nD Cert.ReferenceHFwdIdeal.τ).loc Cert.ReferenceHFwdIdeal.main_arg0) = m ((c.tc : Thread Cert.KernelHFwdIdeal.nD Cert.KernelHFwdIdeal.τ).loc Cert.KernelHFwdIdeal.main_arg0)
      ∧ m' ((c.tc : Thread Cert.ReferenceHFwdIdeal.nD Cert.ReferenceHFwdIdeal.τ).loc Cert.ReferenceHFwdIdeal.main_arg1) = m ((c.tc : Thread Cert.KernelHFwdIdeal.nD Cert.KernelHFwdIdeal.τ).loc Cert.KernelHFwdIdeal.main_arg1)
      ∧ m' ((c.tc : Thread Cert.ReferenceHFwdIdeal.nD Cert.ReferenceHFwdIdeal.τ).loc Cert.ReferenceHFwdIdeal.main_arg2) = m ((c.tc : Thread Cert.KernelHFwdIdeal.nD Cert.KernelHFwdIdeal.τ).loc Cert.KernelHFwdIdeal.main_arg2)
      ∧ m' ((c.tc : Thread Cert.ReferenceHFwdIdeal.nD Cert.ReferenceHFwdIdeal.τ).loc Cert.ReferenceHFwdIdeal.main_arg3) = m ((c.tc : Thread Cert.KernelHFwdIdeal.nD Cert.KernelHFwdIdeal.τ).loc Cert.KernelHFwdIdeal.main_arg3)) →
    ∃ (v0 : (c : Dev Cert.KernelHFwdIdeal.nD) → Buf (Elt Ideal) ((c.tc : Thread Cert.KernelHFwdIdeal.nD Cert.KernelHFwdIdeal.τ).loc Cert.KernelHFwdIdeal.main_v1)),
      θ_run (Cert.KernelHFwdIdeal.defs (F := Ideal)) (onTc (τ := Cert.KernelHFwdIdeal.τ) (Cert.KernelHFwdIdeal.main (F := Ideal))) ⟨m, fun _ => 0, g⟩ (fun r => ∀ c : Dev Cert.KernelHFwdIdeal.nD,
          r.2.mem ((c.tc : Thread Cert.KernelHFwdIdeal.nD Cert.KernelHFwdIdeal.τ).loc Cert.KernelHFwdIdeal.main_v1) = v0 c
          ∧ r.2.mem ((c.tc : Thread Cert.KernelHFwdIdeal.nD Cert.KernelHFwdIdeal.τ).loc Cert.KernelHFwdIdeal.main_arg0) = m ((c.tc : Thread Cert.KernelHFwdIdeal.nD Cert.KernelHFwdIdeal.τ).loc Cert.KernelHFwdIdeal.main_arg0)
          ∧ r.2.mem ((c.tc : Thread Cert.KernelHFwdIdeal.nD Cert.KernelHFwdIdeal.τ).loc Cert.KernelHFwdIdeal.main_arg1) = m ((c.tc : Thread Cert.KernelHFwdIdeal.nD Cert.KernelHFwdIdeal.τ).loc Cert.KernelHFwdIdeal.main_arg1)
          ∧ r.2.mem ((c.tc : Thread Cert.KernelHFwdIdeal.nD Cert.KernelHFwdIdeal.τ).loc Cert.KernelHFwdIdeal.main_arg2) = m ((c.tc : Thread Cert.KernelHFwdIdeal.nD Cert.KernelHFwdIdeal.τ).loc Cert.KernelHFwdIdeal.main_arg2)
          ∧ r.2.mem ((c.tc : Thread Cert.KernelHFwdIdeal.nD Cert.KernelHFwdIdeal.τ).loc Cert.KernelHFwdIdeal.main_arg3) = m ((c.tc : Thread Cert.KernelHFwdIdeal.nD Cert.KernelHFwdIdeal.τ).loc Cert.KernelHFwdIdeal.main_arg3))
      ∧ θ_run (Cert.ReferenceHFwdIdeal.defs (F := Ideal)) (onTc (τ := Cert.ReferenceHFwdIdeal.τ) (Cert.ReferenceHFwdIdeal.main (F := Ideal))) ⟨m', fun _ => 0, g'⟩ (fun r => ∀ c : Dev Cert.ReferenceHFwdIdeal.nD,
          r.2.mem ((c.tc : Thread Cert.ReferenceHFwdIdeal.nD Cert.ReferenceHFwdIdeal.τ).loc Cert.ReferenceHFwdIdeal.main_v45) = v0 c
          ∧ r.2.mem ((c.tc : Thread Cert.ReferenceHFwdIdeal.nD Cert.ReferenceHFwdIdeal.τ).loc Cert.ReferenceHFwdIdeal.main_arg0) = m' ((c.tc : Thread Cert.ReferenceHFwdIdeal.nD Cert.ReferenceHFwdIdeal.τ).loc Cert.ReferenceHFwdIdeal.main_arg0)
          ∧ r.2.mem ((c.tc : Thread Cert.ReferenceHFwdIdeal.nD Cert.ReferenceHFwdIdeal.τ).loc Cert.ReferenceHFwdIdeal.main_arg1) = m' ((c.tc : Thread Cert.ReferenceHFwdIdeal.nD Cert.ReferenceHFwdIdeal.τ).loc Cert.ReferenceHFwdIdeal.main_arg1)
          ∧ r.2.mem ((c.tc : Thread Cert.ReferenceHFwdIdeal.nD Cert.ReferenceHFwdIdeal.τ).loc Cert.ReferenceHFwdIdeal.main_arg2) = m' ((c.tc : Thread Cert.ReferenceHFwdIdeal.nD Cert.ReferenceHFwdIdeal.τ).loc Cert.ReferenceHFwdIdeal.main_arg2)
          ∧ r.2.mem ((c.tc : Thread Cert.ReferenceHFwdIdeal.nD Cert.ReferenceHFwdIdeal.τ).loc Cert.ReferenceHFwdIdeal.main_arg3) = m' ((c.tc : Thread Cert.ReferenceHFwdIdeal.nD Cert.ReferenceHFwdIdeal.τ).loc Cert.ReferenceHFwdIdeal.main_arg3))

def preserves_KernelMergeFwd_KernelMergeFwdIdeal : Prop :=
  True

def algebraic_KernelMergeFwdIdeal_ReferenceMergeFwdIdeal [hKernelMergeFwdIdeal : Cert.KernelMergeFwdIdeal.Facts] [hReferenceMergeFwdIdeal : Cert.ReferenceMergeFwdIdeal.Facts] : Prop :=
  ∀ (m : (ℓ : Loc Cert.KernelMergeFwdIdeal.nD Cert.KernelMergeFwdIdeal.τ Cert.KernelMergeFwdIdeal.sig) → Buf (Elt Ideal) ℓ) (g : Dev Cert.KernelMergeFwdIdeal.nD → PrngReg)
    (m' : (ℓ : Loc Cert.ReferenceMergeFwdIdeal.nD Cert.ReferenceMergeFwdIdeal.τ Cert.ReferenceMergeFwdIdeal.sig) → Buf (Elt Ideal) ℓ) (g' : Dev Cert.ReferenceMergeFwdIdeal.nD → PrngReg), Pre_KernelMergeFwdIdeal m →
    (∀ c : Dev Cert.KernelMergeFwdIdeal.nD,
      m' ((c.tc : Thread Cert.ReferenceMergeFwdIdeal.nD Cert.ReferenceMergeFwdIdeal.τ).loc Cert.ReferenceMergeFwdIdeal.main_arg0) = m ((c.tc : Thread Cert.KernelMergeFwdIdeal.nD Cert.KernelMergeFwdIdeal.τ).loc Cert.KernelMergeFwdIdeal.main_arg0)
      ∧ m' ((c.tc : Thread Cert.ReferenceMergeFwdIdeal.nD Cert.ReferenceMergeFwdIdeal.τ).loc Cert.ReferenceMergeFwdIdeal.main_arg1) = m ((c.tc : Thread Cert.KernelMergeFwdIdeal.nD Cert.KernelMergeFwdIdeal.τ).loc Cert.KernelMergeFwdIdeal.main_arg1)
      ∧ m' ((c.tc : Thread Cert.ReferenceMergeFwdIdeal.nD Cert.ReferenceMergeFwdIdeal.τ).loc Cert.ReferenceMergeFwdIdeal.main_arg2) = m ((c.tc : Thread Cert.KernelMergeFwdIdeal.nD Cert.KernelMergeFwdIdeal.τ).loc Cert.KernelMergeFwdIdeal.main_arg2)) →
    ∃ (v0 : (c : Dev Cert.KernelMergeFwdIdeal.nD) → Buf (Elt Ideal) ((c.tc : Thread Cert.KernelMergeFwdIdeal.nD Cert.KernelMergeFwdIdeal.τ).loc Cert.KernelMergeFwdIdeal.main_v0)),
      θ_run (Cert.KernelMergeFwdIdeal.defs (F := Ideal)) (onTc (τ := Cert.KernelMergeFwdIdeal.τ) (Cert.KernelMergeFwdIdeal.main (F := Ideal))) ⟨m, fun _ => 0, g⟩ (fun r => ∀ c : Dev Cert.KernelMergeFwdIdeal.nD,
          r.2.mem ((c.tc : Thread Cert.KernelMergeFwdIdeal.nD Cert.KernelMergeFwdIdeal.τ).loc Cert.KernelMergeFwdIdeal.main_v0) = v0 c
          ∧ r.2.mem ((c.tc : Thread Cert.KernelMergeFwdIdeal.nD Cert.KernelMergeFwdIdeal.τ).loc Cert.KernelMergeFwdIdeal.main_arg0) = m ((c.tc : Thread Cert.KernelMergeFwdIdeal.nD Cert.KernelMergeFwdIdeal.τ).loc Cert.KernelMergeFwdIdeal.main_arg0)
          ∧ r.2.mem ((c.tc : Thread Cert.KernelMergeFwdIdeal.nD Cert.KernelMergeFwdIdeal.τ).loc Cert.KernelMergeFwdIdeal.main_arg1) = m ((c.tc : Thread Cert.KernelMergeFwdIdeal.nD Cert.KernelMergeFwdIdeal.τ).loc Cert.KernelMergeFwdIdeal.main_arg1)
          ∧ r.2.mem ((c.tc : Thread Cert.KernelMergeFwdIdeal.nD Cert.KernelMergeFwdIdeal.τ).loc Cert.KernelMergeFwdIdeal.main_arg2) = m ((c.tc : Thread Cert.KernelMergeFwdIdeal.nD Cert.KernelMergeFwdIdeal.τ).loc Cert.KernelMergeFwdIdeal.main_arg2))
      ∧ θ_run (Cert.ReferenceMergeFwdIdeal.defs (F := Ideal)) (onTc (τ := Cert.ReferenceMergeFwdIdeal.τ) (Cert.ReferenceMergeFwdIdeal.main (F := Ideal))) ⟨m', fun _ => 0, g'⟩ (fun r => ∀ c : Dev Cert.ReferenceMergeFwdIdeal.nD,
          r.2.mem ((c.tc : Thread Cert.ReferenceMergeFwdIdeal.nD Cert.ReferenceMergeFwdIdeal.τ).loc Cert.ReferenceMergeFwdIdeal.main_v17) = v0 c
          ∧ r.2.mem ((c.tc : Thread Cert.ReferenceMergeFwdIdeal.nD Cert.ReferenceMergeFwdIdeal.τ).loc Cert.ReferenceMergeFwdIdeal.main_arg0) = m' ((c.tc : Thread Cert.ReferenceMergeFwdIdeal.nD Cert.ReferenceMergeFwdIdeal.τ).loc Cert.ReferenceMergeFwdIdeal.main_arg0)
          ∧ r.2.mem ((c.tc : Thread Cert.ReferenceMergeFwdIdeal.nD Cert.ReferenceMergeFwdIdeal.τ).loc Cert.ReferenceMergeFwdIdeal.main_arg1) = m' ((c.tc : Thread Cert.ReferenceMergeFwdIdeal.nD Cert.ReferenceMergeFwdIdeal.τ).loc Cert.ReferenceMergeFwdIdeal.main_arg1)
          ∧ r.2.mem ((c.tc : Thread Cert.ReferenceMergeFwdIdeal.nD Cert.ReferenceMergeFwdIdeal.τ).loc Cert.ReferenceMergeFwdIdeal.main_arg2) = m' ((c.tc : Thread Cert.ReferenceMergeFwdIdeal.nD Cert.ReferenceMergeFwdIdeal.τ).loc Cert.ReferenceMergeFwdIdeal.main_arg2))

def preserves_KernelPostFwd_KernelPostFwdIdeal : Prop :=
  True

def algebraic_KernelPostFwdIdeal_ReferencePostFwdIdeal [hKernelPostFwdIdeal : Cert.KernelPostFwdIdeal.Facts] [hReferencePostFwdIdeal : Cert.ReferencePostFwdIdeal.Facts] : Prop :=
  ∀ (m : (ℓ : Loc Cert.KernelPostFwdIdeal.nD Cert.KernelPostFwdIdeal.τ Cert.KernelPostFwdIdeal.sig) → Buf (Elt Ideal) ℓ) (g : Dev Cert.KernelPostFwdIdeal.nD → PrngReg)
    (m' : (ℓ : Loc Cert.ReferencePostFwdIdeal.nD Cert.ReferencePostFwdIdeal.τ Cert.ReferencePostFwdIdeal.sig) → Buf (Elt Ideal) ℓ) (g' : Dev Cert.ReferencePostFwdIdeal.nD → PrngReg), Pre_KernelPostFwdIdeal m →
    (∀ c : Dev Cert.KernelPostFwdIdeal.nD,
      m' ((c.tc : Thread Cert.ReferencePostFwdIdeal.nD Cert.ReferencePostFwdIdeal.τ).loc Cert.ReferencePostFwdIdeal.main_arg0) = m ((c.tc : Thread Cert.KernelPostFwdIdeal.nD Cert.KernelPostFwdIdeal.τ).loc Cert.KernelPostFwdIdeal.main_arg0)
      ∧ m' ((c.tc : Thread Cert.ReferencePostFwdIdeal.nD Cert.ReferencePostFwdIdeal.τ).loc Cert.ReferencePostFwdIdeal.main_arg1) = m ((c.tc : Thread Cert.KernelPostFwdIdeal.nD Cert.KernelPostFwdIdeal.τ).loc Cert.KernelPostFwdIdeal.main_arg1)
      ∧ m' ((c.tc : Thread Cert.ReferencePostFwdIdeal.nD Cert.ReferencePostFwdIdeal.τ).loc Cert.ReferencePostFwdIdeal.main_arg2) = m ((c.tc : Thread Cert.KernelPostFwdIdeal.nD Cert.KernelPostFwdIdeal.τ).loc Cert.KernelPostFwdIdeal.main_arg2)
      ∧ m' ((c.tc : Thread Cert.ReferencePostFwdIdeal.nD Cert.ReferencePostFwdIdeal.τ).loc Cert.ReferencePostFwdIdeal.main_arg3) = m ((c.tc : Thread Cert.KernelPostFwdIdeal.nD Cert.KernelPostFwdIdeal.τ).loc Cert.KernelPostFwdIdeal.main_arg3)) →
    ∃ (v0 : (c : Dev Cert.KernelPostFwdIdeal.nD) → Buf (Elt Ideal) ((c.tc : Thread Cert.KernelPostFwdIdeal.nD Cert.KernelPostFwdIdeal.τ).loc Cert.KernelPostFwdIdeal.main_v0)),
      θ_run (Cert.KernelPostFwdIdeal.defs (F := Ideal)) (onTc (τ := Cert.KernelPostFwdIdeal.τ) (Cert.KernelPostFwdIdeal.main (F := Ideal))) ⟨m, fun _ => 0, g⟩ (fun r => ∀ c : Dev Cert.KernelPostFwdIdeal.nD,
          r.2.mem ((c.tc : Thread Cert.KernelPostFwdIdeal.nD Cert.KernelPostFwdIdeal.τ).loc Cert.KernelPostFwdIdeal.main_v0) = v0 c
          ∧ r.2.mem ((c.tc : Thread Cert.KernelPostFwdIdeal.nD Cert.KernelPostFwdIdeal.τ).loc Cert.KernelPostFwdIdeal.main_arg0) = m ((c.tc : Thread Cert.KernelPostFwdIdeal.nD Cert.KernelPostFwdIdeal.τ).loc Cert.KernelPostFwdIdeal.main_arg0)
          ∧ r.2.mem ((c.tc : Thread Cert.KernelPostFwdIdeal.nD Cert.KernelPostFwdIdeal.τ).loc Cert.KernelPostFwdIdeal.main_arg1) = m ((c.tc : Thread Cert.KernelPostFwdIdeal.nD Cert.KernelPostFwdIdeal.τ).loc Cert.KernelPostFwdIdeal.main_arg1)
          ∧ r.2.mem ((c.tc : Thread Cert.KernelPostFwdIdeal.nD Cert.KernelPostFwdIdeal.τ).loc Cert.KernelPostFwdIdeal.main_arg2) = m ((c.tc : Thread Cert.KernelPostFwdIdeal.nD Cert.KernelPostFwdIdeal.τ).loc Cert.KernelPostFwdIdeal.main_arg2)
          ∧ r.2.mem ((c.tc : Thread Cert.KernelPostFwdIdeal.nD Cert.KernelPostFwdIdeal.τ).loc Cert.KernelPostFwdIdeal.main_arg3) = m ((c.tc : Thread Cert.KernelPostFwdIdeal.nD Cert.KernelPostFwdIdeal.τ).loc Cert.KernelPostFwdIdeal.main_arg3))
      ∧ θ_run (Cert.ReferencePostFwdIdeal.defs (F := Ideal)) (onTc (τ := Cert.ReferencePostFwdIdeal.τ) (Cert.ReferencePostFwdIdeal.main (F := Ideal))) ⟨m', fun _ => 0, g'⟩ (fun r => ∀ c : Dev Cert.ReferencePostFwdIdeal.nD,
          r.2.mem ((c.tc : Thread Cert.ReferencePostFwdIdeal.nD Cert.ReferencePostFwdIdeal.τ).loc Cert.ReferencePostFwdIdeal.main_v19) = v0 c
          ∧ r.2.mem ((c.tc : Thread Cert.ReferencePostFwdIdeal.nD Cert.ReferencePostFwdIdeal.τ).loc Cert.ReferencePostFwdIdeal.main_arg0) = m' ((c.tc : Thread Cert.ReferencePostFwdIdeal.nD Cert.ReferencePostFwdIdeal.τ).loc Cert.ReferencePostFwdIdeal.main_arg0)
          ∧ r.2.mem ((c.tc : Thread Cert.ReferencePostFwdIdeal.nD Cert.ReferencePostFwdIdeal.τ).loc Cert.ReferencePostFwdIdeal.main_arg1) = m' ((c.tc : Thread Cert.ReferencePostFwdIdeal.nD Cert.ReferencePostFwdIdeal.τ).loc Cert.ReferencePostFwdIdeal.main_arg1)
          ∧ r.2.mem ((c.tc : Thread Cert.ReferencePostFwdIdeal.nD Cert.ReferencePostFwdIdeal.τ).loc Cert.ReferencePostFwdIdeal.main_arg2) = m' ((c.tc : Thread Cert.ReferencePostFwdIdeal.nD Cert.ReferencePostFwdIdeal.τ).loc Cert.ReferencePostFwdIdeal.main_arg2)
          ∧ r.2.mem ((c.tc : Thread Cert.ReferencePostFwdIdeal.nD Cert.ReferencePostFwdIdeal.τ).loc Cert.ReferencePostFwdIdeal.main_arg3) = m' ((c.tc : Thread Cert.ReferencePostFwdIdeal.nD Cert.ReferencePostFwdIdeal.τ).loc Cert.ReferencePostFwdIdeal.main_arg3))

def preserves_KernelSilu_KernelSiluIdeal : Prop :=
  True

def algebraic_KernelSiluIdeal_ReferenceSiluIdeal [hKernelSiluIdeal : Cert.KernelSiluIdeal.Facts] [hReferenceSiluIdeal : Cert.ReferenceSiluIdeal.Facts] : Prop :=
  ∀ (m : (ℓ : Loc Cert.KernelSiluIdeal.nD Cert.KernelSiluIdeal.τ Cert.KernelSiluIdeal.sig) → Buf (Elt Ideal) ℓ) (g : Dev Cert.KernelSiluIdeal.nD → PrngReg)
    (m' : (ℓ : Loc Cert.ReferenceSiluIdeal.nD Cert.ReferenceSiluIdeal.τ Cert.ReferenceSiluIdeal.sig) → Buf (Elt Ideal) ℓ) (g' : Dev Cert.ReferenceSiluIdeal.nD → PrngReg), Pre_KernelSiluIdeal m →
    (∀ c : Dev Cert.KernelSiluIdeal.nD,
      m' ((c.tc : Thread Cert.ReferenceSiluIdeal.nD Cert.ReferenceSiluIdeal.τ).loc Cert.ReferenceSiluIdeal.main_arg0) = m ((c.tc : Thread Cert.KernelSiluIdeal.nD Cert.KernelSiluIdeal.τ).loc Cert.KernelSiluIdeal.main_arg0)) →
    ∃ (v0 : (c : Dev Cert.KernelSiluIdeal.nD) → Buf (Elt Ideal) ((c.tc : Thread Cert.KernelSiluIdeal.nD Cert.KernelSiluIdeal.τ).loc Cert.KernelSiluIdeal.main_v0)),
      θ_run (Cert.KernelSiluIdeal.defs (F := Ideal)) (onTc (τ := Cert.KernelSiluIdeal.τ) (Cert.KernelSiluIdeal.main (F := Ideal))) ⟨m, fun _ => 0, g⟩ (fun r => ∀ c : Dev Cert.KernelSiluIdeal.nD,
          r.2.mem ((c.tc : Thread Cert.KernelSiluIdeal.nD Cert.KernelSiluIdeal.τ).loc Cert.KernelSiluIdeal.main_v0) = v0 c
          ∧ r.2.mem ((c.tc : Thread Cert.KernelSiluIdeal.nD Cert.KernelSiluIdeal.τ).loc Cert.KernelSiluIdeal.main_arg0) = m ((c.tc : Thread Cert.KernelSiluIdeal.nD Cert.KernelSiluIdeal.τ).loc Cert.KernelSiluIdeal.main_arg0))
      ∧ θ_run (Cert.ReferenceSiluIdeal.defs (F := Ideal)) (onTc (τ := Cert.ReferenceSiluIdeal.τ) (Cert.ReferenceSiluIdeal.main (F := Ideal))) ⟨m', fun _ => 0, g'⟩ (fun r => ∀ c : Dev Cert.ReferenceSiluIdeal.nD,
          r.2.mem ((c.tc : Thread Cert.ReferenceSiluIdeal.nD Cert.ReferenceSiluIdeal.τ).loc Cert.ReferenceSiluIdeal.main_v0) = v0 c
          ∧ r.2.mem ((c.tc : Thread Cert.ReferenceSiluIdeal.nD Cert.ReferenceSiluIdeal.τ).loc Cert.ReferenceSiluIdeal.main_arg0) = m' ((c.tc : Thread Cert.ReferenceSiluIdeal.nD Cert.ReferenceSiluIdeal.τ).loc Cert.ReferenceSiluIdeal.main_arg0))

def preserves_KernelSiluBwd_KernelSiluBwdIdeal : Prop :=
  True

def algebraic_KernelSiluBwdIdeal_ReferenceSiluBwdIdeal [hKernelSiluBwdIdeal : Cert.KernelSiluBwdIdeal.Facts] [hReferenceSiluBwdIdeal : Cert.ReferenceSiluBwdIdeal.Facts] : Prop :=
  ∀ (m : (ℓ : Loc Cert.KernelSiluBwdIdeal.nD Cert.KernelSiluBwdIdeal.τ Cert.KernelSiluBwdIdeal.sig) → Buf (Elt Ideal) ℓ) (g : Dev Cert.KernelSiluBwdIdeal.nD → PrngReg)
    (m' : (ℓ : Loc Cert.ReferenceSiluBwdIdeal.nD Cert.ReferenceSiluBwdIdeal.τ Cert.ReferenceSiluBwdIdeal.sig) → Buf (Elt Ideal) ℓ) (g' : Dev Cert.ReferenceSiluBwdIdeal.nD → PrngReg), Pre_KernelSiluBwdIdeal m →
    (∀ c : Dev Cert.KernelSiluBwdIdeal.nD,
      m' ((c.tc : Thread Cert.ReferenceSiluBwdIdeal.nD Cert.ReferenceSiluBwdIdeal.τ).loc Cert.ReferenceSiluBwdIdeal.main_arg0) = m ((c.tc : Thread Cert.KernelSiluBwdIdeal.nD Cert.KernelSiluBwdIdeal.τ).loc Cert.KernelSiluBwdIdeal.main_arg0)
      ∧ m' ((c.tc : Thread Cert.ReferenceSiluBwdIdeal.nD Cert.ReferenceSiluBwdIdeal.τ).loc Cert.ReferenceSiluBwdIdeal.main_arg1) = m ((c.tc : Thread Cert.KernelSiluBwdIdeal.nD Cert.KernelSiluBwdIdeal.τ).loc Cert.KernelSiluBwdIdeal.main_arg1)) →
    ∃ (v0 : (c : Dev Cert.KernelSiluBwdIdeal.nD) → Buf (Elt Ideal) ((c.tc : Thread Cert.KernelSiluBwdIdeal.nD Cert.KernelSiluBwdIdeal.τ).loc Cert.KernelSiluBwdIdeal.main_v0)),
      θ_run (Cert.KernelSiluBwdIdeal.defs (F := Ideal)) (onTc (τ := Cert.KernelSiluBwdIdeal.τ) (Cert.KernelSiluBwdIdeal.main (F := Ideal))) ⟨m, fun _ => 0, g⟩ (fun r => ∀ c : Dev Cert.KernelSiluBwdIdeal.nD,
          r.2.mem ((c.tc : Thread Cert.KernelSiluBwdIdeal.nD Cert.KernelSiluBwdIdeal.τ).loc Cert.KernelSiluBwdIdeal.main_v0) = v0 c
          ∧ r.2.mem ((c.tc : Thread Cert.KernelSiluBwdIdeal.nD Cert.KernelSiluBwdIdeal.τ).loc Cert.KernelSiluBwdIdeal.main_arg0) = m ((c.tc : Thread Cert.KernelSiluBwdIdeal.nD Cert.KernelSiluBwdIdeal.τ).loc Cert.KernelSiluBwdIdeal.main_arg0)
          ∧ r.2.mem ((c.tc : Thread Cert.KernelSiluBwdIdeal.nD Cert.KernelSiluBwdIdeal.τ).loc Cert.KernelSiluBwdIdeal.main_arg1) = m ((c.tc : Thread Cert.KernelSiluBwdIdeal.nD Cert.KernelSiluBwdIdeal.τ).loc Cert.KernelSiluBwdIdeal.main_arg1))
      ∧ θ_run (Cert.ReferenceSiluBwdIdeal.defs (F := Ideal)) (onTc (τ := Cert.ReferenceSiluBwdIdeal.τ) (Cert.ReferenceSiluBwdIdeal.main (F := Ideal))) ⟨m', fun _ => 0, g'⟩ (fun r => ∀ c : Dev Cert.ReferenceSiluBwdIdeal.nD,
          r.2.mem ((c.tc : Thread Cert.ReferenceSiluBwdIdeal.nD Cert.ReferenceSiluBwdIdeal.τ).loc Cert.ReferenceSiluBwdIdeal.main_v1) = v0 c
          ∧ r.2.mem ((c.tc : Thread Cert.ReferenceSiluBwdIdeal.nD Cert.ReferenceSiluBwdIdeal.τ).loc Cert.ReferenceSiluBwdIdeal.main_arg0) = m' ((c.tc : Thread Cert.ReferenceSiluBwdIdeal.nD Cert.ReferenceSiluBwdIdeal.τ).loc Cert.ReferenceSiluBwdIdeal.main_arg0)
          ∧ r.2.mem ((c.tc : Thread Cert.ReferenceSiluBwdIdeal.nD Cert.ReferenceSiluBwdIdeal.τ).loc Cert.ReferenceSiluBwdIdeal.main_arg1) = m' ((c.tc : Thread Cert.ReferenceSiluBwdIdeal.nD Cert.ReferenceSiluBwdIdeal.τ).loc Cert.ReferenceSiluBwdIdeal.main_arg1))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)) →
    ∃ (v0 : (c : Dev Cert.KernelAdaIdeal.nD) → Buf (Elt Ideal) ((c.tc : Thread Cert.KernelAdaIdeal.nD Cert.KernelAdaIdeal.τ).loc Cert.KernelAdaIdeal.main_v0)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v0) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v0) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1))

def preserves_KernelAdaX_KernelAdaXIdeal : Prop :=
  True

def algebraic_KernelAdaXIdeal_ReferenceAdaXIdeal [hKernelAdaXIdeal : Cert.KernelAdaXIdeal.Facts] [hReferenceAdaXIdeal : Cert.ReferenceAdaXIdeal.Facts] : Prop :=
  ∀ (m : (ℓ : Loc Cert.KernelAdaXIdeal.nD Cert.KernelAdaXIdeal.τ Cert.KernelAdaXIdeal.sig) → Buf (Elt Ideal) ℓ) (g : Dev Cert.KernelAdaXIdeal.nD → PrngReg)
    (m' : (ℓ : Loc Cert.ReferenceAdaXIdeal.nD Cert.ReferenceAdaXIdeal.τ Cert.ReferenceAdaXIdeal.sig) → Buf (Elt Ideal) ℓ) (g' : Dev Cert.ReferenceAdaXIdeal.nD → PrngReg), Pre_KernelAdaXIdeal m →
    (∀ c : Dev Cert.KernelAdaXIdeal.nD,
      m' ((c.tc : Thread Cert.ReferenceAdaXIdeal.nD Cert.ReferenceAdaXIdeal.τ).loc Cert.ReferenceAdaXIdeal.main_arg0) = m ((c.tc : Thread Cert.KernelAdaXIdeal.nD Cert.KernelAdaXIdeal.τ).loc Cert.KernelAdaXIdeal.main_arg0)
      ∧ m' ((c.tc : Thread Cert.ReferenceAdaXIdeal.nD Cert.ReferenceAdaXIdeal.τ).loc Cert.ReferenceAdaXIdeal.main_arg1) = m ((c.tc : Thread Cert.KernelAdaXIdeal.nD Cert.KernelAdaXIdeal.τ).loc Cert.KernelAdaXIdeal.main_arg1)) →
    ∃ (v0 : (c : Dev Cert.KernelAdaXIdeal.nD) → Buf (Elt Ideal) ((c.tc : Thread Cert.KernelAdaXIdeal.nD Cert.KernelAdaXIdeal.τ).loc Cert.KernelAdaXIdeal.main_v0)),
      θ_run (Cert.KernelAdaXIdeal.defs (F := Ideal)) (onTc (τ := Cert.KernelAdaXIdeal.τ) (Cert.KernelAdaXIdeal.main (F := Ideal))) ⟨m, fun _ => 0, g⟩ (fun r => ∀ c : Dev Cert.KernelAdaXIdeal.nD,
          r.2.mem ((c.tc : Thread Cert.KernelAdaXIdeal.nD Cert.KernelAdaXIdeal.τ).loc Cert.KernelAdaXIdeal.main_v0) = v0 c
          ∧ r.2.mem ((c.tc : Thread Cert.KernelAdaXIdeal.nD Cert.KernelAdaXIdeal.τ).loc Cert.KernelAdaXIdeal.main_arg0) = m ((c.tc : Thread Cert.KernelAdaXIdeal.nD Cert.KernelAdaXIdeal.τ).loc Cert.KernelAdaXIdeal.main_arg0)
          ∧ r.2.mem ((c.tc : Thread Cert.KernelAdaXIdeal.nD Cert.KernelAdaXIdeal.τ).loc Cert.KernelAdaXIdeal.main_arg1) = m ((c.tc : Thread Cert.KernelAdaXIdeal.nD Cert.KernelAdaXIdeal.τ).loc Cert.KernelAdaXIdeal.main_arg1))
      ∧ θ_run (Cert.ReferenceAdaXIdeal.defs (F := Ideal)) (onTc (τ := Cert.ReferenceAdaXIdeal.τ) (Cert.ReferenceAdaXIdeal.main (F := Ideal))) ⟨m', fun _ => 0, g'⟩ (fun r => ∀ c : Dev Cert.ReferenceAdaXIdeal.nD,
          r.2.mem ((c.tc : Thread Cert.ReferenceAdaXIdeal.nD Cert.ReferenceAdaXIdeal.τ).loc Cert.ReferenceAdaXIdeal.main_v4) = v0 c
          ∧ r.2.mem ((c.tc : Thread Cert.ReferenceAdaXIdeal.nD Cert.ReferenceAdaXIdeal.τ).loc Cert.ReferenceAdaXIdeal.main_arg0) = m' ((c.tc : Thread Cert.ReferenceAdaXIdeal.nD Cert.ReferenceAdaXIdeal.τ).loc Cert.ReferenceAdaXIdeal.main_arg0)
          ∧ r.2.mem ((c.tc : Thread Cert.ReferenceAdaXIdeal.nD Cert.ReferenceAdaXIdeal.τ).loc Cert.ReferenceAdaXIdeal.main_arg1) = m' ((c.tc : Thread Cert.ReferenceAdaXIdeal.nD Cert.ReferenceAdaXIdeal.τ).loc Cert.ReferenceAdaXIdeal.main_arg1))

def preserves_KernelRwPost_KernelRwPostIdeal : Prop :=
  True

def algebraic_KernelRwPostIdeal_ReferenceRwPostIdeal_pre_real_keys [hKernelRwPostIdeal : Cert.KernelRwPostIdeal.Facts] [hReferenceRwPostIdeal : Cert.ReferenceRwPostIdeal.Facts] [hPre_real_keys : Cert.Pre_real_keys.Facts] : Prop :=
  ∀ (m : (ℓ : Loc Cert.KernelRwPostIdeal.nD Cert.KernelRwPostIdeal.τ Cert.KernelRwPostIdeal.sig) → Buf (Elt Ideal) ℓ) (g : Dev Cert.KernelRwPostIdeal.nD → PrngReg)
    (m' : (ℓ : Loc Cert.ReferenceRwPostIdeal.nD Cert.ReferenceRwPostIdeal.τ Cert.ReferenceRwPostIdeal.sig) → Buf (Elt Ideal) ℓ) (g' : Dev Cert.ReferenceRwPostIdeal.nD → PrngReg), Pre_KernelRwPostIdeal_real_keys m →
    (∀ c : Dev Cert.KernelRwPostIdeal.nD,
      m' ((c.tc : Thread Cert.ReferenceRwPostIdeal.nD Cert.ReferenceRwPostIdeal.τ).loc Cert.ReferenceRwPostIdeal.main_arg0) = m ((c.tc : Thread Cert.KernelRwPostIdeal.nD Cert.KernelRwPostIdeal.τ).loc Cert.KernelRwPostIdeal.main_arg0)
      ∧ m' ((c.tc : Thread Cert.ReferenceRwPostIdeal.nD Cert.ReferenceRwPostIdeal.τ).loc Cert.ReferenceRwPostIdeal.main_arg1) = m ((c.tc : Thread Cert.KernelRwPostIdeal.nD Cert.KernelRwPostIdeal.τ).loc Cert.KernelRwPostIdeal.main_arg1)
      ∧ m' ((c.tc : Thread Cert.ReferenceRwPostIdeal.nD Cert.ReferenceRwPostIdeal.τ).loc Cert.ReferenceRwPostIdeal.main_arg2) = m ((c.tc : Thread Cert.KernelRwPostIdeal.nD Cert.KernelRwPostIdeal.τ).loc Cert.KernelRwPostIdeal.main_arg2)
      ∧ m' ((c.tc : Thread Cert.ReferenceRwPostIdeal.nD Cert.ReferenceRwPostIdeal.τ).loc Cert.ReferenceRwPostIdeal.main_arg3) = m ((c.tc : Thread Cert.KernelRwPostIdeal.nD Cert.KernelRwPostIdeal.τ).loc Cert.KernelRwPostIdeal.main_arg3)
      ∧ m' ((c.tc : Thread Cert.ReferenceRwPostIdeal.nD Cert.ReferenceRwPostIdeal.τ).loc Cert.ReferenceRwPostIdeal.main_arg4) = m ((c.tc : Thread Cert.KernelRwPostIdeal.nD Cert.KernelRwPostIdeal.τ).loc Cert.KernelRwPostIdeal.main_arg4)
      ∧ m' ((c.tc : Thread Cert.ReferenceRwPostIdeal.nD Cert.ReferenceRwPostIdeal.τ).loc Cert.ReferenceRwPostIdeal.main_arg5) = m ((c.tc : Thread Cert.KernelRwPostIdeal.nD Cert.KernelRwPostIdeal.τ).loc Cert.KernelRwPostIdeal.main_arg5)
      ∧ m' ((c.tc : Thread Cert.ReferenceRwPostIdeal.nD Cert.ReferenceRwPostIdeal.τ).loc Cert.ReferenceRwPostIdeal.main_arg6) = m ((c.tc : Thread Cert.KernelRwPostIdeal.nD Cert.KernelRwPostIdeal.τ).loc Cert.KernelRwPostIdeal.main_arg6)
      ∧ m' ((c.tc : Thread Cert.ReferenceRwPostIdeal.nD Cert.ReferenceRwPostIdeal.τ).loc Cert.ReferenceRwPostIdeal.main_arg7) = m ((c.tc : Thread Cert.KernelRwPostIdeal.nD Cert.KernelRwPostIdeal.τ).loc Cert.KernelRwPostIdeal.main_arg7)
      ∧ m' ((c.tc : Thread Cert.ReferenceRwPostIdeal.nD Cert.ReferenceRwPostIdeal.τ).loc Cert.ReferenceRwPostIdeal.main_arg8) = m ((c.tc : Thread Cert.KernelRwPostIdeal.nD Cert.KernelRwPostIdeal.τ).loc Cert.KernelRwPostIdeal.main_arg8)
      ∧ m' ((c.tc : Thread Cert.ReferenceRwPostIdeal.nD Cert.ReferenceRwPostIdeal.τ).loc Cert.ReferenceRwPostIdeal.main_arg9) = m ((c.tc : Thread Cert.KernelRwPostIdeal.nD Cert.KernelRwPostIdeal.τ).loc Cert.KernelRwPostIdeal.main_arg9)) →
    ∃ (v0 : (c : Dev Cert.KernelRwPostIdeal.nD) → Buf (Elt Ideal) ((c.tc : Thread Cert.KernelRwPostIdeal.nD Cert.KernelRwPostIdeal.τ).loc Cert.KernelRwPostIdeal.main_v0)),
      θ_run (Cert.KernelRwPostIdeal.defs (F := Ideal)) (onTc (τ := Cert.KernelRwPostIdeal.τ) (Cert.KernelRwPostIdeal.main (F := Ideal))) ⟨m, fun _ => 0, g⟩ (fun r => ∀ c : Dev Cert.KernelRwPostIdeal.nD,
          r.2.mem ((c.tc : Thread Cert.KernelRwPostIdeal.nD Cert.KernelRwPostIdeal.τ).loc Cert.KernelRwPostIdeal.main_v0) = v0 c
          ∧ r.2.mem ((c.tc : Thread Cert.KernelRwPostIdeal.nD Cert.KernelRwPostIdeal.τ).loc Cert.KernelRwPostIdeal.main_arg0) = m ((c.tc : Thread Cert.KernelRwPostIdeal.nD Cert.KernelRwPostIdeal.τ).loc Cert.KernelRwPostIdeal.main_arg0)
          ∧ r.2.mem ((c.tc : Thread Cert.KernelRwPostIdeal.nD Cert.KernelRwPostIdeal.τ).loc Cert.KernelRwPostIdeal.main_arg1) = m ((c.tc : Thread Cert.KernelRwPostIdeal.nD Cert.KernelRwPostIdeal.τ).loc Cert.KernelRwPostIdeal.main_arg1)
          ∧ r.2.mem ((c.tc : Thread Cert.KernelRwPostIdeal.nD Cert.KernelRwPostIdeal.τ).loc Cert.KernelRwPostIdeal.main_arg2) = m ((c.tc : Thread Cert.KernelRwPostIdeal.nD Cert.KernelRwPostIdeal.τ).loc Cert.KernelRwPostIdeal.main_arg2)
          ∧ r.2.mem ((c.tc : Thread Cert.KernelRwPostIdeal.nD Cert.KernelRwPostIdeal.τ).loc Cert.KernelRwPostIdeal.main_arg3) = m ((c.tc : Thread Cert.KernelRwPostIdeal.nD Cert.KernelRwPostIdeal.τ).loc Cert.KernelRwPostIdeal.main_arg3)
          ∧ r.2.mem ((c.tc : Thread Cert.KernelRwPostIdeal.nD Cert.KernelRwPostIdeal.τ).loc Cert.KernelRwPostIdeal.main_arg4) = m ((c.tc : Thread Cert.KernelRwPostIdeal.nD Cert.KernelRwPostIdeal.τ).loc Cert.KernelRwPostIdeal.main_arg4)
          ∧ r.2.mem ((c.tc : Thread Cert.KernelRwPostIdeal.nD Cert.KernelRwPostIdeal.τ).loc Cert.KernelRwPostIdeal.main_arg5) = m ((c.tc : Thread Cert.KernelRwPostIdeal.nD Cert.KernelRwPostIdeal.τ).loc Cert.KernelRwPostIdeal.main_arg5)
          ∧ r.2.mem ((c.tc : Thread Cert.KernelRwPostIdeal.nD Cert.KernelRwPostIdeal.τ).loc Cert.KernelRwPostIdeal.main_arg6) = m ((c.tc : Thread Cert.KernelRwPostIdeal.nD Cert.KernelRwPostIdeal.τ).loc Cert.KernelRwPostIdeal.main_arg6)
          ∧ r.2.mem ((c.tc : Thread Cert.KernelRwPostIdeal.nD Cert.KernelRwPostIdeal.τ).loc Cert.KernelRwPostIdeal.main_arg7) = m ((c.tc : Thread Cert.KernelRwPostIdeal.nD Cert.KernelRwPostIdeal.τ).loc Cert.KernelRwPostIdeal.main_arg7)
          ∧ r.2.mem ((c.tc : Thread Cert.KernelRwPostIdeal.nD Cert.KernelRwPostIdeal.τ).loc Cert.KernelRwPostIdeal.main_arg8) = m ((c.tc : Thread Cert.KernelRwPostIdeal.nD Cert.KernelRwPostIdeal.τ).loc Cert.KernelRwPostIdeal.main_arg8)
          ∧ r.2.mem ((c.tc : Thread Cert.KernelRwPostIdeal.nD Cert.KernelRwPostIdeal.τ).loc Cert.KernelRwPostIdeal.main_arg9) = m ((c.tc : Thread Cert.KernelRwPostIdeal.nD Cert.KernelRwPostIdeal.τ).loc Cert.KernelRwPostIdeal.main_arg9))
      ∧ θ_run (Cert.ReferenceRwPostIdeal.defs (F := Ideal)) (onTc (τ := Cert.ReferenceRwPostIdeal.τ) (Cert.ReferenceRwPostIdeal.main (F := Ideal))) ⟨m', fun _ => 0, g'⟩ (fun r => ∀ c : Dev Cert.ReferenceRwPostIdeal.nD,
          r.2.mem ((c.tc : Thread Cert.ReferenceRwPostIdeal.nD Cert.ReferenceRwPostIdeal.τ).loc Cert.ReferenceRwPostIdeal.main_v90) = v0 c
          ∧ r.2.mem ((c.tc : Thread Cert.ReferenceRwPostIdeal.nD Cert.ReferenceRwPostIdeal.τ).loc Cert.ReferenceRwPostIdeal.main_arg0) = m' ((c.tc : Thread Cert.ReferenceRwPostIdeal.nD Cert.ReferenceRwPostIdeal.τ).loc Cert.ReferenceRwPostIdeal.main_arg0)
          ∧ r.2.mem ((c.tc : Thread Cert.ReferenceRwPostIdeal.nD Cert.ReferenceRwPostIdeal.τ).loc Cert.ReferenceRwPostIdeal.main_arg1) = m' ((c.tc : Thread Cert.ReferenceRwPostIdeal.nD Cert.ReferenceRwPostIdeal.τ).loc Cert.ReferenceRwPostIdeal.main_arg1)
          ∧ r.2.mem ((c.tc : Thread Cert.ReferenceRwPostIdeal.nD Cert.ReferenceRwPostIdeal.τ).loc Cert.ReferenceRwPostIdeal.main_arg2) = m' ((c.tc : Thread Cert.ReferenceRwPostIdeal.nD Cert.ReferenceRwPostIdeal.τ).loc Cert.ReferenceRwPostIdeal.main_arg2)
          ∧ r.2.mem ((c.tc : Thread Cert.ReferenceRwPostIdeal.nD Cert.ReferenceRwPostIdeal.τ).loc Cert.ReferenceRwPostIdeal.main_arg3) = m' ((c.tc : Thread Cert.ReferenceRwPostIdeal.nD Cert.ReferenceRwPostIdeal.τ).loc Cert.ReferenceRwPostIdeal.main_arg3)
          ∧ r.2.mem ((c.tc : Thread Cert.ReferenceRwPostIdeal.nD Cert.ReferenceRwPostIdeal.τ).loc Cert.ReferenceRwPostIdeal.main_arg4) = m' ((c.tc : Thread Cert.ReferenceRwPostIdeal.nD Cert.ReferenceRwPostIdeal.τ).loc Cert.ReferenceRwPostIdeal.main_arg4)
          ∧ r.2.mem ((c.tc : Thread Cert.ReferenceRwPostIdeal.nD Cert.ReferenceRwPostIdeal.τ).loc Cert.ReferenceRwPostIdeal.main_arg5) = m' ((c.tc : Thread Cert.ReferenceRwPostIdeal.nD Cert.ReferenceRwPostIdeal.τ).loc Cert.ReferenceRwPostIdeal.main_arg5)
          ∧ r.2.mem ((c.tc : Thread Cert.ReferenceRwPostIdeal.nD Cert.ReferenceRwPostIdeal.τ).loc Cert.ReferenceRwPostIdeal.main_arg6) = m' ((c.tc : Thread Cert.ReferenceRwPostIdeal.nD Cert.ReferenceRwPostIdeal.τ).loc Cert.ReferenceRwPostIdeal.main_arg6)
          ∧ r.2.mem ((c.tc : Thread Cert.ReferenceRwPostIdeal.nD Cert.ReferenceRwPostIdeal.τ).loc Cert.ReferenceRwPostIdeal.main_arg7) = m' ((c.tc : Thread Cert.ReferenceRwPostIdeal.nD Cert.ReferenceRwPostIdeal.τ).loc Cert.ReferenceRwPostIdeal.main_arg7)
          ∧ r.2.mem ((c.tc : Thread Cert.ReferenceRwPostIdeal.nD Cert.ReferenceRwPostIdeal.τ).loc Cert.ReferenceRwPostIdeal.main_arg8) = m' ((c.tc : Thread Cert.ReferenceRwPostIdeal.nD Cert.ReferenceRwPostIdeal.τ).loc Cert.ReferenceRwPostIdeal.main_arg8)
          ∧ r.2.mem ((c.tc : Thread Cert.ReferenceRwPostIdeal.nD Cert.ReferenceRwPostIdeal.τ).loc Cert.ReferenceRwPostIdeal.main_arg9) = m' ((c.tc : Thread Cert.ReferenceRwPostIdeal.nD Cert.ReferenceRwPostIdeal.τ).loc Cert.ReferenceRwPostIdeal.main_arg9))

def preserves_KernelShift_KernelShiftIdeal : Prop :=
  True

def algebraic_KernelShiftIdeal_ReferenceShiftIdeal [hKernelShiftIdeal : Cert.KernelShiftIdeal.Facts] [hReferenceShiftIdeal : Cert.ReferenceShiftIdeal.Facts] : Prop :=
  ∀ (m : (ℓ : Loc Cert.KernelShiftIdeal.nD Cert.KernelShiftIdeal.τ Cert.KernelShiftIdeal.sig) → Buf (Elt Ideal) ℓ) (g : Dev Cert.KernelShiftIdeal.nD → PrngReg)
    (m' : (ℓ : Loc Cert.ReferenceShiftIdeal.nD Cert.ReferenceShiftIdeal.τ Cert.ReferenceShiftIdeal.sig) → Buf (Elt Ideal) ℓ) (g' : Dev Cert.ReferenceShiftIdeal.nD → PrngReg), Pre_KernelShiftIdeal m →
    (∀ c : Dev Cert.KernelShiftIdeal.nD,
      m' ((c.tc : Thread Cert.ReferenceShiftIdeal.nD Cert.ReferenceShiftIdeal.τ).loc Cert.ReferenceShiftIdeal.main_arg0) = m ((c.tc : Thread Cert.KernelShiftIdeal.nD Cert.KernelShiftIdeal.τ).loc Cert.KernelShiftIdeal.main_arg0)
      ∧ m' ((c.tc : Thread Cert.ReferenceShiftIdeal.nD Cert.ReferenceShiftIdeal.τ).loc Cert.ReferenceShiftIdeal.main_arg1) = m ((c.tc : Thread Cert.KernelShiftIdeal.nD Cert.KernelShiftIdeal.τ).loc Cert.KernelShiftIdeal.main_arg1)) →
    ∃ (v0 : (c : Dev Cert.KernelShiftIdeal.nD) → Buf (Elt Ideal) ((c.tc : Thread Cert.KernelShiftIdeal.nD Cert.KernelShiftIdeal.τ).loc Cert.KernelShiftIdeal.main_v0)),
      θ_run (Cert.KernelShiftIdeal.defs (F := Ideal)) (onTc (τ := Cert.KernelShiftIdeal.τ) (Cert.KernelShiftIdeal.main (F := Ideal))) ⟨m, fun _ => 0, g⟩ (fun r => ∀ c : Dev Cert.KernelShiftIdeal.nD,
          r.2.mem ((c.tc : Thread Cert.KernelShiftIdeal.nD Cert.KernelShiftIdeal.τ).loc Cert.KernelShiftIdeal.main_v0) = v0 c
          ∧ r.2.mem ((c.tc : Thread Cert.KernelShiftIdeal.nD Cert.KernelShiftIdeal.τ).loc Cert.KernelShiftIdeal.main_arg0) = m ((c.tc : Thread Cert.KernelShiftIdeal.nD Cert.KernelShiftIdeal.τ).loc Cert.KernelShiftIdeal.main_arg0)
          ∧ r.2.mem ((c.tc : Thread Cert.KernelShiftIdeal.nD Cert.KernelShiftIdeal.τ).loc Cert.KernelShiftIdeal.main_arg1) = m ((c.tc : Thread Cert.KernelShiftIdeal.nD Cert.KernelShiftIdeal.τ).loc Cert.KernelShiftIdeal.main_arg1))
      ∧ θ_run (Cert.ReferenceShiftIdeal.defs (F := Ideal)) (onTc (τ := Cert.ReferenceShiftIdeal.τ) (Cert.ReferenceShiftIdeal.main (F := Ideal))) ⟨m', fun _ => 0, g'⟩ (fun r => ∀ c : Dev Cert.ReferenceShiftIdeal.nD,
          r.2.mem ((c.tc : Thread Cert.ReferenceShiftIdeal.nD Cert.ReferenceShiftIdeal.τ).loc Cert.ReferenceShiftIdeal.main_v67) = v0 c
          ∧ r.2.mem ((c.tc : Thread Cert.ReferenceShiftIdeal.nD Cert.ReferenceShiftIdeal.τ).loc Cert.ReferenceShiftIdeal.main_arg0) = m' ((c.tc : Thread Cert.ReferenceShiftIdeal.nD Cert.ReferenceShiftIdeal.τ).loc Cert.ReferenceShiftIdeal.main_arg0)
          ∧ r.2.mem ((c.tc : Thread Cert.ReferenceShiftIdeal.nD Cert.ReferenceShiftIdeal.τ).loc Cert.ReferenceShiftIdeal.main_arg1) = m' ((c.tc : Thread Cert.ReferenceShiftIdeal.nD Cert.ReferenceShiftIdeal.τ).loc Cert.ReferenceShiftIdeal.main_arg1))

def preserves_KernelShiftBwd_KernelShiftBwdIdeal : Prop :=
  True

def algebraic_KernelShiftBwdIdeal_ReferenceShiftBwdIdeal_pre_real_shift [hKernelShiftBwdIdeal : Cert.KernelShiftBwdIdeal.Facts] [hReferenceShiftBwdIdeal : Cert.ReferenceShiftBwdIdeal.Facts] [hPre_real_shift : Cert.Pre_real_shift.Facts] : Prop :=
  ∀ (m : (ℓ : Loc Cert.KernelShiftBwdIdeal.nD Cert.KernelShiftBwdIdeal.τ Cert.KernelShiftBwdIdeal.sig) → Buf (Elt Ideal) ℓ) (g : Dev Cert.KernelShiftBwdIdeal.nD → PrngReg)
    (m' : (ℓ : Loc Cert.ReferenceShiftBwdIdeal.nD Cert.ReferenceShiftBwdIdeal.τ Cert.ReferenceShiftBwdIdeal.sig) → Buf (Elt Ideal) ℓ) (g' : Dev Cert.ReferenceShiftBwdIdeal.nD → PrngReg), Pre_KernelShiftBwdIdeal_real_shift m →
    (∀ c : Dev Cert.KernelShiftBwdIdeal.nD,
      m' ((c.tc : Thread Cert.ReferenceShiftBwdIdeal.nD Cert.ReferenceShiftBwdIdeal.τ).loc Cert.ReferenceShiftBwdIdeal.main_arg0) = m ((c.tc : Thread Cert.KernelShiftBwdIdeal.nD Cert.KernelShiftBwdIdeal.τ).loc Cert.KernelShiftBwdIdeal.main_arg0)
      ∧ m' ((c.tc : Thread Cert.ReferenceShiftBwdIdeal.nD Cert.ReferenceShiftBwdIdeal.τ).loc Cert.ReferenceShiftBwdIdeal.main_arg1) = m ((c.tc : Thread Cert.KernelShiftBwdIdeal.nD Cert.KernelShiftBwdIdeal.τ).loc Cert.KernelShiftBwdIdeal.main_arg1)
      ∧ m' ((c.tc : Thread Cert.ReferenceShiftBwdIdeal.nD Cert.ReferenceShiftBwdIdeal.τ).loc Cert.ReferenceShiftBwdIdeal.main_arg2) = m ((c.tc : Thread Cert.KernelShiftBwdIdeal.nD Cert.KernelShiftBwdIdeal.τ).loc Cert.KernelShiftBwdIdeal.main_arg2)
      ∧ m' ((c.tc : Thread Cert.ReferenceShiftBwdIdeal.nD Cert.ReferenceShiftBwdIdeal.τ).loc Cert.ReferenceShiftBwdIdeal.main_arg3) = m ((c.tc : Thread Cert.KernelShiftBwdIdeal.nD Cert.KernelShiftBwdIdeal.τ).loc Cert.KernelShiftBwdIdeal.main_arg3)
      ∧ m' ((c.tc : Thread Cert.ReferenceShiftBwdIdeal.nD Cert.ReferenceShiftBwdIdeal.τ).loc Cert.ReferenceShiftBwdIdeal.main_arg4) = m ((c.tc : Thread Cert.KernelShiftBwdIdeal.nD Cert.KernelShiftBwdIdeal.τ).loc Cert.KernelShiftBwdIdeal.main_arg4)) →
    ∃ (v0 : (c : Dev Cert.KernelShiftBwdIdeal.nD) → Buf (Elt Ideal) ((c.tc : Thread Cert.KernelShiftBwdIdeal.nD Cert.KernelShiftBwdIdeal.τ).loc Cert.KernelShiftBwdIdeal.main_v0_0)) (v1 : (c : Dev Cert.KernelShiftBwdIdeal.nD) → Buf (Elt Ideal) ((c.tc : Thread Cert.KernelShiftBwdIdeal.nD Cert.KernelShiftBwdIdeal.τ).loc Cert.KernelShiftBwdIdeal.main_v0_1)),
      θ_run (Cert.KernelShiftBwdIdeal.defs (F := Ideal)) (onTc (τ := Cert.KernelShiftBwdIdeal.τ) (Cert.KernelShiftBwdIdeal.main (F := Ideal))) ⟨m, fun _ => 0, g⟩ (fun r => ∀ c : Dev Cert.KernelShiftBwdIdeal.nD,
          r.2.mem ((c.tc : Thread Cert.KernelShiftBwdIdeal.nD Cert.KernelShiftBwdIdeal.τ).loc Cert.KernelShiftBwdIdeal.main_v0_0) = v0 c
          ∧ r.2.mem ((c.tc : Thread Cert.KernelShiftBwdIdeal.nD Cert.KernelShiftBwdIdeal.τ).loc Cert.KernelShiftBwdIdeal.main_v0_1) = v1 c
          ∧ r.2.mem ((c.tc : Thread Cert.KernelShiftBwdIdeal.nD Cert.KernelShiftBwdIdeal.τ).loc Cert.KernelShiftBwdIdeal.main_arg0) = m ((c.tc : Thread Cert.KernelShiftBwdIdeal.nD Cert.KernelShiftBwdIdeal.τ).loc Cert.KernelShiftBwdIdeal.main_arg0)
          ∧ r.2.mem ((c.tc : Thread Cert.KernelShiftBwdIdeal.nD Cert.KernelShiftBwdIdeal.τ).loc Cert.KernelShiftBwdIdeal.main_arg1) = m ((c.tc : Thread Cert.KernelShiftBwdIdeal.nD Cert.KernelShiftBwdIdeal.τ).loc Cert.KernelShiftBwdIdeal.main_arg1)
          ∧ r.2.mem ((c.tc : Thread Cert.KernelShiftBwdIdeal.nD Cert.KernelShiftBwdIdeal.τ).loc Cert.KernelShiftBwdIdeal.main_arg2) = m ((c.tc : Thread Cert.KernelShiftBwdIdeal.nD Cert.KernelShiftBwdIdeal.τ).loc Cert.KernelShiftBwdIdeal.main_arg2)
          ∧ r.2.mem ((c.tc : Thread Cert.KernelShiftBwdIdeal.nD Cert.KernelShiftBwdIdeal.τ).loc Cert.KernelShiftBwdIdeal.main_arg3) = m ((c.tc : Thread Cert.KernelShiftBwdIdeal.nD Cert.KernelShiftBwdIdeal.τ).loc Cert.KernelShiftBwdIdeal.main_arg3)
          ∧ r.2.mem ((c.tc : Thread Cert.KernelShiftBwdIdeal.nD Cert.KernelShiftBwdIdeal.τ).loc Cert.KernelShiftBwdIdeal.main_arg4) = m ((c.tc : Thread Cert.KernelShiftBwdIdeal.nD Cert.KernelShiftBwdIdeal.τ).loc Cert.KernelShiftBwdIdeal.main_arg4))
      ∧ θ_run (Cert.ReferenceShiftBwdIdeal.defs (F := Ideal)) (onTc (τ := Cert.ReferenceShiftBwdIdeal.τ) (Cert.ReferenceShiftBwdIdeal.main (F := Ideal))) ⟨m', fun _ => 0, g'⟩ (fun r => ∀ c : Dev Cert.ReferenceShiftBwdIdeal.nD,
          r.2.mem ((c.tc : Thread Cert.ReferenceShiftBwdIdeal.nD Cert.ReferenceShiftBwdIdeal.τ).loc Cert.ReferenceShiftBwdIdeal.main_v174) = v0 c
          ∧ r.2.mem ((c.tc : Thread Cert.ReferenceShiftBwdIdeal.nD Cert.ReferenceShiftBwdIdeal.τ).loc Cert.ReferenceShiftBwdIdeal.main_v162) = v1 c
          ∧ r.2.mem ((c.tc : Thread Cert.ReferenceShiftBwdIdeal.nD Cert.ReferenceShiftBwdIdeal.τ).loc Cert.ReferenceShiftBwdIdeal.main_arg0) = m' ((c.tc : Thread Cert.ReferenceShiftBwdIdeal.nD Cert.ReferenceShiftBwdIdeal.τ).loc Cert.ReferenceShiftBwdIdeal.main_arg0)
          ∧ r.2.mem ((c.tc : Thread Cert.ReferenceShiftBwdIdeal.nD Cert.ReferenceShiftBwdIdeal.τ).loc Cert.ReferenceShiftBwdIdeal.main_arg1) = m' ((c.tc : Thread Cert.ReferenceShiftBwdIdeal.nD Cert.ReferenceShiftBwdIdeal.τ).loc Cert.ReferenceShiftBwdIdeal.main_arg1)
          ∧ r.2.mem ((c.tc : Thread Cert.ReferenceShiftBwdIdeal.nD Cert.ReferenceShiftBwdIdeal.τ).loc Cert.ReferenceShiftBwdIdeal.main_arg2) = m' ((c.tc : Thread Cert.ReferenceShiftBwdIdeal.nD Cert.ReferenceShiftBwdIdeal.τ).loc Cert.ReferenceShiftBwdIdeal.main_arg2)
          ∧ r.2.mem ((c.tc : Thread Cert.ReferenceShiftBwdIdeal.nD Cert.ReferenceShiftBwdIdeal.τ).loc Cert.ReferenceShiftBwdIdeal.main_arg3) = m' ((c.tc : Thread Cert.ReferenceShiftBwdIdeal.nD Cert.ReferenceShiftBwdIdeal.τ).loc Cert.ReferenceShiftBwdIdeal.main_arg3)
          ∧ r.2.mem ((c.tc : Thread Cert.ReferenceShiftBwdIdeal.nD Cert.ReferenceShiftBwdIdeal.τ).loc Cert.ReferenceShiftBwdIdeal.main_arg4) = m' ((c.tc : Thread Cert.ReferenceShiftBwdIdeal.nD Cert.ReferenceShiftBwdIdeal.τ).loc Cert.ReferenceShiftBwdIdeal.main_arg4))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelInW : Cert.KernelInW.Facts) (hKernelInWIdeal : Cert.KernelInWIdeal.Facts) (hReferenceInWIdeal : Cert.ReferenceInWIdeal.Facts) (hKernelInX : Cert.KernelInX.Facts) (hKernelInXIdeal : Cert.KernelInXIdeal.Facts) (hReferenceInXIdeal : Cert.ReferenceInXIdeal.Facts) (hKernelBranch : Cert.KernelBranch.Facts) (hKernelBranchIdeal : Cert.KernelBranchIdeal.Facts) (hReferenceBranchIdeal : Cert.ReferenceBranchIdeal.Facts) (hKernelBranchW : Cert.KernelBranchW.Facts) (hKernelBranchWIdeal : Cert.KernelBranchWIdeal.Facts) (hReferenceBranchWIdeal : Cert.ReferenceBranchWIdeal.Facts) (hKernelBranchX : Cert.KernelBranchX.Facts) (hKernelBranchXIdeal : Cert.KernelBranchXIdeal.Facts) (hReferenceBranchXIdeal : Cert.ReferenceBranchXIdeal.Facts) (hKernelOut : Cert.KernelOut.Facts) (hKernelOutIdeal : Cert.KernelOutIdeal.Facts) (hReferenceOutIdeal : Cert.ReferenceOutIdeal.Facts) (hKernelOutW : Cert.KernelOutW.Facts) (hKernelOutWIdeal : Cert.KernelOutWIdeal.Facts) (hReferenceOutWIdeal : Cert.ReferenceOutWIdeal.Facts) (hKernelOutX : Cert.KernelOutX.Facts) (hKernelOutXIdeal : Cert.KernelOutXIdeal.Facts) (hReferenceOutXIdeal : Cert.ReferenceOutXIdeal.Facts) (hKernelH : Cert.KernelH.Facts) (hKernelHIdeal : Cert.KernelHIdeal.Facts) (hReferenceHIdeal : Cert.ReferenceHIdeal.Facts) (hKernelMerge : Cert.KernelMerge.Facts) (hKernelMergeIdeal : Cert.KernelMergeIdeal.Facts) (hReferenceMergeIdeal : Cert.ReferenceMergeIdeal.Facts) (hKernelPost : Cert.KernelPost.Facts) (hKernelPostIdeal : Cert.KernelPostIdeal.Facts) (hReferencePostIdeal : Cert.ReferencePostIdeal.Facts) (hKernelAdaW : Cert.KernelAdaW.Facts) (hKernelAdaWIdeal : Cert.KernelAdaWIdeal.Facts) (hReferenceAdaWIdeal : Cert.ReferenceAdaWIdeal.Facts) (hKernelAdam : Cert.KernelAdam.Facts) (hKernelAdamIdeal : Cert.KernelAdamIdeal.Facts) (hReferenceAdamIdeal : Cert.ReferenceAdamIdeal.Facts) (hKernelAdamRep : Cert.KernelAdamRep.Facts) (hKernelAdamRepIdeal : Cert.KernelAdamRepIdeal.Facts) (hReferenceAdamRepIdeal : Cert.ReferenceAdamRepIdeal.Facts) (hKernelHalvesIn : Cert.KernelHalvesIn.Facts) (hKernelHalvesInIdeal : Cert.KernelHalvesInIdeal.Facts) (hReferenceHalvesInIdeal : Cert.ReferenceHalvesInIdeal.Facts) (hKernelHalvesBranch : Cert.KernelHalvesBranch.Facts) (hKernelHalvesBranchIdeal : Cert.KernelHalvesBranchIdeal.Facts) (hReferenceHalvesBranchIdeal : Cert.ReferenceHalvesBranchIdeal.Facts) (hKernelHalvesOut : Cert.KernelHalvesOut.Facts) (hKernelHalvesOutIdeal : Cert.KernelHalvesOutIdeal.Facts) (hReferenceHalvesOutIdeal : Cert.ReferenceHalvesOutIdeal.Facts) (hKernelHalvesSmall : Cert.KernelHalvesSmall.Facts) (hKernelHalvesSmallIdeal : Cert.KernelHalvesSmallIdeal.Facts) (hReferenceHalvesSmallIdeal : Cert.ReferenceHalvesSmallIdeal.Facts) (hKernelFinal : Cert.KernelFinal.Facts) (hKernelFinalIdeal : Cert.KernelFinalIdeal.Facts) (hReferenceFinalIdeal : Cert.ReferenceFinalIdeal.Facts) (hKernelHFwd : Cert.KernelHFwd.Facts) (hKernelHFwdIdeal : Cert.KernelHFwdIdeal.Facts) (hReferenceHFwdIdeal : Cert.ReferenceHFwdIdeal.Facts) (hKernelMergeFwd : Cert.KernelMergeFwd.Facts) (hKernelMergeFwdIdeal : Cert.KernelMergeFwdIdeal.Facts) (hReferenceMergeFwdIdeal : Cert.ReferenceMergeFwdIdeal.Facts) (hKernelPostFwd : Cert.KernelPostFwd.Facts) (hKernelPostFwdIdeal : Cert.KernelPostFwdIdeal.Facts) (hReferencePostFwdIdeal : Cert.ReferencePostFwdIdeal.Facts) (hKernelSilu : Cert.KernelSilu.Facts) (hKernelSiluIdeal : Cert.KernelSiluIdeal.Facts) (hReferenceSiluIdeal : Cert.ReferenceSiluIdeal.Facts) (hKernelSiluBwd : Cert.KernelSiluBwd.Facts) (hKernelSiluBwdIdeal : Cert.KernelSiluBwdIdeal.Facts) (hReferenceSiluBwdIdeal : Cert.ReferenceSiluBwdIdeal.Facts) (hKernelAda : Cert.KernelAda.Facts) (hKernelAdaIdeal : Cert.KernelAdaIdeal.Facts) (hReferenceAdaIdeal : Cert.ReferenceAdaIdeal.Facts) (hKernelAdaX : Cert.KernelAdaX.Facts) (hKernelAdaXIdeal : Cert.KernelAdaXIdeal.Facts) (hReferenceAdaXIdeal : Cert.ReferenceAdaXIdeal.Facts) (hKernelRwPost : Cert.KernelRwPost.Facts) (hKernelRwPostIdeal : Cert.KernelRwPostIdeal.Facts) (hReferenceRwPostIdeal : Cert.ReferenceRwPostIdeal.Facts) (hKernelShift : Cert.KernelShift.Facts) (hKernelShiftIdeal : Cert.KernelShiftIdeal.Facts) (hReferenceShiftIdeal : Cert.ReferenceShiftIdeal.Facts) (hKernelShiftBwd : Cert.KernelShiftBwd.Facts) (hKernelShiftBwdIdeal : Cert.KernelShiftBwdIdeal.Facts) (hReferenceShiftBwdIdeal : Cert.ReferenceShiftBwdIdeal.Facts) (hPre_real_bounds : Cert.Pre_real_bounds.Facts) (hPre_real_keys : Cert.Pre_real_keys.Facts) (hPre_real_shift : Cert.Pre_real_shift.Facts),
    quiescent_Kernel (hKernel := hKernel)
    ∧ quiescent_KernelIdeal (hKernelIdeal := hKernelIdeal)
    ∧ quiescent_KernelIdeal_pre_real_bounds (hKernelIdeal := hKernelIdeal) (hPre_real_bounds := hPre_real_bounds)
    ∧ quiescent_ReferenceIdeal (hReferenceIdeal := hReferenceIdeal)
    ∧ quiescent_ReferenceIdeal_pre_real_bounds (hReferenceIdeal := hReferenceIdeal) (hPre_real_bounds := hPre_real_bounds)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelInW (hKernelInW := hKernelInW)
    ∧ quiescent_KernelInWIdeal (hKernelInWIdeal := hKernelInWIdeal)
    ∧ quiescent_ReferenceInWIdeal (hReferenceInWIdeal := hReferenceInWIdeal)
    ∧ quiescent_KernelInX (hKernelInX := hKernelInX)
    ∧ quiescent_KernelInXIdeal (hKernelInXIdeal := hKernelInXIdeal)
    ∧ quiescent_ReferenceInXIdeal (hReferenceInXIdeal := hReferenceInXIdeal)
    ∧ quiescent_KernelBranch (hKernelBranch := hKernelBranch)
    ∧ quiescent_KernelBranchIdeal (hKernelBranchIdeal := hKernelBranchIdeal)
    ∧ quiescent_ReferenceBranchIdeal (hReferenceBranchIdeal := hReferenceBranchIdeal)
    ∧ quiescent_KernelBranchW (hKernelBranchW := hKernelBranchW)
    ∧ quiescent_KernelBranchWIdeal (hKernelBranchWIdeal := hKernelBranchWIdeal)
    ∧ quiescent_ReferenceBranchWIdeal (hReferenceBranchWIdeal := hReferenceBranchWIdeal)
    ∧ quiescent_KernelBranchX (hKernelBranchX := hKernelBranchX)
    ∧ quiescent_KernelBranchXIdeal (hKernelBranchXIdeal := hKernelBranchXIdeal)
    ∧ quiescent_ReferenceBranchXIdeal (hReferenceBranchXIdeal := hReferenceBranchXIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelOutW (hKernelOutW := hKernelOutW)
    ∧ quiescent_KernelOutWIdeal (hKernelOutWIdeal := hKernelOutWIdeal)
    ∧ quiescent_ReferenceOutWIdeal (hReferenceOutWIdeal := hReferenceOutWIdeal)
    ∧ quiescent_KernelOutX (hKernelOutX := hKernelOutX)
    ∧ quiescent_KernelOutXIdeal (hKernelOutXIdeal := hKernelOutXIdeal)
    ∧ quiescent_ReferenceOutXIdeal (hReferenceOutXIdeal := hReferenceOutXIdeal)
    ∧ quiescent_KernelH (hKernelH := hKernelH)
    ∧ quiescent_KernelHIdeal (hKernelHIdeal := hKernelHIdeal)
    ∧ quiescent_ReferenceHIdeal (hReferenceHIdeal := hReferenceHIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelAdaW (hKernelAdaW := hKernelAdaW)
    ∧ quiescent_KernelAdaWIdeal (hKernelAdaWIdeal := hKernelAdaWIdeal)
    ∧ quiescent_ReferenceAdaWIdeal (hReferenceAdaWIdeal := hReferenceAdaWIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelAdamRep (hKernelAdamRep := hKernelAdamRep)
    ∧ quiescent_KernelAdamRepIdeal (hKernelAdamRepIdeal := hKernelAdamRepIdeal)
    ∧ quiescent_ReferenceAdamRepIdeal (hReferenceAdamRepIdeal := hReferenceAdamRepIdeal)
    ∧ quiescent_KernelHalvesIn (hKernelHalvesIn := hKernelHalvesIn)
    ∧ quiescent_KernelHalvesInIdeal (hKernelHalvesInIdeal := hKernelHalvesInIdeal)
    ∧ quiescent_ReferenceHalvesInIdeal (hReferenceHalvesInIdeal := hReferenceHalvesInIdeal)
    ∧ quiescent_KernelHalvesBranch (hKernelHalvesBranch := hKernelHalvesBranch)
    ∧ quiescent_KernelHalvesBranchIdeal (hKernelHalvesBranchIdeal := hKernelHalvesBranchIdeal)
    ∧ quiescent_ReferenceHalvesBranchIdeal (hReferenceHalvesBranchIdeal := hReferenceHalvesBranchIdeal)
    ∧ quiescent_KernelHalvesOut (hKernelHalvesOut := hKernelHalvesOut)
    ∧ quiescent_KernelHalvesOutIdeal (hKernelHalvesOutIdeal := hKernelHalvesOutIdeal)
    ∧ quiescent_ReferenceHalvesOutIdeal (hReferenceHalvesOutIdeal := hReferenceHalvesOutIdeal)
    ∧ quiescent_KernelHalvesSmall (hKernelHalvesSmall := hKernelHalvesSmall)
    ∧ quiescent_KernelHalvesSmallIdeal (hKernelHalvesSmallIdeal := hKernelHalvesSmallIdeal)
    ∧ quiescent_ReferenceHalvesSmallIdeal (hReferenceHalvesSmallIdeal := hReferenceHalvesSmallIdeal)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ quiescent_KernelHFwd (hKernelHFwd := hKernelHFwd)
    ∧ quiescent_KernelHFwdIdeal (hKernelHFwdIdeal := hKernelHFwdIdeal)
    ∧ quiescent_ReferenceHFwdIdeal (hReferenceHFwdIdeal := hReferenceHFwdIdeal)
    ∧ quiescent_KernelMergeFwd (hKernelMergeFwd := hKernelMergeFwd)
    ∧ quiescent_KernelMergeFwdIdeal (hKernelMergeFwdIdeal := hKernelMergeFwdIdeal)
    ∧ quiescent_ReferenceMergeFwdIdeal (hReferenceMergeFwdIdeal := hReferenceMergeFwdIdeal)
    ∧ quiescent_KernelPostFwd (hKernelPostFwd := hKernelPostFwd)
    ∧ quiescent_KernelPostFwdIdeal (hKernelPostFwdIdeal := hKernelPostFwdIdeal)
    ∧ quiescent_ReferencePostFwdIdeal (hReferencePostFwdIdeal := hReferencePostFwdIdeal)
    ∧ quiescent_KernelSilu (hKernelSilu := hKernelSilu)
    ∧ quiescent_KernelSiluIdeal (hKernelSiluIdeal := hKernelSiluIdeal)
    ∧ quiescent_ReferenceSiluIdeal (hReferenceSiluIdeal := hReferenceSiluIdeal)
    ∧ quiescent_KernelSiluBwd (hKernelSiluBwd := hKernelSiluBwd)
    ∧ quiescent_KernelSiluBwdIdeal (hKernelSiluBwdIdeal := hKernelSiluBwdIdeal)
    ∧ quiescent_ReferenceSiluBwdIdeal (hReferenceSiluBwdIdeal := hReferenceSiluBwdIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelAdaX (hKernelAdaX := hKernelAdaX)
    ∧ quiescent_KernelAdaXIdeal (hKernelAdaXIdeal := hKernelAdaXIdeal)
    ∧ quiescent_ReferenceAdaXIdeal (hReferenceAdaXIdeal := hReferenceAdaXIdeal)
    ∧ quiescent_KernelRwPost (hKernelRwPost := hKernelRwPost)
    ∧ quiescent_KernelRwPostIdeal (hKernelRwPostIdeal := hKernelRwPostIdeal)
    ∧ quiescent_KernelRwPostIdeal_pre_real_keys (hKernelRwPostIdeal := hKernelRwPostIdeal) (hPre_real_keys := hPre_real_keys)
    ∧ quiescent_ReferenceRwPostIdeal (hReferenceRwPostIdeal := hReferenceRwPostIdeal)
    ∧ quiescent_ReferenceRwPostIdeal_pre_real_keys (hReferenceRwPostIdeal := hReferenceRwPostIdeal) (hPre_real_keys := hPre_real_keys)
    ∧ quiescent_KernelShift (hKernelShift := hKernelShift)
    ∧ quiescent_KernelShiftIdeal (hKernelShiftIdeal := hKernelShiftIdeal)
    ∧ quiescent_ReferenceShiftIdeal (hReferenceShiftIdeal := hReferenceShiftIdeal)
    ∧ quiescent_KernelShiftBwd (hKernelShiftBwd := hKernelShiftBwd)
    ∧ quiescent_KernelShiftBwdIdeal (hKernelShiftBwdIdeal := hKernelShiftBwdIdeal)
    ∧ quiescent_KernelShiftBwdIdeal_pre_real_shift (hKernelShiftBwdIdeal := hKernelShiftBwdIdeal) (hPre_real_shift := hPre_real_shift)
    ∧ quiescent_ReferenceShiftBwdIdeal (hReferenceShiftBwdIdeal := hReferenceShiftBwdIdeal)
    ∧ quiescent_ReferenceShiftBwdIdeal_pre_real_shift (hReferenceShiftBwdIdeal := hReferenceShiftBwdIdeal) (hPre_real_shift := hPre_real_shift)
    ∧ preserves_Kernel_KernelIdeal
    ∧ algebraic_KernelIdeal_ReferenceIdeal_pre_real_bounds (hKernelIdeal := hKernelIdeal) (hReferenceIdeal := hReferenceIdeal) (hPre_real_bounds := hPre_real_bounds)
    ∧ preserves_KernelIn_KernelInIdeal
    ∧ algebraic_KernelInIdeal_ReferenceInIdeal (hKernelInIdeal := hKernelInIdeal) (hReferenceInIdeal := hReferenceInIdeal)
    ∧ preserves_KernelInW_KernelInWIdeal
    ∧ algebraic_KernelInWIdeal_ReferenceInWIdeal (hKernelInWIdeal := hKernelInWIdeal) (hReferenceInWIdeal := hReferenceInWIdeal)
    ∧ preserves_KernelInX_KernelInXIdeal
    ∧ algebraic_KernelInXIdeal_ReferenceInXIdeal (hKernelInXIdeal := hKernelInXIdeal) (hReferenceInXIdeal := hReferenceInXIdeal)
    ∧ preserves_KernelBranch_KernelBranchIdeal
    ∧ algebraic_KernelBranchIdeal_ReferenceBranchIdeal (hKernelBranchIdeal := hKernelBranchIdeal) (hReferenceBranchIdeal := hReferenceBranchIdeal)
    ∧ preserves_KernelBranchW_KernelBranchWIdeal
    ∧ algebraic_KernelBranchWIdeal_ReferenceBranchWIdeal (hKernelBranchWIdeal := hKernelBranchWIdeal) (hReferenceBranchWIdeal := hReferenceBranchWIdeal)
    ∧ preserves_KernelBranchX_KernelBranchXIdeal
    ∧ algebraic_KernelBranchXIdeal_ReferenceBranchXIdeal (hKernelBranchXIdeal := hKernelBranchXIdeal) (hReferenceBranchXIdeal := hReferenceBranchXIdeal)
    ∧ preserves_KernelOut_KernelOutIdeal
    ∧ algebraic_KernelOutIdeal_ReferenceOutIdeal (hKernelOutIdeal := hKernelOutIdeal) (hReferenceOutIdeal := hReferenceOutIdeal)
    ∧ preserves_KernelOutW_KernelOutWIdeal
    ∧ algebraic_KernelOutWIdeal_ReferenceOutWIdeal (hKernelOutWIdeal := hKernelOutWIdeal) (hReferenceOutWIdeal := hReferenceOutWIdeal)
    ∧ preserves_KernelOutX_KernelOutXIdeal
    ∧ algebraic_KernelOutXIdeal_ReferenceOutXIdeal (hKernelOutXIdeal := hKernelOutXIdeal) (hReferenceOutXIdeal := hReferenceOutXIdeal)
    ∧ preserves_KernelH_KernelHIdeal
    ∧ algebraic_KernelHIdeal_ReferenceHIdeal (hKernelHIdeal := hKernelHIdeal) (hReferenceHIdeal := hReferenceHIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelPost_KernelPostIdeal
    ∧ algebraic_KernelPostIdeal_ReferencePostIdeal (hKernelPostIdeal := hKernelPostIdeal) (hReferencePostIdeal := hReferencePostIdeal)
    ∧ preserves_KernelAdaW_KernelAdaWIdeal
    ∧ algebraic_KernelAdaWIdeal_ReferenceAdaWIdeal (hKernelAdaWIdeal := hKernelAdaWIdeal) (hReferenceAdaWIdeal := hReferenceAdaWIdeal)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelAdamRep_KernelAdamRepIdeal
    ∧ algebraic_KernelAdamRepIdeal_ReferenceAdamRepIdeal (hKernelAdamRepIdeal := hKernelAdamRepIdeal) (hReferenceAdamRepIdeal := hReferenceAdamRepIdeal)
    ∧ preserves_KernelHalvesIn_KernelHalvesInIdeal
    ∧ algebraic_KernelHalvesInIdeal_ReferenceHalvesInIdeal (hKernelHalvesInIdeal := hKernelHalvesInIdeal) (hReferenceHalvesInIdeal := hReferenceHalvesInIdeal)
    ∧ preserves_KernelHalvesBranch_KernelHalvesBranchIdeal
    ∧ algebraic_KernelHalvesBranchIdeal_ReferenceHalvesBranchIdeal (hKernelHalvesBranchIdeal := hKernelHalvesBranchIdeal) (hReferenceHalvesBranchIdeal := hReferenceHalvesBranchIdeal)
    ∧ preserves_KernelHalvesOut_KernelHalvesOutIdeal
    ∧ algebraic_KernelHalvesOutIdeal_ReferenceHalvesOutIdeal (hKernelHalvesOutIdeal := hKernelHalvesOutIdeal) (hReferenceHalvesOutIdeal := hReferenceHalvesOutIdeal)
    ∧ preserves_KernelHalvesSmall_KernelHalvesSmallIdeal
    ∧ algebraic_KernelHalvesSmallIdeal_ReferenceHalvesSmallIdeal (hKernelHalvesSmallIdeal := hKernelHalvesSmallIdeal) (hReferenceHalvesSmallIdeal := hReferenceHalvesSmallIdeal)
    ∧ preserves_KernelFinal_KernelFinalIdeal
    ∧ algebraic_KernelFinalIdeal_ReferenceFinalIdeal (hKernelFinalIdeal := hKernelFinalIdeal) (hReferenceFinalIdeal := hReferenceFinalIdeal)
    ∧ preserves_KernelHFwd_KernelHFwdIdeal
    ∧ algebraic_KernelHFwdIdeal_ReferenceHFwdIdeal (hKernelHFwdIdeal := hKernelHFwdIdeal) (hReferenceHFwdIdeal := hReferenceHFwdIdeal)
    ∧ preserves_KernelMergeFwd_KernelMergeFwdIdeal
    ∧ algebraic_KernelMergeFwdIdeal_ReferenceMergeFwdIdeal (hKernelMergeFwdIdeal := hKernelMergeFwdIdeal) (hReferenceMergeFwdIdeal := hReferenceMergeFwdIdeal)
    ∧ preserves_KernelPostFwd_KernelPostFwdIdeal
    ∧ algebraic_KernelPostFwdIdeal_ReferencePostFwdIdeal (hKernelPostFwdIdeal := hKernelPostFwdIdeal) (hReferencePostFwdIdeal := hReferencePostFwdIdeal)
    ∧ preserves_KernelSilu_KernelSiluIdeal
    ∧ algebraic_KernelSiluIdeal_ReferenceSiluIdeal (hKernelSiluIdeal := hKernelSiluIdeal) (hReferenceSiluIdeal := hReferenceSiluIdeal)
    ∧ preserves_KernelSiluBwd_KernelSiluBwdIdeal
    ∧ algebraic_KernelSiluBwdIdeal_ReferenceSiluBwdIdeal (hKernelSiluBwdIdeal := hKernelSiluBwdIdeal) (hReferenceSiluBwdIdeal := hReferenceSiluBwdIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelAdaX_KernelAdaXIdeal
    ∧ algebraic_KernelAdaXIdeal_ReferenceAdaXIdeal (hKernelAdaXIdeal := hKernelAdaXIdeal) (hReferenceAdaXIdeal := hReferenceAdaXIdeal)
    ∧ preserves_KernelRwPost_KernelRwPostIdeal
    ∧ algebraic_KernelRwPostIdeal_ReferenceRwPostIdeal_pre_real_keys (hKernelRwPostIdeal := hKernelRwPostIdeal) (hReferenceRwPostIdeal := hReferenceRwPostIdeal) (hPre_real_keys := hPre_real_keys)
    ∧ preserves_KernelShift_KernelShiftIdeal
    ∧ algebraic_KernelShiftIdeal_ReferenceShiftIdeal (hKernelShiftIdeal := hKernelShiftIdeal) (hReferenceShiftIdeal := hReferenceShiftIdeal)
    ∧ preserves_KernelShiftBwd_KernelShiftBwdIdeal
    ∧ algebraic_KernelShiftBwdIdeal_ReferenceShiftBwdIdeal_pre_real_shift (hKernelShiftBwdIdeal := hKernelShiftBwdIdeal) (hReferenceShiftBwdIdeal := hReferenceShiftBwdIdeal) (hPre_real_shift := hPre_real_shift)
-- ==== Pre_real_bounds.lean ====
abbrev S2304x13568 : Shape := ⟨2, ![2304, 13568]⟩
abbrev S2x1024 : Shape := ⟨2, ![2, 1024]⟩
abbrev S36x8x128x128 : Shape := ⟨4, ![36, 8, 128, 128]⟩
abbrev S2304x1024 : Shape := ⟨2, ![2304, 1024]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S2304x13568 .f32) (main_arg1 : FVec F S2x1024 .f32) (main_arg2 : FVec F S36x8x128x128 .f32) (main_arg3 : FVec F S2304x1024 .f32) : IVec S2x1024 1 :=
  let main_v0 : FVec F S2x1024 .f32 := Host.absf main_arg1
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  main_v2
-- ==== Pre_real_keys.lean ====
abbrev S2304x1024 : Shape := ⟨2, ![2304, 1024]⟩
abbrev S2304x3328 : Shape := ⟨2, ![2304, 3328]⟩
abbrev S2x1024 : Shape := ⟨2, ![2, 1024]⟩
abbrev S2x64x1024 : Shape := ⟨3, ![2, 64, 1024]⟩
abbrev S1x1024 : Shape := ⟨2, ![1, 1024]⟩
abbrev S_ : Shape := ⟨0, ![]⟩

class Facts : Prop where
  slices_S2304x3328_S2304x1024_0_1024 : S2304x3328.Slices ![0, 1024] S2304x1024
  bcast_S_S2304x1024 : S_.BroadcastsInDim S2304x1024 (![] : Fin 0 → Fin S2304x1024.rank)

variable [Facts]

def fn {F : FTy → Type} [FloatOps F] (main_arg0 : FVec F S2304x1024 .f32) (main_arg1 : FVec F S2304x1024 .f32) (main_arg2 : FVec F S2304x3328 .f32) (main_arg3 : FVec F S2304x1024 .f32) (main_arg4 : FVec F S2x1024 .f32) (main_arg5 : FVec F S2x64x1024 .f32) (main_arg6 : FVec F S1x1024 .f32) (main_arg7 : FVec F S1x1024 .f32) (main_arg8 : FVec F S1x1024 .f32) (main_arg9 : FVec F S1x1024 .f32) : IVec S2304x1024 1 :=
  let main_v0 : FVec F S2304x1024 .f32 := (extractStridedSlice S2304x1024 ![0, 1024] · slices_S2304x3328_S2304x1024_0_1024) main_arg2
  let main_v1 : FVec F S2304x1024 .f32 := Host.absf main_v0
  let main_cst : FVec F S_ .f32 := constant S_ .f32 0x7F800000#32
  let main_v2 : FVec F S2304x1024 .f32 := broadcastInDim S2304x1024 ![] bcast_S_S2304x1024 main_cst
  let main_v3 : IVec S2304x1024 1 := cmpf .olt main_v1 main_v2
  main_v3
-- ==== Pre_real_shift.lean ====
abbrev S2304x13568 : Shape := ⟨2, ![2304, 13568]⟩
abbrev S4x3328 : Shape := ⟨2, ![4, 3328]⟩
abbrev S2304x3328 : Shape := ⟨2, ![2304, 3328]⟩
abbrev S2308x3328 : Shape := ⟨2, ![2308, 3328]⟩
abbrev S_ : Shape := ⟨0, ![]⟩

class Facts : Prop where
  concatenates_S4x3328_S2304x3328_S2308x3328_d0 : Shape.Concatenates [S4x3328, S2304x3328] S2308x3328 0
  bcast_S_S2308x3328 : S_.BroadcastsInDim S2308x3328 (![] : Fin 0 → Fin S2308x3328.rank)

variable [Facts]

def fn {F : FTy → Type} [FloatOps F] (main_arg0 : FVec F S2304x13568 .f32) (main_arg1 : FVec F S4x3328 .f32) (main_arg2 : FVec F S2304x3328 .f32) (main_arg3 : FVec F S2304x3328 .f32) (main_arg4 : FVec F S2304x3328 .f32) : IVec S2308x3328 1 :=
  let main_v0 : FVec F S2304x3328 .f32 := addf main_arg2 main_arg3
  let main_v1 : FVec F S2304x3328 .f32 := addf main_v0 main_arg4
  let main_v2 : FVec F S2308x3328 .f32 := (fun a b => concatenate S2308x3328 0 [⟨S4x3328, a⟩, ⟨S2304x3328, b⟩] concatenates_S4x3328_S2304x3328_S2308x3328_d0) main_arg1 main_v1
  let main_v3 : FVec F S2308x3328 .f32 := Host.absf main_v2
  let main_cst : FVec F S_ .f32 := constant S_ .f32 0x7F800000#32
  let main_v4 : FVec F S2308x3328 .f32 := broadcastInDim S2308x3328 ![] bcast_S_S2308x3328 main_cst
  let main_v5 : IVec S2308x3328 1 := cmpf .olt main_v3 main_v4
  main_v5
-- ==== Kernel.lean ====
abbrev S2304x13568 : Shape := ⟨2, ![2304, 13568]⟩
abbrev S2x1024 : Shape := ⟨2, ![2, 1024]⟩
abbrev S36x8x128x128 : Shape := ⟨4, ![36, 8, 128, 128]⟩
abbrev S2304x1024 : Shape := ⟨2, ![2304, 1024]⟩
abbrev S64x1024 : Shape := ⟨2, ![64, 1024]⟩
abbrev S1x8x128x128 : Shape := ⟨4, ![1, 8, 128, 128]⟩
abbrev S8x128x128 : Shape := ⟨3, ![8, 128, 128]⟩
abbrev S1x1024 : Shape := ⟨2, ![1, 1024]⟩
abbrev S63x1024 : Shape := ⟨2, ![63, 1024]⟩
abbrev S62x1024 : Shape := ⟨2, ![62, 1024]⟩
abbrev S4x1024 : Shape := ⟨2, ![4, 1024]⟩
abbrev S60x1024 : Shape := ⟨2, ![60, 1024]⟩
abbrev S8x1024 : Shape := ⟨2, ![8, 1024]⟩
abbrev S56x1024 : Shape := ⟨2, ![56, 1024]⟩
abbrev S16x1024 : Shape := ⟨2, ![16, 1024]⟩
abbrev S48x1024 : Shape := ⟨2, ![48, 1024]⟩
abbrev S32x1024 : Shape := ⟨2, ![32, 1024]⟩
abbrev S16x8x128 : Shape := ⟨3, ![16, 8, 128]⟩
abbrev S1x8x128 : Shape := ⟨3, ![1, 8, 128]⟩
abbrev S16x8 : Shape := ⟨2, ![16, 8]⟩
abbrev S16x8x1 : Shape := ⟨3, ![16, 8, 1]⟩
abbrev S15x8x128 : Shape := ⟨3, ![15, 8, 128]⟩
abbrev S15x8 : Shape := ⟨2, ![15, 8]⟩
abbrev S15x8x1 : Shape := ⟨3, ![15, 8, 1]⟩
abbrev S14x8x128 : Shape := ⟨3, ![14, 8, 128]⟩
abbrev S14x8 : Shape := ⟨2, ![14, 8]⟩
abbrev S14x8x1 : Shape := ⟨3, ![14, 8, 1]⟩
abbrev S13x8x128 : Shape := ⟨3, ![13, 8, 128]⟩
abbrev S13x8 : Shape := ⟨2, ![13, 8]⟩
abbrev S13x8x1 : Shape := ⟨3, ![13, 8, 1]⟩
abbrev S12x8x128 : Shape := ⟨3, ![12, 8, 128]⟩
abbrev S12x8 : Shape := ⟨2, ![12, 8]⟩
abbrev S12x8x1 : Shape := ⟨3, ![12, 8, 1]⟩
abbrev S11x8x128 : Shape := ⟨3, ![11, 8, 128]⟩
abbrev S11x8 : Shape := ⟨2, ![11, 8]⟩
abbrev S11x8x1 : Shape := ⟨3, ![11, 8, 1]⟩
abbrev S10x8x128 : Shape := ⟨3, ![10, 8, 128]⟩
abbrev S10x8 : Shape := ⟨2, ![10, 8]⟩
abbrev S10x8x1 : Shape := ⟨3, ![10, 8, 1]⟩
abbrev S9x8x128 : Shape := ⟨3, ![9, 8, 128]⟩
abbrev S9x8 : Shape := ⟨2, ![9, 8]⟩
abbrev S9x8x1 : Shape := ⟨3, ![9, 8, 1]⟩
abbrev S8x8x128 : Shape := ⟨3, ![8, 8, 128]⟩
abbrev S8x8 : Shape := ⟨2, ![8, 8]⟩
abbrev S8x8x1 : Shape := ⟨3, ![8, 8, 1]⟩
abbrev S7x8x128 : Shape := ⟨3, ![7, 8, 128]⟩
abbrev S7x8 : Shape := ⟨2, ![7, 8]⟩
abbrev S7x8x1 : Shape := ⟨3, ![7, 8, 1]⟩
abbrev S6x8x128 : Shape := ⟨3, ![6, 8, 128]⟩
abbrev S6x8 : Shape := ⟨2, ![6, 8]⟩
abbrev S6x8x1 : Shape := ⟨3, ![6, 8, 1]⟩
abbrev S5x8x128 : Shape := ⟨3, ![5, 8, 128]⟩
abbrev S5x8 : Shape := ⟨2, ![5, 8]⟩
abbrev S5x8x1 : Shape := ⟨3, ![5, 8, 1]⟩
abbrev S4x8x128 : Shape := ⟨3, ![4, 8, 128]⟩
abbrev S4x8 : Shape := ⟨2, ![4, 8]⟩
abbrev S4x8x1 : Shape := ⟨3, ![4, 8, 1]⟩
abbrev S3x8x128 : Shape := ⟨3, ![3, 8, 128]⟩
abbrev S3x8 : Shape := ⟨2, ![3, 8]⟩
abbrev S3x8x1 : Shape := ⟨3, ![3, 8, 1]⟩
abbrev S2x8x128 : Shape := ⟨3, ![2, 8, 128]⟩
abbrev S2x8 : Shape := ⟨2, ![2, 8]⟩
abbrev S2x8x1 : Shape := ⟨3, ![2, 8, 1]⟩
abbrev S1x8 : Shape := ⟨2, ![1, 8]⟩
abbrev S1x8x1 : Shape := ⟨3, ![1, 8, 1]⟩
abbrev S8x16x128 : Shape := ⟨3, ![8, 16, 128]⟩
abbrev S8x16x16 : Shape := ⟨3, ![8, 16, 16]⟩
abbrev S32x8x128 : Shape := ⟨3, ![32, 8, 128]⟩
abbrev S8x32x128 : Shape := ⟨3, ![8, 32, 128]⟩
abbrev S8x16x32 : Shape := ⟨3, ![8, 16, 32]⟩
abbrev S48x8x128 : Shape := ⟨3, ![48, 8, 128]⟩
abbrev S8x48x128 : Shape := ⟨3, ![8, 48, 128]⟩
abbrev S8x16x48 : Shape := ⟨3, ![8, 16, 48]⟩
abbrev S64x8x128 : Shape := ⟨3, ![64, 8, 128]⟩
abbrev S8x64x128 : Shape := ⟨3, ![8, 64, 128]⟩
abbrev S8x1x128 : Shape := ⟨3, ![8, 1, 128]⟩
abbrev S8x128x64 : Shape := ⟨3, ![8, 128, 64]⟩
abbrev S1024 : Shape := ⟨1, ![1024]⟩
abbrev S8x128 : Shape := ⟨2, ![8, 128]⟩
abbrev S8x128x48 : Shape := ⟨3, ![8, 128, 48]⟩
abbrev S49x1024 : Shape := ⟨2, ![49, 1024]⟩
abbrev S15x1024 : Shape := ⟨2, ![15, 1024]⟩
abbrev S8x128x32 : Shape := ⟨3, ![8, 128, 32]⟩
abbrev S33x1024 : Shape := ⟨2, ![33, 1024]⟩
abbrev S31x1024 : Shape := ⟨2, ![31, 1024]⟩
abbrev S8x128x16 : Shape := ⟨3, ![8, 128, 16]⟩
abbrev S17x1024 : Shape := ⟨2, ![17, 1024]⟩
abbrev S47x1024 : Shape := ⟨2, ![47, 1024]⟩
abbrev S8 : Shape := ⟨1, ![8]⟩

abbrev nBuf : Space → Nat
  | .hbm => 8
  | .vmem => 19
  | .smem => 0
  | _ => 0

abbrev bufTy : (tb : Table) → Fin (tcTables nBuf tb) → BufTy
  | .hbm, ⟨0, _⟩ => ⟨S2304x13568, .f32⟩
  | .hbm, ⟨1, _⟩ => ⟨S2x1024, .f32⟩
  | .hbm, ⟨2, _⟩ => ⟨S36x8x128x128, .f32⟩
  | .hbm, ⟨3, _⟩ => ⟨S2304x1024, .f32⟩
  | .hbm, ⟨4, _⟩ => ⟨S2304x1024, .f32⟩
  | .hbm, ⟨5, _⟩ => ⟨S2304x1024, .f32⟩
  | .hbm, ⟨6, _⟩ => ⟨S2304x1024, .bf16⟩
  | .hbm, ⟨7, _⟩ => ⟨S2x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S2x1024, .f32⟩
  | .local _ .vmem, ⟨7, _⟩ => ⟨S1x8x128x128, .f32⟩
  | .local _ .vmem, ⟨8, _⟩ => ⟨S1x8x128x128, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .bf16⟩
  | .local _ .vmem, ⟨16, _⟩ => ⟨S64x1024, .bf16⟩
  | .local _ .vmem, ⟨17, _⟩ => ⟨S2x1024, .f32⟩
  | .local _ .vmem, ⟨18, _⟩ => ⟨S8x128x128, .f32⟩
  | _, _ => ⟨S2304x13568, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c35_i32 : BitVec 32 := 35#32
  let v0 : BitVec 32 := Scalar.subi c35_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c35_i32 : BitVec 32 := 35#32
  let v0 : BitVec 32 := Scalar.subi c35_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c35_i32 : BitVec 32 := 35#32
  let v0 : BitVec 32 := Scalar.subi c35_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c35_i32 : BitVec 32 := 35#32
  let v0 : BitVec 32 := Scalar.subi c35_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c35_i32 : BitVec 32 := 35#32
  let v0 : BitVec 32 := Scalar.subi c35_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c35_i32 : BitVec 32 := 35#32
  let v0 : BitVec 32 := Scalar.subi c35_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c35_i32 : BitVec 32 := 35#32
  let v0 : BitVec 32 := Scalar.subi c35_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c35_i32 : BitVec 32 := 35#32
  let v0 : BitVec 32 := Scalar.subi c35_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S2304x13568 : Shape := ⟨2, ![2304, 13568]⟩
abbrev S2x1024 : Shape := ⟨2, ![2, 1024]⟩
abbrev S36x8x128x128 : Shape := ⟨4, ![36, 8, 128, 128]⟩
abbrev S2304x1024 : Shape := ⟨2, ![2304, 1024]⟩
abbrev S_ : Shape := ⟨0, ![]⟩
abbrev S1024 : Shape := ⟨1, ![1024]⟩
abbrev S1x1024 : Shape := ⟨2, ![1, 1024]⟩
abbrev S2304x8x128 : Shape := ⟨3, ![2304, 8, 128]⟩
abbrev S8x128x128 : Shape := ⟨3, ![8, 128, 128]⟩
abbrev S64x64 : Shape := ⟨2, ![64, 64]⟩
abbrev S36x64x8x128 : Shape := ⟨4, ![36, 64, 8, 128]⟩
abbrev S36x8x64x128 : Shape := ⟨4, ![36, 8, 64, 128]⟩
abbrev S36x8x64x1x128 : Shape := ⟨5, ![36, 8, 64, 1, 128]⟩
abbrev S36x8x1x64x128 : Shape := ⟨5, ![36, 8, 1, 64, 128]⟩
abbrev S36x8x64x64x128 : Shape := ⟨5, ![36, 8, 64, 64, 128]⟩
abbrev S64x64x1 : Shape := ⟨3, ![64, 64, 1]⟩
abbrev S36x8x64x64 : Shape := ⟨4, ![36, 8, 64, 64]⟩
abbrev S36x8x1x128 : Shape := ⟨4, ![36, 8, 1, 128]⟩
abbrev S36x8x128 : Shape := ⟨3, ![36, 8, 128]⟩
abbrev S36x8x128x1 : Shape := ⟨4, ![36, 8, 128, 1]⟩
abbrev S1x8x64x128 : Shape := ⟨4, ![1, 8, 64, 128]⟩
abbrev S8x64x128 : Shape := ⟨3, ![8, 64, 128]⟩
abbrev S1x8x128x1 : Shape := ⟨4, ![1, 8, 128, 1]⟩
abbrev S8x128x1 : Shape := ⟨3, ![8, 128, 1]⟩
abbrev S1x8x64x64 : Shape := ⟨4, ![1, 8, 64, 64]⟩
abbrev S8x64x64 : Shape := ⟨3, ![8, 64, 64]⟩
abbrev S8x128x64 : Shape := ⟨3, ![8, 128, 64]⟩

abbrev nBuf : Space → Nat
  | .hbm => 182
  | .vmem => 0
  | .smem => 0
  | _ => 0

abbrev hbmTy0_0 (i : Nat) : BufTy := match i % 128 with
  | 0 => ⟨S2304x13568, .f32⟩
  | 1 => ⟨S2x1024, .f32⟩
  | 2 => ⟨S36x8x128x128, .f32⟩
  | 3 => ⟨S2304x1024, .f32⟩
  | 4 => ⟨S_, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S2x1024, .f32⟩
  | 11 => ⟨S2x1024, .f32⟩
  | 12 => ⟨S2x1024, .f32⟩
  | 13 => ⟨S_, .f32⟩
  | 14 => ⟨S1024, .f32⟩
  | 15 => ⟨S1x1024, .f32⟩
  | 16 => ⟨S2x1024, .f32⟩
  | 17 => ⟨S2x1024, .f32⟩
  | 18 => ⟨S_, .f32⟩
  | 19 => ⟨S_, .f32⟩
  | 20 => ⟨S2x1024, .f32⟩
  | 21 => ⟨S1x1024, .f32⟩
  | 22 => ⟨S1024, .f32⟩
  | 23 => ⟨S2304x1024, .f32⟩
  | 24 => ⟨S2304x1024, .f32⟩
  | 25 => ⟨S2304x1024, .f32⟩
  | 26 => ⟨S2304x1024, .f32⟩
  | 27 => ⟨S2304x1024, .f32⟩
  | 28 => ⟨S_, .f32⟩
  | 29 => ⟨S2304x1024, .f32⟩
  | 30 => ⟨S2304x1024, .f32⟩
  | 31 => ⟨S_, .f32⟩
  | 32 => ⟨S2304x1024, .f32⟩
  | 33 => ⟨S2304x1024, .f32⟩
  | 34 => ⟨S2304x1024, .f32⟩
  | 35 => ⟨S2304x8x128, .f32⟩
  | 36 => ⟨S_, .f32⟩
  | 37 => ⟨S1024, .f32⟩
  | 38 => ⟨S1024, .f32⟩
  | 39 => ⟨S2304x1024, .f32⟩
  | 40 => ⟨S2304x1024, .f32⟩
  | 41 => ⟨S_, .f32⟩
  | 42 => ⟨S2304x1024, .f32⟩
  | 43 => ⟨S2304x1024, .f32⟩
  | 44 => ⟨S_, .f32⟩
  | 45 => ⟨S2304x1024, .f32⟩
  | 46 => ⟨S2304x1024, .f32⟩
  | 47 => ⟨S1x1024, .f32⟩
  | 48 => ⟨S2304x1024, .f32⟩
  | 49 => ⟨S2304x1024, .f32⟩
  | 50 => ⟨S1x1024, .f32⟩
  | 51 => ⟨S2304x1024, .f32⟩
  | 52 => ⟨S2304x1024, .f32⟩
  | 53 => ⟨S_, .f32⟩
  | 54 => ⟨S8x128x128, .f32⟩
  | 55 => ⟨S_, .f32⟩
  | 56 => ⟨S2304x1024, .f32⟩
  | 57 => ⟨S2304x1024, .f32⟩
  | 58 => ⟨S2304x8x128, .f32⟩
  | 59 => ⟨S2304x1024, .f32⟩
  | 60 => ⟨S2304x8x128, .f32⟩
  | 61 => ⟨S_, .i1⟩
  | 62 => ⟨S64x64, .i1⟩
  | 63 => ⟨S64x64, .i32⟩
  | 64 => ⟨S_, .i32⟩
  | 65 => ⟨S64x64, .i32⟩
  | 66 => ⟨S64x64, .i32⟩
  | 67 => ⟨S64x64, .i32⟩
  | 68 => ⟨S64x64, .i1⟩
  | 69 => ⟨S_, .i1⟩
  | 70 => ⟨S64x64, .i1⟩
  | 71 => ⟨S64x64, .i1⟩
  | 72 => ⟨S36x64x8x128, .f32⟩
  | 73 => ⟨S36x8x64x128, .f32⟩
  | 74 => ⟨S36x64x8x128, .f32⟩
  | 75 => ⟨S36x8x64x128, .f32⟩
  | 76 => ⟨S36x64x8x128, .f32⟩
  | 77 => ⟨S36x8x64x128, .f32⟩
  | 78 => ⟨S_, .f32⟩
  | 79 => ⟨S_, .f32⟩
  | 80 => ⟨S36x8x64x128, .f32⟩
  | 81 => ⟨S36x8x64x1x128, .f32⟩
  | 82 => ⟨S36x8x1x64x128, .f32⟩
  | 83 => ⟨S36x8x64x64x128, .f32⟩
  | 84 => ⟨S36x8x64x64x128, .f32⟩
  | 85 => ⟨S36x8x64x64x128, .f32⟩
  | 86 => ⟨S64x64x1, .i1⟩
  | 87 => ⟨S_, .f32⟩
  | 88 => ⟨S36x8x64x64x128, .f32⟩
  | 89 => ⟨S36x8x64x64x128, .f32⟩
  | 90 => ⟨S36x8x64x64x128, .f32⟩
  | 91 => ⟨S_, .f32⟩
  | 92 => ⟨S_, .f32⟩
  | 93 => ⟨S36x8x64x64x128, .i1⟩
  | 94 => ⟨S36x8x64x64x128, .f32⟩
  | 95 => ⟨S36x8x64x64x128, .f32⟩
  | 96 => ⟨S36x8x64x1x128, .f32⟩
  | 97 => ⟨S36x8x1x64x128, .f32⟩
  | 98 => ⟨S36x8x64x64x128, .f32⟩
  | 99 => ⟨S36x8x64x64x128, .f32⟩
  | 100 => ⟨S36x8x64x64x128, .f32⟩
  | 101 => ⟨S36x8x64x64x128, .f32⟩
  | 102 => ⟨S_, .f32⟩
  | 103 => ⟨S36x8x64x64, .f32⟩
  | 104 => ⟨S36x8x1x128, .f32⟩
  | 105 => ⟨S36x8x128, .f32⟩
  | 106 => ⟨S36x8x64x128, .f32⟩
  | 107 => ⟨S36x8x64x128, .f32⟩
  | 108 => ⟨S36x8x1x128, .f32⟩
  | 109 => ⟨S36x8x64x128, .f32⟩
  | 110 => ⟨S36x8x64x128, .f32⟩
  | 111 => ⟨S36x8x64x128, .f32⟩
  | 112 => ⟨S36x8x64x128, .f32⟩
  | 113 => ⟨S36x8x128, .f32⟩
  | 114 => ⟨S36x8x128x1, .f32⟩
  | 115 => ⟨S2304x8x128, .f32⟩
  | 116 => ⟨S36x64x8x128, .f32⟩
  | 117 => ⟨S36x8x64x128, .f32⟩
  | 118 => ⟨S_, .f32⟩
  | 119 => ⟨S8x128x128, .f32⟩
  | 120 => ⟨S_, .f32⟩
  | 121 => ⟨S36x8x64x128, .f32⟩
  | 122 => ⟨S_, .i32⟩
  | 123 => ⟨S36x8x64x128, .f32⟩
  | 124 => ⟨S36x8x128x1, .f32⟩
  | 125 => ⟨S36x8x64x128, .f32⟩
  | 126 => ⟨S36x8x64x64, .f32⟩
  | 127 => ⟨S36x8x64x128, .f32⟩
  | _ => ⟨S2304x13568, .f32⟩

abbrev hbmTy0_1 (i : Nat) : BufTy := match i % 128 with
  | 0 => ⟨S_, .i32⟩
  | 1 => ⟨S8x128x128, .f32⟩
  | 2 => ⟨S36x8x64x128, .f32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S1x8x64x128, .f32⟩
  | 13 => ⟨S8x64x128, .f32⟩
  | 14 => ⟨S_, .i32⟩
  | 15 => ⟨S_, .i32⟩
  | 16 => ⟨S_, .i32⟩
  | 17 => ⟨S1x8x128x1, .f32⟩
  | 18 => ⟨S8x128x1, .f32⟩
  | 19 => ⟨S_, .i32⟩
  | 20 => ⟨S_, .i32⟩
  | 21 => ⟨S_, .i32⟩
  | 22 => ⟨S1x8x64x128, .f32⟩
  | 23 => ⟨S8x64x128, .f32⟩
  | 24 => ⟨S_, .i32⟩
  | 25 => ⟨S_, .i32⟩
  | 26 => ⟨S_, .i32⟩
  | 27 => ⟨S1x8x64x64, .f32⟩
  | 28 => ⟨S8x64x64, .f32⟩
  | 29 => ⟨S_, .i32⟩
  | 30 => ⟨S_, .i32⟩
  | 31 => ⟨S_, .i32⟩
  | 32 => ⟨S1x8x64x128, .f32⟩
  | 33 => ⟨S8x64x128, .f32⟩
  | 34 => ⟨S8x128x64, .f32⟩
  | 35 => ⟨S8x64x128, .f32⟩
  | 36 => ⟨S8x128x128, .f32⟩
  | 37 => ⟨S8x128x128, .f32⟩
  | 38 => ⟨S8x128x128, .f32⟩
  | 39 => ⟨S8x128x128, .f32⟩
  | 40 => ⟨S8x128x128, .f32⟩
  | 41 => ⟨S8x128x64, .f32⟩
  | 42 => ⟨S8x64x128, .f32⟩
  | 43 => ⟨S8x64x128, .f32⟩
  | 44 => ⟨S1x8x64x128, .f32⟩
  | 45 => ⟨S_, .i32⟩
  | 46 => ⟨S_, .i32⟩
  | 47 => ⟨S_, .i32⟩
  | 48 => ⟨S36x8x64x128, .f32⟩
  | 49 => ⟨S_, .i32⟩
  | 50 => ⟨S_, .i32⟩
  | 51 => ⟨S36x64x8x128, .f32⟩
  | 52 => ⟨S2304x8x128, .f32⟩
  | 53 => ⟨S2304x1024, .f32⟩
  | _ => ⟨S2304x13568, .f32⟩

abbrev hbmTy (i : Nat) : BufTy := match i / 128 with
  | 0 => hbmTy0_0 i
  | 1 => hbmTy0_1 i
  | _ => ⟨S2304x13568, .f32⟩

abbrev bufTy : (tb : Table) → Fin (tcTables nBuf tb) → BufTy
  | .hbm, ⟨i, _⟩ => hbmTy i
  | _, _ => ⟨S2304x13568, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c : Ref sig .tc := ⟨.hbm, 61, rfl⟩
abbrev main_v39 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_0 : Ref sig .tc := ⟨.hbm, 69, rfl⟩
abbrev main_call2_v5 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call3_call0_cst : Ref sig .tc := ⟨.hbm, 78, rfl⟩
abbrev main_call3_call0_v0 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_7 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_8 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_9 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_10 : Ref sig .tc := ⟨.hbm, 118, rfl⟩
abbrev main_v79 : Ref sig .tc := ⟨.hbm, 119, rfl⟩
abbrev main_cst_11 : Ref sig .tc := ⟨.hbm, 120, rfl⟩
abbrev main_v80 : Ref sig .tc := ⟨.hbm, 121, rfl⟩
abbrev main_c_12 : Ref sig .tc := ⟨.hbm, 122, rfl⟩
abbrev main_v81_0 : Ref sig .tc := ⟨.hbm, 123, rfl⟩
abbrev main_v81_1 : Ref sig .tc := ⟨.hbm, 124, rfl⟩
abbrev main_v81_2 : Ref sig .tc := ⟨.hbm, 125, rfl⟩
abbrev main_v81_3 : Ref sig .tc := ⟨.hbm, 126, rfl⟩
abbrev main_v81_4 : Ref sig .tc := ⟨.hbm, 127, rfl⟩
abbrev main_v81_5 : Ref sig .tc := ⟨.hbm, 128, rfl⟩
abbrev main_v81_6 : Ref sig .tc := ⟨.hbm, 129, rfl⟩
abbrev main_v81_7 : Ref sig .tc := ⟨.hbm, 130, rfl⟩
abbrev main_while0c_c_20 : Ref sig .tc := ⟨.hbm, 131, rfl⟩
abbrev main_while0c_v85 : Ref sig .tc := ⟨.hbm, 132, rfl⟩
abbrev main_while0b_c_20 : Ref sig .tc := ⟨.hbm, 133, rfl⟩
abbrev main_while0b_v85 : Ref sig .tc := ⟨.hbm, 134, rfl⟩
abbrev main_while0b_c_21 : Ref sig .tc := ⟨.hbm, 135, rfl⟩
abbrev main_while0b_v86 : Ref sig .tc := ⟨.hbm, 136, rfl⟩
abbrev main_while0b_call5_c : Ref sig .tc := ⟨.hbm, 137, rfl⟩
abbrev main_while0b_call5_c_0 : Ref sig .tc := ⟨.hbm, 138, rfl⟩
abbrev main_while0b_call5_c_1 : Ref sig .tc := ⟨.hbm, 139, rfl⟩
abbrev main_while0b_call5_v0 : Ref sig .tc := ⟨.hbm, 140, rfl⟩
abbrev main_while0b_v87 : Ref sig .tc := ⟨.hbm, 141, rfl⟩
abbrev main_while0b_call6_c : Ref sig .tc := ⟨.hbm, 142, rfl⟩
abbrev main_while0b_call6_c_0 : Ref sig .tc := ⟨.hbm, 143, rfl⟩
abbrev main_while0b_call6_c_1 : Ref sig .tc := ⟨.hbm, 144, rfl⟩
abbrev main_while0b_call6_v0 : Ref sig .tc := ⟨.hbm, 145, rfl⟩
abbrev main_while0b_v88 : Ref sig .tc := ⟨.hbm, 146, rfl⟩
abbrev main_while0b_call7_c : Ref sig .tc := ⟨.hbm, 147, rfl⟩
abbrev main_while0b_call7_c_0 : Ref sig .tc := ⟨.hbm, 148, rfl⟩
abbrev main_while0b_call7_c_1 : Ref sig .tc := ⟨.hbm, 149, rfl⟩
abbrev main_while0b_call7_v0 : Ref sig .tc := ⟨.hbm, 150, rfl⟩
abbrev main_while0b_v89 : Ref sig .tc := ⟨.hbm, 151, rfl⟩
abbrev main_while0b_call8_c : Ref sig .tc := ⟨.hbm, 152, rfl⟩
abbrev main_while0b_call8_c_0 : Ref sig .tc := ⟨.hbm, 153, rfl⟩
abbrev main_while0b_call8_c_1 : Ref sig .tc := ⟨.hbm, 154, rfl⟩
abbrev main_while0b_call8_v0 : Ref sig .tc := ⟨.hbm, 155, rfl⟩
abbrev main_while0b_v90 : Ref sig .tc := ⟨.hbm, 156, rfl⟩
abbrev main_while0b_call9_c : Ref sig .tc := ⟨.hbm, 157, rfl⟩
abbrev main_while0b_call9_c_0 : Ref sig .tc := ⟨.hbm, 158, rfl⟩
abbrev main_while0b_call9_c_1 : Ref sig .tc := ⟨.hbm, 159, rfl⟩
abbrev main_while0b_call9_v0 : Ref sig .tc := ⟨.hbm, 160, rfl⟩
abbrev main_while0b_v91 : Ref sig .tc := ⟨.hbm, 161, rfl⟩
abbrev main_while0b_v92 : Ref sig .tc := ⟨.hbm, 162, rfl⟩
abbrev main_while0b_v93 : Ref sig .tc := ⟨.hbm, 163, rfl⟩
abbrev main_while0b_v94 : Ref sig .tc := ⟨.hbm, 164, rfl⟩
abbrev main_while0b_v95 : Ref sig .tc := ⟨.hbm, 165, rfl⟩
abbrev main_while0b_v96 : Ref sig .tc := ⟨.hbm, 166, rfl⟩
abbrev main_while0b_v97 : Ref sig .tc := ⟨.hbm, 167, rfl⟩
abbrev main_while0b_v98 : Ref sig .tc := ⟨.hbm, 168, rfl⟩
abbrev main_while0b_v99 : Ref sig .tc := ⟨.hbm, 169, rfl⟩
abbrev main_while0b_v100 : Ref sig .tc := ⟨.hbm, 170, rfl⟩
abbrev main_while0b_v101 : Ref sig .tc := ⟨.hbm, 171, rfl⟩
abbrev main_while0b_call10_v0 : Ref sig .tc := ⟨.hbm, 172, rfl⟩
abbrev main_while0b_call10_c : Ref sig .tc := ⟨.hbm, 173, rfl⟩
abbrev main_while0b_call10_c_0 : Ref sig .tc := ⟨.hbm, 174, rfl⟩
abbrev main_while0b_call10_c_1 : Ref sig .tc := ⟨.hbm, 175, rfl⟩
abbrev main_while0b_v102 : Ref sig .tc := ⟨.hbm, 176, rfl⟩
abbrev main_while0b_c_22 : Ref sig .tc := ⟨.hbm, 177, rfl⟩
abbrev main_while0b_v103 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩

abbrev nD : Nat := 1
abbrev τ : Topo := Topo.v7x

variable {F : FTy → Type} [FloatOps F]

abbrev main_while0_count : Scf.Loop 32 := ⟨0#32, 36#32, 1#32⟩
-- ==== KernelIn.lean ====
abbrev S2304x2048 : Shape := ⟨2, ![2304, 2048]⟩
abbrev S4x2048x3392 : Shape := ⟨3, ![4, 2048, 3392]⟩
abbrev S4x2304x3392 : Shape := ⟨3, ![4, 2304, 3392]⟩
abbrev S768x512 : Shape := ⟨2, ![768, 512]⟩
abbrev S1x512x3392 : Shape := ⟨3, ![1, 512, 3392]⟩
abbrev S1x768x3392 : Shape := ⟨3, ![1, 768, 3392]⟩
abbrev S768x3392 : Shape := ⟨2, ![768, 3392]⟩
abbrev S512x3392 : Shape := ⟨2, ![512, 3392]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S4x2048x3392, .bf16⟩
  | .hbm, ⟨2, _⟩ => ⟨S4x2304x3392, .f32⟩
  | .local _ .vmem, ⟨0, _⟩ => ⟨S768x512, .bf16⟩
  | .local _ .vmem, ⟨1, _⟩ => ⟨S768x512, .bf16⟩
  | .local _ .vmem, ⟨2, _⟩ => ⟨S1x512x3392, .bf16⟩
  | .local _ .vmem, ⟨3, _⟩ => ⟨S1x512x3392, .bf16⟩
  | .local _ .vmem, ⟨4, _⟩ => ⟨S1x768x3392, .f32⟩
  | .local _ .vmem, ⟨5, _⟩ => ⟨S1x768x3392, .f32⟩
  | .local _ .vmem, ⟨6, _⟩ => ⟨S768x3392, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x3392 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768x3392 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S2304x2048 : Shape := ⟨2, ![2304, 2048]⟩
abbrev S4x2048x3392 : Shape := ⟨3, ![4, 2048, 3392]⟩
abbrev S2048x4x3392 : Shape := ⟨3, ![2048, 4, 3392]⟩
abbrev S2048x13568 : Shape := ⟨2, ![2048, 13568]⟩
abbrev S2304x13568 : Shape := ⟨2, ![2304, 13568]⟩
abbrev S2304x4x3392 : Shape := ⟨3, ![2304, 4, 3392]⟩
abbrev S4x2304x3392 : Shape := ⟨3, ![4, 2304, 3392]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x2048x3392, .bf16⟩
  | .hbm, ⟨2, _⟩ => ⟨S2304x2048, .f32⟩
  | .hbm, ⟨3, _⟩ => ⟨S2048x4x3392, .bf16⟩
  | .hbm, ⟨4, _⟩ => ⟨S2048x13568, .bf16⟩
  | .hbm, ⟨5, _⟩ => ⟨S2048x13568, .f32⟩
  | .hbm, ⟨6, _⟩ => ⟨S2304x13568, .f32⟩
  | .hbm, ⟨7, _⟩ => ⟨S2304x4x3392, .f32⟩
  | .hbm, ⟨8, _⟩ => ⟨S4x2304x3392, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== KernelInW.lean ====
abbrev S2304x2048 : Shape := ⟨2, ![2304, 2048]⟩
abbrev S4x2304x3392 : Shape := ⟨3, ![4, 2304, 3392]⟩
abbrev S4x2048x3392 : Shape := ⟨3, ![4, 2048, 3392]⟩
abbrev S768x512 : Shape := ⟨2, ![768, 512]⟩
abbrev S1x768x3392 : Shape := ⟨3, ![1, 768, 3392]⟩
abbrev S1x512x3392 : Shape := ⟨3, ![1, 512, 3392]⟩
abbrev S512x3392 : Shape := ⟨2, ![512, 3392]⟩
abbrev S768x3392 : Shape := ⟨2, ![768, 3392]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S4x2304x3392, .bf16⟩
  | .hbm, ⟨2, _⟩ => ⟨S4x2048x3392, .f32⟩
  | .local _ .vmem, ⟨0, _⟩ => ⟨S768x512, .bf16⟩
  | .local _ .vmem, ⟨1, _⟩ => ⟨S768x512, .bf16⟩
  | .local _ .vmem, ⟨2, _⟩ => ⟨S1x768x3392, .bf16⟩
  | .local _ .vmem, ⟨3, _⟩ => ⟨S1x768x3392, .bf16⟩
  | .local _ .vmem, ⟨4, _⟩ => ⟨S1x512x3392, .f32⟩
  | .local _ .vmem, ⟨5, _⟩ => ⟨S1x512x3392, .f32⟩
  | .local _ .vmem, ⟨6, _⟩ => ⟨S512x3392, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x3392 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x3392 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInWIdeal.lean ====
abbrev S2304x2048 : Shape := ⟨2, ![2304, 2048]⟩
abbrev S4x2304x3392 : Shape := ⟨3, ![4, 2304, 3392]⟩
abbrev S_ : Shape := ⟨0, ![]⟩
abbrev S2048x13568 : Shape := ⟨2, ![2048, 13568]⟩
abbrev S2304x4x3392 : Shape := ⟨3, ![2304, 4, 3392]⟩
abbrev S2304x13568 : Shape := ⟨2, ![2304, 13568]⟩
abbrev S13568x2048 : Shape := ⟨2, ![13568, 2048]⟩
abbrev S2048x4x3392 : Shape := ⟨3, ![2048, 4, 3392]⟩
abbrev S4x2048x3392 : Shape := ⟨3, ![4, 2048, 3392]⟩

abbrev nBuf : Space → Nat
  | .hbm => 14
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x2304x3392, .bf16⟩
  | .hbm, ⟨2, _⟩ => ⟨S_, .f32⟩
  | .hbm, ⟨3, _⟩ => ⟨S2048x13568, .f32⟩
  | .hbm, ⟨4, _⟩ => ⟨S2304x4x3392, .bf16⟩
  | .hbm, ⟨5, _⟩ => ⟨S2304x13568, .bf16⟩
  | .hbm, ⟨6, _⟩ => ⟨S2304x2048, .f32⟩
  | .hbm, ⟨7, _⟩ => ⟨S2304x13568, .f32⟩
  | .hbm, ⟨8, _⟩ => ⟨S2304x13568, .f32⟩
  | .hbm, ⟨9, _⟩ => ⟨S13568x2048, .f32⟩
  | .hbm, ⟨10, _⟩ => ⟨S2048x13568, .f32⟩
  | .hbm, ⟨11, _⟩ => ⟨S2304x2048, .f32⟩
  | .hbm, ⟨12, _⟩ => ⟨S2048x4x3392, .f32⟩
  | .hbm, ⟨13, _⟩ => ⟨S4x2048x3392, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelInX.lean ====
abbrev S4x2304x3392 : Shape := ⟨3, ![4, 2304, 3392]⟩
abbrev S4x2048x3392 : Shape := ⟨3, ![4, 2048, 3392]⟩
abbrev S2304x2048 : Shape := ⟨2, ![2304, 2048]⟩
abbrev S1x768x3392 : Shape := ⟨3, ![1, 768, 3392]⟩
abbrev S1x512x3392 : Shape := ⟨3, ![1, 512, 3392]⟩
abbrev S768x512 : Shape := ⟨2, ![768, 512]⟩
abbrev S768x3392 : Shape := ⟨2, ![768, 3392]⟩
abbrev S512x3392 : Shape := ⟨2, ![512, 3392]⟩

abbrev nBuf : Space → Nat
  | .hbm => 3
  | .vmem => 7
  | .smem => 0
  | _ => 0

abbrev bufTy : (tb : Table) → Fin (tcTables nBuf tb) → BufTy
  | .hbm, ⟨0, _⟩ => ⟨S4x2304x3392, .bf16⟩
  | .hbm, ⟨1, _⟩ => ⟨S4x2048x3392, .bf16⟩
  | .hbm, ⟨2, _⟩ => ⟨S2304x2048, .f32⟩
  | .local _ .vmem, ⟨0, _⟩ => ⟨S1x768x3392, .bf16⟩
  | .local _ .vmem, ⟨1, _⟩ => ⟨S1x768x3392, .bf16⟩
  | .local _ .vmem, ⟨2, _⟩ => ⟨S1x512x3392, .bf16⟩
  | .local _ .vmem, ⟨3, _⟩ => ⟨S1x512x3392, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S4x2304x3392, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x768x3392 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x3392 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInXIdeal.lean ====
abbrev S4x2304x3392 : Shape := ⟨3, ![4, 2304, 3392]⟩
abbrev S4x2048x3392 : Shape := ⟨3, ![4, 2048, 3392]⟩
abbrev S_ : Shape := ⟨0, ![]⟩
abbrev S2304x2048 : Shape := ⟨2, ![2304, 2048]⟩
abbrev S2048x4x3392 : Shape := ⟨3, ![2048, 4, 3392]⟩
abbrev S2048x13568 : Shape := ⟨2, ![2048, 13568]⟩
abbrev S2304x4x3392 : Shape := ⟨3, ![2304, 4, 3392]⟩
abbrev S2304x13568 : Shape := ⟨2, ![2304, 13568]⟩
abbrev S13568x2048 : Shape := ⟨2, ![13568, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4x2304x3392, .bf16⟩
  | .hbm, ⟨1, _⟩ => ⟨S4x2048x3392, .bf16⟩
  | .hbm, ⟨2, _⟩ => ⟨S_, .f32⟩
  | .hbm, ⟨3, _⟩ => ⟨S2304x2048, .f32⟩
  | .hbm, ⟨4, _⟩ => ⟨S2048x4x3392, .bf16⟩
  | .hbm, ⟨5, _⟩ => ⟨S2048x13568, .bf16⟩
  | .hbm, ⟨6, _⟩ => ⟨S2304x4x3392, .bf16⟩
  | .hbm, ⟨7, _⟩ => ⟨S2304x13568, .bf16⟩
  | .hbm, ⟨8, _⟩ => ⟨S2048x13568, .f32⟩
  | .hbm, ⟨9, _⟩ => ⟨S2304x13568, .f32⟩
  | .hbm, ⟨10, _⟩ => ⟨S2304x13568, .f32⟩
  | .hbm, ⟨11, _⟩ => ⟨S13568x2048, .f32⟩
  | .hbm, ⟨12, _⟩ => ⟨S2048x13568, .f32⟩
  | .hbm, ⟨13, _⟩ => ⟨S2304x2048, .f32⟩
  | _, _ => ⟨S4x2304x3392, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelBranch.lean ====
abbrev S2304x1024 : Shape := ⟨2, ![2304, 1024]⟩
abbrev S4x1024x512 : Shape := ⟨3, ![4, 1024, 512]⟩
abbrev S2304x2048 : Shape := ⟨2, ![2304, 2048]⟩
abbrev S768x512 : Shape := ⟨2, ![768, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S4x1024x512, .bf16⟩
  | .hbm, ⟨2, _⟩ => ⟨S2304x2048, .f32⟩
  | .local _ .vmem, ⟨0, _⟩ => ⟨S768x512, .bf16⟩
  | .local _ .vmem, ⟨1, _⟩ => ⟨S768x512, .bf16⟩
  | .local _ .vmem, ⟨2, _⟩ => ⟨S1x512x512, .bf16⟩
  | .local _ .vmem, ⟨3, _⟩ => ⟨S1x512x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBranchIdeal.lean ====
abbrev S2304x1024 : Shape := ⟨2, ![2304, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S2304x2048 : Shape := ⟨2, ![2304, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S4x1024x512, .bf16⟩
  | .hbm, ⟨2, _⟩ => ⟨S2304x1024, .f32⟩
  | .hbm, ⟨3, _⟩ => ⟨S1024x4x512, .bf16⟩
  | .hbm, ⟨4, _⟩ => ⟨S1024x2048, .bf16⟩
  | .hbm, ⟨5, _⟩ => ⟨S1024x2048, .f32⟩
  | .hbm, ⟨6, _⟩ => ⟨S2304x2048, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelBranchW.lean ====
abbrev S2304x1024 : Shape := ⟨2, ![2304, 1024]⟩
abbrev S2304x2048 : Shape := ⟨2, ![2304, 2048]⟩
abbrev S4x1024x512 : Shape := ⟨3, ![4, 1024, 512]⟩
abbrev S768x512 : Shape := ⟨2, ![768, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S4x1024x512, .f32⟩
  | .local _ .vmem, ⟨0, _⟩ => ⟨S768x512, .bf16⟩
  | .local _ .vmem, ⟨1, _⟩ => ⟨S768x512, .bf16⟩
  | .local _ .vmem, ⟨2, _⟩ => ⟨S768x512, .bf16⟩
  | .local _ .vmem, ⟨3, _⟩ => ⟨S768x512, .bf16⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBranchWIdeal.lean ====
abbrev S2304x1024 : Shape := ⟨2, ![2304, 1024]⟩
abbrev S2304x2048 : Shape := ⟨2, ![2304, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S_, .f32⟩
  | .hbm, ⟨3, _⟩ => ⟨S1024x2048, .f32⟩
  | .hbm, ⟨4, _⟩ => ⟨S2304x1024, .f32⟩
  | .hbm, ⟨5, _⟩ => ⟨S2304x2048, .f32⟩
  | .hbm, ⟨6, _⟩ => ⟨S2304x2048, .f32⟩
  | .hbm, ⟨7, _⟩ => ⟨S2048x1024, .f32⟩
  | .hbm, ⟨8, _⟩ => ⟨S1024x2048, .f32⟩
  | .hbm, ⟨9, _⟩ => ⟨S2304x1024, .f32⟩
  | .hbm, ⟨10, _⟩ => ⟨S1024x4x512, .f32⟩
  | .hbm, ⟨11, _⟩ => ⟨S4x1024x512, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelBranchX.lean ====
abbrev S2304x2048 : Shape := ⟨2, ![2304, 2048]⟩
abbrev S4x1024x512 : Shape := ⟨3, ![4, 1024, 512]⟩
abbrev S2304x1024 : Shape := ⟨2, ![2304, 1024]⟩
abbrev S768x512 : Shape := ⟨2, ![768, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S4x1024x512, .bf16⟩
  | .hbm, ⟨2, _⟩ => ⟨S2304x1024, .f32⟩
  | .local _ .vmem, ⟨0, _⟩ => ⟨S768x512, .bf16⟩
  | .local _ .vmem, ⟨1, _⟩ => ⟨S768x512, .bf16⟩
  | .local _ .vmem, ⟨2, _⟩ => ⟨S1x512x512, .bf16⟩
  | .local _ .vmem, ⟨3, _⟩ => ⟨S1x512x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBranchXIdeal.lean ====
abbrev S2304x2048 : Shape := ⟨2, ![2304, 2048]⟩
abbrev S4x1024x512 : Shape := ⟨3, ![4, 1024, 512]⟩
abbrev S_ : Shape := ⟨0, ![]⟩
abbrev S2304x1024 : Shape := ⟨2, ![2304, 1024]⟩
abbrev S1024x4x512 : Shape := ⟨3, ![1024, 4, 512]⟩
abbrev S1024x2048 : Shape := ⟨2, ![1024, 2048]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x1024x512, .bf16⟩
  | .hbm, ⟨2, _⟩ => ⟨S_, .f32⟩
  | .hbm, ⟨3, _⟩ => ⟨S2304x1024, .f32⟩
  | .hbm, ⟨4, _⟩ => ⟨S1024x4x512, .bf16⟩
  | .hbm, ⟨5, _⟩ => ⟨S1024x2048, .bf16⟩
  | .hbm, ⟨6, _⟩ => ⟨S1024x2048, .f32⟩
  | .hbm, ⟨7, _⟩ => ⟨S2304x2048, .f32⟩
  | .hbm, ⟨8, _⟩ => ⟨S2304x2048, .f32⟩
  | .hbm, ⟨9, _⟩ => ⟨S2048x1024, .f32⟩
  | .hbm, ⟨10, _⟩ => ⟨S1024x2048, .f32⟩
  | .hbm, ⟨11, _⟩ => ⟨S2304x1024, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelOut.lean ====
abbrev S2304x2048 : Shape := ⟨2, ![2304, 2048]⟩
abbrev S2048x2048 : Shape := ⟨2, ![2048, 2048]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .local _ .vmem, ⟨0, _⟩ => ⟨S768x1024, .bf16⟩
  | .local _ .vmem, ⟨1, _⟩ => ⟨S768x1024, .bf16⟩
  | .local _ .vmem, ⟨2, _⟩ => ⟨S1024x512, .bf16⟩
  | .local _ .vmem, ⟨3, _⟩ => ⟨S1024x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S2304x2048 : Shape := ⟨2, ![2304, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2048x2048, .f32⟩
  | .hbm, ⟨4, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelOutW.lean ====
abbrev S2304x2048 : Shape := ⟨2, ![2304, 2048]⟩
abbrev S2048x2048 : Shape := ⟨2, ![2048, 2048]⟩
abbrev S768x512 : Shape := ⟨2, ![768, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S2048x2048, .f32⟩
  | .local _ .vmem, ⟨0, _⟩ => ⟨S768x512, .bf16⟩
  | .local _ .vmem, ⟨1, _⟩ => ⟨S768x512, .bf16⟩
  | .local _ .vmem, ⟨2, _⟩ => ⟨S768x512, .bf16⟩
  | .local _ .vmem, ⟨3, _⟩ => ⟨S768x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutWIdeal.lean ====
abbrev S2304x2048 : Shape := ⟨2, ![2304, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S_, .f32⟩
  | .hbm, ⟨3, _⟩ => ⟨S2048x2048, .f32⟩
  | .hbm, ⟨4, _⟩ => ⟨S2304x2048, .f32⟩
  | .hbm, ⟨5, _⟩ => ⟨S2304x2048, .f32⟩
  | .hbm, ⟨6, _⟩ => ⟨S2304x2048, .f32⟩
  | .hbm, ⟨7, _⟩ => ⟨S2048x2048, .f32⟩
  | .hbm, ⟨8, _⟩ => ⟨S2048x2048, .f32⟩
  | .hbm, ⟨9, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelOutX.lean ====
abbrev S2304x2048 : Shape := ⟨2, ![2304, 2048]⟩
abbrev S2048x2048 : Shape := ⟨2, ![2048, 2048]⟩
abbrev S768x1024 : Shape := ⟨2, ![768, 1024]⟩
abbrev S512x1024 : Shape := ⟨2, ![512, 1024]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .local _ .vmem, ⟨0, _⟩ => ⟨S768x1024, .bf16⟩
  | .local _ .vmem, ⟨1, _⟩ => ⟨S768x1024, .bf16⟩
  | .local _ .vmem, ⟨2, _⟩ => ⟨S512x1024, .bf16⟩
  | .local _ .vmem, ⟨3, _⟩ => ⟨S512x1024, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutXIdeal.lean ====
abbrev S2304x2048 : Shape := ⟨2, ![2304, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S_, .f32⟩
  | .hbm, ⟨3, _⟩ => ⟨S2304x2048, .f32⟩
  | .hbm, ⟨4, _⟩ => ⟨S2048x2048, .f32⟩
  | .hbm, ⟨5, _⟩ => ⟨S2304x2048, .f32⟩
  | .hbm, ⟨6, _⟩ => ⟨S2304x2048, .f32⟩
  | .hbm, ⟨7, _⟩ => ⟨S2048x2048, .f32⟩
  | .hbm, ⟨8, _⟩ => ⟨S2048x2048, .f32⟩
  | .hbm, ⟨9, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelH.lean ====
abbrev S2048x2048 : Shape := ⟨2, ![2048, 2048]⟩
abbrev S256x2048 : Shape := ⟨2, ![256, 2048]⟩
abbrev S8x6144 : Shape := ⟨2, ![8, 6144]⟩
abbrev S1x2048 : Shape := ⟨2, ![1, 2048]⟩
abbrev S2304x2048 : Shape := ⟨2, ![2304, 2048]⟩
abbrev S8x3x2048 : Shape := ⟨3, ![8, 3, 2048]⟩
abbrev S1x3x2048 : Shape := ⟨3, ![1, 3, 2048]⟩
abbrev S3x2048 : Shape := ⟨2, ![3, 2048]⟩
abbrev S256 : Shape := ⟨1, ![256]⟩
abbrev S256x1 : Shape := ⟨2, ![256, 1]⟩
abbrev S2048 : Shape := ⟨1, ![2048]⟩
abbrev S1x6144 : Shape := ⟨2, ![1, 6144]⟩
abbrev S6x6144 : Shape := ⟨2, ![6, 6144]⟩

abbrev nBuf : Space → Nat
  | .hbm => 10
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S8x6144, .f32⟩
  | .hbm, ⟨3, _⟩ => ⟨S1x2048, .f32⟩
  | .hbm, ⟨4, _⟩ => ⟨S2304x2048, .f32⟩
  | .hbm, ⟨5, _⟩ => ⟨S2304x2048, .f32⟩
  | .hbm, ⟨6, _⟩ => ⟨S8x3x2048, .f32⟩
  | .hbm, ⟨7, _⟩ => ⟨S2048x2048, .f32⟩
  | .hbm, ⟨8, _⟩ => ⟨S1x2048, .f32⟩
  | .hbm, ⟨9, _⟩ => ⟨S8x6144, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S8x3x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S8x6144, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceHIdeal.lean ====
abbrev S2048x2048 : Shape := ⟨2, ![2048, 2048]⟩
abbrev S256x2048 : Shape := ⟨2, ![256, 2048]⟩
abbrev S8x6144 : Shape := ⟨2, ![8, 6144]⟩
abbrev S1x2048 : Shape := ⟨2, ![1, 2048]⟩
abbrev S2304x2048 : Shape := ⟨2, ![2304, 2048]⟩
abbrev S1x6144 : Shape := ⟨2, ![1, 6144]⟩
abbrev S_ : Shape := ⟨0, ![]⟩
abbrev S256 : Shape := ⟨1, ![256]⟩
abbrev S256x1 : Shape := ⟨2, ![256, 1]⟩
abbrev S2048 : Shape := ⟨1, ![2048]⟩
abbrev S2048x1 : Shape := ⟨2, ![2048, 1]⟩

abbrev nBuf : Space → Nat
  | .hbm => 123
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S8x6144, .f32⟩
  | .hbm, ⟨3, _⟩ => ⟨S1x2048, .f32⟩
  | .hbm, ⟨4, _⟩ => ⟨S2304x2048, .f32⟩
  | .hbm, ⟨5, _⟩ => ⟨S2304x2048, .f32⟩
  | .hbm, ⟨6, _⟩ => ⟨S1x6144, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S256x2048, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S1x6144, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S1x2048, .f32⟩
  | .hbm, ⟨57, _⟩ => ⟨S1x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S256x2048, .f32⟩
  | .hbm, ⟨63, _⟩ => ⟨S2048x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S2048, .f32⟩
  | .hbm, ⟨82, _⟩ => ⟨S2048x1, .f32⟩
  | .hbm, ⟨83, _⟩ => ⟨S2048x2048, .f32⟩
  | .hbm, ⟨84, _⟩ => ⟨S2048x2048, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S_, .f32⟩
  | .hbm, ⟨90, _⟩ => ⟨S2048, .f32⟩
  | .hbm, ⟨91, _⟩ => ⟨S2048x2048, .f32⟩
  | .hbm, ⟨92, _⟩ => ⟨S2048x2048, .f32⟩
  | .hbm, ⟨93, _⟩ => ⟨S2048x2048, .f32⟩
  | .hbm, ⟨94, _⟩ => ⟨S2048x2048, .f32⟩
  | .hbm, ⟨95, _⟩ => ⟨S2048x2048, .f32⟩
  | .hbm, ⟨96, _⟩ => ⟨S_, .f32⟩
  | .hbm, ⟨97, _⟩ => ⟨S1x2048, .f32⟩
  | .hbm, ⟨98, _⟩ => ⟨S1x6144, .f32⟩
  | .hbm, ⟨99, _⟩ => ⟨S_, .f32⟩
  | .hbm, ⟨100, _⟩ => ⟨S8x6144, .f32⟩
  | .hbm, ⟨101, _⟩ => ⟨S_, .f32⟩
  | .hbm, ⟨102, _⟩ => ⟨S2048, .f32⟩
  | .hbm, ⟨103, _⟩ => ⟨S1x2048, .f32⟩
  | .hbm, ⟨104, _⟩ => ⟨S256x2048, .f32⟩
  | .hbm, ⟨105, _⟩ => ⟨S_, .f32⟩
  | .hbm, ⟨106, _⟩ => ⟨S2048, .f32⟩
  | .hbm, ⟨107, _⟩ => ⟨S1x2048, .f32⟩
  | .hbm, ⟨108, _⟩ => ⟨S256x2048, .f32⟩
  | .hbm, ⟨109, _⟩ => ⟨S256x2048, .f32⟩
  | .hbm, ⟨110, _⟩ => ⟨S256x2048, .f32⟩
  | .hbm, ⟨111, _⟩ => ⟨S_, .f32⟩
  | .hbm, ⟨112, _⟩ => ⟨S2048, .f32⟩
  | .hbm, ⟨113, _⟩ => ⟨S1x2048, .f32⟩
  | .hbm, ⟨114, _⟩ => ⟨S1x2048, .f32⟩
  | .hbm, ⟨115, _⟩ => ⟨S_, .f32⟩
  | .hbm, ⟨116, _⟩ => ⟨S1x2048, .f32⟩
  | .hbm, ⟨117, _⟩ => ⟨S1x6144, .f32⟩
  | .hbm, ⟨118, _⟩ => ⟨S_, .f32⟩
  | .hbm, ⟨119, _⟩ => ⟨S8x6144, .f32⟩
  | .hbm, ⟨120, _⟩ => ⟨S8x6144, .f32⟩
  | .hbm, ⟨121, _⟩ => ⟨S2048x2048, .f32⟩
  | .hbm, ⟨122, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_12 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_14 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_cst_16 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_17 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_18 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_19 : Ref sig .tc := ⟨.hbm, 115, rfl⟩
abbrev main_v89 : Ref sig .tc := ⟨.hbm, 116, rfl⟩
abbrev main_v90 : Ref sig .tc := ⟨.hbm, 117, rfl⟩
abbrev main_cst_20 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩

abbrev nD : Nat := 1
abbrev τ : Topo := Topo.v7x

variable {F : FTy → Type} [FloatOps F]
-- ==== KernelMerge.lean ====
abbrev S2304x2048 : Shape := ⟨2, ![2304, 2048]⟩
abbrev S2304x4096 : Shape := ⟨2, ![2304, 4096]⟩
abbrev S256x2048 : Shape := ⟨2, ![256, 2048]⟩
abbrev S256x4096 : Shape := ⟨2, ![256, 4096]⟩

abbrev nBuf : Space → Nat
  | .hbm => 7
  | .vmem => 16
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x4096, .f32⟩
  | .hbm, ⟨3, _⟩ => ⟨S2304x2048, .f32⟩
  | .hbm, ⟨4, _⟩ => ⟨S2304x2048, .bf16⟩
  | .hbm, ⟨5, _⟩ => ⟨S2304x2048, .bf16⟩
  | .hbm, ⟨6, _⟩ => ⟨S2304x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x4096, .bf16⟩
  | .local _ .vmem, ⟨15, _⟩ => ⟨S256x4096, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c1_i32 : BitVec 32 := 1#32
  let c0_i32_1 : BitVec 32 := 0#32
  ![v2.toNat, c1_i32.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMergeIdeal.lean ====
abbrev S2304x2048 : Shape := ⟨2, ![2304, 2048]⟩
abbrev S2304x4096 : Shape := ⟨2, ![2304, 4096]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x4096, .f32⟩
  | .hbm, ⟨3, _⟩ => ⟨S2304x2048, .f32⟩
  | .hbm, ⟨4, _⟩ => ⟨S2304x2048, .f32⟩
  | .hbm, ⟨5, _⟩ => ⟨S2304x2048, .f32⟩
  | .hbm, ⟨6, _⟩ => ⟨S2304x2048, .f32⟩
  | .hbm, ⟨7, _⟩ => ⟨S2304x2048, .f32⟩
  | .hbm, ⟨8, _⟩ => ⟨S_, .f32⟩
  | .hbm, ⟨9, _⟩ => ⟨S2304x2048, .f32⟩
  | .hbm, ⟨10, _⟩ => ⟨S2304x2048, .f32⟩
  | .hbm, ⟨11, _⟩ => ⟨S_, .f32⟩
  | .hbm, ⟨12, _⟩ => ⟨S2304x2048, .f32⟩
  | .hbm, ⟨13, _⟩ => ⟨S2304x2048, .f32⟩
  | .hbm, ⟨14, _⟩ => ⟨S_, .f32⟩
  | .hbm, ⟨15, _⟩ => ⟨S2304x2048, .f32⟩
  | .hbm, ⟨16, _⟩ => ⟨S2304x2048, .f32⟩
  | .hbm, ⟨17, _⟩ => ⟨S2304x2048, .f32⟩
  | .hbm, ⟨18, _⟩ => ⟨S2304x2048, .f32⟩
  | .hbm, ⟨19, _⟩ => ⟨S2304x2048, .f32⟩
  | .hbm, ⟨20, _⟩ => ⟨S2304x2048, .f32⟩
  | .hbm, ⟨21, _⟩ => ⟨S_, .f32⟩
  | .hbm, ⟨22, _⟩ => ⟨S2304x2048, .f32⟩
  | .hbm, ⟨23, _⟩ => ⟨S2304x2048, .f32⟩
  | .hbm, ⟨24, _⟩ => ⟨S_, .f32⟩
  | .hbm, ⟨25, _⟩ => ⟨S2304x2048, .f32⟩
  | .hbm, ⟨26, _⟩ => ⟨S2304x2048, .f32⟩
  | .hbm, ⟨27, _⟩ => ⟨S_, .f32⟩
  | .hbm, ⟨28, _⟩ => ⟨S2304x2048, .f32⟩
  | .hbm, ⟨29, _⟩ => ⟨S2304x2048, .f32⟩
  | .hbm, ⟨30, _⟩ => ⟨S2304x2048, .f32⟩
  | .hbm, ⟨31, _⟩ => ⟨S2304x2048, .f32⟩
  | .hbm, ⟨32, _⟩ => ⟨S2304x2048, .f32⟩
  | .hbm, ⟨33, _⟩ => ⟨S2304x2048, .f32⟩
  | .hbm, ⟨34, _⟩ => ⟨S2304x2048, .f32⟩
  | .hbm, ⟨35, _⟩ => ⟨S2304x2048, .f32⟩
  | .hbm, ⟨36, _⟩ => ⟨S2304x2048, .f32⟩
  | .hbm, ⟨37, _⟩ => ⟨S2304x2048, .f32⟩
  | .hbm, ⟨38, _⟩ => ⟨S2304x2048, .f32⟩
  | .hbm, ⟨39, _⟩ => ⟨S2304x2048, .f32⟩
  | .hbm, ⟨40, _⟩ => ⟨S2304x2048, .f32⟩
  | .hbm, ⟨41, _⟩ => ⟨S2304x4096, .f32⟩
  | .hbm, ⟨42, _⟩ => ⟨S2304x2048, .bf16⟩
  | .hbm, ⟨43, _⟩ => ⟨S2304x2048, .bf16⟩
  | .hbm, ⟨44, _⟩ => ⟨S2304x4096, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== KernelPost.lean ====
abbrev S2304x1024 : Shape := ⟨2, ![2304, 1024]⟩
abbrev S2304x13568 : Shape := ⟨2, ![2304, 13568]⟩
abbrev S1x1024 : Shape := ⟨2, ![1, 1024]⟩
abbrev S256x1024 : Shape := ⟨2, ![256, 1024]⟩
abbrev S256x8x128 : Shape := ⟨3, ![256, 8, 128]⟩
abbrev S256x8 : Shape := ⟨2, ![256, 8]⟩
abbrev S256x8x1 : Shape := ⟨3, ![256, 8, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x13568, .f32⟩
  | .hbm, ⟨3, _⟩ => ⟨S1x1024, .f32⟩
  | .hbm, ⟨4, _⟩ => ⟨S2304x1024, .f32⟩
  | .hbm, ⟨5, _⟩ => ⟨S2304x1024, .f32⟩
  | .hbm, ⟨6, _⟩ => ⟨S2304x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c4_i32 : BitVec 32 := 4#32
  let c0_i32_1 : BitVec 32 := 0#32
  ![v2.toNat, c4_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferencePostIdeal.lean ====
abbrev S2304x1024 : Shape := ⟨2, ![2304, 1024]⟩
abbrev S2304x13568 : Shape := ⟨2, ![2304, 13568]⟩
abbrev S1x1024 : Shape := ⟨2, ![1, 1024]⟩
abbrev S2304x8x128 : Shape := ⟨3, ![2304, 8, 128]⟩
abbrev S_ : Shape := ⟨0, ![]⟩
abbrev S2304x8 : Shape := ⟨2, ![2304, 8]⟩
abbrev S2304x8x1 : Shape := ⟨3, ![2304, 8, 1]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x13568, .f32⟩
  | .hbm, ⟨3, _⟩ => ⟨S1x1024, .f32⟩
  | .hbm, ⟨4, _⟩ => ⟨S2304x1024, .f32⟩
  | .hbm, ⟨5, _⟩ => ⟨S2304x1024, .f32⟩
  | .hbm, ⟨6, _⟩ => ⟨S2304x8x128, .f32⟩
  | .hbm, ⟨7, _⟩ => ⟨S2304x8x128, .f32⟩
  | .hbm, ⟨8, _⟩ => ⟨S2304x8x128, .f32⟩
  | .hbm, ⟨9, _⟩ => ⟨S2304x8x128, .f32⟩
  | .hbm, ⟨10, _⟩ => ⟨S_, .f32⟩
  | .hbm, ⟨11, _⟩ => ⟨S2304x8, .f32⟩
  | .hbm, ⟨12, _⟩ => ⟨S2304x8x1, .f32⟩
  | .hbm, ⟨13, _⟩ => ⟨S_, .f32⟩
  | .hbm, ⟨14, _⟩ => ⟨S2304x8x1, .f32⟩
  | .hbm, ⟨15, _⟩ => ⟨S2304x8x1, .f32⟩
  | .hbm, ⟨16, _⟩ => ⟨S_, .f32⟩
  | .hbm, ⟨17, _⟩ => ⟨S2304x8x1, .f32⟩
  | .hbm, ⟨18, _⟩ => ⟨S2304x8x1, .f32⟩
  | .hbm, ⟨19, _⟩ => ⟨S2304x8x1, .f32⟩
  | .hbm, ⟨20, _⟩ => ⟨S2304x8x1, .f32⟩
  | .hbm, ⟨21, _⟩ => ⟨S_, .f32⟩
  | .hbm, ⟨22, _⟩ => ⟨S2304x8x1, .f32⟩
  | .hbm, ⟨23, _⟩ => ⟨S2304x8x1, .f32⟩
  | .hbm, ⟨24, _⟩ => ⟨S2304x8x128, .f32⟩
  | .hbm, ⟨25, _⟩ => ⟨S2304x8x128, .f32⟩
  | .hbm, ⟨26, _⟩ => ⟨S2304x1024, .f32⟩
  | .hbm, ⟨27, _⟩ => ⟨S2304x1024, .f32⟩
  | .hbm, ⟨28, _⟩ => ⟨S2304x1024, .f32⟩
  | .hbm, ⟨29, _⟩ => ⟨S2304x1024, .f32⟩
  | .hbm, ⟨30, _⟩ => ⟨S2304x1024, .f32⟩
  | .hbm, ⟨31, _⟩ => ⟨S_, .f32⟩
  | .hbm, ⟨32, _⟩ => ⟨S2304x1024, .f32⟩
  | .hbm, ⟨33, _⟩ => ⟨S2304x1024, .f32⟩
  | .hbm, ⟨34, _⟩ => ⟨S_, .f32⟩
  | .hbm, ⟨35, _⟩ => ⟨S2304x1024, .f32⟩
  | .hbm, ⟨36, _⟩ => ⟨S2304x1024, .f32⟩
  | .hbm, ⟨37, _⟩ => ⟨S_, .f32⟩
  | .hbm, ⟨38, _⟩ => ⟨S2304x1024, .f32⟩
  | .hbm, ⟨39, _⟩ => ⟨S2304x1024, .f32⟩
  | .hbm, ⟨40, _⟩ => ⟨S2304x1024, .f32⟩
  | .hbm, ⟨41, _⟩ => ⟨S2304x1024, .f32⟩
  | .hbm, ⟨42, _⟩ => ⟨S2304x1024, .f32⟩
  | .hbm, ⟨43, _⟩ => ⟨S2304x1024, .f32⟩
  | .hbm, ⟨44, _⟩ => ⟨S2304x1024, .f32⟩
  | .hbm, ⟨45, _⟩ => ⟨S2304x1024, .f32⟩
  | .hbm, ⟨46, _⟩ => ⟨S2304x1024, .f32⟩
  | .hbm, ⟨47, _⟩ => ⟨S2304x1024, .f32⟩
  | .hbm, ⟨48, _⟩ => ⟨S2304x1024, .f32⟩
  | .hbm, ⟨49, _⟩ => ⟨S2304x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2304x1024, .f32⟩
  | .hbm, ⟨54, _⟩ => ⟨S2304x1024, .f32⟩
  | .hbm, ⟨55, _⟩ => ⟨S2304x8x128, .f32⟩
  | .hbm, ⟨56, _⟩ => ⟨S2304x8x128, .f32⟩
  | .hbm, ⟨57, _⟩ => ⟨S_, .f32⟩
  | .hbm, ⟨58, _⟩ => ⟨S2304x8, .f32⟩
  | .hbm, ⟨59, _⟩ => ⟨S2304x8x1, .f32⟩
  | .hbm, ⟨60, _⟩ => ⟨S2304x8x128, .f32⟩
  | .hbm, ⟨61, _⟩ => ⟨S2304x8x128, .f32⟩
  | .hbm, ⟨62, _⟩ => ⟨S2304x8x1, .f32⟩
  | .hbm, ⟨63, _⟩ => ⟨S_, .f32⟩
  | .hbm, ⟨64, _⟩ => ⟨S2304x8x1, .f32⟩
  | .hbm, ⟨65, _⟩ => ⟨S2304x8x1, .f32⟩
  | .hbm, ⟨66, _⟩ => ⟨S_, .f32⟩
  | .hbm, ⟨67, _⟩ => ⟨S2304x8, .f32⟩
  | .hbm, ⟨68, _⟩ => ⟨S2304x8x128, .f32⟩
  | .hbm, ⟨69, _⟩ => ⟨S2304x8x128, .f32⟩
  | .hbm, ⟨70, _⟩ => ⟨S2304x8x128, .f32⟩
  | .hbm, ⟨71, _⟩ => ⟨S2304x8x128, .f32⟩
  | .hbm, ⟨72, _⟩ => ⟨S2304x8x128, .f32⟩
  | .hbm, ⟨73, _⟩ => ⟨S2304x1024, .f32⟩
  | .hbm, ⟨74, _⟩ => ⟨S2304x1024, .bf16⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== KernelAdaW.lean ====
abbrev S16x2048 : Shape := ⟨2, ![16, 2048]⟩
abbrev S16x1536 : Shape := ⟨2, ![16, 1536]⟩
abbrev S2048x1536 : Shape := ⟨2, ![2048, 1536]⟩
abbrev S16x512 : Shape := ⟨2, ![16, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S16x1536, .f32⟩
  | .hbm, ⟨2, _⟩ => ⟨S2048x1536, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAdaWIdeal.lean ====
abbrev S16x2048 : Shape := ⟨2, ![16, 2048]⟩
abbrev S16x1536 : Shape := ⟨2, ![16, 1536]⟩
abbrev S_ : Shape := ⟨0, ![]⟩
abbrev S2048x1536 : Shape := ⟨2, ![2048, 1536]⟩
abbrev S1536x2048 : Shape := ⟨2, ![1536, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x1536, .f32⟩
  | .hbm, ⟨2, _⟩ => ⟨S_, .f32⟩
  | .hbm, ⟨3, _⟩ => ⟨S2048x1536, .f32⟩
  | .hbm, ⟨4, _⟩ => ⟨S16x1536, .f32⟩
  | .hbm, ⟨5, _⟩ => ⟨S1536x2048, .f32⟩
  | .hbm, ⟨6, _⟩ => ⟨S2048x1536, .f32⟩
  | .hbm, ⟨7, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelAdam.lean ====
abbrev S2048x1536 : Shape := ⟨2, ![2048, 1536]⟩
abbrev S1x2048x1536 : Shape := ⟨3, ![1, 2048, 1536]⟩
abbrev S128x1536 : Shape := ⟨2, ![128, 1536]⟩
abbrev S1x128x1536 : Shape := ⟨3, ![1, 128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S1x2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S1x128x1536, .f32⟩
  | .local _ .vmem, ⟨7, _⟩ => ⟨S1x128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamIdeal.lean ====
abbrev S2048x1536 : Shape := ⟨2, ![2048, 1536]⟩
abbrev S1x2048x1536 : Shape := ⟨3, ![1, 2048, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S1x2048x1536, .f32⟩
  | .hbm, ⟨4, _⟩ => ⟨S_, .f32⟩
  | .hbm, ⟨5, _⟩ => ⟨S2048x1536, .f32⟩
  | .hbm, ⟨6, _⟩ => ⟨S_, .f32⟩
  | .hbm, ⟨7, _⟩ => ⟨S2048x1536, .f32⟩
  | .hbm, ⟨8, _⟩ => ⟨S2048x1536, .f32⟩
  | .hbm, ⟨9, _⟩ => ⟨S_, .f32⟩
  | .hbm, ⟨10, _⟩ => ⟨S2048x1536, .f32⟩
  | .hbm, ⟨11, _⟩ => ⟨S2048x1536, .f32⟩
  | .hbm, ⟨12, _⟩ => ⟨S2048x1536, .f32⟩
  | .hbm, ⟨13, _⟩ => ⟨S_, .f32⟩
  | .hbm, ⟨14, _⟩ => ⟨S2048x1536, .f32⟩
  | .hbm, ⟨15, _⟩ => ⟨S2048x1536, .f32⟩
  | .hbm, ⟨16, _⟩ => ⟨S2048x1536, .f32⟩
  | .hbm, ⟨17, _⟩ => ⟨S_, .f32⟩
  | .hbm, ⟨18, _⟩ => ⟨S2048x1536, .f32⟩
  | .hbm, ⟨19, _⟩ => ⟨S2048x1536, .f32⟩
  | .hbm, ⟨20, _⟩ => ⟨S2048x1536, .f32⟩
  | .hbm, ⟨21, _⟩ => ⟨S_, .f32⟩
  | .hbm, ⟨22, _⟩ => ⟨S2048x1536, .f32⟩
  | .hbm, ⟨23, _⟩ => ⟨S2048x1536, .f32⟩
  | .hbm, ⟨24, _⟩ => ⟨S_, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S_, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S_, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S_, .f32⟩
  | .hbm, ⟨37, _⟩ => ⟨S2048x1536, .f32⟩
  | .hbm, ⟨38, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamRep.lean ====
abbrev S144x128 : Shape := ⟨2, ![144, 128]⟩
abbrev S8x144x128 : Shape := ⟨3, ![8, 144, 128]⟩
abbrev S1x144x128 : Shape := ⟨3, ![1, 144, 128]⟩

abbrev nBuf : Space → Nat
  | .hbm => 8
  | .vmem => 8
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S8x144x128, .f32⟩
  | .hbm, ⟨4, _⟩ => ⟨S144x128, .f32⟩
  | .hbm, ⟨5, _⟩ => ⟨S144x128, .f32⟩
  | .hbm, ⟨6, _⟩ => ⟨S144x128, .f32⟩
  | .hbm, ⟨7, _⟩ => ⟨S144x128, .f32⟩
  | .local _ .vmem, ⟨0, _⟩ => ⟨S144x128, .f32⟩
  | .local _ .vmem, ⟨1, _⟩ => ⟨S144x128, .f32⟩
  | .local _ .vmem, ⟨2, _⟩ => ⟨S144x128, .f32⟩
  | .local _ .vmem, ⟨3, _⟩ => ⟨S8x144x128, .f32⟩
  | .local _ .vmem, ⟨4, _⟩ => ⟨S144x128, .f32⟩
  | .local _ .vmem, ⟨5, _⟩ => ⟨S144x128, .f32⟩
  | .local _ .vmem, ⟨6, _⟩ => ⟨S144x128, .f32⟩
  | .local _ .vmem, ⟨7, _⟩ => ⟨S144x128, .f32⟩
  | _, _ => ⟨S144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamRepIdeal.lean ====
abbrev S144x128 : Shape := ⟨2, ![144, 128]⟩
abbrev S8x144x128 : Shape := ⟨3, ![8, 144, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S8x144x128, .f32⟩
  | .hbm, ⟨4, _⟩ => ⟨S_, .f32⟩
  | .hbm, ⟨5, _⟩ => ⟨S144x128, .f32⟩
  | .hbm, ⟨6, _⟩ => ⟨S_, .f32⟩
  | .hbm, ⟨7, _⟩ => ⟨S144x128, .f32⟩
  | .hbm, ⟨8, _⟩ => ⟨S144x128, .f32⟩
  | .hbm, ⟨9, _⟩ => ⟨S_, .f32⟩
  | .hbm, ⟨10, _⟩ => ⟨S144x128, .f32⟩
  | .hbm, ⟨11, _⟩ => ⟨S144x128, .f32⟩
  | .hbm, ⟨12, _⟩ => ⟨S144x128, .f32⟩
  | .hbm, ⟨13, _⟩ => ⟨S_, .f32⟩
  | .hbm, ⟨14, _⟩ => ⟨S144x128, .f32⟩
  | .hbm, ⟨15, _⟩ => ⟨S144x128, .f32⟩
  | .hbm, ⟨16, _⟩ => ⟨S144x128, .f32⟩
  | .hbm, ⟨17, _⟩ => ⟨S_, .f32⟩
  | .hbm, ⟨18, _⟩ => ⟨S144x128, .f32⟩
  | .hbm, ⟨19, _⟩ => ⟨S144x128, .f32⟩
  | .hbm, ⟨20, _⟩ => ⟨S144x128, .f32⟩
  | .hbm, ⟨21, _⟩ => ⟨S_, .f32⟩
  | .hbm, ⟨22, _⟩ => ⟨S144x128, .f32⟩
  | .hbm, ⟨23, _⟩ => ⟨S144x128, .f32⟩
  | .hbm, ⟨24, _⟩ => ⟨S_, .f32⟩
  | .hbm, ⟨25, _⟩ => ⟨S144x128, .f32⟩
  | .hbm, ⟨26, _⟩ => ⟨S144x128, .f32⟩
  | .hbm, ⟨27, _⟩ => ⟨S144x128, .f32⟩
  | .hbm, ⟨28, _⟩ => ⟨S_, .f32⟩
  | .hbm, ⟨29, _⟩ => ⟨S144x128, .f32⟩
  | .hbm, ⟨30, _⟩ => ⟨S144x128, .f32⟩
  | .hbm, ⟨31, _⟩ => ⟨S144x128, .f32⟩
  | .hbm, ⟨32, _⟩ => ⟨S_, .f32⟩
  | .hbm, ⟨33, _⟩ => ⟨S144x128, .f32⟩
  | .hbm, ⟨34, _⟩ => ⟨S144x128, .f32⟩
  | .hbm, ⟨35, _⟩ => ⟨S144x128, .f32⟩
  | .hbm, ⟨36, _⟩ => ⟨S_, .f32⟩
  | .hbm, ⟨37, _⟩ => ⟨S144x128, .f32⟩
  | .hbm, ⟨38, _⟩ => ⟨S144x128, .f32⟩
  | _, _ => ⟨S144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelHalvesIn.lean ====
abbrev S2048x3392 : Shape := ⟨2, ![2048, 3392]⟩
abbrev S1024x3392 : Shape := ⟨2, ![1024, 3392]⟩
abbrev S1 : Shape := ⟨1, ![1]⟩
abbrev S64x3392 : Shape := ⟨2, ![64, 3392]⟩

abbrev nBuf : Space → Nat
  | .hbm => 9
  | .vmem => 18
  | .smem => 1
  | _ => 0

abbrev bufTy : (tb : Table) → Fin (tcTables nBuf tb) → BufTy
  | .hbm, ⟨0, _⟩ => ⟨S2048x3392, .f32⟩
  | .hbm, ⟨1, _⟩ => ⟨S2048x3392, .f32⟩
  | .hbm, ⟨2, _⟩ => ⟨S2048x3392, .f32⟩
  | .hbm, ⟨3, _⟩ => ⟨S1024x3392, .f32⟩
  | .hbm, ⟨4, _⟩ => ⟨S1024x3392, .f32⟩
  | .hbm, ⟨5, _⟩ => ⟨S2048x3392, .f32⟩
  | .hbm, ⟨6, _⟩ => ⟨S2048x3392, .f32⟩
  | .hbm, ⟨7, _⟩ => ⟨S2048x3392, .f32⟩
  | .hbm, ⟨8, _⟩ => ⟨S2048x3392, .f32⟩
  | .local _ .vmem, ⟨0, _⟩ => ⟨S64x3392, .f32⟩
  | .local _ .vmem, ⟨1, _⟩ => ⟨S64x3392, .f32⟩
  | .local _ .vmem, ⟨2, _⟩ => ⟨S64x3392, .f32⟩
  | .local _ .vmem, ⟨3, _⟩ => ⟨S64x3392, .f32⟩
  | .local _ .vmem, ⟨4, _⟩ => ⟨S64x3392, .f32⟩
  | .local _ .vmem, ⟨5, _⟩ => ⟨S64x3392, .f32⟩
  | .local _ .vmem, ⟨6, _⟩ => ⟨S64x3392, .f32⟩
  | .local _ .vmem, ⟨7, _⟩ => ⟨S64x3392, .f32⟩
  | .local _ .vmem, ⟨8, _⟩ => ⟨S64x3392, .f32⟩
  | .local _ .vmem, ⟨9, _⟩ => ⟨S64x3392, .f32⟩
  | .local _ .vmem, ⟨10, _⟩ => ⟨S64x3392, .f32⟩
  | .local _ .vmem, ⟨11, _⟩ => ⟨S64x3392, .f32⟩
  | .local _ .vmem, ⟨12, _⟩ => ⟨S64x3392, .f32⟩
  | .local _ .vmem, ⟨13, _⟩ => ⟨S64x3392, .f32⟩
  | .local _ .vmem, ⟨14, _⟩ => ⟨S64x3392, .f32⟩
  | .local _ .vmem, ⟨15, _⟩ => ⟨S64x3392, .f32⟩
  | .local _ .vmem, ⟨16, _⟩ => ⟨S64x3392, .f32⟩
  | .local _ .vmem, ⟨17, _⟩ => ⟨S64x3392, .f32⟩
  | .local _ .smem, ⟨0, _⟩ => ⟨S1, .i32⟩
  | _, _ => ⟨S2048x3392, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x3392 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x3392 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x3392 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x3392 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x3392 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x3392 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x3392 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x3392 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x3392 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelHalvesInIdeal.lean ====
abbrev S2048x3392 : Shape := ⟨2, ![2048, 3392]⟩
abbrev S1024x3392 : Shape := ⟨2, ![1024, 3392]⟩
abbrev S1 : Shape := ⟨1, ![1]⟩
abbrev S64x3392 : Shape := ⟨2, ![64, 3392]⟩

abbrev nBuf : Space → Nat
  | .hbm => 9
  | .vmem => 18
  | .smem => 1
  | _ => 0

abbrev bufTy : (tb : Table) → Fin (tcTables nBuf tb) → BufTy
  | .hbm, ⟨0, _⟩ => ⟨S2048x3392, .f32⟩
  | .hbm, ⟨1, _⟩ => ⟨S2048x3392, .f32⟩
  | .hbm, ⟨2, _⟩ => ⟨S2048x3392, .f32⟩
  | .hbm, ⟨3, _⟩ => ⟨S1024x3392, .f32⟩
  | .hbm, ⟨4, _⟩ => ⟨S1024x3392, .f32⟩
  | .hbm, ⟨5, _⟩ => ⟨S2048x3392, .f32⟩
  | .hbm, ⟨6, _⟩ => ⟨S2048x3392, .f32⟩
  | .hbm, ⟨7, _⟩ => ⟨S2048x3392, .f32⟩
  | .hbm, ⟨8, _⟩ => ⟨S2048x3392, .f32⟩
  | .local _ .vmem, ⟨0, _⟩ => ⟨S64x3392, .f32⟩
  | .local _ .vmem, ⟨1, _⟩ => ⟨S64x3392, .f32⟩
  | .local _ .vmem, ⟨2, _⟩ => ⟨S64x3392, .f32⟩
  | .local _ .vmem, ⟨3, _⟩ => ⟨S64x3392, .f32⟩
  | .local _ .vmem, ⟨4, _⟩ => ⟨S64x3392, .f32⟩
  | .local _ .vmem, ⟨5, _⟩ => ⟨S64x3392, .f32⟩
  | .local _ .vmem, ⟨6, _⟩ => ⟨S64x3392, .f32⟩
  | .local _ .vmem, ⟨7, _⟩ => ⟨S64x3392, .f32⟩
  | .local _ .vmem, ⟨8, _⟩ => ⟨S64x3392, .f32⟩
  | .local _ .vmem, ⟨9, _⟩ => ⟨S64x3392, .f32⟩
  | .local _ .vmem, ⟨10, _⟩ => ⟨S64x3392, .f32⟩
  | .local _ .vmem, ⟨11, _⟩ => ⟨S64x3392, .f32⟩
  | .local _ .vmem, ⟨12, _⟩ => ⟨S64x3392, .f32⟩
  | .local _ .vmem, ⟨13, _⟩ => ⟨S64x3392, .f32⟩
  | .local _ .vmem, ⟨14, _⟩ => ⟨S64x3392, .f32⟩
  | .local _ .vmem, ⟨15, _⟩ => ⟨S64x3392, .f32⟩
  | .local _ .vmem, ⟨16, _⟩ => ⟨S64x3392, .f32⟩
  | .local _ .vmem, ⟨17, _⟩ => ⟨S64x3392, .f32⟩
  | .local _ .smem, ⟨0, _⟩ => ⟨S1, .i32⟩
  | _, _ => ⟨S2048x3392, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x3392 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x3392 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x3392 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x3392 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x3392 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x3392 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x3392 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x3392 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x3392 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceHalvesInIdeal.lean ====
abbrev S2048x3392 : Shape := ⟨2, ![2048, 3392]⟩
abbrev S1024x3392 : Shape := ⟨2, ![1024, 3392]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x1024x3392 : Shape := ⟨3, ![2, 1024, 3392]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S2048x3392, .f32⟩
  | .hbm, ⟨1, _⟩ => ⟨S2048x3392, .f32⟩
  | .hbm, ⟨2, _⟩ => ⟨S2048x3392, .f32⟩
  | .hbm, ⟨3, _⟩ => ⟨S1024x3392, .f32⟩
  | .hbm, ⟨4, _⟩ => ⟨S1024x3392, .f32⟩
  | .hbm, ⟨5, _⟩ => ⟨S1, .i32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x1024x3392, .i1⟩
  | .hbm, ⟨12, _⟩ => ⟨S2x1024x3392, .f32⟩
  | .hbm, ⟨13, _⟩ => ⟨S2x1024x3392, .f32⟩
  | .hbm, ⟨14, _⟩ => ⟨S2x1024x3392, .f32⟩
  | .hbm, ⟨15, _⟩ => ⟨S2048x3392, .f32⟩
  | .hbm, ⟨16, _⟩ => ⟨S_, .f32⟩
  | .hbm, ⟨17, _⟩ => ⟨S2048x3392, .f32⟩
  | .hbm, ⟨18, _⟩ => ⟨S2048x3392, .f32⟩
  | .hbm, ⟨19, _⟩ => ⟨S_, .f32⟩
  | .hbm, ⟨20, _⟩ => ⟨S2048x3392, .f32⟩
  | .hbm, ⟨21, _⟩ => ⟨S2048x3392, .f32⟩
  | .hbm, ⟨22, _⟩ => ⟨S2048x3392, .f32⟩
  | .hbm, ⟨23, _⟩ => ⟨S_, .f32⟩
  | .hbm, ⟨24, _⟩ => ⟨S2048x3392, .f32⟩
  | .hbm, ⟨25, _⟩ => ⟨S2048x3392, .f32⟩
  | .hbm, ⟨26, _⟩ => ⟨S2048x3392, .f32⟩
  | .hbm, ⟨27, _⟩ => ⟨S_, .f32⟩
  | .hbm, ⟨28, _⟩ => ⟨S2048x3392, .f32⟩
  | .hbm, ⟨29, _⟩ => ⟨S2048x3392, .f32⟩
  | .hbm, ⟨30, _⟩ => ⟨S2048x3392, .f32⟩
  | .hbm, ⟨31, _⟩ => ⟨S_, .f32⟩
  | .hbm, ⟨32, _⟩ => ⟨S2048x3392, .f32⟩
  | .hbm, ⟨33, _⟩ => ⟨S2048x3392, .f32⟩
  | .hbm, ⟨34, _⟩ => ⟨S_, .f32⟩
  | .hbm, ⟨35, _⟩ => ⟨S2048x3392, .f32⟩
  | .hbm, ⟨36, _⟩ => ⟨S2048x3392, .f32⟩
  | .hbm, ⟨37, _⟩ => ⟨S2048x3392, .f32⟩
  | .hbm, ⟨38, _⟩ => ⟨S_, .f32⟩
  | .hbm, ⟨39, _⟩ => ⟨S2048x3392, .f32⟩
  | .hbm, ⟨40, _⟩ => ⟨S2048x3392, .f32⟩
  | .hbm, ⟨41, _⟩ => ⟨S2048x3392, .f32⟩
  | .hbm, ⟨42, _⟩ => ⟨S_, .f32⟩
  | .hbm, ⟨43, _⟩ => ⟨S2048x3392, .f32⟩
  | .hbm, ⟨44, _⟩ => ⟨S2048x3392, .f32⟩
  | .hbm, ⟨45, _⟩ => ⟨S2048x3392, .f32⟩
  | .hbm, ⟨46, _⟩ => ⟨S_, .f32⟩
  | .hbm, ⟨47, _⟩ => ⟨S2048x3392, .f32⟩
  | .hbm, ⟨48, _⟩ => ⟨S2048x3392, .f32⟩
  | _, _ => ⟨S2048x3392, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== KernelHalvesBranch.lean ====
abbrev S1024x512 : Shape := ⟨2, ![1024, 512]⟩
abbrev S512x512 : Shape := ⟨2, ![512, 512]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S512x512, .f32⟩
  | .hbm, ⟨4, _⟩ => ⟨S512x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .smem, ⟨0, _⟩ => ⟨S1, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelHalvesBranchIdeal.lean ====
abbrev S1024x512 : Shape := ⟨2, ![1024, 512]⟩
abbrev S512x512 : Shape := ⟨2, ![512, 512]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S512x512, .f32⟩
  | .hbm, ⟨4, _⟩ => ⟨S512x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .smem, ⟨0, _⟩ => ⟨S1, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceHalvesBranchIdeal.lean ====
abbrev S1024x512 : Shape := ⟨2, ![1024, 512]⟩
abbrev S512x512 : Shape := ⟨2, ![512, 512]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x512x512 : Shape := ⟨3, ![2, 512, 512]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S512x512, .f32⟩
  | .hbm, ⟨4, _⟩ => ⟨S512x512, .f32⟩
  | .hbm, ⟨5, _⟩ => ⟨S1, .i32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x512x512, .i1⟩
  | .hbm, ⟨12, _⟩ => ⟨S2x512x512, .f32⟩
  | .hbm, ⟨13, _⟩ => ⟨S2x512x512, .f32⟩
  | .hbm, ⟨14, _⟩ => ⟨S2x512x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S_, .f32⟩
  | .hbm, ⟨47, _⟩ => ⟨S1024x512, .f32⟩
  | .hbm, ⟨48, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== KernelHalvesOut.lean ====
abbrev S512x2048 : Shape := ⟨2, ![512, 2048]⟩
abbrev S256x2048 : Shape := ⟨2, ![256, 2048]⟩
abbrev S1 : Shape := ⟨1, ![1]⟩
abbrev S128x2048 : Shape := ⟨2, ![128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S256x2048, .f32⟩
  | .hbm, ⟨4, _⟩ => ⟨S256x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelHalvesOutIdeal.lean ====
abbrev S512x2048 : Shape := ⟨2, ![512, 2048]⟩
abbrev S256x2048 : Shape := ⟨2, ![256, 2048]⟩
abbrev S1 : Shape := ⟨1, ![1]⟩
abbrev S128x2048 : Shape := ⟨2, ![128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S256x2048, .f32⟩
  | .hbm, ⟨4, _⟩ => ⟨S256x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceHalvesOutIdeal.lean ====
abbrev S512x2048 : Shape := ⟨2, ![512, 2048]⟩
abbrev S256x2048 : Shape := ⟨2, ![256, 2048]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x256x2048 : Shape := ⟨3, ![2, 256, 2048]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S256x2048, .f32⟩
  | .hbm, ⟨4, _⟩ => ⟨S256x2048, .f32⟩
  | .hbm, ⟨5, _⟩ => ⟨S1, .i32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x256x2048, .i1⟩
  | .hbm, ⟨12, _⟩ => ⟨S2x256x2048, .f32⟩
  | .hbm, ⟨13, _⟩ => ⟨S2x256x2048, .f32⟩
  | .hbm, ⟨14, _⟩ => ⟨S2x256x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S_, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S_, .f32⟩
  | .hbm, ⟨47, _⟩ => ⟨S512x2048, .f32⟩
  | .hbm, ⟨48, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== KernelHalvesSmall.lean ====
abbrev S576x128 : Shape := ⟨2, ![576, 128]⟩
abbrev S288x128 : Shape := ⟨2, ![288, 128]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S576x128, .f32⟩
  | .hbm, ⟨1, _⟩ => ⟨S576x128, .f32⟩
  | .hbm, ⟨2, _⟩ => ⟨S576x128, .f32⟩
  | .hbm, ⟨3, _⟩ => ⟨S288x128, .f32⟩
  | .hbm, ⟨4, _⟩ => ⟨S288x128, .f32⟩
  | .hbm, ⟨5, _⟩ => ⟨S576x128, .f32⟩
  | .hbm, ⟨6, _⟩ => ⟨S576x128, .f32⟩
  | .hbm, ⟨7, _⟩ => ⟨S576x128, .f32⟩
  | .hbm, ⟨8, _⟩ => ⟨S576x128, .f32⟩
  | .local _ .vmem, ⟨0, _⟩ => ⟨S288x128, .f32⟩
  | .local _ .vmem, ⟨1, _⟩ => ⟨S288x128, .f32⟩
  | .local _ .vmem, ⟨2, _⟩ => ⟨S288x128, .f32⟩
  | .local _ .vmem, ⟨3, _⟩ => ⟨S288x128, .f32⟩
  | .local _ .vmem, ⟨4, _⟩ => ⟨S288x128, .f32⟩
  | .local _ .vmem, ⟨5, _⟩ => ⟨S288x128, .f32⟩
  | .local _ .vmem, ⟨6, _⟩ => ⟨S288x128, .f32⟩
  | .local _ .vmem, ⟨7, _⟩ => ⟨S288x128, .f32⟩
  | .local _ .vmem, ⟨8, _⟩ => ⟨S288x128, .f32⟩
  | .local _ .vmem, ⟨9, _⟩ => ⟨S288x128, .f32⟩
  | .local _ .vmem, ⟨10, _⟩ => ⟨S288x128, .f32⟩
  | .local _ .vmem, ⟨11, _⟩ => ⟨S288x128, .f32⟩
  | .local _ .vmem, ⟨12, _⟩ => ⟨S288x128, .f32⟩
  | .local _ .vmem, ⟨13, _⟩ => ⟨S288x128, .f32⟩
  | .local _ .vmem, ⟨14, _⟩ => ⟨S288x128, .f32⟩
  | .local _ .vmem, ⟨15, _⟩ => ⟨S288x128, .f32⟩
  | .local _ .smem, ⟨0, _⟩ => ⟨S1, .i32⟩
  | _, _ => ⟨S576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S288x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S288x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S288x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S288x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S288x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S288x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S288x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S288x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceHalvesSmallIdeal.lean ====
abbrev S576x128 : Shape := ⟨2, ![576, 128]⟩
abbrev S288x128 : Shape := ⟨2, ![288, 128]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x288x128 : Shape := ⟨3, ![2, 288, 128]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S576x128, .f32⟩
  | .hbm, ⟨1, _⟩ => ⟨S576x128, .f32⟩
  | .hbm, ⟨2, _⟩ => ⟨S576x128, .f32⟩
  | .hbm, ⟨3, _⟩ => ⟨S288x128, .f32⟩
  | .hbm, ⟨4, _⟩ => ⟨S288x128, .f32⟩
  | .hbm, ⟨5, _⟩ => ⟨S1, .i32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x288x128, .i1⟩
  | .hbm, ⟨12, _⟩ => ⟨S2x288x128, .f32⟩
  | .hbm, ⟨13, _⟩ => ⟨S2x288x128, .f32⟩
  | .hbm, ⟨14, _⟩ => ⟨S2x288x128, .f32⟩
  | .hbm, ⟨15, _⟩ => ⟨S576x128, .f32⟩
  | .hbm, ⟨16, _⟩ => ⟨S_, .f32⟩
  | .hbm, ⟨17, _⟩ => ⟨S576x128, .f32⟩
  | .hbm, ⟨18, _⟩ => ⟨S576x128, .f32⟩
  | .hbm, ⟨19, _⟩ => ⟨S_, .f32⟩
  | .hbm, ⟨20, _⟩ => ⟨S576x128, .f32⟩
  | .hbm, ⟨21, _⟩ => ⟨S576x128, .f32⟩
  | .hbm, ⟨22, _⟩ => ⟨S576x128, .f32⟩
  | .hbm, ⟨23, _⟩ => ⟨S_, .f32⟩
  | .hbm, ⟨24, _⟩ => ⟨S576x128, .f32⟩
  | .hbm, ⟨25, _⟩ => ⟨S576x128, .f32⟩
  | .hbm, ⟨26, _⟩ => ⟨S576x128, .f32⟩
  | .hbm, ⟨27, _⟩ => ⟨S_, .f32⟩
  | .hbm, ⟨28, _⟩ => ⟨S576x128, .f32⟩
  | .hbm, ⟨29, _⟩ => ⟨S576x128, .f32⟩
  | .hbm, ⟨30, _⟩ => ⟨S576x128, .f32⟩
  | .hbm, ⟨31, _⟩ => ⟨S_, .f32⟩
  | .hbm, ⟨32, _⟩ => ⟨S576x128, .f32⟩
  | .hbm, ⟨33, _⟩ => ⟨S576x128, .f32⟩
  | .hbm, ⟨34, _⟩ => ⟨S_, .f32⟩
  | .hbm, ⟨35, _⟩ => ⟨S576x128, .f32⟩
  | .hbm, ⟨36, _⟩ => ⟨S576x128, .f32⟩
  | .hbm, ⟨37, _⟩ => ⟨S576x128, .f32⟩
  | .hbm, ⟨38, _⟩ => ⟨S_, .f32⟩
  | .hbm, ⟨39, _⟩ => ⟨S576x128, .f32⟩
  | .hbm, ⟨40, _⟩ => ⟨S576x128, .f32⟩
  | .hbm, ⟨41, _⟩ => ⟨S576x128, .f32⟩
  | .hbm, ⟨42, _⟩ => ⟨S_, .f32⟩
  | .hbm, ⟨43, _⟩ => ⟨S576x128, .f32⟩
  | .hbm, ⟨44, _⟩ => ⟨S576x128, .f32⟩
  | .hbm, ⟨45, _⟩ => ⟨S576x128, .f32⟩
  | .hbm, ⟨46, _⟩ => ⟨S_, .f32⟩
  | .hbm, ⟨47, _⟩ => ⟨S576x128, .f32⟩
  | .hbm, ⟨48, _⟩ => ⟨S576x128, .f32⟩
  | _, _ => ⟨S576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== KernelFinal.lean ====
abbrev S2048x2048 : Shape := ⟨2, ![2048, 2048]⟩
abbrev S2304x2048 : Shape := ⟨2, ![2304, 2048]⟩
abbrev S8x6144 : Shape := ⟨2, ![8, 6144]⟩
abbrev S1x2048 : Shape := ⟨2, ![1, 2048]⟩
abbrev S8x3x2048 : Shape := ⟨3, ![8, 3, 2048]⟩
abbrev S8x128 : Shape := ⟨2, ![8, 128]⟩
abbrev S256x2048 : Shape := ⟨2, ![256, 2048]⟩
abbrev S1x3x2048 : Shape := ⟨3, ![1, 3, 2048]⟩
abbrev S3x2048 : Shape := ⟨2, ![3, 2048]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S2048 : Shape := ⟨1, ![2048]⟩
abbrev S1x4096 : Shape := ⟨2, ![1, 4096]⟩
abbrev S1x6144 : Shape := ⟨2, ![1, 6144]⟩
abbrev S7x6144 : Shape := ⟨2, ![7, 6144]⟩

abbrev nBuf : Space → Nat
  | .hbm => 11
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2304x2048, .f32⟩
  | .hbm, ⟨2, _⟩ => ⟨S8x6144, .f32⟩
  | .hbm, ⟨3, _⟩ => ⟨S1x2048, .f32⟩
  | .hbm, ⟨4, _⟩ => ⟨S2048x2048, .f32⟩
  | .hbm, ⟨5, _⟩ => ⟨S8x3x2048, .f32⟩
  | .hbm, ⟨6, _⟩ => ⟨S2304x2048, .f32⟩
  | .hbm, ⟨7, _⟩ => ⟨S2304x2048, .bf16⟩
  | .hbm, ⟨8, _⟩ => ⟨S8x128, .f32⟩
  | .hbm, ⟨9, _⟩ => ⟨S8x6144, .f32⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x3x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x128, .f32⟩
  | .local _ .vmem, ⟨13, _⟩ => ⟨S8x6144, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceFinalIdeal.lean ====
abbrev S2048x2048 : Shape := ⟨2, ![2048, 2048]⟩
abbrev S2304x2048 : Shape := ⟨2, ![2304, 2048]⟩
abbrev S8x6144 : Shape := ⟨2, ![8, 6144]⟩
abbrev S1x2048 : Shape := ⟨2, ![1, 2048]⟩
abbrev S1x6144 : Shape := ⟨2, ![1, 6144]⟩
abbrev S_ : Shape := ⟨0, ![]⟩
abbrev S2048 : Shape := ⟨1, ![2048]⟩
abbrev S2048x1 : Shape := ⟨2, ![2048, 1]⟩
abbrev S256x2048 : Shape := ⟨2, ![256, 2048]⟩
abbrev S8x128 : Shape := ⟨2, ![8, 128]⟩

abbrev nBuf : Space → Nat
  | .hbm => 98
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2304x2048, .f32⟩
  | .hbm, ⟨2, _⟩ => ⟨S8x6144, .f32⟩
  | .hbm, ⟨3, _⟩ => ⟨S1x2048, .f32⟩
  | .hbm, ⟨4, _⟩ => ⟨S2048x2048, .f32⟩
  | .hbm, ⟨5, _⟩ => ⟨S1x6144, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x2048, .f32⟩
  | .hbm, ⟨66, _⟩ => ⟨S2048x2048, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S2048x2048, .f32⟩
  | .hbm, ⟨81, _⟩ => ⟨S_, .f32⟩
  | .hbm, ⟨82, _⟩ => ⟨S2048, .f32⟩
  | .hbm, ⟨83, _⟩ => ⟨S1x2048, .f32⟩
  | .hbm, ⟨84, _⟩ => ⟨S_, .f32⟩
  | .hbm, ⟨85, _⟩ => ⟨S2304x2048, .f32⟩
  | .hbm, ⟨86, _⟩ => ⟨S_, .f32⟩
  | .hbm, ⟨87, _⟩ => ⟨S1x2048, .f32⟩
  | .hbm, ⟨88, _⟩ => ⟨S_, .f32⟩
  | .hbm, ⟨89, _⟩ => ⟨S1x2048, .f32⟩
  | .hbm, ⟨90, _⟩ => ⟨S1x6144, .f32⟩
  | .hbm, ⟨91, _⟩ => ⟨S_, .f32⟩
  | .hbm, ⟨92, _⟩ => ⟨S8x6144, .f32⟩
  | .hbm, ⟨93, _⟩ => ⟨S_, .f32⟩
  | .hbm, ⟨94, _⟩ => ⟨S256x2048, .f32⟩
  | .hbm, ⟨95, _⟩ => ⟨S2304x2048, .f32⟩
  | .hbm, ⟨96, _⟩ => ⟨S2304x2048, .bf16⟩
  | .hbm, ⟨97, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_cst_14 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_cst_18 : Ref sig .tc := ⟨.hbm, 88, rfl⟩
abbrev main_v64 : Ref sig .tc := ⟨.hbm, 89, rfl⟩
abbrev main_v65 : Ref sig .tc := ⟨.hbm, 90, rfl⟩
abbrev main_cst_19 : Ref sig .tc := ⟨.hbm, 91, rfl⟩
abbrev main_v66 : Ref sig .tc := ⟨.hbm, 92, rfl⟩
abbrev main_cst_20 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]
-- ==== KernelHFwd.lean ====
abbrev S2048x2048 : Shape := ⟨2, ![2048, 2048]⟩
abbrev S256x2048 : Shape := ⟨2, ![256, 2048]⟩
abbrev S8x6144 : Shape := ⟨2, ![8, 6144]⟩
abbrev S1x2048 : Shape := ⟨2, ![1, 2048]⟩
abbrev S8x3x2048 : Shape := ⟨3, ![8, 3, 2048]⟩
abbrev S2304x2048 : Shape := ⟨2, ![2304, 2048]⟩
abbrev S1x3x2048 : Shape := ⟨3, ![1, 3, 2048]⟩
abbrev S3x2048 : Shape := ⟨2, ![3, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S8x6144, .f32⟩
  | .hbm, ⟨3, _⟩ => ⟨S1x2048, .f32⟩
  | .hbm, ⟨4, _⟩ => ⟨S8x3x2048, .f32⟩
  | .hbm, ⟨5, _⟩ => ⟨S2304x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S8x3x2048, .f32⟩
  | .local _ .vmem, ⟨6, _⟩ => ⟨S256x2048, .bf16⟩
  | .local _ .vmem, ⟨7, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceHFwdIdeal.lean ====
abbrev S2048x2048 : Shape := ⟨2, ![2048, 2048]⟩
abbrev S256x2048 : Shape := ⟨2, ![256, 2048]⟩
abbrev S8x6144 : Shape := ⟨2, ![8, 6144]⟩
abbrev S1x2048 : Shape := ⟨2, ![1, 2048]⟩
abbrev S1x6144 : Shape := ⟨2, ![1, 6144]⟩
abbrev S_ : Shape := ⟨0, ![]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S2304x2048 : Shape := ⟨2, ![2304, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S8x6144, .f32⟩
  | .hbm, ⟨3, _⟩ => ⟨S1x2048, .f32⟩
  | .hbm, ⟨4, _⟩ => ⟨S1x6144, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S256x2048, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S1x6144, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S1x2048, .f32⟩
  | .hbm, ⟨51, _⟩ => ⟨S1x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2304x2048, .f32⟩
  | .hbm, ⟨57, _⟩ => ⟨S2304x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== KernelMergeFwd.lean ====
abbrev S2304x2048 : Shape := ⟨2, ![2304, 2048]⟩
abbrev S2304x4096 : Shape := ⟨2, ![2304, 4096]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x4096, .f32⟩
  | .hbm, ⟨3, _⟩ => ⟨S2304x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c1_i32 : BitVec 32 := 1#32
  let c0_i32_1 : BitVec 32 := 0#32
  ![v2.toNat, c1_i32.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMergeFwdIdeal.lean ====
abbrev S2304x2048 : Shape := ⟨2, ![2304, 2048]⟩
abbrev S2304x4096 : Shape := ⟨2, ![2304, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x4096, .f32⟩
  | .hbm, ⟨3, _⟩ => ⟨S2304x2048, .f32⟩
  | .hbm, ⟨4, _⟩ => ⟨S2304x2048, .f32⟩
  | .hbm, ⟨5, _⟩ => ⟨S2304x2048, .f32⟩
  | .hbm, ⟨6, _⟩ => ⟨S2304x2048, .f32⟩
  | .hbm, ⟨7, _⟩ => ⟨S_, .f32⟩
  | .hbm, ⟨8, _⟩ => ⟨S2304x2048, .f32⟩
  | .hbm, ⟨9, _⟩ => ⟨S2304x2048, .f32⟩
  | .hbm, ⟨10, _⟩ => ⟨S_, .f32⟩
  | .hbm, ⟨11, _⟩ => ⟨S2304x2048, .f32⟩
  | .hbm, ⟨12, _⟩ => ⟨S2304x2048, .f32⟩
  | .hbm, ⟨13, _⟩ => ⟨S2304x2048, .f32⟩
  | .hbm, ⟨14, _⟩ => ⟨S2304x2048, .f32⟩
  | .hbm, ⟨15, _⟩ => ⟨S2304x2048, .f32⟩
  | .hbm, ⟨16, _⟩ => ⟨S_, .f32⟩
  | .hbm, ⟨17, _⟩ => ⟨S2304x2048, .f32⟩
  | .hbm, ⟨18, _⟩ => ⟨S2304x2048, .f32⟩
  | .hbm, ⟨19, _⟩ => ⟨S_, .f32⟩
  | .hbm, ⟨20, _⟩ => ⟨S2304x2048, .f32⟩
  | .hbm, ⟨21, _⟩ => ⟨S2304x2048, .f32⟩
  | .hbm, ⟨22, _⟩ => ⟨S2304x2048, .f32⟩
  | .hbm, ⟨23, _⟩ => ⟨S2304x2048, .f32⟩
  | .hbm, ⟨24, _⟩ => ⟨S2304x2048, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelPostFwd.lean ====
abbrev S2304x1024 : Shape := ⟨2, ![2304, 1024]⟩
abbrev S2304x13568 : Shape := ⟨2, ![2304, 13568]⟩
abbrev S1x1024 : Shape := ⟨2, ![1, 1024]⟩
abbrev S256x1024 : Shape := ⟨2, ![256, 1024]⟩
abbrev S256x8x128 : Shape := ⟨3, ![256, 8, 128]⟩
abbrev S256x8 : Shape := ⟨2, ![256, 8]⟩
abbrev S256x8x1 : Shape := ⟨3, ![256, 8, 1]⟩

abbrev nBuf : Space → Nat
  | .hbm => 5
  | .vmem => 9
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x13568, .f32⟩
  | .hbm, ⟨3, _⟩ => ⟨S1x1024, .f32⟩
  | .hbm, ⟨4, _⟩ => ⟨S2304x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c4_i32 : BitVec 32 := 4#32
  let c0_i32_1 : BitVec 32 := 0#32
  ![v2.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferencePostFwdIdeal.lean ====
abbrev S2304x1024 : Shape := ⟨2, ![2304, 1024]⟩
abbrev S2304x13568 : Shape := ⟨2, ![2304, 13568]⟩
abbrev S1x1024 : Shape := ⟨2, ![1, 1024]⟩
abbrev S2304x8x128 : Shape := ⟨3, ![2304, 8, 128]⟩
abbrev S_ : Shape := ⟨0, ![]⟩
abbrev S2304x8 : Shape := ⟨2, ![2304, 8]⟩
abbrev S2304x8x1 : Shape := ⟨3, ![2304, 8, 1]⟩

abbrev nBuf : Space → Nat
  | .hbm => 35
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x13568, .f32⟩
  | .hbm, ⟨3, _⟩ => ⟨S1x1024, .f32⟩
  | .hbm, ⟨4, _⟩ => ⟨S2304x8x128, .f32⟩
  | .hbm, ⟨5, _⟩ => ⟨S2304x8x128, .f32⟩
  | .hbm, ⟨6, _⟩ => ⟨S2304x8x128, .f32⟩
  | .hbm, ⟨7, _⟩ => ⟨S2304x8x128, .f32⟩
  | .hbm, ⟨8, _⟩ => ⟨S_, .f32⟩
  | .hbm, ⟨9, _⟩ => ⟨S2304x8, .f32⟩
  | .hbm, ⟨10, _⟩ => ⟨S2304x8x1, .f32⟩
  | .hbm, ⟨11, _⟩ => ⟨S_, .f32⟩
  | .hbm, ⟨12, _⟩ => ⟨S2304x8x1, .f32⟩
  | .hbm, ⟨13, _⟩ => ⟨S2304x8x1, .f32⟩
  | .hbm, ⟨14, _⟩ => ⟨S_, .f32⟩
  | .hbm, ⟨15, _⟩ => ⟨S2304x8x1, .f32⟩
  | .hbm, ⟨16, _⟩ => ⟨S2304x8x1, .f32⟩
  | .hbm, ⟨17, _⟩ => ⟨S2304x8x1, .f32⟩
  | .hbm, ⟨18, _⟩ => ⟨S2304x8x128, .f32⟩
  | .hbm, ⟨19, _⟩ => ⟨S2304x8x128, .f32⟩
  | .hbm, ⟨20, _⟩ => ⟨S2304x1024, .f32⟩
  | .hbm, ⟨21, _⟩ => ⟨S2304x1024, .f32⟩
  | .hbm, ⟨22, _⟩ => ⟨S2304x1024, .f32⟩
  | .hbm, ⟨23, _⟩ => ⟨S2304x1024, .f32⟩
  | .hbm, ⟨24, _⟩ => ⟨S2304x1024, .f32⟩
  | .hbm, ⟨25, _⟩ => ⟨S2304x1024, .f32⟩
  | .hbm, ⟨26, _⟩ => ⟨S_, .f32⟩
  | .hbm, ⟨27, _⟩ => ⟨S2304x1024, .f32⟩
  | .hbm, ⟨28, _⟩ => ⟨S2304x1024, .f32⟩
  | .hbm, ⟨29, _⟩ => ⟨S_, .f32⟩
  | .hbm, ⟨30, _⟩ => ⟨S2304x1024, .f32⟩
  | .hbm, ⟨31, _⟩ => ⟨S2304x1024, .f32⟩
  | .hbm, ⟨32, _⟩ => ⟨S2304x1024, .f32⟩
  | .hbm, ⟨33, _⟩ => ⟨S2304x1024, .f32⟩
  | .hbm, ⟨34, _⟩ => ⟨S2304x1024, .bf16⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== KernelSilu.lean ====
abbrev S16x2048 : Shape := ⟨2, ![16, 2048]⟩

abbrev nBuf : Space → Nat
  | .hbm => 2
  | .vmem => 2
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .local _ .vmem, ⟨0, _⟩ => ⟨S16x2048, .f32⟩
  | .local _ .vmem, ⟨1, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceSiluIdeal.lean ====
abbrev S16x2048 : Shape := ⟨2, ![16, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S_, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== KernelSiluBwd.lean ====
abbrev S16x2048 : Shape := ⟨2, ![16, 2048]⟩

abbrev nBuf : Space → Nat
  | .hbm => 3
  | .vmem => 3
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceSiluBwdIdeal.lean ====
abbrev S16x2048 : Shape := ⟨2, ![16, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S16x2048, .f32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S16x2048, .f32⟩
  | .hbm, ⟨18, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v1 : Ref sig .tc := ⟨.hbm, 18, rfl⟩

abbrev nD : Nat := 1
abbrev τ : Topo := Topo.v7x

variable {F : FTy → Type} [FloatOps F]
-- ==== KernelAda.lean ====
abbrev S16x2048 : Shape := ⟨2, ![16, 2048]⟩
abbrev S2048x1536 : Shape := ⟨2, ![2048, 1536]⟩
abbrev S16x1536 : Shape := ⟨2, ![16, 1536]⟩
abbrev S16x1024 : Shape := ⟨2, ![16, 1024]⟩
abbrev S1024x512 : Shape := ⟨2, ![1024, 512]⟩
abbrev S16x512 : Shape := ⟨2, ![16, 512]⟩

abbrev nBuf : Space → Nat
  | .hbm => 3
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048x1536, .f32⟩
  | .hbm, ⟨2, _⟩ => ⟨S16x1536, .f32⟩
  | .local _ .vmem, ⟨0, _⟩ => ⟨S16x1024, .f32⟩
  | .local _ .vmem, ⟨1, _⟩ => ⟨S16x1024, .f32⟩
  | .local _ .vmem, ⟨2, _⟩ => ⟨S1024x512, .f32⟩
  | .local _ .vmem, ⟨3, _⟩ => ⟨S1024x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAdaIdeal.lean ====
abbrev S16x2048 : Shape := ⟨2, ![16, 2048]⟩
abbrev S2048x1536 : Shape := ⟨2, ![2048, 1536]⟩
abbrev S16x1536 : Shape := ⟨2, ![16, 1536]⟩

abbrev nBuf : Space → Nat
  | .hbm => 3
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x1536, .f32⟩
  | .hbm, ⟨2, _⟩ => ⟨S16x1536, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelAdaX.lean ====
abbrev S16x1536 : Shape := ⟨2, ![16, 1536]⟩
abbrev S2048x1536 : Shape := ⟨2, ![2048, 1536]⟩
abbrev S16x2048 : Shape := ⟨2, ![16, 2048]⟩
abbrev S16x768 : Shape := ⟨2, ![16, 768]⟩
abbrev S512x768 : Shape := ⟨2, ![512, 768]⟩
abbrev S16x512 : Shape := ⟨2, ![16, 512]⟩

abbrev nBuf : Space → Nat
  | .hbm => 3
  | .vmem => 7
  | .smem => 0
  | _ => 0

abbrev bufTy : (tb : Table) → Fin (tcTables nBuf tb) → BufTy
  | .hbm, ⟨0, _⟩ => ⟨S16x1536, .f32⟩
  | .hbm, ⟨1, _⟩ => ⟨S2048x1536, .f32⟩
  | .hbm, ⟨2, _⟩ => ⟨S16x2048, .f32⟩
  | .local _ .vmem, ⟨0, _⟩ => ⟨S16x768, .f32⟩
  | .local _ .vmem, ⟨1, _⟩ => ⟨S16x768, .f32⟩
  | .local _ .vmem, ⟨2, _⟩ => ⟨S512x768, .f32⟩
  | .local _ .vmem, ⟨3, _⟩ => ⟨S512x768, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAdaXIdeal.lean ====
abbrev S16x1536 : Shape := ⟨2, ![16, 1536]⟩
abbrev S2048x1536 : Shape := ⟨2, ![2048, 1536]⟩
abbrev S_ : Shape := ⟨0, ![]⟩
abbrev S16x2048 : Shape := ⟨2, ![16, 2048]⟩
abbrev S1536x2048 : Shape := ⟨2, ![1536, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16x1536, .f32⟩
  | .hbm, ⟨1, _⟩ => ⟨S2048x1536, .f32⟩
  | .hbm, ⟨2, _⟩ => ⟨S_, .f32⟩
  | .hbm, ⟨3, _⟩ => ⟨S16x2048, .f32⟩
  | .hbm, ⟨4, _⟩ => ⟨S16x1536, .f32⟩
  | .hbm, ⟨5, _⟩ => ⟨S1536x2048, .f32⟩
  | .hbm, ⟨6, _⟩ => ⟨S2048x1536, .f32⟩
  | .hbm, ⟨7, _⟩ => ⟨S16x2048, .f32⟩
  | _, _ => ⟨S16x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelRwPost.lean ====
abbrev S2304x1024 : Shape := ⟨2, ![2304, 1024]⟩
abbrev S2304x3328 : Shape := ⟨2, ![2304, 3328]⟩
abbrev S2x1024 : Shape := ⟨2, ![2, 1024]⟩
abbrev S2x64x1024 : Shape := ⟨3, ![2, 64, 1024]⟩
abbrev S1x1024 : Shape := ⟨2, ![1, 1024]⟩
abbrev S256x1024 : Shape := ⟨2, ![256, 1024]⟩
abbrev S256x128 : Shape := ⟨2, ![256, 128]⟩
abbrev S256x64 : Shape := ⟨2, ![256, 64]⟩
abbrev S1x64x1024 : Shape := ⟨3, ![1, 64, 1024]⟩
abbrev S64x1024 : Shape := ⟨2, ![64, 1024]⟩
abbrev S256x16x64 : Shape := ⟨3, ![256, 16, 64]⟩
abbrev S256x16 : Shape := ⟨2, ![256, 16]⟩
abbrev S256x16x1 : Shape := ⟨3, ![256, 16, 1]⟩

abbrev nBuf : Space → Nat
  | .hbm => 11
  | .vmem => 22
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x3328, .f32⟩
  | .hbm, ⟨3, _⟩ => ⟨S2304x1024, .f32⟩
  | .hbm, ⟨4, _⟩ => ⟨S2x1024, .f32⟩
  | .hbm, ⟨5, _⟩ => ⟨S2x64x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2304x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S256x1024, .f32⟩
  | .local _ .vmem, ⟨13, _⟩ => ⟨S256x1024, .f32⟩
  | .local _ .vmem, ⟨14, _⟩ => ⟨S2x1024, .f32⟩
  | .local _ .vmem, ⟨15, _⟩ => ⟨S2x64x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S256x1024, .bf16⟩
  | .local _ .vmem, ⟨21, _⟩ => ⟨S256x1024, .bf16⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c1_i32 : BitVec 32 := 1#32
  let c0_i32_1 : BitVec 32 := 0#32
  ![v2.toNat, c1_i32.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c2_i32 : BitVec 32 := 2#32
  let c0_i32_1 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c25_i32 : BitVec 32 := 25#32
  let c0_i32_1 : BitVec 32 := 0#32
  ![v2.toNat, c25_i32.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceRwPostIdeal.lean ====
abbrev S2304x1024 : Shape := ⟨2, ![2304, 1024]⟩
abbrev S2304x3328 : Shape := ⟨2, ![2304, 3328]⟩
abbrev S2x1024 : Shape := ⟨2, ![2, 1024]⟩
abbrev S2x64x1024 : Shape := ⟨3, ![2, 64, 1024]⟩
abbrev S1x1024 : Shape := ⟨2, ![1, 1024]⟩
abbrev S2304x128 : Shape := ⟨2, ![2304, 128]⟩
abbrev S2304x16x64 : Shape := ⟨3, ![2304, 16, 64]⟩
abbrev S1024 : Shape := ⟨1, ![1024]⟩
abbrev S2304x64 : Shape := ⟨2, ![2304, 64]⟩
abbrev S1x64x1024 : Shape := ⟨3, ![1, 64, 1024]⟩
abbrev S64x1024 : Shape := ⟨2, ![64, 1024]⟩
abbrev S_ : Shape := ⟨0, ![]⟩
abbrev S2304x16 : Shape := ⟨2, ![2304, 16]⟩
abbrev S2304x16x1 : Shape := ⟨3, ![2304, 16, 1]⟩

abbrev nBuf : Space → Nat
  | .hbm => 124
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x3328, .f32⟩
  | .hbm, ⟨3, _⟩ => ⟨S2304x1024, .f32⟩
  | .hbm, ⟨4, _⟩ => ⟨S2x1024, .f32⟩
  | .hbm, ⟨5, _⟩ => ⟨S2x64x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2304x1024, .f32⟩
  | .hbm, ⟨11, _⟩ => ⟨S2304x1024, .f32⟩
  | .hbm, ⟨12, _⟩ => ⟨S2304x1024, .f32⟩
  | .hbm, ⟨13, _⟩ => ⟨S2304x128, .f32⟩
  | .hbm, ⟨14, _⟩ => ⟨S2304x16x64, .f32⟩
  | .hbm, ⟨15, _⟩ => ⟨S2304x16x64, .f32⟩
  | .hbm, ⟨16, _⟩ => ⟨S2304x16x64, .f32⟩
  | .hbm, ⟨17, _⟩ => ⟨S1x1024, .f32⟩
  | .hbm, ⟨18, _⟩ => ⟨S1024, .f32⟩
  | .hbm, ⟨19, _⟩ => ⟨S2304x64, .f32⟩
  | .hbm, ⟨20, _⟩ => ⟨S1x64x1024, .f32⟩
  | .hbm, ⟨21, _⟩ => ⟨S64x1024, .f32⟩
  | .hbm, ⟨22, _⟩ => ⟨S2304x1024, .f32⟩
  | .hbm, ⟨23, _⟩ => ⟨S1x1024, .f32⟩
  | .hbm, ⟨24, _⟩ => ⟨S2304x1024, .f32⟩
  | .hbm, ⟨25, _⟩ => ⟨S2304x1024, .f32⟩
  | .hbm, ⟨26, _⟩ => ⟨S2304x1024, .f32⟩
  | .hbm, ⟨27, _⟩ => ⟨S2304x1024, .f32⟩
  | .hbm, ⟨28, _⟩ => ⟨S_, .f32⟩
  | .hbm, ⟨29, _⟩ => ⟨S2304x1024, .f32⟩
  | .hbm, ⟨30, _⟩ => ⟨S2304x1024, .f32⟩
  | .hbm, ⟨31, _⟩ => ⟨S_, .f32⟩
  | .hbm, ⟨32, _⟩ => ⟨S2304x1024, .f32⟩
  | .hbm, ⟨33, _⟩ => ⟨S2304x1024, .f32⟩
  | .hbm, ⟨34, _⟩ => ⟨S_, .f32⟩
  | .hbm, ⟨35, _⟩ => ⟨S2304x1024, .f32⟩
  | .hbm, ⟨36, _⟩ => ⟨S2304x1024, .f32⟩
  | .hbm, ⟨37, _⟩ => ⟨S2304x1024, .f32⟩
  | .hbm, ⟨38, _⟩ => ⟨S2304x1024, .f32⟩
  | .hbm, ⟨39, _⟩ => ⟨S_, .f32⟩
  | .hbm, ⟨40, _⟩ => ⟨S2304x1024, .f32⟩
  | .hbm, ⟨41, _⟩ => ⟨S2304x1024, .f32⟩
  | .hbm, ⟨42, _⟩ => ⟨S2304x1024, .f32⟩
  | .hbm, ⟨43, _⟩ => ⟨S_, .f32⟩
  | .hbm, ⟨44, _⟩ => ⟨S2304x1024, .f32⟩
  | .hbm, ⟨45, _⟩ => ⟨S2304x1024, .f32⟩
  | .hbm, ⟨46, _⟩ => ⟨S1x1024, .f32⟩
  | .hbm, ⟨47, _⟩ => ⟨S1024, .f32⟩
  | .hbm, ⟨48, _⟩ => ⟨S2304x64, .f32⟩
  | .hbm, ⟨49, _⟩ => ⟨S1x64x1024, .f32⟩
  | .hbm, ⟨50, _⟩ => ⟨S64x1024, .f32⟩
  | .hbm, ⟨51, _⟩ => ⟨S2304x1024, .f32⟩
  | .hbm, ⟨52, _⟩ => ⟨S1x1024, .f32⟩
  | .hbm, ⟨53, _⟩ => ⟨S2304x1024, .f32⟩
  | .hbm, ⟨54, _⟩ => ⟨S2304x1024, .f32⟩
  | .hbm, ⟨55, _⟩ => ⟨S2304x1024, .f32⟩
  | .hbm, ⟨56, _⟩ => ⟨S2304x1024, .f32⟩
  | .hbm, ⟨57, _⟩ => ⟨S_, .f32⟩
  | .hbm, ⟨58, _⟩ => ⟨S2304x1024, .f32⟩
  | .hbm, ⟨59, _⟩ => ⟨S2304x1024, .f32⟩
  | .hbm, ⟨60, _⟩ => ⟨S_, .f32⟩
  | .hbm, ⟨61, _⟩ => ⟨S2304x1024, .f32⟩
  | .hbm, ⟨62, _⟩ => ⟨S2304x1024, .f32⟩
  | .hbm, ⟨63, _⟩ => ⟨S_, .f32⟩
  | .hbm, ⟨64, _⟩ => ⟨S2304x1024, .f32⟩
  | .hbm, ⟨65, _⟩ => ⟨S2304x1024, .f32⟩
  | .hbm, ⟨66, _⟩ => ⟨S2304x1024, .f32⟩
  | .hbm, ⟨67, _⟩ => ⟨S2304x1024, .f32⟩
  | .hbm, ⟨68, _⟩ => ⟨S_, .f32⟩
  | .hbm, ⟨69, _⟩ => ⟨S2304x1024, .f32⟩
  | .hbm, ⟨70, _⟩ => ⟨S2304x1024, .f32⟩
  | .hbm, ⟨71, _⟩ => ⟨S2304x1024, .f32⟩
  | .hbm, ⟨72, _⟩ => ⟨S2304x1024, .f32⟩
  | .hbm, ⟨73, _⟩ => ⟨S_, .f32⟩
  | .hbm, ⟨74, _⟩ => ⟨S2304x16, .f32⟩
  | .hbm, ⟨75, _⟩ => ⟨S2304x16x1, .f32⟩
  | .hbm, ⟨76, _⟩ => ⟨S_, .f32⟩
  | .hbm, ⟨77, _⟩ => ⟨S2304x16x1, .f32⟩
  | .hbm, ⟨78, _⟩ => ⟨S2304x16x1, .f32⟩
  | .hbm, ⟨79, _⟩ => ⟨S2304x16x64, .f32⟩
  | .hbm, ⟨80, _⟩ => ⟨S2304x16x64, .f32⟩
  | .hbm, ⟨81, _⟩ => ⟨S2304x16x64, .f32⟩
  | .hbm, ⟨82, _⟩ => ⟨S_, .f32⟩
  | .hbm, ⟨83, _⟩ => ⟨S2304x16, .f32⟩
  | .hbm, ⟨84, _⟩ => ⟨S2304x16x1, .f32⟩
  | .hbm, ⟨85, _⟩ => ⟨S_, .f32⟩
  | .hbm, ⟨86, _⟩ => ⟨S2304x16x1, .f32⟩
  | .hbm, ⟨87, _⟩ => ⟨S2304x16x1, .f32⟩
  | .hbm, ⟨88, _⟩ => ⟨S2304x16x64, .f32⟩
  | .hbm, ⟨89, _⟩ => ⟨S2304x16x64, .f32⟩
  | .hbm, ⟨90, _⟩ => ⟨S_, .f32⟩
  | .hbm, ⟨91, _⟩ => ⟨S2304x16x1, .f32⟩
  | .hbm, ⟨92, _⟩ => ⟨S2304x16x1, .f32⟩
  | .hbm, ⟨93, _⟩ => ⟨S2304x16x1, .f32⟩
  | .hbm, ⟨94, _⟩ => ⟨S2304x16x64, .f32⟩
  | .hbm, ⟨95, _⟩ => ⟨S2304x16x64, .f32⟩
  | .hbm, ⟨96, _⟩ => ⟨S2304x1024, .f32⟩
  | .hbm, ⟨97, _⟩ => ⟨S2304x1024, .f32⟩
  | .hbm, ⟨98, _⟩ => ⟨S2304x1024, .f32⟩
  | .hbm, ⟨99, _⟩ => ⟨S2304x1024, .f32⟩
  | .hbm, ⟨100, _⟩ => ⟨S2304x1024, .f32⟩
  | .hbm, ⟨101, _⟩ => ⟨S2304x1024, .f32⟩
  | .hbm, ⟨102, _⟩ => ⟨S2304x1024, .f32⟩
  | .hbm, ⟨103, _⟩ => ⟨S2304x1024, .f32⟩
  | .hbm, ⟨104, _⟩ => ⟨S2304x16x64, .f32⟩
  | .hbm, ⟨105, _⟩ => ⟨S_, .f32⟩
  | .hbm, ⟨106, _⟩ => ⟨S2304x16, .f32⟩
  | .hbm, ⟨107, _⟩ => ⟨S2304x16x1, .f32⟩
  | .hbm, ⟨108, _⟩ => ⟨S2304x16x64, .f32⟩
  | .hbm, ⟨109, _⟩ => ⟨S2304x16x64, .f32⟩
  | .hbm, ⟨110, _⟩ => ⟨S2304x16x64, .f32⟩
  | .hbm, ⟨111, _⟩ => ⟨S2304x1024, .f32⟩
  | .hbm, ⟨112, _⟩ => ⟨S2304x1024, .f32⟩
  | .hbm, ⟨113, _⟩ => ⟨S2304x1024, .f32⟩
  | .hbm, ⟨114, _⟩ => ⟨S2304x1024, .f32⟩
  | .hbm, ⟨115, _⟩ => ⟨S_, .f32⟩
  | .hbm, ⟨116, _⟩ => ⟨S2304x1024, .f32⟩
  | .hbm, ⟨117, _⟩ => ⟨S2304x1024, .f32⟩
  | .hbm, ⟨118, _⟩ => ⟨S_, .f32⟩
  | .hbm, ⟨119, _⟩ => ⟨S2304x1024, .f32⟩
  | .hbm, ⟨120, _⟩ => ⟨S2304x1024, .f32⟩
  | .hbm, ⟨121, _⟩ => ⟨S2304x1024, .f32⟩
  | .hbm, ⟨122, _⟩ => ⟨S2304x1024, .f32⟩
  | .hbm, ⟨123, _⟩ => ⟨S2304x1024, .bf16⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_13 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_call0_v0 : Ref sig .tc := ⟨.hbm, 113, rfl⟩
abbrev main_call0_v1 : Ref sig .tc := ⟨.hbm, 114, rfl⟩
abbrev main_call0_cst : Ref sig .tc := ⟨.hbm, 115, rfl⟩
abbrev main_call0_v2 : Ref sig .tc := ⟨.hbm, 116, rfl⟩
abbrev main_call0_v3 : Ref sig .tc := ⟨.hbm, 117, rfl⟩
abbrev main_call0_cst_0 : Ref sig .tc := ⟨.hbm, 118, rfl⟩
abbrev main_call0_v4 : Ref sig .tc := ⟨.hbm, 119, rfl⟩
abbrev main_call0_v5 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩

abbrev nD : Nat := 1
abbrev τ : Topo := Topo.v7x

variable {F : FTy → Type} [FloatOps F]
-- ==== KernelShift.lean ====
abbrev S2304x13568 : Shape := ⟨2, ![2304, 13568]⟩
abbrev S4x3328 : Shape := ⟨2, ![4, 3328]⟩
abbrev S2304x3328 : Shape := ⟨2, ![2304, 3328]⟩
abbrev S2304x128 : Shape := ⟨2, ![2304, 128]⟩
abbrev S4x128 : Shape := ⟨2, ![4, 128]⟩
abbrev S2304x1 : Shape := ⟨2, ![2304, 1]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S2304x13568, .f32⟩
  | .hbm, ⟨1, _⟩ => ⟨S4x3328, .f32⟩
  | .hbm, ⟨2, _⟩ => ⟨S2304x3328, .f32⟩
  | .local _ .vmem, ⟨0, _⟩ => ⟨S2304x128, .f32⟩
  | .local _ .vmem, ⟨1, _⟩ => ⟨S2304x128, .f32⟩
  | .local _ .vmem, ⟨2, _⟩ => ⟨S4x128, .f32⟩
  | .local _ .vmem, ⟨3, _⟩ => ⟨S4x128, .f32⟩
  | .local _ .vmem, ⟨4, _⟩ => ⟨S2304x128, .f32⟩
  | .local _ .vmem, ⟨5, _⟩ => ⟨S2304x128, .f32⟩
  | _, _ => ⟨S2304x13568, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceShiftIdeal.lean ====
abbrev S2304x13568 : Shape := ⟨2, ![2304, 13568]⟩
abbrev S4x3328 : Shape := ⟨2, ![4, 3328]⟩
abbrev S2304x3328 : Shape := ⟨2, ![2304, 3328]⟩
abbrev S256x3328 : Shape := ⟨2, ![256, 3328]⟩
abbrev S1x256x3328 : Shape := ⟨3, ![1, 256, 3328]⟩
abbrev S1x1x3328 : Shape := ⟨3, ![1, 1, 3328]⟩
abbrev S_ : Shape := ⟨0, ![]⟩
abbrev S1x255x3328 : Shape := ⟨3, ![1, 255, 3328]⟩
abbrev S1x3328 : Shape := ⟨2, ![1, 3328]⟩
abbrev S3328 : Shape := ⟨1, ![3328]⟩
abbrev S2048x3328 : Shape := ⟨2, ![2048, 3328]⟩
abbrev S32x64x3328 : Shape := ⟨3, ![32, 64, 3328]⟩
abbrev S32x1x3328 : Shape := ⟨3, ![32, 1, 3328]⟩
abbrev S32x63x3328 : Shape := ⟨3, ![32, 63, 3328]⟩
abbrev S1x64x3328 : Shape := ⟨3, ![1, 64, 3328]⟩
abbrev S31x64x3328 : Shape := ⟨3, ![31, 64, 3328]⟩

abbrev nBuf : Space → Nat
  | .hbm => 73
  | .vmem => 0
  | .smem => 0
  | _ => 0

abbrev bufTy : (tb : Table) → Fin (tcTables nBuf tb) → BufTy
  | .hbm, ⟨0, _⟩ => ⟨S2304x13568, .f32⟩
  | .hbm, ⟨1, _⟩ => ⟨S4x3328, .f32⟩
  | .hbm, ⟨2, _⟩ => ⟨S2304x3328, .f32⟩
  | .hbm, ⟨3, _⟩ => ⟨S256x3328, .f32⟩
  | .hbm, ⟨4, _⟩ => ⟨S1x256x3328, .f32⟩
  | .hbm, ⟨5, _⟩ => ⟨S1x1x3328, .f32⟩
  | .hbm, ⟨6, _⟩ => ⟨S_, .f32⟩
  | .hbm, ⟨7, _⟩ => ⟨S1x1x3328, .f32⟩
  | .hbm, ⟨8, _⟩ => ⟨S1x255x3328, .f32⟩
  | .hbm, ⟨9, _⟩ => ⟨S1x256x3328, .f32⟩
  | .hbm, ⟨10, _⟩ => ⟨S1x255x3328, .f32⟩
  | .hbm, ⟨11, _⟩ => ⟨S1x256x3328, .f32⟩
  | .hbm, ⟨12, _⟩ => ⟨S1x3328, .f32⟩
  | .hbm, ⟨13, _⟩ => ⟨S3328, .f32⟩
  | .hbm, ⟨14, _⟩ => ⟨S1x256x3328, .f32⟩
  | .hbm, ⟨15, _⟩ => ⟨S1x1x3328, .f32⟩
  | .hbm, ⟨16, _⟩ => ⟨S1x256x3328, .f32⟩
  | .hbm, ⟨17, _⟩ => ⟨S1x256x3328, .f32⟩
  | .hbm, ⟨18, _⟩ => ⟨S1x256x3328, .f32⟩
  | .hbm, ⟨19, _⟩ => ⟨S1x3328, .f32⟩
  | .hbm, ⟨20, _⟩ => ⟨S3328, .f32⟩
  | .hbm, ⟨21, _⟩ => ⟨S1x256x3328, .f32⟩
  | .hbm, ⟨22, _⟩ => ⟨S1x1x3328, .f32⟩
  | .hbm, ⟨23, _⟩ => ⟨S1x256x3328, .f32⟩
  | .hbm, ⟨24, _⟩ => ⟨S1x256x3328, .f32⟩
  | .hbm, ⟨25, _⟩ => ⟨S1x256x3328, .f32⟩
  | .hbm, ⟨26, _⟩ => ⟨S256x3328, .f32⟩
  | .hbm, ⟨27, _⟩ => ⟨S2048x3328, .f32⟩
  | .hbm, ⟨28, _⟩ => ⟨S32x64x3328, .f32⟩
  | .hbm, ⟨29, _⟩ => ⟨S32x1x3328, .f32⟩
  | .hbm, ⟨30, _⟩ => ⟨S_, .f32⟩
  | .hbm, ⟨31, _⟩ => ⟨S32x1x3328, .f32⟩
  | .hbm, ⟨32, _⟩ => ⟨S32x63x3328, .f32⟩
  | .hbm, ⟨33, _⟩ => ⟨S32x64x3328, .f32⟩
  | .hbm, ⟨34, _⟩ => ⟨S32x63x3328, .f32⟩
  | .hbm, ⟨35, _⟩ => ⟨S32x64x3328, .f32⟩
  | .hbm, ⟨36, _⟩ => ⟨S1x3328, .f32⟩
  | .hbm, ⟨37, _⟩ => ⟨S3328, .f32⟩
  | .hbm, ⟨38, _⟩ => ⟨S32x64x3328, .f32⟩
  | .hbm, ⟨39, _⟩ => ⟨S1x1x3328, .f32⟩
  | .hbm, ⟨40, _⟩ => ⟨S32x64x3328, .f32⟩
  | .hbm, ⟨41, _⟩ => ⟨S32x64x3328, .f32⟩
  | .hbm, ⟨42, _⟩ => ⟨S32x64x3328, .f32⟩
  | .hbm, ⟨43, _⟩ => ⟨S1x3328, .f32⟩
  | .hbm, ⟨44, _⟩ => ⟨S3328, .f32⟩
  | .hbm, ⟨45, _⟩ => ⟨S32x64x3328, .f32⟩
  | .hbm, ⟨46, _⟩ => ⟨S1x1x3328, .f32⟩
  | .hbm, ⟨47, _⟩ => ⟨S32x64x3328, .f32⟩
  | .hbm, ⟨48, _⟩ => ⟨S32x64x3328, .f32⟩
  | .hbm, ⟨49, _⟩ => ⟨S32x64x3328, .f32⟩
  | .hbm, ⟨50, _⟩ => ⟨S1x64x3328, .f32⟩
  | .hbm, ⟨51, _⟩ => ⟨S_, .f32⟩
  | .hbm, ⟨52, _⟩ => ⟨S1x64x3328, .f32⟩
  | .hbm, ⟨53, _⟩ => ⟨S31x64x3328, .f32⟩
  | .hbm, ⟨54, _⟩ => ⟨S32x64x3328, .f32⟩
  | .hbm, ⟨55, _⟩ => ⟨S31x64x3328, .f32⟩
  | .hbm, ⟨56, _⟩ => ⟨S32x64x3328, .f32⟩
  | .hbm, ⟨57, _⟩ => ⟨S1x3328, .f32⟩
  | .hbm, ⟨58, _⟩ => ⟨S3328, .f32⟩
  | .hbm, ⟨59, _⟩ => ⟨S32x64x3328, .f32⟩
  | .hbm, ⟨60, _⟩ => ⟨S1x1x3328, .f32⟩
  | .hbm, ⟨61, _⟩ => ⟨S32x64x3328, .f32⟩
  | .hbm, ⟨62, _⟩ => ⟨S32x64x3328, .f32⟩
  | .hbm, ⟨63, _⟩ => ⟨S32x64x3328, .f32⟩
  | .hbm, ⟨64, _⟩ => ⟨S1x3328, .f32⟩
  | .hbm, ⟨65, _⟩ => ⟨S3328, .f32⟩
  | .hbm, ⟨66, _⟩ => ⟨S32x64x3328, .f32⟩
  | .hbm, ⟨67, _⟩ => ⟨S1x1x3328, .f32⟩
  | .hbm, ⟨68, _⟩ => ⟨S32x64x3328, .f32⟩
  | .hbm, ⟨69, _⟩ => ⟨S32x64x3328, .f32⟩
  | .hbm, ⟨70, _⟩ => ⟨S32x64x3328, .f32⟩
  | .hbm, ⟨71, _⟩ => ⟨S2048x3328, .f32⟩
  | .hbm, ⟨72, _⟩ => ⟨S2304x3328, .f32⟩
  | _, _ => ⟨S2304x13568, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_cst_1 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩

abbrev nD : Nat := 1
abbrev τ : Topo := Topo.v7x

variable {F : FTy → Type} [FloatOps F]
-- ==== KernelShiftBwd.lean ====
abbrev S2304x13568 : Shape := ⟨2, ![2304, 13568]⟩
abbrev S4x3328 : Shape := ⟨2, ![4, 3328]⟩
abbrev S2304x3328 : Shape := ⟨2, ![2304, 3328]⟩
abbrev S2304x128 : Shape := ⟨2, ![2304, 128]⟩
abbrev S4x128 : Shape := ⟨2, ![4, 128]⟩
abbrev S2304x1 : Shape := ⟨2, ![2304, 1]⟩
abbrev S128 : Shape := ⟨1, ![128]⟩
abbrev S1x128 : Shape := ⟨2, ![1, 128]⟩

abbrev nBuf : Space → Nat
  | .hbm => 7
  | .vmem => 14
  | .smem => 0
  | _ => 0

abbrev bufTy : (tb : Table) → Fin (tcTables nBuf tb) → BufTy
  | .hbm, ⟨0, _⟩ => ⟨S2304x13568, .f32⟩
  | .hbm, ⟨1, _⟩ => ⟨S4x3328, .f32⟩
  | .hbm, ⟨2, _⟩ => ⟨S2304x3328, .f32⟩
  | .hbm, ⟨3, _⟩ => ⟨S2304x3328, .f32⟩
  | .hbm, ⟨4, _⟩ => ⟨S2304x3328, .f32⟩
  | .hbm, ⟨5, _⟩ => ⟨S2304x3328, .bf16⟩
  | .hbm, ⟨6, _⟩ => ⟨S4x3328, .f32⟩
  | .local _ .vmem, ⟨0, _⟩ => ⟨S2304x128, .f32⟩
  | .local _ .vmem, ⟨1, _⟩ => ⟨S2304x128, .f32⟩
  | .local _ .vmem, ⟨2, _⟩ => ⟨S4x128, .f32⟩
  | .local _ .vmem, ⟨3, _⟩ => ⟨S4x128, .f32⟩
  | .local _ .vmem, ⟨4, _⟩ => ⟨S2304x128, .f32⟩
  | .local _ .vmem, ⟨5, _⟩ => ⟨S2304x128, .f32⟩
  | .local _ .vmem, ⟨6, _⟩ => ⟨S2304x128, .f32⟩
  | .local _ .vmem, ⟨7, _⟩ => ⟨S2304x128, .f32⟩
  | .local _ .vmem, ⟨8, _⟩ => ⟨S2304x128, .f32⟩
  | .local _ .vmem, ⟨9, _⟩ => ⟨S2304x128, .f32⟩
  | .local _ .vmem, ⟨10, _⟩ => ⟨S2304x128, .bf16⟩
  | .local _ .vmem, ⟨11, _⟩ => ⟨S2304x128, .bf16⟩
  | .local _ .vmem, ⟨12, _⟩ => ⟨S4x128, .f32⟩
  | .local _ .vmem, ⟨13, _⟩ => ⟨S4x128, .f32⟩
  | _, _ => ⟨S2304x13568, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2304x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2304x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceShiftBwdIdeal.lean ====
abbrev S2304x13568 : Shape := ⟨2, ![2304, 13568]⟩
abbrev S4x3328 : Shape := ⟨2, ![4, 3328]⟩
abbrev S2304x3328 : Shape := ⟨2, ![2304, 3328]⟩
abbrev S256x3328 : Shape := ⟨2, ![256, 3328]⟩
abbrev S1x256x3328 : Shape := ⟨3, ![1, 256, 3328]⟩
abbrev S1x1x3328 : Shape := ⟨3, ![1, 1, 3328]⟩
abbrev S_ : Shape := ⟨0, ![]⟩
abbrev S1x255x3328 : Shape := ⟨3, ![1, 255, 3328]⟩
abbrev S1x3328 : Shape := ⟨2, ![1, 3328]⟩
abbrev S3328 : Shape := ⟨1, ![3328]⟩
abbrev S2048x3328 : Shape := ⟨2, ![2048, 3328]⟩
abbrev S32x64x3328 : Shape := ⟨3, ![32, 64, 3328]⟩
abbrev S32x1x3328 : Shape := ⟨3, ![32, 1, 3328]⟩
abbrev S32x63x3328 : Shape := ⟨3, ![32, 63, 3328]⟩
abbrev S1x64x3328 : Shape := ⟨3, ![1, 64, 3328]⟩
abbrev S31x64x3328 : Shape := ⟨3, ![31, 64, 3328]⟩

abbrev nBuf : Space → Nat
  | .hbm => 215
  | .vmem => 0
  | .smem => 0
  | _ => 0

abbrev hbmTy0_0 (i : Nat) : BufTy := match i % 128 with
  | 0 => ⟨S2304x13568, .f32⟩
  | 1 => ⟨S4x3328, .f32⟩
  | 2 => ⟨S2304x3328, .f32⟩
  | 3 => ⟨S2304x3328, .f32⟩
  | 4 => ⟨S2304x3328, .f32⟩
  | 5 => ⟨S2304x3328, .f32⟩
  | 6 => ⟨S256x3328, .f32⟩
  | 7 => ⟨S1x256x3328, .f32⟩
  | 8 => ⟨S1x1x3328, .f32⟩
  | 9 => ⟨S_, .f32⟩
  | 10 => ⟨S1x1x3328, .f32⟩
  | 11 => ⟨S1x255x3328, .f32⟩
  | 12 => ⟨S1x256x3328, .f32⟩
  | 13 => ⟨S_, .f32⟩
  | 14 => ⟨S1x1x3328, .f32⟩
  | 15 => ⟨S1x255x3328, .f32⟩
  | 16 => ⟨S1x256x3328, .f32⟩
  | 17 => ⟨S_, .f32⟩
  | 18 => ⟨S1x1x3328, .f32⟩
  | 19 => ⟨S1x3328, .f32⟩
  | 20 => ⟨S3328, .f32⟩
  | 21 => ⟨S1x256x3328, .f32⟩
  | 22 => ⟨S1x1x3328, .f32⟩
  | 23 => ⟨S1x256x3328, .f32⟩
  | 24 => ⟨S1x256x3328, .f32⟩
  | 25 => ⟨S1x256x3328, .f32⟩
  | 26 => ⟨S1x3328, .f32⟩
  | 27 => ⟨S3328, .f32⟩
  | 28 => ⟨S1x256x3328, .f32⟩
  | 29 => ⟨S1x1x3328, .f32⟩
  | 30 => ⟨S1x256x3328, .f32⟩
  | 31 => ⟨S1x256x3328, .f32⟩
  | 32 => ⟨S1x256x3328, .f32⟩
  | 33 => ⟨S256x3328, .f32⟩
  | 34 => ⟨S2048x3328, .f32⟩
  | 35 => ⟨S32x64x3328, .f32⟩
  | 36 => ⟨S32x1x3328, .f32⟩
  | 37 => ⟨S_, .f32⟩
  | 38 => ⟨S32x1x3328, .f32⟩
  | 39 => ⟨S32x63x3328, .f32⟩
  | 40 => ⟨S32x64x3328, .f32⟩
  | 41 => ⟨S_, .f32⟩
  | 42 => ⟨S32x1x3328, .f32⟩
  | 43 => ⟨S32x63x3328, .f32⟩
  | 44 => ⟨S32x64x3328, .f32⟩
  | 45 => ⟨S_, .f32⟩
  | 46 => ⟨S32x1x3328, .f32⟩
  | 47 => ⟨S1x3328, .f32⟩
  | 48 => ⟨S3328, .f32⟩
  | 49 => ⟨S32x64x3328, .f32⟩
  | 50 => ⟨S1x1x3328, .f32⟩
  | 51 => ⟨S32x64x3328, .f32⟩
  | 52 => ⟨S32x64x3328, .f32⟩
  | 53 => ⟨S32x64x3328, .f32⟩
  | 54 => ⟨S1x3328, .f32⟩
  | 55 => ⟨S3328, .f32⟩
  | 56 => ⟨S32x64x3328, .f32⟩
  | 57 => ⟨S1x1x3328, .f32⟩
  | 58 => ⟨S32x64x3328, .f32⟩
  | 59 => ⟨S32x64x3328, .f32⟩
  | 60 => ⟨S32x64x3328, .f32⟩
  | 61 => ⟨S1x64x3328, .f32⟩
  | 62 => ⟨S_, .f32⟩
  | 63 => ⟨S1x64x3328, .f32⟩
  | 64 => ⟨S31x64x3328, .f32⟩
  | 65 => ⟨S32x64x3328, .f32⟩
  | 66 => ⟨S_, .f32⟩
  | 67 => ⟨S1x64x3328, .f32⟩
  | 68 => ⟨S31x64x3328, .f32⟩
  | 69 => ⟨S32x64x3328, .f32⟩
  | 70 => ⟨S_, .f32⟩
  | 71 => ⟨S1x64x3328, .f32⟩
  | 72 => ⟨S1x3328, .f32⟩
  | 73 => ⟨S3328, .f32⟩
  | 74 => ⟨S32x64x3328, .f32⟩
  | 75 => ⟨S1x1x3328, .f32⟩
  | 76 => ⟨S32x64x3328, .f32⟩
  | 77 => ⟨S32x64x3328, .f32⟩
  | 78 => ⟨S32x64x3328, .f32⟩
  | 79 => ⟨S1x3328, .f32⟩
  | 80 => ⟨S3328, .f32⟩
  | 81 => ⟨S32x64x3328, .f32⟩
  | 82 => ⟨S1x1x3328, .f32⟩
  | 83 => ⟨S32x64x3328, .f32⟩
  | 84 => ⟨S32x64x3328, .f32⟩
  | 85 => ⟨S32x64x3328, .f32⟩
  | 86 => ⟨S2048x3328, .f32⟩
  | 87 => ⟨S2304x3328, .f32⟩
  | 88 => ⟨S2304x3328, .f32⟩
  | 89 => ⟨S2304x3328, .f32⟩
  | 90 => ⟨S256x3328, .f32⟩
  | 91 => ⟨S2048x3328, .f32⟩
  | 92 => ⟨S32x64x3328, .f32⟩
  | 93 => ⟨S32x64x3328, .f32⟩
  | 94 => ⟨S32x64x3328, .f32⟩
  | 95 => ⟨S32x64x3328, .f32⟩
  | 96 => ⟨S_, .f32⟩
  | 97 => ⟨S3328, .f32⟩
  | 98 => ⟨S1x1x3328, .f32⟩
  | 99 => ⟨S_, .f32⟩
  | 100 => ⟨S3328, .f32⟩
  | 101 => ⟨S32x64x3328, .f32⟩
  | 102 => ⟨S1x3328, .f32⟩
  | 103 => ⟨S_, .f32⟩
  | 104 => ⟨S4x3328, .f32⟩
  | 105 => ⟨S32x64x3328, .f32⟩
  | 106 => ⟨S32x64x3328, .f32⟩
  | 107 => ⟨S32x64x3328, .f32⟩
  | 108 => ⟨S_, .f32⟩
  | 109 => ⟨S3328, .f32⟩
  | 110 => ⟨S1x1x3328, .f32⟩
  | 111 => ⟨S_, .f32⟩
  | 112 => ⟨S3328, .f32⟩
  | 113 => ⟨S32x64x3328, .f32⟩
  | 114 => ⟨S32x64x3328, .f32⟩
  | 115 => ⟨S1x3328, .f32⟩
  | 116 => ⟨S_, .f32⟩
  | 117 => ⟨S4x3328, .f32⟩
  | 118 => ⟨S4x3328, .f32⟩
  | 119 => ⟨S31x64x3328, .f32⟩
  | 120 => ⟨S1x64x3328, .f32⟩
  | 121 => ⟨S_, .f32⟩
  | 122 => ⟨S32x64x3328, .f32⟩
  | 123 => ⟨S32x64x3328, .f32⟩
  | 124 => ⟨S1x64x3328, .f32⟩
  | 125 => ⟨S31x64x3328, .f32⟩
  | 126 => ⟨S_, .f32⟩
  | 127 => ⟨S32x64x3328, .f32⟩
  | _ => ⟨S2304x13568, .f32⟩

abbrev hbmTy0_1 (i : Nat) : BufTy := match i % 128 with
  | 0 => ⟨S32x64x3328, .f32⟩
  | 1 => ⟨S32x64x3328, .f32⟩
  | 2 => ⟨S32x64x3328, .f32⟩
  | 3 => ⟨S32x64x3328, .f32⟩
  | 4 => ⟨S_, .f32⟩
  | 5 => ⟨S3328, .f32⟩
  | 6 => ⟨S1x1x3328, .f32⟩
  | 7 => ⟨S_, .f32⟩
  | 8 => ⟨S3328, .f32⟩
  | 9 => ⟨S32x64x3328, .f32⟩
  | 10 => ⟨S32x64x3328, .f32⟩
  | 11 => ⟨S1x3328, .f32⟩
  | 12 => ⟨S_, .f32⟩
  | 13 => ⟨S4x3328, .f32⟩
  | 14 => ⟨S4x3328, .f32⟩
  | 15 => ⟨S32x64x3328, .f32⟩
  | 16 => ⟨S32x64x3328, .f32⟩
  | 17 => ⟨S32x64x3328, .f32⟩
  | 18 => ⟨S32x64x3328, .f32⟩
  | 19 => ⟨S_, .f32⟩
  | 20 => ⟨S3328, .f32⟩
  | 21 => ⟨S1x1x3328, .f32⟩
  | 22 => ⟨S_, .f32⟩
  | 23 => ⟨S3328, .f32⟩
  | 24 => ⟨S32x64x3328, .f32⟩
  | 25 => ⟨S32x64x3328, .f32⟩
  | 26 => ⟨S1x3328, .f32⟩
  | 27 => ⟨S_, .f32⟩
  | 28 => ⟨S4x3328, .f32⟩
  | 29 => ⟨S4x3328, .f32⟩
  | 30 => ⟨S32x63x3328, .f32⟩
  | 31 => ⟨S32x1x3328, .f32⟩
  | 32 => ⟨S_, .f32⟩
  | 33 => ⟨S32x64x3328, .f32⟩
  | 34 => ⟨S32x64x3328, .f32⟩
  | 35 => ⟨S32x1x3328, .f32⟩
  | 36 => ⟨S32x63x3328, .f32⟩
  | 37 => ⟨S_, .f32⟩
  | 38 => ⟨S32x64x3328, .f32⟩
  | 39 => ⟨S32x64x3328, .f32⟩
  | 40 => ⟨S2048x3328, .f32⟩
  | 41 => ⟨S_, .f32⟩
  | 42 => ⟨S2304x3328, .f32⟩
  | 43 => ⟨S1x256x3328, .f32⟩
  | 44 => ⟨S1x256x3328, .f32⟩
  | 45 => ⟨S1x256x3328, .f32⟩
  | 46 => ⟨S1x256x3328, .f32⟩
  | 47 => ⟨S_, .f32⟩
  | 48 => ⟨S1x3328, .f32⟩
  | 49 => ⟨S1x1x3328, .f32⟩
  | 50 => ⟨S_, .f32⟩
  | 51 => ⟨S3328, .f32⟩
  | 52 => ⟨S1x256x3328, .f32⟩
  | 53 => ⟨S1x3328, .f32⟩
  | 54 => ⟨S_, .f32⟩
  | 55 => ⟨S4x3328, .f32⟩
  | 56 => ⟨S4x3328, .f32⟩
  | 57 => ⟨S1x256x3328, .f32⟩
  | 58 => ⟨S1x256x3328, .f32⟩
  | 59 => ⟨S1x256x3328, .f32⟩
  | 60 => ⟨S1x256x3328, .f32⟩
  | 61 => ⟨S_, .f32⟩
  | 62 => ⟨S1x3328, .f32⟩
  | 63 => ⟨S1x1x3328, .f32⟩
  | 64 => ⟨S_, .f32⟩
  | 65 => ⟨S3328, .f32⟩
  | 66 => ⟨S1x256x3328, .f32⟩
  | 67 => ⟨S1x256x3328, .f32⟩
  | 68 => ⟨S1x3328, .f32⟩
  | 69 => ⟨S_, .f32⟩
  | 70 => ⟨S4x3328, .f32⟩
  | 71 => ⟨S4x3328, .f32⟩
  | 72 => ⟨S1x255x3328, .f32⟩
  | 73 => ⟨S1x1x3328, .f32⟩
  | 74 => ⟨S_, .f32⟩
  | 75 => ⟨S1x256x3328, .f32⟩
  | 76 => ⟨S1x256x3328, .f32⟩
  | 77 => ⟨S1x1x3328, .f32⟩
  | 78 => ⟨S1x255x3328, .f32⟩
  | 79 => ⟨S_, .f32⟩
  | 80 => ⟨S1x256x3328, .f32⟩
  | 81 => ⟨S1x256x3328, .f32⟩
  | 82 => ⟨S256x3328, .f32⟩
  | 83 => ⟨S_, .f32⟩
  | 84 => ⟨S2304x3328, .f32⟩
  | 85 => ⟨S2304x3328, .f32⟩
  | 86 => ⟨S2304x3328, .bf16⟩
  | _ => ⟨S2304x13568, .f32⟩

abbrev hbmTy (i : Nat) : BufTy := match i / 128 with
  | 0 => hbmTy0_0 i
  | 1 => hbmTy0_1 i
  | _ => ⟨S2304x13568, .f32⟩

abbrev bufTy : (tb : Table) → Fin (tcTables nBuf tb) → BufTy
  | .hbm, ⟨i, _⟩ => hbmTy i
  | _, _ => ⟨S2304x13568, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_8 : Ref sig .tc := ⟨.hbm, 96, rfl⟩
abbrev main_v82 : Ref sig .tc := ⟨.hbm, 97, rfl⟩
abbrev main_v83 : Ref sig .tc := ⟨.hbm, 98, rfl⟩
abbrev main_cst_9 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_10 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_11 : Ref sig .tc := ⟨.hbm, 108, rfl⟩
abbrev main_v91 : Ref sig .tc := ⟨.hbm, 109, rfl⟩
abbrev main_v92 : Ref sig .tc := ⟨.hbm, 110, rfl⟩
abbrev main_cst_12 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_13 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_14 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_15 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_16 : Ref sig .tc := ⟨.hbm, 132, rfl⟩
abbrev main_v110 : Ref sig .tc := ⟨.hbm, 133, rfl⟩
abbrev main_v111 : Ref sig .tc := ⟨.hbm, 134, rfl⟩
abbrev main_cst_17 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_18 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_cst_19 : Ref sig .tc := ⟨.hbm, 147, rfl⟩
abbrev main_v122 : Ref sig .tc := ⟨.hbm, 148, rfl⟩
abbrev main_v123 : Ref sig .tc := ⟨.hbm, 149, rfl⟩
abbrev main_cst_20 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_21 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_22 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_23 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_24 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_25 : Ref sig .tc := ⟨.hbm, 175, rfl⟩
abbrev main_v144 : Ref sig .tc := ⟨.hbm, 176, rfl⟩
abbrev main_v145 : Ref sig .tc := ⟨.hbm, 177, rfl⟩
abbrev main_cst_26 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_27 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_cst_28 : Ref sig .tc := ⟨.hbm, 189, rfl⟩
abbrev main_v155 : Ref sig .tc := ⟨.hbm, 190, rfl⟩
abbrev main_v156 : Ref sig .tc := ⟨.hbm, 191, rfl⟩
abbrev main_cst_29 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_cst_30 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_31 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_32 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_cst_33 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩

abbrev nD : Nat := 1
abbrev τ : Topo := Topo.v7x

variable {F : FTy → Type} [FloatOps F]
-- ==== Proof.Intra.lean ====
/-
  One block of 16 tokens against itself. The kernel builds the gradient of its inputs from 16 terms, one for each row `s`
  that receives, each a weighted sum over the rows `t` from `s` on. Here the block is read entry by entry:
  row `s` ends with the sum over `t ≥ s` of weight(t, s) times the output gradient of row `t`.
-/
module

public import Idealize.ShloMosaic.Lib.Pointwise
public import Idealize.ShloMosaic.Lib.Pointwise.IndexVar
public import Idealize.ShloMosaic.Lib.ShapeFacts

@[expose] public section

noncomputable section

namespace Cert.Scan

open Idealize.ShloMosaic

abbrev Rows (n : ℕ) : Shape := ⟨3, ![n, 8, 128]⟩
abbrev Cells (n : ℕ) : Shape := ⟨2, ![n, 8]⟩
abbrev Ones (n : ℕ) : Shape := ⟨3, ![n, 8, 1]⟩
abbrev OneRow : Shape := ⟨2, ![8, 128]⟩

abbrev Blk : Type := FVec Ideal (Rows 16) .f32

/-- rows `a ..` of a block against row `a` -/
def weights (a n : ℕ) (q k b : Blk)
    (hs : (Rows 16).Slices ![a, 0, 0] (Rows n)) (h1 : (Rows 16).Slices ![a, 0, 0] (Rows 1))
    (hb : (Rows 1).Broadcasts (Rows n)) (hr : (Rows n).Reduces [2] (Cells n)) (hc : (Cells n).ShapeCasts (Ones n)) :
    FVec Ideal (Ones n) .f32 :=
  shapeCast (Ones n) (multiReduction .add [2] (Cells n)
    (mulf (mulf (extractStridedSlice (Rows n) ![a, 0, 0] q hs) (broadcastTo (Rows n) (extractStridedSlice (Rows 1) ![a, 0, 0] k h1) hb))
      (exp (minimumf (subf (extractStridedSlice (Rows n) ![a, 0, 0] b hs) (broadcastTo (Rows n) (extractStridedSlice (Rows 1) ![a, 0, 0] b h1) hb))
        (broadcast (Rows n) (Scalar.ofBits .f32 0x00000000#32))))) 0x00000000#32 hr (.inl rfl) rfl) hc

/-- the weight of row `t` on row `s` -/
def wt (q k b : Blk) (t s : Fin 16) (h : Fin 8) : EReal :=
  ∑ x : Fin 128, q (ix3 t h x) * k (ix3 s h x) * Ideal.exp (min (b (ix3 t h x) - b (ix3 s h x)) 0)

theorem dropUnit (n : ℕ) (hc : (Cells n).ShapeCasts (Ones n)) (t : Fin n) (h : Fin 8) :
    Shape.reshapeEquiv hc (ix3 t h 0) = ix2 t h := by
  apply Shape.reshapeEquiv_eq_of_rowMajor
  rw [rowMajor_val2 _ 8 rfl, rowMajor_val3 _ 8 1 rfl rfl]
  simp

theorem weights_apply (a n : ℕ) (q k b : Blk)
    (hs : (Rows 16).Slices ![a, 0, 0] (Rows n)) (h1 : (Rows 16).Slices ![a, 0, 0] (Rows 1))
    (hb : (Rows 1).Broadcasts (Rows n)) (hr : (Rows n).Reduces [2] (Cells n)) (hc : (Cells n).ShapeCasts (Ones n))
    (t : Fin n) (h : Fin 8) (hat : a + t < 16) :
    weights a n q k b hs h1 hb hr hc (ix3 t h 0) = wt q k b ⟨a + t, hat⟩ ⟨a, by omega⟩ h := by
  pointwise [weights]
  simp only [dropUnit]
  rfl

/-- the sum over the rows `t ≥ a` of weight times `d` -/
def colSum (a n : ℕ) (w : FVec Ideal (Ones n) .f32) (d : Blk) (hs : (Rows 16).Slices ![a, 0, 0] (Rows n))
    (hw : (Ones n).Broadcasts (Rows n)) (hr : (Rows n).Reduces [0] OneRow) (hc : OneRow.ShapeCasts (Rows 1)) : FVec Ideal (Rows 1) .f32 :=
  shapeCast (Rows 1) (multiReduction .add [0] OneRow
    (mulf (broadcastTo (Rows n) w hw) (extractStridedSlice (Rows n) ![a, 0, 0] d hs)) 0x00000000#32 hr (.inl rfl) rfl) hc

theorem colSum_apply (a n : ℕ) (w : FVec Ideal (Ones n) .f32) (d : Blk) (hs : (Rows 16).Slices ![a, 0, 0] (Rows n))
    (hw : (Ones n).Broadcasts (Rows n)) (hr : (Rows n).Reduces [0] OneRow) (hc : OneRow.ShapeCasts (Rows 1))
    (han : a + n ≤ 16) (h : Fin 8) (v : Fin 128) :
    colSum a n w d hs hw hr hc (ix3 0 h v) = ∑ t : Fin n, w (ix3 t h 0) * d (ix3 ⟨a + t, by omega⟩ h v) := by
  pointwise [colSum]
  refine Finset.sum_congr rfl fun t _ => ?_
  congr 3
  by_cases hn : n = 1
  · subst hn; exact Subsingleton.elim _ _
  · exact dif_neg hn

def place (a m b : ℕ) (x : FVec Ideal (Rows 1) .f32) (h1 : Shape.Concatenates [Rows a, Rows 1] (Rows m) 0)
    (h2 : Shape.Concatenates [Rows m, Rows b] (Rows 16) 0) : Blk :=
  concatenate (Rows 16) 0 [⟨Rows m, concatenate (Rows m) 0 [⟨Rows a, broadcast (Rows a) (Scalar.ofBits .f32 0x00000000#32)⟩, ⟨Rows 1, x⟩] h1⟩,
    ⟨Rows b, broadcast (Rows b) (Scalar.ofBits .f32 0x00000000#32)⟩] h2

theorem place_apply (a m b : ℕ) (x : FVec Ideal (Rows 1) .f32) (h1 : Shape.Concatenates [Rows a, Rows 1] (Rows m) 0)
    (h2 : Shape.Concatenates [Rows m, Rows b] (Rows 16) 0) (r : Fin 16) (h : Fin 8) (v : Fin 128) :
    place a m b x h1 h2 (ix3 r h v) = if r.val = a then x (ix3 0 h v) else 0 := by
  have hm : m = a + 1 := by simpa using h1.2.2.symm
  subst hm
  pointwise [place]
  by_cases hr : r.val = a
  · subst hr; simp
  · rw [if_neg hr]
    split
    · rw [dif_pos (by omega)]
    · rfl

/-- row 15 of a block against itself -/
def weightsLast (q k b : Blk) (h1 : (Rows 16).Slices ![15, 0, 0] (Rows 1))
    (hr : (Rows 1).Reduces [2] (Cells 1)) (hc : (Cells 1).ShapeCasts (Ones 1)) : FVec Ideal (Ones 1) .f32 :=
  shapeCast (Ones 1) (multiReduction .add [2] (Cells 1)
    (mulf (mulf (extractStridedSlice (Rows 1) ![15, 0, 0] q h1) (extractStridedSlice (Rows 1) ![15, 0, 0] k h1))
      (exp (minimumf (subf (extractStridedSlice (Rows 1) ![15, 0, 0] b h1) (extractStridedSlice (Rows 1) ![15, 0, 0] b h1))
        (broadcast (Rows 1) (Scalar.ofBits .f32 0x00000000#32))))) 0x00000000#32 hr (.inl rfl) rfl) hc

def lastTerm (q k b d : Blk) (h1 : (Rows 16).Slices ![15, 0, 0] (Rows 1))
    (hr : (Rows 1).Reduces [2] (Cells 1)) (hc : (Cells 1).ShapeCasts (Ones 1)) (hw : (Ones 1).Broadcasts (Rows 1))
    (h2 : Shape.Concatenates [Rows 15, Rows 1] (Rows 16) 0) : Blk :=
  concatenate (Rows 16) 0 [⟨Rows 15, broadcast (Rows 15) (Scalar.ofBits .f32 0x00000000#32)⟩,
    ⟨Rows 1, mulf (broadcastTo (Rows 1) (weightsLast q k b h1 hr hc) hw) (extractStridedSlice (Rows 1) ![15, 0, 0] d h1)⟩] h2

/-- all rows of a block against row 0 -/
def weightsFirst (q k b : Blk) (h1 : (Rows 16).Slices ![0, 0, 0] (Rows 1)) (hb : (Rows 1).Broadcasts (Rows 16))
    (hr : (Rows 16).Reduces [2] (Cells 16)) (hc : (Cells 16).ShapeCasts (Ones 16)) : FVec Ideal (Ones 16) .f32 :=
  shapeCast (Ones 16) (multiReduction .add [2] (Cells 16)
    (mulf (mulf q (broadcastTo (Rows 16) (extractStridedSlice (Rows 1) ![0, 0, 0] k h1) hb))
      (exp (minimumf (subf b (broadcastTo (Rows 16) (extractStridedSlice (Rows 1) ![0, 0, 0] b h1) hb))
        (broadcast (Rows 16) (Scalar.ofBits .f32 0x00000000#32))))) 0x00000000#32 hr (.inl rfl) rfl) hc

def firstTerm (q k b d : Blk) (h1 : (Rows 16).Slices ![0, 0, 0] (Rows 1)) (hb : (Rows 1).Broadcasts (Rows 16))
    (hr : (Rows 16).Reduces [2] (Cells 16)) (hc : (Cells 16).ShapeCasts (Ones 16)) (hw : (Ones 16).Broadcasts (Rows 16))
    (hr0 : (Rows 16).Reduces [0] OneRow) (hc1 : OneRow.ShapeCasts (Rows 1))
    (h2 : Shape.Concatenates [Rows 1, Rows 15] (Rows 16) 0) : Blk :=
  concatenate (Rows 16) 0 [⟨Rows 1, shapeCast (Rows 1) (multiReduction .add [0] OneRow
      (mulf (broadcastTo (Rows 16) (weightsFirst q k b h1 hb hr hc) hw) d) 0x00000000#32 hr0 (.inl rfl) rfl) hc1⟩,
    ⟨Rows 15, broadcast (Rows 15) (Scalar.ofBits .f32 0x00000000#32)⟩] h2

/-- rows `s ≤ t` only -/
def down (q k b d : Blk) (s : Fin 16) (h : Fin 8) (v : Fin 128) : EReal :=
  ∑ t : Fin 16, if s ≤ t then wt q k b t s h * d (ix3 t h v) else 0

theorem lastTerm_apply (q k b d : Blk) (h1 : (Rows 16).Slices ![15, 0, 0] (Rows 1))
    (hr : (Rows 1).Reduces [2] (Cells 1)) (hc : (Cells 1).ShapeCasts (Ones 1)) (hw : (Ones 1).Broadcasts (Rows 1))
    (h2 : Shape.Concatenates [Rows 15, Rows 1] (Rows 16) 0) (r : Fin 16) (h : Fin 8) (v : Fin 128) :
    lastTerm q k b d h1 hr hc hw h2 (ix3 r h v) = if r.val = 15 then down q k b d 15 h v else 0 := by
  have e : down q k b d 15 h v = wt q k b 15 15 h * d (ix3 15 h v) := by
    unfold down
    rw [Finset.sum_eq_single (15 : Fin 16)]
    · simp
    · intro t _ ht; rw [if_neg]; omega
    · simp
  rw [e]
  pointwise [lastTerm, weightsLast]
  by_cases hr : r.val = 15
  · rw [dif_neg (by omega), if_pos hr]
    simp only [hr]; rfl
  · rw [dif_pos (by omega), if_neg hr]

theorem firstTerm_apply (q k b d : Blk) (h1 : (Rows 16).Slices ![0, 0, 0] (Rows 1)) (hb : (Rows 1).Broadcasts (Rows 16))
    (hr : (Rows 16).Reduces [2] (Cells 16)) (hc : (Cells 16).ShapeCasts (Ones 16)) (hw : (Ones 16).Broadcasts (Rows 16))
    (hr0 : (Rows 16).Reduces [0] OneRow) (hc1 : OneRow.ShapeCasts (Rows 1))
    (h2 : Shape.Concatenates [Rows 1, Rows 15] (Rows 16) 0) (r : Fin 16) (h : Fin 8) (v : Fin 128) :
    firstTerm q k b d h1 hb hr hc hw hr0 hc1 h2 (ix3 r h v) = if r.val = 0 then down q k b d 0 h v else 0 := by
  pointwise [firstTerm, weightsFirst, down]
  by_cases hr : r.val = 0
  · rw [dif_pos (by omega), if_pos hr]; rfl
  · rw [dif_neg (by omega), if_neg hr]

/-- the term of row `a`, 1 ≤ a ≤ 14 -/
def midTerm (a m n e : ℕ) (q k b d : Blk)
    (hs : (Rows 16).Slices ![a, 0, 0] (Rows n)) (h1 : (Rows 16).Slices ![a, 0, 0] (Rows 1))
    (hb : (Rows 1).Broadcasts (Rows n)) (hr : (Rows n).Reduces [2] (Cells n)) (hc : (Cells n).ShapeCasts (Ones n))
    (hw : (Ones n).Broadcasts (Rows n)) (hr0 : (Rows n).Reduces [0] OneRow) (hc1 : OneRow.ShapeCasts (Rows 1))
    (h2 : Shape.Concatenates [Rows a, Rows 1] (Rows m) 0) (h3 : Shape.Concatenates [Rows m, Rows e] (Rows 16) 0) : Blk :=
  place a m e (colSum a n (weights a n q k b hs h1 hb hr hc) d hs hw hr0 hc1) h2 h3

theorem sum_from (a n : ℕ) (han : a + n = 16) (f : Fin 16 → EReal) (ha : a < 16) :
    ∑ t : Fin n, f ⟨a + t, by omega⟩ = ∑ t : Fin 16, if (⟨a, ha⟩ : Fin 16) ≤ t then f t else 0 := by
  rw [← Finset.sum_filter]
  refine Finset.sum_bij (fun t _ => (⟨a + t, by omega⟩ : Fin 16)) ?_ ?_ ?_ ?_
  · intro t _; simp [Fin.le_def]
  · intro t _ t' _ h; simpa [Fin.ext_iff] using h
  · intro t ht
    have : a ≤ t.val := by simpa [Fin.le_def] using ht
    exact ⟨⟨t.val - a, by omega⟩, by simp, by ext; simp; omega⟩
  · intro t _; rfl

theorem midTerm_apply (a m n e : ℕ) (q k b d : Blk)
    (hs : (Rows 16).Slices ![a, 0, 0] (Rows n)) (h1 : (Rows 16).Slices ![a, 0, 0] (Rows 1))
    (hb : (Rows 1).Broadcasts (Rows n)) (hr : (Rows n).Reduces [2] (Cells n)) (hc : (Cells n).ShapeCasts (Ones n))
    (hw : (Ones n).Broadcasts (Rows n)) (hr0 : (Rows n).Reduces [0] OneRow) (hc1 : OneRow.ShapeCasts (Rows 1))
    (h2 : Shape.Concatenates [Rows a, Rows 1] (Rows m) 0) (h3 : Shape.Concatenates [Rows m, Rows e] (Rows 16) 0)
    (han : a + n = 16) (ha : a < 16) (r : Fin 16) (h : Fin 8) (v : Fin 128) :
    midTerm a m n e q k b d hs h1 hb hr hc hw hr0 hc1 h2 h3 (ix3 r h v)
      = if r.val = a then down q k b d ⟨a, ha⟩ h v else 0 := by
  unfold midTerm
  rw [place_apply, colSum_apply _ _ _ _ _ _ _ _ (by omega)]
  congr 1
  rw [down, ← sum_from a n han (fun t => wt q k b t ⟨a, ha⟩ h * d (ix3 t h v)) ha]
  exact Finset.sum_congr rfl fun t _ => by rw [weights_apply _ _ _ _ _ _ _ _ _ _ _ _ (by omega)]

def mid (a m n e : ℕ) (q k b d : Blk)
    (hs : (Rows 16).Slices ![a, 0, 0] (Rows n) := by decide) (h1 : (Rows 16).Slices ![a, 0, 0] (Rows 1) := by decide)
    (hb : (Rows 1).Broadcasts (Rows n) := by decide) (hr : (Rows n).Reduces [2] (Cells n) := by decide)
    (hc : (Cells n).ShapeCasts (Ones n) := by decide)
    (hw : (Ones n).Broadcasts (Rows n) := by decide) (hr0 : (Rows n).Reduces [0] OneRow := by decide)
    (hc1 : OneRow.ShapeCasts (Rows 1) := by decide)
    (h2 : Shape.Concatenates [Rows a, Rows 1] (Rows m) 0 := by decide)
    (h3 : Shape.Concatenates [Rows m, Rows e] (Rows 16) 0 := by decide) : Blk :=
  midTerm a m n e q k b d hs h1 hb hr hc hw hr0 hc1 h2 h3

/-- one block of 16 rows -/
def block (q k b d : Blk) : Blk :=
  addf (addf (addf (addf (addf (addf (addf (addf (addf (addf (addf (addf (addf (addf (addf
    (lastTerm q k b d (by decide) (by decide) (by decide) (by decide) (by decide))
    (mid 14 15 2 1 q k b d)) (mid 13 14 3 2 q k b d)) (mid 12 13 4 3 q k b d)) (mid 11 12 5 4 q k b d)) (mid 10 11 6 5 q k b d))
    (mid 9 10 7 6 q k b d)) (mid 8 9 8 7 q k b d)) (mid 7 8 9 8 q k b d)) (mid 6 7 10 9 q k b d)) (mid 5 6 11 10 q k b d))
    (mid 4 5 12 11 q k b d)) (mid 3 4 13 12 q k b d)) (mid 2 3 14 13 q k b d)) (mid 1 2 15 14 q k b d))
    (firstTerm q k b d (by decide) (by decide) (by decide) (by decide) (by decide) (by decide) (by decide) (by decide))

theorem block_apply (q k b d : Blk) (r : Fin 16) (h : Fin 8) (v : Fin 128) :
    block q k b d (ix3 r h v) = down q k b d r h v := by
  unfold block mid
  simp only [addf_apply, Ideal.addf_def, lastTerm_apply, firstTerm_apply]
  simp (disch := omega) only [midTerm_apply]
  fin_cases r <;> simp

end Cert.Scan
-- ==== Proof.Chunk.lean ====
/-
  One chunk of 64 tokens, as the kernel computes it: what the carried state's gradient sends back, what each block of 16
  tokens sends to the blocks before it (through exponents measured from the row before that block, so that none is
  positive), and what each block sends to itself. The sum is then read entry by entry.
-/
module

public import proofs.«01_k».proof.Proof.Intra

@[expose] public section

set_option maxRecDepth 16384

noncomputable section

namespace Cert.Scan

open Idealize.ShloMosaic

abbrev Wide (n : ℕ) : Shape := ⟨2, ![n, 1024]⟩
abbrev Heads (n : ℕ) : Shape := ⟨3, ![8, n, 128]⟩
abbrev Pairs (m n : ℕ) : Shape := ⟨3, ![8, m, n]⟩

/-- The lane of head `h` and feature `x`. -/
def lane (h : Fin 8) (x : Fin 128) : Fin 1024 := ⟨h.val * 128 + x.val, by omega⟩

theorem lane_div (h : Fin 8) (x : Fin 128) (hp) : (⟨(lane h x).val / 128, hp⟩ : Fin 8) = h := by
  apply Fin.ext; simp only [lane]; omega
theorem lane_mod (h : Fin 8) (x : Fin 128) (hp) : (⟨(lane h x).val % 128, hp⟩ : Fin 128) = x := by
  apply Fin.ext; simp only [lane]; omega

/-- Contraction over the features, head by head. -/
def overFeatures (m n : ℕ) (wf : DotDims.WF (Heads m) (Heads n) (Pairs m n) [2] [2] [1] [1] [0] [0]) : DotDims (Heads m) (Heads n) (Pairs m n) where
  lhsContracting := [2]
  rhsContracting := [2]
  lhsNonContracting := [1]
  rhsNonContracting := [1]
  lhsBatch := [0]
  rhsBatch := [0]
  wf := wf

/-- Contraction over the tokens, head by head. -/
def overTokens (n : ℕ) (wf : DotDims.WF (Heads 16) (Pairs 16 n) (Pairs 128 n) [1] [1] [2] [2] [0] [0]) :
    DotDims (Heads 16) (Pairs 16 n) (Pairs 128 n) where
  lhsContracting := [1]
  rhsContracting := [1]
  lhsNonContracting := [2]
  rhsNonContracting := [2]
  lhsBatch := [0]
  rhsBatch := [0]
  wf := wf

theorem cat_16_16_16 : Shape.Concatenates [Wide 16, Wide 16, Wide 16] (Wide 48) 0 := by decide
theorem cat_16_16 : Shape.Concatenates [Wide 16, Wide 16] (Wide 32) 0 := by decide
theorem cat_16_48 : Shape.Concatenates [Wide 16, Wide 48] (Wide 64) 0 := by decide
theorem cat_48_16 : Shape.Concatenates [Wide 48, Wide 16] (Wide 64) 0 := by decide
theorem cat_32_32 : Shape.Concatenates [Wide 32, Wide 32] (Wide 64) 0 := by decide
theorem cat_32_16 : Shape.Concatenates [Wide 32, Wide 16] (Wide 48) 0 := by decide

abbrev Chunk : Type := FVec Ideal (Wide 64) .f32

def cut (n a : ℕ) (x : Chunk) (h : (Wide 64).Slices ![a, 0] (Wide n) := by decide) : FVec Ideal (Wide n) .f32 :=
  extractStridedSlice (Wide n) ![a, 0] x h

def byHead (n : ℕ) (x : FVec Ideal (Wide n) .f32) (h : (Wide n).ShapeCasts (Rows n) := by decide)
    (h' : (Rows n).Transposes [1, 0, 2] (Heads n) := by decide) : FVec Ideal (Heads n) .f32 :=
  transpose (Heads n) [1, 0, 2] (shapeCast (Rows n) x h) h'

def byToken (n : ℕ) (x : FVec Ideal (Heads n) .f32) (h : (Rows n).ShapeCasts (Wide n) := by decide)
    (h' : (Heads n).Transposes [1, 0, 2] (Rows n) := by decide) : FVec Ideal (Wide n) .f32 :=
  shapeCast (Wide n) (transpose (Rows n) [1, 0, 2] x h') h

def zeros (n : ℕ) : FVec Ideal (Wide n) .f32 := broadcast (Wide n) (Scalar.ofBits .f32 0x00000000#32)

/-- the exponent just before row `a` -/
def start (a : ℕ) (b g : Chunk) (h : (Wide 64).Slices ![a, 0] (Wide 1) := by decide) : FVec Ideal (Wide 1) .f32 :=
  subf (cut 1 a b h) (cut 1 a g h)

def queries (a : ℕ) (q b g : Chunk) (h : (Wide 64).Slices ![a, 0] (Wide 16) := by decide)
    (h1 : (Wide 64).Slices ![a, 0] (Wide 1) := by decide) : FVec Ideal (Wide 16) .f32 :=
  mulf (cut 16 a q h) (exp (subf (cut 16 a b h) (broadcastTo (Wide 16) (start a b g h1) (by decide))))

def keys (a p : ℕ) (k b g : Chunk) (h : (Wide 64).Slices ![p, 0] (Wide 16) := by decide)
    (h1 : (Wide 64).Slices ![a, 0] (Wide 1) := by decide) : FVec Ideal (Wide 16) .f32 :=
  mulf (cut 16 p k h) (exp (subf (broadcastTo (Wide 16) (start a b g h1) (by decide)) (cut 16 p b h)))

/-- what the 16 rows from row `a` send back to the `n` rows whose keys are `kp` -/
def back (a n : ℕ) (q b g d : Chunk) (kp : FVec Ideal (Wide n) .f32)
    (h : (Wide 64).Slices ![a, 0] (Wide 16) := by decide) (h1 : (Wide 64).Slices ![a, 0] (Wide 1) := by decide)
    (c1 : (Wide n).ShapeCasts (Rows n) := by decide) (c2 : (Rows n).Transposes [1, 0, 2] (Heads n) := by decide)
    (c3 : (Rows n).ShapeCasts (Wide n) := by decide) (c4 : (Heads n).Transposes [1, 0, 2] (Rows n) := by decide)
    (c5 : (Pairs 128 n).Transposes [0, 2, 1] (Heads n) := by decide)
    (w1 : DotDims.WF (Heads 16) (Heads n) (Pairs 16 n) [2] [2] [1] [1] [0] [0] := by decide)
    (w2 : DotDims.WF (Heads 16) (Pairs 16 n) (Pairs 128 n) [1] [1] [2] [2] [0] [0] := by decide) : FVec Ideal (Wide n) .f32 :=
  byToken n (transpose (Heads n) [0, 2, 1]
    (matmul (overTokens n w2) none (byHead 16 (cut 16 a d h))
      (matmul (overFeatures 16 n w1) none (byHead 16 (queries a q b g h h1)) (byHead n kp c1 c2) (constant (Pairs 16 n) .f32 0x00000000#32))
      (constant (Pairs 128 n) .f32 0x00000000#32)) c5) c3 c4

def keys48 (k b g : Chunk) : FVec Ideal (Wide 48) .f32 :=
  concatenate (Wide 48) 0 [⟨Wide 16, keys 48 0 k b g⟩, ⟨Wide 16, keys 48 16 k b g⟩, ⟨Wide 16, keys 48 32 k b g⟩] cat_16_16_16

def keys32 (k b g : Chunk) : FVec Ideal (Wide 32) .f32 :=
  concatenate (Wide 32) 0 [⟨Wide 16, keys 32 0 k b g⟩, ⟨Wide 16, keys 32 16 k b g⟩] cat_16_16

def cut' (n m a : ℕ) (x : FVec Ideal (Wide n) .f32) (h : (Wide n).Slices ![a, 0] (Wide m) := by decide) : FVec Ideal (Wide m) .f32 :=
  extractStridedSlice (Wide m) ![a, 0] x h

def put0 (x : FVec Ideal (Wide 16) .f32) : Chunk :=
  concatenate (Wide 64) 0 [⟨Wide 16, x⟩, ⟨Wide 48, zeros 48⟩] cat_16_48
def put16 (x : FVec Ideal (Wide 16) .f32) : Chunk :=
  concatenate (Wide 64) 0 [⟨Wide 32, concatenate (Wide 32) 0 [⟨Wide 16, zeros 16⟩, ⟨Wide 16, x⟩] cat_16_16⟩, ⟨Wide 32, zeros 32⟩] cat_32_32
def put32 (x : FVec Ideal (Wide 16) .f32) : Chunk :=
  concatenate (Wide 64) 0 [⟨Wide 48, concatenate (Wide 48) 0 [⟨Wide 32, zeros 32⟩, ⟨Wide 16, x⟩] cat_32_16⟩, ⟨Wide 16, zeros 16⟩] cat_48_16
def put48 (x : FVec Ideal (Wide 16) .f32) : Chunk :=
  concatenate (Wide 64) 0 [⟨Wide 48, zeros 48⟩, ⟨Wide 16, x⟩] cat_48_16

abbrev State : Type := FVec Ideal (Heads 128) .f32

def toState : DotDims (Heads 128) (Heads 64) (Pairs 128 64) := overFeatures 128 64 (by decide)

/-- what the state's gradient sends back -/
def fromState (k b : Chunk) (S : State) : Chunk :=
  byToken 64 (transpose (Heads 64) [0, 2, 1] (matmul toState none S
    (byHead 64 (mulf k (exp (subf (broadcastTo (Wide 64) (cut 1 63 b) (by decide)) b)))) (constant (Pairs 128 64) .f32 0x00000000#32)) (by decide))

def split16 (a : ℕ) (x : Chunk) (h : (Wide 64).Slices ![a, 0] (Wide 16) := by decide) : Blk := shapeCast (Rows 16) (cut 16 a x h) (by decide)

def inBlock (a : ℕ) (q k b d : Chunk) (h : (Wide 64).Slices ![a, 0] (Wide 16) := by decide) : FVec Ideal (Wide 16) .f32 :=
  shapeCast (Wide 16) (block (split16 a q h) (split16 a k h) (split16 a b h) (split16 a d h)) (by decide)

def chunkDi (q k b g d : Chunk) (S : State) : Chunk :=
  let y3 := back 48 48 q b g d (keys48 k b g)
  let y2 := back 32 32 q b g d (keys32 k b g)
  let y1 := back 16 16 q b g d (keys 16 0 k b g)
  addf (addf (addf (addf
    (addf (addf (addf (addf (addf (addf (fromState k b S) (put32 (cut' 48 16 32 y3))) (put16 (cut' 48 16 16 y3))) (put0 (cut' 48 16 0 y3)))
      (put16 (cut' 32 16 16 y2))) (put0 (cut' 32 16 0 y2))) (put0 y1))
    (put48 (inBlock 48 q k b d))) (put32 (inBlock 32 q k b d))) (put16 (inBlock 16 q k b d))) (put0 (inBlock 0 q k b d))

/-- row `r` receives from the 16 rows from row `a` -/
def cross (a : ℕ) (ha : a + 16 ≤ 64) (q k b g d : Chunk) (r : Fin 64) (h : Fin 8) (v : Fin 128) : EReal :=
  ∑ t : Fin 16, d (ix2 ⟨a + t, by omega⟩ (lane h v)) * ∑ x : Fin 128,
    (q (ix2 ⟨a + t, by omega⟩ (lane h x)) * Ideal.exp (b (ix2 ⟨a + t, by omega⟩ (lane h x))
        - (b (ix2 ⟨a, by omega⟩ (lane h x)) - g (ix2 ⟨a, by omega⟩ (lane h x)))))
      * (k (ix2 r (lane h x)) * Ideal.exp ((b (ix2 ⟨a, by omega⟩ (lane h x)) - g (ix2 ⟨a, by omega⟩ (lane h x))) - b (ix2 r (lane h x))))

theorem lane_of (h : Fin 8) (v x : Fin 128) (hp) : (⟨(lane h v).val / 128 * 128 + x.val, hp⟩ : Fin 1024) = lane h x := by
  apply Fin.ext; simp only [lane]; omega

/-- the key of row `r`, decayed from row `r` to the row before row `a` -/
def key (a : ℕ) (ha : a < 64) (k b g : Chunk) (r : Fin 64) (c : Fin 1024) : EReal :=
  k (ix2 r c) * Ideal.exp ((b (ix2 ⟨a, ha⟩ c) - g (ix2 ⟨a, ha⟩ c)) - b (ix2 r c))

theorem keys48_apply (k b g : Chunk) (r : Fin 48) (c : Fin 1024) :
    keys48 k b g (ix2 r c) = key 48 (by omega) k b g ⟨r, by omega⟩ c := by
  pointwise [keys48, keys, cut, start, key]
  fin_vals r with hk
  all_goals simp only [hk, Nat.reduceSub, Nat.reduceLT, ↓reduceDIte]

theorem keys32_apply (k b g : Chunk) (r : Fin 32) (c : Fin 1024) :
    keys32 k b g (ix2 r c) = key 32 (by omega) k b g ⟨r, by omega⟩ c := by
  pointwise [keys32, keys, cut, start, key]
  fin_vals r with hk
  all_goals simp only [hk, Nat.reduceSub, Nat.reduceLT, ↓reduceDIte]

theorem keys16_apply (k b g : Chunk) (r : Fin 16) (c : Fin 1024) :
    (keys 16 0 k b g) (ix2 r c) = key 16 (by omega) k b g ⟨r, by omega⟩ c := by
  pointwise [keys, cut, start, key]

theorem back3_apply (q k b g d : Chunk) (r : Fin 48) (h : Fin 8) (v : Fin 128) :
    (back 48 48 q b g d (keys48 k b g)) (ix2 r (lane h v)) = cross 48 (by omega) q k b g d ⟨r, by omega⟩ h v := by
  pointwise [back, byToken, byHead, overTokens, overFeatures, cut, queries, start, cross]
  simp only [lane_of, keys48_apply]
  rfl

theorem back2_apply (q k b g d : Chunk) (r : Fin 32) (h : Fin 8) (v : Fin 128) :
    (back 32 32 q b g d (keys32 k b g)) (ix2 r (lane h v)) = cross 32 (by omega) q k b g d ⟨r, by omega⟩ h v := by
  pointwise [back, byToken, byHead, overTokens, overFeatures, cut, queries, start, cross]
  simp only [lane_of, keys32_apply]
  rfl

theorem back1_apply (q k b g d : Chunk) (r : Fin 16) (h : Fin 8) (v : Fin 128) :
    (back 16 16 q b g d (keys 16 0 k b g)) (ix2 r (lane h v)) = cross 16 (by omega) q k b g d ⟨r, by omega⟩ h v := by
  pointwise [back, byToken, byHead, overTokens, overFeatures, cut, queries, start, cross]
  simp only [lane_of, keys16_apply]
  rfl

theorem fromState_apply (k b : Chunk) (S : State) (r : Fin 64) (h : Fin 8) (v : Fin 128) :
    fromState k b S (ix2 r (lane h v)) = ∑ x : Fin 128, S (ix3 h v x) *
      (k (ix2 r (lane h x)) * Ideal.exp (b (ix2 63 (lane h x)) - b (ix2 r (lane h x)))) := by
  pointwise [fromState, byToken, byHead, toState, overFeatures, cut]
  simp only [lane_of, lane_div, lane_mod]

theorem inBlock_apply (a : ℕ) (q k b d : Chunk) (hs : (Wide 64).Slices ![a, 0] (Wide 16)) (ha : a + 16 ≤ 64)
    (r : Fin 16) (h : Fin 8) (v : Fin 128) :
    inBlock a q k b d hs (ix2 r (lane h v)) = ∑ t : Fin 16, if r ≤ t then
      (∑ x : Fin 128, q (ix2 ⟨a + t, by omega⟩ (lane h x)) * k (ix2 ⟨a + r, by omega⟩ (lane h x))
        * Ideal.exp (min (b (ix2 ⟨a + t, by omega⟩ (lane h x)) - b (ix2 ⟨a + r, by omega⟩ (lane h x))) 0))
      * d (ix2 ⟨a + t, by omega⟩ (lane h v)) else 0 := by
  pointwise [inBlock]
  simp only [lane_div, lane_mod, block_apply, down, wt, split16]
  pointwise [cut]
  rfl

/-- what row `r` receives from row `t` -/
def pair (q k b d : Chunk) (t r : Fin 64) (h : Fin 8) (v : Fin 128) : EReal :=
  (∑ x : Fin 128, q (ix2 t (lane h x)) * k (ix2 r (lane h x)) * Ideal.exp (min (b (ix2 t (lane h x)) - b (ix2 r (lane h x))) 0))
    * d (ix2 t (lane h v))

/-- The decay from row `r` to row `t` in one factor, or in two that meet before row `a`. -/
def Meets (b g : Chunk) : Prop := ∀ (a t r : Fin 64) (c : Fin 1024), r < a → a ≤ t →
  Ideal.exp (b (ix2 t c) - (b (ix2 a c) - g (ix2 a c))) * Ideal.exp ((b (ix2 a c) - g (ix2 a c)) - b (ix2 r c))
    = Ideal.exp (min (b (ix2 t c) - b (ix2 r c)) 0)

theorem cross_eq (q k b g d : Chunk) (hm : Meets b g) (a : ℕ) (ha : a + 16 ≤ 64) (r : Fin 64) (hr : r.val < a) (h : Fin 8) (v : Fin 128) :
    cross a ha q k b g d r h v = ∑ t : Fin 16, pair q k b d ⟨a + t, by omega⟩ r h v := by
  refine Finset.sum_congr rfl fun t _ => ?_
  rw [mul_comm, pair]
  congr 1
  refine Finset.sum_congr rfl fun x _ => ?_
  rw [mul_mul_mul_comm, hm ⟨a, by omega⟩ ⟨a + t, by omega⟩ r (lane h x) (by simpa [Fin.lt_def] using hr) (by simp [Fin.le_def])]

theorem put0_apply (x : FVec Ideal (Wide 16) .f32) (r : Fin 64) (c : Fin 1024) :
    put0 x (ix2 r c) = if hr : r.val < 16 then x (ix2 ⟨r, hr⟩ c) else 0 := by
  pointwise [put0, zeros]
theorem put48_apply (x : FVec Ideal (Wide 16) .f32) (r : Fin 64) (c : Fin 1024) :
    put48 x (ix2 r c) = if hr : 48 ≤ r.val then x (ix2 ⟨r - 48, by omega⟩ c) else 0 := by
  pointwise [put48, zeros]
  by_cases hr : r.val < 48
  · rw [dif_pos hr, dif_neg (by omega)]
  · rw [dif_neg hr, dif_pos (by omega)]
theorem put16_apply (x : FVec Ideal (Wide 16) .f32) (r : Fin 64) (c : Fin 1024) :
    put16 x (ix2 r c) = if hr : 16 ≤ r.val ∧ r.val < 32 then x (ix2 ⟨r - 16, by omega⟩ c) else 0 := by
  pointwise [put16, zeros]
  by_cases h1 : r.val < 32
  · by_cases h2 : r.val < 16
    · rw [dif_pos h1, dif_pos h2, dif_neg (by omega)]
    · rw [dif_pos h1, dif_neg h2, dif_pos (by omega)]
  · rw [dif_neg h1, dif_neg (by omega)]
theorem put32_apply (x : FVec Ideal (Wide 16) .f32) (r : Fin 64) (c : Fin 1024) :
    put32 x (ix2 r c) = if hr : 32 ≤ r.val ∧ r.val < 48 then x (ix2 ⟨r - 32, by omega⟩ c) else 0 := by
  pointwise [put32, zeros]
  by_cases h1 : r.val < 48
  · by_cases h2 : r.val < 32
    · rw [dif_pos h1, dif_pos h2, dif_neg (by omega)]
    · rw [dif_pos h1, dif_neg h2, dif_pos (by omega)]
  · rw [dif_neg h1, dif_neg (by omega)]

theorem cut'_apply (n m a : ℕ) (x : FVec Ideal (Wide n) .f32) (h : (Wide n).Slices ![a, 0] (Wide m)) (r : Fin m) (c : Fin 1024)
    (ha : a + r.val < n) : cut' n m a x h (ix2 r c) = x (ix2 ⟨a + r, ha⟩ c) := by
  pointwise [cut']

theorem sum_64 (f : Fin 64 → EReal) : ∑ t, f t = (∑ t : Fin 16, f ⟨0 + t, by omega⟩) + (∑ t : Fin 16, f ⟨16 + t, by omega⟩)
    + (∑ t : Fin 16, f ⟨32 + t, by omega⟩) + (∑ t : Fin 16, f ⟨48 + t, by omega⟩) := by
  simp only [Fin.sum_univ_succ, Fin.sum_univ_zero]
  simp only [add_zero, add_assoc]
  rfl

/-- the chunk -/
theorem chunkDi_apply (q k b g d : Chunk) (S : State) (hm : Meets b g) (r : Fin 64) (h : Fin 8) (v : Fin 128) :
    chunkDi q k b g d S (ix2 r (lane h v)) = fromState k b S (ix2 r (lane h v))
      + ∑ t : Fin 64, if r ≤ t then pair q k b d t r h v else 0 := by
  have hin : ∀ (a : ℕ) (hs : (Wide 64).Slices ![a, 0] (Wide 16)) (ha : a + 16 ≤ 64) (r' : Fin 16),
      inBlock a q k b d hs (ix2 r' (lane h v)) = ∑ t : Fin 16, if r' ≤ t then pair q k b d ⟨a + t, by omega⟩ ⟨a + r', by omega⟩ h v else 0 :=
    fun a hs ha r' => inBlock_apply a q k b d hs ha r' h v
  have hall : ∀ (a : ℕ) (ha : a + 16 ≤ 64), r.val < a →
      (∑ t : Fin 16, if r ≤ (⟨a + t, by omega⟩ : Fin 64) then pair q k b d ⟨a + t, by omega⟩ r h v else 0) = cross a ha q k b g d r h v := by
    intro a ha hr
    rw [cross_eq q k b g d hm a ha r hr]
    exact Finset.sum_congr rfl fun t _ => if_pos (by simp only [Fin.le_def]; omega)
  have hnone : ∀ (a : ℕ) (ha : a + 16 ≤ 64), a + 16 ≤ r.val →
      (∑ t : Fin 16, if r ≤ (⟨a + t, by omega⟩ : Fin 64) then pair q k b d ⟨a + t, by omega⟩ r h v else 0) = 0 := by
    intro a ha hr
    exact Finset.sum_eq_zero fun t _ => if_neg (by simp only [Fin.le_def]; omega)
  have hin' : ∀ (a : ℕ) (hs : (Wide 64).Slices ![a, 0] (Wide 16)) (ha : a + 16 ≤ 64) (hr : a ≤ r.val) (hr' : r.val < a + 16),
      (∑ t : Fin 16, if r ≤ (⟨a + t, by omega⟩ : Fin 64) then pair q k b d ⟨a + t, by omega⟩ r h v else 0)
        = inBlock a q k b d hs (ix2 ⟨r - a, by omega⟩ (lane h v)) := by
    intro a hs ha hr hr'
    rw [hin a hs ha]
    refine Finset.sum_congr rfl fun t _ => ?_
    have e : (⟨a + (⟨r.val - a, by omega⟩ : Fin 16).val, by omega⟩ : Fin 64) = r := by apply Fin.ext; simp only; omega
    rw [e]
    congr 1
    simp only [Fin.le_def, eq_iff_iff]; omega
  rw [sum_64]
  unfold chunkDi
  simp only [addf_apply, Ideal.addf_def, put0_apply, put16_apply, put32_apply, put48_apply]
  rcases (by omega : r.val < 16 ∨ (16 ≤ r.val ∧ r.val < 32) ∨ (32 ≤ r.val ∧ r.val < 48) ∨ 48 ≤ r.val) with hr | hr | hr | hr
  · rw [hin' 0 (by decide) (by omega) (by omega) (by omega), hall 16 (by omega) (by omega), hall 32 (by omega) (by omega), hall 48 (by omega) (by omega)]
    simp (disch := omega) only [dif_pos, dif_neg, cut'_apply, back3_apply, back2_apply, back1_apply, add_zero, zero_add, Nat.sub_zero]
    exact (by intros; abel : ∀ x a b c i : EReal, x + a + b + c + i = x + (i + c + b + a)) _ _ _ _ _
  · rw [hnone 0 (by omega) (by omega), hin' 16 (by decide) (by omega) (by omega) (by omega), hall 32 (by omega) (by omega), hall 48 (by omega) (by omega)]
    simp (disch := omega) only [dif_pos, dif_neg, cut'_apply, back3_apply, back2_apply, back1_apply, add_zero, zero_add, Nat.sub_zero]
    have e : ∀ hp, (⟨16 + (r.val - 16), hp⟩ : Fin 64) = r := fun hp => Fin.ext (by simp only; omega)
    simp only [e]
    exact (by intros; abel : ∀ x a b i : EReal, x + a + b + i = x + (i + b + a)) _ _ _ _
  · rw [hnone 0 (by omega) (by omega), hnone 16 (by omega) (by omega), hin' 32 (by decide) (by omega) (by omega) (by omega), hall 48 (by omega) (by omega)]
    simp (disch := omega) only [dif_pos, dif_neg, cut'_apply, back3_apply, back2_apply, back1_apply, add_zero, zero_add, Nat.sub_zero]
    have e : ∀ hp, (⟨32 + (r.val - 32), hp⟩ : Fin 64) = r := fun hp => Fin.ext (by simp only; omega)
    simp only [e]
    exact (by intros; abel : ∀ x a i : EReal, x + a + i = x + (i + a)) _ _ _
  · rw [hnone 0 (by omega) (by omega), hnone 16 (by omega) (by omega), hnone 32 (by omega) (by omega), hin' 48 (by decide) (by omega) (by omega) (by omega)]
    simp (disch := omega) only [dif_pos, dif_neg, cut'_apply, back3_apply, back2_apply, back1_apply, add_zero, zero_add, Nat.sub_zero]

end Cert.Scan
-- ==== Proof.Prefix.lean ====
/-
  Sums along the tokens of a chunk. The kernel doubles the length of its partial sums six times; the reference sums a
  window of 64 rows. Both are the sum of the rows up to the row at hand.
-/
module

public import proofs.«01_k».proof.Proof.Chunk

@[expose] public section

set_option maxRecDepth 16384

noncomputable section

namespace Cert.Scan

open Idealize.ShloMosaic

/-! ## The running sum by doubling -/

/-- a chunk moved down by `s` rows, zeros above -/
def shifted (s m : ℕ) (x : Chunk) (h : (Wide 64).Slices ![0, 0] (Wide m)) (hc : Shape.Concatenates [Wide s, Wide m] (Wide 64) 0) : Chunk :=
  concatenate (Wide 64) 0 [⟨Wide s, zeros s⟩, ⟨Wide m, cut m 0 x h⟩] hc

theorem shifted_apply (s m : ℕ) (x : Chunk) (h : (Wide 64).Slices ![0, 0] (Wide m)) (hc : Shape.Concatenates [Wide s, Wide m] (Wide 64) 0)
    (r : Fin 64) (c : Fin 1024) : shifted s m x h hc (ix2 r c) = if s ≤ r.val then x (ix2 ⟨r - s, by omega⟩ c) else 0 := by
  pointwise [shifted, cut, zeros]
  by_cases hr : r.val < s
  · exact (dif_pos hr).trans (if_neg (by omega)).symm
  · exact (dif_neg hr).trans (if_pos (by omega)).symm

def doubled (s m : ℕ) (x : Chunk) (h : (Wide 64).Slices ![0, 0] (Wide m) := by decide)
    (hc : Shape.Concatenates [Wide s, Wide m] (Wide 64) 0 := by decide) : Chunk :=
  addf x (shifted s m x h hc)

def runningSum (g : Chunk) : Chunk :=
  doubled 32 32 (doubled 16 48 (doubled 8 56 (doubled 4 60 (doubled 2 62 (doubled 1 63 g)))))

/-- the last `n` rows up to row `r` -/
def lastRows (n : ℕ) (g : Chunk) (r : Fin 64) (c : Fin 1024) : EReal :=
  ∑ j ∈ Finset.range n, if j ≤ r.val then g (ix2 ⟨r - j, by omega⟩ c) else 0

theorem doubled_apply (n m : ℕ) (g x : Chunk) (h : (Wide 64).Slices ![0, 0] (Wide m)) (hc : Shape.Concatenates [Wide n, Wide m] (Wide 64) 0)
    (hx : ∀ r c, x (ix2 r c) = lastRows n g r c) (r : Fin 64) (c : Fin 1024) :
    doubled n m x h hc (ix2 r c) = lastRows (n + n) g r c := by
  unfold doubled
  rw [addf_apply, Ideal.addf_def, shifted_apply, hx]
  unfold lastRows
  rw [Finset.sum_range_add]
  congr 1
  by_cases hr : n ≤ r.val
  · rw [if_pos hr, hx]
    refine Finset.sum_congr rfl fun j _ => ?_
    show (if j ≤ r.val - n then g (ix2 ⟨r.val - n - j, _⟩ c) else 0) = _
    by_cases hj : n + j ≤ r.val
    · rw [if_pos hj, if_pos (by omega)]
      exact congrArg (fun i => g (ix2 i c)) (Fin.ext (by show r.val - n - j = r.val - (n + j); omega))
    · rw [if_neg hj, if_neg (by omega)]
  · rw [if_neg hr]
    exact (Finset.sum_eq_zero fun j _ => if_neg (by omega)).symm

theorem lastRows_all (g : Chunk) (r : Fin 64) (c : Fin 1024) :
    lastRows 64 g r c = ∑ t : Fin 64, if t ≤ r then g (ix2 t c) else 0 := by
  unfold lastRows
  rw [← Finset.sum_filter, ← Finset.sum_filter]
  refine Finset.sum_bij' (fun j _ => (⟨r.val - j, by omega⟩ : Fin 64)) (fun t _ => r.val - t.val) ?_ ?_ ?_ ?_ ?_
  · intro j hj; rw [Finset.mem_filter] at hj ⊢; exact ⟨Finset.mem_univ _, Nat.sub_le _ _⟩
  · intro t ht
    rw [Finset.mem_filter] at ht ⊢
    rw [Finset.mem_range]
    have := r.isLt
    omega
  · intro j hj
    rw [Finset.mem_filter] at hj
    show r.val - (r.val - j) = j
    omega
  · intro t ht
    rw [Finset.mem_filter, Fin.le_def] at ht
    apply Fin.ext
    show r.val - (r.val - t.val) = t.val
    omega
  · intro j hj; rfl

theorem runningSum_apply (g : Chunk) (r : Fin 64) (c : Fin 1024) :
    runningSum g (ix2 r c) = ∑ t : Fin 64, if t ≤ r then g (ix2 t c) else 0 := by
  have h1 : ∀ r c, g (ix2 r c) = lastRows 1 g r c := fun r c => by simp [lastRows]
  have h2 := doubled_apply 1 63 g g (by decide) (by decide) h1
  have h4 := doubled_apply 2 62 g _ (by decide) (by decide) h2
  have h8 := doubled_apply 4 60 g _ (by decide) (by decide) h4
  have h16 := doubled_apply 8 56 g _ (by decide) (by decide) h8
  have h32 := doubled_apply 16 48 g _ (by decide) (by decide) h16
  have h64 := doubled_apply 32 32 g _ (by decide) (by decide) h32 r c
  exact h64.trans (lastRows_all g r c)

/-! ## The running sum as a window sum -/

theorem foldl_add (n : ℕ) (F : Fin n → EReal) (v : EReal) : (List.finRange n).foldl (fun r i => r + F i) v = v + ∑ i, F i := by
  rw [Fin.sum_univ_def]
  generalize List.finRange n = l
  induction l generalizing v with
  | nil => simp
  | cons a l ih => rw [List.foldl_cons, ih, List.map_cons, List.sum_cons, add_assoc]

theorem window_shift (f : Fin 64 → EReal) (t : Fin 64) :
    (∑ w : Fin 64, if h : 63 ≤ t.val + w.val then f ⟨t.val + w.val - 63, by omega⟩ else 0) = ∑ j : Fin 64, if j ≤ t then f j else 0 := by
  rw [← Finset.sum_filter, ← Finset.sum_subset (Finset.filter_subset (fun w : Fin 64 => 63 ≤ t.val + w.val) Finset.univ)
    (fun w _ hw => by rw [Finset.mem_filter] at hw; exact dif_neg fun h => hw ⟨Finset.mem_univ _, h⟩)]
  refine Finset.sum_bij' (fun w _ => (⟨t.val + w.val - 63, by omega⟩ : Fin 64)) (fun j _ => (⟨(j.val + 63 - t.val) % 64, Nat.mod_lt _ (by decide)⟩ : Fin 64)) ?_ ?_ ?_ ?_ ?_
  · intro w hw
    rw [Finset.mem_filter, Fin.le_def]
    exact ⟨Finset.mem_univ _, by show t.val + w.val - 63 ≤ t.val; omega⟩
  · intro j hj
    rw [Finset.mem_filter, Fin.le_def] at hj
    rw [Finset.mem_filter]
    exact ⟨Finset.mem_univ _, by show 63 ≤ t.val + (j.val + 63 - t.val) % 64; omega⟩
  · intro w hw
    rw [Finset.mem_filter] at hw
    apply Fin.ext
    show (t.val + w.val - 63 + 63 - t.val) % 64 = w.val
    omega
  · intro j hj
    rw [Finset.mem_filter, Fin.le_def] at hj
    apply Fin.ext
    show t.val + (j.val + 63 - t.val) % 64 - 63 = j.val
    omega
  · intro w hw
    rw [Finset.mem_filter] at hw
    exact dif_pos hw.2

abbrev Chunks : Shape := ⟨4, ![36, 8, 64, 128]⟩

theorem window_apply {u : Shape} (x : FVec Ideal Chunks .f32) (init : u.Idx → EReal)
    (h : Chunks.ReduceWindows ![1, 1, 64, 1] ![1, 1, 1, 1] ![0, 0, 63, 0] ![0, 0, 0, 0] Chunks) (hu : 0 < u.numel)
    (hi : ∀ i, init i = 0) (n : Fin 36) (e : Fin 8) (t : Fin 64) (k : Fin 128) :
    Host.reduceWindowAdd (F := Ideal) (φ := .f32) ![1, 1, 64, 1] ![1, 1, 1, 1] ![0, 0, 63, 0] ![0, 0, 0, 0] x init h hu (ix4 n e t k)
      = ∑ j : Fin 64, if j ≤ t then x (ix4 n e j k) else 0 := by
  unfold Host.reduceWindowAdd
  rw [Ideal.hostReduceWindowAdd_def, hi]
  unfold Ideal.hostReduceWindowAdd Host.reduceWindow
  dsimp only
  rw [foldl_add, zero_add]
  let G : (Fin 4 → ℕ) → EReal := fun p =>
    if hin : ∀ a : Fin 4, (![0, 0, 63, 0] : Fin 4 → ℕ) a ≤ p a ∧ p a - (![0, 0, 63, 0] : Fin 4 → ℕ) a < Chunks.size a then
      x (fun a => ⟨p a - (![0, 0, 63, 0] : Fin 4 → ℕ) a, (hin a).2⟩) else 0
  have hG : ∀ w : Fin 64, G (fun a => (ix4 n e t k a : ℕ) * (![1, 1, 1, 1] : Fin 4 → ℕ) a + (ix4 (0 : Fin 1) (0 : Fin 1) w (0 : Fin 1) a : ℕ))
      = if h : 63 ≤ t.val + w.val then x (ix4 n e ⟨t.val + w.val - 63, by omega⟩ k) else 0 := by
    intro w
    by_cases hw : 63 ≤ t.val + w.val
    · rw [dif_pos hw]
      refine (dif_pos ?_).trans (congrArg x ?_)
      · intro a
        fin_cases a
        · exact ⟨Nat.zero_le _, by show n.val * 1 + 0 - 0 < 36; omega⟩
        · exact ⟨Nat.zero_le _, by show e.val * 1 + 0 - 0 < 8; omega⟩
        · exact ⟨by show 63 ≤ t.val * 1 + w.val; omega, by show t.val * 1 + w.val - 63 < 64; omega⟩
        · exact ⟨Nat.zero_le _, by show k.val * 1 + 0 - 0 < 128; omega⟩
      · funext a
        apply Fin.ext
        fin_cases a
        · show n.val * 1 + 0 - 0 = n.val; omega
        · show e.val * 1 + 0 - 0 = e.val; omega
        · show t.val * 1 + w.val - 63 = t.val + w.val - 63; omega
        · show k.val * 1 + 0 - 0 = k.val; omega
    · rw [dif_neg hw]
      refine dif_neg fun hin => hw ?_
      have := (hin 2).1
      change 63 ≤ t.val * 1 + w.val at this
      omega
  trans ∑ i, G (fun a => (ix4 n e t k a : ℕ) * (![1, 1, 1, 1] : Fin 4 → ℕ) a + ((Shape.rowMajor ⟨4, ![1, 1, 64, 1]⟩).symm i a : ℕ))
  · refine Finset.sum_congr rfl fun i _ => ?_
    exact dite_congr rfl (fun _ => rfl) (fun _ => rfl)
  refine (Equiv.sum_comp (Shape.rowMajor ⟨4, ![1, 1, 64, 1]⟩).symm
    (fun w => G (fun a => (ix4 n e t k a : ℕ) * (![1, 1, 1, 1] : Fin 4 → ℕ) a + (w a : ℕ)))).trans ?_
  rw [sum_idx4]
  refine (Fintype.sum_unique _).trans ((Fintype.sum_unique _).trans ?_)
  refine (Finset.sum_congr rfl fun w _ => (Fintype.sum_unique _).trans (hG w)).trans ?_
  exact window_shift (fun j => x (ix4 n e j k)) t

/-- the same window sum over two rows, at the first -/
theorem window_first {u : Shape} (x : FVec Ideal (Wide 2) .f32) (init : u.Idx → EReal)
    (h : (Wide 2).ReduceWindows ![2, 1] ![1, 1] ![1, 0] ![0, 0] (Wide 2)) (hu : 0 < u.numel) (hi : ∀ i, init i = 0) (c : Fin 1024) :
    Host.reduceWindowAdd (F := Ideal) (φ := .f32) ![2, 1] ![1, 1] ![1, 0] ![0, 0] x init h hu (ix2 0 c) = x (ix2 0 c) := by
  unfold Host.reduceWindowAdd
  rw [Ideal.hostReduceWindowAdd_def, hi]
  unfold Ideal.hostReduceWindowAdd Host.reduceWindow
  dsimp only
  rw [foldl_add, zero_add]
  let G : (Fin 2 → ℕ) → EReal := fun p =>
    if hin : ∀ a : Fin 2, (![1, 0] : Fin 2 → ℕ) a ≤ p a ∧ p a - (![1, 0] : Fin 2 → ℕ) a < (Wide 2).size a then
      x (fun a => ⟨p a - (![1, 0] : Fin 2 → ℕ) a, (hin a).2⟩) else 0
  trans ∑ i, G (fun a => (ix2 (0 : Fin 2) c a : ℕ) * (![1, 1] : Fin 2 → ℕ) a + ((Shape.rowMajor ⟨2, ![2, 1]⟩).symm i a : ℕ))
  · refine Finset.sum_congr rfl fun i _ => ?_
    exact dite_congr rfl (fun _ => rfl) (fun _ => rfl)
  refine (Equiv.sum_comp (Shape.rowMajor ⟨2, ![2, 1]⟩).symm
    (fun w => G (fun a => (ix2 (0 : Fin 2) c a : ℕ) * (![1, 1] : Fin 2 → ℕ) a + (w a : ℕ)))).trans ?_
  rw [sum_idx2]
  refine (Fin.sum_univ_two _).trans ?_
  have h0 : G (fun a => (ix2 (0 : Fin 2) c a : ℕ) * (![1, 1] : Fin 2 → ℕ) a + (ix2 (0 : Fin 2) (0 : Fin 1) a : ℕ)) = 0 := by
    refine dif_neg fun hin => ?_
    have := (hin 0).1
    change 1 ≤ 0 * 1 + 0 at this
    omega
  have h1 : G (fun a => (ix2 (0 : Fin 2) c a : ℕ) * (![1, 1] : Fin 2 → ℕ) a + (ix2 (1 : Fin 2) (0 : Fin 1) a : ℕ)) = x (ix2 0 c) := by
    refine (dif_pos ?_).trans (congrArg x ?_)
    · intro a
      fin_cases a
      · exact ⟨by show 1 ≤ 0 * 1 + 1; omega, by show 0 * 1 + 1 - 1 < 2; omega⟩
      · exact ⟨Nat.zero_le _, by show c.val * 1 + 0 - 0 < 1024; omega⟩
    · funext a
      apply Fin.ext
      fin_cases a
      · show 0 * 1 + 1 - 1 = 0; omega
      · show c.val * 1 + 0 - 0 = c.val; omega
  have e0 := (Fintype.sum_unique (fun q : Fin 1 => G (fun a => (ix2 (0 : Fin 2) c a : ℕ) * (![1, 1] : Fin 2 → ℕ) a + (ix2 (0 : Fin 2) q a : ℕ)))).trans h0
  have e1 := (Fintype.sum_unique (fun q : Fin 1 => G (fun a => (ix2 (0 : Fin 2) c a : ℕ) * (![1, 1] : Fin 2 → ℕ) a + (ix2 (1 : Fin 2) q a : ℕ)))).trans h1
  exact (congrArg₂ (· + ·) e0 e1).trans (zero_add _)

end Cert.Scan
-- ==== Proof.Gate.lean ====
/-
  The gate of a channel lies strictly between 0 and 1, or is 1, wherever the lower bound is a real number, so its logarithm is a real
  number or minus infinity; and the exponents of a chunk then split as the kernel splits them.
-/
module

public import proofs.«01_k».proof.Proof.Prefix

@[expose] public section

set_option maxRecDepth 16384

noncomputable section

namespace Cert.Scan

open Idealize.ShloMosaic

/-! ## One gate value -/

/-- the gate above the lower bound `l` -/
def gateOf (l f : EReal) : EReal := l + (1 - l) * Ideal.logistic f

theorem logistic_unit (f : EReal) : ∃ y : ℝ, 0 ≤ y ∧ y ≤ 1 ∧ Ideal.logistic f = (y : EReal) := by
  induction f using EReal.rec with
  | bot => exact ⟨0, le_refl _, zero_le_one, by rw [Ideal.logistic_bot]; rfl⟩
  | top => exact ⟨1, zero_le_one, le_refl _, by rw [Ideal.logistic_top]; rfl⟩
  | coe r =>
    refine ⟨_, ?_, ?_, Ideal.logistic_coe r⟩
    · positivity
    · exact inv_le_one_of_one_le₀ (by linarith [Real.exp_pos (-r)])

theorem gateOf_unit (a f : EReal) (ha : ∃ z : ℝ, a = (z : EReal)) : ∃ y : ℝ, 0 < y ∧ y ≤ 1 ∧ gateOf (Ideal.logistic a) f = (y : EReal) := by
  obtain ⟨z, rfl⟩ := ha
  obtain ⟨s, hs0, hs1, hs⟩ := logistic_unit f
  have hl0 : 0 < (1 + Real.exp (-z))⁻¹ := by positivity
  have hl1 : (1 + Real.exp (-z))⁻¹ ≤ 1 := inv_le_one_of_one_le₀ (by linarith [Real.exp_pos (-z)])
  refine ⟨(1 + Real.exp (-z))⁻¹ + (1 - (1 + Real.exp (-z))⁻¹) * s, ?_, ?_, ?_⟩
  · nlinarith
  · nlinarith
  · unfold gateOf
    rw [hs, Ideal.logistic_coe]
    push_cast
    rfl

/-- the logarithm of a gate is a real number, at most zero -/
theorem log_gate (a f : EReal) (ha : ∃ z : ℝ, a = (z : EReal)) :
    ∃ y : ℝ, y ≤ 0 ∧ Ideal.log (gateOf (Ideal.logistic a) f) = (y : EReal) := by
  obtain ⟨y, h0, h1, h⟩ := gateOf_unit a f ha
  refine ⟨Real.log y, Real.log_nonpos h0.le h1, ?_⟩
  rw [h, Ideal.log_coe, if_neg (not_le.mpr h0)]

/-! ## The lower bound -/

/-- the first of two softmax weights is the logistic function of the difference -/
theorem softmax_first (x y m : ℝ) :
    Ideal.div (Ideal.exp ((x : EReal) - m)) (Ideal.exp ((x : EReal) - m) + Ideal.exp ((y : EReal) - m)) = Ideal.logistic ((x : EReal) - y) := by
  rw [← EReal.coe_sub, ← EReal.coe_sub, ← EReal.coe_sub, Ideal.exp_coe, Ideal.exp_coe, ← EReal.coe_add, Ideal.logistic_coe,
    Ideal.div_coe (by positivity), ← EReal.coe_mul]
  congr 1
  have h1 : Real.exp (-(x - y)) = Real.exp (y - m) / Real.exp (x - m) := by rw [← Real.exp_sub]; ring_nf
  rw [h1]
  have := Real.exp_pos (x - m)
  have := Real.exp_pos (y - m)
  field_simp

/-! ## A chunk's decays -/

theorem coe_sum {α : Type} (s : Finset α) (f : α → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- Running sums of nonpositive reals let the decay over a distance be split at any row between. -/
theorem meets_runningSum (g : Chunk) (hg : ∀ r c, ∃ y : ℝ, y ≤ 0 ∧ g (ix2 r c) = (y : EReal)) : Meets (runningSum g) g := by
  choose y hy0 hy using hg
  have hb : ∀ r c, runningSum g (ix2 r c) = ((∑ t : Fin 64, if t ≤ r then y t c else 0 : ℝ) : EReal) := by
    intro r c
    rw [runningSum_apply, coe_sum]
    refine Finset.sum_congr rfl fun t _ => ?_
    by_cases ht : t ≤ r
    · rw [if_pos ht, if_pos ht, hy]
    · rw [if_neg ht, if_neg ht]; rfl
  intro a t r c hra hat
  rw [hb, hb, hb, hy]
  have hle : (∑ j : Fin 64, if j ≤ t then y j c else (0 : ℝ)) ≤ ∑ j : Fin 64, if j ≤ r then y j c else 0 := by
    refine Finset.sum_le_sum fun j _ => ?_
    by_cases hj : j ≤ r
    · rw [if_pos hj, if_pos (hj.trans (hra.le.trans hat))]
    · rw [if_neg hj]
      split
      · exact hy0 j c
      · exact le_refl _
  rw [← EReal.coe_sub, ← EReal.coe_sub, ← EReal.coe_sub, ← EReal.coe_sub, min_eq_left (by exact_mod_cast sub_nonpos.mpr hle), Ideal.exp_coe,
    Ideal.exp_coe, Ideal.exp_coe, ← EReal.coe_mul, ← Real.exp_add]
  congr 2
  ring

end Cert.Scan
-- ==== Proof.Step.lean ====
/-
  A chunk's gates, keys, decays and queries from the rows that are loaded, and the state's gradient that a chunk hands to the
  chunk before it.
-/
module

public import proofs.«01_k».proof.Proof.Gate

@[expose] public section

set_option maxRecDepth 16384

noncomputable section

namespace Cert.Scan

open Idealize.ShloMosaic

abbrev Bounds : Type := FVec Ideal (Wide 2) .f32

/-! ## A chunk's values, from the rows it loads -/

def lower (w : Bounds) (h0 : (Wide 2).Slices ![0, 0] (Wide 1) := by decide) (h1 : (Wide 2).Slices ![1, 0] (Wide 1) := by decide) :
    FVec Ideal (Wide 1) .f32 :=
  logistic (subf (extractStridedSlice (Wide 1) ![0, 0] w h0) (extractStridedSlice (Wide 1) ![1, 0] w h1))

def ones (n : ℕ) : FVec Ideal (Wide n) .f32 := broadcast (Wide n) (Scalar.ofBits .f32 0x3F800000#32 : Ideal .f32)

def gates (f : Chunk) (w : Bounds) (h : (Wide 1).Broadcasts (Wide 64) := by decide) : Chunk :=
  addf (broadcastTo (Wide 64) (lower w) h) (mulf (broadcastTo (Wide 64) (subf (ones 1) (lower w)) h) (logistic f))

def keysOf (f : Chunk) (w : Bounds) : Chunk := subf (ones 64) (gates f w)
def logsOf (f : Chunk) (w : Bounds) : Chunk := log (gates f w)
def decays (f : Chunk) (w : Bounds) : Chunk := runningSum (logsOf f w)
def queriesOf (q : Chunk) : Chunk := mulf q (logistic q)

/-- the lower bound of column `c` -/
def low (w : Bounds) (c : Fin 1024) : EReal := Ideal.logistic (w (ix2 0 c) - w (ix2 1 c))

theorem gates_apply (f : Chunk) (w : Bounds) (r : Fin 64) (c : Fin 1024) : (gates f w) (ix2 r c) = gateOf (low w c) (f (ix2 r c)) := by
  pointwise [gates, lower, ones, low, gateOf]

theorem keysOf_apply (f : Chunk) (w : Bounds) (r : Fin 64) (c : Fin 1024) : keysOf f w (ix2 r c) = 1 - gateOf (low w c) (f (ix2 r c)) := by
  rw [← gates_apply]
  pointwise [keysOf, ones]

theorem logsOf_apply (f : Chunk) (w : Bounds) (r : Fin 64) (c : Fin 1024) : logsOf f w (ix2 r c) = Ideal.log (gateOf (low w c) (f (ix2 r c))) := by
  rw [← gates_apply]; rfl

theorem queriesOf_apply (q : Chunk) (r : Fin 64) (c : Fin 1024) : queriesOf q (ix2 r c) = q (ix2 r c) * Ideal.logistic (q (ix2 r c)) := rfl

/-- the entries of the lower bounds are real numbers -/
def RealBounds (w : Bounds) : Prop := ∀ r c, ∃ z : ℝ, w (ix2 r c) = (z : EReal)

theorem meets_decays (f : Chunk) (w : Bounds) (hw : RealBounds w) : Meets (decays f w) (logsOf f w) := by
  refine meets_runningSum _ fun r c => ?_
  obtain ⟨x, hx⟩ := hw 0 c
  obtain ⟨y, hy⟩ := hw 1 c
  rw [logsOf_apply]
  exact log_gate _ _ ⟨x - y, by rw [hx, hy, EReal.coe_sub]⟩

/-! ## The state a chunk hands to the chunk before -/

def ontoState : DotDims (Heads 64) (Heads 64) (Heads 128) where
  lhsContracting := [1]
  rhsContracting := [1]
  lhsNonContracting := [2]
  rhsNonContracting := [2]
  lhsBatch := [0]
  rhsBatch := [0]
  wf := by decide

def nextState (q b d : Chunk) (S : State) (h1 : (Wide 1).ShapeCasts ⟨3, ![1, 8, 128]⟩ := by decide)
    (h2 : (⟨3, ![1, 8, 128]⟩ : Shape).Transposes [1, 0, 2] (Heads 1) := by decide)
    (h3 : (Heads 1).Broadcasts (Heads 128) := by decide) (h4 : (Wide 64).Slices ![63, 0] (Wide 1) := by decide) : State :=
  addf
    (mulf (broadcastTo (Heads 128) (transpose (Heads 1) [1, 0, 2] (shapeCast ⟨3, ![1, 8, 128]⟩ (exp (cut 1 63 b h4)) h1) h2) h3) S)
    (matmul ontoState none (byHead 64 d) (byHead 64 (mulf q (exp b))) (constant (Heads 128) .f32 0x00000000#32))

theorem nextState_apply (q b d : Chunk) (S : State) (h : Fin 8) (v x : Fin 128) :
    (nextState q b d S) (ix3 h v x) = Ideal.exp (b (ix2 63 (lane h x))) * S (ix3 h v x)
      + ∑ t : Fin 64, d (ix2 t (lane h v)) * (q (ix2 t (lane h x)) * Ideal.exp (b (ix2 t (lane h x)))) := by
  pointwise [nextState, cut, byHead, ontoState]
  rfl

end Cert.Scan
-- ==== Proof.Body.lean ====
/-
  What the kernel's body leaves at one grid point, from the blocks that it loads: the block of the gradient of the inputs, and
  the carried gradient of the state.
-/
module

public import proofs.«01_k».proof.Proof.Step
public import proofs.«01_k».proof.Proof.Gen.KernelIdeal.Frame
public import Idealize.ShloMosaic.Lib.Pipeline.Value
public import Idealize.ShloMosaic.Lib.Tactic

@[expose] public section

set_option maxRecDepth 65536

noncomputable section

namespace Cert.KernelIdeal.Body

open Idealize.ShloMosaic Idealize.SL.Sem Cert.KernelIdeal Cert.KernelIdeal.Gen Cert.Scan

theorem zeros2 : (![0, 0] : Fin 2 → Nat) = fun _ => 0 := funext fun a => by fin_cases a <;> rfl
theorem zeros3 : (![0, 0, 0] : Fin 3 → Nat) = fun _ => 0 := funext fun a => by fin_cases a <;> rfl

/-! The values the body computes from the blocks it loads, under the names of the chunk. -/

theorem query_eq (q : Chunk) : k0_pay11 (F := Ideal) q = queriesOf q := rfl
theorem key_eq (f : Chunk) (w : Bounds) : k0_pay16 (F := Ideal) f w = keysOf f w := rfl
theorem log_eq (f : Chunk) (w : Bounds) : k0_pay17 (F := Ideal) f w = logsOf f w := rfl
theorem decay_eq (f : Chunk) (w : Bounds) : decays f w = k0_pay19 (F := Ideal) (k0_pay18 f w) := rfl

/-- the state the first point starts from -/
theorem zero_eq : k0_pay4 (F := Ideal) = fun _ => 0 := by
  unfold k0_pay4
  funext j
  rw [shapeCast_self]
  exact Ideal.ofBits_zero .f32

section Point

variable (c : Dev nD) (i : grid0.Coords)
  (a1 : Memref sig .tc .vmem S64x1024 .f32) (h1 : a1.IsWhole) (a2 : Memref sig .tc .vmem S64x1024 .f32) (h2 : a2.IsWhole)
  (a3 : Memref sig .tc .vmem S64x1024 .f32) (h3 : a3.IsWhole) (a4 : Memref sig .tc .vmem S2x1024 .f32) (h4 : a4.IsWhole)
  (a5 : Memref sig .tc .vmem S1x8x128x128 .f32) (h5 : a5.IsWhole) (a6 : Memref sig .tc .vmem S64x1024 .f32) (h6 : a6.IsWhole)
  (a7 : Memref sig .tc .vmem S64x1024 .f32) (h7 : a7.IsWhole) (a8 : Memref sig .tc .vmem S64x1024 .f32) (h8 : a8.IsWhole)
  (a9 : Memref sig .tc .vmem S64x1024 .bf16) (h9 : a9.IsWhole) (a10 : Memref sig .tc .vmem S2x1024 .f32) (h10 : a10.IsWhole)
  (a11 : Memref sig .tc .vmem S8x128x128 .f32) (h11 : a11.IsWhole)
  (q x f : Chunk) (w : Bounds) (s : FVec Ideal S1x8x128x128 .f32) (d : Chunk) (o : Bounds) (S : State)

/-- What the first point leaves in the carried state. -/
theorem next_first (hc : cond0_0 i) :
    sout0_A_0 (F := Ideal) c i a1 h1 a2 h2 a3 h3 a4 h4 a5 h5 a6 h6 a7 h7 a8 h8 a9 h9 a10 h10 a11 h11 hc q x f w s d = nextState (queriesOf q) (decays f w) d (fun _ => 0) := by
  unfold sout0_A_0
  rw [View.read_writes_eq_canon _ _ _ (scover0_A_0 (F := Ideal) c i a1 h1 a2 h2 a3 h3 a4 h4 a5 h5 a6 h6 a7 h7 a8 h8 a9 h9 a10 h10 a11 h11 hc q x f w s d)]
  unfold kernelRun0_A
  dsimp only
  sl_unfold_words
  rw [View.canon_cons_unit_zero zeros3]
  simp only [View.readAt_eq_ld, h1.read_unread, h3.read_unread, h4.read_unread, h6.read_unread, View.ld_unit_zero (S := S64x1024) zeros2, View.ld_unit_zero (S := S2x1024) zeros2, View.readCov_unit_zero (S := S8x128x128) _ zeros3]
  rw [query_eq, decay_eq]
  unfold k0_pay3 k0_pay649 k0_pay654
  simp only [shapeCast_self]
  rw [zero_eq]
  generalize (fun _ => 0 : State) = S
  generalize k0_pay19 (F := Ideal) (k0_pay18 f w) = b
  generalize queriesOf q = q
  rfl

/-- What a later point leaves in the carried state. -/
theorem next_later (hc : ¬cond0_0 i) :
    sout0_B_0 (F := Ideal) c i a1 h1 a2 h2 a3 h3 a4 h4 a5 h5 a6 h6 a7 h7 a8 h8 a9 h9 a10 h10 a11 h11 hc q x f w s d o S = nextState (queriesOf q) (decays f w) d S := by
  unfold sout0_B_0
  rw [View.read_writes_eq_canon _ _ _ (scover0_B_0 (F := Ideal) c i a1 h1 a2 h2 a3 h3 a4 h4 a5 h5 a6 h6 a7 h7 a8 h8 a9 h9 a10 h10 a11 h11 hc q x f w s d o S)]
  unfold kernelRun0_B
  dsimp only
  sl_unfold_words
  rw [View.canon_unit_zero zeros3]
  simp only [View.readAt_eq_ld, h1.read_unread, h3.read_unread, h4.read_unread, h6.read_unread, h11.read_unread, View.ld_unit_zero (S := S64x1024) zeros2, View.ld_unit_zero (S := S2x1024) zeros2, View.ld_unit_zero (S := S8x128x128) zeros3]
  rw [query_eq, decay_eq]
  unfold k0_pay3 k0_pay649 k0_pay654
  simp only [shapeCast_self]
  generalize k0_pay19 (F := Ideal) (k0_pay18 f w) = b
  generalize queriesOf q = q
  rfl

/-- What the first point leaves in the block of the gradient of the inputs. -/
theorem grad_first (hc : cond0_0 i) :
    out0_A_7 (F := Ideal) c i a1 h1 a2 h2 a3 h3 a4 h4 a5 h5 a6 h6 a7 h7 a8 h8 a9 h9 a10 h10 a11 h11 hc q x f w s d = chunkDi (queriesOf q) (keysOf f w) (decays f w) (logsOf f w) d (fun _ => 0) := by
  unfold out0_A_7
  rw [View.read_writes_eq_canon _ _ _ (cover0_A_7 (F := Ideal) c i a1 h1 a2 h2 a3 h3 a4 h4 a5 h5 a6 h6 a7 h7 a8 h8 a9 h9 a10 h10 a11 h11 hc q x f w s d)]
  unfold kernelRun0_A
  dsimp only
  sl_unfold_words
  rw [View.canon_unit_zero zeros2]
  simp only [View.readAt_eq_ld, h1.read_unread, h3.read_unread, h4.read_unread, h6.read_unread, View.ld_unit_zero (S := S64x1024) zeros2, View.ld_unit_zero (S := S2x1024) zeros2, View.readCov_unit_zero (S := S8x128x128) _ zeros3]
  rw [query_eq, key_eq, log_eq, decay_eq]
  unfold k0_pay650 k0_pay651 k0_pay652 k0_pay653 k0_pay648 k0_pay656 k0_pay655
  simp only [shapeCast_self]
  rw [zero_eq]
  generalize (fun _ => 0 : State) = S
  generalize k0_pay18 (F := Ideal) f w = v
  generalize logsOf f w = g
  generalize keysOf f w = k
  generalize queriesOf q = q
  rfl

/-- What a later point leaves in the block of the gradient of the inputs. -/
theorem grad_later (hc : ¬cond0_0 i) :
    out0_B_7 (F := Ideal) c i a1 h1 a2 h2 a3 h3 a4 h4 a5 h5 a6 h6 a7 h7 a8 h8 a9 h9 a10 h10 a11 h11 hc q x f w s d o S = chunkDi (queriesOf q) (keysOf f w) (decays f w) (logsOf f w) d S := by
  unfold out0_B_7
  rw [View.read_writes_eq_canon _ _ _ (cover0_B_7 (F := Ideal) c i a1 h1 a2 h2 a3 h3 a4 h4 a5 h5 a6 h6 a7 h7 a8 h8 a9 h9 a10 h10 a11 h11 hc q x f w s d o S)]
  unfold kernelRun0_B
  dsimp only
  sl_unfold_words
  rw [View.canon_unit_zero zeros2]
  simp only [View.readAt_eq_ld, h1.read_unread, h3.read_unread, h4.read_unread, h6.read_unread, h11.read_unread, View.ld_unit_zero (S := S64x1024) zeros2, View.ld_unit_zero (S := S2x1024) zeros2, View.ld_unit_zero (S := S8x128x128) zeros3]
  rw [query_eq, key_eq, log_eq, decay_eq]
  unfold k0_pay650 k0_pay651 k0_pay652 k0_pay653 k0_pay648 k0_pay656 k0_pay655
  simp only [shapeCast_self]
  generalize k0_pay18 (F := Ideal) f w = v
  generalize logsOf f w = g
  generalize keysOf f w = k
  generalize queriesOf q = q
  rfl

end Point

end Cert.KernelIdeal.Body
-- ==== Proof.RefVals.lean ====
/-
  The arrays that the reference prepares before its loop, entry by entry: queries, keys, gates, their sums inside each
  chunk, the weights inside a chunk, and the factors towards and from the state.
-/
module

public import proofs.«01_k».proof.Proof.Step
public import proofs.«01_k».proof.Proof.Gen.ReferenceIdeal.Step

@[expose] public section

set_option maxRecDepth 16384

noncomputable section

namespace Cert.Scan

open Idealize.ShloMosaic

abbrev Projections : Type := FVec Ideal ⟨2, ![2304, 13568]⟩ .f32
abbrev Tokens : Type := FVec Ideal ⟨2, ![2304, 1024]⟩ .f32

/-- row `t` of chunk `n` -/
def token (n : Fin 36) (t : Fin 64) : Fin 2304 := ⟨n.val * 64 + t.val, by omega⟩

/-- the columns from column `o` on of chunk `n` -/
def columns (o : ℕ) (ho : o + 1024 ≤ 13568) (p : Projections) (n : Fin 36) : Chunk :=
  fun i => p (ix2 (token n (i 0)) ⟨o + (i 1 : ℕ), by have := (i 1).isLt; change (i 1 : ℕ) < 1024 at this; omega⟩)

def rowsAt (d : Tokens) (n : Fin 36) : Chunk := fun i => d (ix2 (token n (i 0)) (i 1))

theorem columns_apply (o : ℕ) (ho : o + 1024 ≤ 13568) (p : Projections) (n : Fin 36) (t : Fin 64) (c : Fin 1024) :
    columns o ho p n (ix2 t c) = p (ix2 (token n t) ⟨o + c.val, by omega⟩) := rfl
theorem rowsAt_apply (d : Tokens) (n : Fin 36) (t : Fin 64) (c : Fin 1024) : rowsAt d n (ix2 t c) = d (ix2 (token n t) c) := rfl

def qIn (p : Projections) (n : Fin 36) : Chunk := columns 0 (by decide) p n
def fIn (p : Projections) (n : Fin 36) : Chunk := columns 2048 (by decide) p n

theorem qIn_apply (p : Projections) (n : Fin 36) (t : Fin 64) (c : Fin 1024) : qIn p n (ix2 t c) = p (ix2 (token n t) ⟨c.val, by omega⟩) := by
  rw [qIn, columns_apply]
  congr 2
  exact Fin.ext (Nat.zero_add _)
theorem fIn_apply (p : Projections) (n : Fin 36) (t : Fin 64) (c : Fin 1024) : fIn p n (ix2 t c) = p (ix2 (token n t) ⟨2048 + c.val, by omega⟩) := rfl

end Cert.Scan

namespace Cert.ReferenceIdeal.Step

open Idealize.ShloMosaic Cert.ReferenceIdeal Cert.ReferenceIdeal.Gen Cert.Scan

variable (p : Projections) (w : Bounds) (d : Tokens)

/-- silu of a query column -/
theorem q_eq (T : Fin 2304) (c : Fin 1024) :
    A_main_v17 (F := Ideal) p w d (ix2 T c) = p (ix2 T ⟨c.val, by omega⟩) * Ideal.logistic (p (ix2 T ⟨c.val, by omega⟩)) := by
  pointwise [A_main_v17, A_main_call1_v5, A_main_call1_v3, A_main_call1_v1, A_main_call1_v0, A_main_v14, K_main_call1_v2, K_main_call1_v4,
    K_main_call1_cst, K_main_call1_cst_0]
  rfl

theorem gate_eq (T : Fin 2304) (c : Fin 1024) :
    A_main_v32 (F := Ideal) p w d (ix2 T c) = gateOf (A_main_v13 (F := Ideal) p w d (ix1 c)) (p (ix2 T ⟨2048 + c.val, by omega⟩)) := by
  pointwise [A_main_v32, A_main_v31, A_main_v30, A_main_v29, A_main_v28, A_main_v27, A_main_v26, A_main_v24, A_main_v22, A_main_v21,
    A_main_v20, A_main_v16, K_main_v19, K_main_v23, K_main_v25, K_main_cst_2, K_main_cst_3, K_main_cst_4]
  rfl

theorem neg_infinity : Ideal.ofBits .f32 0xFF800000#32 = ⊥ := by
  simp [Ideal.ofBits, Ideal.ieee]

theorem soft_eq (hw : RealBounds w) (c : Fin 1024) : A_main_v10 (F := Ideal) p w d (ix2 0 c) = low w c := by
  pointwise [A_main_v10, A_main_v9, A_main_v8, A_main_v7, A_main_v6, A_main_v5, A_main_v4, A_main_v3, A_main_v2, A_main_v0, K_main_v1, K_main_cst_0,
    K_main_cst, K_main_cst_1]
  obtain ⟨x, hx⟩ := hw 0 c
  obtain ⟨y, hy⟩ := hw 1 c
  rw [neg_infinity]
  have hm : (max ⊥ (Finset.fold max ⊥ (fun i : Fin 2 => w (ix2 i c)) Finset.univ) : EReal) = ((max x y : ℝ) : EReal) := by
    have : (Finset.univ : Finset (Fin 2)) = {0, 1} := rfl
    rw [this, Finset.fold_insert (by decide), Finset.fold_singleton, hx, hy, max_bot_left, max_bot_right]
    exact (EReal.coe_strictMono.monotone.map_max).symm
  rw [hm, Fin.sum_univ_two, hx, hy, softmax_first, low, hx, hy]

theorem lower_eq (hw : RealBounds w) (c : Fin 1024) : A_main_v13 (F := Ideal) p w d (ix1 c) = low w c := by
  rw [← soft_eq p w d hw c]
  pointwise [A_main_v13, A_main_v12]
  unfold A_main_v11
  exact window_first _ _ _ _ (fun i => by pointwise [K_main_call0_call0_v0, K_main_call0_call0_cst]) c

theorem fold_q (n : Fin 36) (h : Fin 8) (t : Fin 64) (x : Fin 128) :
    A_main_v42 (F := Ideal) p w d (ix4 n h t x) = queriesOf (qIn p n) (ix2 t (lane h x)) := by
  pointwise [A_main_v42, A_main_v41, A_main_v18]
  rw [q_eq, queriesOf_apply, qIn_apply]
  rfl

theorem fold_k (hw : RealBounds w) (n : Fin 36) (h : Fin 8) (t : Fin 64) (x : Fin 128) :
    A_main_v44 (F := Ideal) p w d (ix4 n h t x) = keysOf (fIn p n) w (ix2 t (lane h x)) := by
  pointwise [A_main_v44, A_main_v43, A_main_v36, A_main_v35, K_main_v34, K_main_cst_6]
  rw [gate_eq, lower_eq p w d hw, keysOf_apply, fIn_apply]
  rfl

theorem fold_g (hw : RealBounds w) (n : Fin 36) (h : Fin 8) (t : Fin 64) (x : Fin 128) :
    A_main_v46 (F := Ideal) p w d (ix4 n h t x) = logsOf (fIn p n) w (ix2 t (lane h x)) := by
  pointwise [A_main_v46, A_main_v45, A_main_v38, A_main_v37]
  rw [gate_eq, lower_eq p w d hw, logsOf_apply, fIn_apply]
  rfl

theorem fold_d (n : Fin 36) (h : Fin 8) (t : Fin 64) (x : Fin 128) :
    A_main_v78 (F := Ideal) p w d (ix4 n h t x) = rowsAt d n (ix2 t (lane h x)) := by
  pointwise [A_main_v78, A_main_v77, A_main_v76]
  rfl

theorem fold_b (hw : RealBounds w) (n : Fin 36) (h : Fin 8) (t : Fin 64) (x : Fin 128) :
    A_main_v47 (F := Ideal) p w d (ix4 n h t x) = decays (fIn p n) w (ix2 t (lane h x)) := by
  unfold A_main_v47
  rw [decays, runningSum_apply]
  refine (window_apply _ _ _ _ (fun i => by pointwise [K_main_call3_call0_v0, K_main_call3_call0_cst]) n h t x).trans ?_
  refine Finset.sum_congr rfl fun j _ => ?_
  rw [fold_g p w d hw]

theorem last_eq (hw : RealBounds w) (n : Fin 36) (h : Fin 8) (x : Fin 128) :
    A_main_v66 (F := Ideal) p w d (ix3 n h x) = decays (fIn p n) w (ix2 63 (lane h x)) := by
  rw [← fold_b p w d hw]
  pointwise [A_main_v66, A_main_v65]

theorem tri_eq (t s : Fin 64) : K_main_v40 (F := Ideal) (ix2 t s) = if s ≤ t then 1#1 else 0#1 := by
  pointwise [K_main_v40, K_main_call2_v4, K_main_call2_v5, K_main_call2_c_0, K_main_call2_v3, K_main_call2_v2, K_main_call2_v1,
    K_main_call2_v0, K_main_call2_c, K_main_v39, K_main_c]
  have same : IntOp.cmpi CmpIPredicate.sge (IntOp.addi (BitVec.ofNat 32 t.val) 0#32) (BitVec.ofNat 32 s.val) = if s ≤ t then 1#1 else 0#1 := by
    revert t s
    decide
  rw [same]
  by_cases hst : s ≤ t
  · rw [if_pos hst]; rfl
  · rw [if_neg hst]; rfl

/-- the weights of a chunk's own rows -/
theorem weights_eq (hw : RealBounds w) (n : Fin 36) (h : Fin 8) (t s : Fin 64) :
    A_main_v64 (F := Ideal) p w d (ix4 n h t s) = if s ≤ t then
      ∑ x : Fin 128, queriesOf (qIn p n) (ix2 t (lane h x)) * keysOf (fIn p n) w (ix2 s (lane h x))
        * Ideal.exp (min (decays (fIn p n) w (ix2 t (lane h x)) - decays (fIn p n) w (ix2 s (lane h x))) 0) else 0 := by
  pointwise [A_main_v64, A_main_v63, A_main_v62, A_main_v61, A_main_v60, A_main_v59, A_main_v58, A_main_v57, A_main_v56, A_main_v55,
    A_main_v52, A_main_v51, A_main_v50, A_main_v49, A_main_v48, K_main_call4_v1, K_main_call4_v2, K_main_call4_v0, K_main_cst_8, K_main_v54,
    K_main_cst_7, K_main_v53, K_main_cst_9]
  rw [tri_eq]
  by_cases hst : s ≤ t
  · rw [if_pos hst, if_pos hst]
    refine Finset.sum_congr rfl fun x _ => ?_
    rw [fold_q p w d, fold_k p w d hw, fold_b p w d hw, fold_b p w d hw]
    rfl
  · rw [if_neg hst, if_neg hst]
    refine Finset.sum_eq_zero fun x _ => ?_
    have zero : Scalar.select 0#1 (Ideal.exp (min (A_main_v47 (F := Ideal) p w d (ix4 n h t x) - A_main_v47 (F := Ideal) p w d (ix4 n h s x)) 0))
        ((constant (F := Ideal) S_ FTy.f32 0#32) ix0 : EReal) = (0 : EReal) := by
      pointwise []
    exact (congrArg _ zero).trans (mul_zero _)

theorem into_eq (hw : RealBounds w) (n : Fin 36) (h : Fin 8) (t : Fin 64) (x : Fin 128) :
    A_main_v73 (F := Ideal) p w d (ix4 n h t x) = keysOf (fIn p n) w (ix2 t (lane h x)) *
      Ideal.exp (decays (fIn p n) w (ix2 63 (lane h x)) - decays (fIn p n) w (ix2 t (lane h x))) := by
  rw [← fold_k p w d hw, ← fold_b p w d hw n h t, ← last_eq p w d hw]
  pointwise [A_main_v73, A_main_v72, A_main_v71, A_main_v70, A_main_v69]

theorem from_eq (hw : RealBounds w) (n : Fin 36) (h : Fin 8) (t : Fin 64) (x : Fin 128) :
    A_main_v68 (F := Ideal) p w d (ix4 n h t x) = queriesOf (qIn p n) (ix2 t (lane h x)) *
      Ideal.exp (decays (fIn p n) w (ix2 t (lane h x))) := by
  rw [← fold_q p w d, ← fold_b p w d hw]
  pointwise [A_main_v68, A_main_v67]

theorem across_eq (hw : RealBounds w) (n : Fin 36) (h : Fin 8) (x : Fin 128) (z : Fin 1) :
    A_main_v75 (F := Ideal) p w d (ix4 n h x z) = Ideal.exp (decays (fIn p n) w (ix2 63 (lane h x))) := by
  rw [← last_eq p w d hw]
  pointwise [A_main_v75, A_main_v74]

end Cert.ReferenceIdeal.Step
-- ==== Proof.Leading.lean ====
/-
  Reading and replacing one slice along the leading axis of an array of 36 chunks.
-/
module

public import proofs.«01_k».proof.Proof.Step

@[expose] public section

set_option maxRecDepth 8192

noncomputable section

namespace Cert.Scan

open Idealize.ShloMosaic

variable {α : Type} {A B C : ℕ}

/-- the slice of one leading position -/
theorem leading_slice (x : (⟨4, ![36, A, B, C]⟩ : Shape).Idx → α) (start : Fin 4 → Int)
    (h : (⟨4, ![36, A, B, C]⟩ : Shape).Slices (fun _ => 0) ⟨4, ![1, A, B, C]⟩) (n : Fin 36) (h0 : start 0 = (n.val : Int))
    (h1 : start 1 = 0) (h2 : start 2 = 0) (h3 : start 3 = 0) (z : Fin 1) (a : Fin A) (b : Fin B) (c : Fin C) :
    Host.dynamicSlice ⟨4, ![1, A, B, C]⟩ x start h (ix4 z a b c) = x (ix4 n a b c) := by
  unfold Host.dynamicSlice extractStridedSlice
  refine congrArg x (funext fun e => Fin.ext ?_)
  have hz := z.isLt
  have hn := n.isLt
  fin_cases e
  · show (min (max (start 0) 0) ((36 - 1 : ℕ) : Int)).toNat + z.val = n.val
    rw [h0]; omega
  · show (min (max (start 1) 0) ((A - A : ℕ) : Int)).toNat + a.val = a.val
    rw [h1]; omega
  · show (min (max (start 2) 0) ((B - B : ℕ) : Int)).toNat + b.val = b.val
    rw [h2]; omega
  · show (min (max (start 3) 0) ((C - C : ℕ) : Int)).toNat + c.val = c.val
    rw [h3]; omega

/-- the update of one leading position -/
theorem leading_update (x : (⟨4, ![36, A, B, C]⟩ : Shape).Idx → α) (u : (⟨4, ![1, A, B, C]⟩ : Shape).Idx → α) (start : Fin 4 → Int)
    (h : (⟨4, ![36, A, B, C]⟩ : Shape).Slices (fun _ => 0) ⟨4, ![1, A, B, C]⟩) (n : Fin 36) (h0 : start 0 = (n.val : Int))
    (h1 : start 1 = 0) (h2 : start 2 = 0) (h3 : start 3 = 0) (m : Fin 36) (a : Fin A) (b : Fin B) (c : Fin C) :
    Host.dynamicUpdateSlice x u start h (ix4 m a b c) = if m = n then u (ix4 0 a b c) else x (ix4 m a b c) := by
  unfold Host.dynamicUpdateSlice updateSlice
  have hn := n.isLt
  have e0 : (min (max (start 0) 0) ((36 - 1 : ℕ) : Int)).toNat = n.val := by rw [h0]; omega
  have e1 : (min (max (start 1) 0) ((A - A : ℕ) : Int)).toNat = 0 := by rw [h1]; omega
  have e2 : (min (max (start 2) 0) ((B - B : ℕ) : Int)).toNat = 0 := by rw [h2]; omega
  have e3 : (min (max (start 3) 0) ((C - C : ℕ) : Int)).toNat = 0 := by rw [h3]; omega
  by_cases hm : m = n
  · rw [if_pos hm]
    subst hm
    refine (dif_pos ?_).trans (congrArg u (funext fun e => Fin.ext ?_))
    · intro e
      fin_cases e
      · show (min (max (start 0) 0) ((36 - 1 : ℕ) : Int)).toNat ≤ m.val ∧ m.val < (min (max (start 0) 0) ((36 - 1 : ℕ) : Int)).toNat + 1
        omega
      · show (min (max (start 1) 0) ((A - A : ℕ) : Int)).toNat ≤ a.val ∧ a.val < (min (max (start 1) 0) ((A - A : ℕ) : Int)).toNat + A
        have := a.isLt; omega
      · show (min (max (start 2) 0) ((B - B : ℕ) : Int)).toNat ≤ b.val ∧ b.val < (min (max (start 2) 0) ((B - B : ℕ) : Int)).toNat + B
        have := b.isLt; omega
      · show (min (max (start 3) 0) ((C - C : ℕ) : Int)).toNat ≤ c.val ∧ c.val < (min (max (start 3) 0) ((C - C : ℕ) : Int)).toNat + C
        have := c.isLt; omega
    · fin_cases e
      · show m.val - (min (max (start 0) 0) ((36 - 1 : ℕ) : Int)).toNat = 0
        omega
      · show a.val - (min (max (start 1) 0) ((A - A : ℕ) : Int)).toNat = a.val
        omega
      · show b.val - (min (max (start 2) 0) ((B - B : ℕ) : Int)).toNat = b.val
        omega
      · show c.val - (min (max (start 3) 0) ((C - C : ℕ) : Int)).toNat = c.val
        omega
  · rw [if_neg hm]
    refine dif_neg fun hin => hm (Fin.ext ?_)
    have := hin 0
    change (min (max (start 0) 0) ((36 - 1 : ℕ) : Int)).toNat ≤ m.val ∧ m.val < (min (max (start 0) 0) ((36 - 1 : ℕ) : Int)).toNat + 1 at this
    omega

end Cert.Scan
-- ==== Proof.Trips.lean ====
/-
  The reference's loop runs 36 times, and its result is a function of the loop's carried arrays after the 36th trip.
-/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- the loop's state as a valuation of the buffers holds it -/
def stateOf (V : Valuation τ sig (Elt F)) : State F where
  main_v81_6 := V (Proc.devRef .tc main_v81_6)
  main_v81_7 := V (Proc.devRef .tc main_v81_7)
  main_v81_0 := V (Proc.devRef .tc main_v81_0)
  main_v81_1 := V (Proc.devRef .tc main_v81_1)
  main_v81_2 := V (Proc.devRef .tc main_v81_2)
  main_v81_3 := V (Proc.devRef .tc main_v81_3)
  main_v81_4 := V (Proc.devRef .tc main_v81_4)

/-- the counter reads `j` -/
def Counts (V : Valuation τ sig (Elt F)) (j : ℕ) : Prop :=
  V (Proc.devRef .tc main_v81_5) = constantI S_ 32 (BitVec.ofNat 32 j)

variable {V : Valuation τ sig (Elt F)} {j : ℕ}

theorem chunk_number (h : Counts V j) : res_main_while0b_v86 V = Cert.ReferenceIdeal.Step.b3 j (stateOf V) := by
  unfold res_main_while0b_v86
  rw [h]
  rfl

set_option maxRecDepth 16384 in
theorem carried (h : Counts V j) : step_main_v81_6 V = Cert.ReferenceIdeal.Step.b35 j (stateOf V) := by
  unfold step_main_v81_6 res_main_while0b_v87
  rw [chunk_number h]
  rfl

set_option maxRecDepth 16384 in
theorem collected (h : Counts V j) : step_main_v81_7 V = Cert.ReferenceIdeal.Step.b43 j (stateOf V) := by
  unfold step_main_v81_7 res_main_while0b_v87
  rw [chunk_number h]
  rfl

theorem counted (h : Counts V j) : Counts (STEP V) (j + 1) := by
  refine (STEP_main_v81_5 V).trans ?_
  unfold step_main_v81_5
  rw [h]
  funext i
  exact (BitVec.ofNat_add j 1).symm

theorem state_ext {a b : State F} (h6 : a.main_v81_6 = b.main_v81_6) (h7 : a.main_v81_7 = b.main_v81_7)
    (h0 : a.main_v81_0 = b.main_v81_0) (h1 : a.main_v81_1 = b.main_v81_1) (h2 : a.main_v81_2 = b.main_v81_2)
    (h3 : a.main_v81_3 = b.main_v81_3) (h4 : a.main_v81_4 = b.main_v81_4) : a = b := by
  obtain ⟨a6, a7, a0, a1, a2, a3, a4⟩ := a
  obtain ⟨b6, b7, b0, b1, b2, b3, b4⟩ := b
  subst h6 h7 h0 h1 h2 h3 h4
  rfl

theorem stepped (h : Counts V j) : stateOf (STEP V) = step j (stateOf V) :=
  state_ext ((STEP_main_v81_6 V).trans (carried h)) ((STEP_main_v81_7 V).trans (collected h)) (STEP_main_v81_0 V) (STEP_main_v81_1 V)
    (STEP_main_v81_2 V) (STEP_main_v81_3 V) (STEP_main_v81_4 V)

theorem result (V : Valuation τ sig (Elt F)) : out_main_v84 V = Cert.ReferenceIdeal.Step.R_main_v84 (stateOf V) := rfl

/-- the state before trip `j`, from the state `s` before the first -/
def after (s : State F) : ℕ → State F
  | 0 => s
  | j + 1 => step j (after s j)

theorem trips (V : Valuation τ sig (Elt F)) (h : Counts V 0) : ∀ j, Counts (STEP^[j] V) j ∧ stateOf (STEP^[j] V) = after (stateOf V) j
  | 0 => ⟨h, rfl⟩
  | j + 1 => by
    obtain ⟨hc, hs⟩ := trips V h j
    rw [Function.iterate_succ_apply']
    exact ⟨counted hc, (stepped hc).trans (congrArg (step j) hs)⟩

variable (m : (ℓ : Loc nD τ sig) → Buf (Elt F) ℓ) (c : Dev nD)

set_option maxRecDepth 65536 in
set_option maxHeartbeats 800000 in
theorem first_count : Counts (entryContents preI m c) 0 := by
  unfold Counts
  simp only [entryContents, afterL_cons, afterL_nil]
  after_reads_simp
  rfl

/-- the state before the first trip -/
def start : State F :=
  init (m ((c.tc : Thread nD τ).loc main_arg0)) (m ((c.tc : Thread nD τ).loc main_arg1)) (m ((c.tc : Thread nD τ).loc main_arg3))

set_option maxRecDepth 65536 in
set_option maxHeartbeats 1600000 in
theorem first_state : stateOf (entryContents preI m c) = start m c := by
  unfold stateOf start init
  congr 1

/-- The host program leaves in its result the collected chunks of the state after the last trip. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v84) = Cert.ReferenceIdeal.Step.R_main_v84 (after (start m c) 36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run m ρ)
  have hs := (trips (entryContents preI m c) (first_count m c) 36).2
  rw [first_state] at hs
  rw [← hs]
  exact result _

end Cert.ReferenceIdeal.Trips
-- ==== Proof.RefLoop.lean ====
/-
  What the reference's loop computes: trip `j` works on chunk `35 - j`, carries the state's gradient, and writes the gradient
  of that chunk's inputs.
-/
module

public import proofs.«01_k».proof.Proof.RefVals
public import proofs.«01_k».proof.Proof.Leading
public import proofs.«01_k».proof.Proof.Trips

@[expose] public section

set_option maxRecDepth 16384

noncomputable section

namespace Cert.Scan

open Idealize.ShloMosaic

/-- chunk of trip `j` -/
def fromEnd (j : ℕ) : Fin 36 := ⟨35 - j, by omega⟩

/-- gradient of the state after the chunk of trip `j` -/
def adjoint (p : Projections) (w : Bounds) (d : Tokens) : ℕ → Cert.Scan.State
  | 0 => fun _ => 0
  | j + 1 => nextState (queriesOf (qIn p (fromEnd j))) (decays (fIn p (fromEnd j)) w) (rowsAt d (fromEnd j)) (adjoint p w d j)

/-- gradient of the inputs of chunk `n` -/
def inputGrad (p : Projections) (w : Bounds) (d : Tokens) (n : Fin 36) : Chunk :=
  chunkDi (queriesOf (qIn p n)) (keysOf (fIn p n) w) (decays (fIn p n) w) (logsOf (fIn p n) w) (rowsAt d n) (adjoint p w d (35 - n.val))

end Cert.Scan

namespace Cert.ReferenceIdeal.Trips

open Idealize.ShloMosaic Idealize.ShloMosaic.TcCoe Idealize.SL.Sem Idealize.ShloMosaic.StableHlo
open Cert.ReferenceIdeal Cert.ReferenceIdeal.Gen Cert.Scan
open Cert.ReferenceIdeal.Step (State step init)

/-- the first index of a trip's slices -/
theorem slice_start (j : ℕ) (hj : j < 36) (s : State Ideal) :
    (Cert.ReferenceIdeal.Step.b3 j s (Shape.Idx.first h_S_)).toInt = ((fromEnd j).val : Int) := by
  have hall : ∀ j : Fin 36, ((36#32 - BitVec.ofNat 32 j.val) - 1#32).toInt = ((35 - j.val : ℕ) : Int) := by decide
  exact hall ⟨j, hj⟩

section Trip

variable (j : ℕ) (hj : j < 36) (s : State Ideal)
include hj

theorem trip_d (h : Fin 8) (t : Fin 64) (x : Fin 128) :
    Cert.ReferenceIdeal.Step.b8 j s (ix3 h t x) = s.main_v81_0 (ix4 (fromEnd j) h t x) := by
  pointwise [Cert.ReferenceIdeal.Step.b8]
  unfold Cert.ReferenceIdeal.Step.b7
  refine leading_slice s.main_v81_0 _ _ (fromEnd j) ?_ ?_ ?_ ?_ 0 h t x
  · exact slice_start j hj s
  all_goals rfl

theorem trip_across (h : Fin 8) (x : Fin 128) :
    Cert.ReferenceIdeal.Step.b13 j s (ix3 h x 0) = s.main_v81_1 (ix4 (fromEnd j) h x 0) := by
  pointwise [Cert.ReferenceIdeal.Step.b13]
  unfold Cert.ReferenceIdeal.Step.b12
  refine leading_slice s.main_v81_1 _ _ (fromEnd j) ?_ ?_ ?_ ?_ 0 h x 0
  · exact slice_start j hj s
  all_goals rfl

theorem trip_into (h : Fin 8) (t : Fin 64) (x : Fin 128) :
    Cert.ReferenceIdeal.Step.b18 j s (ix3 h t x) = s.main_v81_2 (ix4 (fromEnd j) h t x) := by
  pointwise [Cert.ReferenceIdeal.Step.b18]
  unfold Cert.ReferenceIdeal.Step.b17
  refine leading_slice s.main_v81_2 _ _ (fromEnd j) ?_ ?_ ?_ ?_ 0 h t x
  · exact slice_start j hj s
  all_goals rfl

theorem trip_weights (h : Fin 8) (t r : Fin 64) :
    Cert.ReferenceIdeal.Step.b23 j s (ix3 h t r) = s.main_v81_3 (ix4 (fromEnd j) h t r) := by
  pointwise [Cert.ReferenceIdeal.Step.b23]
  unfold Cert.ReferenceIdeal.Step.b22
  refine leading_slice s.main_v81_3 _ _ (fromEnd j) ?_ ?_ ?_ ?_ 0 h t r
  · exact slice_start j hj s
  all_goals rfl

theorem trip_from (h : Fin 8) (t : Fin 64) (x : Fin 128) :
    Cert.ReferenceIdeal.Step.b28 j s (ix3 h t x) = s.main_v81_4 (ix4 (fromEnd j) h t x) := by
  pointwise [Cert.ReferenceIdeal.Step.b28]
  unfold Cert.ReferenceIdeal.Step.b27
  refine leading_slice s.main_v81_4 _ _ (fromEnd j) ?_ ?_ ?_ ?_ 0 h t x
  · exact slice_start j hj s
  all_goals rfl

theorem trip_state (h : Fin 8) (x v : Fin 128) :
    Cert.ReferenceIdeal.Step.b35 j s (ix3 h x v) = s.main_v81_1 (ix4 (fromEnd j) h x 0) * s.main_v81_6 (ix3 h x v)
      + ∑ t : Fin 64, s.main_v81_0 (ix4 (fromEnd j) h t v) * s.main_v81_4 (ix4 (fromEnd j) h t x) := by
  pointwise [Cert.ReferenceIdeal.Step.b35, Cert.ReferenceIdeal.Step.b34, Cert.ReferenceIdeal.Step.b33, Cert.ReferenceIdeal.Step.b32,
    Cert.ReferenceIdeal.Step.b31]
  simp only [trip_d j hj, trip_across j hj, trip_from j hj]

theorem trip_inputs (h : Fin 8) (r : Fin 64) (v : Fin 128) :
    Cert.ReferenceIdeal.Step.b38 j s (ix3 h r v) = (∑ x : Fin 128, s.main_v81_6 (ix3 h x v) * s.main_v81_2 (ix4 (fromEnd j) h r x))
      + ∑ t : Fin 64, s.main_v81_0 (ix4 (fromEnd j) h t v) * s.main_v81_3 (ix4 (fromEnd j) h t r) := by
  pointwise [Cert.ReferenceIdeal.Step.b38, Cert.ReferenceIdeal.Step.b37, Cert.ReferenceIdeal.Step.b36, Cert.ReferenceIdeal.Step.b30,
    Cert.ReferenceIdeal.Step.b29]
  simp only [trip_d j hj, trip_into j hj, trip_weights j hj]

theorem trip_collects (n : Fin 36) (h : Fin 8) (r : Fin 64) (v : Fin 128) :
    Cert.ReferenceIdeal.Step.b43 j s (ix4 n h r v) = if n = fromEnd j then Cert.ReferenceIdeal.Step.b38 j s (ix3 h r v)
      else s.main_v81_7 (ix4 n h r v) := by
  have row : Cert.ReferenceIdeal.Step.b38 j s (ix3 h r v) = Cert.ReferenceIdeal.Step.b39 j s (ix4 0 h r v) := by
    pointwise [Cert.ReferenceIdeal.Step.b39]
  rw [row]
  unfold Cert.ReferenceIdeal.Step.b43
  refine leading_update s.main_v81_7 _ _ _ (fromEnd j) ?_ ?_ ?_ ?_ n h r v
  · exact slice_start j hj s
  all_goals rfl

end Trip

variable (p : Projections) (w : Bounds) (d : Tokens)

/-- the chunks' own values do not change -/
theorem kept (s : State Ideal) : ∀ j, (after s j).main_v81_0 = s.main_v81_0 ∧ (after s j).main_v81_1 = s.main_v81_1
    ∧ (after s j).main_v81_2 = s.main_v81_2 ∧ (after s j).main_v81_3 = s.main_v81_3 ∧ (after s j).main_v81_4 = s.main_v81_4
  | 0 => ⟨rfl, rfl, rfl, rfl, rfl⟩
  | j + 1 => kept s j

theorem carries (hw : RealBounds w) : ∀ j, j ≤ 36 → ∀ (h : Fin 8) (x v : Fin 128),
    (after (F := Ideal) (init p w d) j).main_v81_6 (ix3 h x v) = adjoint p w d j (ix3 h v x)
  | 0, _, h, x, v => by
    change Cert.ReferenceIdeal.Step.K_main_v79 (F := Ideal) (ix3 h x v) = 0
    pointwise [Cert.ReferenceIdeal.Step.K_main_v79, Cert.ReferenceIdeal.Step.K_main_cst_10]
  | j + 1, hj, h, x, v => by
    obtain ⟨k0, k1, k2, k3, k4⟩ := kept (init p w d) j
    change Cert.ReferenceIdeal.Step.b35 j (after (F := Ideal) (init p w d) j) (ix3 h x v) = _
    rw [trip_state j (by omega), carries hw j (by omega), k0, k1, k4]
    change _ = (nextState (queriesOf (qIn p (fromEnd j))) (decays (fIn p (fromEnd j)) w) (rowsAt d (fromEnd j)) (adjoint p w d j)) (ix3 h v x)
    rw [nextState_apply]
    refine congrArg₂ (· + ·) (congrArg (· * _) (Cert.ReferenceIdeal.Step.across_eq p w d hw _ h x 0)) (Finset.sum_congr rfl fun t _ => ?_)
    exact congrArg₂ (· * ·) (Cert.ReferenceIdeal.Step.fold_d p w d _ h t v) (Cert.ReferenceIdeal.Step.from_eq p w d hw _ h t x)

theorem trip_grad (hw : RealBounds w) (j : ℕ) (hj : j < 36) (h : Fin 8) (r : Fin 64) (v : Fin 128) :
    Cert.ReferenceIdeal.Step.b38 j (after (F := Ideal) (init p w d) j) (ix3 h r v) = inputGrad p w d (fromEnd j) (ix2 r (lane h v)) := by
  obtain ⟨k0, k1, k2, k3, k4⟩ := kept (init p w d) j
  have hn : 35 - (fromEnd j).val = j := by show 35 - (35 - j) = j; omega
  rw [trip_inputs j hj, k0, k2, k3, inputGrad, chunkDi_apply _ _ _ _ _ _ (meets_decays _ _ hw), fromState_apply, hn]
  refine congrArg₂ (· + ·) (Finset.sum_congr rfl fun x _ => ?_) (Finset.sum_congr rfl fun t _ => ?_)
  · exact congrArg₂ (· * ·) (carries p w d hw j (by omega) h x v) (Cert.ReferenceIdeal.Step.into_eq p w d hw _ h r x)
  · refine (congrArg₂ (· * ·) (Cert.ReferenceIdeal.Step.fold_d p w d _ h t v) (Cert.ReferenceIdeal.Step.weights_eq p w d hw _ h t r)).trans ?_
    by_cases hrt : r ≤ t
    · rw [if_pos hrt, if_pos hrt, mul_comm]
      rfl
    · rw [if_neg hrt, if_neg hrt, mul_zero]

theorem collects (hw : RealBounds w) : ∀ j, j ≤ 36 → ∀ (n : Fin 36), 36 - j ≤ n.val → ∀ (h : Fin 8) (r : Fin 64) (v : Fin 128),
    (after (F := Ideal) (init p w d) j).main_v81_7 (ix4 n h r v) = inputGrad p w d n (ix2 r (lane h v))
  | 0, _, n, hn, h, r, v => by have := n.isLt; omega
  | j + 1, hj, n, hn, h, r, v => by
    change Cert.ReferenceIdeal.Step.b43 j (after (F := Ideal) (init p w d) j) (ix4 n h r v) = _
    rw [trip_collects j (by omega)]
    by_cases he : n = fromEnd j
    · rw [if_pos he, trip_grad p w d hw j (by omega), he]
    · rw [if_neg he]
      refine collects hw j (by omega) n ?_ h r v
      have : n.val ≠ 35 - j := fun e => he (Fin.ext e)
      omega

/-- The program's result, row by row. -/
theorem result_apply (hw : RealBounds w) (n : Fin 36) (r : Fin 64) (c : Fin 1024) :
    Cert.ReferenceIdeal.Step.R_main_v84 (after (F := Ideal) (init p w d) 36) (ix2 (token n r) c) = inputGrad p w d n (ix2 r c) := by
  obtain ⟨h, v, rfl⟩ : ∃ h v, c = lane h v :=
    ⟨⟨c.val / 128, by omega⟩, ⟨c.val % 128, by omega⟩, Fin.ext (by show c.val = c.val / 128 * 128 + c.val % 128; omega)⟩
  rw [← collects p w d hw 36 le_rfl n (by omega) h r v]
  pointwise [Cert.ReferenceIdeal.Step.R_main_v84]
  have hr := r.isLt
  have hv := v.isLt
  refine congrArg _ (congr (congr (congr (congrArg ix4 (Fin.ext ?_)) (Fin.ext ?_)) (Fin.ext ?_)) (Fin.ext ?_))
  · show (n.val * 64 + r.val) / 64 = n.val; omega
  · show (h.val * 128 + v.val) / 128 = h.val; omega
  · show (n.val * 64 + r.val) % 64 = r.val; omega
  · show (h.val * 128 + v.val) % 128 = v.val; omega

end Cert.ReferenceIdeal.Trips
-- ==== Proof.Points.lean ====
/-
  The kernel's grid from its first point to its last: point `t` works on chunk `35 - t`, and the result array is the
  gradient of the inputs, chunk by chunk.
-/
module

public import proofs.«01_k».proof.Proof.Body
public import proofs.«01_k».proof.Proof.RefLoop
public import proofs.«01_k».proof.Proof.Gen.KernelIdeal.Value

@[expose] public section

set_option maxRecDepth 16384

noncomputable section

namespace Cert.KernelIdeal.Points

open Idealize.ShloMosaic Idealize.ShloMosaic.TcCoe Idealize.SL.Sem Cert.KernelIdeal Cert.KernelIdeal.Gen Cert.KernelIdeal.Value Cert.Scan

variable (m : (ℓ : Loc nD τ sig) → Buf (Elt Ideal) ℓ) (c : Dev nD)

/-- the arguments -/
def argP : Projections := m (c.tc.loc main_arg0)
def argW : Bounds := m (c.tc.loc main_arg1)
def argD : Tokens := m (c.tc.loc main_arg3)

/-! ## The blocks a point loads -/

theorem starts : ∀ t : Fin cfg0.N, (win0_0.index t 0 = 35 - t.val ∧ win0_0.index t 1 = 0) ∧ (win0_2.index t 0 = 35 - t.val ∧ win0_2.index t 1 = 2)
    ∧ (win0_3.index t 0 = 0 ∧ win0_3.index t 1 = 0) ∧ (win0_5.index t 0 = 35 - t.val ∧ win0_5.index t 1 = 0)
    ∧ (win0_7.index t 0 = 35 - t.val ∧ win0_7.index t 1 = 0) :=
  (by decide +kernel : ∀ t : Fin grid0.N, (win0_0.index t 0 = 35 - t.val ∧ win0_0.index t 1 = 0) ∧ (win0_2.index t 0 = 35 - t.val ∧ win0_2.index t 1 = 2)
    ∧ (win0_3.index t 0 = 0 ∧ win0_3.index t 1 = 0) ∧ (win0_5.index t 0 = 35 - t.val ∧ win0_5.index t 1 = 0)
    ∧ (win0_7.index t 0 = 35 - t.val ∧ win0_7.index t 1 = 0))

theorem block_w (t : Fin cfg0.N) : iblk m c 3 t = argW m c := by
  funext j
  unfold iblk argW
  rw [View.read_apply]
  show m (c.tc.loc main_arg1) _ = m (c.tc.loc main_arg1) _
  congr 1
  funext a
  apply Fin.ext
  match a with
  | ⟨0, _⟩ => show win0_3.index t 0 * 2 + 1 * (j 0).val = (j 0).val; rw [(starts t).2.2.1.1]; omega
  | ⟨1, _⟩ => show win0_3.index t 1 * 1024 + 1 * (j 1).val = (j 1).val; rw [(starts t).2.2.1.2]; omega

theorem block_d (t : Fin cfg0.N) : iblk m c 5 t = rowsAt (argD m c) (fromEnd t.val) := by
  funext j
  unfold iblk argD rowsAt
  rw [View.read_apply]
  show m (c.tc.loc main_arg3) _ = m (c.tc.loc main_arg3) _
  congr 1
  funext a
  apply Fin.ext
  match a with
  | ⟨0, _⟩ => show win0_5.index t 0 * 64 + 1 * (j 0).val = (35 - t.val) * 64 + (j 0).val; rw [(starts t).2.2.2.1.1]; omega
  | ⟨1, _⟩ => show win0_5.index t 1 * 1024 + 1 * (j 1).val = (j 1).val; rw [(starts t).2.2.2.1.2]; omega

theorem block_q (t : Fin cfg0.N) : X0_0 m c t = qIn (argP m c) (fromEnd t.val) := by
  funext j
  unfold X0_0 Pipeline.Window.fill
  rw [dif_pos (moved0_0 t j)]
  unfold iblk
  rw [View.read_apply]
  show m (c.tc.loc main_arg0) _ = m (c.tc.loc main_arg0) _
  congr 1
  funext a
  apply Fin.ext
  match a with
  | ⟨0, _⟩ => show win0_0.index t 0 * 64 + 1 * (j 0).val = (35 - t.val) * 64 + (j 0).val; rw [(starts t).1.1]; omega
  | ⟨1, _⟩ => show win0_0.index t 1 * 1024 + 1 * (j 1).val = 0 + (j 1).val; rw [(starts t).1.2]; omega

theorem block_f (t : Fin cfg0.N) : X0_2 m c t = fIn (argP m c) (fromEnd t.val) := by
  funext j
  unfold X0_2 Pipeline.Window.fill
  rw [dif_pos (moved0_2 t j)]
  unfold iblk
  rw [View.read_apply]
  show m (c.tc.loc main_arg0) _ = m (c.tc.loc main_arg0) _
  congr 1
  funext a
  apply Fin.ext
  match a with
  | ⟨0, _⟩ => show win0_2.index t 0 * 64 + 1 * (j 0).val = (35 - t.val) * 64 + (j 0).val; rw [(starts t).2.1.1]; omega
  | ⟨1, _⟩ => show win0_2.index t 1 * 1024 + 1 * (j 1).val = 2048 + (j 1).val; rw [(starts t).2.1.2]; omega

/-! ## The carried state and the written blocks -/

theorem carried : ∀ (n : ℕ) (h : n < cfg0.N), (outsAt0 m c n h).2.2.2.2 = adjoint (argP m c) (argW m c) (argD m c) (n + 1)
  | 0, h => by
    rw [outsAt0_A m c ⟨0, h⟩ rfl]
    dsimp only
    refine (Body.next_first (c := c) ..).trans ?_
    rw [block_q, block_f, block_w, block_d]
    rfl
  | n + 1, h => by
    have hN : cfg0.N = 36 := N_0
    have hB : ¬(⟨n + 1, h⟩ : Fin cfg0.N).val % 36 = 0 := by dsimp only; omega
    rw [outsAt0_B m c ⟨n + 1, h⟩ hB]
    dsimp only
    refine (Body.next_later (c := c) ..).trans ?_
    rw [block_q, block_f, block_w, block_d]
    show nextState _ _ _ (outsAt0 m c n _).2.2.2.2 _ _ _ _ = _
    rw [carried n]
    rfl

theorem written : ∀ (n : ℕ) (h : n < cfg0.N), (outsAt0 m c n h).2.1 = inputGrad (argP m c) (argW m c) (argD m c) (fromEnd n)
  | 0, h => by
    rw [outsAt0_A m c ⟨0, h⟩ rfl]
    dsimp only
    refine (Body.grad_first (c := c) ..).trans ?_
    rw [block_q, block_f, block_w, block_d]
    rfl
  | n + 1, h => by
    have hN : cfg0.N = 36 := N_0
    have hB : ¬(⟨n + 1, h⟩ : Fin cfg0.N).val % 36 = 0 := by dsimp only; omega
    rw [outsAt0_B m c ⟨n + 1, h⟩ hB]
    dsimp only
    refine (Body.grad_later (c := c) ..).trans ?_
    rw [block_q, block_f, block_w, block_d]
    show chunkDi _ _ _ _ _ (outsAt0 m c n _).2.2.2.2 = _
    rw [carried m c n]
    unfold inputGrad
    rw [show 35 - (fromEnd (n + 1)).val = n + 1 by simp only [fromEnd]; omega]

/-- the result array at a token and column -/
theorem result_at (n : Fin 36) (r : Fin 64) (l : Fin 1024) :
    (dats m 0 c).arrAt 7 cfg0.N (ix2 (token n r) l) = inputGrad (argP m c) (argW m c) (argD m c) n (ix2 r l) := by
  have hN : cfg0.N = 36 := N_0
  obtain ⟨t, ht⟩ : ∃ t : Fin cfg0.N, fromEnd t.val = n := ⟨⟨35 - n.val, by omega⟩, by apply Fin.ext; simp only [fromEnd]; omega⟩
  have hb := congrFun (blocks7 m c t (flush0_7 t)) (ix2 r l)
  rw [flushed7, written, View.read_apply] at hb
  subst ht
  refine Eq.trans ?_ hb
  congr 1
  funext a
  apply Fin.ext
  match a with
  | ⟨0, _⟩ => show (35 - t.val) * 64 + r.val = win0_7.index t 0 * 64 + 1 * r.val; rw [(starts t).2.2.2.2.1]; omega
  | ⟨1, _⟩ => show l.val = win0_7.index t 1 * 1024 + 1 * l.val; rw [(starts t).2.2.2.2.2]; omega

end Cert.KernelIdeal.Points
-- ==== Proof.Equal.lean ====
/-
  The claims assembled: the kernel's array of input gradients is the reference's, entry by entry, wherever the lower
  bounds are real numbers.
-/
module

public import proofs.«01_k».proof.Defs
public import proofs.«01_k».proof.Proof.Points
public import proofs.«01_k».proof.Proof.Gen.Pre_real_bounds

@[expose] public section

noncomputable section

namespace Cert.Equal

open Idealize.ShloMosaic Idealize.ShloMosaic.TcCoe Idealize.SL.Sem Cert.Scan

theorem infinity : Ideal.ofBits .f32 0x7F800000#32 = ⊤ := by simp [Ideal.ofBits, Ideal.ieee]

/-- The precondition, read: every lower bound is a real number. -/
theorem real_bounds (m : (ℓ : Loc Cert.KernelIdeal.nD Cert.KernelIdeal.τ Cert.KernelIdeal.sig) → Buf (Elt Ideal) ℓ)
    (hpre : Cert.Pre_KernelIdeal_real_bounds m) (c : Dev Cert.KernelIdeal.nD) : RealBounds (Cert.KernelIdeal.Points.argW m c) := by
  intro r l
  have h := congrFun (hpre c) (ix2 r l)
  have h' : BitVec.ofBool (decide (max (Cert.KernelIdeal.Points.argW m c (ix2 r l)) (-Cert.KernelIdeal.Points.argW m c (ix2 r l)) < Ideal.ofBits .f32 0x7F800000#32)) = 1#1 := h
  rw [infinity] at h'
  generalize Cert.KernelIdeal.Points.argW m c (ix2 r l) = z at h' ⊢
  induction z using EReal.rec with
  | bot => simp at h'
  | coe z => exact ⟨z, rfl⟩
  | top => simp at h'

/-- Every token is a token of a chunk. -/
theorem token_of (i : Fin 2304) : i = token ⟨i.val / 64, by omega⟩ ⟨i.val % 64, by omega⟩ :=
  Fin.ext (by show i.val = i.val / 64 * 64 + i.val % 64; omega)

theorem algebraic : Cert.algebraic_KernelIdeal_ReferenceIdeal_pre_real_bounds
    (hKernelIdeal := Cert.KernelIdeal.Gen.facts) (hReferenceIdeal := Cert.ReferenceIdeal.Gen.facts) (hPre_real_bounds := Cert.Pre_real_bounds.Gen.facts) := by
  intro m ρ m' ρ' hpre hagree
  refine ⟨fun c => (Cert.KernelIdeal.Gen.dats m 0 c).arrAt 7 Cert.KernelIdeal.cfg0.N, ?_, ?_⟩
  · exact (θ_run _ _ _).mono (fun r h c => ⟨(h c).2.1, (h c).2.2.2.2⟩) (Cert.KernelIdeal.Value.run_blocks m ρ)
  · refine (θ_run _ _ _).mono (fun r h c => ⟨(h c).1.trans ?_, (h c).2⟩) (Cert.ReferenceIdeal.Trips.run m' ρ')
    obtain ⟨e0, e1, -, e3⟩ := hagree c
    unfold Cert.ReferenceIdeal.Trips.start
    rw [e0, e1, e3]
    funext i
    have hi : (i 0).val < 2304 := (i 0).isLt
    rw [show i = ix2 (token ⟨(i 0).val / 64, by omega⟩ ⟨(i 0).val % 64, by omega⟩) (i 1) from funext fun a => by
      fin_cases a
      · exact token_of (i 0)
      · rfl]
    exact (Cert.ReferenceIdeal.Trips.result_apply _ _ _ (real_bounds m hpre c) _ _ _).trans (Cert.KernelIdeal.Points.result_at m c _ _ _).symm

/-- The reference leaves its arguments as they are, and has no semaphore. -/
theorem reference_frame : Cert.quiescent_ReferenceIdeal (hReferenceIdeal := Cert.ReferenceIdeal.Gen.facts) :=
  fun m ρ _ => (θ_run _ _ _).mono (fun r h => ⟨fun c => (h c).2, sem_eq_zero_of_no_sems (by decide) r.2⟩) (Cert.ReferenceIdeal.Trips.run (F := Ideal) m ρ)

end Cert.Equal
-- ==== Proof.Blocked.lean ====
/-
  A product computed block by block along the summed axis: an accumulator that is set at the first block of a run and
  added into at each later one holds, at the last, the whole sum.
-/
module

public import Idealize.ShloMosaic.Lib.Pipeline.Value
public import Idealize.ShloMosaic.Lib.Pointwise
public import Idealize.ShloMosaic.Lib.Pointwise.IndexVar
public import Idealize.ShloMosaic.Lib.ShapeFacts
public import Idealize.ShloMosaic.Lib.Tactic

@[expose] public section

noncomputable section

namespace Cert.Blocked

open Idealize.ShloMosaic

theorem zeros2 : (![0, 0] : Fin 2 → Nat) = fun _ => 0 := funext fun a => by fin_cases a <;> rfl
theorem zeros3 : (![0, 0, 0] : Fin 3 → Nat) = fun _ => 0 := funext fun a => by fin_cases a <;> rfl

/-- A quantity that is `M n` where a run of `J` points begins and grows by `M n` at each later point of the run is, after
    `j + 1` points of run `q`, the sum of those points' terms. -/
theorem run_sum {N : ℕ} (J : ℕ) (f M : (n : ℕ) → n < N → EReal)
    (h0 : ∀ (n : ℕ) (h : n < N), n % J = 0 → f n h = M n h)
    (hs : ∀ (n : ℕ) (h : n + 1 < N), ¬(n + 1) % J = 0 → f (n + 1) h = f n (Nat.lt_of_succ_lt h) + M (n + 1) h)
    (q : ℕ) : ∀ (j : ℕ) (_ : j < J) (h : J * q + j < N),
      f (J * q + j) h = ∑ s : Fin (j + 1), M (J * q + s.val) (by omega)
  | 0, _, h => by
    rw [h0 _ h (by rw [Nat.add_zero, Nat.mul_mod_right])]
    exact (Fin.sum_univ_one (fun s : Fin 1 => M (J * q + s.val) (by omega))).symm
  | j + 1, hj, h => by
    have hne : ¬(J * q + j + 1) % J = 0 := by
      rw [Nat.add_assoc, Nat.mul_add_mod, Nat.mod_eq_of_lt hj]; exact Nat.succ_ne_zero j
    refine (hs (J * q + j) h hne).trans ?_
    rw [run_sum J f M h0 hs q j (by omega) (by omega), Fin.sum_univ_castSucc (n := j + 1)]
    rfl

/-- place `l` of block `s` -/
def at_block {N : ℕ} (J n : ℕ) (hN : J * n = N) (s : Fin J) (l : Fin n) : Fin N :=
  ⟨s.val * n + l.val, by
    have h1 := s.isLt; have h2 := l.isLt
    calc s.val * n + l.val < s.val * n + n := by omega
      _ = (s.val + 1) * n := by ring
      _ ≤ J * n := Nat.mul_le_mul_right _ h1
      _ = N := hN⟩

/-- A sum over blocks of a sum inside each block is one sum. -/
theorem sum_blocks {N : ℕ} (J n : ℕ) (hN : J * n = N) (f : Fin N → EReal) :
    ∑ s : Fin J, ∑ l : Fin n, f (at_block J n hN s l) = ∑ p : Fin N, f p := by
  subst hN
  rw [← Fintype.sum_prod_type', ← finProdFinEquiv.sum_comp]
  refine Finset.sum_congr rfl fun x _ => congrArg f (Fin.ext ?_)
  show x.1.val * n + x.2.val = x.2.val + n * x.1.val
  ring

/-- A place among `n + k` is one of the first `n` or one of the last `k`. -/
theorem halves {N : ℕ} (n k : ℕ) (hN : n + k = N) (l : Fin N) :
    (∃ p : Fin n, l = ⟨p.val, Nat.lt_of_lt_of_le p.isLt (hN ▸ Nat.le_add_right n k)⟩)
      ∨ ∃ p : Fin k, l = ⟨n + p.val, hN ▸ Nat.add_lt_add_left p.isLt n⟩ := by
  rcases Nat.lt_or_ge l.val n with h | h
  · exact .inl ⟨⟨l.val, h⟩, rfl⟩
  · exact .inr ⟨⟨l.val - n, by have := l.isLt; omega⟩, Fin.ext (by show l.val = n + (l.val - n); omega)⟩

/-- The accumulator at the last point of run `q` holds the whole sum, where each point's term is the sum over its block. -/
theorem whole_sum {N P : ℕ} (e n : ℕ) (hP : (e + 1) * n = P) (f M : (k : ℕ) → k < N → EReal) (g : Fin P → EReal)
    (h0 : ∀ (k : ℕ) (h : k < N), k % (e + 1) = 0 → f k h = M k h)
    (hs : ∀ (k : ℕ) (h : k + 1 < N), ¬(k + 1) % (e + 1) = 0 → f (k + 1) h = f k (Nat.lt_of_succ_lt h) + M (k + 1) h)
    (q : ℕ) (hq : (e + 1) * q + e < N)
    (hM : ∀ (s : Fin (e + 1)) (h : (e + 1) * q + s.val < N), M ((e + 1) * q + s.val) h = ∑ l : Fin n, g (at_block (e + 1) n hP s l)) :
    f ((e + 1) * q + e) hq = ∑ p : Fin P, g p := by
  rw [run_sum (e + 1) f M h0 hs q e (Nat.lt_succ_self e) hq, ← sum_blocks (e + 1) n hP]
  exact Finset.sum_congr rfl fun s _ => hM s _

end Cert.Blocked
-- ==== Proof.In.lean ====
/-
  The input projection, `h · w`, shard by shard: the kernel's sum over four blocks of 512 features is the reference's
  sum over all 2048.
-/
module

public import proofs.«01_k».proof.Defs
public import proofs.«01_k».proof.Proof.Blocked
public import proofs.«01_k».proof.Proof.Gen.KernelInIdeal.Value
public import proofs.«01_k».proof.Proof.Gen.ReferenceInIdeal.Run

@[expose] public section

set_option maxRecDepth 65536

noncomputable section

namespace Cert.KernelInIdeal.Product

open Idealize.ShloMosaic Idealize.ShloMosaic.TcCoe Idealize.SL.Sem Cert.KernelInIdeal Cert.KernelInIdeal.Gen Cert.KernelInIdeal.Value Cert.Blocked

/-! ## One point of the grid -/

/-- what a point adds to entry `(r, l)` of the accumulator -/
def term (x : FVec Ideal S768x512 .bf16) (y : FVec Ideal S1x512x3392 .bf16) (r : Fin 768) (l : Fin 3392) : EReal :=
  ∑ p : Fin 512, x (ix2 r p) * y (ix3 0 p l)

section Point

variable (c : Dev nD) (i : grid0.Coords)
  (a3 : Memref sig .tc .vmem S768x512 .bf16) (h3 : a3.IsWhole) (a4 : Memref sig .tc .vmem S1x512x3392 .bf16) (h4 : a4.IsWhole)
  (a5 : Memref sig .tc .vmem S1x768x3392 .f32) (h5 : a5.IsWhole) (a6 : Memref sig .tc .vmem S768x3392 .f32) (h6 : a6.IsWhole)
  (x : FVec Ideal S768x512 .bf16) (y : FVec Ideal S1x512x3392 .bf16) (acc : FVec Ideal S768x3392 .f32)

theorem added (r : Fin 768) (l : Fin 3392) : k0_pay2 (F := Ideal) acc x y (ix2 r l) = acc (ix2 r l) + term x y r l := by
  pointwise [k0_pay2]
  rfl

theorem zero (r : Fin 768) (l : Fin 3392) : k0_pay1 (F := Ideal) (ix2 r l) = 0 := by
  pointwise [k0_pay1]

theorem moved (r : Fin 768) (l : Fin 3392) : k0_pay3 (F := Ideal) acc (ix3 0 r l) = acc (ix2 r l) := by
  pointwise [k0_pay3]

theorem first (hc0 : cond0_0 i) (hc1 : ¬cond0_1 i) :
    sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 (F := Ideal) c i a3 h3 a4 h4 a5 h5 a6 h6 hc0 hc1 x y)]
  unfold kernelRun0_A
  dsimp only
  sl_unfold_words
  rw [View.canon_cons_unit_zero zeros2]
  simp only [View.readAt_eq_ld, h3.read_unread, h4.read_unread, View.ld_unit_zero (S := S768x512) zeros2, View.ld_unit_zero (S := S1x512x3392) zeros3, View.readCov_unit_zero (S := S768x3392) _ zeros2]

theorem middle (hc0 : ¬cond0_0 i) (hc1 : ¬cond0_1 i) :
    sout0_B_0 (F := Ideal) c i a3 h3 a4 h4 a5 h5 a6 h6 hc0 hc1 x y acc = k0_pay2 (F := Ideal) acc x y := by
  unfold sout0_B_0
  rw [View.read_writes_eq_canon _ _ _ (scover0_B_0 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S768x512) zeros2, View.ld_unit_zero (S := S1x512x3392) zeros3, View.ld_unit_zero (S := S768x3392) zeros2]

theorem last (hc0 : ¬cond0_0 i) (hc1 : cond0_1 i) :
    sout0_C_0 (F := Ideal) c i a3 h3 a4 h4 a5 h5 a6 h6 hc0 hc1 x y acc = k0_pay2 (F := Ideal) acc x y := by
  unfold sout0_C_0
  rw [View.read_writes_eq_canon _ _ _ (scover0_C_0 (F := Ideal) c i a3 h3 a4 h4 a5 h5 a6 h6 hc0 hc1 x y acc)]
  unfold kernelRun0_C
  dsimp only
  sl_unfold_words
  rw [View.canon_unit_zero zeros2]
  simp only [View.readAt_eq_ld, h3.read_unread, h4.read_unread, h6.read_unread, View.ld_unit_zero (S := S768x512) zeros2, View.ld_unit_zero (S := S1x512x3392) zeros3, View.ld_unit_zero (S := S768x3392) zeros2]

theorem stored (hc0 : ¬cond0_0 i) (hc1 : cond0_1 i) :
    out0_C_2 (F := Ideal) c i a3 h3 a4 h4 a5 h5 a6 h6 hc0 hc1 x y acc = k0_pay3 (F := Ideal) (k0_pay2 (F := Ideal) acc x y) := by
  unfold out0_C_2
  rw [View.read_writes_eq_canon _ _ _ (cover0_C_2 (F := Ideal) c i a3 h3 a4 h4 a5 h5 a6 h6 hc0 hc1 x y acc)]
  unfold kernelRun0_C
  dsimp only
  sl_unfold_words
  rw [View.canon_unit_zero zeros3]
  simp only [View.readAt_eq_ld, h3.read_unread, h4.read_unread, h6.read_unread, View.ld_unit_zero (S := S768x512) zeros2, View.ld_unit_zero (S := S1x512x3392) zeros3, View.ld_unit_zero (S := S768x3392) zeros2, View.readCov_unit_zero (S := S768x3392) _ zeros2]

end Point

/-! ## The grid -/

variable (m : (ℓ : Loc nD τ sig) → Buf (Elt Ideal) ℓ) (c : Dev nD)

abbrev argX : FVec Ideal S2304x2048 .bf16 := m (c.tc.loc main_arg0)
abbrev argY : FVec Ideal S4x2048x3392 .bf16 := m (c.tc.loc main_arg1)

/-- which blocks point `t` loads -/
theorem starts : ∀ t : Fin cfg0.N, win0_0.index t 0 = t.val / 4 / 4 ∧ win0_0.index t 1 = t.val % 4 ∧ win0_1.index t 0 = t.val / 4 % 4 ∧ win0_1.index t 1 = t.val % 4 ∧ win0_1.index t 2 = 0 :=
  (by decide +kernel : ∀ t : Fin grid0.N, win0_0.index t 0 = t.val / 4 / 4 ∧ win0_0.index t 1 = t.val % 4 ∧ win0_1.index t 0 = t.val / 4 % 4 ∧ win0_1.index t 1 = t.val % 4 ∧ win0_1.index t 2 = 0)

/-- entry `(r, l)` of the accumulator after point `n`, and what point `n` adds to it -/
def held (r : Fin 768) (l : Fin 3392) (n : ℕ) (h : n < cfg0.N) : EReal := (outsAt0 m c n h).2 (ix2 r l)
def adds (r : Fin 768) (l : Fin 3392) (n : ℕ) (h : n < cfg0.N) : EReal := term (iblk m c 0 ⟨n, h⟩) (iblk m c 1 ⟨n, h⟩) r l

theorem held_first (r : Fin 768) (l : Fin 3392) (n : ℕ) (h : n < cfg0.N) (hn : n % 4 = 0) : held m c r l n h = adds m c r l n h := by
  unfold held
  rw [outsAt0_A m c ⟨n, h⟩ hn (by dsimp only; omega)]
  dsimp only
  rw [first, added, zero, zero_add]
  rfl

theorem held_later (r : Fin 768) (l : Fin 3392) (n : ℕ) (h : n + 1 < cfg0.N) (hn : ¬(n + 1) % 4 = 0) :
    held m c r l (n + 1) h = held m c r l n (Nat.lt_of_succ_lt h) + adds m c r l (n + 1) h := by
  unfold held
  by_cases h1 : (n + 1) % 4 = 3
  · rw [outsAt0_C m c ⟨n + 1, h⟩ hn h1]
    dsimp only
    rw [last, added]
    rfl
  · rw [outsAt0_B m c ⟨n + 1, h⟩ hn h1]
    dsimp only
    rw [middle, added]
    rfl

/-- what a point that ends a run writes is what the accumulator then holds -/
theorem written (r : Fin 768) (l : Fin 3392) (n : ℕ) (h : n < cfg0.N) (hn : n % 4 = 3) :
    (outsAt0 m c n h).1 (ix3 0 r l) = held m c r l n h := by
  unfold held
  rw [outsAt0_C m c ⟨n, h⟩ (by dsimp only; omega) hn]
  dsimp only
  rw [stored, last, moved]

/-- the result array, entry by entry -/
theorem value (j : Fin 4) (R : Fin 2304) (l : Fin 3392) :
    (G2 m c : FVec Ideal S4x2304x3392 .f32) (ix3 j R l) = ∑ p : Fin 2048, argX m c (ix2 R p) * argY m c (ix3 j p l) := by
  have hN : cfg0.N = 48 := N_0
  have hq : run2Of (ix3 j R l) = j.val + 4 * (R.val / 768) := by
    show 1 * (j.val / 1 - 0) + 4 * (R.val / 768 - 0) + 12 * (l.val / 3392 - 0) = _; omega
  have hloc : loc2Of (ix3 j R l) = ix3 0 ⟨R.val % 768, by omega⟩ l := funext fun a => Fin.ext <| by
    match a with
    | ⟨0, _⟩ => show j.val % 1 = 0; omega
    | ⟨1, _⟩ => rfl
    | ⟨2, _⟩ => show l.val % 3392 = l.val; omega
  have hlt : pt2Of (ix3 j R l) < cfg0.N := by show 4 * run2Of (ix3 j R l) + 3 < _; omega
  unfold G2
  rw [dif_pos hlt, ← outsAt0_sweep m c _ hlt, hloc, written m c _ _ _ hlt (by show (4 * run2Of (ix3 j R l) + 3) % 4 = 3; omega)]
  refine whole_sum 3 512 rfl (held m c _ _) (adds m c _ _) (fun p : Fin 2048 => argX m c (ix2 R p) * argY m c (ix3 j p l))
    (held_first m c _ _) (held_later m c _ _) (run2Of (ix3 j R l)) hlt fun s h => ?_
  generalize run2Of (ix3 j R l) = q at hq h ⊢
  have hs : s.val < 4 := s.isLt
  unfold adds term
  refine Finset.sum_congr rfl fun p _ => ?_
  obtain ⟨f0, f1, g0, g1, g2⟩ := starts ⟨4 * q + s.val, h⟩
  dsimp only at f0 f1 g0 g1 g2
  refine congrArg₂ (· * ·) ?_ ?_
  · unfold iblk
    rw [View.read_apply]
    show m (c.tc.loc main_arg0) _ = m (c.tc.loc main_arg0) _
    congr 1
    funext a
    apply Fin.ext
    match a with
    | ⟨0, _⟩ => show win0_0.index _ 0 * 768 + 1 * (R.val % 768) = R.val; rw [f0]; omega
    | ⟨1, _⟩ => show win0_0.index _ 1 * 512 + 1 * p.val = s.val * 512 + p.val; rw [f1]; omega
  · unfold iblk
    rw [View.read_apply]
    show m (c.tc.loc main_arg1) _ = m (c.tc.loc main_arg1) _
    congr 1
    funext a
    apply Fin.ext
    match a with
    | ⟨0, _⟩ => show win0_1.index _ 0 * 1 + 1 * 0 = j.val; rw [g0]; omega
    | ⟨1, _⟩ => show win0_1.index _ 1 * 512 + 1 * p.val = s.val * 512 + p.val; rw [g1]; omega
    | ⟨2, _⟩ => show win0_1.index _ 2 * 3392 + 1 * l.val = l.val; rw [g2]; omega

end Cert.KernelInIdeal.Product

namespace Cert.In

open Idealize.ShloMosaic Idealize.ShloMosaic.TcCoe Idealize.SL.Sem

/-- The reference leaves its arguments as they are, and has no semaphore. -/
theorem reference_frame : Cert.quiescent_ReferenceInIdeal (hReferenceInIdeal := Cert.ReferenceInIdeal.Gen.facts) :=
  fun m ρ _ => (θ_run _ _ _).mono (fun r h => ⟨fun c => (h c).2, sem_eq_zero_of_no_sems (by decide) r.2⟩) (Cert.ReferenceInIdeal.Value.run (F := Ideal) m ρ)

theorem algebraic : Cert.algebraic_KernelInIdeal_ReferenceInIdeal
    (hKernelInIdeal := Cert.KernelInIdeal.Gen.facts) (hReferenceInIdeal := Cert.ReferenceInIdeal.Gen.facts) := by
  intro m ρ m' ρ' _ hagree
  refine ⟨_, Cert.KernelInIdeal.Value.run (F := Ideal) m ρ, ?_⟩
  refine (θ_run _ _ _).mono (fun _ h c => ⟨(h c).1.trans ?_, (h c).2⟩) (Cert.ReferenceInIdeal.Value.run (F := Ideal) m' ρ')
  obtain ⟨e0, e1⟩ := hagree c
  rw [e0, e1]
  funext i
  obtain ⟨j, R, l, rfl⟩ : ∃ (j : Fin 4) (R : Fin 2304) (l : Fin 3392), i = ix3 j R l := ⟨i 0, i 1, i 2, funext fun a => by fin_cases a <;> rfl⟩
  refine Eq.trans ?_ (Cert.KernelInIdeal.Product.value m c j R l).symm
  pointwise []

end Cert.In
-- ==== Proof.InW.lean ====
/-
  The gradient of the input projection's weights, `hᵀ · ct`, shard by shard: the kernel's sum over three blocks of 768 tokens
  is the reference's sum over all 2304.
-/
module

public import proofs.«01_k».proof.Defs
public import proofs.«01_k».proof.Proof.Blocked
public import proofs.«01_k».proof.Proof.Gen.KernelInWIdeal.Value
public import proofs.«01_k».proof.Proof.Gen.ReferenceInWIdeal.Run

@[expose] public section

set_option maxRecDepth 65536

noncomputable section

namespace Cert.KernelInWIdeal.Product

open Idealize.ShloMosaic Idealize.ShloMosaic.TcCoe Idealize.SL.Sem Cert.KernelInWIdeal Cert.KernelInWIdeal.Gen Cert.KernelInWIdeal.Value Cert.Blocked

/-! ## One point of the grid -/

/-- what a point adds to entry `(r, l)` of the accumulator -/
def term (x : FVec Ideal S768x512 .bf16) (y : FVec Ideal S1x768x3392 .bf16) (r : Fin 512) (l : Fin 3392) : EReal :=
  ∑ p : Fin 768, x (ix2 p r) * y (ix3 0 p l)

section Point

variable (c : Dev nD) (i : grid0.Coords)
  (a3 : Memref sig .tc .vmem S768x512 .bf16) (h3 : a3.IsWhole) (a4 : Memref sig .tc .vmem S1x768x3392 .bf16) (h4 : a4.IsWhole)
  (a5 : Memref sig .tc .vmem S1x512x3392 .f32) (h5 : a5.IsWhole) (a6 : Memref sig .tc .vmem S512x3392 .f32) (h6 : a6.IsWhole)
  (x : FVec Ideal S768x512 .bf16) (y : FVec Ideal S1x768x3392 .bf16) (acc : FVec Ideal S512x3392 .f32)

theorem added (r : Fin 512) (l : Fin 3392) : k0_pay2 (F := Ideal) acc x y (ix2 r l) = acc (ix2 r l) + term x y r l := by
  pointwise [k0_pay2]
  rfl

theorem zero (r : Fin 512) (l : Fin 3392) : k0_pay1 (F := Ideal) (ix2 r l) = 0 := by
  pointwise [k0_pay1]

theorem moved (r : Fin 512) (l : Fin 3392) : k0_pay3 (F := Ideal) acc (ix3 0 r l) = acc (ix2 r l) := by
  pointwise [k0_pay3]

theorem first (hc0 : cond0_0 i) (hc1 : ¬cond0_1 i) :
    sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 (F := Ideal) c i a3 h3 a4 h4 a5 h5 a6 h6 hc0 hc1 x y)]
  unfold kernelRun0_A
  dsimp only
  sl_unfold_words
  rw [View.canon_cons_unit_zero zeros2]
  simp only [View.readAt_eq_ld, h3.read_unread, h4.read_unread, View.ld_unit_zero (S := S768x512) zeros2, View.ld_unit_zero (S := S1x768x3392) zeros3, View.readCov_unit_zero (S := S512x3392) _ zeros2]

theorem middle (hc0 : ¬cond0_0 i) (hc1 : ¬cond0_1 i) :
    sout0_B_0 (F := Ideal) c i a3 h3 a4 h4 a5 h5 a6 h6 hc0 hc1 x y acc = k0_pay2 (F := Ideal) acc x y := by
  unfold sout0_B_0
  rw [View.read_writes_eq_canon _ _ _ (scover0_B_0 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S768x512) zeros2, View.ld_unit_zero (S := S1x768x3392) zeros3, View.ld_unit_zero (S := S512x3392) zeros2]

theorem last (hc0 : ¬cond0_0 i) (hc1 : cond0_1 i) :
    sout0_C_0 (F := Ideal) c i a3 h3 a4 h4 a5 h5 a6 h6 hc0 hc1 x y acc = k0_pay2 (F := Ideal) acc x y := by
  unfold sout0_C_0
  rw [View.read_writes_eq_canon _ _ _ (scover0_C_0 (F := Ideal) c i a3 h3 a4 h4 a5 h5 a6 h6 hc0 hc1 x y acc)]
  unfold kernelRun0_C
  dsimp only
  sl_unfold_words
  rw [View.canon_unit_zero zeros2]
  simp only [View.readAt_eq_ld, h3.read_unread, h4.read_unread, h6.read_unread, View.ld_unit_zero (S := S768x512) zeros2, View.ld_unit_zero (S := S1x768x3392) zeros3, View.ld_unit_zero (S := S512x3392) zeros2]

theorem stored (hc0 : ¬cond0_0 i) (hc1 : cond0_1 i) :
    out0_C_2 (F := Ideal) c i a3 h3 a4 h4 a5 h5 a6 h6 hc0 hc1 x y acc = k0_pay3 (F := Ideal) (k0_pay2 (F := Ideal) acc x y) := by
  unfold out0_C_2
  rw [View.read_writes_eq_canon _ _ _ (cover0_C_2 (F := Ideal) c i a3 h3 a4 h4 a5 h5 a6 h6 hc0 hc1 x y acc)]
  unfold kernelRun0_C
  dsimp only
  sl_unfold_words
  rw [View.canon_unit_zero zeros3]
  simp only [View.readAt_eq_ld, h3.read_unread, h4.read_unread, h6.read_unread, View.ld_unit_zero (S := S768x512) zeros2, View.ld_unit_zero (S := S1x768x3392) zeros3, View.ld_unit_zero (S := S512x3392) zeros2, View.readCov_unit_zero (S := S512x3392) _ zeros2]

end Point

/-! ## The grid -/

variable (m : (ℓ : Loc nD τ sig) → Buf (Elt Ideal) ℓ) (c : Dev nD)

abbrev argX : FVec Ideal S2304x2048 .bf16 := m (c.tc.loc main_arg0)
abbrev argY : FVec Ideal S4x2304x3392 .bf16 := m (c.tc.loc main_arg1)

/-- which blocks point `t` loads -/
theorem starts : ∀ t : Fin cfg0.N, win0_0.index t 0 = t.val % 3 ∧ win0_0.index t 1 = t.val / 3 / 4 ∧ win0_1.index t 0 = t.val / 3 % 4 ∧ win0_1.index t 1 = t.val % 3 ∧ win0_1.index t 2 = 0 :=
  (by decide +kernel : ∀ t : Fin grid0.N, win0_0.index t 0 = t.val % 3 ∧ win0_0.index t 1 = t.val / 3 / 4 ∧ win0_1.index t 0 = t.val / 3 % 4 ∧ win0_1.index t 1 = t.val % 3 ∧ win0_1.index t 2 = 0)

/-- entry `(r, l)` of the accumulator after point `n`, and what point `n` adds to it -/
def held (r : Fin 512) (l : Fin 3392) (n : ℕ) (h : n < cfg0.N) : EReal := (outsAt0 m c n h).2 (ix2 r l)
def adds (r : Fin 512) (l : Fin 3392) (n : ℕ) (h : n < cfg0.N) : EReal := term (iblk m c 0 ⟨n, h⟩) (iblk m c 1 ⟨n, h⟩) r l

theorem held_first (r : Fin 512) (l : Fin 3392) (n : ℕ) (h : n < cfg0.N) (hn : n % 3 = 0) : held m c r l n h = adds m c r l n h := by
  unfold held
  rw [outsAt0_A m c ⟨n, h⟩ hn (by dsimp only; omega)]
  dsimp only
  rw [first, added, zero, zero_add]
  rfl

theorem held_later (r : Fin 512) (l : Fin 3392) (n : ℕ) (h : n + 1 < cfg0.N) (hn : ¬(n + 1) % 3 = 0) :
    held m c r l (n + 1) h = held m c r l n (Nat.lt_of_succ_lt h) + adds m c r l (n + 1) h := by
  unfold held
  by_cases h1 : (n + 1) % 3 = 2
  · rw [outsAt0_C m c ⟨n + 1, h⟩ hn h1]
    dsimp only
    rw [last, added]
    rfl
  · rw [outsAt0_B m c ⟨n + 1, h⟩ hn h1]
    dsimp only
    rw [middle, added]
    rfl

/-- what a point that ends a run writes is what the accumulator then holds -/
theorem written (r : Fin 512) (l : Fin 3392) (n : ℕ) (h : n < cfg0.N) (hn : n % 3 = 2) :
    (outsAt0 m c n h).1 (ix3 0 r l) = held m c r l n h := by
  unfold held
  rw [outsAt0_C m c ⟨n, h⟩ (by dsimp only; omega) hn]
  dsimp only
  rw [stored, last, moved]

/-- the result array, entry by entry -/
theorem value (j : Fin 4) (R : Fin 2048) (l : Fin 3392) :
    (G2 m c : FVec Ideal S4x2048x3392 .f32) (ix3 j R l) = ∑ p : Fin 2304, argX m c (ix2 p R) * argY m c (ix3 j p l) := by
  have hN : cfg0.N = 48 := N_0
  have hq : run2Of (ix3 j R l) = j.val + 4 * (R.val / 512) := by
    show 1 * (j.val / 1 - 0) + 4 * (R.val / 512 - 0) + 16 * (l.val / 3392 - 0) = _; omega
  have hloc : loc2Of (ix3 j R l) = ix3 0 ⟨R.val % 512, by omega⟩ l := funext fun a => Fin.ext <| by
    match a with
    | ⟨0, _⟩ => show j.val % 1 = 0; omega
    | ⟨1, _⟩ => rfl
    | ⟨2, _⟩ => show l.val % 3392 = l.val; omega
  have hlt : pt2Of (ix3 j R l) < cfg0.N := by show 3 * run2Of (ix3 j R l) + 2 < _; omega
  unfold G2
  rw [dif_pos hlt, ← outsAt0_sweep m c _ hlt, hloc, written m c _ _ _ hlt (by show (3 * run2Of (ix3 j R l) + 2) % 3 = 2; omega)]
  refine whole_sum 2 768 rfl (held m c _ _) (adds m c _ _) (fun p : Fin 2304 => argX m c (ix2 p R) * argY m c (ix3 j p l))
    (held_first m c _ _) (held_later m c _ _) (run2Of (ix3 j R l)) hlt fun s h => ?_
  generalize run2Of (ix3 j R l) = q at hq h ⊢
  have hs : s.val < 3 := s.isLt
  unfold adds term
  refine Finset.sum_congr rfl fun p _ => ?_
  obtain ⟨f0, f1, g0, g1, g2⟩ := starts ⟨3 * q + s.val, h⟩
  dsimp only at f0 f1 g0 g1 g2
  refine congrArg₂ (· * ·) ?_ ?_
  · unfold iblk
    rw [View.read_apply]
    show m (c.tc.loc main_arg0) _ = m (c.tc.loc main_arg0) _
    congr 1
    funext a
    apply Fin.ext
    match a with
    | ⟨0, _⟩ => show win0_0.index _ 0 * 768 + 1 * p.val = s.val * 768 + p.val; rw [f0]; omega
    | ⟨1, _⟩ => show win0_0.index _ 1 * 512 + 1 * (R.val % 512) = R.val; rw [f1]; omega
  · unfold iblk
    rw [View.read_apply]
    show m (c.tc.loc main_arg1) _ = m (c.tc.loc main_arg1) _
    congr 1
    funext a
    apply Fin.ext
    match a with
    | ⟨0, _⟩ => show win0_1.index _ 0 * 1 + 1 * 0 = j.val; rw [g0]; omega
    | ⟨1, _⟩ => show win0_1.index _ 1 * 768 + 1 * p.val = s.val * 768 + p.val; rw [g1]; omega
    | ⟨2, _⟩ => show win0_1.index _ 2 * 3392 + 1 * l.val = l.val; rw [g2]; omega

end Cert.KernelInWIdeal.Product

namespace Cert.InW

open Idealize.ShloMosaic Idealize.ShloMosaic.TcCoe Idealize.SL.Sem

/-- The reference leaves its arguments as they are, and has no semaphore. -/
theorem reference_frame : Cert.quiescent_ReferenceInWIdeal (hReferenceInWIdeal := Cert.ReferenceInWIdeal.Gen.facts) :=
  fun m ρ _ => (θ_run _ _ _).mono (fun r h => ⟨fun c => (h c).2, sem_eq_zero_of_no_sems (by decide) r.2⟩) (Cert.ReferenceInWIdeal.Value.run (F := Ideal) m ρ)

theorem algebraic : Cert.algebraic_KernelInWIdeal_ReferenceInWIdeal
    (hKernelInWIdeal := Cert.KernelInWIdeal.Gen.facts) (hReferenceInWIdeal := Cert.ReferenceInWIdeal.Gen.facts) := by
  intro m ρ m' ρ' _ hagree
  refine ⟨_, Cert.KernelInWIdeal.Value.run (F := Ideal) m ρ, ?_⟩
  refine (θ_run _ _ _).mono (fun _ h c => ⟨(h c).1.trans ?_, (h c).2⟩) (Cert.ReferenceInWIdeal.Value.run (F := Ideal) m' ρ')
  obtain ⟨e0, e1⟩ := hagree c
  rw [e0, e1]
  funext i
  obtain ⟨j, R, l, rfl⟩ : ∃ (j : Fin 4) (R : Fin 2048) (l : Fin 3392), i = ix3 j R l := ⟨i 0, i 1, i 2, funext fun a => by fin_cases a <;> rfl⟩
  refine Eq.trans ?_ (Cert.KernelInWIdeal.Product.value m c j R l).symm
  pointwise []
  exact Finset.sum_congr rfl fun p _ => mul_comm _ _

end Cert.InW
-- ==== Proof.InX.lean ====
/-
  The gradient of the input projection's input, `ct · wᵀ`: the kernel's sum over the four shards of 3392 columns is the
  reference's sum over all 13568.
-/
module

public import proofs.«01_k».proof.Defs
public import proofs.«01_k».proof.Proof.Blocked
public import proofs.«01_k».proof.Proof.Gen.KernelInXIdeal.Value
public import proofs.«01_k».proof.Proof.Gen.ReferenceInXIdeal.Run

@[expose] public section

set_option maxRecDepth 65536

noncomputable section

namespace Cert.KernelInXIdeal.Product

open Idealize.ShloMosaic Idealize.ShloMosaic.TcCoe Idealize.SL.Sem Cert.KernelInXIdeal Cert.KernelInXIdeal.Gen Cert.KernelInXIdeal.Value Cert.Blocked

/-! ## One point of the grid -/

/-- what a point adds to entry `(r, l)` of the accumulator -/
def term (x : FVec Ideal S1x768x3392 .bf16) (y : FVec Ideal S1x512x3392 .bf16) (r : Fin 768) (l : Fin 512) : EReal :=
  ∑ p : Fin 3392, x (ix3 0 r p) * y (ix3 0 l p)

section Point

variable (c : Dev nD) (i : grid0.Coords)
  (a3 : Memref sig .tc .vmem S1x768x3392 .bf16) (h3 : a3.IsWhole) (a4 : Memref sig .tc .vmem S1x512x3392 .bf16) (h4 : a4.IsWhole)
  (a5 : Memref sig .tc .vmem S768x512 .f32) (h5 : a5.IsWhole) (a6 : Memref sig .tc .vmem S768x512 .f32) (h6 : a6.IsWhole)
  (x : FVec Ideal S1x768x3392 .bf16) (y : FVec Ideal S1x512x3392 .bf16) (acc : FVec Ideal S768x512 .f32)

theorem added (r : Fin 768) (l : Fin 512) : k0_pay2 (F := Ideal) acc x y (ix2 r l) = acc (ix2 r l) + term x y r l := by
  pointwise [k0_pay2]
  rfl

theorem zero (r : Fin 768) (l : Fin 512) : k0_pay1 (F := Ideal) (ix2 r l) = 0 := by
  pointwise [k0_pay1]

theorem first (hc0 : cond0_0 i) (hc1 : ¬cond0_1 i) :
    sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 (F := Ideal) c i a3 h3 a4 h4 a5 h5 a6 h6 hc0 hc1 x y)]
  unfold kernelRun0_A
  dsimp only
  sl_unfold_words
  rw [View.canon_cons_unit_zero zeros2]
  simp only [View.readAt_eq_ld, h3.read_unread, h4.read_unread, View.ld_unit_zero (S := S1x768x3392) zeros3, View.ld_unit_zero (S := S1x512x3392) zeros3, View.readCov_unit_zero (S := S768x512) _ zeros2]

theorem middle (hc0 : ¬cond0_0 i) (hc1 : ¬cond0_1 i) :
    sout0_B_0 (F := Ideal) c i a3 h3 a4 h4 a5 h5 a6 h6 hc0 hc1 x y acc = k0_pay2 (F := Ideal) acc x y := by
  unfold sout0_B_0
  rw [View.read_writes_eq_canon _ _ _ (scover0_B_0 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S1x768x3392) zeros3, View.ld_unit_zero (S := S1x512x3392) zeros3, View.ld_unit_zero (S := S768x512) zeros2]

theorem last (hc0 : ¬cond0_0 i) (hc1 : cond0_1 i) :
    sout0_C_0 (F := Ideal) c i a3 h3 a4 h4 a5 h5 a6 h6 hc0 hc1 x y acc = k0_pay2 (F := Ideal) acc x y := by
  unfold sout0_C_0
  rw [View.read_writes_eq_canon _ _ _ (scover0_C_0 (F := Ideal) c i a3 h3 a4 h4 a5 h5 a6 h6 hc0 hc1 x y acc)]
  unfold kernelRun0_C
  dsimp only
  sl_unfold_words
  rw [View.canon_unit_zero zeros2]
  simp only [View.readAt_eq_ld, h3.read_unread, h4.read_unread, h6.read_unread, View.ld_unit_zero (S := S1x768x3392) zeros3, View.ld_unit_zero (S := S1x512x3392) zeros3, View.ld_unit_zero (S := S768x512) zeros2]

theorem stored (hc0 : ¬cond0_0 i) (hc1 : cond0_1 i) :
    out0_C_2 (F := Ideal) c i a3 h3 a4 h4 a5 h5 a6 h6 hc0 hc1 x y acc = k0_pay2 (F := Ideal) acc x y := by
  unfold out0_C_2
  rw [View.read_writes_eq_canon _ _ _ (cover0_C_2 (F := Ideal) c i a3 h3 a4 h4 a5 h5 a6 h6 hc0 hc1 x y acc)]
  unfold kernelRun0_C
  dsimp only
  sl_unfold_words
  rw [View.canon_unit_zero zeros2]
  simp only [View.readAt_eq_ld, h3.read_unread, h4.read_unread, h6.read_unread, View.ld_unit_zero (S := S1x768x3392) zeros3, View.ld_unit_zero (S := S1x512x3392) zeros3, View.ld_unit_zero (S := S768x512) zeros2, View.readCov_unit_zero (S := S768x512) _ zeros2]

end Point

/-! ## The grid -/

variable (m : (ℓ : Loc nD τ sig) → Buf (Elt Ideal) ℓ) (c : Dev nD)

abbrev argX : FVec Ideal S4x2304x3392 .bf16 := m (c.tc.loc main_arg0)
abbrev argY : FVec Ideal S4x2048x3392 .bf16 := m (c.tc.loc main_arg1)

/-- which blocks point `t` loads -/
theorem starts : ∀ t : Fin cfg0.N, win0_0.index t 0 = t.val % 4 ∧ win0_0.index t 1 = t.val / 4 / 4 ∧ win0_0.index t 2 = 0 ∧ win0_1.index t 0 = t.val % 4 ∧ win0_1.index t 1 = t.val / 4 % 4 ∧ win0_1.index t 2 = 0 :=
  (by decide +kernel : ∀ t : Fin grid0.N, win0_0.index t 0 = t.val % 4 ∧ win0_0.index t 1 = t.val / 4 / 4 ∧ win0_0.index t 2 = 0 ∧ win0_1.index t 0 = t.val % 4 ∧ win0_1.index t 1 = t.val / 4 % 4 ∧ win0_1.index t 2 = 0)

/-- entry `(r, l)` of the accumulator after point `n`, and what point `n` adds to it -/
def held (r : Fin 768) (l : Fin 512) (n : ℕ) (h : n < cfg0.N) : EReal := (outsAt0 m c n h).2 (ix2 r l)
def adds (r : Fin 768) (l : Fin 512) (n : ℕ) (h : n < cfg0.N) : EReal := term (iblk m c 0 ⟨n, h⟩) (iblk m c 1 ⟨n, h⟩) r l

theorem held_first (r : Fin 768) (l : Fin 512) (n : ℕ) (h : n < cfg0.N) (hn : n % 4 = 0) : held m c r l n h = adds m c r l n h := by
  unfold held
  rw [outsAt0_A m c ⟨n, h⟩ hn (by dsimp only; omega)]
  dsimp only
  rw [first, added, zero, zero_add]
  rfl

theorem held_later (r : Fin 768) (l : Fin 512) (n : ℕ) (h : n + 1 < cfg0.N) (hn : ¬(n + 1) % 4 = 0) :
    held m c r l (n + 1) h = held m c r l n (Nat.lt_of_succ_lt h) + adds m c r l (n + 1) h := by
  unfold held
  by_cases h1 : (n + 1) % 4 = 3
  · rw [outsAt0_C m c ⟨n + 1, h⟩ hn h1]
    dsimp only
    rw [last, added]
    rfl
  · rw [outsAt0_B m c ⟨n + 1, h⟩ hn h1]
    dsimp only
    rw [middle, added]
    rfl

/-- what a point that ends a run writes is what the accumulator then holds -/
theorem written (r : Fin 768) (l : Fin 512) (n : ℕ) (h : n < cfg0.N) (hn : n % 4 = 3) :
    (outsAt0 m c n h).1 (ix2 r l) = held m c r l n h := by
  unfold held
  rw [outsAt0_C m c ⟨n, h⟩ (by dsimp only; omega) hn]
  dsimp only
  rw [stored, last]

/-- the result array, entry by entry -/
theorem value (R : Fin 2304) (l : Fin 2048) :
    (G2 m c : FVec Ideal S2304x2048 .f32) (ix2 R l) = ∑ p : Fin 13568, argX m c (ix3 ⟨p.val / 3392, by omega⟩ R ⟨p.val % 3392, by omega⟩) * argY m c (ix3 ⟨p.val / 3392, by omega⟩ l ⟨p.val % 3392, by omega⟩) := by
  have hN : cfg0.N = 48 := N_0
  have hq : run2Of (ix2 R l) = 4 * (R.val / 768) + l.val / 512 := by
    show 4 * (R.val / 768 - 0) + 1 * (l.val / 512 - 0) = _; omega
  have hloc : loc2Of (ix2 R l) = ix2 ⟨R.val % 768, by omega⟩ ⟨l.val % 512, by omega⟩ := funext fun a => Fin.ext <| by
    match a with
    | ⟨0, _⟩ => rfl
    | ⟨1, _⟩ => rfl
  have hlt : pt2Of (ix2 R l) < cfg0.N := by show 4 * run2Of (ix2 R l) + 3 < _; omega
  unfold G2
  rw [dif_pos hlt, ← outsAt0_sweep m c _ hlt, hloc, written m c _ _ _ hlt (by show (4 * run2Of (ix2 R l) + 3) % 4 = 3; omega)]
  refine whole_sum 3 3392 rfl (held m c _ _) (adds m c _ _) (fun p : Fin 13568 => argX m c (ix3 ⟨p.val / 3392, by omega⟩ R ⟨p.val % 3392, by omega⟩) * argY m c (ix3 ⟨p.val / 3392, by omega⟩ l ⟨p.val % 3392, by omega⟩))
    (held_first m c _ _) (held_later m c _ _) (run2Of (ix2 R l)) hlt fun s h => ?_
  generalize run2Of (ix2 R l) = q at hq h ⊢
  have hs : s.val < 4 := s.isLt
  unfold adds term
  refine Finset.sum_congr rfl fun p _ => ?_
  obtain ⟨f0, f1, f2, g0, g1, g2⟩ := starts ⟨4 * q + s.val, h⟩
  dsimp only at f0 f1 f2 g0 g1 g2
  refine congrArg₂ (· * ·) ?_ ?_
  · unfold iblk
    rw [View.read_apply]
    show m (c.tc.loc main_arg0) _ = m (c.tc.loc main_arg0) _
    congr 1
    funext a
    apply Fin.ext
    match a with
    | ⟨0, _⟩ => show win0_0.index _ 0 * 1 + 1 * 0 = (s.val * 3392 + p.val) / 3392; rw [f0]; omega
    | ⟨1, _⟩ => show win0_0.index _ 1 * 768 + 1 * (R.val % 768) = R.val; rw [f1]; omega
    | ⟨2, _⟩ => show win0_0.index _ 2 * 3392 + 1 * p.val = (s.val * 3392 + p.val) % 3392; rw [f2]; omega
  · unfold iblk
    rw [View.read_apply]
    show m (c.tc.loc main_arg1) _ = m (c.tc.loc main_arg1) _
    congr 1
    funext a
    apply Fin.ext
    match a with
    | ⟨0, _⟩ => show win0_1.index _ 0 * 1 + 1 * 0 = (s.val * 3392 + p.val) / 3392; rw [g0]; omega
    | ⟨1, _⟩ => show win0_1.index _ 1 * 512 + 1 * (l.val % 512) = l.val; rw [g1]; omega
    | ⟨2, _⟩ => show win0_1.index _ 2 * 3392 + 1 * p.val = (s.val * 3392 + p.val) % 3392; rw [g2]; omega

end Cert.KernelInXIdeal.Product

namespace Cert.InX

open Idealize.ShloMosaic Idealize.ShloMosaic.TcCoe Idealize.SL.Sem

/-- The reference leaves its arguments as they are, and has no semaphore. -/
theorem reference_frame : Cert.quiescent_ReferenceInXIdeal (hReferenceInXIdeal := Cert.ReferenceInXIdeal.Gen.facts) :=
  fun m ρ _ => (θ_run _ _ _).mono (fun r h => ⟨fun c => (h c).2, sem_eq_zero_of_no_sems (by decide) r.2⟩) (Cert.ReferenceInXIdeal.Value.run (F := Ideal) m ρ)

theorem algebraic : Cert.algebraic_KernelInXIdeal_ReferenceInXIdeal
    (hKernelInXIdeal := Cert.KernelInXIdeal.Gen.facts) (hReferenceInXIdeal := Cert.ReferenceInXIdeal.Gen.facts) := by
  intro m ρ m' ρ' _ hagree
  refine ⟨_, Cert.KernelInXIdeal.Value.run (F := Ideal) m ρ, ?_⟩
  refine (θ_run _ _ _).mono (fun _ h c => ⟨(h c).1.trans ?_, (h c).2⟩) (Cert.ReferenceInXIdeal.Value.run (F := Ideal) m' ρ')
  obtain ⟨e0, e1⟩ := hagree c
  rw [e0, e1]
  funext i
  obtain ⟨R, l, rfl⟩ : ∃ (R : Fin 2304) (l : Fin 2048), i = ix2 R l := ⟨i 0, i 1, funext fun a => by fin_cases a <;> rfl⟩
  refine Eq.trans ?_ (Cert.KernelInXIdeal.Product.value m c R l).symm
  pointwise []

end Cert.InX
-- ==== Proof.Branch.lean ====
/-
  A branch's output product, `y · w` with the weights in four shards of 512 columns: the kernel's sum over two blocks of 512
  features is the reference's sum over all 1024.
-/
module

public import proofs.«01_k».proof.Defs
public import proofs.«01_k».proof.Proof.Blocked
public import proofs.«01_k».proof.Proof.Gen.KernelBranchIdeal.Value
public import proofs.«01_k».proof.Proof.Gen.ReferenceBranchIdeal.Run

@[expose] public section

set_option maxRecDepth 65536

noncomputable section

namespace Cert.KernelBranchIdeal.Product

open Idealize.ShloMosaic Idealize.ShloMosaic.TcCoe Idealize.SL.Sem Cert.KernelBranchIdeal Cert.KernelBranchIdeal.Gen Cert.KernelBranchIdeal.Value Cert.Blocked

/-! ## One point of the grid -/

/-- what a point adds to entry `(r, l)` of the accumulator -/
def term (x : FVec Ideal S768x512 .bf16) (y : FVec Ideal S1x512x512 .bf16) (r : Fin 768) (l : Fin 512) : EReal :=
  ∑ p : Fin 512, x (ix2 r p) * y (ix3 0 p l)

section Point

variable (c : Dev nD) (i : grid0.Coords)
  (a3 : Memref sig .tc .vmem S768x512 .bf16) (h3 : a3.IsWhole) (a4 : Memref sig .tc .vmem S1x512x512 .bf16) (h4 : a4.IsWhole)
  (a5 : Memref sig .tc .vmem S768x512 .f32) (h5 : a5.IsWhole) (a6 : Memref sig .tc .vmem S768x512 .f32) (h6 : a6.IsWhole)
  (x : FVec Ideal S768x512 .bf16) (y : FVec Ideal S1x512x512 .bf16) (acc : FVec Ideal S768x512 .f32)

theorem added (r : Fin 768) (l : Fin 512) : k0_pay2 (F := Ideal) acc x y (ix2 r l) = acc (ix2 r l) + term x y r l := by
  pointwise [k0_pay2]
  rfl

theorem zero (r : Fin 768) (l : Fin 512) : k0_pay1 (F := Ideal) (ix2 r l) = 0 := by
  pointwise [k0_pay1]

theorem first (hc0 : cond0_0 i) (hc1 : ¬cond0_1 i) :
    sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 (F := Ideal) c i a3 h3 a4 h4 a5 h5 a6 h6 hc0 hc1 x y)]
  unfold kernelRun0_A
  dsimp only
  sl_unfold_words
  rw [View.canon_cons_unit_zero zeros2]
  simp only [View.readAt_eq_ld, h3.read_unread, h4.read_unread, View.ld_unit_zero (S := S768x512) zeros2, View.ld_unit_zero (S := S1x512x512) zeros3, View.readCov_unit_zero (S := S768x512) _ zeros2]

theorem last (hc0 : ¬cond0_0 i) (hc1 : cond0_1 i) :
    sout0_B_0 (F := Ideal) c i a3 h3 a4 h4 a5 h5 a6 h6 hc0 hc1 x y acc = k0_pay2 (F := Ideal) acc x y := by
  unfold sout0_B_0
  rw [View.read_writes_eq_canon _ _ _ (scover0_B_0 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S768x512) zeros2, View.ld_unit_zero (S := S1x512x512) zeros3]

theorem stored (hc0 : ¬cond0_0 i) (hc1 : cond0_1 i) :
    out0_B_2 (F := Ideal) c i a3 h3 a4 h4 a5 h5 a6 h6 hc0 hc1 x y acc = k0_pay2 (F := Ideal) acc x y := by
  unfold out0_B_2
  rw [View.read_writes_eq_canon _ _ _ (cover0_B_2 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S768x512) zeros2, View.ld_unit_zero (S := S1x512x512) zeros3, View.readCov_unit_zero (S := S768x512) _ zeros2]

end Point

/-! ## The grid -/

variable (m : (ℓ : Loc nD τ sig) → Buf (Elt Ideal) ℓ) (c : Dev nD)

abbrev argX : FVec Ideal S2304x1024 .bf16 := m (c.tc.loc main_arg0)
abbrev argY : FVec Ideal S4x1024x512 .bf16 := m (c.tc.loc main_arg1)

/-- which blocks point `t` loads -/
theorem starts : ∀ t : Fin cfg0.N, win0_0.index t 0 = t.val / 2 / 4 ∧ win0_0.index t 1 = t.val % 2 ∧ win0_1.index t 0 = t.val / 2 % 4 ∧ win0_1.index t 1 = t.val % 2 ∧ win0_1.index t 2 = 0 :=
  (by decide +kernel : ∀ t : Fin grid0.N, win0_0.index t 0 = t.val / 2 / 4 ∧ win0_0.index t 1 = t.val % 2 ∧ win0_1.index t 0 = t.val / 2 % 4 ∧ win0_1.index t 1 = t.val % 2 ∧ win0_1.index t 2 = 0)

/-- entry `(r, l)` of the accumulator after point `n`, and what point `n` adds to it -/
def held (r : Fin 768) (l : Fin 512) (n : ℕ) (h : n < cfg0.N) : EReal := (outsAt0 m c n h).2 (ix2 r l)
def adds (r : Fin 768) (l : Fin 512) (n : ℕ) (h : n < cfg0.N) : EReal := term (iblk m c 0 ⟨n, h⟩) (iblk m c 1 ⟨n, h⟩) r l

theorem held_first (r : Fin 768) (l : Fin 512) (n : ℕ) (h : n < cfg0.N) (hn : n % 2 = 0) : held m c r l n h = adds m c r l n h := by
  unfold held
  rw [outsAt0_A m c ⟨n, h⟩ hn (by dsimp only; omega)]
  dsimp only
  rw [first, added, zero, zero_add]
  rfl

theorem held_later (r : Fin 768) (l : Fin 512) (n : ℕ) (h : n + 1 < cfg0.N) (hn : ¬(n + 1) % 2 = 0) :
    held m c r l (n + 1) h = held m c r l n (Nat.lt_of_succ_lt h) + adds m c r l (n + 1) h := by
  unfold held
  rw [outsAt0_B m c ⟨n + 1, h⟩ hn (by dsimp only; omega)]
  dsimp only
  rw [last, added]
  rfl

/-- what a point that ends a run writes is what the accumulator then holds -/
theorem written (r : Fin 768) (l : Fin 512) (n : ℕ) (h : n < cfg0.N) (hn : n % 2 = 1) :
    (outsAt0 m c n h).1 (ix2 r l) = held m c r l n h := by
  unfold held
  rw [outsAt0_B m c ⟨n, h⟩ (by dsimp only; omega) hn]
  dsimp only
  rw [stored, last]

/-- the result array, entry by entry -/
theorem value (R : Fin 2304) (l : Fin 2048) :
    (G2 m c : FVec Ideal S2304x2048 .f32) (ix2 R l) = ∑ p : Fin 1024, argX m c (ix2 R p) * argY m c (ix3 ⟨l.val / 512, by omega⟩ p ⟨l.val % 512, by omega⟩) := by
  have hN : cfg0.N = 24 := N_0
  have hq : run2Of (ix2 R l) = 4 * (R.val / 768) + l.val / 512 := by
    show 4 * (R.val / 768 - 0) + 1 * (l.val / 512 - 0) = _; omega
  have hloc : loc2Of (ix2 R l) = ix2 ⟨R.val % 768, by omega⟩ ⟨l.val % 512, by omega⟩ := funext fun a => Fin.ext <| by
    match a with
    | ⟨0, _⟩ => rfl
    | ⟨1, _⟩ => rfl
  have hlt : pt2Of (ix2 R l) < cfg0.N := by show 2 * run2Of (ix2 R l) + 1 < _; omega
  unfold G2
  rw [dif_pos hlt, ← outsAt0_sweep m c _ hlt, hloc, written m c _ _ _ hlt (by show (2 * run2Of (ix2 R l) + 1) % 2 = 1; omega)]
  refine whole_sum 1 512 rfl (held m c _ _) (adds m c _ _) (fun p : Fin 1024 => argX m c (ix2 R p) * argY m c (ix3 ⟨l.val / 512, by omega⟩ p ⟨l.val % 512, by omega⟩))
    (held_first m c _ _) (held_later m c _ _) (run2Of (ix2 R l)) hlt fun s h => ?_
  generalize run2Of (ix2 R l) = q at hq h ⊢
  have hs : s.val < 2 := s.isLt
  unfold adds term
  refine Finset.sum_congr rfl fun p _ => ?_
  obtain ⟨f0, f1, g0, g1, g2⟩ := starts ⟨2 * q + s.val, h⟩
  dsimp only at f0 f1 g0 g1 g2
  refine congrArg₂ (· * ·) ?_ ?_
  · unfold iblk
    rw [View.read_apply]
    show m (c.tc.loc main_arg0) _ = m (c.tc.loc main_arg0) _
    congr 1
    funext a
    apply Fin.ext
    match a with
    | ⟨0, _⟩ => show win0_0.index _ 0 * 768 + 1 * (R.val % 768) = R.val; rw [f0]; omega
    | ⟨1, _⟩ => show win0_0.index _ 1 * 512 + 1 * p.val = s.val * 512 + p.val; rw [f1]; omega
  · unfold iblk
    rw [View.read_apply]
    show m (c.tc.loc main_arg1) _ = m (c.tc.loc main_arg1) _
    congr 1
    funext a
    apply Fin.ext
    match a with
    | ⟨0, _⟩ => show win0_1.index _ 0 * 1 + 1 * 0 = l.val / 512; rw [g0]; omega
    | ⟨1, _⟩ => show win0_1.index _ 1 * 512 + 1 * p.val = s.val * 512 + p.val; rw [g1]; omega
    | ⟨2, _⟩ => show win0_1.index _ 2 * 512 + 1 * (l.val % 512) = l.val % 512; rw [g2]; omega

end Cert.KernelBranchIdeal.Product

namespace Cert.Branch

open Idealize.ShloMosaic Idealize.ShloMosaic.TcCoe Idealize.SL.Sem

/-- The reference leaves its arguments as they are, and has no semaphore. -/
theorem reference_frame : Cert.quiescent_ReferenceBranchIdeal (hReferenceBranchIdeal := Cert.ReferenceBranchIdeal.Gen.facts) :=
  fun m ρ _ => (θ_run _ _ _).mono (fun r h => ⟨fun c => (h c).2, sem_eq_zero_of_no_sems (by decide) r.2⟩) (Cert.ReferenceBranchIdeal.Value.run (F := Ideal) m ρ)

theorem algebraic : Cert.algebraic_KernelBranchIdeal_ReferenceBranchIdeal
    (hKernelBranchIdeal := Cert.KernelBranchIdeal.Gen.facts) (hReferenceBranchIdeal := Cert.ReferenceBranchIdeal.Gen.facts) := by
  intro m ρ m' ρ' _ hagree
  refine ⟨_, Cert.KernelBranchIdeal.Value.run (F := Ideal) m ρ, ?_⟩
  refine (θ_run _ _ _).mono (fun _ h c => ⟨(h c).1.trans ?_, (h c).2⟩) (Cert.ReferenceBranchIdeal.Value.run (F := Ideal) m' ρ')
  obtain ⟨e0, e1⟩ := hagree c
  rw [e0, e1]
  funext i
  obtain ⟨R, l, rfl⟩ : ∃ (R : Fin 2304) (l : Fin 2048), i = ix2 R l := ⟨i 0, i 1, funext fun a => by fin_cases a <;> rfl⟩
  refine Eq.trans ?_ (Cert.KernelBranchIdeal.Product.value m c R l).symm
  pointwise []

end Cert.Branch
-- ==== Proof.BranchW.lean ====
/-
  The gradient of a branch's output weights, `yᵀ · ct`, shard by shard: the kernel's sum over three blocks of 768 tokens is
  the reference's sum over all 2304.
-/
module

public import proofs.«01_k».proof.Defs
public import proofs.«01_k».proof.Proof.Blocked
public import proofs.«01_k».proof.Proof.Gen.KernelBranchWIdeal.Value
public import proofs.«01_k».proof.Proof.Gen.ReferenceBranchWIdeal.Run

@[expose] public section

set_option maxRecDepth 65536

noncomputable section

namespace Cert.KernelBranchWIdeal.Product

open Idealize.ShloMosaic Idealize.ShloMosaic.TcCoe Idealize.SL.Sem Cert.KernelBranchWIdeal Cert.KernelBranchWIdeal.Gen Cert.KernelBranchWIdeal.Value Cert.Blocked

/-! ## One point of the grid -/

/-- what a point adds to entry `(r, l)` of the accumulator -/
def term (x : FVec Ideal S768x512 .bf16) (y : FVec Ideal S768x512 .bf16) (r : Fin 512) (l : Fin 512) : EReal :=
  ∑ p : Fin 768, x (ix2 p r) * y (ix2 p l)

section Point

variable (c : Dev nD) (i : grid0.Coords)
  (a3 : Memref sig .tc .vmem S768x512 .bf16) (h3 : a3.IsWhole) (a4 : Memref sig .tc .vmem S768x512 .bf16) (h4 : a4.IsWhole)
  (a5 : Memref sig .tc .vmem S1x512x512 .f32) (h5 : a5.IsWhole) (a6 : Memref sig .tc .vmem S512x512 .f32) (h6 : a6.IsWhole)
  (x : FVec Ideal S768x512 .bf16) (y : FVec Ideal S768x512 .bf16) (acc : FVec Ideal S512x512 .f32)

theorem added (r : Fin 512) (l : Fin 512) : k0_pay2 (F := Ideal) acc x y (ix2 r l) = acc (ix2 r l) + term x y r l := by
  pointwise [k0_pay2]
  rfl

theorem zero (r : Fin 512) (l : Fin 512) : k0_pay1 (F := Ideal) (ix2 r l) = 0 := by
  pointwise [k0_pay1]

theorem moved (r : Fin 512) (l : Fin 512) : k0_pay3 (F := Ideal) acc (ix3 0 r l) = acc (ix2 r l) := by
  pointwise [k0_pay3]

theorem first (hc0 : cond0_0 i) (hc1 : ¬cond0_1 i) :
    sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 (F := Ideal) c i a3 h3 a4 h4 a5 h5 a6 h6 hc0 hc1 x y)]
  unfold kernelRun0_A
  dsimp only
  sl_unfold_words
  rw [View.canon_cons_unit_zero zeros2]
  simp only [View.readAt_eq_ld, h3.read_unread, h4.read_unread, View.ld_unit_zero (S := S768x512) zeros2, View.readCov_unit_zero (S := S512x512) _ zeros2]

theorem middle (hc0 : ¬cond0_0 i) (hc1 : ¬cond0_1 i) :
    sout0_B_0 (F := Ideal) c i a3 h3 a4 h4 a5 h5 a6 h6 hc0 hc1 x y acc = k0_pay2 (F := Ideal) acc x y := by
  unfold sout0_B_0
  rw [View.read_writes_eq_canon _ _ _ (scover0_B_0 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S768x512) zeros2, View.ld_unit_zero (S := S512x512) zeros2]

theorem last (hc0 : ¬cond0_0 i) (hc1 : cond0_1 i) :
    sout0_C_0 (F := Ideal) c i a3 h3 a4 h4 a5 h5 a6 h6 hc0 hc1 x y acc = k0_pay2 (F := Ideal) acc x y := by
  unfold sout0_C_0
  rw [View.read_writes_eq_canon _ _ _ (scover0_C_0 (F := Ideal) c i a3 h3 a4 h4 a5 h5 a6 h6 hc0 hc1 x y acc)]
  unfold kernelRun0_C
  dsimp only
  sl_unfold_words
  rw [View.canon_unit_zero zeros2]
  simp only [View.readAt_eq_ld, h3.read_unread, h4.read_unread, h6.read_unread, View.ld_unit_zero (S := S768x512) zeros2, View.ld_unit_zero (S := S512x512) zeros2]

theorem stored (hc0 : ¬cond0_0 i) (hc1 : cond0_1 i) :
    out0_C_2 (F := Ideal) c i a3 h3 a4 h4 a5 h5 a6 h6 hc0 hc1 x y acc = k0_pay3 (F := Ideal) (k0_pay2 (F := Ideal) acc x y) := by
  unfold out0_C_2
  rw [View.read_writes_eq_canon _ _ _ (cover0_C_2 (F := Ideal) c i a3 h3 a4 h4 a5 h5 a6 h6 hc0 hc1 x y acc)]
  unfold kernelRun0_C
  dsimp only
  sl_unfold_words
  rw [View.canon_unit_zero zeros3]
  simp only [View.readAt_eq_ld, h3.read_unread, h4.read_unread, h6.read_unread, View.ld_unit_zero (S := S768x512) zeros2, View.ld_unit_zero (S := S512x512) zeros2, View.readCov_unit_zero (S := S512x512) _ zeros2]

end Point

/-! ## The grid -/

variable (m : (ℓ : Loc nD τ sig) → Buf (Elt Ideal) ℓ) (c : Dev nD)

abbrev argX : FVec Ideal S2304x1024 .bf16 := m (c.tc.loc main_arg0)
abbrev argY : FVec Ideal S2304x2048 .bf16 := m (c.tc.loc main_arg1)

/-- which blocks point `t` loads -/
theorem starts : ∀ t : Fin cfg0.N, win0_0.index t 0 = t.val % 3 ∧ win0_0.index t 1 = t.val / 3 / 4 ∧ win0_1.index t 0 = t.val % 3 ∧ win0_1.index t 1 = t.val / 3 % 4 :=
  (by decide +kernel : ∀ t : Fin grid0.N, win0_0.index t 0 = t.val % 3 ∧ win0_0.index t 1 = t.val / 3 / 4 ∧ win0_1.index t 0 = t.val % 3 ∧ win0_1.index t 1 = t.val / 3 % 4)

/-- entry `(r, l)` of the accumulator after point `n`, and what point `n` adds to it -/
def held (r : Fin 512) (l : Fin 512) (n : ℕ) (h : n < cfg0.N) : EReal := (outsAt0 m c n h).2 (ix2 r l)
def adds (r : Fin 512) (l : Fin 512) (n : ℕ) (h : n < cfg0.N) : EReal := term (iblk m c 0 ⟨n, h⟩) (iblk m c 1 ⟨n, h⟩) r l

theorem held_first (r : Fin 512) (l : Fin 512) (n : ℕ) (h : n < cfg0.N) (hn : n % 3 = 0) : held m c r l n h = adds m c r l n h := by
  unfold held
  rw [outsAt0_A m c ⟨n, h⟩ hn (by dsimp only; omega)]
  dsimp only
  rw [first, added, zero, zero_add]
  rfl

theorem held_later (r : Fin 512) (l : Fin 512) (n : ℕ) (h : n + 1 < cfg0.N) (hn : ¬(n + 1) % 3 = 0) :
    held m c r l (n + 1) h = held m c r l n (Nat.lt_of_succ_lt h) + adds m c r l (n + 1) h := by
  unfold held
  by_cases h1 : (n + 1) % 3 = 2
  · rw [outsAt0_C m c ⟨n + 1, h⟩ hn h1]
    dsimp only
    rw [last, added]
    rfl
  · rw [outsAt0_B m c ⟨n + 1, h⟩ hn h1]
    dsimp only
    rw [middle, added]
    rfl

/-- what a point that ends a run writes is what the accumulator then holds -/
theorem written (r : Fin 512) (l : Fin 512) (n : ℕ) (h : n < cfg0.N) (hn : n % 3 = 2) :
    (outsAt0 m c n h).1 (ix3 0 r l) = held m c r l n h := by
  unfold held
  rw [outsAt0_C m c ⟨n, h⟩ (by dsimp only; omega) hn]
  dsimp only
  rw [stored, last, moved]

/-- the result array, entry by entry -/
theorem value (j : Fin 4) (R : Fin 1024) (l : Fin 512) :
    (G2 m c : FVec Ideal S4x1024x512 .f32) (ix3 j R l) = ∑ p : Fin 2304, argX m c (ix2 p R) * argY m c (ix2 p ⟨j.val * 512 + l.val, by omega⟩) := by
  have hN : cfg0.N = 24 := N_0
  have hq : run2Of (ix3 j R l) = j.val + 4 * (R.val / 512) := by
    show 1 * (j.val / 1 - 0) + 4 * (R.val / 512 - 0) + 8 * (l.val / 512 - 0) = _; omega
  have hloc : loc2Of (ix3 j R l) = ix3 0 ⟨R.val % 512, by omega⟩ l := funext fun a => Fin.ext <| by
    match a with
    | ⟨0, _⟩ => show j.val % 1 = 0; omega
    | ⟨1, _⟩ => rfl
    | ⟨2, _⟩ => show l.val % 512 = l.val; omega
  have hlt : pt2Of (ix3 j R l) < cfg0.N := by show 3 * run2Of (ix3 j R l) + 2 < _; omega
  unfold G2
  rw [dif_pos hlt, ← outsAt0_sweep m c _ hlt, hloc, written m c _ _ _ hlt (by show (3 * run2Of (ix3 j R l) + 2) % 3 = 2; omega)]
  refine whole_sum 2 768 rfl (held m c _ _) (adds m c _ _) (fun p : Fin 2304 => argX m c (ix2 p R) * argY m c (ix2 p ⟨j.val * 512 + l.val, by omega⟩))
    (held_first m c _ _) (held_later m c _ _) (run2Of (ix3 j R l)) hlt fun s h => ?_
  generalize run2Of (ix3 j R l) = q at hq h ⊢
  have hs : s.val < 3 := s.isLt
  unfold adds term
  refine Finset.sum_congr rfl fun p _ => ?_
  obtain ⟨f0, f1, g0, g1⟩ := starts ⟨3 * q + s.val, h⟩
  dsimp only at f0 f1 g0 g1
  refine congrArg₂ (· * ·) ?_ ?_
  · unfold iblk
    rw [View.read_apply]
    show m (c.tc.loc main_arg0) _ = m (c.tc.loc main_arg0) _
    congr 1
    funext a
    apply Fin.ext
    match a with
    | ⟨0, _⟩ => show win0_0.index _ 0 * 768 + 1 * p.val = s.val * 768 + p.val; rw [f0]; omega
    | ⟨1, _⟩ => show win0_0.index _ 1 * 512 + 1 * (R.val % 512) = R.val; rw [f1]; omega
  · unfold iblk
    rw [View.read_apply]
    show m (c.tc.loc main_arg1) _ = m (c.tc.loc main_arg1) _
    congr 1
    funext a
    apply Fin.ext
    match a with
    | ⟨0, _⟩ => show win0_1.index _ 0 * 768 + 1 * p.val = s.val * 768 + p.val; rw [g0]; omega
    | ⟨1, _⟩ => show win0_1.index _ 1 * 512 + 1 * l.val = j.val * 512 + l.val; rw [g1]; omega

end Cert.KernelBranchWIdeal.Product

namespace Cert.BranchW

open Idealize.ShloMosaic Idealize.ShloMosaic.TcCoe Idealize.SL.Sem

/-- The reference leaves its arguments as they are, and has no semaphore. -/
theorem reference_frame : Cert.quiescent_ReferenceBranchWIdeal (hReferenceBranchWIdeal := Cert.ReferenceBranchWIdeal.Gen.facts) :=
  fun m ρ _ => (θ_run _ _ _).mono (fun r h => ⟨fun c => (h c).2, sem_eq_zero_of_no_sems (by decide) r.2⟩) (Cert.ReferenceBranchWIdeal.Value.run (F := Ideal) m ρ)

theorem algebraic : Cert.algebraic_KernelBranchWIdeal_ReferenceBranchWIdeal
    (hKernelBranchWIdeal := Cert.KernelBranchWIdeal.Gen.facts) (hReferenceBranchWIdeal := Cert.ReferenceBranchWIdeal.Gen.facts) := by
  intro m ρ m' ρ' _ hagree
  refine ⟨_, Cert.KernelBranchWIdeal.Value.run (F := Ideal) m ρ, ?_⟩
  refine (θ_run _ _ _).mono (fun _ h c => ⟨(h c).1.trans ?_, (h c).2⟩) (Cert.ReferenceBranchWIdeal.Value.run (F := Ideal) m' ρ')
  obtain ⟨e0, e1⟩ := hagree c
  rw [e0, e1]
  funext i
  obtain ⟨j, R, l, rfl⟩ : ∃ (j : Fin 4) (R : Fin 1024) (l : Fin 512), i = ix3 j R l := ⟨i 0, i 1, i 2, funext fun a => by fin_cases a <;> rfl⟩
  refine Eq.trans ?_ (Cert.KernelBranchWIdeal.Product.value m c j R l).symm
  pointwise []
  exact Finset.sum_congr rfl fun p _ => mul_comm _ _

end Cert.BranchW
-- ==== Proof.BranchX.lean ====
/-
  The gradient of a branch's output, `ct · wᵀ`: the kernel's sum over the four shards of 512 columns is the reference's sum
  over all 2048.
-/
module

public import proofs.«01_k».proof.Defs
public import proofs.«01_k».proof.Proof.Blocked
public import proofs.«01_k».proof.Proof.Gen.KernelBranchXIdeal.Value
public import proofs.«01_k».proof.Proof.Gen.ReferenceBranchXIdeal.Run

@[expose] public section

set_option maxRecDepth 65536

noncomputable section

namespace Cert.KernelBranchXIdeal.Product

open Idealize.ShloMosaic Idealize.ShloMosaic.TcCoe Idealize.SL.Sem Cert.KernelBranchXIdeal Cert.KernelBranchXIdeal.Gen Cert.KernelBranchXIdeal.Value Cert.Blocked

/-! ## One point of the grid -/

/-- what a point adds to entry `(r, l)` of the accumulator -/
def term (x : FVec Ideal S768x512 .bf16) (y : FVec Ideal S1x512x512 .bf16) (r : Fin 768) (l : Fin 512) : EReal :=
  ∑ p : Fin 512, x (ix2 r p) * y (ix3 0 l p)

section Point

variable (c : Dev nD) (i : grid0.Coords)
  (a3 : Memref sig .tc .vmem S768x512 .bf16) (h3 : a3.IsWhole) (a4 : Memref sig .tc .vmem S1x512x512 .bf16) (h4 : a4.IsWhole)
  (a5 : Memref sig .tc .vmem S768x512 .f32) (h5 : a5.IsWhole) (a6 : Memref sig .tc .vmem S768x512 .f32) (h6 : a6.IsWhole)
  (x : FVec Ideal S768x512 .bf16) (y : FVec Ideal S1x512x512 .bf16) (acc : FVec Ideal S768x512 .f32)

theorem added (r : Fin 768) (l : Fin 512) : k0_pay2 (F := Ideal) acc x y (ix2 r l) = acc (ix2 r l) + term x y r l := by
  pointwise [k0_pay2]
  rfl

theorem zero (r : Fin 768) (l : Fin 512) : k0_pay1 (F := Ideal) (ix2 r l) = 0 := by
  pointwise [k0_pay1]

theorem first (hc0 : cond0_0 i) (hc1 : ¬cond0_1 i) :
    sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 (F := Ideal) c i a3 h3 a4 h4 a5 h5 a6 h6 hc0 hc1 x y)]
  unfold kernelRun0_A
  dsimp only
  sl_unfold_words
  rw [View.canon_cons_unit_zero zeros2]
  simp only [View.readAt_eq_ld, h3.read_unread, h4.read_unread, View.ld_unit_zero (S := S768x512) zeros2, View.ld_unit_zero (S := S1x512x512) zeros3, View.readCov_unit_zero (S := S768x512) _ zeros2]

theorem middle (hc0 : ¬cond0_0 i) (hc1 : ¬cond0_1 i) :
    sout0_B_0 (F := Ideal) c i a3 h3 a4 h4 a5 h5 a6 h6 hc0 hc1 x y acc = k0_pay2 (F := Ideal) acc x y := by
  unfold sout0_B_0
  rw [View.read_writes_eq_canon _ _ _ (scover0_B_0 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S768x512) zeros2, View.ld_unit_zero (S := S1x512x512) zeros3]

theorem last (hc0 : ¬cond0_0 i) (hc1 : cond0_1 i) :
    sout0_C_0 (F := Ideal) c i a3 h3 a4 h4 a5 h5 a6 h6 hc0 hc1 x y acc = k0_pay2 (F := Ideal) acc x y := by
  unfold sout0_C_0
  rw [View.read_writes_eq_canon _ _ _ (scover0_C_0 (F := Ideal) c i a3 h3 a4 h4 a5 h5 a6 h6 hc0 hc1 x y acc)]
  unfold kernelRun0_C
  dsimp only
  sl_unfold_words
  rw [View.canon_unit_zero zeros2]
  simp only [View.readAt_eq_ld, h3.read_unread, h4.read_unread, h6.read_unread, View.ld_unit_zero (S := S768x512) zeros2, View.ld_unit_zero (S := S1x512x512) zeros3]

theorem stored (hc0 : ¬cond0_0 i) (hc1 : cond0_1 i) :
    out0_C_2 (F := Ideal) c i a3 h3 a4 h4 a5 h5 a6 h6 hc0 hc1 x y acc = k0_pay2 (F := Ideal) acc x y := by
  unfold out0_C_2
  rw [View.read_writes_eq_canon _ _ _ (cover0_C_2 (F := Ideal) c i a3 h3 a4 h4 a5 h5 a6 h6 hc0 hc1 x y acc)]
  unfold kernelRun0_C
  dsimp only
  sl_unfold_words
  rw [View.canon_unit_zero zeros2]
  simp only [View.readAt_eq_ld, h3.read_unread, h4.read_unread, h6.read_unread, View.ld_unit_zero (S := S768x512) zeros2, View.ld_unit_zero (S := S1x512x512) zeros3, View.readCov_unit_zero (S := S768x512) _ zeros2]

end Point

/-! ## The grid -/

variable (m : (ℓ : Loc nD τ sig) → Buf (Elt Ideal) ℓ) (c : Dev nD)

abbrev argX : FVec Ideal S2304x2048 .bf16 := m (c.tc.loc main_arg0)
abbrev argY : FVec Ideal S4x1024x512 .bf16 := m (c.tc.loc main_arg1)

/-- which blocks point `t` loads -/
theorem starts : ∀ t : Fin cfg0.N, win0_0.index t 0 = t.val / 4 / 2 ∧ win0_0.index t 1 = t.val % 4 ∧ win0_1.index t 0 = t.val % 4 ∧ win0_1.index t 1 = t.val / 4 % 2 ∧ win0_1.index t 2 = 0 :=
  (by decide +kernel : ∀ t : Fin grid0.N, win0_0.index t 0 = t.val / 4 / 2 ∧ win0_0.index t 1 = t.val % 4 ∧ win0_1.index t 0 = t.val % 4 ∧ win0_1.index t 1 = t.val / 4 % 2 ∧ win0_1.index t 2 = 0)

/-- entry `(r, l)` of the accumulator after point `n`, and what point `n` adds to it -/
def held (r : Fin 768) (l : Fin 512) (n : ℕ) (h : n < cfg0.N) : EReal := (outsAt0 m c n h).2 (ix2 r l)
def adds (r : Fin 768) (l : Fin 512) (n : ℕ) (h : n < cfg0.N) : EReal := term (iblk m c 0 ⟨n, h⟩) (iblk m c 1 ⟨n, h⟩) r l

theorem held_first (r : Fin 768) (l : Fin 512) (n : ℕ) (h : n < cfg0.N) (hn : n % 4 = 0) : held m c r l n h = adds m c r l n h := by
  unfold held
  rw [outsAt0_A m c ⟨n, h⟩ hn (by dsimp only; omega)]
  dsimp only
  rw [first, added, zero, zero_add]
  rfl

theorem held_later (r : Fin 768) (l : Fin 512) (n : ℕ) (h : n + 1 < cfg0.N) (hn : ¬(n + 1) % 4 = 0) :
    held m c r l (n + 1) h = held m c r l n (Nat.lt_of_succ_lt h) + adds m c r l (n + 1) h := by
  unfold held
  by_cases h1 : (n + 1) % 4 = 3
  · rw [outsAt0_C m c ⟨n + 1, h⟩ hn h1]
    dsimp only
    rw [last, added]
    rfl
  · rw [outsAt0_B m c ⟨n + 1, h⟩ hn h1]
    dsimp only
    rw [middle, added]
    rfl

/-- what a point that ends a run writes is what the accumulator then holds -/
theorem written (r : Fin 768) (l : Fin 512) (n : ℕ) (h : n < cfg0.N) (hn : n % 4 = 3) :
    (outsAt0 m c n h).1 (ix2 r l) = held m c r l n h := by
  unfold held
  rw [outsAt0_C m c ⟨n, h⟩ (by dsimp only; omega) hn]
  dsimp only
  rw [stored, last]

/-- the result array, entry by entry -/
theorem value (R : Fin 2304) (l : Fin 1024) :
    (G2 m c : FVec Ideal S2304x1024 .f32) (ix2 R l) = ∑ p : Fin 2048, argX m c (ix2 R p) * argY m c (ix3 ⟨p.val / 512, by omega⟩ l ⟨p.val % 512, by omega⟩) := by
  have hN : cfg0.N = 24 := N_0
  have hq : run2Of (ix2 R l) = 2 * (R.val / 768) + l.val / 512 := by
    show 2 * (R.val / 768 - 0) + 1 * (l.val / 512 - 0) = _; omega
  have hloc : loc2Of (ix2 R l) = ix2 ⟨R.val % 768, by omega⟩ ⟨l.val % 512, by omega⟩ := funext fun a => Fin.ext <| by
    match a with
    | ⟨0, _⟩ => rfl
    | ⟨1, _⟩ => rfl
  have hlt : pt2Of (ix2 R l) < cfg0.N := by show 4 * run2Of (ix2 R l) + 3 < _; omega
  unfold G2
  rw [dif_pos hlt, ← outsAt0_sweep m c _ hlt, hloc, written m c _ _ _ hlt (by show (4 * run2Of (ix2 R l) + 3) % 4 = 3; omega)]
  refine whole_sum 3 512 rfl (held m c _ _) (adds m c _ _) (fun p : Fin 2048 => argX m c (ix2 R p) * argY m c (ix3 ⟨p.val / 512, by omega⟩ l ⟨p.val % 512, by omega⟩))
    (held_first m c _ _) (held_later m c _ _) (run2Of (ix2 R l)) hlt fun s h => ?_
  generalize run2Of (ix2 R l) = q at hq h ⊢
  have hs : s.val < 4 := s.isLt
  unfold adds term
  refine Finset.sum_congr rfl fun p _ => ?_
  obtain ⟨f0, f1, g0, g1, g2⟩ := starts ⟨4 * q + s.val, h⟩
  dsimp only at f0 f1 g0 g1 g2
  refine congrArg₂ (· * ·) ?_ ?_
  · unfold iblk
    rw [View.read_apply]
    show m (c.tc.loc main_arg0) _ = m (c.tc.loc main_arg0) _
    congr 1
    funext a
    apply Fin.ext
    match a with
    | ⟨0, _⟩ => show win0_0.index _ 0 * 768 + 1 * (R.val % 768) = R.val; rw [f0]; omega
    | ⟨1, _⟩ => show win0_0.index _ 1 * 512 + 1 * p.val = s.val * 512 + p.val; rw [f1]; omega
  · unfold iblk
    rw [View.read_apply]
    show m (c.tc.loc main_arg1) _ = m (c.tc.loc main_arg1) _
    congr 1
    funext a
    apply Fin.ext
    match a with
    | ⟨0, _⟩ => show win0_1.index _ 0 * 1 + 1 * 0 = (s.val * 512 + p.val) / 512; rw [g0]; omega
    | ⟨1, _⟩ => show win0_1.index _ 1 * 512 + 1 * (l.val % 512) = l.val; rw [g1]; omega
    | ⟨2, _⟩ => show win0_1.index _ 2 * 512 + 1 * p.val = (s.val * 512 + p.val) % 512; rw [g2]; omega

end Cert.KernelBranchXIdeal.Product

namespace Cert.BranchX

open Idealize.ShloMosaic Idealize.ShloMosaic.TcCoe Idealize.SL.Sem

/-- The reference leaves its arguments as they are, and has no semaphore. -/
theorem reference_frame : Cert.quiescent_ReferenceBranchXIdeal (hReferenceBranchXIdeal := Cert.ReferenceBranchXIdeal.Gen.facts) :=
  fun m ρ _ => (θ_run _ _ _).mono (fun r h => ⟨fun c => (h c).2, sem_eq_zero_of_no_sems (by decide) r.2⟩) (Cert.ReferenceBranchXIdeal.Value.run (F := Ideal) m ρ)

theorem algebraic : Cert.algebraic_KernelBranchXIdeal_ReferenceBranchXIdeal
    (hKernelBranchXIdeal := Cert.KernelBranchXIdeal.Gen.facts) (hReferenceBranchXIdeal := Cert.ReferenceBranchXIdeal.Gen.facts) := by
  intro m ρ m' ρ' _ hagree
  refine ⟨_, Cert.KernelBranchXIdeal.Value.run (F := Ideal) m ρ, ?_⟩
  refine (θ_run _ _ _).mono (fun _ h c => ⟨(h c).1.trans ?_, (h c).2⟩) (Cert.ReferenceBranchXIdeal.Value.run (F := Ideal) m' ρ')
  obtain ⟨e0, e1⟩ := hagree c
  rw [e0, e1]
  funext i
  obtain ⟨R, l, rfl⟩ : ∃ (R : Fin 2304) (l : Fin 1024), i = ix2 R l := ⟨i 0, i 1, funext fun a => by fin_cases a <;> rfl⟩
  refine Eq.trans ?_ (Cert.KernelBranchXIdeal.Product.value m c R l).symm
  pointwise []

end Cert.BranchX
-- ==== Proof.Out.lean ====
/-
  The step's output product, `merged · w`: the kernel's sum over two blocks of 1024 features is the reference's sum over all
  2048.
-/
module

public import proofs.«01_k».proof.Defs
public import proofs.«01_k».proof.Proof.Blocked
public import proofs.«01_k».proof.Proof.Gen.KernelOutIdeal.Value
public import proofs.«01_k».proof.Proof.Gen.ReferenceOutIdeal.Run

@[expose] public section

set_option maxRecDepth 65536

noncomputable section

namespace Cert.KernelOutIdeal.Product

open Idealize.ShloMosaic Idealize.ShloMosaic.TcCoe Idealize.SL.Sem Cert.KernelOutIdeal Cert.KernelOutIdeal.Gen Cert.KernelOutIdeal.Value Cert.Blocked

/-! ## One point of the grid -/

/-- what a point adds to entry `(r, l)` of the accumulator -/
def term (x : FVec Ideal S768x1024 .bf16) (y : FVec Ideal S1024x512 .bf16) (r : Fin 768) (l : Fin 512) : EReal :=
  ∑ p : Fin 1024, x (ix2 r p) * y (ix2 p l)

section Point

variable (c : Dev nD) (i : grid0.Coords)
  (a3 : Memref sig .tc .vmem S768x1024 .bf16) (h3 : a3.IsWhole) (a4 : Memref sig .tc .vmem S1024x512 .bf16) (h4 : a4.IsWhole)
  (a5 : Memref sig .tc .vmem S768x512 .f32) (h5 : a5.IsWhole) (a6 : Memref sig .tc .vmem S768x512 .f32) (h6 : a6.IsWhole)
  (x : FVec Ideal S768x1024 .bf16) (y : FVec Ideal S1024x512 .bf16) (acc : FVec Ideal S768x512 .f32)

theorem added (r : Fin 768) (l : Fin 512) : k0_pay2 (F := Ideal) acc x y (ix2 r l) = acc (ix2 r l) + term x y r l := by
  pointwise [k0_pay2]
  rfl

theorem zero (r : Fin 768) (l : Fin 512) : k0_pay1 (F := Ideal) (ix2 r l) = 0 := by
  pointwise [k0_pay1]

theorem first (hc0 : cond0_0 i) (hc1 : ¬cond0_1 i) :
    sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 (F := Ideal) c i a3 h3 a4 h4 a5 h5 a6 h6 hc0 hc1 x y)]
  unfold kernelRun0_A
  dsimp only
  sl_unfold_words
  rw [View.canon_cons_unit_zero zeros2]
  simp only [View.readAt_eq_ld, h3.read_unread, h4.read_unread, View.ld_unit_zero (S := S768x1024) zeros2, View.ld_unit_zero (S := S1024x512) zeros2, View.readCov_unit_zero (S := S768x512) _ zeros2]

theorem last (hc0 : ¬cond0_0 i) (hc1 : cond0_1 i) :
    sout0_B_0 (F := Ideal) c i a3 h3 a4 h4 a5 h5 a6 h6 hc0 hc1 x y acc = k0_pay2 (F := Ideal) acc x y := by
  unfold sout0_B_0
  rw [View.read_writes_eq_canon _ _ _ (scover0_B_0 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S768x1024) zeros2, View.ld_unit_zero (S := S1024x512) zeros2, View.ld_unit_zero (S := S768x512) zeros2]

theorem stored (hc0 : ¬cond0_0 i) (hc1 : cond0_1 i) :
    out0_B_2 (F := Ideal) c i a3 h3 a4 h4 a5 h5 a6 h6 hc0 hc1 x y acc = k0_pay2 (F := Ideal) acc x y := by
  unfold out0_B_2
  rw [View.read_writes_eq_canon _ _ _ (cover0_B_2 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S768x1024) zeros2, View.ld_unit_zero (S := S1024x512) zeros2, View.ld_unit_zero (S := S768x512) zeros2, View.readCov_unit_zero (S := S768x512) _ zeros2]

end Point

/-! ## The grid -/

variable (m : (ℓ : Loc nD τ sig) → Buf (Elt Ideal) ℓ) (c : Dev nD)

abbrev argX : FVec Ideal S2304x2048 .bf16 := m (c.tc.loc main_arg0)
abbrev argY : FVec Ideal S2048x2048 .bf16 := m (c.tc.loc main_arg1)

/-- which blocks point `t` loads -/
theorem starts : ∀ t : Fin cfg0.N, win0_0.index t 0 = t.val / 2 / 4 ∧ win0_0.index t 1 = t.val % 2 ∧ win0_1.index t 0 = t.val % 2 ∧ win0_1.index t 1 = t.val / 2 % 4 :=
  (by decide +kernel : ∀ t : Fin grid0.N, win0_0.index t 0 = t.val / 2 / 4 ∧ win0_0.index t 1 = t.val % 2 ∧ win0_1.index t 0 = t.val % 2 ∧ win0_1.index t 1 = t.val / 2 % 4)

/-- entry `(r, l)` of the accumulator after point `n`, and what point `n` adds to it -/
def held (r : Fin 768) (l : Fin 512) (n : ℕ) (h : n < cfg0.N) : EReal := (outsAt0 m c n h).2 (ix2 r l)
def adds (r : Fin 768) (l : Fin 512) (n : ℕ) (h : n < cfg0.N) : EReal := term (iblk m c 0 ⟨n, h⟩) (iblk m c 1 ⟨n, h⟩) r l

theorem held_first (r : Fin 768) (l : Fin 512) (n : ℕ) (h : n < cfg0.N) (hn : n % 2 = 0) : held m c r l n h = adds m c r l n h := by
  unfold held
  rw [outsAt0_A m c ⟨n, h⟩ hn (by dsimp only; omega)]
  dsimp only
  rw [first, added, zero, zero_add]
  rfl

theorem held_later (r : Fin 768) (l : Fin 512) (n : ℕ) (h : n + 1 < cfg0.N) (hn : ¬(n + 1) % 2 = 0) :
    held m c r l (n + 1) h = held m c r l n (Nat.lt_of_succ_lt h) + adds m c r l (n + 1) h := by
  unfold held
  rw [outsAt0_B m c ⟨n + 1, h⟩ hn (by dsimp only; omega)]
  dsimp only
  rw [last, added]
  rfl

/-- what a point that ends a run writes is what the accumulator then holds -/
theorem written (r : Fin 768) (l : Fin 512) (n : ℕ) (h : n < cfg0.N) (hn : n % 2 = 1) :
    (outsAt0 m c n h).1 (ix2 r l) = held m c r l n h := by
  unfold held
  rw [outsAt0_B m c ⟨n, h⟩ (by dsimp only; omega) hn]
  dsimp only
  rw [stored, last]

/-- the result array, entry by entry -/
theorem value (R : Fin 2304) (l : Fin 2048) :
    (G2 m c : FVec Ideal S2304x2048 .f32) (ix2 R l) = ∑ p : Fin 2048, argX m c (ix2 R p) * argY m c (ix2 p l) := by
  have hN : cfg0.N = 24 := N_0
  have hq : run2Of (ix2 R l) = 4 * (R.val / 768) + l.val / 512 := by
    show 4 * (R.val / 768 - 0) + 1 * (l.val / 512 - 0) = _; omega
  have hloc : loc2Of (ix2 R l) = ix2 ⟨R.val % 768, by omega⟩ ⟨l.val % 512, by omega⟩ := funext fun a => Fin.ext <| by
    match a with
    | ⟨0, _⟩ => rfl
    | ⟨1, _⟩ => rfl
  have hlt : pt2Of (ix2 R l) < cfg0.N := by show 2 * run2Of (ix2 R l) + 1 < _; omega
  unfold G2
  rw [dif_pos hlt, ← outsAt0_sweep m c _ hlt, hloc, written m c _ _ _ hlt (by show (2 * run2Of (ix2 R l) + 1) % 2 = 1; omega)]
  refine whole_sum 1 1024 rfl (held m c _ _) (adds m c _ _) (fun p : Fin 2048 => argX m c (ix2 R p) * argY m c (ix2 p l))
    (held_first m c _ _) (held_later m c _ _) (run2Of (ix2 R l)) hlt fun s h => ?_
  generalize run2Of (ix2 R l) = q at hq h ⊢
  have hs : s.val < 2 := s.isLt
  unfold adds term
  refine Finset.sum_congr rfl fun p _ => ?_
  obtain ⟨f0, f1, g0, g1⟩ := starts ⟨2 * q + s.val, h⟩
  dsimp only at f0 f1 g0 g1
  refine congrArg₂ (· * ·) ?_ ?_
  · unfold iblk
    rw [View.read_apply]
    show m (c.tc.loc main_arg0) _ = m (c.tc.loc main_arg0) _
    congr 1
    funext a
    apply Fin.ext
    match a with
    | ⟨0, _⟩ => show win0_0.index _ 0 * 768 + 1 * (R.val % 768) = R.val; rw [f0]; omega
    | ⟨1, _⟩ => show win0_0.index _ 1 * 1024 + 1 * p.val = s.val * 1024 + p.val; rw [f1]; omega
  · unfold iblk
    rw [View.read_apply]
    show m (c.tc.loc main_arg1) _ = m (c.tc.loc main_arg1) _
    congr 1
    funext a
    apply Fin.ext
    match a with
    | ⟨0, _⟩ => show win0_1.index _ 0 * 1024 + 1 * p.val = s.val * 1024 + p.val; rw [g0]; omega
    | ⟨1, _⟩ => show win0_1.index _ 1 * 512 + 1 * (l.val % 512) = l.val; rw [g1]; omega

end Cert.KernelOutIdeal.Product

namespace Cert.Out

open Idealize.ShloMosaic Idealize.ShloMosaic.TcCoe Idealize.SL.Sem

/-- The reference leaves its arguments as they are, and has no semaphore. -/
theorem reference_frame : Cert.quiescent_ReferenceOutIdeal (hReferenceOutIdeal := Cert.ReferenceOutIdeal.Gen.facts) :=
  fun m ρ _ => (θ_run _ _ _).mono (fun r h => ⟨fun c => (h c).2, sem_eq_zero_of_no_sems (by decide) r.2⟩) (Cert.ReferenceOutIdeal.Value.run (F := Ideal) m ρ)

theorem algebraic : Cert.algebraic_KernelOutIdeal_ReferenceOutIdeal
    (hKernelOutIdeal := Cert.KernelOutIdeal.Gen.facts) (hReferenceOutIdeal := Cert.ReferenceOutIdeal.Gen.facts) := by
  intro m ρ m' ρ' _ hagree
  refine ⟨_, Cert.KernelOutIdeal.Value.run (F := Ideal) m ρ, ?_⟩
  refine (θ_run _ _ _).mono (fun _ h c => ⟨(h c).1.trans ?_, (h c).2⟩) (Cert.ReferenceOutIdeal.Value.run (F := Ideal) m' ρ')
  obtain ⟨e0, e1⟩ := hagree c
  rw [e0, e1]
  funext i
  obtain ⟨R, l, rfl⟩ : ∃ (R : Fin 2304) (l : Fin 2048), i = ix2 R l := ⟨i 0, i 1, funext fun a => by fin_cases a <;> rfl⟩
  refine Eq.trans ?_ (Cert.KernelOutIdeal.Product.value m c R l).symm
  pointwise []

end Cert.Out
-- ==== Proof.OutW.lean ====
/-
  The gradient of the output weights, `mergedᵀ · ct`: the kernel's sum over three blocks of 768 tokens is the reference's sum
  over all 2304.
-/
module

public import proofs.«01_k».proof.Defs
public import proofs.«01_k».proof.Proof.Blocked
public import proofs.«01_k».proof.Proof.Gen.KernelOutWIdeal.Value
public import proofs.«01_k».proof.Proof.Gen.ReferenceOutWIdeal.Run

@[expose] public section

set_option maxRecDepth 65536

noncomputable section

namespace Cert.KernelOutWIdeal.Product

open Idealize.ShloMosaic Idealize.ShloMosaic.TcCoe Idealize.SL.Sem Cert.KernelOutWIdeal Cert.KernelOutWIdeal.Gen Cert.KernelOutWIdeal.Value Cert.Blocked

/-! ## One point of the grid -/

/-- what a point adds to entry `(r, l)` of the accumulator -/
def term (x : FVec Ideal S768x512 .bf16) (y : FVec Ideal S768x512 .bf16) (r : Fin 512) (l : Fin 512) : EReal :=
  ∑ p : Fin 768, x (ix2 p r) * y (ix2 p l)

section Point

variable (c : Dev nD) (i : grid0.Coords)
  (a3 : Memref sig .tc .vmem S768x512 .bf16) (h3 : a3.IsWhole) (a4 : Memref sig .tc .vmem S768x512 .bf16) (h4 : a4.IsWhole)
  (a5 : Memref sig .tc .vmem S512x512 .f32) (h5 : a5.IsWhole) (a6 : Memref sig .tc .vmem S512x512 .f32) (h6 : a6.IsWhole)
  (x : FVec Ideal S768x512 .bf16) (y : FVec Ideal S768x512 .bf16) (acc : FVec Ideal S512x512 .f32)

theorem added (r : Fin 512) (l : Fin 512) : k0_pay2 (F := Ideal) acc x y (ix2 r l) = acc (ix2 r l) + term x y r l := by
  pointwise [k0_pay2]
  rfl

theorem zero (r : Fin 512) (l : Fin 512) : k0_pay1 (F := Ideal) (ix2 r l) = 0 := by
  pointwise [k0_pay1]

theorem first (hc0 : cond0_0 i) (hc1 : ¬cond0_1 i) :
    sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 (F := Ideal) c i a3 h3 a4 h4 a5 h5 a6 h6 hc0 hc1 x y)]
  unfold kernelRun0_A
  dsimp only
  sl_unfold_words
  rw [View.canon_cons_unit_zero zeros2]
  simp only [View.readAt_eq_ld, h3.read_unread, h4.read_unread, View.ld_unit_zero (S := S768x512) zeros2, View.readCov_unit_zero (S := S512x512) _ zeros2]

theorem middle (hc0 : ¬cond0_0 i) (hc1 : ¬cond0_1 i) :
    sout0_B_0 (F := Ideal) c i a3 h3 a4 h4 a5 h5 a6 h6 hc0 hc1 x y acc = k0_pay2 (F := Ideal) acc x y := by
  unfold sout0_B_0
  rw [View.read_writes_eq_canon _ _ _ (scover0_B_0 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S768x512) zeros2, View.ld_unit_zero (S := S512x512) zeros2]

theorem last (hc0 : ¬cond0_0 i) (hc1 : cond0_1 i) :
    sout0_C_0 (F := Ideal) c i a3 h3 a4 h4 a5 h5 a6 h6 hc0 hc1 x y acc = k0_pay2 (F := Ideal) acc x y := by
  unfold sout0_C_0
  rw [View.read_writes_eq_canon _ _ _ (scover0_C_0 (F := Ideal) c i a3 h3 a4 h4 a5 h5 a6 h6 hc0 hc1 x y acc)]
  unfold kernelRun0_C
  dsimp only
  sl_unfold_words
  rw [View.canon_unit_zero zeros2]
  simp only [View.readAt_eq_ld, h3.read_unread, h4.read_unread, h6.read_unread, View.ld_unit_zero (S := S768x512) zeros2, View.ld_unit_zero (S := S512x512) zeros2]

theorem stored (hc0 : ¬cond0_0 i) (hc1 : cond0_1 i) :
    out0_C_2 (F := Ideal) c i a3 h3 a4 h4 a5 h5 a6 h6 hc0 hc1 x y acc = k0_pay2 (F := Ideal) acc x y := by
  unfold out0_C_2
  rw [View.read_writes_eq_canon _ _ _ (cover0_C_2 (F := Ideal) c i a3 h3 a4 h4 a5 h5 a6 h6 hc0 hc1 x y acc)]
  unfold kernelRun0_C
  dsimp only
  sl_unfold_words
  rw [View.canon_unit_zero zeros2]
  simp only [View.readAt_eq_ld, h3.read_unread, h4.read_unread, h6.read_unread, View.ld_unit_zero (S := S768x512) zeros2, View.ld_unit_zero (S := S512x512) zeros2, View.readCov_unit_zero (S := S512x512) _ zeros2]

end Point

/-! ## The grid -/

variable (m : (ℓ : Loc nD τ sig) → Buf (Elt Ideal) ℓ) (c : Dev nD)

abbrev argX : FVec Ideal S2304x2048 .bf16 := m (c.tc.loc main_arg0)
abbrev argY : FVec Ideal S2304x2048 .bf16 := m (c.tc.loc main_arg1)

/-- which blocks point `t` loads -/
theorem starts : ∀ t : Fin cfg0.N, win0_0.index t 0 = t.val % 3 ∧ win0_0.index t 1 = t.val / 3 / 4 ∧ win0_1.index t 0 = t.val % 3 ∧ win0_1.index t 1 = t.val / 3 % 4 :=
  (by decide +kernel : ∀ t : Fin grid0.N, win0_0.index t 0 = t.val % 3 ∧ win0_0.index t 1 = t.val / 3 / 4 ∧ win0_1.index t 0 = t.val % 3 ∧ win0_1.index t 1 = t.val / 3 % 4)

/-- entry `(r, l)` of the accumulator after point `n`, and what point `n` adds to it -/
def held (r : Fin 512) (l : Fin 512) (n : ℕ) (h : n < cfg0.N) : EReal := (outsAt0 m c n h).2 (ix2 r l)
def adds (r : Fin 512) (l : Fin 512) (n : ℕ) (h : n < cfg0.N) : EReal := term (iblk m c 0 ⟨n, h⟩) (iblk m c 1 ⟨n, h⟩) r l

theorem held_first (r : Fin 512) (l : Fin 512) (n : ℕ) (h : n < cfg0.N) (hn : n % 3 = 0) : held m c r l n h = adds m c r l n h := by
  unfold held
  rw [outsAt0_A m c ⟨n, h⟩ hn (by dsimp only; omega)]
  dsimp only
  rw [first, added, zero, zero_add]
  rfl

theorem held_later (r : Fin 512) (l : Fin 512) (n : ℕ) (h : n + 1 < cfg0.N) (hn : ¬(n + 1) % 3 = 0) :
    held m c r l (n + 1) h = held m c r l n (Nat.lt_of_succ_lt h) + adds m c r l (n + 1) h := by
  unfold held
  by_cases h1 : (n + 1) % 3 = 2
  · rw [outsAt0_C m c ⟨n + 1, h⟩ hn h1]
    dsimp only
    rw [last, added]
    rfl
  · rw [outsAt0_B m c ⟨n + 1, h⟩ hn h1]
    dsimp only
    rw [middle, added]
    rfl

/-- what a point that ends a run writes is what the accumulator then holds -/
theorem written (r : Fin 512) (l : Fin 512) (n : ℕ) (h : n < cfg0.N) (hn : n % 3 = 2) :
    (outsAt0 m c n h).1 (ix2 r l) = held m c r l n h := by
  unfold held
  rw [outsAt0_C m c ⟨n, h⟩ (by dsimp only; omega) hn]
  dsimp only
  rw [stored, last]

/-- the result array, entry by entry -/
theorem value (R : Fin 2048) (l : Fin 2048) :
    (G2 m c : FVec Ideal S2048x2048 .f32) (ix2 R l) = ∑ p : Fin 2304, argX m c (ix2 p R) * argY m c (ix2 p l) := by
  have hN : cfg0.N = 48 := N_0
  have hq : run2Of (ix2 R l) = 4 * (R.val / 512) + l.val / 512 := by
    show 4 * (R.val / 512 - 0) + 1 * (l.val / 512 - 0) = _; omega
  have hloc : loc2Of (ix2 R l) = ix2 ⟨R.val % 512, by omega⟩ ⟨l.val % 512, by omega⟩ := funext fun a => Fin.ext <| by
    match a with
    | ⟨0, _⟩ => rfl
    | ⟨1, _⟩ => rfl
  have hlt : pt2Of (ix2 R l) < cfg0.N := by show 3 * run2Of (ix2 R l) + 2 < _; omega
  unfold G2
  rw [dif_pos hlt, ← outsAt0_sweep m c _ hlt, hloc, written m c _ _ _ hlt (by show (3 * run2Of (ix2 R l) + 2) % 3 = 2; omega)]
  refine whole_sum 2 768 rfl (held m c _ _) (adds m c _ _) (fun p : Fin 2304 => argX m c (ix2 p R) * argY m c (ix2 p l))
    (held_first m c _ _) (held_later m c _ _) (run2Of (ix2 R l)) hlt fun s h => ?_
  generalize run2Of (ix2 R l) = q at hq h ⊢
  have hs : s.val < 3 := s.isLt
  unfold adds term
  refine Finset.sum_congr rfl fun p _ => ?_
  obtain ⟨f0, f1, g0, g1⟩ := starts ⟨3 * q + s.val, h⟩
  dsimp only at f0 f1 g0 g1
  refine congrArg₂ (· * ·) ?_ ?_
  · unfold iblk
    rw [View.read_apply]
    show m (c.tc.loc main_arg0) _ = m (c.tc.loc main_arg0) _
    congr 1
    funext a
    apply Fin.ext
    match a with
    | ⟨0, _⟩ => show win0_0.index _ 0 * 768 + 1 * p.val = s.val * 768 + p.val; rw [f0]; omega
    | ⟨1, _⟩ => show win0_0.index _ 1 * 512 + 1 * (R.val % 512) = R.val; rw [f1]; omega
  · unfold iblk
    rw [View.read_apply]
    show m (c.tc.loc main_arg1) _ = m (c.tc.loc main_arg1) _
    congr 1
    funext a
    apply Fin.ext
    match a with
    | ⟨0, _⟩ => show win0_1.index _ 0 * 768 + 1 * p.val = s.val * 768 + p.val; rw [g0]; omega
    | ⟨1, _⟩ => show win0_1.index _ 1 * 512 + 1 * (l.val % 512) = l.val; rw [g1]; omega

end Cert.KernelOutWIdeal.Product

namespace Cert.OutW

open Idealize.ShloMosaic Idealize.ShloMosaic.TcCoe Idealize.SL.Sem

/-- The reference leaves its arguments as they are, and has no semaphore. -/
theorem reference_frame : Cert.quiescent_ReferenceOutWIdeal (hReferenceOutWIdeal := Cert.ReferenceOutWIdeal.Gen.facts) :=
  fun m ρ _ => (θ_run _ _ _).mono (fun r h => ⟨fun c => (h c).2, sem_eq_zero_of_no_sems (by decide) r.2⟩) (Cert.ReferenceOutWIdeal.Value.run (F := Ideal) m ρ)

theorem algebraic : Cert.algebraic_KernelOutWIdeal_ReferenceOutWIdeal
    (hKernelOutWIdeal := Cert.KernelOutWIdeal.Gen.facts) (hReferenceOutWIdeal := Cert.ReferenceOutWIdeal.Gen.facts) := by
  intro m ρ m' ρ' _ hagree
  refine ⟨_, Cert.KernelOutWIdeal.Value.run (F := Ideal) m ρ, ?_⟩
  refine (θ_run _ _ _).mono (fun _ h c => ⟨(h c).1.trans ?_, (h c).2⟩) (Cert.ReferenceOutWIdeal.Value.run (F := Ideal) m' ρ')
  obtain ⟨e0, e1⟩ := hagree c
  rw [e0, e1]
  funext i
  obtain ⟨R, l, rfl⟩ : ∃ (R : Fin 2048) (l : Fin 2048), i = ix2 R l := ⟨i 0, i 1, funext fun a => by fin_cases a <;> rfl⟩
  refine Eq.trans ?_ (Cert.KernelOutWIdeal.Product.value m c R l).symm
  pointwise []
  exact Finset.sum_congr rfl fun p _ => mul_comm _ _

end Cert.OutW
-- ==== Proof.OutX.lean ====
/-
  The gradient of the output product's input, `ct · wᵀ`: the kernel's sum over two blocks of 1024 columns is the reference's
  sum over all 2048.
-/
module

public import proofs.«01_k».proof.Defs
public import proofs.«01_k».proof.Proof.Blocked
public import proofs.«01_k».proof.Proof.Gen.KernelOutXIdeal.Value
public import proofs.«01_k».proof.Proof.Gen.ReferenceOutXIdeal.Run

@[expose] public section

set_option maxRecDepth 65536

noncomputable section

namespace Cert.KernelOutXIdeal.Product

open Idealize.ShloMosaic Idealize.ShloMosaic.TcCoe Idealize.SL.Sem Cert.KernelOutXIdeal Cert.KernelOutXIdeal.Gen Cert.KernelOutXIdeal.Value Cert.Blocked

/-! ## One point of the grid -/

/-- what a point adds to entry `(r, l)` of the accumulator -/
def term (x : FVec Ideal S768x1024 .bf16) (y : FVec Ideal S512x1024 .bf16) (r : Fin 768) (l : Fin 512) : EReal :=
  ∑ p : Fin 1024, x (ix2 r p) * y (ix2 l p)

section Point

variable (c : Dev nD) (i : grid0.Coords)
  (a3 : Memref sig .tc .vmem S768x1024 .bf16) (h3 : a3.IsWhole) (a4 : Memref sig .tc .vmem S512x1024 .bf16) (h4 : a4.IsWhole)
  (a5 : Memref sig .tc .vmem S768x512 .f32) (h5 : a5.IsWhole) (a6 : Memref sig .tc .vmem S768x512 .f32) (h6 : a6.IsWhole)
  (x : FVec Ideal S768x1024 .bf16) (y : FVec Ideal S512x1024 .bf16) (acc : FVec Ideal S768x512 .f32)

theorem added (r : Fin 768) (l : Fin 512) : k0_pay2 (F := Ideal) acc x y (ix2 r l) = acc (ix2 r l) + term x y r l := by
  pointwise [k0_pay2]
  rfl

theorem zero (r : Fin 768) (l : Fin 512) : k0_pay1 (F := Ideal) (ix2 r l) = 0 := by
  pointwise [k0_pay1]

theorem first (hc0 : cond0_0 i) (hc1 : ¬cond0_1 i) :
    sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 (F := Ideal) c i a3 h3 a4 h4 a5 h5 a6 h6 hc0 hc1 x y)]
  unfold kernelRun0_A
  dsimp only
  sl_unfold_words
  rw [View.canon_cons_unit_zero zeros2]
  simp only [View.readAt_eq_ld, h3.read_unread, h4.read_unread, View.ld_unit_zero (S := S768x1024) zeros2, View.ld_unit_zero (S := S512x1024) zeros2, View.readCov_unit_zero (S := S768x512) _ zeros2]

theorem last (hc0 : ¬cond0_0 i) (hc1 : cond0_1 i) :
    sout0_B_0 (F := Ideal) c i a3 h3 a4 h4 a5 h5 a6 h6 hc0 hc1 x y acc = k0_pay2 (F := Ideal) acc x y := by
  unfold sout0_B_0
  rw [View.read_writes_eq_canon _ _ _ (scover0_B_0 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S768x1024) zeros2, View.ld_unit_zero (S := S512x1024) zeros2, View.ld_unit_zero (S := S768x512) zeros2]

theorem stored (hc0 : ¬cond0_0 i) (hc1 : cond0_1 i) :
    out0_B_2 (F := Ideal) c i a3 h3 a4 h4 a5 h5 a6 h6 hc0 hc1 x y acc = k0_pay2 (F := Ideal) acc x y := by
  unfold out0_B_2
  rw [View.read_writes_eq_canon _ _ _ (cover0_B_2 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S768x1024) zeros2, View.ld_unit_zero (S := S512x1024) zeros2, View.ld_unit_zero (S := S768x512) zeros2, View.readCov_unit_zero (S := S768x512) _ zeros2]

end Point

/-! ## The grid -/

variable (m : (ℓ : Loc nD τ sig) → Buf (Elt Ideal) ℓ) (c : Dev nD)

abbrev argX : FVec Ideal S2304x2048 .bf16 := m (c.tc.loc main_arg0)
abbrev argY : FVec Ideal S2048x2048 .bf16 := m (c.tc.loc main_arg1)

/-- which blocks point `t` loads -/
theorem starts : ∀ t : Fin cfg0.N, win0_0.index t 0 = t.val / 2 / 4 ∧ win0_0.index t 1 = t.val % 2 ∧ win0_1.index t 0 = t.val / 2 % 4 ∧ win0_1.index t 1 = t.val % 2 :=
  (by decide +kernel : ∀ t : Fin grid0.N, win0_0.index t 0 = t.val / 2 / 4 ∧ win0_0.index t 1 = t.val % 2 ∧ win0_1.index t 0 = t.val / 2 % 4 ∧ win0_1.index t 1 = t.val % 2)

/-- entry `(r, l)` of the accumulator after point `n`, and what point `n` adds to it -/
def held (r : Fin 768) (l : Fin 512) (n : ℕ) (h : n < cfg0.N) : EReal := (outsAt0 m c n h).2 (ix2 r l)
def adds (r : Fin 768) (l : Fin 512) (n : ℕ) (h : n < cfg0.N) : EReal := term (iblk m c 0 ⟨n, h⟩) (iblk m c 1 ⟨n, h⟩) r l

theorem held_first (r : Fin 768) (l : Fin 512) (n : ℕ) (h : n < cfg0.N) (hn : n % 2 = 0) : held m c r l n h = adds m c r l n h := by
  unfold held
  rw [outsAt0_A m c ⟨n, h⟩ hn (by dsimp only; omega)]
  dsimp only
  rw [first, added, zero, zero_add]
  rfl

theorem held_later (r : Fin 768) (l : Fin 512) (n : ℕ) (h : n + 1 < cfg0.N) (hn : ¬(n + 1) % 2 = 0) :
    held m c r l (n + 1) h = held m c r l n (Nat.lt_of_succ_lt h) + adds m c r l (n + 1) h := by
  unfold held
  rw [outsAt0_B m c ⟨n + 1, h⟩ hn (by dsimp only; omega)]
  dsimp only
  rw [last, added]
  rfl

/-- what a point that ends a run writes is what the accumulator then holds -/
theorem written (r : Fin 768) (l : Fin 512) (n : ℕ) (h : n < cfg0.N) (hn : n % 2 = 1) :
    (outsAt0 m c n h).1 (ix2 r l) = held m c r l n h := by
  unfold held
  rw [outsAt0_B m c ⟨n, h⟩ (by dsimp only; omega) hn]
  dsimp only
  rw [stored, last]

/-- the result array, entry by entry -/
theorem value (R : Fin 2304) (l : Fin 2048) :
    (G2 m c : FVec Ideal S2304x2048 .f32) (ix2 R l) = ∑ p : Fin 2048, argX m c (ix2 R p) * argY m c (ix2 l p) := by
  have hN : cfg0.N = 24 := N_0
  have hq : run2Of (ix2 R l) = 4 * (R.val / 768) + l.val / 512 := by
    show 4 * (R.val / 768 - 0) + 1 * (l.val / 512 - 0) = _; omega
  have hloc : loc2Of (ix2 R l) = ix2 ⟨R.val % 768, by omega⟩ ⟨l.val % 512, by omega⟩ := funext fun a => Fin.ext <| by
    match a with
    | ⟨0, _⟩ => rfl
    | ⟨1, _⟩ => rfl
  have hlt : pt2Of (ix2 R l) < cfg0.N := by show 2 * run2Of (ix2 R l) + 1 < _; omega
  unfold G2
  rw [dif_pos hlt, ← outsAt0_sweep m c _ hlt, hloc, written m c _ _ _ hlt (by show (2 * run2Of (ix2 R l) + 1) % 2 = 1; omega)]
  refine whole_sum 1 1024 rfl (held m c _ _) (adds m c _ _) (fun p : Fin 2048 => argX m c (ix2 R p) * argY m c (ix2 l p))
    (held_first m c _ _) (held_later m c _ _) (run2Of (ix2 R l)) hlt fun s h => ?_
  generalize run2Of (ix2 R l) = q at hq h ⊢
  have hs : s.val < 2 := s.isLt
  unfold adds term
  refine Finset.sum_congr rfl fun p _ => ?_
  obtain ⟨f0, f1, g0, g1⟩ := starts ⟨2 * q + s.val, h⟩
  dsimp only at f0 f1 g0 g1
  refine congrArg₂ (· * ·) ?_ ?_
  · unfold iblk
    rw [View.read_apply]
    show m (c.tc.loc main_arg0) _ = m (c.tc.loc main_arg0) _
    congr 1
    funext a
    apply Fin.ext
    match a with
    | ⟨0, _⟩ => show win0_0.index _ 0 * 768 + 1 * (R.val % 768) = R.val; rw [f0]; omega
    | ⟨1, _⟩ => show win0_0.index _ 1 * 1024 + 1 * p.val = s.val * 1024 + p.val; rw [f1]; omega
  · unfold iblk
    rw [View.read_apply]
    show m (c.tc.loc main_arg1) _ = m (c.tc.loc main_arg1) _
    congr 1
    funext a
    apply Fin.ext
    match a with
    | ⟨0, _⟩ => show win0_1.index _ 0 * 512 + 1 * (l.val % 512) = l.val; rw [g0]; omega
    | ⟨1, _⟩ => show win0_1.index _ 1 * 1024 + 1 * p.val = s.val * 1024 + p.val; rw [g1]; omega

end Cert.KernelOutXIdeal.Product

namespace Cert.OutX

open Idealize.ShloMosaic Idealize.ShloMosaic.TcCoe Idealize.SL.Sem

/-- The reference leaves its arguments as they are, and has no semaphore. -/
theorem reference_frame : Cert.quiescent_ReferenceOutXIdeal (hReferenceOutXIdeal := Cert.ReferenceOutXIdeal.Gen.facts) :=
  fun m ρ _ => (θ_run _ _ _).mono (fun r h => ⟨fun c => (h c).2, sem_eq_zero_of_no_sems (by decide) r.2⟩) (Cert.ReferenceOutXIdeal.Value.run (F := Ideal) m ρ)

theorem algebraic : Cert.algebraic_KernelOutXIdeal_ReferenceOutXIdeal
    (hKernelOutXIdeal := Cert.KernelOutXIdeal.Gen.facts) (hReferenceOutXIdeal := Cert.ReferenceOutXIdeal.Gen.facts) := by
  intro m ρ m' ρ' _ hagree
  refine ⟨_, Cert.KernelOutXIdeal.Value.run (F := Ideal) m ρ, ?_⟩
  refine (θ_run _ _ _).mono (fun _ h c => ⟨(h c).1.trans ?_, (h c).2⟩) (Cert.ReferenceOutXIdeal.Value.run (F := Ideal) m' ρ')
  obtain ⟨e0, e1⟩ := hagree c
  rw [e0, e1]
  funext i
  obtain ⟨R, l, rfl⟩ : ∃ (R : Fin 2304) (l : Fin 2048), i = ix2 R l := ⟨i 0, i 1, funext fun a => by fin_cases a <;> rfl⟩
  refine Eq.trans ?_ (Cert.KernelOutXIdeal.Product.value m c R l).symm
  pointwise []

end Cert.OutX
-- ==== Proof.H.lean ====
/-
  The backward of the normalisation and modulation that make the block's input, over nine blocks of 256 rows: first the context's
  rows, then the tokens'. The tokens' gradient is written block by block; the norm's weight and the modulation's gradients are summed.
-/
module

public import proofs.«01_k».proof.Defs
public import proofs.«01_k».proof.Proof.Blocked
public import proofs.«01_k».proof.Proof.Gen.KernelHIdeal.Value
public import proofs.«01_k».proof.Proof.Gen.ReferenceHIdeal.Run
public import Idealize.ShloMosaic.Lib.VecWindow

@[expose] public section

set_option maxRecDepth 65536

noncomputable section

namespace Cert.KernelHIdeal.Rows

open Idealize.ShloMosaic Idealize.ShloMosaic.TcCoe Idealize.SL.Sem Cert.KernelHIdeal Cert.KernelHIdeal.Gen Cert.KernelHIdeal.Value Cert.Blocked

/-! ## What one point stores -/

theorem stored7_A (c : Dev nD) (i : grid0.Coords)
    (a1 : Memref sig .tc .vmem S256x2048 .f32) (h1 : a1.IsWhole)
    (a2 : Memref sig .tc .vmem S256x2048 .f32) (h2 : a2.IsWhole)
    (a3 : Memref sig .tc .vmem S256x2048 .f32) (h3 : a3.IsWhole)
    (a4 : Memref sig .tc .vmem S256x2048 .f32) (h4 : a4.IsWhole)
    (a5 : Memref sig .tc .vmem S1x2048 .f32) (h5 : a5.IsWhole)
    (a6 : Memref sig .tc .vmem S8x3x2048 .f32) (h6 : a6.IsWhole)
    (a7 : Memref sig .tc .vmem S256x2048 .f32) (h7 : a7.IsWhole)
    (a8 : Memref sig .tc .vmem S1x2048 .f32) (h8 : a8.IsWhole)
    (a9 : Memref sig .tc .vmem S8x6144 .f32) (h9 : a9.IsWhole)
    (x0 x1 x2 x3 : FVec Ideal S256x2048 .f32) (x4 : FVec Ideal S1x2048 .f32) (x5 : FVec Ideal S8x3x2048 .f32) (hc0 : cond0_0 i) (hc1 : cond0_1 i) :
    out0_A_7 (F := Ideal) c i a1 h1 a2 h2 a3 h3 a4 h4 a5 h5 a6 h6 a7 h7 a8 h8 a9 h9 hc0 hc1 x0 x1 x2 x3 x4 x5 = k0_pay16 (F := Ideal) (k0_pay7 i x0 x1) (k0_pay8 i x5) (k0_pay9 x2) (k0_pay15 (F := Ideal)) := by
  unfold out0_A_7
  rw [View.read_writes_eq_canon _ _ _ (cover0_A_7 (F := Ideal) c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero zeros2]
  simp only [View.readAt_eq_ld, h1.read_unread, h2.read_unread, h3.read_unread, h4.read_unread, h5.read_unread, h6.read_unread, View.ld_unit_zero (S := S256x2048) zeros2, View.ld_unit_zero (S := S1x2048) zeros2, View.ld_unit_zero (S := S8x6144) zeros2,
    View.ld_unit_zero (S := S8x3x2048) zeros3, View.readCov_full (s := S1x2048), View.readCov_full (s := S8x6144)]

theorem stored8_A (c : Dev nD) (i : grid0.Coords)
    (a1 : Memref sig .tc .vmem S256x2048 .f32) (h1 : a1.IsWhole)
    (a2 : Memref sig .tc .vmem S256x2048 .f32) (h2 : a2.IsWhole)
    (a3 : Memref sig .tc .vmem S256x2048 .f32) (h3 : a3.IsWhole)
    (a4 : Memref sig .tc .vmem S256x2048 .f32) (h4 : a4.IsWhole)
    (a5 : Memref sig .tc .vmem S1x2048 .f32) (h5 : a5.IsWhole)
    (a6 : Memref sig .tc .vmem S8x3x2048 .f32) (h6 : a6.IsWhole)
    (a7 : Memref sig .tc .vmem S256x2048 .f32) (h7 : a7.IsWhole)
    (a8 : Memref sig .tc .vmem S1x2048 .f32) (h8 : a8.IsWhole)
    (a9 : Memref sig .tc .vmem S8x6144 .f32) (h9 : a9.IsWhole)
    (x0 x1 x2 x3 : FVec Ideal S256x2048 .f32) (x4 : FVec Ideal S1x2048 .f32) (x5 : FVec Ideal S8x3x2048 .f32) (hc0 : cond0_0 i) (hc1 : cond0_1 i) :
    out0_A_8 (F := Ideal) c i a1 h1 a2 h2 a3 h3 a4 h4 a5 h5 a6 h6 a7 h7 a8 h8 a9 h9 hc0 hc1 x0 x1 x2 x3 x4 x5 = k0_pay2 (F := Ideal) (k0_pay13 (Scalar.cmpi .slt (BitVec.ofNat 32 (i 0).val) 1#32) (k0_pay10 x2) (k0_pay11 i x0 x1 x2 x4)) (k0_pay1 (F := Ideal)) := by
  unfold out0_A_8
  rw [View.read_writes_eq_canon _ _ _ (cover0_A_8 (F := Ideal) c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero zeros2]
  simp only [View.readAt_eq_ld, h1.read_unread, h2.read_unread, h3.read_unread, h4.read_unread, h5.read_unread, h6.read_unread, View.ld_unit_zero (S := S256x2048) zeros2, View.ld_unit_zero (S := S1x2048) zeros2, View.ld_unit_zero (S := S8x6144) zeros2,
    View.ld_unit_zero (S := S8x3x2048) zeros3, View.readCov_full (s := S1x2048), View.readCov_full (s := S8x6144)]

theorem stored6_B (c : Dev nD) (i : grid0.Coords)
    (a1 : Memref sig .tc .vmem S256x2048 .f32) (h1 : a1.IsWhole)
    (a2 : Memref sig .tc .vmem S256x2048 .f32) (h2 : a2.IsWhole)
    (a3 : Memref sig .tc .vmem S256x2048 .f32) (h3 : a3.IsWhole)
    (a4 : Memref sig .tc .vmem S256x2048 .f32) (h4 : a4.IsWhole)
    (a5 : Memref sig .tc .vmem S1x2048 .f32) (h5 : a5.IsWhole)
    (a6 : Memref sig .tc .vmem S8x3x2048 .f32) (h6 : a6.IsWhole)
    (a7 : Memref sig .tc .vmem S256x2048 .f32) (h7 : a7.IsWhole)
    (a8 : Memref sig .tc .vmem S1x2048 .f32) (h8 : a8.IsWhole)
    (a9 : Memref sig .tc .vmem S8x6144 .f32) (h9 : a9.IsWhole)
    (x0 x1 x2 x3 : FVec Ideal S256x2048 .f32) (x4 : FVec Ideal S1x2048 .f32) (x5 : FVec Ideal S8x3x2048 .f32) (xo : FVec Ideal S1x2048 .f32) (xp : FVec Ideal S8x6144 .f32) (hc0 : ¬cond0_0 i) (hc1 : ¬cond0_1 i) :
    out0_B_6 (F := Ideal) c i a1 h1 a2 h2 a3 h3 a4 h4 a5 h5 a6 h6 a7 h7 a8 h8 a9 h9 hc0 hc1 x0 x1 x2 x3 x4 x5 xo xp = k0_pay14 (F := Ideal) x3 x4 (k0_pay3 i x0 x1) (k0_pay5 i x0 x1) (k0_pay6 i x0 x1) (k0_pay8 i x5) (k0_pay9 x2) := by
  unfold out0_B_6
  rw [View.read_writes_eq_canon _ _ _ (cover0_B_6 (F := Ideal) c i a1 h1 a2 h2 a3 h3 a4 h4 a5 h5 a6 h6 a7 h7 a8 h8 a9 h9 hc0 hc1 x0 x1 x2 x3 x4 x5 xo xp)]
  unfold kernelRun0_B
  dsimp only
  sl_unfold_words
  rw [View.canon_unit_zero zeros2]
  simp only [View.readAt_eq_ld, h1.read_unread, h2.read_unread, h3.read_unread, h4.read_unread, h5.read_unread, h6.read_unread, h8.read_unread, h9.read_unread, View.ld_unit_zero (S := S256x2048) zeros2, View.ld_unit_zero (S := S1x2048) zeros2, View.ld_unit_zero (S := S8x6144) zeros2,
    View.ld_unit_zero (S := S8x3x2048) zeros3, View.readCov_full (s := S1x2048), View.readCov_full (s := S8x6144)]

theorem stored7_B (c : Dev nD) (i : grid0.Coords)
    (a1 : Memref sig .tc .vmem S256x2048 .f32) (h1 : a1.IsWhole)
    (a2 : Memref sig .tc .vmem S256x2048 .f32) (h2 : a2.IsWhole)
    (a3 : Memref sig .tc .vmem S256x2048 .f32) (h3 : a3.IsWhole)
    (a4 : Memref sig .tc .vmem S256x2048 .f32) (h4 : a4.IsWhole)
    (a5 : Memref sig .tc .vmem S1x2048 .f32) (h5 : a5.IsWhole)
    (a6 : Memref sig .tc .vmem S8x3x2048 .f32) (h6 : a6.IsWhole)
    (a7 : Memref sig .tc .vmem S256x2048 .f32) (h7 : a7.IsWhole)
    (a8 : Memref sig .tc .vmem S1x2048 .f32) (h8 : a8.IsWhole)
    (a9 : Memref sig .tc .vmem S8x6144 .f32) (h9 : a9.IsWhole)
    (x0 x1 x2 x3 : FVec Ideal S256x2048 .f32) (x4 : FVec Ideal S1x2048 .f32) (x5 : FVec Ideal S8x3x2048 .f32) (xo : FVec Ideal S1x2048 .f32) (xp : FVec Ideal S8x6144 .f32) (hc0 : ¬cond0_0 i) (hc1 : ¬cond0_1 i) :
    out0_B_7 (F := Ideal) c i a1 h1 a2 h2 a3 h3 a4 h4 a5 h5 a6 h6 a7 h7 a8 h8 a9 h9 hc0 hc1 x0 x1 x2 x3 x4 x5 xo xp = k0_pay16 (F := Ideal) (k0_pay7 i x0 x1) (k0_pay8 i x5) (k0_pay9 x2) xo := by
  unfold out0_B_7
  rw [View.read_writes_eq_canon _ _ _ (cover0_B_7 (F := Ideal) c i a1 h1 a2 h2 a3 h3 a4 h4 a5 h5 a6 h6 a7 h7 a8 h8 a9 h9 hc0 hc1 x0 x1 x2 x3 x4 x5 xo xp)]
  unfold kernelRun0_B
  dsimp only
  sl_unfold_words
  rw [View.canon_unit_zero zeros2]
  simp only [View.readAt_eq_ld, h1.read_unread, h2.read_unread, h3.read_unread, h4.read_unread, h5.read_unread, h6.read_unread, h8.read_unread, h9.read_unread, View.ld_unit_zero (S := S256x2048) zeros2, View.ld_unit_zero (S := S1x2048) zeros2, View.ld_unit_zero (S := S8x6144) zeros2,
    View.ld_unit_zero (S := S8x3x2048) zeros3, View.readCov_full (s := S1x2048), View.readCov_full (s := S8x6144)]

theorem stored8_B (c : Dev nD) (i : grid0.Coords)
    (a1 : Memref sig .tc .vmem S256x2048 .f32) (h1 : a1.IsWhole)
    (a2 : Memref sig .tc .vmem S256x2048 .f32) (h2 : a2.IsWhole)
    (a3 : Memref sig .tc .vmem S256x2048 .f32) (h3 : a3.IsWhole)
    (a4 : Memref sig .tc .vmem S256x2048 .f32) (h4 : a4.IsWhole)
    (a5 : Memref sig .tc .vmem S1x2048 .f32) (h5 : a5.IsWhole)
    (a6 : Memref sig .tc .vmem S8x3x2048 .f32) (h6 : a6.IsWhole)
    (a7 : Memref sig .tc .vmem S256x2048 .f32) (h7 : a7.IsWhole)
    (a8 : Memref sig .tc .vmem S1x2048 .f32) (h8 : a8.IsWhole)
    (a9 : Memref sig .tc .vmem S8x6144 .f32) (h9 : a9.IsWhole)
    (x0 x1 x2 x3 : FVec Ideal S256x2048 .f32) (x4 : FVec Ideal S1x2048 .f32) (x5 : FVec Ideal S8x3x2048 .f32) (xo : FVec Ideal S1x2048 .f32) (xp : FVec Ideal S8x6144 .f32) (hc0 : ¬cond0_0 i) (hc1 : ¬cond0_1 i) :
    out0_B_8 (F := Ideal) c i a1 h1 a2 h2 a3 h3 a4 h4 a5 h5 a6 h6 a7 h7 a8 h8 a9 h9 hc0 hc1 x0 x1 x2 x3 x4 x5 xo xp = k0_pay2 (F := Ideal) (k0_pay13 (Scalar.cmpi .slt (BitVec.ofNat 32 (i 0).val) 1#32) (k0_pay10 x2) (k0_pay11 i x0 x1 x2 x4)) xp := by
  unfold out0_B_8
  rw [View.read_writes_eq_canon _ _ _ (cover0_B_8 (F := Ideal) c i a1 h1 a2 h2 a3 h3 a4 h4 a5 h5 a6 h6 a7 h7 a8 h8 a9 h9 hc0 hc1 x0 x1 x2 x3 x4 x5 xo xp)]
  unfold kernelRun0_B
  dsimp only
  sl_unfold_words
  rw [View.canon_unit_zero zeros2]
  simp only [View.readAt_eq_ld, h1.read_unread, h2.read_unread, h3.read_unread, h4.read_unread, h5.read_unread, h6.read_unread, h8.read_unread, h9.read_unread, View.ld_unit_zero (S := S256x2048) zeros2, View.ld_unit_zero (S := S1x2048) zeros2, View.ld_unit_zero (S := S8x6144) zeros2,
    View.ld_unit_zero (S := S8x3x2048) zeros3, View.readCov_full (s := S1x2048), View.readCov_full (s := S8x6144)]

/-! ## The grid -/

variable (m : (ℓ : Loc nD τ sig) → Buf (Elt Ideal) ℓ) (c : Dev nD)

abbrev argX : FVec Ideal S2048x2048 .f32 := m (c.tc.loc main_arg0)
abbrev argC : FVec Ideal S256x2048 .f32 := m (c.tc.loc main_arg1)
abbrev argM : FVec Ideal S8x6144 .f32 := m (c.tc.loc main_arg2)
abbrev argW : FVec Ideal S1x2048 .f32 := m (c.tc.loc main_arg3)
abbrev argD : FVec Ideal S2304x2048 .f32 := m (c.tc.loc main_arg4)
abbrev argR : FVec Ideal S2304x2048 .f32 := m (c.tc.loc main_arg5)

/-- which blocks point `t` loads and writes -/
theorem starts : ∀ t : Fin cfg0.N, (win0_0.index t 0 = 0 ∧ win0_0.index t 1 = 0)
    ∧ (win0_1.index t 0 = t.val - 1 ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_6.index t 0 = t.val - 1 ∧ win0_6.index t 1 = 0)
    ∧ (win0_7.index t 0 = 0 ∧ win0_7.index t 1 = 0)
    ∧ (win0_8.index t 0 = 0 ∧ win0_8.index t 1 = 0) :=
  (by decide +kernel : ∀ t : Fin grid0.N, (win0_0.index t 0 = 0 ∧ win0_0.index t 1 = 0)
    ∧ (win0_1.index t 0 = t.val - 1 ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_6.index t 0 = t.val - 1 ∧ win0_6.index t 1 = 0)
    ∧ (win0_7.index t 0 = 0 ∧ win0_7.index t 1 = 0)
    ∧ (win0_8.index t 0 = 0 ∧ win0_8.index t 1 = 0))

/-- row `r` of block `t` -/
def row (t : Fin cfg0.N) (r : Fin 256) : Fin 2304 := ⟨t.val * 256 + r.val, by have := t.isLt; have : cfg0.N = 9 := N_0; omega⟩

theorem rows (R : Fin 2304) : ∃ (t : Fin cfg0.N) (r : Fin 256), R = row t r := by
  have hN : cfg0.N = 9 := N_0
  exact ⟨⟨R.val / 256, by omega⟩, ⟨R.val % 256, by omega⟩, Fin.ext (by show R.val = R.val / 256 * 256 + R.val % 256; omega)⟩

theorem first_flag : ∀ t : Fin cfg0.N, t.val % 9 = 0 → Scalar.cmpi .slt (BitVec.ofNat 32 (grid0.coords t 0).val) 1#32 = 1#1 :=
  (by decide +kernel : ∀ t : Fin grid0.N, t.val % 9 = 0 → Scalar.cmpi .slt (BitVec.ofNat 32 (grid0.coords t 0).val) 1#32 = 1#1)
theorem later_flag : ∀ t : Fin cfg0.N, ¬t.val % 9 = 0 → Scalar.cmpi .slt (BitVec.ofNat 32 (grid0.coords t 0).val) 1#32 = 0#1 :=
  (by decide +kernel : ∀ t : Fin grid0.N, ¬t.val % 9 = 0 → Scalar.cmpi .slt (BitVec.ofNat 32 (grid0.coords t 0).val) 1#32 = 0#1)

theorem block_c (t : Fin cfg0.N) (r : Fin 256) (l : Fin 2048) : iblk m c 0 t (ix2 r l) = argC m c (ix2 r l) := by
  unfold iblk
  rw [View.read_apply]
  show V m c main_arg1 _ = _
  rw [V_main_arg1]
  show m (c.tc.loc main_arg1) _ = m (c.tc.loc main_arg1) _
  congr 1
  funext a
  apply Fin.ext
  match a with
  | ⟨0, _⟩ => show win0_0.index t 0 * 256 + 1 * r.val = r.val; rw [(starts t).1.1]; omega
  | ⟨1, _⟩ => show win0_0.index t 1 * 2048 + 1 * l.val = l.val; rw [(starts t).1.2]; omega

theorem block_x (t : Fin cfg0.N) (r : Fin 256) (l : Fin 2048) : iblk m c 1 t (ix2 r l) = argX m c (ix2 ⟨(t.val - 1) * 256 + r.val, by have := t.isLt; have : cfg0.N = 9 := N_0; omega⟩ l) := by
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_1.index t 0 * 256 + 1 * r.val = (t.val - 1) * 256 + r.val; rw [(starts t).2.1.1]; omega
  | ⟨1, _⟩ => show win0_1.index t 1 * 2048 + 1 * l.val = l.val; rw [(starts t).2.1.2]; omega

theorem block_d (t : Fin cfg0.N) (r : Fin 256) (l : Fin 2048) : iblk m c 2 t (ix2 r l) = argD m c (ix2 (row t r) l) := by
  unfold iblk
  rw [View.read_apply]
  show V m c main_arg4 _ = _
  rw [V_main_arg4]
  show m (c.tc.loc main_arg4) _ = m (c.tc.loc main_arg4) _
  congr 1
  funext a
  apply Fin.ext
  match a with
  | ⟨0, _⟩ => show win0_2.index t 0 * 256 + 1 * r.val = t.val * 256 + r.val; rw [(starts t).2.2.1.1]; omega
  | ⟨1, _⟩ => show win0_2.index t 1 * 2048 + 1 * l.val = l.val; rw [(starts t).2.2.1.2]; omega

theorem block_r (t : Fin cfg0.N) (r : Fin 256) (l : Fin 2048) : iblk m c 3 t (ix2 r l) = argR m c (ix2 (row t r) l) := by
  unfold iblk
  rw [View.read_apply]
  show V m c main_arg5 _ = _
  rw [V_main_arg5]
  show m (c.tc.loc main_arg5) _ = m (c.tc.loc main_arg5) _
  congr 1
  funext a
  apply Fin.ext
  match a with
  | ⟨0, _⟩ => show win0_3.index t 0 * 256 + 1 * r.val = t.val * 256 + r.val; rw [(starts t).2.2.2.1.1]; omega
  | ⟨1, _⟩ => show win0_3.index t 1 * 2048 + 1 * l.val = l.val; rw [(starts t).2.2.2.1.2]; omega

theorem block_w (t : Fin cfg0.N) (r : Fin 1) (l : Fin 2048) : iblk m c 4 t (ix2 r l) = argW m c (ix2 r l) := by
  unfold iblk
  rw [View.read_apply]
  show V m c main_arg3 _ = _
  rw [V_main_arg3]
  show m (c.tc.loc main_arg3) _ = m (c.tc.loc main_arg3) _
  congr 1
  funext a
  apply Fin.ext
  match a with
  | ⟨0, _⟩ => show win0_4.index t 0 * 1 + 1 * r.val = r.val; rw [(starts t).2.2.2.2.1.1]; omega
  | ⟨1, _⟩ => show win0_4.index t 1 * 2048 + 1 * l.val = l.val; rw [(starts t).2.2.2.2.1.2]; omega

theorem modulation : V m c main_v0 = shapeCast S8x3x2048 (argM m c) shapeCasts_S8x6144_S8x3x2048 := by
  show StableHlo.after hostOps0 _ _ = _
  after_results_simp
  rfl

/-- the modulation's window is the whole array, its rows cut in three -/
theorem block_m (t : Fin cfg0.N) (e : Fin 8) (l : Fin 2048) : iblk m c 5 t (ix3 e 1 l) = argM m c (ix2 e ⟨2048 + l.val, by omega⟩) := by
  have hs : ∀ t : Fin cfg0.N, win0_5.index t 0 = 0 ∧ win0_5.index t 1 = 0 ∧ win0_5.index t 2 = 0 :=
    (by decide +kernel : ∀ t : Fin grid0.N, win0_5.index t 0 = 0 ∧ win0_5.index t 1 = 0 ∧ win0_5.index t 2 = 0)
  unfold iblk
  rw [View.read_apply]
  show V m c main_v0 _ = _
  rw [modulation]
  refine Eq.trans (b := shapeCast S8x3x2048 (argM m c) shapeCasts_S8x6144_S8x3x2048 (ix3 e 1 l)) ?_ ?_
  · congr 1
    funext a
    apply Fin.ext
    match a with
    | ⟨0, _⟩ => show win0_5.index t 0 * 8 + 1 * e.val = e.val; rw [(hs t).1]; omega
    | ⟨1, _⟩ => show win0_5.index t 1 * 3 + 1 * 1 = 1; rw [(hs t).2.1]
    | ⟨2, _⟩ => show win0_5.index t 2 * 2048 + 1 * l.val = l.val; rw [(hs t).2.2]; omega
  · pointwise []

/-! ## The mathematics, entry by entry -/

/-- the rows of the block's input: the context's, then the tokens' -/
def stream (R : Fin 2304) (l : Fin 2048) : EReal :=
  if h : R.val < 256 then argC m c (ix2 ⟨R.val, h⟩ l) else argX m c (ix2 ⟨R.val - 256, by omega⟩ l)
/-- which row of the modulation a row is under -/
def under (R : Fin 2304) : Fin 8 := if R.val < 256 then 1 else 0
/-- the row's mean square, and epsilon -/
def square (R : Fin 2304) : EReal :=
  Ideal.div (∑ k : Fin 2048, stream m c R k * stream m c R k) (Ideal.ofBits .f32 1157627904#32) + Ideal.ofBits .f32 897988541#32
def normed (R : Fin 2304) (l : Fin 2048) : EReal := stream m c R l * Ideal.rsqrt (square m c R)
/-- the gradient that reaches the weighted, normalised row -/
def scaled (R : Fin 2304) (l : Fin 2048) : EReal := argD m c (ix2 R l) * (1 + argM m c (ix2 (under R) ⟨2048 + l.val, by omega⟩))
/-- what each of the row's squares receives -/
def spread (R : Fin 2304) : EReal :=
  Ideal.div ((∑ k : Fin 2048, stream m c R k * (scaled m c R k * argW m c (ix2 0 k)))
    * (Ideal.ofBits .f32 3204448256#32 * Ideal.div (Ideal.rsqrt (square m c R)) (square m c R))) (Ideal.ofBits .f32 1157627904#32)
/-- the row's gradient, with the residual's -/
def gradRow (R : Fin 2304) (l : Fin 2048) : EReal :=
  scaled m c R l * argW m c (ix2 0 l) * Ideal.rsqrt (square m c R) + stream m c R l * spread m c R + spread m c R * stream m c R l + argR m c (ix2 R l)
/-- the row's term of the scale's gradient -/
def gradScale (R : Fin 2304) (l : Fin 2048) : EReal := normed m c R l * argW m c (ix2 0 l) * argD m c (ix2 R l)
/-- a row of the modulation's gradient: the shift's, the scale's, and nothing for the gate -/
def piece (a b : Fin 2048 → EReal) (l : Fin 6144) : EReal :=
  if h : l.val < 2048 then a ⟨l.val, h⟩ else if h : l.val - 2048 < 2048 then b ⟨l.val - 2048, h⟩ else 0

/-- the tokens' rows come after the context's -/
def token (R : Fin 2048) : Fin 2304 := ⟨256 + R.val, by omega⟩
def context (R : Fin 256) : Fin 2304 := ⟨R.val, by omega⟩

theorem stream_token (R : Fin 2048) (l : Fin 2048) : stream m c (token R) l = argX m c (ix2 R l) := by
  unfold stream token
  rw [dif_neg (by show ¬256 + R.val < 256; omega)]
  exact congrArg (fun R => argX m c (ix2 R l)) (Fin.ext (by show 256 + R.val - 256 = R.val; omega))
theorem under_token (R : Fin 2048) : under (token R) = 0 := if_neg (by show ¬256 + R.val < 256; omega)
theorem stream_context (R : Fin 256) (l : Fin 2048) : stream m c (context R) l = argC m c (ix2 R l) := dif_pos R.isLt
theorem under_context (R : Fin 256) : under (context R) = 1 := if_pos R.isLt

/-! ## The blocks -/

theorem point_stream (t : Fin cfg0.N) (r : Fin 256) (l : Fin 2048) :
    k0_pay3 (F := Ideal) (grid0.coords t) (iblk m c 0 t) (iblk m c 1 t) (ix2 r l) = stream m c (row t r) l := by
  have hN : cfg0.N = 9 := N_0
  have ht := t.isLt
  unfold k0_pay3 stream row
  dsimp only
  by_cases h : t.val % 9 = 0
  · rw [first_flag t h, dif_pos (by omega)]
    refine (block_c m c t r l).trans (congrArg (fun R => argC m c (ix2 R l)) (Fin.ext ?_))
    show r.val = t.val * 256 + r.val; omega
  · rw [later_flag t h, dif_neg (by omega)]
    refine (block_x m c t r l).trans (congrArg (fun R => argX m c (ix2 R l)) (Fin.ext ?_))
    show (t.val - 1) * 256 + r.val = t.val * 256 + r.val - 256; omega

theorem point_scale (t : Fin cfg0.N) (r : Fin 256) (z : Fin 1) (l : Fin 2048) :
    k0_pay8 (F := Ideal) (grid0.coords t) (iblk m c 5 t) (ix2 z l) = 1 + argM m c (ix2 (under (row t r)) ⟨2048 + l.val, by omega⟩) := by
  have hN : cfg0.N = 9 := N_0
  have ht := t.isLt
  unfold k0_pay8 under row
  dsimp only
  by_cases h : t.val % 9 = 0
  · rw [first_flag t h, if_pos (by omega)]
    pointwise []
    rw [block_m]
  · rw [later_flag t h, if_neg (by omega)]
    pointwise []
    rw [block_m]

theorem point_row (t : Fin cfg0.N) (r : Fin 256) (l : Fin 2048) :
    k0_pay14 (F := Ideal) (iblk m c 3 t) (iblk m c 4 t) (k0_pay3 (grid0.coords t) (iblk m c 0 t) (iblk m c 1 t)) (k0_pay5 (grid0.coords t) (iblk m c 0 t) (iblk m c 1 t)) (k0_pay6 (grid0.coords t) (iblk m c 0 t) (iblk m c 1 t)) (k0_pay8 (grid0.coords t) (iblk m c 5 t)) (k0_pay9 (iblk m c 2 t)) (ix2 r l) = gradRow m c (row t r) l := by
  pointwise [k0_pay14, k0_pay12, k0_pay9, k0_pay6, k0_pay5, k0_pay4]
  simp only [Fin.sum_univ_one, point_stream, point_scale m c t r, block_d, block_w, block_r]
  rfl

theorem point_weight (t : Fin cfg0.N) (z : Fin 1) (l : Fin 2048) (x : FVec Ideal S1x2048 .f32) :
    k0_pay16 (F := Ideal) (k0_pay7 (grid0.coords t) (iblk m c 0 t) (iblk m c 1 t)) (k0_pay8 (grid0.coords t) (iblk m c 5 t)) (k0_pay9 (iblk m c 2 t)) x (ix2 z l) = x (ix2 z l) + ∑ r : Fin 256, normed m c (row t r) l * scaled m c (row t r) l := by
  pointwise [k0_pay16, k0_pay12, k0_pay9, k0_pay7, k0_pay5, k0_pay4]
  refine congrArg (x (ix2 z l) + ·) (Finset.sum_congr rfl fun r _ => ?_)
  simp only [point_stream, point_scale m c t r, block_d]
  rfl

/-- the row of the modulation's gradient that point `t` adds to -/
def pieceAt (t : Fin cfg0.N) (l : Fin 6144) : EReal :=
  piece (fun l => ∑ r : Fin 256, argD m c (ix2 (row t r) l)) (fun l => ∑ r : Fin 256, gradScale m c (row t r) l) l

theorem shifts (t : Fin cfg0.N) (z : Fin 1) (l : Fin 2048) :
    k0_pay10 (F := Ideal) (iblk m c 2 t) (ix2 z l) = ∑ r : Fin 256, argD m c (ix2 (row t r) l) := by
  pointwise [k0_pay10]
  simp only [block_d]

theorem scales (t : Fin cfg0.N) (r : Fin 256) (l : Fin 2048) :
    k0_pay11 (F := Ideal) (grid0.coords t) (iblk m c 0 t) (iblk m c 1 t) (iblk m c 2 t) (iblk m c 4 t) (ix2 r l) = gradScale m c (row t r) l := by
  pointwise [k0_pay11, k0_pay9, k0_pay7, k0_pay5, k0_pay4]
  simp only [point_stream, block_d, block_w]
  rfl

theorem point_modulation (t : Fin cfg0.N) (e : Fin 8) (l : Fin 6144) (x : FVec Ideal S8x6144 .f32) :
    k0_pay2 (F := Ideal) (k0_pay13 (Scalar.cmpi .slt (BitVec.ofNat 32 ((grid0.coords t) 0).val) 1#32) (k0_pay10 (iblk m c 2 t)) (k0_pay11 (grid0.coords t) (iblk m c 0 t) (iblk m c 1 t) (iblk m c 2 t) (iblk m c 4 t))) x (ix2 e l)
      = x (ix2 e l) + if e.val = (if t.val % 9 = 0 then 1 else 0) then pieceAt m c t l else 0 := by
  unfold pieceAt piece
  by_cases h : t.val % 9 = 0
  · rw [first_flag t h, if_pos h]
    pointwise [k0_pay2, k0_pay13]
    simp only [shifts, scales]
    refine congrArg (x (ix2 e l) + ·) ?_
    rcases Nat.lt_trichotomy e.val 1 with he | he | he
    · exact (dif_pos he).trans (if_neg (by omega)).symm
    · exact (dif_neg (by omega)).trans ((dif_pos (by omega)).trans (if_pos he).symm)
    · exact (dif_neg (by omega)).trans ((dif_neg (by omega)).trans (if_neg (by omega)).symm)
  · rw [later_flag t h, if_neg h]
    pointwise [k0_pay2, k0_pay13]
    simp only [shifts, scales]
    refine congrArg (x (ix2 e l) + ·) ?_
    rcases Nat.lt_trichotomy e.val 1 with he | he | he
    · exact (dif_pos he).trans (if_pos (by omega)).symm
    · exact (dif_neg (by omega)).trans ((dif_pos (by omega)).trans (if_neg (by omega)).symm)
    · exact (dif_neg (by omega)).trans ((dif_neg (by omega)).trans (if_neg (by omega)).symm)

/-! ## The tokens' gradient -/

theorem row_flush : ∀ t : Fin cfg0.N, (cfg0.win 6).flush t = true ↔ 0 < t.val :=
  (by decide +kernel : ∀ t : Fin grid0.N, win0_6.flush t = true ↔ 0 < t.val)

/-- the gradient of the tokens, as an array -/
def gradTokens : FVec Ideal S2048x2048 .f32 := fun i => gradRow m c (token (i 0)) (i 1)

theorem tokens_value (R : Fin 2048) (l : Fin 2048) : (dats m 0 c).arrAt 6 cfg0.N (ix2 R l) = gradRow m c (token R) l := by
  have hN : cfg0.N = 9 := N_0
  have at_row : ∀ (t : Fin cfg0.N) (y : S256x2048.Idx), 0 < t.val → (((cfg0.win 6).blk t).view.emb y 0).val + 256 = t.val * 256 + (y 0).val
      ∧ (((cfg0.win 6).blk t).view.emb y 1).val = (y 1).val := fun t y h => ⟨by
    show win0_6.index t 0 * 256 + 1 * (y 0).val + 256 = t.val * 256 + (y 0).val; rw [(starts t).2.2.2.2.2.1.1]; omega, by
    show win0_6.index t 1 * 2048 + 1 * (y 1).val = (y 1).val; rw [(starts t).2.2.2.2.2.1.2]; omega⟩
  have lt : R.val / 256 + 1 < cfg0.N := by omega
  have hmem := ((cfg0.win 6).blk ⟨R.val / 256 + 1, lt⟩).view.emb_mem_set (ix2 (⟨R.val % 256, by omega⟩ : Fin 256) l)
  have hi : ((cfg0.win 6).blk ⟨R.val / 256 + 1, lt⟩).view.emb (ix2 (⟨R.val % 256, by omega⟩ : Fin 256) l) = ix2 R l := by
    obtain ⟨p, q⟩ := at_row ⟨R.val / 256 + 1, lt⟩ (ix2 (⟨R.val % 256, by omega⟩ : Fin 256) l) (Nat.succ_pos _)
    funext a
    apply Fin.ext
    match a with
    | ⟨0, _⟩ =>
      refine Nat.add_right_cancel (m := 256) (p.trans ?_)
      show (R.val / 256 + 1) * 256 + R.val % 256 = R.val + 256; omega
    | ⟨1, _⟩ => exact q
  rw [hi] at hmem
  refine (dats m 0 c).arrAt_apply_of_mem 6 (gradTokens m c) (fun t hf => ?_) cfg0.N ⟨R.val / 256 + 1, lt⟩ (ix2 R l) lt ((row_flush _).mpr (Nat.succ_pos _)) hmem
  have hpos := (row_flush t).mp hf
  have h : ¬t.val % 9 = 0 := by have h9 : t.val < 9 := t.isLt; omega
  rw [flushed6_B m c t h h, stored6_B]
  funext y
  obtain ⟨r, l, rfl⟩ : ∃ (r : Fin 256) (l : Fin 2048), y = ix2 r l := ⟨y 0, y 1, funext fun a => by fin_cases a <;> rfl⟩
  rw [View.read_apply]
  refine (point_row m c t r l).trans ?_
  obtain ⟨p, q⟩ := at_row t (ix2 r l) hpos
  show gradRow m c (row t r) l = gradRow m c (token (((cfg0.win 6).blk t).view.emb (ix2 r l) 0)) (((cfg0.win 6).blk t).view.emb (ix2 r l) 1)
  congr 1
  · apply Fin.ext
    show t.val * 256 + r.val = 256 + (((cfg0.win 6).blk t).view.emb (ix2 r l) 0).val
    exact (p.symm.trans (Nat.add_comm _ _))
  · exact Fin.ext q.symm

/-! ## The summed gradients: what the last point leaves -/

theorem last_lt : 8 < cfg0.N := by have : cfg0.N = 9 := N_0; omega

theorem last_weight (z : Fin 1) (l : Fin 2048) : (dats m 0 c).arrAt 7 cfg0.N (ix2 z l) = (outsAt0 m c 8 last_lt).2.1 (ix2 z l) := by
  have hmem := ((cfg0.win 7).blk ⟨8, last_lt⟩).view.emb_mem_set (ix2 z l)
  have he : ∀ (t : Fin cfg0.N) (y : S1x2048.Idx), ((cfg0.win 7).blk t).view.emb y = y := fun t y => by
    funext a
    apply Fin.ext
    match a with
    | ⟨0, _⟩ => show win0_7.index t 0 * 1 + 1 * (y 0).val = (y 0).val; rw [(starts t).2.2.2.2.2.2.1.1]; omega
    | ⟨1, _⟩ => show win0_7.index t 1 * 2048 + 1 * (y 1).val = (y 1).val; rw [(starts t).2.2.2.2.2.2.1.2]; omega
  rw [he] at hmem
  refine (dats m 0 c).arrAt_apply_of_mem 7 ((outsAt0 m c 8 last_lt).2.1) (fun t hf => ?_) cfg0.N ⟨8, last_lt⟩ (ix2 z l) last_lt ((flush0_7 _).mpr rfl) hmem
  obtain rfl : t = ⟨8, last_lt⟩ := Fin.ext (by have := (flush0_7 t).mp hf; have h9 : t.val < 9 := t.isLt; show t.val = 8; omega)
  rw [flushed7]
  funext y
  rw [View.read_apply, he]
  rfl

theorem last_modulation (e : Fin 8) (l : Fin 6144) : (dats m 0 c).arrAt 8 cfg0.N (ix2 e l) = (outsAt0 m c 8 last_lt).2.2 (ix2 e l) := by
  have hmem := ((cfg0.win 8).blk ⟨8, last_lt⟩).view.emb_mem_set (ix2 e l)
  have he : ∀ (t : Fin cfg0.N) (y : S8x6144.Idx), ((cfg0.win 8).blk t).view.emb y = y := fun t y => by
    funext a
    apply Fin.ext
    match a with
    | ⟨0, _⟩ => show win0_8.index t 0 * 8 + 1 * (y 0).val = (y 0).val; rw [(starts t).2.2.2.2.2.2.2.1]; omega
    | ⟨1, _⟩ => show win0_8.index t 1 * 6144 + 1 * (y 1).val = (y 1).val; rw [(starts t).2.2.2.2.2.2.2.2]; omega
  rw [he] at hmem
  refine (dats m 0 c).arrAt_apply_of_mem 8 ((outsAt0 m c 8 last_lt).2.2) (fun t hf => ?_) cfg0.N ⟨8, last_lt⟩ (ix2 e l) last_lt ((flush0_8 _).mpr rfl) hmem
  obtain rfl : t = ⟨8, last_lt⟩ := Fin.ext (by have := (flush0_8 t).mp hf; have h9 : t.val < 9 := t.isLt; show t.val = 8; omega)
  rw [flushed8]
  funext y
  rw [View.read_apply, he]
  rfl

/-- The context's point and the tokens' eight: nine terms are the first one's and the sum over the tokens' blocks. -/
theorem context_and_tokens (M : (n : ℕ) → n < cfg0.N → EReal) (g : Fin 2048 → EReal)
    (hs : ∀ (s : Fin 8) (h : s.val + 1 < cfg0.N), M (s.val + 1) h = ∑ r : Fin 256, g (at_block 8 256 rfl s r)) (h0 : 0 < cfg0.N)
    (hM : ∀ s : Fin 9, 9 * 0 + s.val < cfg0.N) :
    ∑ s : Fin 9, M (9 * 0 + s.val) (hM s) = M 0 h0 + ∑ R : Fin 2048, g R := by
  rw [Fin.sum_univ_succ, ← sum_blocks 8 256 rfl g]
  refine congrArg (M 0 h0 + ·) (Finset.sum_congr rfl fun s _ => ?_)
  have hN : cfg0.N = 9 := N_0
  have lt : s.val + 1 < cfg0.N := by omega
  rw [← hs s lt]
  have e : 9 * 0 + s.succ.val = s.val + 1 := by show 9 * 0 + (s.val + 1) = s.val + 1; omega
  exact (by intro a b ha hb h; subst h; rfl : ∀ (a b : ℕ) (ha : a < cfg0.N) (hb : b < cfg0.N), a = b → M a ha = M b hb) _ _ _ _ e

theorem row_token (s : Fin 8) (h : s.val + 1 < cfg0.N) (r : Fin 256) : row ⟨s.val + 1, h⟩ r = token (at_block 8 256 rfl s r) :=
  Fin.ext (by show (s.val + 1) * 256 + r.val = 256 + (s.val * 256 + r.val); omega)
theorem row_context (h : 0 < cfg0.N) (r : Fin 256) : row ⟨0, h⟩ r = context r := Fin.ext (by show 0 * 256 + r.val = r.val; omega)

theorem weight_value (z : Fin 1) (l : Fin 2048) :
    (dats m 0 c).arrAt 7 cfg0.N (ix2 z l)
      = (∑ R : Fin 256, normed m c (context R) l * scaled m c (context R) l) + ∑ R : Fin 2048, normed m c (token R) l * scaled m c (token R) l := by
  have hN : cfg0.N = 9 := N_0
  let M : (n : ℕ) → n < cfg0.N → EReal := fun n h => ∑ r : Fin 256, normed m c (row ⟨n, h⟩ r) l * scaled m c (row ⟨n, h⟩ r) l
  have hrun := run_sum 9 (fun n h => (outsAt0 m c n h).2.1 (ix2 z l)) M
    (fun n h h0 => by
      rw [outsAt0_A m c ⟨n, h⟩ h0 h0]
      dsimp only
      rw [stored7_A, point_weight]
      unfold k0_pay15
      pointwise []
      rfl)
    (fun n h h0 => by
      rw [outsAt0_B m c ⟨n + 1, h⟩ h0 h0]
      dsimp only
      rw [stored7_B, point_weight]
      rfl) 0 8 (by omega) last_lt
  rw [last_weight]
  refine Eq.trans hrun ?_
  rw [context_and_tokens M (fun R => normed m c (token R) l * scaled m c (token R) l)
    (fun s h => Finset.sum_congr rfl fun r _ => by rw [row_token]) (by omega)]
  exact congrArg (· + _) (Finset.sum_congr rfl fun r _ => by rw [row_context])

theorem piece_zero (l : Fin 6144) : piece (fun _ => 0) (fun _ => 0) l = 0 := by
  unfold piece; split_ifs <;> rfl

theorem piece_blocks (a b : Fin 2048 → Fin 2048 → EReal) (l : Fin 6144) :
    ∑ s : Fin 8, piece (fun l => ∑ r : Fin 256, a (at_block 8 256 rfl s r) l) (fun l => ∑ r : Fin 256, b (at_block 8 256 rfl s r) l) l
      = piece (fun l => ∑ R : Fin 2048, a R l) (fun l => ∑ R : Fin 2048, b R l) l := by
  unfold piece
  split_ifs with h k
  · exact sum_blocks 8 256 rfl (fun R => a R _)
  · exact sum_blocks 8 256 rfl (fun R => b R _)
  · exact Finset.sum_const_zero

theorem modulation_value (e : Fin 8) (l : Fin 6144) :
    (dats m 0 c).arrAt 8 cfg0.N (ix2 e l)
      = (if e.val = 1 then piece (fun l => ∑ R : Fin 256, argD m c (ix2 (context R) l)) (fun l => ∑ R : Fin 256, gradScale m c (context R) l) l else 0)
        + if e.val = 0 then piece (fun l => ∑ R : Fin 2048, argD m c (ix2 (token R) l)) (fun l => ∑ R : Fin 2048, gradScale m c (token R) l) l else 0 := by
  have hN : cfg0.N = 9 := N_0
  let M : (n : ℕ) → n < cfg0.N → EReal := fun n h => if e.val = (if n % 9 = 0 then 1 else 0) then pieceAt m c ⟨n, h⟩ l else 0
  have hrun := run_sum 9 (fun n h => (outsAt0 m c n h).2.2 (ix2 e l)) M
    (fun n h h0 => by
      rw [outsAt0_A m c ⟨n, h⟩ h0 h0]
      dsimp only
      rw [stored8_A, point_modulation]
      unfold k0_pay1
      pointwise []
      rfl)
    (fun n h h0 => by
      rw [outsAt0_B m c ⟨n + 1, h⟩ h0 h0]
      dsimp only
      rw [stored8_B, point_modulation]
      rfl) 0 8 (by omega) last_lt
  rw [last_modulation]
  refine Eq.trans hrun ?_
  rw [Fin.sum_univ_succ]
  refine congrArg₂ (· + ·) ?_ ?_
  · show (if e.val = 1 then pieceAt m c ⟨0, by omega⟩ l else 0) = _
    unfold pieceAt
    simp only [row_context]
  · have later : ∀ s : Fin 8, M (9 * 0 + s.succ.val) (by have := s.isLt; show 9 * 0 + (s.val + 1) < cfg0.N; omega)
        = if e.val = 0 then pieceAt m c ⟨s.val + 1, by omega⟩ l else 0 := fun s => by
      show (if e.val = (if (9 * 0 + (s.val + 1)) % 9 = 0 then 1 else 0) then pieceAt m c ⟨9 * 0 + (s.val + 1), _⟩ l else 0) = _
      rw [if_neg (show ¬(9 * 0 + (s.val + 1)) % 9 = 0 by omega)]
      refine if_congr Iff.rfl (congrArg (fun t => pieceAt m c t l) (Fin.ext ?_)) rfl
      show 9 * 0 + (s.val + 1) = s.val + 1; omega
    refine (Finset.sum_congr rfl fun s _ => later s).trans ?_
    split_ifs
    · rw [← piece_blocks (fun R l => argD m c (ix2 (token R) l)) (fun R l => gradScale m c (token R) l) l]
      refine Finset.sum_congr rfl fun s _ => ?_
      unfold pieceAt
      simp only [row_token]
    · exact Finset.sum_const_zero

end Cert.KernelHIdeal.Rows

namespace Cert.H

open Idealize.ShloMosaic Idealize.ShloMosaic.TcCoe Idealize.SL.Sem

/-- The reference leaves its arguments as they are, and has no semaphore. -/
theorem reference_frame : Cert.quiescent_ReferenceHIdeal (hReferenceHIdeal := Cert.ReferenceHIdeal.Gen.facts) :=
  fun m ρ _ => (θ_run _ _ _).mono (fun r h => ⟨fun c => (h c).2.2.2, sem_eq_zero_of_no_sems (by decide) r.2⟩) (Cert.ReferenceHIdeal.Value.run (F := Ideal) m ρ)

set_option maxHeartbeats 4000000 in
theorem algebraic : Cert.algebraic_KernelHIdeal_ReferenceHIdeal
    (hKernelHIdeal := Cert.KernelHIdeal.Gen.facts) (hReferenceHIdeal := Cert.ReferenceHIdeal.Gen.facts) := by
  intro m ρ m' ρ' _ hagree
  refine ⟨_, _, _, Cert.KernelHIdeal.Value.run_blocks (F := Ideal) m ρ, ?_⟩
  refine (θ_run _ _ _).mono (fun _ h c => ⟨(h c).1.trans ?_, (h c).2.1.trans ?_, (h c).2.2.1.trans ?_, (h c).2.2.2⟩) (Cert.ReferenceHIdeal.Value.run (F := Ideal) m' ρ')
  · unfold Cert.ReferenceHIdeal.Value.res_main_v94
    obtain ⟨e0, e1, e2, e3, e4, e5⟩ := hagree c
    rw [e0, e2, e3, e4, e5]
    clear e0 e1 e2 e3 e4 e5
    funext i
    obtain ⟨R, l, rfl⟩ : ∃ R l, i = ix2 R l := ⟨i 0, i 1, funext fun a => by fin_cases a <;> rfl⟩
    refine Eq.trans ?_ (Cert.KernelHIdeal.Rows.tokens_value m c R l).symm
    unfold Cert.KernelHIdeal.Rows.gradRow Cert.KernelHIdeal.Rows.spread Cert.KernelHIdeal.Rows.scaled Cert.KernelHIdeal.Rows.square
    simp only [Cert.KernelHIdeal.Rows.stream_token, Cert.KernelHIdeal.Rows.under_token]
    pointwise []
    simp only [Fin.sum_univ_one]
    rfl
  · obtain ⟨e0, e1, e2, e3, e4, e5⟩ := hagree c
    rw [e0, e1, e2, e4]
    clear e0 e1 e2 e3 e4 e5
    funext i
    obtain ⟨z, l, rfl⟩ : ∃ z l, i = ix2 z l := ⟨i 0, i 1, funext fun a => by fin_cases a <;> rfl⟩
    refine Eq.trans ?_ (Cert.KernelHIdeal.Rows.weight_value m c z l).symm
    unfold Cert.KernelHIdeal.Rows.normed Cert.KernelHIdeal.Rows.scaled Cert.KernelHIdeal.Rows.square
    simp only [Cert.KernelHIdeal.Rows.stream_token, Cert.KernelHIdeal.Rows.under_token, Cert.KernelHIdeal.Rows.stream_context, Cert.KernelHIdeal.Rows.under_context]
    pointwise []
    exact add_comm _ _
  · obtain ⟨e0, e1, e2, e3, e4, e5⟩ := hagree c
    rw [e0, e1, e3, e4]
    clear e0 e1 e2 e3 e4 e5
    funext i
    obtain ⟨e, l, rfl⟩ : ∃ (e : Fin 8) (l : Fin 6144), i = ix2 e l := ⟨i 0, i 1, funext fun a => by fin_cases a <;> rfl⟩
    refine Eq.trans ?_ (Cert.KernelHIdeal.Rows.modulation_value m c e l).symm
    unfold Cert.KernelHIdeal.Rows.piece Cert.KernelHIdeal.Rows.gradScale Cert.KernelHIdeal.Rows.normed Cert.KernelHIdeal.Rows.square
    simp only [Cert.KernelHIdeal.Rows.stream_token, Cert.KernelHIdeal.Rows.stream_context]
    pointwise []
    refine (add_comm _ _).trans (congrArg₂ (· + ·) ?_ ?_)
    · by_cases he : e.val = 1
      · rw [if_pos he, dif_pos (by omega)]
        rfl
      · rw [if_neg he, dif_neg (by omega)]
    · by_cases he : e.val = 0
      · rw [if_pos he, dif_pos (by omega)]
        rfl
      · rw [if_neg he, dif_neg (by omega)]

end Cert.H
-- ==== Proof.Merge.lean ====
/-
  The gradient of the merged branches: each row of the three results is a function of the same row of the arguments, and
  the kernel's blocks of 256 rows are the reference's rows.
-/
module

public import proofs.«01_k».proof.Defs
public import proofs.«01_k».proof.Proof.Blocked
public import proofs.«01_k».proof.Proof.Gen.KernelMergeIdeal.Value
public import proofs.«01_k».proof.Proof.Gen.ReferenceMergeIdeal.Run

@[expose] public section

set_option maxRecDepth 65536

noncomputable section

namespace Cert.KernelMergeIdeal.Rows

open Idealize.ShloMosaic Idealize.ShloMosaic.TcCoe Idealize.SL.Sem Cert.KernelMergeIdeal Cert.KernelMergeIdeal.Gen Cert.KernelMergeIdeal.Value Cert.Blocked

variable (m : (ℓ : Loc nD τ sig) → Buf (Elt Ideal) ℓ) (c : Dev nD)

abbrev argA : FVec Ideal S2304x2048 .f32 := m (c.tc.loc main_arg0)
abbrev argB : FVec Ideal S2304x2048 .f32 := m (c.tc.loc main_arg1)
abbrev argG : FVec Ideal S2304x4096 .f32 := m (c.tc.loc main_arg2)
abbrev argD : FVec Ideal S2304x2048 .f32 := m (c.tc.loc main_arg3)

/-! ## The blocks a point loads -/

/-- which blocks point `t` loads and writes -/
theorem starts : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 1)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 1)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0))

/-- row `r` of block `t` -/
def row (t : Fin cfg0.N) (r : Fin 256) : Fin 2304 := ⟨t.val * 256 + r.val, by have := t.isLt; have : cfg0.N = 9 := N_0; omega⟩

theorem rows (R : Fin 2304) : ∃ (t : Fin cfg0.N) (r : Fin 256), R = row t r := by
  have hN : cfg0.N = 9 := N_0
  exact ⟨⟨R.val / 256, by omega⟩, ⟨R.val % 256, by omega⟩, Fin.ext (by show R.val = R.val / 256 * 256 + R.val % 256; omega)⟩

theorem block_a (t : Fin cfg0.N) (r : Fin 256) (l : Fin 2048) : iblk m c 0 t (ix2 r l) = argA m c (ix2 (row t r) l) := by
  unfold iblk
  rw [View.read_apply]
  show m (c.tc.loc main_arg0) _ = m (c.tc.loc main_arg0) _
  congr 1
  funext a
  apply Fin.ext
  match a with
  | ⟨0, _⟩ => show win0_0.index t 0 * 256 + 1 * r.val = t.val * 256 + r.val; rw [(starts t).1.1]; omega
  | ⟨1, _⟩ => show win0_0.index t 1 * 2048 + 1 * l.val = l.val; rw [(starts t).1.2]; omega

theorem block_b (t : Fin cfg0.N) (r : Fin 256) (l : Fin 2048) : iblk m c 1 t (ix2 r l) = argB m c (ix2 (row t r) l) := by
  unfold iblk
  rw [View.read_apply]
  show m (c.tc.loc main_arg1) _ = m (c.tc.loc main_arg1) _
  congr 1
  funext a
  apply Fin.ext
  match a with
  | ⟨0, _⟩ => show win0_1.index t 0 * 256 + 1 * r.val = t.val * 256 + r.val; rw [(starts t).2.1.1]; omega
  | ⟨1, _⟩ => show win0_1.index t 1 * 2048 + 1 * l.val = l.val; rw [(starts t).2.1.2]; omega

/-- the first gate -/
theorem block_g (t : Fin cfg0.N) (r : Fin 256) (l : Fin 2048) : iblk m c 2 t (ix2 r l) = argG m c (ix2 (row t r) ⟨l.val, by omega⟩) := by
  unfold iblk
  rw [View.read_apply]
  show m (c.tc.loc main_arg2) _ = m (c.tc.loc main_arg2) _
  congr 1
  funext a
  apply Fin.ext
  match a with
  | ⟨0, _⟩ => show win0_2.index t 0 * 256 + 1 * r.val = t.val * 256 + r.val; rw [(starts t).2.2.1.1]; omega
  | ⟨1, _⟩ => show win0_2.index t 1 * 2048 + 1 * l.val = l.val; rw [(starts t).2.2.1.2]; omega

/-- the second gate -/
theorem block_h (t : Fin cfg0.N) (r : Fin 256) (l : Fin 2048) : iblk m c 3 t (ix2 r l) = argG m c (ix2 (row t r) ⟨2048 + l.val, by omega⟩) := by
  unfold iblk
  rw [View.read_apply]
  show m (c.tc.loc main_arg2) _ = m (c.tc.loc main_arg2) _
  congr 1
  funext a
  apply Fin.ext
  match a with
  | ⟨0, _⟩ => show win0_3.index t 0 * 256 + 1 * r.val = t.val * 256 + r.val; rw [(starts t).2.2.2.1.1]; omega
  | ⟨1, _⟩ => show win0_3.index t 1 * 2048 + 1 * l.val = 2048 + l.val; rw [(starts t).2.2.2.1.2]; omega

theorem block_d (t : Fin cfg0.N) (r : Fin 256) (l : Fin 2048) : iblk m c 4 t (ix2 r l) = argD m c (ix2 (row t r) l) := by
  unfold iblk
  rw [View.read_apply]
  show m (c.tc.loc main_arg3) _ = m (c.tc.loc main_arg3) _
  congr 1
  funext a
  apply Fin.ext
  match a with
  | ⟨0, _⟩ => show win0_4.index t 0 * 256 + 1 * r.val = t.val * 256 + r.val; rw [(starts t).2.2.2.2.1.1]; omega
  | ⟨1, _⟩ => show win0_4.index t 1 * 2048 + 1 * l.val = l.val; rw [(starts t).2.2.2.2.1.2]; omega

/-! ## The results, entry by entry -/

theorem first_at (t : Fin cfg0.N) (r : Fin 256) (l : Fin 2048) :
    (dats m 0 c).arrAt 5 cfg0.N (ix2 (row t r) l) = k0_pay5 (F := Ideal) (iblk m c 2 t) (iblk m c 4 t) (ix2 r l) := by
  have hb := congrFun (blocks5 m c t (flush0_5 t)) (ix2 r l)
  rw [flushed5, View.read_apply] at hb
  unfold out0_5 at hb
  rw [View.canon_unit_zero zeros2] at hb
  simp only [View.ld_unit_zero (S := S256x2048) zeros2] at hb
  refine Eq.trans ?_ hb
  congr 1
  funext a
  apply Fin.ext
  match a with
  | ⟨0, _⟩ => show t.val * 256 + r.val = win0_5.index t 0 * 256 + 1 * r.val; rw [(starts t).2.2.2.2.2.1.1]; omega
  | ⟨1, _⟩ => show l.val = win0_5.index t 1 * 2048 + 1 * l.val; rw [(starts t).2.2.2.2.2.1.2]; omega

theorem second_at (t : Fin cfg0.N) (r : Fin 256) (l : Fin 2048) :
    (dats m 0 c).arrAt 6 cfg0.N (ix2 (row t r) l) = k0_pay6 (F := Ideal) (iblk m c 3 t) (iblk m c 4 t) (ix2 r l) := by
  have hb := congrFun (blocks6 m c t (flush0_6 t)) (ix2 r l)
  rw [flushed6, View.read_apply] at hb
  unfold out0_6 at hb
  rw [View.canon_unit_zero zeros2] at hb
  simp only [View.ld_unit_zero (S := S256x2048) zeros2] at hb
  refine Eq.trans ?_ hb
  congr 1
  funext a
  apply Fin.ext
  match a with
  | ⟨0, _⟩ => show t.val * 256 + r.val = win0_6.index t 0 * 256 + 1 * r.val; rw [(starts t).2.2.2.2.2.2.1.1]; omega
  | ⟨1, _⟩ => show l.val = win0_6.index t 1 * 2048 + 1 * l.val; rw [(starts t).2.2.2.2.2.2.1.2]; omega

theorem third_at (t : Fin cfg0.N) (r : Fin 256) (l : Fin 4096) :
    (dats m 0 c).arrAt 7 cfg0.N (ix2 (row t r) l) = k0_pay7 (F := Ideal) (iblk m c 0 t) (iblk m c 1 t) (iblk m c 2 t) (iblk m c 3 t) (iblk m c 4 t) (ix2 r l) := by
  have hb := congrFun (blocks7 m c t (flush0_7 t)) (ix2 r l)
  rw [flushed7, View.read_apply] at hb
  unfold out0_7 at hb
  rw [View.canon_unit_zero zeros2] at hb
  simp only [View.ld_unit_zero (S := S256x2048) zeros2] at hb
  refine Eq.trans ?_ hb
  congr 1
  funext a
  apply Fin.ext
  match a with
  | ⟨0, _⟩ => show t.val * 256 + r.val = win0_7.index t 0 * 256 + 1 * r.val; rw [(starts t).2.2.2.2.2.2.2.1]; omega
  | ⟨1, _⟩ => show l.val = win0_7.index t 1 * 4096 + 1 * l.val; rw [(starts t).2.2.2.2.2.2.2.2]; omega

/-- the gradient of a gate's argument, from the cotangent `d`, the branch `a` and the argument `g` -/
def gateGrad (d a g : EReal) : EReal := d * a * (Ideal.logistic g * (1 - Ideal.logistic g))

theorem first_value (R : Fin 2304) (l : Fin 2048) :
    ((dats m 0 c).arrAt 5 cfg0.N : FVec Ideal S2304x2048 .bf16) (ix2 R l) = Ideal.logistic (argG m c (ix2 R ⟨l.val, by omega⟩)) * argD m c (ix2 R l) := by
  obtain ⟨t, r, rfl⟩ := rows R
  rw [first_at]
  pointwise [k0_pay5, k0_pay1, k0_pay3]
  rw [block_g, block_d]

theorem second_value (R : Fin 2304) (l : Fin 2048) :
    ((dats m 0 c).arrAt 6 cfg0.N : FVec Ideal S2304x2048 .bf16) (ix2 R l) = Ideal.logistic (argG m c (ix2 R ⟨2048 + l.val, by omega⟩)) * argD m c (ix2 R l) := by
  obtain ⟨t, r, rfl⟩ := rows R
  rw [second_at]
  pointwise [k0_pay6, k0_pay2, k0_pay4]
  rw [block_h, block_d]

theorem third_left (R : Fin 2304) (l : Fin 2048) :
    ((dats m 0 c).arrAt 7 cfg0.N : FVec Ideal S2304x4096 .bf16) (ix2 R ⟨l.val, by omega⟩)
      = gateGrad (argD m c (ix2 R l)) (argA m c (ix2 R l)) (argG m c (ix2 R ⟨l.val, by omega⟩)) := by
  obtain ⟨t, r, rfl⟩ := rows R
  rw [third_at]
  pointwise [k0_pay7, k0_pay1, k0_pay2, k0_pay3, k0_pay4]
  rw [block_g, block_d, block_a]
  rfl

theorem third_right (R : Fin 2304) (l : Fin 2048) :
    ((dats m 0 c).arrAt 7 cfg0.N : FVec Ideal S2304x4096 .bf16) (ix2 R ⟨2048 + l.val, by omega⟩)
      = gateGrad (argD m c (ix2 R l)) (argB m c (ix2 R l)) (argG m c (ix2 R ⟨2048 + l.val, by omega⟩)) := by
  obtain ⟨t, r, rfl⟩ := rows R
  rw [third_at]
  pointwise [k0_pay7, k0_pay1, k0_pay2, k0_pay3, k0_pay4]
  rw [block_h, block_d, block_b]
  rfl

end Cert.KernelMergeIdeal.Rows

namespace Cert.Merge

open Idealize.ShloMosaic Idealize.ShloMosaic.TcCoe Idealize.SL.Sem

/-- The reference leaves its arguments as they are, and has no semaphore. -/
theorem reference_frame : Cert.quiescent_ReferenceMergeIdeal (hReferenceMergeIdeal := Cert.ReferenceMergeIdeal.Gen.facts) :=
  fun m ρ _ => (θ_run _ _ _).mono (fun r h => ⟨fun c => (h c).2.2.2, sem_eq_zero_of_no_sems (by decide) r.2⟩) (Cert.ReferenceMergeIdeal.Value.run (F := Ideal) m ρ)

theorem algebraic : Cert.algebraic_KernelMergeIdeal_ReferenceMergeIdeal
    (hKernelMergeIdeal := Cert.KernelMergeIdeal.Gen.facts) (hReferenceMergeIdeal := Cert.ReferenceMergeIdeal.Gen.facts) := by
  intro m ρ m' ρ' _ hagree
  refine ⟨_, _, _, Cert.KernelMergeIdeal.Value.run_blocks (F := Ideal) m ρ, ?_⟩
  refine (θ_run _ _ _).mono (fun _ h c => ⟨(h c).1.trans ?_, (h c).2.1.trans ?_, (h c).2.2.1.trans ?_, (h c).2.2.2⟩) (Cert.ReferenceMergeIdeal.Value.run (F := Ideal) m' ρ')
  all_goals
    obtain ⟨e0, e1, e2, e3⟩ := hagree c
    first | rw [e0, e1, e2, e3] | rw [e2, e3]
    clear e0 e1 e2 e3
    funext i
    obtain ⟨R, l, rfl⟩ : ∃ R l, i = ix2 R l := ⟨i 0, i 1, funext fun a => by fin_cases a <;> rfl⟩
  · refine Eq.trans ?_ (Cert.KernelMergeIdeal.Rows.first_value m c R l).symm
    pointwise []
    rfl
  · refine Eq.trans ?_ (Cert.KernelMergeIdeal.Rows.second_value m c R l).symm
    pointwise []
    rfl
  · rcases Cert.Blocked.halves 2048 2048 rfl l with ⟨k, rfl⟩ | ⟨k, rfl⟩
    · refine Eq.trans ?_ (Cert.KernelMergeIdeal.Rows.third_left m c R k).symm
      unfold Cert.KernelMergeIdeal.Rows.gateGrad
      pointwise []
      rfl
    · refine Eq.trans ?_ (Cert.KernelMergeIdeal.Rows.third_right m c R k).symm
      unfold Cert.KernelMergeIdeal.Rows.gateGrad
      pointwise []
      rfl

end Cert.Merge
-- ==== Proof.Post.lean ====
/-
  The backward of the output's normalisation and gate, over the point's 256 rows: the gradient of the summed outputs, the gradient
  of the gate's columns, and the normalisation weight's gradient, which is summed over the nine points.
-/
module

public import proofs.«01_k».proof.Defs
public import proofs.«01_k».proof.Proof.Blocked
public import proofs.«01_k».proof.Proof.Gen.KernelPostIdeal.Value
public import proofs.«01_k».proof.Proof.Gen.ReferencePostIdeal.Run
public import Idealize.ShloMosaic.Lib.VecWindow

@[expose] public section

set_option maxRecDepth 65536

noncomputable section

namespace Cert.KernelPostIdeal.Rows

open Idealize.ShloMosaic Idealize.ShloMosaic.TcCoe Idealize.SL.Sem Cert.KernelPostIdeal Cert.KernelPostIdeal.Gen Cert.KernelPostIdeal.Value Cert.Blocked

/-! ## What one point stores -/

theorem stored5_A (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S1x1024 .f32) (h5 : a5.IsWhole)
    (a6 : Memref sig .tc .vmem S256x1024 .f32) (h6 : a6.IsWhole)
    (a7 : Memref sig .tc .vmem S256x1024 .bf16) (h7 : a7.IsWhole)
    (a8 : Memref sig .tc .vmem S1x1024 .f32) (h8 : a8.IsWhole)
    (x0 x1 x2 x3 : FVec Ideal S256x1024 .f32) (x4 : FVec Ideal S1x1024 .f32) (hc0 : cond0_0 i) :
    out0_A_5 (F := Ideal) c i a1 h1 a2 h2 a3 h3 a4 h4 a5 h5 a6 h6 a7 h7 a8 h8 hc0 x0 x1 x2 x3 x4 = k0_pay1 (F := Ideal) (k0_pay5 x0 x1) (k0_pay7 x0 x1) (k0_pay8 x0 x1) (k0_pay14 x2 x3 x4) (k0_pay15 x0 x1 x2 x3 x4) := by
  unfold out0_A_5
  rw [View.read_writes_eq_canon _ _ _ (cover0_A_5 (F := Ideal) c i a1 h1 a2 h2 a3 h3 a4 h4 a5 h5 a6 h6 a7 h7 a8 h8 hc0 x0 x1 x2 x3 x4)]
  unfold kernelRun0_A
  dsimp only
  sl_unfold_words
  rw [View.canon_unit_zero zeros2]
  simp only [View.readAt_eq_ld, h1.read_unread, h2.read_unread, h3.read_unread, h4.read_unread, h5.read_unread, View.ld_unit_zero (S := S256x1024) zeros2, View.ld_unit_zero (S := S1x1024) zeros2, View.readCov_unit_zero (S := S1x1024) _ zeros2, View.readCov_full (s := S1x1024)]

theorem stored6_A (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S1x1024 .f32) (h5 : a5.IsWhole)
    (a6 : Memref sig .tc .vmem S256x1024 .f32) (h6 : a6.IsWhole)
    (a7 : Memref sig .tc .vmem S256x1024 .bf16) (h7 : a7.IsWhole)
    (a8 : Memref sig .tc .vmem S1x1024 .f32) (h8 : a8.IsWhole)
    (x0 x1 x2 x3 : FVec Ideal S256x1024 .f32) (x4 : FVec Ideal S1x1024 .f32) (hc0 : cond0_0 i) :
    out0_A_6 (F := Ideal) c i a1 h1 a2 h2 a3 h3 a4 h4 a5 h5 a6 h6 a7 h7 a8 h8 hc0 x0 x1 x2 x3 x4 = k0_pay2 (F := Ideal) (k0_pay12 (F := Ideal) x0 x1 x2 x3 x4) := by
  unfold out0_A_6
  rw [View.read_writes_eq_canon _ _ _ (cover0_A_6 (F := Ideal) c i a1 h1 a2 h2 a3 h3 a4 h4 a5 h5 a6 h6 a7 h7 a8 h8 hc0 x0 x1 x2 x3 x4)]
  unfold kernelRun0_A
  dsimp only
  sl_unfold_words
  rw [View.canon_unit_zero zeros2]
  simp only [View.readAt_eq_ld, h1.read_unread, h2.read_unread, h3.read_unread, h4.read_unread, h5.read_unread, View.ld_unit_zero (S := S256x1024) zeros2, View.ld_unit_zero (S := S1x1024) zeros2, View.readCov_unit_zero (S := S1x1024) _ zeros2, View.readCov_full (s := S1x1024)]

theorem stored7_A (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S1x1024 .f32) (h5 : a5.IsWhole)
    (a6 : Memref sig .tc .vmem S256x1024 .f32) (h6 : a6.IsWhole)
    (a7 : Memref sig .tc .vmem S256x1024 .bf16) (h7 : a7.IsWhole)
    (a8 : Memref sig .tc .vmem S1x1024 .f32) (h8 : a8.IsWhole)
    (x0 x1 x2 x3 : FVec Ideal S256x1024 .f32) (x4 : FVec Ideal S1x1024 .f32) (hc0 : cond0_0 i) :
    out0_A_7 (F := Ideal) c i a1 h1 a2 h2 a3 h3 a4 h4 a5 h5 a6 h6 a7 h7 a8 h8 hc0 x0 x1 x2 x3 x4 = k0_pay4 (F := Ideal) (k0_pay13 x0 x1 x2 x3) (k0_pay3 (F := Ideal)) := by
  unfold out0_A_7
  rw [View.read_writes_eq_canon _ _ _ (cover0_A_7 (F := Ideal) c i a1 h1 a2 h2 a3 h3 a4 h4 a5 h5 a6 h6 a7 h7 a8 h8 hc0 x0 x1 x2 x3 x4)]
  unfold kernelRun0_A
  dsimp only
  sl_unfold_words
  rw [View.canon_cons_unit_zero zeros2]
  simp only [View.readAt_eq_ld, h1.read_unread, h2.read_unread, h3.read_unread, h4.read_unread, h5.read_unread, View.ld_unit_zero (S := S256x1024) zeros2, View.ld_unit_zero (S := S1x1024) zeros2, View.readCov_unit_zero (S := S1x1024) _ zeros2, View.readCov_full (s := S1x1024)]

theorem stored5_B (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S1x1024 .f32) (h5 : a5.IsWhole)
    (a6 : Memref sig .tc .vmem S256x1024 .f32) (h6 : a6.IsWhole)
    (a7 : Memref sig .tc .vmem S256x1024 .bf16) (h7 : a7.IsWhole)
    (a8 : Memref sig .tc .vmem S1x1024 .f32) (h8 : a8.IsWhole)
    (x0 x1 x2 x3 : FVec Ideal S256x1024 .f32) (x4 : FVec Ideal S1x1024 .f32) (xo : FVec Ideal S1x1024 .f32) (hc0 : ¬cond0_0 i) :
    out0_B_5 (F := Ideal) c i a1 h1 a2 h2 a3 h3 a4 h4 a5 h5 a6 h6 a7 h7 a8 h8 hc0 x0 x1 x2 x3 x4 xo = k0_pay1 (F := Ideal) (k0_pay5 x0 x1) (k0_pay7 x0 x1) (k0_pay8 x0 x1) (k0_pay14 x2 x3 x4) (k0_pay15 x0 x1 x2 x3 x4) := by
  unfold out0_B_5
  rw [View.read_writes_eq_canon _ _ _ (cover0_B_5 (F := Ideal) c i a1 h1 a2 h2 a3 h3 a4 h4 a5 h5 a6 h6 a7 h7 a8 h8 hc0 x0 x1 x2 x3 x4 xo)]
  unfold kernelRun0_B
  dsimp only
  sl_unfold_words
  rw [View.canon_unit_zero zeros2]
  simp only [View.readAt_eq_ld, h1.read_unread, h2.read_unread, h3.read_unread, h4.read_unread, h5.read_unread, h8.read_unread, View.ld_unit_zero (S := S256x1024) zeros2, View.ld_unit_zero (S := S1x1024) zeros2, View.readCov_unit_zero (S := S1x1024) _ zeros2, View.readCov_full (s := S1x1024)]

theorem stored6_B (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S1x1024 .f32) (h5 : a5.IsWhole)
    (a6 : Memref sig .tc .vmem S256x1024 .f32) (h6 : a6.IsWhole)
    (a7 : Memref sig .tc .vmem S256x1024 .bf16) (h7 : a7.IsWhole)
    (a8 : Memref sig .tc .vmem S1x1024 .f32) (h8 : a8.IsWhole)
    (x0 x1 x2 x3 : FVec Ideal S256x1024 .f32) (x4 : FVec Ideal S1x1024 .f32) (xo : FVec Ideal S1x1024 .f32) (hc0 : ¬cond0_0 i) :
    out0_B_6 (F := Ideal) c i a1 h1 a2 h2 a3 h3 a4 h4 a5 h5 a6 h6 a7 h7 a8 h8 hc0 x0 x1 x2 x3 x4 xo = k0_pay2 (F := Ideal) (k0_pay12 (F := Ideal) x0 x1 x2 x3 x4) := by
  unfold out0_B_6
  rw [View.read_writes_eq_canon _ _ _ (cover0_B_6 (F := Ideal) c i a1 h1 a2 h2 a3 h3 a4 h4 a5 h5 a6 h6 a7 h7 a8 h8 hc0 x0 x1 x2 x3 x4 xo)]
  unfold kernelRun0_B
  dsimp only
  sl_unfold_words
  rw [View.canon_unit_zero zeros2]
  simp only [View.readAt_eq_ld, h1.read_unread, h2.read_unread, h3.read_unread, h4.read_unread, h5.read_unread, h8.read_unread, View.ld_unit_zero (S := S256x1024) zeros2, View.ld_unit_zero (S := S1x1024) zeros2, View.readCov_unit_zero (S := S1x1024) _ zeros2, View.readCov_full (s := S1x1024)]

theorem stored7_B (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S1x1024 .f32) (h5 : a5.IsWhole)
    (a6 : Memref sig .tc .vmem S256x1024 .f32) (h6 : a6.IsWhole)
    (a7 : Memref sig .tc .vmem S256x1024 .bf16) (h7 : a7.IsWhole)
    (a8 : Memref sig .tc .vmem S1x1024 .f32) (h8 : a8.IsWhole)
    (x0 x1 x2 x3 : FVec Ideal S256x1024 .f32) (x4 : FVec Ideal S1x1024 .f32) (xo : FVec Ideal S1x1024 .f32) (hc0 : ¬cond0_0 i) :
    out0_B_7 (F := Ideal) c i a1 h1 a2 h2 a3 h3 a4 h4 a5 h5 a6 h6 a7 h7 a8 h8 hc0 x0 x1 x2 x3 x4 xo = k0_pay4 (F := Ideal) (k0_pay13 x0 x1 x2 x3) xo := by
  unfold out0_B_7
  rw [View.read_writes_eq_canon _ _ _ (cover0_B_7 (F := Ideal) c i a1 h1 a2 h2 a3 h3 a4 h4 a5 h5 a6 h6 a7 h7 a8 h8 hc0 x0 x1 x2 x3 x4 xo)]
  unfold kernelRun0_B
  dsimp only
  sl_unfold_words
  rw [View.canon_unit_zero zeros2]
  simp only [View.readAt_eq_ld, h1.read_unread, h2.read_unread, h3.read_unread, h4.read_unread, h5.read_unread, h8.read_unread, View.ld_unit_zero (S := S256x1024) zeros2, View.ld_unit_zero (S := S1x1024) zeros2, View.readCov_unit_zero (S := S1x1024) _ zeros2, View.readCov_full (s := S1x1024)]

/-! ## The grid -/

variable (m : (ℓ : Loc nD τ sig) → Buf (Elt Ideal) ℓ) (c : Dev nD)

abbrev argF : FVec Ideal S2304x1024 .f32 := m (c.tc.loc main_arg0)
abbrev argB : FVec Ideal S2304x1024 .f32 := m (c.tc.loc main_arg1)
abbrev argZ : FVec Ideal S2304x13568 .f32 := m (c.tc.loc main_arg2)
abbrev argW : FVec Ideal S1x1024 .f32 := m (c.tc.loc main_arg3)
abbrev argD : FVec Ideal S2304x1024 .f32 := m (c.tc.loc main_arg4)

/-- which blocks point `t` loads and writes -/
theorem starts : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 4)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 4)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0))

/-- row `r` of block `t` -/
def row (t : Fin cfg0.N) (r : Fin 256) : Fin 2304 := ⟨t.val * 256 + r.val, by have := t.isLt; have : cfg0.N = 9 := N_0; omega⟩

theorem rows (R : Fin 2304) : ∃ (t : Fin cfg0.N) (r : Fin 256), R = row t r := by
  have hN : cfg0.N = 9 := N_0
  exact ⟨⟨R.val / 256, by omega⟩, ⟨R.val % 256, by omega⟩, Fin.ext (by show R.val = R.val / 256 * 256 + R.val % 256; omega)⟩

theorem block_f (t : Fin cfg0.N) (r : Fin 256) (l : Fin 1024) : iblk m c 0 t (ix2 r l) = argF m c (ix2 (row t r) l) := by
  unfold iblk
  rw [View.read_apply]
  show m (c.tc.loc main_arg0) _ = m (c.tc.loc main_arg0) _
  congr 1
  funext a
  apply Fin.ext
  match a with
  | ⟨0, _⟩ => show win0_0.index t 0 * 256 + 1 * r.val = t.val * 256 + r.val; rw [(starts t).1.1]; omega
  | ⟨1, _⟩ => show win0_0.index t 1 * 1024 + 1 * l.val = l.val; rw [(starts t).1.2]; omega

theorem block_b (t : Fin cfg0.N) (r : Fin 256) (l : Fin 1024) : iblk m c 1 t (ix2 r l) = argB m c (ix2 (row t r) l) := by
  unfold iblk
  rw [View.read_apply]
  show m (c.tc.loc main_arg1) _ = m (c.tc.loc main_arg1) _
  congr 1
  funext a
  apply Fin.ext
  match a with
  | ⟨0, _⟩ => show win0_1.index t 0 * 256 + 1 * r.val = t.val * 256 + r.val; rw [(starts t).2.1.1]; omega
  | ⟨1, _⟩ => show win0_1.index t 1 * 1024 + 1 * l.val = l.val; rw [(starts t).2.1.2]; omega

/-- the gate's columns are the fifth 1024 of the projections -/
theorem block_z (t : Fin cfg0.N) (r : Fin 256) (l : Fin 1024) : X0_2 m c t (ix2 r l) = argZ m c (ix2 (row t r) ⟨4096 + l.val, by omega⟩) := by
  unfold X0_2 Pipeline.Window.fill
  rw [dif_pos (moved0_2 t (ix2 r l))]
  unfold iblk
  rw [View.read_apply]
  show m (c.tc.loc main_arg2) _ = m (c.tc.loc main_arg2) _
  congr 1
  funext a
  apply Fin.ext
  match a with
  | ⟨0, _⟩ => show win0_2.index t 0 * 256 + 1 * r.val = t.val * 256 + r.val; rw [(starts t).2.2.1.1]; omega
  | ⟨1, _⟩ => show win0_2.index t 1 * 1024 + 1 * l.val = 4096 + l.val; rw [(starts t).2.2.1.2]; omega

theorem block_d (t : Fin cfg0.N) (r : Fin 256) (l : Fin 1024) : iblk m c 3 t (ix2 r l) = argD m c (ix2 (row t r) l) := by
  unfold iblk
  rw [View.read_apply]
  show m (c.tc.loc main_arg4) _ = m (c.tc.loc main_arg4) _
  congr 1
  funext a
  apply Fin.ext
  match a with
  | ⟨0, _⟩ => show win0_3.index t 0 * 256 + 1 * r.val = t.val * 256 + r.val; rw [(starts t).2.2.2.1.1]; omega
  | ⟨1, _⟩ => show win0_3.index t 1 * 1024 + 1 * l.val = l.val; rw [(starts t).2.2.2.1.2]; omega

theorem block_w (t : Fin cfg0.N) (z : Fin 1) (l : Fin 1024) : iblk m c 4 t (ix2 z l) = argW m c (ix2 z l) := by
  unfold iblk
  rw [View.read_apply]
  show m (c.tc.loc main_arg3) _ = m (c.tc.loc main_arg3) _
  congr 1
  funext a
  apply Fin.ext
  match a with
  | ⟨0, _⟩ => show win0_4.index t 0 * 1 + 1 * z.val = z.val; rw [(starts t).2.2.2.2.1.1]; omega
  | ⟨1, _⟩ => show win0_4.index t 1 * 1024 + 1 * l.val = l.val; rw [(starts t).2.2.2.2.1.2]; omega

/-! ## The mathematics, entry by entry -/

/-- place `k` of the head that column `l` belongs to -/
def inHead (l : Fin 1024) (k : Fin 128) : Fin 1024 := ⟨l.val / 128 * 128 + k.val, by omega⟩
/-- the two directions' outputs summed -/
def both (R : Fin 2304) (l : Fin 1024) : EReal := argF m c (ix2 R l) + argB m c (ix2 R l)
/-- the head's mean square, and epsilon -/
def square (R : Fin 2304) (l : Fin 1024) : EReal :=
  Ideal.div (∑ k : Fin 128, both m c R (inHead l k) * both m c R (inHead l k)) (Ideal.ofBits .f32 1124073472#32) + Ideal.ofBits .f32 897988541#32
def normed (R : Fin 2304) (l : Fin 1024) : EReal := both m c R l * Ideal.rsqrt (square m c R l)
def gate (R : Fin 2304) (l : Fin 1024) : EReal := argZ m c (ix2 R ⟨4096 + l.val, by omega⟩)
/-- the gradient that reaches the weighted, normalised output -/
def gated (R : Fin 2304) (l : Fin 1024) : EReal := argD m c (ix2 R l) * (gate m c R l * Ideal.logistic (gate m c R l))

/-- the gradient of the summed outputs -/
def gradSum (R : Fin 2304) (l : Fin 1024) : EReal :=
  gated m c R l * argW m c (ix2 0 l) * Ideal.rsqrt (square m c R l)
    + both m c R l * Ideal.div ((∑ k : Fin 128, both m c R (inHead l k) * (gated m c R (inHead l k) * argW m c (ix2 0 (inHead l k))))
        * (Ideal.ofBits .f32 3204448256#32 * Ideal.div (Ideal.rsqrt (square m c R l)) (square m c R l))) (Ideal.ofBits .f32 1124073472#32)
    + Ideal.div ((∑ k : Fin 128, both m c R (inHead l k) * (gated m c R (inHead l k) * argW m c (ix2 0 (inHead l k))))
        * (Ideal.ofBits .f32 3204448256#32 * Ideal.div (Ideal.rsqrt (square m c R l)) (square m c R l))) (Ideal.ofBits .f32 1124073472#32) * both m c R l

/-- the gradient of the gate's columns -/
def gradGate (R : Fin 2304) (l : Fin 1024) : EReal :=
  normed m c R l * argW m c (ix2 0 l) * argD m c (ix2 R l) * Ideal.logistic (gate m c R l)
    + gate m c R l * (normed m c R l * argW m c (ix2 0 l) * argD m c (ix2 R l)) * (Ideal.logistic (gate m c R l) * (1 - Ideal.logistic (gate m c R l)))

/-! ## The blocks -/

theorem point_sum (t : Fin cfg0.N) (r : Fin 256) (l : Fin 1024) :
    (k0_pay1 (F := Ideal) (k0_pay5 (iblk m c 0 t) (iblk m c 1 t)) (k0_pay7 (iblk m c 0 t) (iblk m c 1 t)) (k0_pay8 (iblk m c 0 t) (iblk m c 1 t))
      (k0_pay14 (X0_2 m c t) (iblk m c 3 t) (iblk m c 4 t)) (k0_pay15 (iblk m c 0 t) (iblk m c 1 t) (X0_2 m c t) (iblk m c 3 t) (iblk m c 4 t))) (ix2 r l)
      = gradSum m c (row t r) l := by
  pointwise [k0_pay1, k0_pay8, k0_pay14, k0_pay15, k0_pay11, k0_pay10, k0_pay9, k0_pay7, k0_pay6, k0_pay5]
  simp only [Fin.sum_univ_one, block_f, block_b, block_z, block_d, block_w]
  rfl

theorem point_gate (t : Fin cfg0.N) (r : Fin 256) (l : Fin 1024) :
    (k0_pay2 (F := Ideal) (k0_pay12 (F := Ideal) (iblk m c 0 t) (iblk m c 1 t) (X0_2 m c t) (iblk m c 3 t) (iblk m c 4 t))) (ix2 r l)
      = gradGate m c (row t r) l := by
  pointwise [k0_pay2, k0_pay12, k0_pay10, k0_pay9, k0_pay7, k0_pay6, k0_pay5]
  simp only [block_f, block_b, block_z, block_d, block_w]
  rfl

theorem point_weight (t : Fin cfg0.N) (z : Fin 1) (l : Fin 1024) :
    k0_pay13 (F := Ideal) (iblk m c 0 t) (iblk m c 1 t) (X0_2 m c t) (iblk m c 3 t) (ix2 z l)
      = ∑ r : Fin 256, normed m c (row t r) l * gated m c (row t r) l := by
  pointwise [k0_pay13, k0_pay11, k0_pay10, k0_pay9, k0_pay7, k0_pay6, k0_pay5]
  simp only [block_f, block_b, block_z, block_d]
  rfl

theorem sum_value (R : Fin 2304) (l : Fin 1024) : (dats m 0 c).arrAt 5 cfg0.N (ix2 R l) = gradSum m c R l := by
  obtain ⟨t, r, rfl⟩ := rows R
  have hb := congrFun (blocks5 m c t (flush0_5 t)) (ix2 r l)
  rw [View.read_apply] at hb
  refine Eq.trans ?_ (hb.trans (Eq.trans ?_ (point_sum m c t r l)))
  · congr 1
    funext a
    apply Fin.ext
    match a with
    | ⟨0, _⟩ => show t.val * 256 + r.val = win0_5.index t 0 * 256 + 1 * r.val; rw [(starts t).2.2.2.2.2.1.1]; omega
    | ⟨1, _⟩ => show l.val = win0_5.index t 1 * 1024 + 1 * l.val; rw [(starts t).2.2.2.2.2.1.2]; omega
  · by_cases h : t.val % 9 = 0
    · rw [flushed5_A m c t h, stored5_A]; rfl
    · rw [flushed5_B m c t h, stored5_B]; rfl

theorem gate_value (R : Fin 2304) (l : Fin 1024) : (dats m 0 c).arrAt 6 cfg0.N (ix2 R l) = gradGate m c R l := by
  obtain ⟨t, r, rfl⟩ := rows R
  have hb := congrFun (blocks6 m c t (flush0_6 t)) (ix2 r l)
  rw [View.read_apply] at hb
  refine Eq.trans ?_ (hb.trans (Eq.trans ?_ (point_gate m c t r l)))
  · congr 1
    funext a
    apply Fin.ext
    match a with
    | ⟨0, _⟩ => show t.val * 256 + r.val = win0_6.index t 0 * 256 + 1 * r.val; rw [(starts t).2.2.2.2.2.2.1.1]; omega
    | ⟨1, _⟩ => show l.val = win0_6.index t 1 * 1024 + 1 * l.val; rw [(starts t).2.2.2.2.2.2.1.2]; omega
  · by_cases h : t.val % 9 = 0
    · rw [flushed6_A m c t h, stored6_A]; rfl
    · rw [flushed6_B m c t h, stored6_B]; rfl

/-! ## The weight's gradient: what the last point leaves -/

/-- what point `n` leaves in the weight gradient's block, and what it adds -/
def held (z : Fin 1) (l : Fin 1024) (n : ℕ) (h : n < cfg0.N) : EReal := (outsAt0 m c n h).2.2 (ix2 z l)
def adds (z : Fin 1) (l : Fin 1024) (n : ℕ) (h : n < cfg0.N) : EReal :=
  k0_pay13 (F := Ideal) (iblk m c 0 ⟨n, h⟩) (iblk m c 1 ⟨n, h⟩) (X0_2 m c ⟨n, h⟩) (iblk m c 3 ⟨n, h⟩) (ix2 z l)

theorem held_first (z : Fin 1) (l : Fin 1024) (n : ℕ) (h : n < cfg0.N) (h0 : n % 9 = 0) : held m c z l n h = adds m c z l n h := by
  unfold held adds
  rw [outsAt0_A m c ⟨n, h⟩ h0]
  dsimp only
  rw [stored7_A]
  unfold k0_pay4 k0_pay3
  pointwise []

theorem held_next (z : Fin 1) (l : Fin 1024) (n : ℕ) (h : n + 1 < cfg0.N) (h0 : ¬(n + 1) % 9 = 0) :
    held m c z l (n + 1) h = held m c z l n (Nat.lt_of_succ_lt h) + adds m c z l (n + 1) h := by
  unfold held adds
  rw [outsAt0_B m c ⟨n + 1, h⟩ h0]
  dsimp only
  rw [stored7_B]
  unfold k0_pay4
  pointwise []
  rfl

theorem last_lt : 8 < cfg0.N := by have : cfg0.N = 9 := N_0; omega

theorem last_held (z : Fin 1) (l : Fin 1024) : (dats m 0 c).arrAt 7 cfg0.N (ix2 z l) = held m c z l 8 last_lt := by
  have hmem := ((cfg0.win 7).blk ⟨8, last_lt⟩).view.emb_mem_set (ix2 z l)
  have he : ∀ (t : Fin cfg0.N) (y : S1x1024.Idx), ((cfg0.win 7).blk t).view.emb y = y := fun t y => by
    funext a
    apply Fin.ext
    match a with
    | ⟨0, _⟩ => show win0_7.index t 0 * 1 + 1 * (y 0).val = (y 0).val; rw [(starts t).2.2.2.2.2.2.2.1]; omega
    | ⟨1, _⟩ => show win0_7.index t 1 * 1024 + 1 * (y 1).val = (y 1).val; rw [(starts t).2.2.2.2.2.2.2.2]; omega
  rw [he] at hmem
  refine (dats m 0 c).arrAt_apply_of_mem 7 ((outsAt0 m c 8 last_lt).2.2) (fun t hf => ?_) cfg0.N ⟨8, last_lt⟩ (ix2 z l) last_lt ((flush0_7 _).mpr rfl) hmem
  obtain rfl : t = ⟨8, last_lt⟩ := Fin.ext (by have := (flush0_7 t).mp hf; have h9 : t.val < 9 := t.isLt; show t.val = 8; omega)
  rw [flushed7]
  funext y
  rw [View.read_apply, he]
  rfl

theorem weight_value (z : Fin 1) (l : Fin 1024) :
    (dats m 0 c).arrAt 7 cfg0.N (ix2 z l) = ∑ R : Fin 2304, normed m c R l * gated m c R l := by
  rw [last_held]
  exact whole_sum 8 256 rfl (held m c z l) (adds m c z l) (fun R => normed m c R l * gated m c R l)
    (held_first m c z l) (held_next m c z l) 0 last_lt fun s h => (point_weight m c ⟨_, h⟩ z l).trans
      (Finset.sum_congr rfl fun r _ => by
        have : row ⟨9 * 0 + s.val, h⟩ r = at_block 9 256 rfl s r := Fin.ext (by show (9 * 0 + s.val) * 256 + r.val = s.val * 256 + r.val; omega)
        exact congrArg (fun R => normed m c R l * gated m c R l) this)

end Cert.KernelPostIdeal.Rows

namespace Cert.Post

open Idealize.ShloMosaic Idealize.ShloMosaic.TcCoe Idealize.SL.Sem

/-- The reference leaves its arguments as they are, and has no semaphore. -/
theorem reference_frame : Cert.quiescent_ReferencePostIdeal (hReferencePostIdeal := Cert.ReferencePostIdeal.Gen.facts) :=
  fun m ρ _ => (θ_run _ _ _).mono (fun r h => ⟨fun c => (h c).2.2.2, sem_eq_zero_of_no_sems (by decide) r.2⟩) (Cert.ReferencePostIdeal.Value.run (F := Ideal) m ρ)

set_option maxHeartbeats 4000000 in
theorem algebraic : Cert.algebraic_KernelPostIdeal_ReferencePostIdeal
    (hKernelPostIdeal := Cert.KernelPostIdeal.Gen.facts) (hReferencePostIdeal := Cert.ReferencePostIdeal.Gen.facts) := by
  intro m ρ m' ρ' _ hagree
  refine ⟨_, _, _, Cert.KernelPostIdeal.Value.run_blocks (F := Ideal) m ρ, ?_⟩
  refine (θ_run _ _ _).mono (fun _ h c => ⟨(h c).1.trans ?_, (h c).2.1.trans ?_, (h c).2.2.1.trans ?_, (h c).2.2.2⟩) (Cert.ReferencePostIdeal.Value.run (F := Ideal) m' ρ')
  · unfold Cert.ReferencePostIdeal.Value.res_main_v45
    obtain ⟨e0, e1, e2, e3, e4⟩ := hagree c
    rw [e0, e1, e2, e3, e4]
    clear e0 e1 e2 e3 e4
    funext i
    obtain ⟨R, l, rfl⟩ : ∃ R l, i = ix2 R l := ⟨i 0, i 1, funext fun a => by fin_cases a <;> rfl⟩
    refine Eq.trans ?_ (Cert.KernelPostIdeal.Rows.sum_value m c R l).symm
    pointwise []
    simp only [Fin.sum_univ_one]
    rfl
  · obtain ⟨e0, e1, e2, e3, e4⟩ := hagree c
    rw [e0, e1, e2, e3, e4]
    clear e0 e1 e2 e3 e4
    funext i
    obtain ⟨R, l, rfl⟩ : ∃ R l, i = ix2 R l := ⟨i 0, i 1, funext fun a => by fin_cases a <;> rfl⟩
    refine Eq.trans ?_ (Cert.KernelPostIdeal.Rows.gate_value m c R l).symm
    pointwise []
    rfl
  · obtain ⟨e0, e1, e2, e3, e4⟩ := hagree c
    rw [e0, e1, e2, e4]
    clear e0 e1 e2 e3 e4
    funext i
    obtain ⟨z, l, rfl⟩ : ∃ z l, i = ix2 z l := ⟨i 0, i 1, funext fun a => by fin_cases a <;> rfl⟩
    refine Eq.trans ?_ (Cert.KernelPostIdeal.Rows.weight_value m c z l).symm
    pointwise []
    rfl

end Cert.Post
-- ==== Proof.AdaW.lean ====
/-
  The gradient of the modulation's weight, `cᵀ · ct`: each block of 512 × 512 entries is one product over the sixteen rows.
-/
module

public import proofs.«01_k».proof.Defs
public import proofs.«01_k».proof.Proof.Blocked
public import proofs.«01_k».proof.Proof.Gen.KernelAdaWIdeal.Value
public import proofs.«01_k».proof.Proof.Gen.ReferenceAdaWIdeal.Run
public import Idealize.ShloMosaic.Lib.VecWindow

@[expose] public section

set_option maxRecDepth 65536

noncomputable section

namespace Cert.KernelAdaWIdeal.Product

open Idealize.ShloMosaic Idealize.ShloMosaic.TcCoe Idealize.SL.Sem Cert.KernelAdaWIdeal Cert.KernelAdaWIdeal.Gen Cert.KernelAdaWIdeal.Value Cert.Blocked

/-! ## One point of the grid -/

theorem payload (x y : FVec Ideal S16x512 .f32) (r l : Fin 512) :
    k0_pay2 (F := Ideal) (k0_pay1 (F := Ideal)) x y (ix2 r l) = ∑ p : Fin 16, x (ix2 p r) * y (ix2 p l) := by
  pointwise [k0_pay2, k0_pay1]

theorem stored (c : Dev nD) (i : grid0.Coords)
    (a3 : Memref sig .tc .vmem S16x512 .f32) (h3 : a3.IsWhole) (a4 : Memref sig .tc .vmem S16x512 .f32) (h4 : a4.IsWhole)
    (a5 : Memref sig .tc .vmem S512x512 .f32) (h5 : a5.IsWhole) (a6 : Memref sig .tc .vmem S512x512 .f32) (h6 : a6.IsWhole)
    (x y : FVec Ideal S16x512 .f32) (hc0 : cond0_0 i) (hc1 : cond0_1 i) :
    out0_A_2 (F := Ideal) c i a3 h3 a4 h4 a5 h5 a6 h6 hc0 hc1 x y = k0_pay2 (F := Ideal) (k0_pay1 (F := Ideal)) x y := by
  unfold out0_A_2
  rw [View.read_writes_eq_canon _ _ _ (cover0_A_2 (F := Ideal) c i a3 h3 a4 h4 a5 h5 a6 h6 hc0 hc1 x y)]
  unfold kernelRun0_A
  dsimp only
  sl_unfold_words
  rw [View.canon_unit_zero zeros2]
  simp only [View.readAt_eq_ld, h3.read_unread, h4.read_unread, View.ld_unit_zero (S := S16x512) zeros2, View.readCov_unit_zero (S := S512x512) _ zeros2, View.readCov_full (s := S512x512)]

/-! ## The grid -/

variable (m : (ℓ : Loc nD τ sig) → Buf (Elt Ideal) ℓ) (c : Dev nD)

abbrev argX : FVec Ideal S16x2048 .f32 := m (c.tc.loc main_arg0)
abbrev argY : FVec Ideal S16x1536 .f32 := m (c.tc.loc main_arg1)

/-- which blocks point `t` loads and writes -/
theorem starts : ∀ t : Fin cfg0.N, (win0_0.index t 0 = 0 ∧ win0_0.index t 1 = t.val / 3) ∧ (win0_1.index t 0 = 0 ∧ win0_1.index t 1 = t.val % 3) ∧ (win0_2.index t 0 = t.val / 3 ∧ win0_2.index t 1 = t.val % 3) :=
  (by decide +kernel : ∀ t : Fin grid0.N, (win0_0.index t 0 = 0 ∧ win0_0.index t 1 = t.val / 3) ∧ (win0_1.index t 0 = 0 ∧ win0_1.index t 1 = t.val % 3) ∧ (win0_2.index t 0 = t.val / 3 ∧ win0_2.index t 1 = t.val % 3))

/-- the array's row and column at place `r` of point `t`'s block -/
def row (t : Fin cfg0.N) (r : Fin 512) : Fin 2048 := ⟨t.val / 3 * 512 + r.val, by have := t.isLt; have : cfg0.N = 12 := N_0; omega⟩
def col (t : Fin cfg0.N) (l : Fin 512) : Fin 1536 := ⟨t.val % 3 * 512 + l.val, by omega⟩

theorem places (R : Fin 2048) (C : Fin 1536) : ∃ (t : Fin cfg0.N) (r l : Fin 512), R = row t r ∧ C = col t l := by
  have hN : cfg0.N = 12 := N_0
  refine ⟨⟨R.val / 512 * 3 + C.val / 512, by omega⟩, ⟨R.val % 512, by omega⟩, ⟨C.val % 512, by omega⟩, Fin.ext ?_, Fin.ext ?_⟩
  · show R.val = (R.val / 512 * 3 + C.val / 512) / 3 * 512 + R.val % 512; omega
  · show C.val = (R.val / 512 * 3 + C.val / 512) % 3 * 512 + C.val % 512; omega

theorem block_x (t : Fin cfg0.N) (p : Fin 16) (l : Fin 512) : iblk m c 0 t (ix2 p l) = argX m c (ix2 p (row t l)) := by
  unfold iblk
  rw [View.read_apply]
  show m (c.tc.loc main_arg0) _ = m (c.tc.loc main_arg0) _
  congr 1
  funext a
  apply Fin.ext
  match a with
  | ⟨0, _⟩ => show win0_0.index t 0 * 16 + 1 * p.val = p.val; rw [(starts t).1.1]; omega
  | ⟨1, _⟩ => show win0_0.index t 1 * 512 + 1 * l.val = _; rw [(starts t).1.2]; show _ = t.val / 3 * 512 + l.val; omega

theorem block_y (t : Fin cfg0.N) (p : Fin 16) (l : Fin 512) : iblk m c 1 t (ix2 p l) = argY m c (ix2 p (col t l)) := by
  unfold iblk
  rw [View.read_apply]
  show m (c.tc.loc main_arg1) _ = m (c.tc.loc main_arg1) _
  congr 1
  funext a
  apply Fin.ext
  match a with
  | ⟨0, _⟩ => show win0_1.index t 0 * 16 + 1 * p.val = p.val; rw [(starts t).2.1.1]; omega
  | ⟨1, _⟩ => show win0_1.index t 1 * 512 + 1 * l.val = _; rw [(starts t).2.1.2]; show _ = t.val % 3 * 512 + l.val; omega

/-- the result array, entry by entry -/
theorem value (R : Fin 2048) (C : Fin 1536) :
    ((dats m 0 c).arrAt 2 cfg0.N : FVec Ideal S2048x1536 .f32) (ix2 R C) = ∑ p : Fin 16, argX m c (ix2 p R) * argY m c (ix2 p C) := by
  obtain ⟨t, r, l, rfl, rfl⟩ := places R C
  have hb := congrFun (blocks2 m c t (flush0_2 t)) (ix2 r l)
  rw [flushed2_A, stored, View.read_apply] at hb
  refine Eq.trans ?_ (hb.trans ((payload _ _ r l).trans ?_))
  · congr 1
    funext a
    apply Fin.ext
    match a with
    | ⟨0, _⟩ => show t.val / 3 * 512 + r.val = win0_2.index t 0 * 512 + 1 * r.val; rw [(starts t).2.2.1]; omega
    | ⟨1, _⟩ => show t.val % 3 * 512 + l.val = win0_2.index t 1 * 512 + 1 * l.val; rw [(starts t).2.2.2]; omega
  · exact Finset.sum_congr rfl fun p _ => by rw [block_x, block_y]

end Cert.KernelAdaWIdeal.Product

namespace Cert.AdaW

open Idealize.ShloMosaic Idealize.ShloMosaic.TcCoe Idealize.SL.Sem

/-- The reference leaves its arguments as they are, and has no semaphore. -/
theorem reference_frame : Cert.quiescent_ReferenceAdaWIdeal (hReferenceAdaWIdeal := Cert.ReferenceAdaWIdeal.Gen.facts) :=
  fun m ρ _ => (θ_run _ _ _).mono (fun r h => ⟨fun c => (h c).2, sem_eq_zero_of_no_sems (by decide) r.2⟩) (Cert.ReferenceAdaWIdeal.Value.run (F := Ideal) m ρ)

theorem algebraic : Cert.algebraic_KernelAdaWIdeal_ReferenceAdaWIdeal
    (hKernelAdaWIdeal := Cert.KernelAdaWIdeal.Gen.facts) (hReferenceAdaWIdeal := Cert.ReferenceAdaWIdeal.Gen.facts) := by
  intro m ρ m' ρ' _ hagree
  refine ⟨_, Cert.KernelAdaWIdeal.Value.run_blocks (F := Ideal) m ρ, ?_⟩
  refine (θ_run _ _ _).mono (fun _ h c => ⟨(h c).1.trans ?_, (h c).2⟩) (Cert.ReferenceAdaWIdeal.Value.run (F := Ideal) m' ρ')
  obtain ⟨e0, e1⟩ := hagree c
  rw [e0, e1]
  funext i
  obtain ⟨R, C, rfl⟩ : ∃ R C, i = ix2 R C := ⟨i 0, i 1, funext fun a => by fin_cases a <;> rfl⟩
  refine Eq.trans ?_ (Cert.KernelAdaWIdeal.Product.value m c R C).symm
  pointwise []
  exact Finset.sum_congr rfl fun p _ => mul_comm _ _

end Cert.AdaW
-- ==== Proof.Adam.lean ====
/-
  The update of the condition's weight: every entry of the four results is a function of the same entry of the arguments.
-/
module

public import proofs.«01_k».proof.Defs
public import proofs.«01_k».proof.Proof.Blocked
public import proofs.«01_k».proof.Proof.Gen.KernelAdamIdeal.Value
public import proofs.«01_k».proof.Proof.Gen.ReferenceAdamIdeal.Run

@[expose] public section

set_option maxRecDepth 65536

noncomputable section

namespace Cert.KernelAdamIdeal.Rows

open Idealize.ShloMosaic Idealize.ShloMosaic.TcCoe Idealize.SL.Sem Cert.KernelAdamIdeal Cert.KernelAdamIdeal.Gen Cert.KernelAdamIdeal.Value Cert.Blocked

variable (m : (ℓ : Loc nD τ sig) → Buf (Elt Ideal) ℓ) (c : Dev nD)

abbrev argW : FVec Ideal S2048x1536 .f32 := m (c.tc.loc main_arg0)
abbrev argM : FVec Ideal S2048x1536 .f32 := m (c.tc.loc main_arg1)
abbrev argV : FVec Ideal S2048x1536 .f32 := m (c.tc.loc main_arg2)
abbrev argG : FVec Ideal S1x2048x1536 .f32 := m (c.tc.loc main_arg3)

/-! ## The blocks a point loads -/

/-- which blocks point `t` loads and writes -/
theorem starts : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = t.val ∧ win0_3.index t 2 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = t.val ∧ win0_3.index t 2 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0))

/-- row `r` of block `t` -/
def row (t : Fin cfg0.N) (r : Fin 128) : Fin 2048 := ⟨t.val * 128 + r.val, by have := t.isLt; have : cfg0.N = 16 := N_0; omega⟩

theorem rows (R : Fin 2048) : ∃ (t : Fin cfg0.N) (r : Fin 128), R = row t r := by
  have hN : cfg0.N = 16 := N_0
  exact ⟨⟨R.val / 128, by omega⟩, ⟨R.val % 128, by omega⟩, Fin.ext (by show R.val = R.val / 128 * 128 + R.val % 128; omega)⟩

theorem block_w (t : Fin cfg0.N) (r : Fin 128) (l : Fin 1536) : iblk m c 0 t (ix2 r l) = argW m c (ix2 (row t r) l) := by
  unfold iblk
  rw [View.read_apply]
  show m (c.tc.loc main_arg0) _ = m (c.tc.loc main_arg0) _
  congr 1
  funext a
  apply Fin.ext
  match a with
  | ⟨0, _⟩ => show win0_0.index t 0 * 128 + 1 * r.val = t.val * 128 + r.val; rw [(starts t).1.1]; omega
  | ⟨1, _⟩ => show win0_0.index t 1 * 1536 + 1 * l.val = l.val; rw [(starts t).1.2]; omega

theorem block_m (t : Fin cfg0.N) (r : Fin 128) (l : Fin 1536) : iblk m c 1 t (ix2 r l) = argM m c (ix2 (row t r) l) := by
  unfold iblk
  rw [View.read_apply]
  show m (c.tc.loc main_arg1) _ = m (c.tc.loc main_arg1) _
  congr 1
  funext a
  apply Fin.ext
  match a with
  | ⟨0, _⟩ => show win0_1.index t 0 * 128 + 1 * r.val = t.val * 128 + r.val; rw [(starts t).2.1.1]; omega
  | ⟨1, _⟩ => show win0_1.index t 1 * 1536 + 1 * l.val = l.val; rw [(starts t).2.1.2]; omega

theorem block_v (t : Fin cfg0.N) (r : Fin 128) (l : Fin 1536) : iblk m c 2 t (ix2 r l) = argV m c (ix2 (row t r) l) := by
  unfold iblk
  rw [View.read_apply]
  show m (c.tc.loc main_arg2) _ = m (c.tc.loc main_arg2) _
  congr 1
  funext a
  apply Fin.ext
  match a with
  | ⟨0, _⟩ => show win0_2.index t 0 * 128 + 1 * r.val = t.val * 128 + r.val; rw [(starts t).2.2.1.1]; omega
  | ⟨1, _⟩ => show win0_2.index t 1 * 1536 + 1 * l.val = l.val; rw [(starts t).2.2.1.2]; omega

/-- the gradient's block, under its leading axis of one -/
theorem block_g (t : Fin cfg0.N) (r : Fin 128) (l : Fin 1536) : iblk m c 3 t (ix3 0 r l) = argG m c (ix3 0 (row t r) l) := by
  unfold iblk
  rw [View.read_apply]
  show m (c.tc.loc main_arg3) _ = m (c.tc.loc main_arg3) _
  congr 1
  funext a
  apply Fin.ext
  match a with
  | ⟨0, _⟩ => show win0_3.index t 0 * 1 + 1 * 0 = 0; rw [(starts t).2.2.2.1.1]
  | ⟨1, _⟩ => show win0_3.index t 1 * 128 + 1 * r.val = t.val * 128 + r.val; rw [(starts t).2.2.2.1.2.1]; omega
  | ⟨2, _⟩ => show win0_3.index t 2 * 1536 + 1 * l.val = l.val; rw [(starts t).2.2.2.1.2.2]; omega

/-! ## The results, entry by entry -/

theorem grad_at (t : Fin cfg0.N) (r : Fin 128) (l : Fin 1536) :
    (dats m 0 c).arrAt 4 cfg0.N (ix2 (row t r) l) = k0_pay1 (F := Ideal) (iblk m c 3 t) (ix2 r l) := by
  have hb := congrFun (blocks4 m c t (flush0_4 t)) (ix2 r l)
  rw [flushed4, View.read_apply] at hb
  unfold out0_4 at hb
  rw [View.canon_unit_zero zeros2] at hb
  simp only [View.ld_unit_zero (S := S128x1536) zeros2, View.ld_unit_zero (S := S1x128x1536) zeros3] at hb
  refine Eq.trans ?_ hb
  congr 1
  funext a
  apply Fin.ext
  match a with
  | ⟨0, _⟩ => show t.val * 128 + r.val = win0_4.index t 0 * 128 + 1 * r.val; rw [(starts t).2.2.2.2.1.1]; omega
  | ⟨1, _⟩ => show l.val = win0_4.index t 1 * 1536 + 1 * l.val; rw [(starts t).2.2.2.2.1.2]; omega

theorem delta_at (t : Fin cfg0.N) (r : Fin 128) (l : Fin 1536) :
    (dats m 0 c).arrAt 5 cfg0.N (ix2 (row t r) l) = k0_pay4 (F := Ideal) (iblk m c 3 t) (iblk m c 1 t) (iblk m c 2 t) (iblk m c 0 t) (ix2 r l) := by
  have hb := congrFun (blocks5 m c t (flush0_5 t)) (ix2 r l)
  rw [flushed5, View.read_apply] at hb
  unfold out0_5 at hb
  rw [View.canon_unit_zero zeros2] at hb
  simp only [View.ld_unit_zero (S := S128x1536) zeros2, View.ld_unit_zero (S := S1x128x1536) zeros3] at hb
  refine Eq.trans ?_ hb
  congr 1
  funext a
  apply Fin.ext
  match a with
  | ⟨0, _⟩ => show t.val * 128 + r.val = win0_5.index t 0 * 128 + 1 * r.val; rw [(starts t).2.2.2.2.2.1.1]; omega
  | ⟨1, _⟩ => show l.val = win0_5.index t 1 * 1536 + 1 * l.val; rw [(starts t).2.2.2.2.2.1.2]; omega

theorem first_at (t : Fin cfg0.N) (r : Fin 128) (l : Fin 1536) :
    (dats m 0 c).arrAt 6 cfg0.N (ix2 (row t r) l) = k0_pay2 (F := Ideal) (iblk m c 3 t) (iblk m c 1 t) (ix2 r l) := by
  have hb := congrFun (blocks6 m c t (flush0_6 t)) (ix2 r l)
  rw [flushed6, View.read_apply] at hb
  unfold out0_6 at hb
  rw [View.canon_unit_zero zeros2] at hb
  simp only [View.ld_unit_zero (S := S128x1536) zeros2, View.ld_unit_zero (S := S1x128x1536) zeros3] at hb
  refine Eq.trans ?_ hb
  congr 1
  funext a
  apply Fin.ext
  match a with
  | ⟨0, _⟩ => show t.val * 128 + r.val = win0_6.index t 0 * 128 + 1 * r.val; rw [(starts t).2.2.2.2.2.2.1.1]; omega
  | ⟨1, _⟩ => show l.val = win0_6.index t 1 * 1536 + 1 * l.val; rw [(starts t).2.2.2.2.2.2.1.2]; omega

theorem second_at (t : Fin cfg0.N) (r : Fin 128) (l : Fin 1536) :
    (dats m 0 c).arrAt 7 cfg0.N (ix2 (row t r) l) = k0_pay3 (F := Ideal) (iblk m c 3 t) (iblk m c 2 t) (ix2 r l) := by
  have hb := congrFun (blocks7 m c t (flush0_7 t)) (ix2 r l)
  rw [flushed7, View.read_apply] at hb
  unfold out0_7 at hb
  rw [View.canon_unit_zero zeros2] at hb
  simp only [View.ld_unit_zero (S := S128x1536) zeros2, View.ld_unit_zero (S := S1x128x1536) zeros3] at hb
  refine Eq.trans ?_ hb
  congr 1
  funext a
  apply Fin.ext
  match a with
  | ⟨0, _⟩ => show t.val * 128 + r.val = win0_7.index t 0 * 128 + 1 * r.val; rw [(starts t).2.2.2.2.2.2.2.1]; omega
  | ⟨1, _⟩ => show l.val = win0_7.index t 1 * 1536 + 1 * l.val; rw [(starts t).2.2.2.2.2.2.2.2]; omega

end Cert.KernelAdamIdeal.Rows

namespace Cert.Adam

open Idealize.ShloMosaic Idealize.ShloMosaic.TcCoe Idealize.SL.Sem

/-- The reference leaves its arguments as they are, and has no semaphore. -/
theorem reference_frame : Cert.quiescent_ReferenceAdamIdeal (hReferenceAdamIdeal := Cert.ReferenceAdamIdeal.Gen.facts) :=
  fun m ρ _ => (θ_run _ _ _).mono (fun r h => ⟨fun c => (h c).2.2.2.2, sem_eq_zero_of_no_sems (by decide) r.2⟩) (Cert.ReferenceAdamIdeal.Value.run (F := Ideal) m ρ)

theorem algebraic : Cert.algebraic_KernelAdamIdeal_ReferenceAdamIdeal
    (hKernelAdamIdeal := Cert.KernelAdamIdeal.Gen.facts) (hReferenceAdamIdeal := Cert.ReferenceAdamIdeal.Gen.facts) := by
  intro m ρ m' ρ' _ hagree
  refine ⟨_, _, _, _, Cert.KernelAdamIdeal.Value.run_blocks (F := Ideal) m ρ, ?_⟩
  refine (θ_run _ _ _).mono (fun _ h c => ⟨(h c).1.trans ?_, (h c).2.1.trans ?_, (h c).2.2.1.trans ?_, (h c).2.2.2.1.trans ?_, (h c).2.2.2.2⟩) (Cert.ReferenceAdamIdeal.Value.run (F := Ideal) m' ρ')
  all_goals
    obtain ⟨e0, e1, e2, e3⟩ := hagree c
    first | rw [e0, e1, e2, e3] | rw [e1, e2, e3] | rw [e1, e3] | rw [e2, e3] | rw [e3]
    clear e0 e1 e2 e3
    funext i
    obtain ⟨R, l, rfl⟩ : ∃ R l, i = ix2 R l := ⟨i 0, i 1, funext fun a => by fin_cases a <;> rfl⟩
    obtain ⟨t, r, rfl⟩ := Cert.KernelAdamIdeal.Rows.rows R
  · rw [Cert.KernelAdamIdeal.Rows.grad_at]
    pointwise [Cert.KernelAdamIdeal.Gen.k0_pay1]
    rw [Cert.KernelAdamIdeal.Rows.block_g]
    simp only [Fin.sum_univ_one]
  · rw [Cert.KernelAdamIdeal.Rows.delta_at]
    pointwise [Cert.KernelAdamIdeal.Gen.k0_pay1, Cert.KernelAdamIdeal.Gen.k0_pay2, Cert.KernelAdamIdeal.Gen.k0_pay3, Cert.KernelAdamIdeal.Gen.k0_pay4]
    rw [Cert.KernelAdamIdeal.Rows.block_g, Cert.KernelAdamIdeal.Rows.block_m, Cert.KernelAdamIdeal.Rows.block_v, Cert.KernelAdamIdeal.Rows.block_w]
    simp only [Fin.sum_univ_one]
  · rw [Cert.KernelAdamIdeal.Rows.first_at]
    pointwise [Cert.KernelAdamIdeal.Gen.k0_pay1, Cert.KernelAdamIdeal.Gen.k0_pay2]
    rw [Cert.KernelAdamIdeal.Rows.block_g, Cert.KernelAdamIdeal.Rows.block_m]
    simp only [Fin.sum_univ_one]
  · rw [Cert.KernelAdamIdeal.Rows.second_at]
    pointwise [Cert.KernelAdamIdeal.Gen.k0_pay1, Cert.KernelAdamIdeal.Gen.k0_pay3]
    rw [Cert.KernelAdamIdeal.Rows.block_g, Cert.KernelAdamIdeal.Rows.block_v]
    simp only [Fin.sum_univ_one]

end Cert.Adam
-- ==== Proof.AdamRep.lean ====
/-
  The update of the replicated weights, packed as one array: every entry of the four results is a function of the same
  entry of the arguments, the gradient being the sum of the eight devices' gradients.
-/
module

public import proofs.«01_k».proof.Defs
public import proofs.«01_k».proof.Proof.Blocked
public import proofs.«01_k».proof.Proof.Gen.KernelAdamRepIdeal.Value
public import proofs.«01_k».proof.Proof.Gen.ReferenceAdamRepIdeal.Run

@[expose] public section

set_option maxRecDepth 65536

noncomputable section

namespace Cert.KernelAdamRepIdeal.Rows

open Idealize.ShloMosaic Idealize.ShloMosaic.TcCoe Idealize.SL.Sem Cert.KernelAdamRepIdeal Cert.KernelAdamRepIdeal.Gen Cert.KernelAdamRepIdeal.Value Cert.Blocked

/-- The load of slice `k` of a stack of eight reads that slice. -/
theorem slot (x : FVec Ideal S8x144x128 .f32) (k : ℕ) (inb : ∀ a, (![k, 0, 0] : Fin 3 → ℕ) a + S1x144x128.size a ≤ S8x144x128.size a)
    (R : Fin 144) (l : Fin 128) :
    View.ld (Val := Elt Ideal) (e' := .f32) x (Rect.unit (s := S8x144x128) ![k, 0, 0] S1x144x128.size inb) (ix3 0 R l)
      = x (ix3 ⟨k, by have h : k + 1 ≤ 8 := inb 0; omega⟩ R l) := by
  refine congrArg x (funext fun a => Fin.ext ?_)
  match a with
  | ⟨0, _⟩ => show k + 1 * 0 = k; omega
  | ⟨1, _⟩ => show 0 + 1 * R.val = R.val; omega
  | ⟨2, _⟩ => show 0 + 1 * l.val = l.val; omega

/-- the sum of the eight gradients -/
theorem gradient (w a b : FVec Ideal S144x128 .f32) (x : FVec Ideal S8x144x128 .f32) (R : Fin 144) (l : Fin 128) :
    k0_pay5 (F := Ideal) w a b x (ix2 R l) = ∑ k : Fin 8, x (ix3 k R l) := by
  unfold k0_pay5
  pointwise [k0_pay3]
  simp only [r0_0, r0_1, r0_2, r0_3, r0_4, r0_5, r0_6, r0_7, slot, Fin.sum_univ_eight]

/-- the first moment -/
theorem moment (w a b : FVec Ideal S144x128 .f32) (x : FVec Ideal S8x144x128 .f32) :
    k0_pay6 (F := Ideal) w a b x = addf (mulf (broadcast S144x128 (Scalar.ofBits .f32 0x3F666666#32)) a)
      (mulf (broadcast S144x128 (Scalar.ofBits .f32 0x3DCCCCCD#32)) (k0_pay5 (F := Ideal) w a b x)) := by
  unfold k0_pay6 k0_pay4 k0_pay5
  rw [View.ld_unit_zero (S := S144x128) zeros2]

end Cert.KernelAdamRepIdeal.Rows

namespace Cert.AdamRep

open Idealize.ShloMosaic Idealize.ShloMosaic.TcCoe Idealize.SL.Sem

/-- The reference leaves its arguments as they are, and has no semaphore. -/
theorem reference_frame : Cert.quiescent_ReferenceAdamRepIdeal (hReferenceAdamRepIdeal := Cert.ReferenceAdamRepIdeal.Gen.facts) :=
  fun m ρ _ => (θ_run _ _ _).mono (fun r h => ⟨fun c => (h c).2.2.2.2, sem_eq_zero_of_no_sems (by decide) r.2⟩) (Cert.ReferenceAdamRepIdeal.Value.run (F := Ideal) m ρ)

theorem algebraic : Cert.algebraic_KernelAdamRepIdeal_ReferenceAdamRepIdeal
    (hKernelAdamRepIdeal := Cert.KernelAdamRepIdeal.Gen.facts) (hReferenceAdamRepIdeal := Cert.ReferenceAdamRepIdeal.Gen.facts) := by
  intro m ρ m' ρ' _ hagree
  refine ⟨_, _, _, _, Cert.KernelAdamRepIdeal.Value.run (F := Ideal) m ρ, ?_⟩
  refine (θ_run _ _ _).mono (fun _ h c => ⟨(h c).1.trans ?_, (h c).2.1.trans ?_, (h c).2.2.1.trans ?_, (h c).2.2.2.1.trans ?_, (h c).2.2.2.2⟩) (Cert.ReferenceAdamRepIdeal.Value.run (F := Ideal) m' ρ')
  all_goals
    obtain ⟨e0, e1, e2, e3⟩ := hagree c
    first | rw [e0, e1, e2, e3] | rw [e1, e2, e3] | rw [e1, e3] | rw [e2, e3] | rw [e3]
    clear e0 e1 e2 e3
    funext i
    obtain ⟨R, l, rfl⟩ : ∃ R l, i = ix2 R l := ⟨i 0, i 1, funext fun a => by fin_cases a <;> rfl⟩
  · unfold Cert.KernelAdamRepIdeal.Value.G4
    pointwise []
    rw [Cert.KernelAdamRepIdeal.Rows.gradient]
  · unfold Cert.KernelAdamRepIdeal.Value.G5
    rw [Cert.KernelAdamRepIdeal.Rows.moment]
    pointwise [Cert.KernelAdamRepIdeal.Gen.k0_pay1, Cert.KernelAdamRepIdeal.Gen.k0_pay2]
    rw [Cert.KernelAdamRepIdeal.Rows.gradient]
  · unfold Cert.KernelAdamRepIdeal.Value.G6
    rw [Cert.KernelAdamRepIdeal.Rows.moment]
    pointwise []
    rw [Cert.KernelAdamRepIdeal.Rows.gradient]
  · unfold Cert.KernelAdamRepIdeal.Value.G7
    pointwise [Cert.KernelAdamRepIdeal.Gen.k0_pay1]
    rw [Cert.KernelAdamRepIdeal.Rows.gradient]

end Cert.AdamRep
-- ==== Proof.HalvesIn.lean ====
/-
  The update of the sharded input weight from its two halves of the gradient: every entry of the four results is a function of the same
  entry of the arguments, the gradient's being the entry of this device's half or of the other's, by the device's place.
-/
module

public import proofs.«01_k».proof.Defs
public import proofs.«01_k».proof.Proof.Blocked
public import proofs.«01_k».proof.Proof.Gen.KernelHalvesInIdeal.Frame
public import proofs.«01_k».proof.Proof.Gen.ReferenceHalvesInIdeal.Run
public import Idealize.ShloMosaic.Lib.Pipeline.Value

@[expose] public section

set_option maxRecDepth 65536

noncomputable section

namespace Cert.KernelHalvesInIdeal.Rows

open Idealize.ShloMosaic Idealize.ShloMosaic.TcCoe Idealize.SL.Sem Cert.KernelHalvesInIdeal Cert.KernelHalvesInIdeal.Gen Cert.Blocked

variable (m : (ℓ : Loc nD τ sig) → Buf (Elt Ideal) ℓ) (ρ : Dev nD → PrngReg) (c : Dev nD)

abbrev argW : FVec Ideal S2048x3392 .f32 := m (c.tc.loc main_arg0)
abbrev argM : FVec Ideal S2048x3392 .f32 := m (c.tc.loc main_arg1)
abbrev argV : FVec Ideal S2048x3392 .f32 := m (c.tc.loc main_arg2)
abbrev mine : FVec Ideal S1024x3392 .f32 := m (c.tc.loc main_arg3)
abbrev theirs : FVec Ideal S1024x3392 .f32 := m (c.tc.loc main_arg4)
/-- which half this device's is -/
abbrev place : BitVec 32 := (m (c.tc.loc main_arg5) : IVec S1 32) (ix1 0)

/-- the index maps read no table, so any contents of it are admissible -/
abbrev hO : Ok m := trivial

abbrev grid : Nat := (cfgM m (hO m)).N
theorem grid_eq : grid m = 32 := by show grid0.N = 32; decide +kernel

/-! ## One point of the grid -/

/-- the word a point's body reads of the table -/
abbrev word {c : Dev nD} (p : TbBuf0 (F := Ideal) c tbM0_0) : BitVec 32 :=
  View.ld (View.read (Elt Ideal) (View.whole main_arg5) p) (Rect.unit ![0] ![1] inb_S1_S1_0) (Shape.Idx.first (numel1_S1.symm ▸ Nat.one_pos))

theorem word_eq {c : Dev nD} (p : TbBuf0 (F := Ideal) c tbM0_0) : word p = (p : IVec S1 32) (ix1 0) := by
  show (p : IVec S1 32) _ = _
  congr 1
  funext a
  match a with
  | ⟨0, _⟩ => exact Subsingleton.elim (α := Fin 1) _ _

/-- what a point's body leaves in the four output blocks, from the blocks it loads and the table's word -/
theorem stored (i : grid0.Coords)
    (a3 : Memref sig .tc .vmem S64x3392 .f32) (h3 : a3.IsWhole)
    (a4 : Memref sig .tc .vmem S64x3392 .f32) (h4 : a4.IsWhole)
    (a5 : Memref sig .tc .vmem S64x3392 .f32) (h5 : a5.IsWhole)
    (a6 : Memref sig .tc .vmem S64x3392 .f32) (h6 : a6.IsWhole)
    (a7 : Memref sig .tc .vmem S64x3392 .f32) (h7 : a7.IsWhole)
    (a8 : Memref sig .tc .vmem S64x3392 .f32) (h8 : a8.IsWhole)
    (a9 : Memref sig .tc .vmem S64x3392 .f32) (h9 : a9.IsWhole)
    (a10 : Memref sig .tc .vmem S64x3392 .f32) (h10 : a10.IsWhole)
    (a11 : Memref sig .tc .vmem S64x3392 .f32) (h11 : a11.IsWhole)
    (w m1 v g g' : FVec Ideal S64x3392 .f32) (p : TbBuf0 (F := Ideal) c tbM0_0) :
    out0_A_5 (F := Ideal) c i a3 h3 a4 h4 a5 h5 a6 h6 a7 h7 a8 h8 a9 h9 a10 h10 a11 h11 w m1 v g g' p = k0_pay1 (F := Ideal) i (word p) g g'
    ∧ out0_A_6 (F := Ideal) c i a3 h3 a4 h4 a5 h5 a6 h6 a7 h7 a8 h8 a9 h9 a10 h10 a11 h11 w m1 v g g' p = k0_pay4 (F := Ideal) i (word p) g g' m1 v w
    ∧ out0_A_7 (F := Ideal) c i a3 h3 a4 h4 a5 h5 a6 h6 a7 h7 a8 h8 a9 h9 a10 h10 a11 h11 w m1 v g g' p = k0_pay2 (F := Ideal) i (word p) g g' m1
    ∧ out0_A_8 (F := Ideal) c i a3 h3 a4 h4 a5 h5 a6 h6 a7 h7 a8 h8 a9 h9 a10 h10 a11 h11 w m1 v g g' p = k0_pay3 (F := Ideal) i (word p) g g' v := by
  refine ⟨?_, ?_, ?_, ?_⟩
  on_goal 1 => unfold out0_A_5; rw [View.read_writes_eq_canon _ _ _ (cover0_A_5 (F := Ideal) c i a3 h3 a4 h4 a5 h5 a6 h6 a7 h7 a8 h8 a9 h9 a10 h10 a11 h11 w m1 v g g' p)]
  on_goal 2 => unfold out0_A_6; rw [View.read_writes_eq_canon _ _ _ (cover0_A_6 (F := Ideal) c i a3 h3 a4 h4 a5 h5 a6 h6 a7 h7 a8 h8 a9 h9 a10 h10 a11 h11 w m1 v g g' p)]
  on_goal 3 => unfold out0_A_7; rw [View.read_writes_eq_canon _ _ _ (cover0_A_7 (F := Ideal) c i a3 h3 a4 h4 a5 h5 a6 h6 a7 h7 a8 h8 a9 h9 a10 h10 a11 h11 w m1 v g g' p)]
  on_goal 4 => unfold out0_A_8; rw [View.read_writes_eq_canon _ _ _ (cover0_A_8 (F := Ideal) c i a3 h3 a4 h4 a5 h5 a6 h6 a7 h7 a8 h8 a9 h9 a10 h10 a11 h11 w m1 v g g' p)]
  all_goals
    unfold kernelRun0_A
    dsimp only
    sl_unfold_words
    rw [View.canon_unit_zero zeros2]
    simp only [View.readAt_eq_ld, h3.read_unread, h4.read_unread, h5.read_unread, h6.read_unread, h7.read_unread, View.ld_unit_zero (S := S64x3392) zeros2]

/-- the table is the argument that holds the device's place -/
theorem table : word (c := c) (tbl m 0) = place m c := by
  refine (word_eq (c := c) (tbl m 0)).trans ?_
  obtain rfl : c = 0 := Subsingleton.elim _ _
  rfl

/-! ## The grid -/

/-- the block, of the whole arrays, that a point loads and writes; and of the halves -/
theorem starts : ∀ t : Fin grid0.N, (((cc0_transform_0 (grid0.coords t) 0 = t.val ∧ cc0_transform_0 (grid0.coords t) 1 = 0)
    ∧ (cc0_transform_1 (grid0.coords t) 0 = t.val ∧ cc0_transform_1 (grid0.coords t) 1 = 0)
    ∧ (cc0_transform_2 (grid0.coords t) 0 = t.val ∧ cc0_transform_2 (grid0.coords t) 1 = 0))
    ∧ (cc0_transform_3 (grid0.coords t) 0 = t.val % 16 ∧ cc0_transform_3 (grid0.coords t) 1 = 0)
    ∧ (cc0_transform_4 (grid0.coords t) 0 = t.val % 16 ∧ cc0_transform_4 (grid0.coords t) 1 = 0))
    ∧ (cc0_transform_5 (grid0.coords t) 0 = t.val ∧ cc0_transform_5 (grid0.coords t) 1 = 0)
    ∧ (cc0_transform_6 (grid0.coords t) 0 = t.val ∧ cc0_transform_6 (grid0.coords t) 1 = 0)
    ∧ (cc0_transform_7 (grid0.coords t) 0 = t.val ∧ cc0_transform_7 (grid0.coords t) 1 = 0)
    ∧ (cc0_transform_8 (grid0.coords t) 0 = t.val ∧ cc0_transform_8 (grid0.coords t) 1 = 0) := by decide +kernel

/-- the half a point is in -/
theorem half_of : ∀ t : Fin grid0.N, (grid0.coords t 0).val = t.val / 16 := by decide +kernel

/-- row `r` of block `t`, in the whole arrays and in a half -/
def row (t : Fin (grid m)) (r : Fin 64) : Fin 2048 := ⟨t.val * 64 + r.val, by have := t.isLt; have := grid_eq m; omega⟩
def rowH (t : Fin (grid m)) (r : Fin 64) : Fin 1024 := ⟨t.val % 16 * 64 + r.val, by omega⟩

theorem rows (R : Fin 2048) : ∃ (t : Fin (grid m)) (r : Fin 64), R = row m t r := by
  have hN := grid_eq m
  exact ⟨⟨R.val / 64, by omega⟩, ⟨R.val % 64, by omega⟩, Fin.ext (by show R.val = R.val / 64 * 64 + R.val % 64; omega)⟩

theorem block_w (t : Fin (grid m)) (r : Fin 64) (l : Fin 3392) : iblk m (hO m) c 0 t (ix2 r l) = argW m c (ix2 (row m t r) l) := by
  unfold iblk
  refine (View.read_apply _ _).trans ?_
  show m (c.tc.loc main_arg0) _ = m (c.tc.loc main_arg0) _
  congr 1
  funext a
  apply Fin.ext
  match a with
  | ⟨0, _⟩ => show cc0_transform_0 (grid0.coords t) 0 * 64 + 1 * r.val = t.val * 64 + r.val; rw [(starts t).1.1.1.1]; omega
  | ⟨1, _⟩ => show cc0_transform_0 (grid0.coords t) 1 * 3392 + 1 * l.val = l.val; rw [(starts t).1.1.1.2]; omega

theorem block_m (t : Fin (grid m)) (r : Fin 64) (l : Fin 3392) : iblk m (hO m) c 1 t (ix2 r l) = argM m c (ix2 (row m t r) l) := by
  unfold iblk
  refine (View.read_apply _ _).trans ?_
  show m (c.tc.loc main_arg1) _ = m (c.tc.loc main_arg1) _
  congr 1
  funext a
  apply Fin.ext
  match a with
  | ⟨0, _⟩ => show cc0_transform_1 (grid0.coords t) 0 * 64 + 1 * r.val = t.val * 64 + r.val; rw [(starts t).1.1.2.1.1]; omega
  | ⟨1, _⟩ => show cc0_transform_1 (grid0.coords t) 1 * 3392 + 1 * l.val = l.val; rw [(starts t).1.1.2.1.2]; omega

theorem block_v (t : Fin (grid m)) (r : Fin 64) (l : Fin 3392) : iblk m (hO m) c 2 t (ix2 r l) = argV m c (ix2 (row m t r) l) := by
  unfold iblk
  refine (View.read_apply _ _).trans ?_
  show m (c.tc.loc main_arg2) _ = m (c.tc.loc main_arg2) _
  congr 1
  funext a
  apply Fin.ext
  match a with
  | ⟨0, _⟩ => show cc0_transform_2 (grid0.coords t) 0 * 64 + 1 * r.val = t.val * 64 + r.val; rw [(starts t).1.1.2.2.1]; omega
  | ⟨1, _⟩ => show cc0_transform_2 (grid0.coords t) 1 * 3392 + 1 * l.val = l.val; rw [(starts t).1.1.2.2.2]; omega

theorem block_mine (t : Fin (grid m)) (r : Fin 64) (l : Fin 3392) : iblk m (hO m) c 3 t (ix2 r l) = mine m c (ix2 (rowH m t r) l) := by
  unfold iblk
  refine (View.read_apply _ _).trans ?_
  show m (c.tc.loc main_arg3) _ = m (c.tc.loc main_arg3) _
  congr 1
  funext a
  apply Fin.ext
  match a with
  | ⟨0, _⟩ => show cc0_transform_3 (grid0.coords t) 0 * 64 + 1 * r.val = t.val % 16 * 64 + r.val; rw [(starts t).1.2.1.1]; omega
  | ⟨1, _⟩ => show cc0_transform_3 (grid0.coords t) 1 * 3392 + 1 * l.val = l.val; rw [(starts t).1.2.1.2]; omega

theorem block_theirs (t : Fin (grid m)) (r : Fin 64) (l : Fin 3392) : iblk m (hO m) c 4 t (ix2 r l) = theirs m c (ix2 (rowH m t r) l) := by
  unfold iblk
  refine (View.read_apply _ _).trans ?_
  show m (c.tc.loc main_arg4) _ = m (c.tc.loc main_arg4) _
  congr 1
  funext a
  apply Fin.ext
  match a with
  | ⟨0, _⟩ => show cc0_transform_4 (grid0.coords t) 0 * 64 + 1 * r.val = t.val % 16 * 64 + r.val; rw [(starts t).1.2.2.1]; omega
  | ⟨1, _⟩ => show cc0_transform_4 (grid0.coords t) 1 * 3392 + 1 * l.val = l.val; rw [(starts t).1.2.2.2]; omega

/-! ## The results, entry by entry -/

/-- `stored` at point `t`: its blocks, and the device's place -/
theorem left_at (t : Fin (grid m)) :
    (outsAt0 m (hO m) c t).1 = k0_pay1 (F := Ideal) (grid0.coords t) (place m c) (iblk m (hO m) c 3 t) (iblk m (hO m) c 4 t)
    ∧ (outsAt0 m (hO m) c t).2.1 = k0_pay4 (F := Ideal) (grid0.coords t) (place m c) (iblk m (hO m) c 3 t) (iblk m (hO m) c 4 t) (iblk m (hO m) c 1 t) (iblk m (hO m) c 2 t) (iblk m (hO m) c 0 t)
    ∧ (outsAt0 m (hO m) c t).2.2.1 = k0_pay2 (F := Ideal) (grid0.coords t) (place m c) (iblk m (hO m) c 3 t) (iblk m (hO m) c 4 t) (iblk m (hO m) c 1 t)
    ∧ (outsAt0 m (hO m) c t).2.2.2 = k0_pay3 (F := Ideal) (grid0.coords t) (place m c) (iblk m (hO m) c 3 t) (iblk m (hO m) c 4 t) (iblk m (hO m) c 2 t) := by
  unfold outsAt0
  dsimp only
  rw [← table m c]
  exact stored c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (iblk m (hO m) c 0 t) (iblk m (hO m) c 1 t) (iblk m (hO m) c 2 t) (iblk m (hO m) c 3 t) (iblk m (hO m) c 4 t) (tbl m 0)

set_option maxHeartbeats 4000000 in
theorem grad_at (t : Fin (grid m)) (r : Fin 64) (l : Fin 3392) :
    (dats m (hO m) 0 c).arrAt 5 (grid m) (ix2 (row m t r) l) = k0_pay1 (F := Ideal) (grid0.coords t) (place m c) (iblk m (hO m) c 3 t) (iblk m (hO m) c 4 t) (ix2 r l) := by
  have hinj : ∀ s s' : Fin grid0.N, cc0_transform_5 (grid0.coords s) = cc0_transform_5 (grid0.coords s') → s = s' :=
    fun s s' h => Fin.ext (by have := congrFun h 0; rwa [(starts s).2.1.1, (starts s').2.1.1] at this)
  have hb := congrFun ((dats m (hO m) 0 c).read_blk_arrAt_eq_flushed 5
    (fun s s' _ _ hne => ((cfgM m (hO m)).win 5).disjoint_blk fun h => hne (hinj s s' h)) (grid m) t t.isLt (flush0_5 _ t)) (ix2 r l)
  have hf : (dats m (hO m) 0 c).flushed 5 t = ((cfgM m (hO m)).win 5).cut (grid0.coords t) (k0_pay1 (F := Ideal) (grid0.coords t) (place m c) (iblk m (hO m) c 3 t) (iblk m (hO m) c 4 t)) := by
    show ((cfgM m (hO m)).win 5).cut (grid0.coords t) ((dats m (hO m) 0 c).after 5 t) = _
    rw [after0_5, (left_at m c t).1]
  refine (Eq.trans ?_ (View.read_apply _ _).symm).trans (hb.trans (congrFun hf _))
  congr 1
  funext a
  apply Fin.ext
  match a with
  | ⟨0, _⟩ => show t.val * 64 + r.val = cc0_transform_5 (grid0.coords t) 0 * 64 + 1 * r.val; rw [(starts t).2.1.1]; omega
  | ⟨1, _⟩ => show l.val = cc0_transform_5 (grid0.coords t) 1 * 3392 + 1 * l.val; rw [(starts t).2.1.2]; omega

set_option maxHeartbeats 4000000 in
theorem delta_at (t : Fin (grid m)) (r : Fin 64) (l : Fin 3392) :
    (dats m (hO m) 0 c).arrAt 6 (grid m) (ix2 (row m t r) l) = k0_pay4 (F := Ideal) (grid0.coords t) (place m c) (iblk m (hO m) c 3 t) (iblk m (hO m) c 4 t) (iblk m (hO m) c 1 t) (iblk m (hO m) c 2 t) (iblk m (hO m) c 0 t) (ix2 r l) := by
  have hinj : ∀ s s' : Fin grid0.N, cc0_transform_6 (grid0.coords s) = cc0_transform_6 (grid0.coords s') → s = s' :=
    fun s s' h => Fin.ext (by have := congrFun h 0; rwa [(starts s).2.2.1.1, (starts s').2.2.1.1] at this)
  have hb := congrFun ((dats m (hO m) 0 c).read_blk_arrAt_eq_flushed 6
    (fun s s' _ _ hne => ((cfgM m (hO m)).win 6).disjoint_blk fun h => hne (hinj s s' h)) (grid m) t t.isLt (flush0_6 _ t)) (ix2 r l)
  have hf : (dats m (hO m) 0 c).flushed 6 t = ((cfgM m (hO m)).win 6).cut (grid0.coords t) (k0_pay4 (F := Ideal) (grid0.coords t) (place m c) (iblk m (hO m) c 3 t) (iblk m (hO m) c 4 t) (iblk m (hO m) c 1 t) (iblk m (hO m) c 2 t) (iblk m (hO m) c 0 t)) := by
    show ((cfgM m (hO m)).win 6).cut (grid0.coords t) ((dats m (hO m) 0 c).after 6 t) = _
    rw [after0_6, (left_at m c t).2.1]
  refine (Eq.trans ?_ (View.read_apply _ _).symm).trans (hb.trans (congrFun hf _))
  congr 1
  funext a
  apply Fin.ext
  match a with
  | ⟨0, _⟩ => show t.val * 64 + r.val = cc0_transform_6 (grid0.coords t) 0 * 64 + 1 * r.val; rw [(starts t).2.2.1.1]; omega
  | ⟨1, _⟩ => show l.val = cc0_transform_6 (grid0.coords t) 1 * 3392 + 1 * l.val; rw [(starts t).2.2.1.2]; omega

set_option maxHeartbeats 4000000 in
theorem first_at (t : Fin (grid m)) (r : Fin 64) (l : Fin 3392) :
    (dats m (hO m) 0 c).arrAt 7 (grid m) (ix2 (row m t r) l) = k0_pay2 (F := Ideal) (grid0.coords t) (place m c) (iblk m (hO m) c 3 t) (iblk m (hO m) c 4 t) (iblk m (hO m) c 1 t) (ix2 r l) := by
  have hinj : ∀ s s' : Fin grid0.N, cc0_transform_7 (grid0.coords s) = cc0_transform_7 (grid0.coords s') → s = s' :=
    fun s s' h => Fin.ext (by have := congrFun h 0; rwa [(starts s).2.2.2.1.1, (starts s').2.2.2.1.1] at this)
  have hb := congrFun ((dats m (hO m) 0 c).read_blk_arrAt_eq_flushed 7
    (fun s s' _ _ hne => ((cfgM m (hO m)).win 7).disjoint_blk fun h => hne (hinj s s' h)) (grid m) t t.isLt (flush0_7 _ t)) (ix2 r l)
  have hf : (dats m (hO m) 0 c).flushed 7 t = ((cfgM m (hO m)).win 7).cut (grid0.coords t) (k0_pay2 (F := Ideal) (grid0.coords t) (place m c) (iblk m (hO m) c 3 t) (iblk m (hO m) c 4 t) (iblk m (hO m) c 1 t)) := by
    show ((cfgM m (hO m)).win 7).cut (grid0.coords t) ((dats m (hO m) 0 c).after 7 t) = _
    rw [after0_7, (left_at m c t).2.2.1]
  refine (Eq.trans ?_ (View.read_apply _ _).symm).trans (hb.trans (congrFun hf _))
  congr 1
  funext a
  apply Fin.ext
  match a with
  | ⟨0, _⟩ => show t.val * 64 + r.val = cc0_transform_7 (grid0.coords t) 0 * 64 + 1 * r.val; rw [(starts t).2.2.2.1.1]; omega
  | ⟨1, _⟩ => show l.val = cc0_transform_7 (grid0.coords t) 1 * 3392 + 1 * l.val; rw [(starts t).2.2.2.1.2]; omega

set_option maxHeartbeats 4000000 in
theorem second_at (t : Fin (grid m)) (r : Fin 64) (l : Fin 3392) :
    (dats m (hO m) 0 c).arrAt 8 (grid m) (ix2 (row m t r) l) = k0_pay3 (F := Ideal) (grid0.coords t) (place m c) (iblk m (hO m) c 3 t) (iblk m (hO m) c 4 t) (iblk m (hO m) c 2 t) (ix2 r l) := by
  have hinj : ∀ s s' : Fin grid0.N, cc0_transform_8 (grid0.coords s) = cc0_transform_8 (grid0.coords s') → s = s' :=
    fun s s' h => Fin.ext (by have := congrFun h 0; rwa [(starts s).2.2.2.2.1, (starts s').2.2.2.2.1] at this)
  have hb := congrFun ((dats m (hO m) 0 c).read_blk_arrAt_eq_flushed 8
    (fun s s' _ _ hne => ((cfgM m (hO m)).win 8).disjoint_blk fun h => hne (hinj s s' h)) (grid m) t t.isLt (flush0_8 _ t)) (ix2 r l)
  have hf : (dats m (hO m) 0 c).flushed 8 t = ((cfgM m (hO m)).win 8).cut (grid0.coords t) (k0_pay3 (F := Ideal) (grid0.coords t) (place m c) (iblk m (hO m) c 3 t) (iblk m (hO m) c 4 t) (iblk m (hO m) c 2 t)) := by
    show ((cfgM m (hO m)).win 8).cut (grid0.coords t) ((dats m (hO m) 0 c).after 8 t) = _
    rw [after0_8, (left_at m c t).2.2.2]
  refine (Eq.trans ?_ (View.read_apply _ _).symm).trans (hb.trans (congrFun hf _))
  congr 1
  funext a
  apply Fin.ext
  match a with
  | ⟨0, _⟩ => show t.val * 64 + r.val = cc0_transform_8 (grid0.coords t) 0 * 64 + 1 * r.val; rw [(starts t).2.2.2.2.1]; omega
  | ⟨1, _⟩ => show l.val = cc0_transform_8 (grid0.coords t) 1 * 3392 + 1 * l.val; rw [(starts t).2.2.2.2.2]; omega

/-- The run: the four result arrays, and the arguments as they were. -/
theorem run : θ_run defs (onTc (τ := τ) (main (F := Ideal))) ⟨m, fun _ => 0, ρ⟩ fun r => ∀ c : Dev nD,
      r.2.mem ((c : Thread nD τ).loc main_v0_0) = (dats m (hO m) 0 c).arrAt 5 (grid m)
      ∧ r.2.mem ((c : Thread nD τ).loc main_v0_1) = (dats m (hO m) 0 c).arrAt 6 (grid m)
      ∧ r.2.mem ((c : Thread nD τ).loc main_v0_2) = (dats m (hO m) 0 c).arrAt 7 (grid m)
      ∧ r.2.mem ((c : Thread nD τ).loc main_v0_3) = (dats m (hO m) 0 c).arrAt 8 (grid m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.2 c).1 5, (h.2 c).1 6, (h.2 c).1 7, (h.2 c).1 8, h.1 c⟩)
    (θ_run_and (unchanged m ρ (hO m)) (run_main m ρ (hO m)))

/-- the gradient's entry: of this device's half where the point's half is the device's, else of the other's -/
def pick (t : Fin (grid m)) (r : Fin 64) (l : Fin 3392) : EReal :=
  Scalar.select (Scalar.cmpi .eq (BitVec.ofNat 32 (t.val / 16)) (place m c)) (mine m c (ix2 (rowH m t r) l)) (theirs m c (ix2 (rowH m t r) l))

theorem chosen (i : grid0.Coords) (p : BitVec 32) (g g' : FVec Ideal S64x3392 .f32) (r : Fin 64) (l : Fin 3392) :
    k0_pay1 (F := Ideal) i p g g' (ix2 r l) = Scalar.select (Scalar.cmpi .eq (BitVec.ofNat 32 (i 0).val) p) (g (ix2 r l)) (g' (ix2 r l)) := by
  unfold k0_pay1
  dsimp only
  unfold Scalar.select
  split <;> rfl

theorem picked (t : Fin (grid m)) (r : Fin 64) (l : Fin 3392) :
    k0_pay1 (F := Ideal) (grid0.coords t) (place m c) (iblk m (hO m) c 3 t) (iblk m (hO m) c 4 t) (ix2 r l) = pick m c t r l := by
  refine (chosen _ _ _ _ r l).trans ?_
  unfold pick
  rw [half_of t, block_mine, block_theirs]

/-- The same entry, named by its row of the whole array: the row's half, and its place in it. -/
theorem pick_eq (t : Fin (grid m)) (r : Fin 64) (l : Fin 3392) (h : (row m t r).val % 1024 < 1024) :
    Scalar.select (IntOp.cmpi .eq (BitVec.ofNat 32 ((row m t r).val / 1024)) (place m c))
      (mine m c (ix2 ⟨(row m t r).val % 1024, h⟩ l)) (theirs m c (ix2 ⟨(row m t r).val % 1024, h⟩ l)) = pick m c t r l := by
  have hq : (row m t r).val / 1024 = t.val / 16 := by show (t.val * 64 + r.val) / 1024 = _; omega
  have hm : (⟨(row m t r).val % 1024, h⟩ : Fin 1024) = rowH m t r := Fin.ext (by show (t.val * 64 + r.val) % 1024 = t.val % 16 * 64 + r.val; omega)
  rw [hq, hm]
  rfl

end Cert.KernelHalvesInIdeal.Rows

namespace Cert.HalvesIn

open Idealize.ShloMosaic Idealize.ShloMosaic.TcCoe Idealize.SL.Sem

/-- The reference leaves its arguments as they are, and has no semaphore. -/
theorem reference_frame : Cert.quiescent_ReferenceHalvesInIdeal (hReferenceHalvesInIdeal := Cert.ReferenceHalvesInIdeal.Gen.facts) :=
  fun m ρ _ => (θ_run _ _ _).mono (fun r h => ⟨fun c => (h c).2.2.2.2, sem_eq_zero_of_no_sems (by decide) r.2⟩) (Cert.ReferenceHalvesInIdeal.Value.run (F := Ideal) m ρ)

set_option maxHeartbeats 4000000 in
theorem algebraic : Cert.algebraic_KernelHalvesInIdeal_ReferenceHalvesInIdeal
    (hKernelHalvesInIdeal := Cert.KernelHalvesInIdeal.Gen.facts) (hReferenceHalvesInIdeal := Cert.ReferenceHalvesInIdeal.Gen.facts) := by
  intro m ρ m' ρ' _ hagree
  refine ⟨_, _, _, _, Cert.KernelHalvesInIdeal.Rows.run m ρ, ?_⟩
  refine (θ_run _ _ _).mono (fun _ h c => ⟨(h c).1.trans ?_, (h c).2.1.trans ?_, (h c).2.2.1.trans ?_, (h c).2.2.2.1.trans ?_, (h c).2.2.2.2⟩) (Cert.ReferenceHalvesInIdeal.Value.run (F := Ideal) m' ρ')
  all_goals
    obtain ⟨e0, e1, e2, e3, e4, e5⟩ := hagree c
    first | rw [e0, e1, e2, e3, e4, e5] | rw [e1, e2, e3, e4, e5] | rw [e1, e3, e4, e5] | rw [e2, e3, e4, e5] | rw [e3, e4, e5]
    clear e0 e1 e2 e3 e4 e5
    funext i
    obtain ⟨R, l, rfl⟩ : ∃ R l, i = ix2 R l := ⟨i 0, i 1, funext fun a => by fin_cases a <;> rfl⟩
    obtain ⟨t, r, rfl⟩ := Cert.KernelHalvesInIdeal.Rows.rows m R
  · refine Eq.trans ?_ ((Cert.KernelHalvesInIdeal.Rows.picked m c t r l).symm.trans (Cert.KernelHalvesInIdeal.Rows.grad_at m c t r l).symm)
    pointwise []
    rw [Cert.KernelHalvesInIdeal.Rows.pick_eq]
  · refine Eq.trans ?_ (Cert.KernelHalvesInIdeal.Rows.delta_at m c t r l).symm
    pointwise [Cert.KernelHalvesInIdeal.Gen.k0_pay2, Cert.KernelHalvesInIdeal.Gen.k0_pay3, Cert.KernelHalvesInIdeal.Gen.k0_pay4]
    rw [Cert.KernelHalvesInIdeal.Rows.pick_eq, Cert.KernelHalvesInIdeal.Rows.picked, Cert.KernelHalvesInIdeal.Rows.block_m, Cert.KernelHalvesInIdeal.Rows.block_v, Cert.KernelHalvesInIdeal.Rows.block_w]
  · refine Eq.trans ?_ (Cert.KernelHalvesInIdeal.Rows.first_at m c t r l).symm
    pointwise [Cert.KernelHalvesInIdeal.Gen.k0_pay2]
    rw [Cert.KernelHalvesInIdeal.Rows.pick_eq, Cert.KernelHalvesInIdeal.Rows.picked, Cert.KernelHalvesInIdeal.Rows.block_m]
  · refine Eq.trans ?_ (Cert.KernelHalvesInIdeal.Rows.second_at m c t r l).symm
    pointwise [Cert.KernelHalvesInIdeal.Gen.k0_pay3]
    rw [Cert.KernelHalvesInIdeal.Rows.pick_eq, Cert.KernelHalvesInIdeal.Rows.picked, Cert.KernelHalvesInIdeal.Rows.block_v]

end Cert.HalvesIn
-- ==== Proof.HalvesBranch.lean ====
/-
  The update of a branch's sharded output weight from its two halves of the gradient: every entry of the four results is a function of the same
  entry of the arguments, the gradient's being the entry of this device's half or of the other's, by the device's place.
-/
module

public import proofs.«01_k».proof.Defs
public import proofs.«01_k».proof.Proof.Blocked
public import proofs.«01_k».proof.Proof.Gen.KernelHalvesBranchIdeal.Frame
public import proofs.«01_k».proof.Proof.Gen.ReferenceHalvesBranchIdeal.Run
public import Idealize.ShloMosaic.Lib.Pipeline.Value

@[expose] public section

set_option maxRecDepth 65536

noncomputable section

namespace Cert.KernelHalvesBranchIdeal.Rows

open Idealize.ShloMosaic Idealize.ShloMosaic.TcCoe Idealize.SL.Sem Cert.KernelHalvesBranchIdeal Cert.KernelHalvesBranchIdeal.Gen Cert.Blocked

variable (m : (ℓ : Loc nD τ sig) → Buf (Elt Ideal) ℓ) (ρ : Dev nD → PrngReg) (c : Dev nD)

abbrev argW : FVec Ideal S1024x512 .f32 := m (c.tc.loc main_arg0)
abbrev argM : FVec Ideal S1024x512 .f32 := m (c.tc.loc main_arg1)
abbrev argV : FVec Ideal S1024x512 .f32 := m (c.tc.loc main_arg2)
abbrev mine : FVec Ideal S512x512 .f32 := m (c.tc.loc main_arg3)
abbrev theirs : FVec Ideal S512x512 .f32 := m (c.tc.loc main_arg4)
/-- which half this device's is -/
abbrev place : BitVec 32 := (m (c.tc.loc main_arg5) : IVec S1 32) (ix1 0)

/-- the index maps read no table, so any contents of it are admissible -/
abbrev hO : Ok m := trivial

abbrev grid : Nat := (cfgM m (hO m)).N
theorem grid_eq : grid m = 2 := by show grid0.N = 2; decide +kernel

/-! ## One point of the grid -/

/-- the word a point's body reads of the table -/
abbrev word {c : Dev nD} (p : TbBuf0 (F := Ideal) c tbM0_0) : BitVec 32 :=
  View.ld (View.read (Elt Ideal) (View.whole main_arg5) p) (Rect.unit ![0] ![1] inb_S1_S1_0) (Shape.Idx.first (numel1_S1.symm ▸ Nat.one_pos))

theorem word_eq {c : Dev nD} (p : TbBuf0 (F := Ideal) c tbM0_0) : word p = (p : IVec S1 32) (ix1 0) := by
  show (p : IVec S1 32) _ = _
  congr 1
  funext a
  match a with
  | ⟨0, _⟩ => exact Subsingleton.elim (α := Fin 1) _ _

/-- what a point's body leaves in the four output blocks, from the blocks it loads and the table's word -/
theorem stored (i : grid0.Coords)
    (a3 : Memref sig .tc .vmem S512x512 .f32) (h3 : a3.IsWhole)
    (a4 : Memref sig .tc .vmem S512x512 .f32) (h4 : a4.IsWhole)
    (a5 : Memref sig .tc .vmem S512x512 .f32) (h5 : a5.IsWhole)
    (a6 : Memref sig .tc .vmem S512x512 .f32) (h6 : a6.IsWhole)
    (a7 : Memref sig .tc .vmem S512x512 .f32) (h7 : a7.IsWhole)
    (a8 : Memref sig .tc .vmem S512x512 .f32) (h8 : a8.IsWhole)
    (a9 : Memref sig .tc .vmem S512x512 .f32) (h9 : a9.IsWhole)
    (a10 : Memref sig .tc .vmem S512x512 .f32) (h10 : a10.IsWhole)
    (a11 : Memref sig .tc .vmem S512x512 .f32) (h11 : a11.IsWhole)
    (w m1 v g g' : FVec Ideal S512x512 .f32) (p : TbBuf0 (F := Ideal) c tbM0_0) :
    out0_A_5 (F := Ideal) c i a3 h3 a4 h4 a5 h5 a6 h6 a7 h7 a8 h8 a9 h9 a10 h10 a11 h11 w m1 v g g' p = k0_pay1 (F := Ideal) i (word p) g g'
    ∧ out0_A_6 (F := Ideal) c i a3 h3 a4 h4 a5 h5 a6 h6 a7 h7 a8 h8 a9 h9 a10 h10 a11 h11 w m1 v g g' p = k0_pay4 (F := Ideal) i (word p) g g' m1 v w
    ∧ out0_A_7 (F := Ideal) c i a3 h3 a4 h4 a5 h5 a6 h6 a7 h7 a8 h8 a9 h9 a10 h10 a11 h11 w m1 v g g' p = k0_pay2 (F := Ideal) i (word p) g g' m1
    ∧ out0_A_8 (F := Ideal) c i a3 h3 a4 h4 a5 h5 a6 h6 a7 h7 a8 h8 a9 h9 a10 h10 a11 h11 w m1 v g g' p = k0_pay3 (F := Ideal) i (word p) g g' v := by
  refine ⟨?_, ?_, ?_, ?_⟩
  on_goal 1 => unfold out0_A_5; rw [View.read_writes_eq_canon _ _ _ (cover0_A_5 (F := Ideal) c i a3 h3 a4 h4 a5 h5 a6 h6 a7 h7 a8 h8 a9 h9 a10 h10 a11 h11 w m1 v g g' p)]
  on_goal 2 => unfold out0_A_6; rw [View.read_writes_eq_canon _ _ _ (cover0_A_6 (F := Ideal) c i a3 h3 a4 h4 a5 h5 a6 h6 a7 h7 a8 h8 a9 h9 a10 h10 a11 h11 w m1 v g g' p)]
  on_goal 3 => unfold out0_A_7; rw [View.read_writes_eq_canon _ _ _ (cover0_A_7 (F := Ideal) c i a3 h3 a4 h4 a5 h5 a6 h6 a7 h7 a8 h8 a9 h9 a10 h10 a11 h11 w m1 v g g' p)]
  on_goal 4 => unfold out0_A_8; rw [View.read_writes_eq_canon _ _ _ (cover0_A_8 (F := Ideal) c i a3 h3 a4 h4 a5 h5 a6 h6 a7 h7 a8 h8 a9 h9 a10 h10 a11 h11 w m1 v g g' p)]
  all_goals
    unfold kernelRun0_A
    dsimp only
    sl_unfold_words
    rw [View.canon_unit_zero zeros2]
    simp only [View.readAt_eq_ld, h3.read_unread, h4.read_unread, h5.read_unread, h6.read_unread, h7.read_unread, View.ld_unit_zero (S := S512x512) zeros2]

/-- the table is the argument that holds the device's place -/
theorem table : word (c := c) (tbl m 0) = place m c := by
  refine (word_eq (c := c) (tbl m 0)).trans ?_
  obtain rfl : c = 0 := Subsingleton.elim _ _
  rfl

/-! ## The grid -/

/-- the block, of the whole arrays, that a point loads and writes; and of the halves -/
theorem starts : ∀ t : Fin grid0.N, (((cc0_transform_0 (grid0.coords t) 0 = t.val ∧ cc0_transform_0 (grid0.coords t) 1 = 0)
    ∧ (cc0_transform_1 (grid0.coords t) 0 = t.val ∧ cc0_transform_1 (grid0.coords t) 1 = 0)
    ∧ (cc0_transform_2 (grid0.coords t) 0 = t.val ∧ cc0_transform_2 (grid0.coords t) 1 = 0))
    ∧ (cc0_transform_3 (grid0.coords t) 0 = t.val % 1 ∧ cc0_transform_3 (grid0.coords t) 1 = 0)
    ∧ (cc0_transform_4 (grid0.coords t) 0 = t.val % 1 ∧ cc0_transform_4 (grid0.coords t) 1 = 0))
    ∧ (cc0_transform_5 (grid0.coords t) 0 = t.val ∧ cc0_transform_5 (grid0.coords t) 1 = 0)
    ∧ (cc0_transform_6 (grid0.coords t) 0 = t.val ∧ cc0_transform_6 (grid0.coords t) 1 = 0)
    ∧ (cc0_transform_7 (grid0.coords t) 0 = t.val ∧ cc0_transform_7 (grid0.coords t) 1 = 0)
    ∧ (cc0_transform_8 (grid0.coords t) 0 = t.val ∧ cc0_transform_8 (grid0.coords t) 1 = 0) := by decide +kernel

/-- the half a point is in -/
theorem half_of : ∀ t : Fin grid0.N, (grid0.coords t 0).val = t.val / 1 := by decide +kernel

/-- row `r` of block `t`, in the whole arrays and in a half -/
def row (t : Fin (grid m)) (r : Fin 512) : Fin 1024 := ⟨t.val * 512 + r.val, by have := t.isLt; have := grid_eq m; omega⟩
def rowH (t : Fin (grid m)) (r : Fin 512) : Fin 512 := ⟨t.val % 1 * 512 + r.val, by omega⟩

theorem rows (R : Fin 1024) : ∃ (t : Fin (grid m)) (r : Fin 512), R = row m t r := by
  have hN := grid_eq m
  exact ⟨⟨R.val / 512, by omega⟩, ⟨R.val % 512, by omega⟩, Fin.ext (by show R.val = R.val / 512 * 512 + R.val % 512; omega)⟩

theorem block_w (t : Fin (grid m)) (r : Fin 512) (l : Fin 512) : iblk m (hO m) c 0 t (ix2 r l) = argW m c (ix2 (row m t r) l) := by
  unfold iblk
  refine (View.read_apply _ _).trans ?_
  show m (c.tc.loc main_arg0) _ = m (c.tc.loc main_arg0) _
  congr 1
  funext a
  apply Fin.ext
  match a with
  | ⟨0, _⟩ => show cc0_transform_0 (grid0.coords t) 0 * 512 + 1 * r.val = t.val * 512 + r.val; rw [(starts t).1.1.1.1]; omega
  | ⟨1, _⟩ => show cc0_transform_0 (grid0.coords t) 1 * 512 + 1 * l.val = l.val; rw [(starts t).1.1.1.2]; omega

theorem block_m (t : Fin (grid m)) (r : Fin 512) (l : Fin 512) : iblk m (hO m) c 1 t (ix2 r l) = argM m c (ix2 (row m t r) l) := by
  unfold iblk
  refine (View.read_apply _ _).trans ?_
  show m (c.tc.loc main_arg1) _ = m (c.tc.loc main_arg1) _
  congr 1
  funext a
  apply Fin.ext
  match a with
  | ⟨0, _⟩ => show cc0_transform_1 (grid0.coords t) 0 * 512 + 1 * r.val = t.val * 512 + r.val; rw [(starts t).1.1.2.1.1]; omega
  | ⟨1, _⟩ => show cc0_transform_1 (grid0.coords t) 1 * 512 + 1 * l.val = l.val; rw [(starts t).1.1.2.1.2]; omega

theorem block_v (t : Fin (grid m)) (r : Fin 512) (l : Fin 512) : iblk m (hO m) c 2 t (ix2 r l) = argV m c (ix2 (row m t r) l) := by
  unfold iblk
  refine (View.read_apply _ _).trans ?_
  show m (c.tc.loc main_arg2) _ = m (c.tc.loc main_arg2) _
  congr 1
  funext a
  apply Fin.ext
  match a with
  | ⟨0, _⟩ => show cc0_transform_2 (grid0.coords t) 0 * 512 + 1 * r.val = t.val * 512 + r.val; rw [(starts t).1.1.2.2.1]; omega
  | ⟨1, _⟩ => show cc0_transform_2 (grid0.coords t) 1 * 512 + 1 * l.val = l.val; rw [(starts t).1.1.2.2.2]; omega

theorem block_mine (t : Fin (grid m)) (r : Fin 512) (l : Fin 512) : iblk m (hO m) c 3 t (ix2 r l) = mine m c (ix2 (rowH m t r) l) := by
  unfold iblk
  refine (View.read_apply _ _).trans ?_
  show m (c.tc.loc main_arg3) _ = m (c.tc.loc main_arg3) _
  congr 1
  funext a
  apply Fin.ext
  match a with
  | ⟨0, _⟩ => show cc0_transform_3 (grid0.coords t) 0 * 512 + 1 * r.val = t.val % 1 * 512 + r.val; rw [(starts t).1.2.1.1]; omega
  | ⟨1, _⟩ => show cc0_transform_3 (grid0.coords t) 1 * 512 + 1 * l.val = l.val; rw [(starts t).1.2.1.2]; omega

theorem block_theirs (t : Fin (grid m)) (r : Fin 512) (l : Fin 512) : iblk m (hO m) c 4 t (ix2 r l) = theirs m c (ix2 (rowH m t r) l) := by
  unfold iblk
  refine (View.read_apply _ _).trans ?_
  show m (c.tc.loc main_arg4) _ = m (c.tc.loc main_arg4) _
  congr 1
  funext a
  apply Fin.ext
  match a with
  | ⟨0, _⟩ => show cc0_transform_4 (grid0.coords t) 0 * 512 + 1 * r.val = t.val % 1 * 512 + r.val; rw [(starts t).1.2.2.1]; omega
  | ⟨1, _⟩ => show cc0_transform_4 (grid0.coords t) 1 * 512 + 1 * l.val = l.val; rw [(starts t).1.2.2.2]; omega

/-! ## The results, entry by entry -/

/-- `stored` at point `t`: its blocks, and the device's place -/
theorem left_at (t : Fin (grid m)) :
    (outsAt0 m (hO m) c t).1 = k0_pay1 (F := Ideal) (grid0.coords t) (place m c) (iblk m (hO m) c 3 t) (iblk m (hO m) c 4 t)
    ∧ (outsAt0 m (hO m) c t).2.1 = k0_pay4 (F := Ideal) (grid0.coords t) (place m c) (iblk m (hO m) c 3 t) (iblk m (hO m) c 4 t) (iblk m (hO m) c 1 t) (iblk m (hO m) c 2 t) (iblk m (hO m) c 0 t)
    ∧ (outsAt0 m (hO m) c t).2.2.1 = k0_pay2 (F := Ideal) (grid0.coords t) (place m c) (iblk m (hO m) c 3 t) (iblk m (hO m) c 4 t) (iblk m (hO m) c 1 t)
    ∧ (outsAt0 m (hO m) c t).2.2.2 = k0_pay3 (F := Ideal) (grid0.coords t) (place m c) (iblk m (hO m) c 3 t) (iblk m (hO m) c 4 t) (iblk m (hO m) c 2 t) := by
  unfold outsAt0
  dsimp only
  rw [← table m c]
  exact stored c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (iblk m (hO m) c 0 t) (iblk m (hO m) c 1 t) (iblk m (hO m) c 2 t) (iblk m (hO m) c 3 t) (iblk m (hO m) c 4 t) (tbl m 0)

set_option maxHeartbeats 4000000 in
theorem grad_at (t : Fin (grid m)) (r : Fin 512) (l : Fin 512) :
    (dats m (hO m) 0 c).arrAt 5 (grid m) (ix2 (row m t r) l) = k0_pay1 (F := Ideal) (grid0.coords t) (place m c) (iblk m (hO m) c 3 t) (iblk m (hO m) c 4 t) (ix2 r l) := by
  have hinj : ∀ s s' : Fin grid0.N, cc0_transform_5 (grid0.coords s) = cc0_transform_5 (grid0.coords s') → s = s' :=
    fun s s' h => Fin.ext (by have := congrFun h 0; rwa [(starts s).2.1.1, (starts s').2.1.1] at this)
  have hb := congrFun ((dats m (hO m) 0 c).read_blk_arrAt_eq_flushed 5
    (fun s s' _ _ hne => ((cfgM m (hO m)).win 5).disjoint_blk fun h => hne (hinj s s' h)) (grid m) t t.isLt (flush0_5 _ t)) (ix2 r l)
  have hf : (dats m (hO m) 0 c).flushed 5 t = ((cfgM m (hO m)).win 5).cut (grid0.coords t) (k0_pay1 (F := Ideal) (grid0.coords t) (place m c) (iblk m (hO m) c 3 t) (iblk m (hO m) c 4 t)) := by
    show ((cfgM m (hO m)).win 5).cut (grid0.coords t) ((dats m (hO m) 0 c).after 5 t) = _
    rw [after0_5, (left_at m c t).1]
  refine (Eq.trans ?_ (View.read_apply _ _).symm).trans (hb.trans (congrFun hf _))
  congr 1
  funext a
  apply Fin.ext
  match a with
  | ⟨0, _⟩ => show t.val * 512 + r.val = cc0_transform_5 (grid0.coords t) 0 * 512 + 1 * r.val; rw [(starts t).2.1.1]; omega
  | ⟨1, _⟩ => show l.val = cc0_transform_5 (grid0.coords t) 1 * 512 + 1 * l.val; rw [(starts t).2.1.2]; omega

set_option maxHeartbeats 4000000 in
theorem delta_at (t : Fin (grid m)) (r : Fin 512) (l : Fin 512) :
    (dats m (hO m) 0 c).arrAt 6 (grid m) (ix2 (row m t r) l) = k0_pay4 (F := Ideal) (grid0.coords t) (place m c) (iblk m (hO m) c 3 t) (iblk m (hO m) c 4 t) (iblk m (hO m) c 1 t) (iblk m (hO m) c 2 t) (iblk m (hO m) c 0 t) (ix2 r l) := by
  have hinj : ∀ s s' : Fin grid0.N, cc0_transform_6 (grid0.coords s) = cc0_transform_6 (grid0.coords s') → s = s' :=
    fun s s' h => Fin.ext (by have := congrFun h 0; rwa [(starts s).2.2.1.1, (starts s').2.2.1.1] at this)
  have hb := congrFun ((dats m (hO m) 0 c).read_blk_arrAt_eq_flushed 6
    (fun s s' _ _ hne => ((cfgM m (hO m)).win 6).disjoint_blk fun h => hne (hinj s s' h)) (grid m) t t.isLt (flush0_6 _ t)) (ix2 r l)
  have hf : (dats m (hO m) 0 c).flushed 6 t = ((cfgM m (hO m)).win 6).cut (grid0.coords t) (k0_pay4 (F := Ideal) (grid0.coords t) (place m c) (iblk m (hO m) c 3 t) (iblk m (hO m) c 4 t) (iblk m (hO m) c 1 t) (iblk m (hO m) c 2 t) (iblk m (hO m) c 0 t)) := by
    show ((cfgM m (hO m)).win 6).cut (grid0.coords t) ((dats m (hO m) 0 c).after 6 t) = _
    rw [after0_6, (left_at m c t).2.1]
  refine (Eq.trans ?_ (View.read_apply _ _).symm).trans (hb.trans (congrFun hf _))
  congr 1
  funext a
  apply Fin.ext
  match a with
  | ⟨0, _⟩ => show t.val * 512 + r.val = cc0_transform_6 (grid0.coords t) 0 * 512 + 1 * r.val; rw [(starts t).2.2.1.1]; omega
  | ⟨1, _⟩ => show l.val = cc0_transform_6 (grid0.coords t) 1 * 512 + 1 * l.val; rw [(starts t).2.2.1.2]; omega

set_option maxHeartbeats 4000000 in
theorem first_at (t : Fin (grid m)) (r : Fin 512) (l : Fin 512) :
    (dats m (hO m) 0 c).arrAt 7 (grid m) (ix2 (row m t r) l) = k0_pay2 (F := Ideal) (grid0.coords t) (place m c) (iblk m (hO m) c 3 t) (iblk m (hO m) c 4 t) (iblk m (hO m) c 1 t) (ix2 r l) := by
  have hinj : ∀ s s' : Fin grid0.N, cc0_transform_7 (grid0.coords s) = cc0_transform_7 (grid0.coords s') → s = s' :=
    fun s s' h => Fin.ext (by have := congrFun h 0; rwa [(starts s).2.2.2.1.1, (starts s').2.2.2.1.1] at this)
  have hb := congrFun ((dats m (hO m) 0 c).read_blk_arrAt_eq_flushed 7
    (fun s s' _ _ hne => ((cfgM m (hO m)).win 7).disjoint_blk fun h => hne (hinj s s' h)) (grid m) t t.isLt (flush0_7 _ t)) (ix2 r l)
  have hf : (dats m (hO m) 0 c).flushed 7 t = ((cfgM m (hO m)).win 7).cut (grid0.coords t) (k0_pay2 (F := Ideal) (grid0.coords t) (place m c) (iblk m (hO m) c 3 t) (iblk m (hO m) c 4 t) (iblk m (hO m) c 1 t)) := by
    show ((cfgM m (hO m)).win 7).cut (grid0.coords t) ((dats m (hO m) 0 c).after 7 t) = _
    rw [after0_7, (left_at m c t).2.2.1]
  refine (Eq.trans ?_ (View.read_apply _ _).symm).trans (hb.trans (congrFun hf _))
  congr 1
  funext a
  apply Fin.ext
  match a with
  | ⟨0, _⟩ => show t.val * 512 + r.val = cc0_transform_7 (grid0.coords t) 0 * 512 + 1 * r.val; rw [(starts t).2.2.2.1.1]; omega
  | ⟨1, _⟩ => show l.val = cc0_transform_7 (grid0.coords t) 1 * 512 + 1 * l.val; rw [(starts t).2.2.2.1.2]; omega

set_option maxHeartbeats 4000000 in
theorem second_at (t : Fin (grid m)) (r : Fin 512) (l : Fin 512) :
    (dats m (hO m) 0 c).arrAt 8 (grid m) (ix2 (row m t r) l) = k0_pay3 (F := Ideal) (grid0.coords t) (place m c) (iblk m (hO m) c 3 t) (iblk m (hO m) c 4 t) (iblk m (hO m) c 2 t) (ix2 r l) := by
  have hinj : ∀ s s' : Fin grid0.N, cc0_transform_8 (grid0.coords s) = cc0_transform_8 (grid0.coords s') → s = s' :=
    fun s s' h => Fin.ext (by have := congrFun h 0; rwa [(starts s).2.2.2.2.1, (starts s').2.2.2.2.1] at this)
  have hb := congrFun ((dats m (hO m) 0 c).read_blk_arrAt_eq_flushed 8
    (fun s s' _ _ hne => ((cfgM m (hO m)).win 8).disjoint_blk fun h => hne (hinj s s' h)) (grid m) t t.isLt (flush0_8 _ t)) (ix2 r l)
  have hf : (dats m (hO m) 0 c).flushed 8 t = ((cfgM m (hO m)).win 8).cut (grid0.coords t) (k0_pay3 (F := Ideal) (grid0.coords t) (place m c) (iblk m (hO m) c 3 t) (iblk m (hO m) c 4 t) (iblk m (hO m) c 2 t)) := by
    show ((cfgM m (hO m)).win 8).cut (grid0.coords t) ((dats m (hO m) 0 c).after 8 t) = _
    rw [after0_8, (left_at m c t).2.2.2]
  refine (Eq.trans ?_ (View.read_apply _ _).symm).trans (hb.trans (congrFun hf _))
  congr 1
  funext a
  apply Fin.ext
  match a with
  | ⟨0, _⟩ => show t.val * 512 + r.val = cc0_transform_8 (grid0.coords t) 0 * 512 + 1 * r.val; rw [(starts t).2.2.2.2.1]; omega
  | ⟨1, _⟩ => show l.val = cc0_transform_8 (grid0.coords t) 1 * 512 + 1 * l.val; rw [(starts t).2.2.2.2.2]; omega

/-- The run: the four result arrays, and the arguments as they were. -/
theorem run : θ_run defs (onTc (τ := τ) (main (F := Ideal))) ⟨m, fun _ => 0, ρ⟩ fun r => ∀ c : Dev nD,
      r.2.mem ((c : Thread nD τ).loc main_v0_0) = (dats m (hO m) 0 c).arrAt 5 (grid m)
      ∧ r.2.mem ((c : Thread nD τ).loc main_v0_1) = (dats m (hO m) 0 c).arrAt 6 (grid m)
      ∧ r.2.mem ((c : Thread nD τ).loc main_v0_2) = (dats m (hO m) 0 c).arrAt 7 (grid m)
      ∧ r.2.mem ((c : Thread nD τ).loc main_v0_3) = (dats m (hO m) 0 c).arrAt 8 (grid m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.2 c).1 5, (h.2 c).1 6, (h.2 c).1 7, (h.2 c).1 8, h.1 c⟩)
    (θ_run_and (unchanged m ρ (hO m)) (run_main m ρ (hO m)))

/-- the gradient's entry: of this device's half where the point's half is the device's, else of the other's -/
def pick (t : Fin (grid m)) (r : Fin 512) (l : Fin 512) : EReal :=
  Scalar.select (Scalar.cmpi .eq (BitVec.ofNat 32 (t.val / 1)) (place m c)) (mine m c (ix2 (rowH m t r) l)) (theirs m c (ix2 (rowH m t r) l))

theorem chosen (i : grid0.Coords) (p : BitVec 32) (g g' : FVec Ideal S512x512 .f32) (r : Fin 512) (l : Fin 512) :
    k0_pay1 (F := Ideal) i p g g' (ix2 r l) = Scalar.select (Scalar.cmpi .eq (BitVec.ofNat 32 (i 0).val) p) (g (ix2 r l)) (g' (ix2 r l)) := by
  unfold k0_pay1
  dsimp only
  unfold Scalar.select
  split <;> rfl

theorem picked (t : Fin (grid m)) (r : Fin 512) (l : Fin 512) :
    k0_pay1 (F := Ideal) (grid0.coords t) (place m c) (iblk m (hO m) c 3 t) (iblk m (hO m) c 4 t) (ix2 r l) = pick m c t r l := by
  refine (chosen _ _ _ _ r l).trans ?_
  unfold pick
  rw [half_of t, block_mine, block_theirs]

/-- The same entry, named by its row of the whole array: the row's half, and its place in it. -/
theorem pick_eq (t : Fin (grid m)) (r : Fin 512) (l : Fin 512) (h : (row m t r).val % 512 < 512) :
    Scalar.select (IntOp.cmpi .eq (BitVec.ofNat 32 ((row m t r).val / 512)) (place m c))
      (mine m c (ix2 ⟨(row m t r).val % 512, h⟩ l)) (theirs m c (ix2 ⟨(row m t r).val % 512, h⟩ l)) = pick m c t r l := by
  have hq : (row m t r).val / 512 = t.val / 1 := by show (t.val * 512 + r.val) / 512 = _; omega
  have hm : (⟨(row m t r).val % 512, h⟩ : Fin 512) = rowH m t r := Fin.ext (by show (t.val * 512 + r.val) % 512 = t.val % 1 * 512 + r.val; omega)
  rw [hq, hm]
  rfl

end Cert.KernelHalvesBranchIdeal.Rows

namespace Cert.HalvesBranch

open Idealize.ShloMosaic Idealize.ShloMosaic.TcCoe Idealize.SL.Sem

/-- The reference leaves its arguments as they are, and has no semaphore. -/
theorem reference_frame : Cert.quiescent_ReferenceHalvesBranchIdeal (hReferenceHalvesBranchIdeal := Cert.ReferenceHalvesBranchIdeal.Gen.facts) :=
  fun m ρ _ => (θ_run _ _ _).mono (fun r h => ⟨fun c => (h c).2.2.2.2, sem_eq_zero_of_no_sems (by decide) r.2⟩) (Cert.ReferenceHalvesBranchIdeal.Value.run (F := Ideal) m ρ)

set_option maxHeartbeats 4000000 in
theorem algebraic : Cert.algebraic_KernelHalvesBranchIdeal_ReferenceHalvesBranchIdeal
    (hKernelHalvesBranchIdeal := Cert.KernelHalvesBranchIdeal.Gen.facts) (hReferenceHalvesBranchIdeal := Cert.ReferenceHalvesBranchIdeal.Gen.facts) := by
  intro m ρ m' ρ' _ hagree
  refine ⟨_, _, _, _, Cert.KernelHalvesBranchIdeal.Rows.run m ρ, ?_⟩
  refine (θ_run _ _ _).mono (fun _ h c => ⟨(h c).1.trans ?_, (h c).2.1.trans ?_, (h c).2.2.1.trans ?_, (h c).2.2.2.1.trans ?_, (h c).2.2.2.2⟩) (Cert.ReferenceHalvesBranchIdeal.Value.run (F := Ideal) m' ρ')
  all_goals
    obtain ⟨e0, e1, e2, e3, e4, e5⟩ := hagree c
    first | rw [e0, e1, e2, e3, e4, e5] | rw [e1, e2, e3, e4, e5] | rw [e1, e3, e4, e5] | rw [e2, e3, e4, e5] | rw [e3, e4, e5]
    clear e0 e1 e2 e3 e4 e5
    funext i
    obtain ⟨R, l, rfl⟩ : ∃ R l, i = ix2 R l := ⟨i 0, i 1, funext fun a => by fin_cases a <;> rfl⟩
    obtain ⟨t, r, rfl⟩ := Cert.KernelHalvesBranchIdeal.Rows.rows m R
  · refine Eq.trans ?_ ((Cert.KernelHalvesBranchIdeal.Rows.picked m c t r l).symm.trans (Cert.KernelHalvesBranchIdeal.Rows.grad_at m c t r l).symm)
    pointwise []
    rw [Cert.KernelHalvesBranchIdeal.Rows.pick_eq]
  · refine Eq.trans ?_ (Cert.KernelHalvesBranchIdeal.Rows.delta_at m c t r l).symm
    pointwise [Cert.KernelHalvesBranchIdeal.Gen.k0_pay2, Cert.KernelHalvesBranchIdeal.Gen.k0_pay3, Cert.KernelHalvesBranchIdeal.Gen.k0_pay4]
    rw [Cert.KernelHalvesBranchIdeal.Rows.pick_eq, Cert.KernelHalvesBranchIdeal.Rows.picked, Cert.KernelHalvesBranchIdeal.Rows.block_m, Cert.KernelHalvesBranchIdeal.Rows.block_v, Cert.KernelHalvesBranchIdeal.Rows.block_w]
  · refine Eq.trans ?_ (Cert.KernelHalvesBranchIdeal.Rows.first_at m c t r l).symm
    pointwise [Cert.KernelHalvesBranchIdeal.Gen.k0_pay2]
    rw [Cert.KernelHalvesBranchIdeal.Rows.pick_eq, Cert.KernelHalvesBranchIdeal.Rows.picked, Cert.KernelHalvesBranchIdeal.Rows.block_m]
  · refine Eq.trans ?_ (Cert.KernelHalvesBranchIdeal.Rows.second_at m c t r l).symm
    pointwise [Cert.KernelHalvesBranchIdeal.Gen.k0_pay3]
    rw [Cert.KernelHalvesBranchIdeal.Rows.pick_eq, Cert.KernelHalvesBranchIdeal.Rows.picked, Cert.KernelHalvesBranchIdeal.Rows.block_v]

end Cert.HalvesBranch
-- ==== Proof.HalvesOut.lean ====
/-
  The update of the sharded output weight from its two halves of the gradient: every entry of the four results is a function of the same
  entry of the arguments, the gradient's being the entry of this device's half or of the other's, by the device's place.
-/
module

public import proofs.«01_k».proof.Defs
public import proofs.«01_k».proof.Proof.Blocked
public import proofs.«01_k».proof.Proof.Gen.KernelHalvesOutIdeal.Frame
public import proofs.«01_k».proof.Proof.Gen.ReferenceHalvesOutIdeal.Run
public import Idealize.ShloMosaic.Lib.Pipeline.Value

@[expose] public section

set_option maxRecDepth 65536

noncomputable section

namespace Cert.KernelHalvesOutIdeal.Rows

open Idealize.ShloMosaic Idealize.ShloMosaic.TcCoe Idealize.SL.Sem Cert.KernelHalvesOutIdeal Cert.KernelHalvesOutIdeal.Gen Cert.Blocked

variable (m : (ℓ : Loc nD τ sig) → Buf (Elt Ideal) ℓ) (ρ : Dev nD → PrngReg) (c : Dev nD)

abbrev argW : FVec Ideal S512x2048 .f32 := m (c.tc.loc main_arg0)
abbrev argM : FVec Ideal S512x2048 .f32 := m (c.tc.loc main_arg1)
abbrev argV : FVec Ideal S512x2048 .f32 := m (c.tc.loc main_arg2)
abbrev mine : FVec Ideal S256x2048 .f32 := m (c.tc.loc main_arg3)
abbrev theirs : FVec Ideal S256x2048 .f32 := m (c.tc.loc main_arg4)
/-- which half this device's is -/
abbrev place : BitVec 32 := (m (c.tc.loc main_arg5) : IVec S1 32) (ix1 0)

/-- the index maps read no table, so any contents of it are admissible -/
abbrev hO : Ok m := trivial

abbrev grid : Nat := (cfgM m (hO m)).N
theorem grid_eq : grid m = 4 := by show grid0.N = 4; decide +kernel

/-! ## One point of the grid -/

/-- the word a point's body reads of the table -/
abbrev word {c : Dev nD} (p : TbBuf0 (F := Ideal) c tbM0_0) : BitVec 32 :=
  View.ld (View.read (Elt Ideal) (View.whole main_arg5) p) (Rect.unit ![0] ![1] inb_S1_S1_0) (Shape.Idx.first (numel1_S1.symm ▸ Nat.one_pos))

theorem word_eq {c : Dev nD} (p : TbBuf0 (F := Ideal) c tbM0_0) : word p = (p : IVec S1 32) (ix1 0) := by
  show (p : IVec S1 32) _ = _
  congr 1
  funext a
  match a with
  | ⟨0, _⟩ => exact Subsingleton.elim (α := Fin 1) _ _

/-- what a point's body leaves in the four output blocks, from the blocks it loads and the table's word -/
theorem stored (i : grid0.Coords)
    (a3 : Memref sig .tc .vmem S128x2048 .f32) (h3 : a3.IsWhole)
    (a4 : Memref sig .tc .vmem S128x2048 .f32) (h4 : a4.IsWhole)
    (a5 : Memref sig .tc .vmem S128x2048 .f32) (h5 : a5.IsWhole)
    (a6 : Memref sig .tc .vmem S128x2048 .f32) (h6 : a6.IsWhole)
    (a7 : Memref sig .tc .vmem S128x2048 .f32) (h7 : a7.IsWhole)
    (a8 : Memref sig .tc .vmem S128x2048 .f32) (h8 : a8.IsWhole)
    (a9 : Memref sig .tc .vmem S128x2048 .f32) (h9 : a9.IsWhole)
    (a10 : Memref sig .tc .vmem S128x2048 .f32) (h10 : a10.IsWhole)
    (a11 : Memref sig .tc .vmem S128x2048 .f32) (h11 : a11.IsWhole)
    (w m1 v g g' : FVec Ideal S128x2048 .f32) (p : TbBuf0 (F := Ideal) c tbM0_0) :
    out0_A_5 (F := Ideal) c i a3 h3 a4 h4 a5 h5 a6 h6 a7 h7 a8 h8 a9 h9 a10 h10 a11 h11 w m1 v g g' p = k0_pay1 (F := Ideal) i (word p) g g'
    ∧ out0_A_6 (F := Ideal) c i a3 h3 a4 h4 a5 h5 a6 h6 a7 h7 a8 h8 a9 h9 a10 h10 a11 h11 w m1 v g g' p = k0_pay4 (F := Ideal) i (word p) g g' m1 v w
    ∧ out0_A_7 (F := Ideal) c i a3 h3 a4 h4 a5 h5 a6 h6 a7 h7 a8 h8 a9 h9 a10 h10 a11 h11 w m1 v g g' p = k0_pay2 (F := Ideal) i (word p) g g' m1
    ∧ out0_A_8 (F := Ideal) c i a3 h3 a4 h4 a5 h5 a6 h6 a7 h7 a8 h8 a9 h9 a10 h10 a11 h11 w m1 v g g' p = k0_pay3 (F := Ideal) i (word p) g g' v := by
  refine ⟨?_, ?_, ?_, ?_⟩
  on_goal 1 => unfold out0_A_5; rw [View.read_writes_eq_canon _ _ _ (cover0_A_5 (F := Ideal) c i a3 h3 a4 h4 a5 h5 a6 h6 a7 h7 a8 h8 a9 h9 a10 h10 a11 h11 w m1 v g g' p)]
  on_goal 2 => unfold out0_A_6; rw [View.read_writes_eq_canon _ _ _ (cover0_A_6 (F := Ideal) c i a3 h3 a4 h4 a5 h5 a6 h6 a7 h7 a8 h8 a9 h9 a10 h10 a11 h11 w m1 v g g' p)]
  on_goal 3 => unfold out0_A_7; rw [View.read_writes_eq_canon _ _ _ (cover0_A_7 (F := Ideal) c i a3 h3 a4 h4 a5 h5 a6 h6 a7 h7 a8 h8 a9 h9 a10 h10 a11 h11 w m1 v g g' p)]
  on_goal 4 => unfold out0_A_8; rw [View.read_writes_eq_canon _ _ _ (cover0_A_8 (F := Ideal) c i a3 h3 a4 h4 a5 h5 a6 h6 a7 h7 a8 h8 a9 h9 a10 h10 a11 h11 w m1 v g g' p)]
  all_goals
    unfold kernelRun0_A
    dsimp only
    sl_unfold_words
    rw [View.canon_unit_zero zeros2]
    simp only [View.readAt_eq_ld, h3.read_unread, h4.read_unread, h5.read_unread, h6.read_unread, h7.read_unread, View.ld_unit_zero (S := S128x2048) zeros2]

/-- the table is the argument that holds the device's place -/
theorem table : word (c := c) (tbl m 0) = place m c := by
  refine (word_eq (c := c) (tbl m 0)).trans ?_
  obtain rfl : c = 0 := Subsingleton.elim _ _
  rfl

/-! ## The grid -/

/-- the block, of the whole arrays, that a point loads and writes; and of the halves -/
theorem starts : ∀ t : Fin grid0.N, (((cc0_transform_0 (grid0.coords t) 0 = t.val ∧ cc0_transform_0 (grid0.coords t) 1 = 0)
    ∧ (cc0_transform_1 (grid0.coords t) 0 = t.val ∧ cc0_transform_1 (grid0.coords t) 1 = 0)
    ∧ (cc0_transform_2 (grid0.coords t) 0 = t.val ∧ cc0_transform_2 (grid0.coords t) 1 = 0))
    ∧ (cc0_transform_3 (grid0.coords t) 0 = t.val % 2 ∧ cc0_transform_3 (grid0.coords t) 1 = 0)
    ∧ (cc0_transform_4 (grid0.coords t) 0 = t.val % 2 ∧ cc0_transform_4 (grid0.coords t) 1 = 0))
    ∧ (cc0_transform_5 (grid0.coords t) 0 = t.val ∧ cc0_transform_5 (grid0.coords t) 1 = 0)
    ∧ (cc0_transform_6 (grid0.coords t) 0 = t.val ∧ cc0_transform_6 (grid0.coords t) 1 = 0)
    ∧ (cc0_transform_7 (grid0.coords t) 0 = t.val ∧ cc0_transform_7 (grid0.coords t) 1 = 0)
    ∧ (cc0_transform_8 (grid0.coords t) 0 = t.val ∧ cc0_transform_8 (grid0.coords t) 1 = 0) := by decide +kernel

/-- the half a point is in -/
theorem half_of : ∀ t : Fin grid0.N, (grid0.coords t 0).val = t.val / 2 := by decide +kernel

/-- row `r` of block `t`, in the whole arrays and in a half -/
def row (t : Fin (grid m)) (r : Fin 128) : Fin 512 := ⟨t.val * 128 + r.val, by have := t.isLt; have := grid_eq m; omega⟩
def rowH (t : Fin (grid m)) (r : Fin 128) : Fin 256 := ⟨t.val % 2 * 128 + r.val, by omega⟩

theorem rows (R : Fin 512) : ∃ (t : Fin (grid m)) (r : Fin 128), R = row m t r := by
  have hN := grid_eq m
  exact ⟨⟨R.val / 128, by omega⟩, ⟨R.val % 128, by omega⟩, Fin.ext (by show R.val = R.val / 128 * 128 + R.val % 128; omega)⟩

theorem block_w (t : Fin (grid m)) (r : Fin 128) (l : Fin 2048) : iblk m (hO m) c 0 t (ix2 r l) = argW m c (ix2 (row m t r) l) := by
  unfold iblk
  refine (View.read_apply _ _).trans ?_
  show m (c.tc.loc main_arg0) _ = m (c.tc.loc main_arg0) _
  congr 1
  funext a
  apply Fin.ext
  match a with
  | ⟨0, _⟩ => show cc0_transform_0 (grid0.coords t) 0 * 128 + 1 * r.val = t.val * 128 + r.val; rw [(starts t).1.1.1.1]; omega
  | ⟨1, _⟩ => show cc0_transform_0 (grid0.coords t) 1 * 2048 + 1 * l.val = l.val; rw [(starts t).1.1.1.2]; omega

theorem block_m (t : Fin (grid m)) (r : Fin 128) (l : Fin 2048) : iblk m (hO m) c 1 t (ix2 r l) = argM m c (ix2 (row m t r) l) := by
  unfold iblk
  refine (View.read_apply _ _).trans ?_
  show m (c.tc.loc main_arg1) _ = m (c.tc.loc main_arg1) _
  congr 1
  funext a
  apply Fin.ext
  match a with
  | ⟨0, _⟩ => show cc0_transform_1 (grid0.coords t) 0 * 128 + 1 * r.val = t.val * 128 + r.val; rw [(starts t).1.1.2.1.1]; omega
  | ⟨1, _⟩ => show cc0_transform_1 (grid0.coords t) 1 * 2048 + 1 * l.val = l.val; rw [(starts t).1.1.2.1.2]; omega

theorem block_v (t : Fin (grid m)) (r : Fin 128) (l : Fin 2048) : iblk m (hO m) c 2 t (ix2 r l) = argV m c (ix2 (row m t r) l) := by
  unfold iblk
  refine (View.read_apply _ _).trans ?_
  show m (c.tc.loc main_arg2) _ = m (c.tc.loc main_arg2) _
  congr 1
  funext a
  apply Fin.ext
  match a with
  | ⟨0, _⟩ => show cc0_transform_2 (grid0.coords t) 0 * 128 + 1 * r.val = t.val * 128 + r.val; rw [(starts t).1.1.2.2.1]; omega
  | ⟨1, _⟩ => show cc0_transform_2 (grid0.coords t) 1 * 2048 + 1 * l.val = l.val; rw [(starts t).1.1.2.2.2]; omega

theorem block_mine (t : Fin (grid m)) (r : Fin 128) (l : Fin 2048) : iblk m (hO m) c 3 t (ix2 r l) = mine m c (ix2 (rowH m t r) l) := by
  unfold iblk
  refine (View.read_apply _ _).trans ?_
  show m (c.tc.loc main_arg3) _ = m (c.tc.loc main_arg3) _
  congr 1
  funext a
  apply Fin.ext
  match a with
  | ⟨0, _⟩ => show cc0_transform_3 (grid0.coords t) 0 * 128 + 1 * r.val = t.val % 2 * 128 + r.val; rw [(starts t).1.2.1.1]; omega
  | ⟨1, _⟩ => show cc0_transform_3 (grid0.coords t) 1 * 2048 + 1 * l.val = l.val; rw [(starts t).1.2.1.2]; omega

theorem block_theirs (t : Fin (grid m)) (r : Fin 128) (l : Fin 2048) : iblk m (hO m) c 4 t (ix2 r l) = theirs m c (ix2 (rowH m t r) l) := by
  unfold iblk
  refine (View.read_apply _ _).trans ?_
  show m (c.tc.loc main_arg4) _ = m (c.tc.loc main_arg4) _
  congr 1
  funext a
  apply Fin.ext
  match a with
  | ⟨0, _⟩ => show cc0_transform_4 (grid0.coords t) 0 * 128 + 1 * r.val = t.val % 2 * 128 + r.val; rw [(starts t).1.2.2.1]; omega
  | ⟨1, _⟩ => show cc0_transform_4 (grid0.coords t) 1 * 2048 + 1 * l.val = l.val; rw [(starts t).1.2.2.2]; omega

/-! ## The results, entry by entry -/

/-- `stored` at point `t`: its blocks, and the device's place -/
theorem left_at (t : Fin (grid m)) :
    (outsAt0 m (hO m) c t).1 = k0_pay1 (F := Ideal) (grid0.coords t) (place m c) (iblk m (hO m) c 3 t) (iblk m (hO m) c 4 t)
    ∧ (outsAt0 m (hO m) c t).2.1 = k0_pay4 (F := Ideal) (grid0.coords t) (place m c) (iblk m (hO m) c 3 t) (iblk m (hO m) c 4 t) (iblk m (hO m) c 1 t) (iblk m (hO m) c 2 t) (iblk m (hO m) c 0 t)
    ∧ (outsAt0 m (hO m) c t).2.2.1 = k0_pay2 (F := Ideal) (grid0.coords t) (place m c) (iblk m (hO m) c 3 t) (iblk m (hO m) c 4 t) (iblk m (hO m) c 1 t)
    ∧ (outsAt0 m (hO m) c t).2.2.2 = k0_pay3 (F := Ideal) (grid0.coords t) (place m c) (iblk m (hO m) c 3 t) (iblk m (hO m) c 4 t) (iblk m (hO m) c 2 t) := by
  unfold outsAt0
  dsimp only
  rw [← table m c]
  exact stored c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (iblk m (hO m) c 0 t) (iblk m (hO m) c 1 t) (iblk m (hO m) c 2 t) (iblk m (hO m) c 3 t) (iblk m (hO m) c 4 t) (tbl m 0)

set_option maxHeartbeats 4000000 in
theorem grad_at (t : Fin (grid m)) (r : Fin 128) (l : Fin 2048) :
    (dats m (hO m) 0 c).arrAt 5 (grid m) (ix2 (row m t r) l) = k0_pay1 (F := Ideal) (grid0.coords t) (place m c) (iblk m (hO m) c 3 t) (iblk m (hO m) c 4 t) (ix2 r l) := by
  have hinj : ∀ s s' : Fin grid0.N, cc0_transform_5 (grid0.coords s) = cc0_transform_5 (grid0.coords s') → s = s' :=
    fun s s' h => Fin.ext (by have := congrFun h 0; rwa [(starts s).2.1.1, (starts s').2.1.1] at this)
  have hb := congrFun ((dats m (hO m) 0 c).read_blk_arrAt_eq_flushed 5
    (fun s s' _ _ hne => ((cfgM m (hO m)).win 5).disjoint_blk fun h => hne (hinj s s' h)) (grid m) t t.isLt (flush0_5 _ t)) (ix2 r l)
  have hf : (dats m (hO m) 0 c).flushed 5 t = ((cfgM m (hO m)).win 5).cut (grid0.coords t) (k0_pay1 (F := Ideal) (grid0.coords t) (place m c) (iblk m (hO m) c 3 t) (iblk m (hO m) c 4 t)) := by
    show ((cfgM m (hO m)).win 5).cut (grid0.coords t) ((dats m (hO m) 0 c).after 5 t) = _
    rw [after0_5, (left_at m c t).1]
  refine (Eq.trans ?_ (View.read_apply _ _).symm).trans (hb.trans (congrFun hf _))
  congr 1
  funext a
  apply Fin.ext
  match a with
  | ⟨0, _⟩ => show t.val * 128 + r.val = cc0_transform_5 (grid0.coords t) 0 * 128 + 1 * r.val; rw [(starts t).2.1.1]; omega
  | ⟨1, _⟩ => show l.val = cc0_transform_5 (grid0.coords t) 1 * 2048 + 1 * l.val; rw [(starts t).2.1.2]; omega

set_option maxHeartbeats 4000000 in
theorem delta_at (t : Fin (grid m)) (r : Fin 128) (l : Fin 2048) :
    (dats m (hO m) 0 c).arrAt 6 (grid m) (ix2 (row m t r) l) = k0_pay4 (F := Ideal) (grid0.coords t) (place m c) (iblk m (hO m) c 3 t) (iblk m (hO m) c 4 t) (iblk m (hO m) c 1 t) (iblk m (hO m) c 2 t) (iblk m (hO m) c 0 t) (ix2 r l) := by
  have hinj : ∀ s s' : Fin grid0.N, cc0_transform_6 (grid0.coords s) = cc0_transform_6 (grid0.coords s') → s = s' :=
    fun s s' h => Fin.ext (by have := congrFun h 0; rwa [(starts s).2.2.1.1, (starts s').2.2.1.1] at this)
  have hb := congrFun ((dats m (hO m) 0 c).read_blk_arrAt_eq_flushed 6
    (fun s s' _ _ hne => ((cfgM m (hO m)).win 6).disjoint_blk fun h => hne (hinj s s' h)) (grid m) t t.isLt (flush0_6 _ t)) (ix2 r l)
  have hf : (dats m (hO m) 0 c).flushed 6 t = ((cfgM m (hO m)).win 6).cut (grid0.coords t) (k0_pay4 (F := Ideal) (grid0.coords t) (place m c) (iblk m (hO m) c 3 t) (iblk m (hO m) c 4 t) (iblk m (hO m) c 1 t) (iblk m (hO m) c 2 t) (iblk m (hO m) c 0 t)) := by
    show ((cfgM m (hO m)).win 6).cut (grid0.coords t) ((dats m (hO m) 0 c).after 6 t) = _
    rw [after0_6, (left_at m c t).2.1]
  refine (Eq.trans ?_ (View.read_apply _ _).symm).trans (hb.trans (congrFun hf _))
  congr 1
  funext a
  apply Fin.ext
  match a with
  | ⟨0, _⟩ => show t.val * 128 + r.val = cc0_transform_6 (grid0.coords t) 0 * 128 + 1 * r.val; rw [(starts t).2.2.1.1]; omega
  | ⟨1, _⟩ => show l.val = cc0_transform_6 (grid0.coords t) 1 * 2048 + 1 * l.val; rw [(starts t).2.2.1.2]; omega

set_option maxHeartbeats 4000000 in
theorem first_at (t : Fin (grid m)) (r : Fin 128) (l : Fin 2048) :
    (dats m (hO m) 0 c).arrAt 7 (grid m) (ix2 (row m t r) l) = k0_pay2 (F := Ideal) (grid0.coords t) (place m c) (iblk m (hO m) c 3 t) (iblk m (hO m) c 4 t) (iblk m (hO m) c 1 t) (ix2 r l) := by
  have hinj : ∀ s s' : Fin grid0.N, cc0_transform_7 (grid0.coords s) = cc0_transform_7 (grid0.coords s') → s = s' :=
    fun s s' h => Fin.ext (by have := congrFun h 0; rwa [(starts s).2.2.2.1.1, (starts s').2.2.2.1.1] at this)
  have hb := congrFun ((dats m (hO m) 0 c).read_blk_arrAt_eq_flushed 7
    (fun s s' _ _ hne => ((cfgM m (hO m)).win 7).disjoint_blk fun h => hne (hinj s s' h)) (grid m) t t.isLt (flush0_7 _ t)) (ix2 r l)
  have hf : (dats m (hO m) 0 c).flushed 7 t = ((cfgM m (hO m)).win 7).cut (grid0.coords t) (k0_pay2 (F := Ideal) (grid0.coords t) (place m c) (iblk m (hO m) c 3 t) (iblk m (hO m) c 4 t) (iblk m (hO m) c 1 t)) := by
    show ((cfgM m (hO m)).win 7).cut (grid0.coords t) ((dats m (hO m) 0 c).after 7 t) = _
    rw [after0_7, (left_at m c t).2.2.1]
  refine (Eq.trans ?_ (View.read_apply _ _).symm).trans (hb.trans (congrFun hf _))
  congr 1
  funext a
  apply Fin.ext
  match a with
  | ⟨0, _⟩ => show t.val * 128 + r.val = cc0_transform_7 (grid0.coords t) 0 * 128 + 1 * r.val; rw [(starts t).2.2.2.1.1]; omega
  | ⟨1, _⟩ => show l.val = cc0_transform_7 (grid0.coords t) 1 * 2048 + 1 * l.val; rw [(starts t).2.2.2.1.2]; omega

set_option maxHeartbeats 4000000 in
theorem second_at (t : Fin (grid m)) (r : Fin 128) (l : Fin 2048) :
    (dats m (hO m) 0 c).arrAt 8 (grid m) (ix2 (row m t r) l) = k0_pay3 (F := Ideal) (grid0.coords t) (place m c) (iblk m (hO m) c 3 t) (iblk m (hO m) c 4 t) (iblk m (hO m) c 2 t) (ix2 r l) := by
  have hinj : ∀ s s' : Fin grid0.N, cc0_transform_8 (grid0.coords s) = cc0_transform_8 (grid0.coords s') → s = s' :=
    fun s s' h => Fin.ext (by have := congrFun h 0; rwa [(starts s).2.2.2.2.1, (starts s').2.2.2.2.1] at this)
  have hb := congrFun ((dats m (hO m) 0 c).read_blk_arrAt_eq_flushed 8
    (fun s s' _ _ hne => ((cfgM m (hO m)).win 8).disjoint_blk fun h => hne (hinj s s' h)) (grid m) t t.isLt (flush0_8 _ t)) (ix2 r l)
  have hf : (dats m (hO m) 0 c).flushed 8 t = ((cfgM m (hO m)).win 8).cut (grid0.coords t) (k0_pay3 (F := Ideal) (grid0.coords t) (place m c) (iblk m (hO m) c 3 t) (iblk m (hO m) c 4 t) (iblk m (hO m) c 2 t)) := by
    show ((cfgM m (hO m)).win 8).cut (grid0.coords t) ((dats m (hO m) 0 c).after 8 t) = _
    rw [after0_8, (left_at m c t).2.2.2]
  refine (Eq.trans ?_ (View.read_apply _ _).symm).trans (hb.trans (congrFun hf _))
  congr 1
  funext a
  apply Fin.ext
  match a with
  | ⟨0, _⟩ => show t.val * 128 + r.val = cc0_transform_8 (grid0.coords t) 0 * 128 + 1 * r.val; rw [(starts t).2.2.2.2.1]; omega
  | ⟨1, _⟩ => show l.val = cc0_transform_8 (grid0.coords t) 1 * 2048 + 1 * l.val; rw [(starts t).2.2.2.2.2]; omega

/-- The run: the four result arrays, and the arguments as they were. -/
theorem run : θ_run defs (onTc (τ := τ) (main (F := Ideal))) ⟨m, fun _ => 0, ρ⟩ fun r => ∀ c : Dev nD,
      r.2.mem ((c : Thread nD τ).loc main_v0_0) = (dats m (hO m) 0 c).arrAt 5 (grid m)
      ∧ r.2.mem ((c : Thread nD τ).loc main_v0_1) = (dats m (hO m) 0 c).arrAt 6 (grid m)
      ∧ r.2.mem ((c : Thread nD τ).loc main_v0_2) = (dats m (hO m) 0 c).arrAt 7 (grid m)
      ∧ r.2.mem ((c : Thread nD τ).loc main_v0_3) = (dats m (hO m) 0 c).arrAt 8 (grid m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.2 c).1 5, (h.2 c).1 6, (h.2 c).1 7, (h.2 c).1 8, h.1 c⟩)
    (θ_run_and (unchanged m ρ (hO m)) (run_main m ρ (hO m)))

/-- the gradient's entry: of this device's half where the point's half is the device's, else of the other's -/
def pick (t : Fin (grid m)) (r : Fin 128) (l : Fin 2048) : EReal :=
  Scalar.select (Scalar.cmpi .eq (BitVec.ofNat 32 (t.val / 2)) (place m c)) (mine m c (ix2 (rowH m t r) l)) (theirs m c (ix2 (rowH m t r) l))

theorem chosen (i : grid0.Coords) (p : BitVec 32) (g g' : FVec Ideal S128x2048 .f32) (r : Fin 128) (l : Fin 2048) :
    k0_pay1 (F := Ideal) i p g g' (ix2 r l) = Scalar.select (Scalar.cmpi .eq (BitVec.ofNat 32 (i 0).val) p) (g (ix2 r l)) (g' (ix2 r l)) := by
  unfold k0_pay1
  dsimp only
  unfold Scalar.select
  split <;> rfl

theorem picked (t : Fin (grid m)) (r : Fin 128) (l : Fin 2048) :
    k0_pay1 (F := Ideal) (grid0.coords t) (place m c) (iblk m (hO m) c 3 t) (iblk m (hO m) c 4 t) (ix2 r l) = pick m c t r l := by
  refine (chosen _ _ _ _ r l).trans ?_
  unfold pick
  rw [half_of t, block_mine, block_theirs]

/-- The same entry, named by its row of the whole array: the row's half, and its place in it. -/
theorem pick_eq (t : Fin (grid m)) (r : Fin 128) (l : Fin 2048) (h : (row m t r).val % 256 < 256) :
    Scalar.select (IntOp.cmpi .eq (BitVec.ofNat 32 ((row m t r).val / 256)) (place m c))
      (mine m c (ix2 ⟨(row m t r).val % 256, h⟩ l)) (theirs m c (ix2 ⟨(row m t r).val % 256, h⟩ l)) = pick m c t r l := by
  have hq : (row m t r).val / 256 = t.val / 2 := by show (t.val * 128 + r.val) / 256 = _; omega
  have hm : (⟨(row m t r).val % 256, h⟩ : Fin 256) = rowH m t r := Fin.ext (by show (t.val * 128 + r.val) % 256 = t.val % 2 * 128 + r.val; omega)
  rw [hq, hm]
  rfl

end Cert.KernelHalvesOutIdeal.Rows

namespace Cert.HalvesOut

open Idealize.ShloMosaic Idealize.ShloMosaic.TcCoe Idealize.SL.Sem

/-- The reference leaves its arguments as they are, and has no semaphore. -/
theorem reference_frame : Cert.quiescent_ReferenceHalvesOutIdeal (hReferenceHalvesOutIdeal := Cert.ReferenceHalvesOutIdeal.Gen.facts) :=
  fun m ρ _ => (θ_run _ _ _).mono (fun r h => ⟨fun c => (h c).2.2.2.2, sem_eq_zero_of_no_sems (by decide) r.2⟩) (Cert.ReferenceHalvesOutIdeal.Value.run (F := Ideal) m ρ)

set_option maxHeartbeats 4000000 in
theorem algebraic : Cert.algebraic_KernelHalvesOutIdeal_ReferenceHalvesOutIdeal
    (hKernelHalvesOutIdeal := Cert.KernelHalvesOutIdeal.Gen.facts) (hReferenceHalvesOutIdeal := Cert.ReferenceHalvesOutIdeal.Gen.facts) := by
  intro m ρ m' ρ' _ hagree
  refine ⟨_, _, _, _, Cert.KernelHalvesOutIdeal.Rows.run m ρ, ?_⟩
  refine (θ_run _ _ _).mono (fun _ h c => ⟨(h c).1.trans ?_, (h c).2.1.trans ?_, (h c).2.2.1.trans ?_, (h c).2.2.2.1.trans ?_, (h c).2.2.2.2⟩) (Cert.ReferenceHalvesOutIdeal.Value.run (F := Ideal) m' ρ')
  all_goals
    obtain ⟨e0, e1, e2, e3, e4, e5⟩ := hagree c
    first | rw [e0, e1, e2, e3, e4, e5] | rw [e1, e2, e3, e4, e5] | rw [e1, e3, e4, e5] | rw [e2, e3, e4, e5] | rw [e3, e4, e5]
    clear e0 e1 e2 e3 e4 e5
    funext i
    obtain ⟨R, l, rfl⟩ : ∃ R l, i = ix2 R l := ⟨i 0, i 1, funext fun a => by fin_cases a <;> rfl⟩
    obtain ⟨t, r, rfl⟩ := Cert.KernelHalvesOutIdeal.Rows.rows m R
  · refine Eq.trans ?_ ((Cert.KernelHalvesOutIdeal.Rows.picked m c t r l).symm.trans (Cert.KernelHalvesOutIdeal.Rows.grad_at m c t r l).symm)
    pointwise []
    rw [Cert.KernelHalvesOutIdeal.Rows.pick_eq]
  · refine Eq.trans ?_ (Cert.KernelHalvesOutIdeal.Rows.delta_at m c t r l).symm
    pointwise [Cert.KernelHalvesOutIdeal.Gen.k0_pay2, Cert.KernelHalvesOutIdeal.Gen.k0_pay3, Cert.KernelHalvesOutIdeal.Gen.k0_pay4]
    rw [Cert.KernelHalvesOutIdeal.Rows.pick_eq, Cert.KernelHalvesOutIdeal.Rows.picked, Cert.KernelHalvesOutIdeal.Rows.block_m, Cert.KernelHalvesOutIdeal.Rows.block_v, Cert.KernelHalvesOutIdeal.Rows.block_w]
  · refine Eq.trans ?_ (Cert.KernelHalvesOutIdeal.Rows.first_at m c t r l).symm
    pointwise [Cert.KernelHalvesOutIdeal.Gen.k0_pay2]
    rw [Cert.KernelHalvesOutIdeal.Rows.pick_eq, Cert.KernelHalvesOutIdeal.Rows.picked, Cert.KernelHalvesOutIdeal.Rows.block_m]
  · refine Eq.trans ?_ (Cert.KernelHalvesOutIdeal.Rows.second_at m c t r l).symm
    pointwise [Cert.KernelHalvesOutIdeal.Gen.k0_pay3]
    rw [Cert.KernelHalvesOutIdeal.Rows.pick_eq, Cert.KernelHalvesOutIdeal.Rows.picked, Cert.KernelHalvesOutIdeal.Rows.block_v]

end Cert.HalvesOut
-- ==== Proof.HalvesSmall.lean ====
/-
  The update of the packed small sharded weights from its two halves of the gradient: every entry of the four results is a function of the same
  entry of the arguments, the gradient's being the entry of this device's half or of the other's, by the device's place.
-/
module

public import proofs.«01_k».proof.Defs
public import proofs.«01_k».proof.Proof.Blocked
public import proofs.«01_k».proof.Proof.Gen.KernelHalvesSmallIdeal.Frame
public import proofs.«01_k».proof.Proof.Gen.ReferenceHalvesSmallIdeal.Run
public import Idealize.ShloMosaic.Lib.Pipeline.Value

@[expose] public section

set_option maxRecDepth 65536

noncomputable section

namespace Cert.KernelHalvesSmallIdeal.Rows

open Idealize.ShloMosaic Idealize.ShloMosaic.TcCoe Idealize.SL.Sem Cert.KernelHalvesSmallIdeal Cert.KernelHalvesSmallIdeal.Gen Cert.Blocked

variable (m : (ℓ : Loc nD τ sig) → Buf (Elt Ideal) ℓ) (ρ : Dev nD → PrngReg) (c : Dev nD)

abbrev argW : FVec Ideal S576x128 .f32 := m (c.tc.loc main_arg0)
abbrev argM : FVec Ideal S576x128 .f32 := m (c.tc.loc main_arg1)
abbrev argV : FVec Ideal S576x128 .f32 := m (c.tc.loc main_arg2)
abbrev mine : FVec Ideal S288x128 .f32 := m (c.tc.loc main_arg3)
abbrev theirs : FVec Ideal S288x128 .f32 := m (c.tc.loc main_arg4)
/-- which half this device's is -/
abbrev place : BitVec 32 := (m (c.tc.loc main_arg5) : IVec S1 32) (ix1 0)

/-- the index maps read no table, so any contents of it are admissible -/
abbrev hO : Ok m := trivial

abbrev grid : Nat := (cfgM m (hO m)).N
theorem grid_eq : grid m = 2 := by show grid0.N = 2; decide +kernel

/-! ## One point of the grid -/

/-- the word a point's body reads of the table -/
abbrev word {c : Dev nD} (p : TbBuf0 (F := Ideal) c tbM0_0) : BitVec 32 :=
  View.ld (View.read (Elt Ideal) (View.whole main_arg5) p) (Rect.unit ![0] ![1] inb_S1_S1_0) (Shape.Idx.first (numel1_S1.symm ▸ Nat.one_pos))

theorem word_eq {c : Dev nD} (p : TbBuf0 (F := Ideal) c tbM0_0) : word p = (p : IVec S1 32) (ix1 0) := by
  show (p : IVec S1 32) _ = _
  congr 1
  funext a
  match a with
  | ⟨0, _⟩ => exact Subsingleton.elim (α := Fin 1) _ _

/-- what a point's body leaves in the four output blocks, from the blocks it loads and the table's word -/
theorem stored (i : grid0.Coords)
    (a3 : Memref sig .tc .vmem S288x128 .f32) (h3 : a3.IsWhole)
    (a4 : Memref sig .tc .vmem S288x128 .f32) (h4 : a4.IsWhole)
    (a5 : Memref sig .tc .vmem S288x128 .f32) (h5 : a5.IsWhole)
    (a6 : Memref sig .tc .vmem S288x128 .f32) (h6 : a6.IsWhole)
    (a7 : Memref sig .tc .vmem S288x128 .f32) (h7 : a7.IsWhole)
    (a8 : Memref sig .tc .vmem S288x128 .f32) (h8 : a8.IsWhole)
    (a9 : Memref sig .tc .vmem S288x128 .f32) (h9 : a9.IsWhole)
    (a10 : Memref sig .tc .vmem S288x128 .f32) (h10 : a10.IsWhole)
    (a11 : Memref sig .tc .vmem S288x128 .f32) (h11 : a11.IsWhole)
    (w m1 v g g' : FVec Ideal S288x128 .f32) (p : TbBuf0 (F := Ideal) c tbM0_0) :
    out0_A_5 (F := Ideal) c i a3 h3 a4 h4 a5 h5 a6 h6 a7 h7 a8 h8 a9 h9 a10 h10 a11 h11 w m1 v g g' p = k0_pay1 (F := Ideal) i (word p) g g'
    ∧ out0_A_6 (F := Ideal) c i a3 h3 a4 h4 a5 h5 a6 h6 a7 h7 a8 h8 a9 h9 a10 h10 a11 h11 w m1 v g g' p = k0_pay4 (F := Ideal) i (word p) g g' m1 v w
    ∧ out0_A_7 (F := Ideal) c i a3 h3 a4 h4 a5 h5 a6 h6 a7 h7 a8 h8 a9 h9 a10 h10 a11 h11 w m1 v g g' p = k0_pay2 (F := Ideal) i (word p) g g' m1
    ∧ out0_A_8 (F := Ideal) c i a3 h3 a4 h4 a5 h5 a6 h6 a7 h7 a8 h8 a9 h9 a10 h10 a11 h11 w m1 v g g' p = k0_pay3 (F := Ideal) i (word p) g g' v := by
  refine ⟨?_, ?_, ?_, ?_⟩
  on_goal 1 => unfold out0_A_5; rw [View.read_writes_eq_canon _ _ _ (cover0_A_5 (F := Ideal) c i a3 h3 a4 h4 a5 h5 a6 h6 a7 h7 a8 h8 a9 h9 a10 h10 a11 h11 w m1 v g g' p)]
  on_goal 2 => unfold out0_A_6; rw [View.read_writes_eq_canon _ _ _ (cover0_A_6 (F := Ideal) c i a3 h3 a4 h4 a5 h5 a6 h6 a7 h7 a8 h8 a9 h9 a10 h10 a11 h11 w m1 v g g' p)]
  on_goal 3 => unfold out0_A_7; rw [View.read_writes_eq_canon _ _ _ (cover0_A_7 (F := Ideal) c i a3 h3 a4 h4 a5 h5 a6 h6 a7 h7 a8 h8 a9 h9 a10 h10 a11 h11 w m1 v g g' p)]
  on_goal 4 => unfold out0_A_8; rw [View.read_writes_eq_canon _ _ _ (cover0_A_8 (F := Ideal) c i a3 h3 a4 h4 a5 h5 a6 h6 a7 h7 a8 h8 a9 h9 a10 h10 a11 h11 w m1 v g g' p)]
  all_goals
    unfold kernelRun0_A
    dsimp only
    sl_unfold_words
    rw [View.canon_unit_zero zeros2]
    simp only [View.readAt_eq_ld, h3.read_unread, h4.read_unread, h5.read_unread, h6.read_unread, h7.read_unread, View.ld_unit_zero (S := S288x128) zeros2]

/-- the table is the argument that holds the device's place -/
theorem table : word (c := c) (tbl m 0) = place m c := by
  refine (word_eq (c := c) (tbl m 0)).trans ?_
  obtain rfl : c = 0 := Subsingleton.elim _ _
  rfl

/-! ## The grid -/

/-- the block, of the whole arrays, that a point loads and writes; and of the halves -/
theorem starts : ∀ t : Fin grid0.N, (((cc0_transform_0 (grid0.coords t) 0 = t.val ∧ cc0_transform_0 (grid0.coords t) 1 = 0)
    ∧ (cc0_transform_1 (grid0.coords t) 0 = t.val ∧ cc0_transform_1 (grid0.coords t) 1 = 0)
    ∧ (cc0_transform_2 (grid0.coords t) 0 = t.val ∧ cc0_transform_2 (grid0.coords t) 1 = 0))
    ∧ (cc0_transform_3 (grid0.coords t) 0 = t.val % 1 ∧ cc0_transform_3 (grid0.coords t) 1 = 0)
    ∧ (cc0_transform_4 (grid0.coords t) 0 = t.val % 1 ∧ cc0_transform_4 (grid0.coords t) 1 = 0))
    ∧ (cc0_transform_5 (grid0.coords t) 0 = t.val ∧ cc0_transform_5 (grid0.coords t) 1 = 0)
    ∧ (cc0_transform_6 (grid0.coords t) 0 = t.val ∧ cc0_transform_6 (grid0.coords t) 1 = 0)
    ∧ (cc0_transform_7 (grid0.coords t) 0 = t.val ∧ cc0_transform_7 (grid0.coords t) 1 = 0)
    ∧ (cc0_transform_8 (grid0.coords t) 0 = t.val ∧ cc0_transform_8 (grid0.coords t) 1 = 0) := by decide +kernel

/-- the half a point is in -/
theorem half_of : ∀ t : Fin grid0.N, (grid0.coords t 0).val = t.val / 1 := by decide +kernel

/-- row `r` of block `t`, in the whole arrays and in a half -/
def row (t : Fin (grid m)) (r : Fin 288) : Fin 576 := ⟨t.val * 288 + r.val, by have := t.isLt; have := grid_eq m; omega⟩
def rowH (t : Fin (grid m)) (r : Fin 288) : Fin 288 := ⟨t.val % 1 * 288 + r.val, by omega⟩

theorem rows (R : Fin 576) : ∃ (t : Fin (grid m)) (r : Fin 288), R = row m t r := by
  have hN := grid_eq m
  exact ⟨⟨R.val / 288, by omega⟩, ⟨R.val % 288, by omega⟩, Fin.ext (by show R.val = R.val / 288 * 288 + R.val % 288; omega)⟩

theorem block_w (t : Fin (grid m)) (r : Fin 288) (l : Fin 128) : iblk m (hO m) c 0 t (ix2 r l) = argW m c (ix2 (row m t r) l) := by
  unfold iblk
  refine (View.read_apply _ _).trans ?_
  show m (c.tc.loc main_arg0) _ = m (c.tc.loc main_arg0) _
  congr 1
  funext a
  apply Fin.ext
  match a with
  | ⟨0, _⟩ => show cc0_transform_0 (grid0.coords t) 0 * 288 + 1 * r.val = t.val * 288 + r.val; rw [(starts t).1.1.1.1]; omega
  | ⟨1, _⟩ => show cc0_transform_0 (grid0.coords t) 1 * 128 + 1 * l.val = l.val; rw [(starts t).1.1.1.2]; omega

theorem block_m (t : Fin (grid m)) (r : Fin 288) (l : Fin 128) : iblk m (hO m) c 1 t (ix2 r l) = argM m c (ix2 (row m t r) l) := by
  unfold iblk
  refine (View.read_apply _ _).trans ?_
  show m (c.tc.loc main_arg1) _ = m (c.tc.loc main_arg1) _
  congr 1
  funext a
  apply Fin.ext
  match a with
  | ⟨0, _⟩ => show cc0_transform_1 (grid0.coords t) 0 * 288 + 1 * r.val = t.val * 288 + r.val; rw [(starts t).1.1.2.1.1]; omega
  | ⟨1, _⟩ => show cc0_transform_1 (grid0.coords t) 1 * 128 + 1 * l.val = l.val; rw [(starts t).1.1.2.1.2]; omega

theorem block_v (t : Fin (grid m)) (r : Fin 288) (l : Fin 128) : iblk m (hO m) c 2 t (ix2 r l) = argV m c (ix2 (row m t r) l) := by
  unfold iblk
  refine (View.read_apply _ _).trans ?_
  show m (c.tc.loc main_arg2) _ = m (c.tc.loc main_arg2) _
  congr 1
  funext a
  apply Fin.ext
  match a with
  | ⟨0, _⟩ => show cc0_transform_2 (grid0.coords t) 0 * 288 + 1 * r.val = t.val * 288 + r.val; rw [(starts t).1.1.2.2.1]; omega
  | ⟨1, _⟩ => show cc0_transform_2 (grid0.coords t) 1 * 128 + 1 * l.val = l.val; rw [(starts t).1.1.2.2.2]; omega

theorem block_mine (t : Fin (grid m)) (r : Fin 288) (l : Fin 128) : iblk m (hO m) c 3 t (ix2 r l) = mine m c (ix2 (rowH m t r) l) := by
  unfold iblk
  refine (View.read_apply _ _).trans ?_
  show m (c.tc.loc main_arg3) _ = m (c.tc.loc main_arg3) _
  congr 1
  funext a
  apply Fin.ext
  match a with
  | ⟨0, _⟩ => show cc0_transform_3 (grid0.coords t) 0 * 288 + 1 * r.val = t.val % 1 * 288 + r.val; rw [(starts t).1.2.1.1]; omega
  | ⟨1, _⟩ => show cc0_transform_3 (grid0.coords t) 1 * 128 + 1 * l.val = l.val; rw [(starts t).1.2.1.2]; omega

theorem block_theirs (t : Fin (grid m)) (r : Fin 288) (l : Fin 128) : iblk m (hO m) c 4 t (ix2 r l) = theirs m c (ix2 (rowH m t r) l) := by
  unfold iblk
  refine (View.read_apply _ _).trans ?_
  show m (c.tc.loc main_arg4) _ = m (c.tc.loc main_arg4) _
  congr 1
  funext a
  apply Fin.ext
  match a with
  | ⟨0, _⟩ => show cc0_transform_4 (grid0.coords t) 0 * 288 + 1 * r.val = t.val % 1 * 288 + r.val; rw [(starts t).1.2.2.1]; omega
  | ⟨1, _⟩ => show cc0_transform_4 (grid0.coords t) 1 * 128 + 1 * l.val = l.val; rw [(starts t).1.2.2.2]; omega

/-! ## The results, entry by entry -/

/-- `stored` at point `t`: its blocks, and the device's place -/
theorem left_at (t : Fin (grid m)) :
    (outsAt0 m (hO m) c t).1 = k0_pay1 (F := Ideal) (grid0.coords t) (place m c) (iblk m (hO m) c 3 t) (iblk m (hO m) c 4 t)
    ∧ (outsAt0 m (hO m) c t).2.1 = k0_pay4 (F := Ideal) (grid0.coords t) (place m c) (iblk m (hO m) c 3 t) (iblk m (hO m) c 4 t) (iblk m (hO m) c 1 t) (iblk m (hO m) c 2 t) (iblk m (hO m) c 0 t)
    ∧ (outsAt0 m (hO m) c t).2.2.1 = k0_pay2 (F := Ideal) (grid0.coords t) (place m c) (iblk m (hO m) c 3 t) (iblk m (hO m) c 4 t) (iblk m (hO m) c 1 t)
    ∧ (outsAt0 m (hO m) c t).2.2.2 = k0_pay3 (F := Ideal) (grid0.coords t) (place m c) (iblk m (hO m) c 3 t) (iblk m (hO m) c 4 t) (iblk m (hO m) c 2 t) := by
  unfold outsAt0
  dsimp only
  rw [← table m c]
  exact stored c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (iblk m (hO m) c 0 t) (iblk m (hO m) c 1 t) (iblk m (hO m) c 2 t) (iblk m (hO m) c 3 t) (iblk m (hO m) c 4 t) (tbl m 0)

set_option maxHeartbeats 4000000 in
theorem grad_at (t : Fin (grid m)) (r : Fin 288) (l : Fin 128) :
    (dats m (hO m) 0 c).arrAt 5 (grid m) (ix2 (row m t r) l) = k0_pay1 (F := Ideal) (grid0.coords t) (place m c) (iblk m (hO m) c 3 t) (iblk m (hO m) c 4 t) (ix2 r l) := by
  have hinj : ∀ s s' : Fin grid0.N, cc0_transform_5 (grid0.coords s) = cc0_transform_5 (grid0.coords s') → s = s' :=
    fun s s' h => Fin.ext (by have := congrFun h 0; rwa [(starts s).2.1.1, (starts s').2.1.1] at this)
  have hb := congrFun ((dats m (hO m) 0 c).read_blk_arrAt_eq_flushed 5
    (fun s s' _ _ hne => ((cfgM m (hO m)).win 5).disjoint_blk fun h => hne (hinj s s' h)) (grid m) t t.isLt (flush0_5 _ t)) (ix2 r l)
  have hf : (dats m (hO m) 0 c).flushed 5 t = ((cfgM m (hO m)).win 5).cut (grid0.coords t) (k0_pay1 (F := Ideal) (grid0.coords t) (place m c) (iblk m (hO m) c 3 t) (iblk m (hO m) c 4 t)) := by
    show ((cfgM m (hO m)).win 5).cut (grid0.coords t) ((dats m (hO m) 0 c).after 5 t) = _
    rw [after0_5, (left_at m c t).1]
  refine (Eq.trans ?_ (View.read_apply _ _).symm).trans (hb.trans (congrFun hf _))
  congr 1
  funext a
  apply Fin.ext
  match a with
  | ⟨0, _⟩ => show t.val * 288 + r.val = cc0_transform_5 (grid0.coords t) 0 * 288 + 1 * r.val; rw [(starts t).2.1.1]; omega
  | ⟨1, _⟩ => show l.val = cc0_transform_5 (grid0.coords t) 1 * 128 + 1 * l.val; rw [(starts t).2.1.2]; omega

set_option maxHeartbeats 4000000 in
theorem delta_at (t : Fin (grid m)) (r : Fin 288) (l : Fin 128) :
    (dats m (hO m) 0 c).arrAt 6 (grid m) (ix2 (row m t r) l) = k0_pay4 (F := Ideal) (grid0.coords t) (place m c) (iblk m (hO m) c 3 t) (iblk m (hO m) c 4 t) (iblk m (hO m) c 1 t) (iblk m (hO m) c 2 t) (iblk m (hO m) c 0 t) (ix2 r l) := by
  have hinj : ∀ s s' : Fin grid0.N, cc0_transform_6 (grid0.coords s) = cc0_transform_6 (grid0.coords s') → s = s' :=
    fun s s' h => Fin.ext (by have := congrFun h 0; rwa [(starts s).2.2.1.1, (starts s').2.2.1.1] at this)
  have hb := congrFun ((dats m (hO m) 0 c).read_blk_arrAt_eq_flushed 6
    (fun s s' _ _ hne => ((cfgM m (hO m)).win 6).disjoint_blk fun h => hne (hinj s s' h)) (grid m) t t.isLt (flush0_6 _ t)) (ix2 r l)
  have hf : (dats m (hO m) 0 c).flushed 6 t = ((cfgM m (hO m)).win 6).cut (grid0.coords t) (k0_pay4 (F := Ideal) (grid0.coords t) (place m c) (iblk m (hO m) c 3 t) (iblk m (hO m) c 4 t) (iblk m (hO m) c 1 t) (iblk m (hO m) c 2 t) (iblk m (hO m) c 0 t)) := by
    show ((cfgM m (hO m)).win 6).cut (grid0.coords t) ((dats m (hO m) 0 c).after 6 t) = _
    rw [after0_6, (left_at m c t).2.1]
  refine (Eq.trans ?_ (View.read_apply _ _).symm).trans (hb.trans (congrFun hf _))
  congr 1
  funext a
  apply Fin.ext
  match a with
  | ⟨0, _⟩ => show t.val * 288 + r.val = cc0_transform_6 (grid0.coords t) 0 * 288 + 1 * r.val; rw [(starts t).2.2.1.1]; omega
  | ⟨1, _⟩ => show l.val = cc0_transform_6 (grid0.coords t) 1 * 128 + 1 * l.val; rw [(starts t).2.2.1.2]; omega

set_option maxHeartbeats 4000000 in
theorem first_at (t : Fin (grid m)) (r : Fin 288) (l : Fin 128) :
    (dats m (hO m) 0 c).arrAt 7 (grid m) (ix2 (row m t r) l) = k0_pay2 (F := Ideal) (grid0.coords t) (place m c) (iblk m (hO m) c 3 t) (iblk m (hO m) c 4 t) (iblk m (hO m) c 1 t) (ix2 r l) := by
  have hinj : ∀ s s' : Fin grid0.N, cc0_transform_7 (grid0.coords s) = cc0_transform_7 (grid0.coords s') → s = s' :=
    fun s s' h => Fin.ext (by have := congrFun h 0; rwa [(starts s).2.2.2.1.1, (starts s').2.2.2.1.1] at this)
  have hb := congrFun ((dats m (hO m) 0 c).read_blk_arrAt_eq_flushed 7
    (fun s s' _ _ hne => ((cfgM m (hO m)).win 7).disjoint_blk fun h => hne (hinj s s' h)) (grid m) t t.isLt (flush0_7 _ t)) (ix2 r l)
  have hf : (dats m (hO m) 0 c).flushed 7 t = ((cfgM m (hO m)).win 7).cut (grid0.coords t) (k0_pay2 (F := Ideal) (grid0.coords t) (place m c) (iblk m (hO m) c 3 t) (iblk m (hO m) c 4 t) (iblk m (hO m) c 1 t)) := by
    show ((cfgM m (hO m)).win 7).cut (grid0.coords t) ((dats m (hO m) 0 c).after 7 t) = _
    rw [after0_7, (left_at m c t).2.2.1]
  refine (Eq.trans ?_ (View.read_apply _ _).symm).trans (hb.trans (congrFun hf _))
  congr 1
  funext a
  apply Fin.ext
  match a with
  | ⟨0, _⟩ => show t.val * 288 + r.val = cc0_transform_7 (grid0.coords t) 0 * 288 + 1 * r.val; rw [(starts t).2.2.2.1.1]; omega
  | ⟨1, _⟩ => show l.val = cc0_transform_7 (grid0.coords t) 1 * 128 + 1 * l.val; rw [(starts t).2.2.2.1.2]; omega

set_option maxHeartbeats 4000000 in
theorem second_at (t : Fin (grid m)) (r : Fin 288) (l : Fin 128) :
    (dats m (hO m) 0 c).arrAt 8 (grid m) (ix2 (row m t r) l) = k0_pay3 (F := Ideal) (grid0.coords t) (place m c) (iblk m (hO m) c 3 t) (iblk m (hO m) c 4 t) (iblk m (hO m) c 2 t) (ix2 r l) := by
  have hinj : ∀ s s' : Fin grid0.N, cc0_transform_8 (grid0.coords s) = cc0_transform_8 (grid0.coords s') → s = s' :=
    fun s s' h => Fin.ext (by have := congrFun h 0; rwa [(starts s).2.2.2.2.1, (starts s').2.2.2.2.1] at this)
  have hb := congrFun ((dats m (hO m) 0 c).read_blk_arrAt_eq_flushed 8
    (fun s s' _ _ hne => ((cfgM m (hO m)).win 8).disjoint_blk fun h => hne (hinj s s' h)) (grid m) t t.isLt (flush0_8 _ t)) (ix2 r l)
  have hf : (dats m (hO m) 0 c).flushed 8 t = ((cfgM m (hO m)).win 8).cut (grid0.coords t) (k0_pay3 (F := Ideal) (grid0.coords t) (place m c) (iblk m (hO m) c 3 t) (iblk m (hO m) c 4 t) (iblk m (hO m) c 2 t)) := by
    show ((cfgM m (hO m)).win 8).cut (grid0.coords t) ((dats m (hO m) 0 c).after 8 t) = _
    rw [after0_8, (left_at m c t).2.2.2]
  refine (Eq.trans ?_ (View.read_apply _ _).symm).trans (hb.trans (congrFun hf _))
  congr 1
  funext a
  apply Fin.ext
  match a with
  | ⟨0, _⟩ => show t.val * 288 + r.val = cc0_transform_8 (grid0.coords t) 0 * 288 + 1 * r.val; rw [(starts t).2.2.2.2.1]; omega
  | ⟨1, _⟩ => show l.val = cc0_transform_8 (grid0.coords t) 1 * 128 + 1 * l.val; rw [(starts t).2.2.2.2.2]; omega

/-- The run: the four result arrays, and the arguments as they were. -/
theorem run : θ_run defs (onTc (τ := τ) (main (F := Ideal))) ⟨m, fun _ => 0, ρ⟩ fun r => ∀ c : Dev nD,
      r.2.mem ((c : Thread nD τ).loc main_v0_0) = (dats m (hO m) 0 c).arrAt 5 (grid m)
      ∧ r.2.mem ((c : Thread nD τ).loc main_v0_1) = (dats m (hO m) 0 c).arrAt 6 (grid m)
      ∧ r.2.mem ((c : Thread nD τ).loc main_v0_2) = (dats m (hO m) 0 c).arrAt 7 (grid m)
      ∧ r.2.mem ((c : Thread nD τ).loc main_v0_3) = (dats m (hO m) 0 c).arrAt 8 (grid m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.2 c).1 5, (h.2 c).1 6, (h.2 c).1 7, (h.2 c).1 8, h.1 c⟩)
    (θ_run_and (unchanged m ρ (hO m)) (run_main m ρ (hO m)))

/-- the gradient's entry: of this device's half where the point's half is the device's, else of the other's -/
def pick (t : Fin (grid m)) (r : Fin 288) (l : Fin 128) : EReal :=
  Scalar.select (Scalar.cmpi .eq (BitVec.ofNat 32 (t.val / 1)) (place m c)) (mine m c (ix2 (rowH m t r) l)) (theirs m c (ix2 (rowH m t r) l))

theorem chosen (i : grid0.Coords) (p : BitVec 32) (g g' : FVec Ideal S288x128 .f32) (r : Fin 288) (l : Fin 128) :
    k0_pay1 (F := Ideal) i p g g' (ix2 r l) = Scalar.select (Scalar.cmpi .eq (BitVec.ofNat 32 (i 0).val) p) (g (ix2 r l)) (g' (ix2 r l)) := by
  unfold k0_pay1
  dsimp only
  unfold Scalar.select
  split <;> rfl

theorem picked (t : Fin (grid m)) (r : Fin 288) (l : Fin 128) :
    k0_pay1 (F := Ideal) (grid0.coords t) (place m c) (iblk m (hO m) c 3 t) (iblk m (hO m) c 4 t) (ix2 r l) = pick m c t r l := by
  refine (chosen _ _ _ _ r l).trans ?_
  unfold pick
  rw [half_of t, block_mine, block_theirs]

/-- The same entry, named by its row of the whole array: the row's half, and its place in it. -/
theorem pick_eq (t : Fin (grid m)) (r : Fin 288) (l : Fin 128) (h : (row m t r).val % 288 < 288) :
    Scalar.select (IntOp.cmpi .eq (BitVec.ofNat 32 ((row m t r).val / 288)) (place m c))
      (mine m c (ix2 ⟨(row m t r).val % 288, h⟩ l)) (theirs m c (ix2 ⟨(row m t r).val % 288, h⟩ l)) = pick m c t r l := by
  have hq : (row m t r).val / 288 = t.val / 1 := by show (t.val * 288 + r.val) / 288 = _; omega
  have hm : (⟨(row m t r).val % 288, h⟩ : Fin 288) = rowH m t r := Fin.ext (by show (t.val * 288 + r.val) % 288 = t.val % 1 * 288 + r.val; omega)
  rw [hq, hm]
  rfl

end Cert.KernelHalvesSmallIdeal.Rows

namespace Cert.HalvesSmall

open Idealize.ShloMosaic Idealize.ShloMosaic.TcCoe Idealize.SL.Sem

/-- The reference leaves its arguments as they are, and has no semaphore. -/
theorem reference_frame : Cert.quiescent_ReferenceHalvesSmallIdeal (hReferenceHalvesSmallIdeal := Cert.ReferenceHalvesSmallIdeal.Gen.facts) :=
  fun m ρ _ => (θ_run _ _ _).mono (fun r h => ⟨fun c => (h c).2.2.2.2, sem_eq_zero_of_no_sems (by decide) r.2⟩) (Cert.ReferenceHalvesSmallIdeal.Value.run (F := Ideal) m ρ)

set_option maxHeartbeats 4000000 in
theorem algebraic : Cert.algebraic_KernelHalvesSmallIdeal_ReferenceHalvesSmallIdeal
    (hKernelHalvesSmallIdeal := Cert.KernelHalvesSmallIdeal.Gen.facts) (hReferenceHalvesSmallIdeal := Cert.ReferenceHalvesSmallIdeal.Gen.facts) := by
  intro m ρ m' ρ' _ hagree
  refine ⟨_, _, _, _, Cert.KernelHalvesSmallIdeal.Rows.run m ρ, ?_⟩
  refine (θ_run _ _ _).mono (fun _ h c => ⟨(h c).1.trans ?_, (h c).2.1.trans ?_, (h c).2.2.1.trans ?_, (h c).2.2.2.1.trans ?_, (h c).2.2.2.2⟩) (Cert.ReferenceHalvesSmallIdeal.Value.run (F := Ideal) m' ρ')
  all_goals
    obtain ⟨e0, e1, e2, e3, e4, e5⟩ := hagree c
    first | rw [e0, e1, e2, e3, e4, e5] | rw [e1, e2, e3, e4, e5] | rw [e1, e3, e4, e5] | rw [e2, e3, e4, e5] | rw [e3, e4, e5]
    clear e0 e1 e2 e3 e4 e5
    funext i
    obtain ⟨R, l, rfl⟩ : ∃ R l, i = ix2 R l := ⟨i 0, i 1, funext fun a => by fin_cases a <;> rfl⟩
    obtain ⟨t, r, rfl⟩ := Cert.KernelHalvesSmallIdeal.Rows.rows m R
  · refine Eq.trans ?_ ((Cert.KernelHalvesSmallIdeal.Rows.picked m c t r l).symm.trans (Cert.KernelHalvesSmallIdeal.Rows.grad_at m c t r l).symm)
    pointwise []
    rw [Cert.KernelHalvesSmallIdeal.Rows.pick_eq]
  · refine Eq.trans ?_ (Cert.KernelHalvesSmallIdeal.Rows.delta_at m c t r l).symm
    pointwise [Cert.KernelHalvesSmallIdeal.Gen.k0_pay2, Cert.KernelHalvesSmallIdeal.Gen.k0_pay3, Cert.KernelHalvesSmallIdeal.Gen.k0_pay4]
    rw [Cert.KernelHalvesSmallIdeal.Rows.pick_eq, Cert.KernelHalvesSmallIdeal.Rows.picked, Cert.KernelHalvesSmallIdeal.Rows.block_m, Cert.KernelHalvesSmallIdeal.Rows.block_v, Cert.KernelHalvesSmallIdeal.Rows.block_w]
  · refine Eq.trans ?_ (Cert.KernelHalvesSmallIdeal.Rows.first_at m c t r l).symm
    pointwise [Cert.KernelHalvesSmallIdeal.Gen.k0_pay2]
    rw [Cert.KernelHalvesSmallIdeal.Rows.pick_eq, Cert.KernelHalvesSmallIdeal.Rows.picked, Cert.KernelHalvesSmallIdeal.Rows.block_m]
  · refine Eq.trans ?_ (Cert.KernelHalvesSmallIdeal.Rows.second_at m c t r l).symm
    pointwise [Cert.KernelHalvesSmallIdeal.Gen.k0_pay3]
    rw [Cert.KernelHalvesSmallIdeal.Rows.pick_eq, Cert.KernelHalvesSmallIdeal.Rows.picked, Cert.KernelHalvesSmallIdeal.Rows.block_v]

end Cert.HalvesSmall
-- ==== Proof.Final.lean ====
/-
  The step's last block, its loss and the backward of both, over nine blocks of 256 rows: first the context's rows, which have no
  loss, then the tokens'. The gradients of the rows are written block by block, zeros for the context's; the loss and the gradients
  of the gate and of the last norm's weight are summed.
-/
module

public import proofs.«01_k».proof.Defs
public import proofs.«01_k».proof.Proof.Blocked
public import proofs.«01_k».proof.Proof.Gen.KernelFinalIdeal.Value
public import proofs.«01_k».proof.Proof.Gen.ReferenceFinalIdeal.Run
public import Idealize.ShloMosaic.Lib.VecWindow

@[expose] public section

set_option maxRecDepth 65536

noncomputable section

namespace Cert.KernelFinalIdeal.Rows

open Idealize.ShloMosaic Idealize.ShloMosaic.TcCoe Idealize.SL.Sem Cert.KernelFinalIdeal Cert.KernelFinalIdeal.Gen Cert.KernelFinalIdeal.Value Cert.Blocked

/-! ## What one point stores -/

section stored

variable (c : Dev nD) (i : grid0.Coords)
    (a1 : Memref sig .tc .vmem S256x2048 .f32) (h1 : a1.IsWhole) (a2 : Memref sig .tc .vmem S256x2048 .f32) (h2 : a2.IsWhole)
    (a3 : Memref sig .tc .vmem S256x2048 .f32) (h3 : a3.IsWhole) (a4 : Memref sig .tc .vmem S8x3x2048 .f32) (h4 : a4.IsWhole)
    (a5 : Memref sig .tc .vmem S1x2048 .f32) (h5 : a5.IsWhole) (a6 : Memref sig .tc .vmem S256x2048 .f32) (h6 : a6.IsWhole)
    (a7 : Memref sig .tc .vmem S256x2048 .bf16) (h7 : a7.IsWhole) (a8 : Memref sig .tc .vmem S8x128 .f32) (h8 : a8.IsWhole)
    (a9 : Memref sig .tc .vmem S8x6144 .f32) (h9 : a9.IsWhole) (a10 : Memref sig .tc .vmem S1x2048 .f32) (h10 : a10.IsWhole)
    (x0 x1 x2 : FVec Ideal S256x2048 .f32) (x3 : FVec Ideal S8x3x2048 .f32) (x4 : FVec Ideal S1x2048 .f32)
    (xl : FVec Ideal S8x128 .f32) (xm : FVec Ideal S8x6144 .f32) (xw : FVec Ideal S1x2048 .f32)

/-- the point's number, as the body reads it -/
abbrev number : BitVec 32 := BitVec.ofNat 32 (i 0).val
/-- the gradient of the block's rows -/
def storedRow : FVec Ideal S256x2048 .f32 :=
  k0_pay21 (F := Ideal) (number i) x4 (k0_pay9 x0 x1 x3) (k0_pay11 x0 x1 x3) (k0_pay12 x0 x1 x3) (k0_pay15 x0 x1 x2 x3 x4)
/-- the gradient of the rows that the gate multiplies -/
def storedOut : FVec Ideal S256x2048 .bf16 :=
  k0_pay1 (F := Ideal) (k0_pay22 (number i) x4 (k0_pay8 x3) (k0_pay9 x0 x1 x3) (k0_pay11 x0 x1 x3) (k0_pay12 x0 x1 x3) (k0_pay15 x0 x1 x2 x3 x4))
/-- the loss, on top of `xl` -/
def storedLoss : FVec Ideal S8x128 .f32 := k0_pay3 (F := Ideal) (k0_pay23 (number i) (k0_pay16 x0 x1 x2 x3 x4)) xl
/-- the modulation's gradient, on top of `xm` -/
def storedMod : FVec Ideal S8x6144 .f32 :=
  k0_pay5 (F := Ideal) (k0_pay20 (number i) x1 x4 (k0_pay9 x0 x1 x3) (k0_pay11 x0 x1 x3) (k0_pay12 x0 x1 x3) (k0_pay15 x0 x1 x2 x3 x4)) xm
/-- the weight's gradient, on top of `xw` -/
def storedWeight : FVec Ideal S1x2048 .f32 :=
  k0_pay7 (F := Ideal) (k0_pay18 (k0_pay13 x0 x1 x3) (k0_pay15 x0 x1 x2 x3 x4)) (Scalar.cmpi .sge (number i) 1#32) xw

theorem stored5_A (hc0 : cond0_0 i) (hc1 : cond0_1 i) (hc2 : cond0_2 i) :
    out0_A_5 (F := Ideal) c i a1 h1 a2 h2 a3 h3 a4 h4 a5 h5 a6 h6 a7 h7 a8 h8 a9 h9 a10 h10 hc0 hc1 hc2 x0 x1 x2 x3 x4 = storedRow i x0 x1 x2 x3 x4 := by
  unfold out0_A_5 storedRow
  rw [View.read_writes_eq_canon _ _ _ (cover0_A_5 (F := Ideal) c i a1 h1 a2 h2 a3 h3 a4 h4 a5 h5 a6 h6 a7 h7 a8 h8 a9 h9 a10 h10 hc0 hc1 hc2 x0 x1 x2 x3 x4)]
  unfold kernelRun0_A
  dsimp only
  sl_unfold_words
  rw [View.canon_unit_zero zeros2]
  simp only [View.readAt_eq_ld, h1.read_unread, h2.read_unread, h3.read_unread, h4.read_unread, h5.read_unread, h8.read_unread, h9.read_unread, h10.read_unread,
    View.ld_unit_zero (S := S256x2048) zeros2, View.ld_unit_zero (S := S1x2048) zeros2, View.ld_unit_zero (S := S8x6144) zeros2, View.ld_unit_zero (S := S8x128) zeros2,
    View.ld_unit_zero (S := S8x3x2048) zeros3, View.readCov_full (s := S1x2048), View.readCov_full (s := S8x6144), View.readCov_full (s := S8x128)]

theorem stored5_B (hc0 : ¬cond0_0 i) (hc1 : ¬cond0_1 i) (hc2 : ¬cond0_2 i) :
    out0_B_5 (F := Ideal) c i a1 h1 a2 h2 a3 h3 a4 h4 a5 h5 a6 h6 a7 h7 a8 h8 a9 h9 a10 h10 hc0 hc1 hc2 x0 x1 x2 x3 x4 xl xm xw = storedRow i x0 x1 x2 x3 x4 := by
  unfold out0_B_5 storedRow
  rw [View.read_writes_eq_canon _ _ _ (cover0_B_5 (F := Ideal) c i a1 h1 a2 h2 a3 h3 a4 h4 a5 h5 a6 h6 a7 h7 a8 h8 a9 h9 a10 h10 hc0 hc1 hc2 x0 x1 x2 x3 x4 xl xm xw)]
  unfold kernelRun0_B
  dsimp only
  sl_unfold_words
  rw [View.canon_unit_zero zeros2]
  simp only [View.readAt_eq_ld, h1.read_unread, h2.read_unread, h3.read_unread, h4.read_unread, h5.read_unread, h8.read_unread, h9.read_unread, h10.read_unread,
    View.ld_unit_zero (S := S256x2048) zeros2, View.ld_unit_zero (S := S1x2048) zeros2, View.ld_unit_zero (S := S8x6144) zeros2, View.ld_unit_zero (S := S8x128) zeros2,
    View.ld_unit_zero (S := S8x3x2048) zeros3, View.readCov_full (s := S1x2048), View.readCov_full (s := S8x6144), View.readCov_full (s := S8x128)]

theorem stored6_A (hc0 : cond0_0 i) (hc1 : cond0_1 i) (hc2 : cond0_2 i) :
    out0_A_6 (F := Ideal) c i a1 h1 a2 h2 a3 h3 a4 h4 a5 h5 a6 h6 a7 h7 a8 h8 a9 h9 a10 h10 hc0 hc1 hc2 x0 x1 x2 x3 x4 = storedOut i x0 x1 x2 x3 x4 := by
  unfold out0_A_6 storedOut
  rw [View.read_writes_eq_canon _ _ _ (cover0_A_6 (F := Ideal) c i a1 h1 a2 h2 a3 h3 a4 h4 a5 h5 a6 h6 a7 h7 a8 h8 a9 h9 a10 h10 hc0 hc1 hc2 x0 x1 x2 x3 x4)]
  unfold kernelRun0_A
  dsimp only
  sl_unfold_words
  rw [View.canon_unit_zero zeros2]
  simp only [View.readAt_eq_ld, h1.read_unread, h2.read_unread, h3.read_unread, h4.read_unread, h5.read_unread, h8.read_unread, h9.read_unread, h10.read_unread,
    View.ld_unit_zero (S := S256x2048) zeros2, View.ld_unit_zero (S := S1x2048) zeros2, View.ld_unit_zero (S := S8x6144) zeros2, View.ld_unit_zero (S := S8x128) zeros2,
    View.ld_unit_zero (S := S8x3x2048) zeros3, View.readCov_full (s := S1x2048), View.readCov_full (s := S8x6144), View.readCov_full (s := S8x128)]

theorem stored6_B (hc0 : ¬cond0_0 i) (hc1 : ¬cond0_1 i) (hc2 : ¬cond0_2 i) :
    out0_B_6 (F := Ideal) c i a1 h1 a2 h2 a3 h3 a4 h4 a5 h5 a6 h6 a7 h7 a8 h8 a9 h9 a10 h10 hc0 hc1 hc2 x0 x1 x2 x3 x4 xl xm xw = storedOut i x0 x1 x2 x3 x4 := by
  unfold out0_B_6 storedOut
  rw [View.read_writes_eq_canon _ _ _ (cover0_B_6 (F := Ideal) c i a1 h1 a2 h2 a3 h3 a4 h4 a5 h5 a6 h6 a7 h7 a8 h8 a9 h9 a10 h10 hc0 hc1 hc2 x0 x1 x2 x3 x4 xl xm xw)]
  unfold kernelRun0_B
  dsimp only
  sl_unfold_words
  rw [View.canon_unit_zero zeros2]
  simp only [View.readAt_eq_ld, h1.read_unread, h2.read_unread, h3.read_unread, h4.read_unread, h5.read_unread, h8.read_unread, h9.read_unread, h10.read_unread,
    View.ld_unit_zero (S := S256x2048) zeros2, View.ld_unit_zero (S := S1x2048) zeros2, View.ld_unit_zero (S := S8x6144) zeros2, View.ld_unit_zero (S := S8x128) zeros2,
    View.ld_unit_zero (S := S8x3x2048) zeros3, View.readCov_full (s := S1x2048), View.readCov_full (s := S8x6144), View.readCov_full (s := S8x128)]

theorem stored7_A (hc0 : cond0_0 i) (hc1 : cond0_1 i) (hc2 : cond0_2 i) :
    out0_A_7 (F := Ideal) c i a1 h1 a2 h2 a3 h3 a4 h4 a5 h5 a6 h6 a7 h7 a8 h8 a9 h9 a10 h10 hc0 hc1 hc2 x0 x1 x2 x3 x4 = storedLoss i x0 x1 x2 x3 x4 (k0_pay2 (F := Ideal)) := by
  unfold out0_A_7 storedLoss
  rw [View.read_writes_eq_canon _ _ _ (cover0_A_7 (F := Ideal) c i a1 h1 a2 h2 a3 h3 a4 h4 a5 h5 a6 h6 a7 h7 a8 h8 a9 h9 a10 h10 hc0 hc1 hc2 x0 x1 x2 x3 x4)]
  unfold kernelRun0_A
  dsimp only
  sl_unfold_words
  rw [View.canon_cons_unit_zero zeros2]
  simp only [View.readAt_eq_ld, h1.read_unread, h2.read_unread, h3.read_unread, h4.read_unread, h5.read_unread, h8.read_unread, h9.read_unread, h10.read_unread,
    View.ld_unit_zero (S := S256x2048) zeros2, View.ld_unit_zero (S := S1x2048) zeros2, View.ld_unit_zero (S := S8x6144) zeros2, View.ld_unit_zero (S := S8x128) zeros2,
    View.ld_unit_zero (S := S8x3x2048) zeros3, View.readCov_full (s := S1x2048), View.readCov_full (s := S8x6144), View.readCov_full (s := S8x128)]

theorem stored7_B (hc0 : ¬cond0_0 i) (hc1 : ¬cond0_1 i) (hc2 : ¬cond0_2 i) :
    out0_B_7 (F := Ideal) c i a1 h1 a2 h2 a3 h3 a4 h4 a5 h5 a6 h6 a7 h7 a8 h8 a9 h9 a10 h10 hc0 hc1 hc2 x0 x1 x2 x3 x4 xl xm xw = storedLoss i x0 x1 x2 x3 x4 xl := by
  unfold out0_B_7 storedLoss
  rw [View.read_writes_eq_canon _ _ _ (cover0_B_7 (F := Ideal) c i a1 h1 a2 h2 a3 h3 a4 h4 a5 h5 a6 h6 a7 h7 a8 h8 a9 h9 a10 h10 hc0 hc1 hc2 x0 x1 x2 x3 x4 xl xm xw)]
  unfold kernelRun0_B
  dsimp only
  sl_unfold_words
  rw [View.canon_unit_zero zeros2]
  simp only [View.readAt_eq_ld, h1.read_unread, h2.read_unread, h3.read_unread, h4.read_unread, h5.read_unread, h8.read_unread, h9.read_unread, h10.read_unread,
    View.ld_unit_zero (S := S256x2048) zeros2, View.ld_unit_zero (S := S1x2048) zeros2, View.ld_unit_zero (S := S8x6144) zeros2, View.ld_unit_zero (S := S8x128) zeros2,
    View.ld_unit_zero (S := S8x3x2048) zeros3, View.readCov_full (s := S1x2048), View.readCov_full (s := S8x6144), View.readCov_full (s := S8x128)]

theorem stored8_A (hc0 : cond0_0 i) (hc1 : cond0_1 i) (hc2 : cond0_2 i) :
    out0_A_8 (F := Ideal) c i a1 h1 a2 h2 a3 h3 a4 h4 a5 h5 a6 h6 a7 h7 a8 h8 a9 h9 a10 h10 hc0 hc1 hc2 x0 x1 x2 x3 x4 = storedMod i x0 x1 x2 x3 x4 (k0_pay4 (F := Ideal)) := by
  unfold out0_A_8 storedMod
  rw [View.read_writes_eq_canon _ _ _ (cover0_A_8 (F := Ideal) c i a1 h1 a2 h2 a3 h3 a4 h4 a5 h5 a6 h6 a7 h7 a8 h8 a9 h9 a10 h10 hc0 hc1 hc2 x0 x1 x2 x3 x4)]
  unfold kernelRun0_A
  dsimp only
  sl_unfold_words
  rw [View.canon_cons_unit_zero zeros2]
  simp only [View.readAt_eq_ld, h1.read_unread, h2.read_unread, h3.read_unread, h4.read_unread, h5.read_unread, h8.read_unread, h9.read_unread, h10.read_unread,
    View.ld_unit_zero (S := S256x2048) zeros2, View.ld_unit_zero (S := S1x2048) zeros2, View.ld_unit_zero (S := S8x6144) zeros2, View.ld_unit_zero (S := S8x128) zeros2,
    View.ld_unit_zero (S := S8x3x2048) zeros3, View.readCov_full (s := S1x2048), View.readCov_full (s := S8x6144), View.readCov_full (s := S8x128)]

theorem stored8_B (hc0 : ¬cond0_0 i) (hc1 : ¬cond0_1 i) (hc2 : ¬cond0_2 i) :
    out0_B_8 (F := Ideal) c i a1 h1 a2 h2 a3 h3 a4 h4 a5 h5 a6 h6 a7 h7 a8 h8 a9 h9 a10 h10 hc0 hc1 hc2 x0 x1 x2 x3 x4 xl xm xw = storedMod i x0 x1 x2 x3 x4 xm := by
  unfold out0_B_8 storedMod
  rw [View.read_writes_eq_canon _ _ _ (cover0_B_8 (F := Ideal) c i a1 h1 a2 h2 a3 h3 a4 h4 a5 h5 a6 h6 a7 h7 a8 h8 a9 h9 a10 h10 hc0 hc1 hc2 x0 x1 x2 x3 x4 xl xm xw)]
  unfold kernelRun0_B
  dsimp only
  sl_unfold_words
  rw [View.canon_unit_zero zeros2]
  simp only [View.readAt_eq_ld, h1.read_unread, h2.read_unread, h3.read_unread, h4.read_unread, h5.read_unread, h8.read_unread, h9.read_unread, h10.read_unread,
    View.ld_unit_zero (S := S256x2048) zeros2, View.ld_unit_zero (S := S1x2048) zeros2, View.ld_unit_zero (S := S8x6144) zeros2, View.ld_unit_zero (S := S8x128) zeros2,
    View.ld_unit_zero (S := S8x3x2048) zeros3, View.readCov_full (s := S1x2048), View.readCov_full (s := S8x6144), View.readCov_full (s := S8x128)]

theorem stored9_A (hc0 : cond0_0 i) (hc1 : cond0_1 i) (hc2 : cond0_2 i) :
    out0_A_9 (F := Ideal) c i a1 h1 a2 h2 a3 h3 a4 h4 a5 h5 a6 h6 a7 h7 a8 h8 a9 h9 a10 h10 hc0 hc1 hc2 x0 x1 x2 x3 x4 = storedWeight i x0 x1 x2 x3 x4 (k0_pay6 (F := Ideal)) := by
  unfold out0_A_9 storedWeight
  rw [View.read_writes_eq_canon _ _ _ (cover0_A_9 (F := Ideal) c i a1 h1 a2 h2 a3 h3 a4 h4 a5 h5 a6 h6 a7 h7 a8 h8 a9 h9 a10 h10 hc0 hc1 hc2 x0 x1 x2 x3 x4)]
  unfold kernelRun0_A
  dsimp only
  sl_unfold_words
  rw [View.canon_cons_unit_zero zeros2]
  simp only [View.readAt_eq_ld, h1.read_unread, h2.read_unread, h3.read_unread, h4.read_unread, h5.read_unread, h8.read_unread, h9.read_unread, h10.read_unread,
    View.ld_unit_zero (S := S256x2048) zeros2, View.ld_unit_zero (S := S1x2048) zeros2, View.ld_unit_zero (S := S8x6144) zeros2, View.ld_unit_zero (S := S8x128) zeros2,
    View.ld_unit_zero (S := S8x3x2048) zeros3, View.readCov_full (s := S1x2048), View.readCov_full (s := S8x6144), View.readCov_full (s := S8x128)]

theorem stored9_B (hc0 : ¬cond0_0 i) (hc1 : ¬cond0_1 i) (hc2 : ¬cond0_2 i) :
    out0_B_9 (F := Ideal) c i a1 h1 a2 h2 a3 h3 a4 h4 a5 h5 a6 h6 a7 h7 a8 h8 a9 h9 a10 h10 hc0 hc1 hc2 x0 x1 x2 x3 x4 xl xm xw = storedWeight i x0 x1 x2 x3 x4 xw := by
  unfold out0_B_9 storedWeight
  rw [View.read_writes_eq_canon _ _ _ (cover0_B_9 (F := Ideal) c i a1 h1 a2 h2 a3 h3 a4 h4 a5 h5 a6 h6 a7 h7 a8 h8 a9 h9 a10 h10 hc0 hc1 hc2 x0 x1 x2 x3 x4 xl xm xw)]
  unfold kernelRun0_B
  dsimp only
  sl_unfold_words
  rw [View.canon_unit_zero zeros2]
  simp only [View.readAt_eq_ld, h1.read_unread, h2.read_unread, h3.read_unread, h4.read_unread, h5.read_unread, h8.read_unread, h9.read_unread, h10.read_unread,
    View.ld_unit_zero (S := S256x2048) zeros2, View.ld_unit_zero (S := S1x2048) zeros2, View.ld_unit_zero (S := S8x6144) zeros2, View.ld_unit_zero (S := S8x128) zeros2,
    View.ld_unit_zero (S := S8x3x2048) zeros3, View.readCov_full (s := S1x2048), View.readCov_full (s := S8x6144), View.readCov_full (s := S8x128)]

end stored

/-! ## The grid -/

variable (m : (ℓ : Loc nD τ sig) → Buf (Elt Ideal) ℓ) (c : Dev nD)

abbrev argX : FVec Ideal S2048x2048 .f32 := m (c.tc.loc main_arg0)
abbrev argO : FVec Ideal S2304x2048 .f32 := m (c.tc.loc main_arg1)
abbrev argM : FVec Ideal S8x6144 .f32 := m (c.tc.loc main_arg2)
abbrev argW : FVec Ideal S1x2048 .f32 := m (c.tc.loc main_arg3)
abbrev argT : FVec Ideal S2048x2048 .f32 := m (c.tc.loc main_arg4)

/-- which blocks point `t` loads and writes -/
theorem starts : ∀ t : Fin cfg0.N, (win0_0.index t 0 = t.val - 1 ∧ win0_0.index t 1 = 0)
    ∧ (win0_1.index t 0 = t.val ∧ win0_1.index t 1 = 0)
    ∧ (win0_2.index t 0 = t.val - 1 ∧ win0_2.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0) :=
  (by decide +kernel : ∀ t : Fin grid0.N, (win0_0.index t 0 = t.val - 1 ∧ win0_0.index t 1 = 0)
    ∧ (win0_1.index t 0 = t.val ∧ win0_1.index t 1 = 0)
    ∧ (win0_2.index t 0 = t.val - 1 ∧ win0_2.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0))

/-- the windows of the summed results do not move -/
theorem still : ∀ t : Fin cfg0.N, (win0_7.index t 0 = 0 ∧ win0_7.index t 1 = 0)
    ∧ (win0_8.index t 0 = 0 ∧ win0_8.index t 1 = 0) ∧ (win0_9.index t 0 = 0 ∧ win0_9.index t 1 = 0) :=
  (by decide +kernel : ∀ t : Fin grid0.N, (win0_7.index t 0 = 0 ∧ win0_7.index t 1 = 0)
    ∧ (win0_8.index t 0 = 0 ∧ win0_8.index t 1 = 0) ∧ (win0_9.index t 0 = 0 ∧ win0_9.index t 1 = 0))

/-- row `r` of block `t`, the context's rows first -/
def row (t : Fin cfg0.N) (r : Fin 256) : Fin 2304 := ⟨t.val * 256 + r.val, by have := t.isLt; have : cfg0.N = 9 := N_0; omega⟩
/-- the token in row `r` of block `t` -/
def tokenAt (t : Fin cfg0.N) (r : Fin 256) : Fin 2048 := ⟨(t.val - 1) * 256 + r.val, by have := t.isLt; have : cfg0.N = 9 := N_0; omega⟩
/-- the tokens' rows come after the context's -/
def token (R : Fin 2048) : Fin 2304 := ⟨256 + R.val, by omega⟩
/-- column `l` of the gate's part of the modulation -/
def gateCol (l : Fin 2048) : Fin 6144 := ⟨4096 + l.val, by omega⟩

theorem first_flag : ∀ t : Fin cfg0.N, t.val % 9 = 0 → Scalar.cmpi .sge (number (grid0.coords t)) 1#32 = 0#1 :=
  (by decide +kernel : ∀ t : Fin grid0.N, t.val % 9 = 0 → Scalar.cmpi .sge (BitVec.ofNat 32 (grid0.coords t 0).val) 1#32 = 0#1)
theorem later_flag : ∀ t : Fin cfg0.N, ¬t.val % 9 = 0 → Scalar.cmpi .sge (number (grid0.coords t)) 1#32 = 1#1 :=
  (by decide +kernel : ∀ t : Fin grid0.N, ¬t.val % 9 = 0 → Scalar.cmpi .sge (BitVec.ofNat 32 (grid0.coords t 0).val) 1#32 = 1#1)

theorem block_x (t : Fin cfg0.N) (r : Fin 256) (l : Fin 2048) : iblk m c 0 t (ix2 r l) = argX m c (ix2 (tokenAt t r) l) := by
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t 0 * 256 + 1 * r.val = (t.val - 1) * 256 + r.val; rw [(starts t).1.1]; omega
  | ⟨1, _⟩ => show win0_0.index t 1 * 2048 + 1 * l.val = l.val; rw [(starts t).1.2]; omega

theorem block_o (t : Fin cfg0.N) (r : Fin 256) (l : Fin 2048) : iblk m c 1 t (ix2 r l) = argO m c (ix2 (row t r) l) := by
  unfold iblk
  rw [View.read_apply]
  show V m c main_arg1 _ = _
  rw [V_main_arg1]
  show m (c.tc.loc main_arg1) _ = m (c.tc.loc main_arg1) _
  congr 1
  funext a
  apply Fin.ext
  match a with
  | ⟨0, _⟩ => show win0_1.index t 0 * 256 + 1 * r.val = t.val * 256 + r.val; rw [(starts t).2.1.1]; omega
  | ⟨1, _⟩ => show win0_1.index t 1 * 2048 + 1 * l.val = l.val; rw [(starts t).2.1.2]; omega

theorem block_t (t : Fin cfg0.N) (r : Fin 256) (l : Fin 2048) : iblk m c 2 t (ix2 r l) = argT m c (ix2 (tokenAt t r) l) := by
  unfold iblk
  rw [View.read_apply]
  show V m c main_arg4 _ = _
  rw [V_main_arg4]
  show m (c.tc.loc main_arg4) _ = m (c.tc.loc main_arg4) _
  congr 1
  funext a
  apply Fin.ext
  match a with
  | ⟨0, _⟩ => show win0_2.index t 0 * 256 + 1 * r.val = (t.val - 1) * 256 + r.val; rw [(starts t).2.2.1.1]; omega
  | ⟨1, _⟩ => show win0_2.index t 1 * 2048 + 1 * l.val = l.val; rw [(starts t).2.2.1.2]; omega

theorem block_w (t : Fin cfg0.N) (r : Fin 1) (l : Fin 2048) : iblk m c 4 t (ix2 r l) = argW m c (ix2 r l) := by
  unfold iblk
  rw [View.read_apply]
  show V m c main_arg3 _ = _
  rw [V_main_arg3]
  show m (c.tc.loc main_arg3) _ = m (c.tc.loc main_arg3) _
  congr 1
  funext a
  apply Fin.ext
  match a with
  | ⟨0, _⟩ => show win0_4.index t 0 * 1 + 1 * r.val = r.val; rw [(starts t).2.2.2.1.1]; omega
  | ⟨1, _⟩ => show win0_4.index t 1 * 2048 + 1 * l.val = l.val; rw [(starts t).2.2.2.1.2]; omega

theorem modulation : V m c main_v0 = shapeCast S8x3x2048 (argM m c) shapeCasts_S8x6144_S8x3x2048 := by
  show StableHlo.after hostOps0 _ _ = _
  after_results_simp
  rfl

/-- the modulation's window is the whole array, its rows cut in three; the gate is the last third -/
theorem block_m (t : Fin cfg0.N) (e : Fin 8) (l : Fin 2048) : iblk m c 3 t (ix3 e 2 l) = argM m c (ix2 e (gateCol l)) := by
  have hs : ∀ t : Fin cfg0.N, win0_3.index t 0 = 0 ∧ win0_3.index t 1 = 0 ∧ win0_3.index t 2 = 0 :=
    (by decide +kernel : ∀ t : Fin grid0.N, win0_3.index t 0 = 0 ∧ win0_3.index t 1 = 0 ∧ win0_3.index t 2 = 0)
  unfold iblk
  rw [View.read_apply]
  show V m c main_v0 _ = _
  rw [modulation]
  refine Eq.trans (b := shapeCast S8x3x2048 (argM m c) shapeCasts_S8x6144_S8x3x2048 (ix3 e 2 l)) ?_ ?_
  · congr 1
    funext a
    apply Fin.ext
    match a with
    | ⟨0, _⟩ => show win0_3.index t 0 * 8 + 1 * e.val = e.val; rw [(hs t).1]; omega
    | ⟨1, _⟩ => show win0_3.index t 1 * 3 + 1 * 2 = 2; rw [(hs t).2.1]
    | ⟨2, _⟩ => show win0_3.index t 2 * 2048 + 1 * l.val = l.val; rw [(hs t).2.2]; omega
  · pointwise []
    rfl

/-! ## The mathematics, entry by entry -/

/-- the rows that the last norm takes: the block's input and, gated, its output -/
def stream (R : Fin 2048) (l : Fin 2048) : EReal := argX m c (ix2 R l) + argM m c (ix2 0 (gateCol l)) * argO m c (ix2 (token R) l)
/-- the row's mean square, and epsilon -/
def square (R : Fin 2048) : EReal :=
  Ideal.div (∑ k : Fin 2048, stream m c R k * stream m c R k) (Ideal.ofBits .f32 1157627904#32) + Ideal.ofBits .f32 897988541#32
def normed (R : Fin 2048) (l : Fin 2048) : EReal := stream m c R l * Ideal.rsqrt (square m c R)
/-- how far the step's result is off its target -/
def off (R : Fin 2048) (l : Fin 2048) : EReal := normed m c R l * argW m c (ix2 0 l) - argT m c (ix2 R l)
/-- the row's mean squared error -/
def lossRow (R : Fin 2048) : EReal := Ideal.div (∑ k : Fin 2048, off m c R k * off m c R k) (Ideal.ofBits .f32 1157627904#32)
/-- the gradient of the step's result -/
def scaled (R : Fin 2048) (l : Fin 2048) : EReal :=
  Ideal.div (Ideal.ofBits .f32 1056964608#32) (Ideal.ofBits .f32 1157627904#32) * (Ideal.ofBits .f32 1073741824#32 * off m c R l)
/-- what each of the row's squares receives -/
def spread (R : Fin 2048) : EReal :=
  Ideal.div ((∑ k : Fin 2048, stream m c R k * (scaled m c R k * argW m c (ix2 0 k)))
    * (Ideal.ofBits .f32 3204448256#32 * Ideal.div (Ideal.rsqrt (square m c R)) (square m c R))) (Ideal.ofBits .f32 1157627904#32)
/-- the row's gradient -/
def gradRow (R : Fin 2048) (l : Fin 2048) : EReal :=
  scaled m c R l * argW m c (ix2 0 l) * Ideal.rsqrt (square m c R) + stream m c R l * spread m c R + spread m c R * stream m c R l
/-- the gradient of the block's output -/
def gradOut (R : Fin 2048) (l : Fin 2048) : EReal := argM m c (ix2 0 (gateCol l)) * gradRow m c R l
/-- the row's term of the gate's gradient -/
def gradGate (R : Fin 2048) (l : Fin 2048) : EReal := gradRow m c R l * argO m c (ix2 (token R) l)
/-- the row's term of the weight's gradient -/
def gradWeight (R : Fin 2048) (l : Fin 2048) : EReal := normed m c R l * scaled m c R l

/-- all rows of a gradient: nothing for the context's -/
def padded (g : Fin 2048 → Fin 2048 → EReal) (R : Fin 2304) (l : Fin 2048) : EReal := if h : R.val < 256 then 0 else g ⟨R.val - 256, by omega⟩ l
/-- the modulation's gradient: the gate's, in the first row's last third -/
def placed (e : Fin 8) (l : Fin 6144) (a : Fin 2048 → EReal) : EReal :=
  if e.val < 1 then if h : l.val < 4096 then 0 else a ⟨l.val - 4096, by omega⟩ else 0

/-! ## The blocks: the tokens' -/

theorem row_token (t : Fin cfg0.N) (h : ¬t.val % 9 = 0) (r : Fin 256) : row t r = token (tokenAt t r) :=
  Fin.ext (by show t.val * 256 + r.val = 256 + ((t.val - 1) * 256 + r.val); omega)

section later

variable (t : Fin cfg0.N) (h : ¬t.val % 9 = 0)

theorem point_gate (z : Fin 1) (l : Fin 2048) : k0_pay8 (F := Ideal) (iblk m c 3 t) (ix2 z l) = argM m c (ix2 0 (gateCol l)) := by
  pointwise [k0_pay8]
  exact block_m m c t 0 l

include h in
theorem point_stream (r : Fin 256) (l : Fin 2048) :
    k0_pay9 (F := Ideal) (iblk m c 0 t) (iblk m c 1 t) (iblk m c 3 t) (ix2 r l) = stream m c (tokenAt t r) l := by
  pointwise [k0_pay9]
  rw [block_x, block_o, point_gate, row_token t h]
  rfl

include h in
theorem point_square (r : Fin 256) (z : Fin 1) :
    k0_pay10 (F := Ideal) (iblk m c 0 t) (iblk m c 1 t) (iblk m c 3 t) (ix2 r z) = square m c (tokenAt t r) := by
  pointwise [k0_pay10]
  simp only [point_stream m c t h]
  rfl

include h in
theorem point_normed (r : Fin 256) (l : Fin 2048) :
    k0_pay13 (F := Ideal) (iblk m c 0 t) (iblk m c 1 t) (iblk m c 3 t) (ix2 r l) = normed m c (tokenAt t r) l := by
  pointwise [k0_pay13, k0_pay11]
  simp only [point_stream m c t h, point_square m c t h]
  rfl

include h in
theorem point_off (r : Fin 256) (l : Fin 2048) :
    k0_pay14 (F := Ideal) (iblk m c 0 t) (iblk m c 1 t) (iblk m c 2 t) (iblk m c 3 t) (iblk m c 4 t) (ix2 r l) = off m c (tokenAt t r) l := by
  pointwise [k0_pay14]
  simp only [point_normed m c t h, block_w, block_t]
  rfl

include h in
theorem point_scaled (r : Fin 256) (l : Fin 2048) :
    k0_pay17 (F := Ideal) (k0_pay15 (iblk m c 0 t) (iblk m c 1 t) (iblk m c 2 t) (iblk m c 3 t) (iblk m c 4 t)) (ix2 r l) = scaled m c (tokenAt t r) l := by
  pointwise [k0_pay17, k0_pay15]
  simp only [point_off m c t h]
  rfl

include h in
theorem point_grad (r : Fin 256) (l : Fin 2048) :
    k0_pay19 (F := Ideal) (iblk m c 4 t) (k0_pay9 (iblk m c 0 t) (iblk m c 1 t) (iblk m c 3 t)) (k0_pay11 (iblk m c 0 t) (iblk m c 1 t) (iblk m c 3 t))
      (k0_pay12 (iblk m c 0 t) (iblk m c 1 t) (iblk m c 3 t)) (k0_pay15 (iblk m c 0 t) (iblk m c 1 t) (iblk m c 2 t) (iblk m c 3 t) (iblk m c 4 t)) (ix2 r l)
      = gradRow m c (tokenAt t r) l := by
  pointwise [k0_pay19, k0_pay12, k0_pay11]
  simp only [Fin.sum_univ_one, point_stream m c t h, point_square m c t h, point_scaled m c t h, block_w]
  rfl

include h in
theorem point_row (r : Fin 256) (l : Fin 2048) :
    storedRow (grid0.coords t) (iblk m c 0 t) (iblk m c 1 t) (iblk m c 2 t) (iblk m c 3 t) (iblk m c 4 t) (ix2 r l) = gradRow m c (tokenAt t r) l := by
  unfold storedRow k0_pay21
  rw [later_flag t h]
  exact point_grad m c t h r l

include h in
theorem point_out (r : Fin 256) (l : Fin 2048) :
    storedOut (grid0.coords t) (iblk m c 0 t) (iblk m c 1 t) (iblk m c 2 t) (iblk m c 3 t) (iblk m c 4 t) (ix2 r l) = gradOut m c (tokenAt t r) l := by
  unfold storedOut k0_pay1 k0_pay22
  dsimp only
  rw [later_flag t h]
  pointwise []
  rw [point_grad m c t h, point_gate]
  rfl

include h in
theorem point_loss (e : Fin 8) (l : Fin 128) (x : FVec Ideal S8x128 .f32) :
    storedLoss (grid0.coords t) (iblk m c 0 t) (iblk m c 1 t) (iblk m c 2 t) (iblk m c 3 t) (iblk m c 4 t) x (ix2 e l)
      = x (ix2 e l) + Ideal.ofBits .f32 1056964608#32 * ∑ r : Fin 256, lossRow m c (tokenAt t r) := by
  unfold storedLoss k0_pay23 k0_pay16
  dsimp only
  rw [later_flag t h]
  pointwise [k0_pay3]
  simp only [point_off m c t h]
  rfl

include h in
theorem point_mod (e : Fin 8) (l : Fin 6144) (x : FVec Ideal S8x6144 .f32) :
    storedMod (grid0.coords t) (iblk m c 0 t) (iblk m c 1 t) (iblk m c 2 t) (iblk m c 3 t) (iblk m c 4 t) x (ix2 e l)
      = x (ix2 e l) + placed e l (fun k => ∑ r : Fin 256, gradGate m c (tokenAt t r) k) := by
  unfold storedMod k0_pay20
  dsimp only
  rw [later_flag t h]
  pointwise [k0_pay5]
  simp only [point_grad m c t h, block_o, row_token t h]
  rfl

include h in
theorem point_weight (z : Fin 1) (l : Fin 2048) (x : FVec Ideal S1x2048 .f32) :
    storedWeight (grid0.coords t) (iblk m c 0 t) (iblk m c 1 t) (iblk m c 2 t) (iblk m c 3 t) (iblk m c 4 t) x (ix2 z l)
      = x (ix2 z l) + ∑ r : Fin 256, gradWeight m c (tokenAt t r) l := by
  unfold storedWeight
  rw [later_flag t h]
  pointwise [k0_pay7, k0_pay18]
  simp only [point_normed m c t h, point_scaled m c t h]
  rfl

end later

/-! ## The blocks: the context's, which gives nothing -/

section first

variable (t : Fin cfg0.N) (h : t.val % 9 = 0) (x0 x1 x2 : FVec Ideal S256x2048 .f32) (x3 : FVec Ideal S8x3x2048 .f32) (x4 : FVec Ideal S1x2048 .f32)

include h in
theorem first_row (r : Fin 256) (l : Fin 2048) : storedRow (grid0.coords t) x0 x1 x2 x3 x4 (ix2 r l) = 0 := by
  unfold storedRow k0_pay21
  rw [first_flag t h]
  pointwise []

include h in
theorem first_out (r : Fin 256) (l : Fin 2048) : storedOut (grid0.coords t) x0 x1 x2 x3 x4 (ix2 r l) = 0 := by
  unfold storedOut k0_pay1 k0_pay22
  dsimp only
  rw [first_flag t h]
  pointwise []

include h in
theorem first_loss (e : Fin 8) (l : Fin 128) : storedLoss (grid0.coords t) x0 x1 x2 x3 x4 (k0_pay2 (F := Ideal)) (ix2 e l) = 0 := by
  unfold storedLoss k0_pay23
  dsimp only
  rw [first_flag t h]
  pointwise [k0_pay3, k0_pay2]

include h in
theorem first_mod (e : Fin 8) (l : Fin 6144) : storedMod (grid0.coords t) x0 x1 x2 x3 x4 (k0_pay4 (F := Ideal)) (ix2 e l) = 0 := by
  unfold storedMod k0_pay20
  dsimp only
  rw [first_flag t h]
  pointwise [k0_pay5, k0_pay4]
  split_ifs <;> rfl

include h in
theorem first_weight (z : Fin 1) (l : Fin 2048) : storedWeight (grid0.coords t) x0 x1 x2 x3 x4 (k0_pay6 (F := Ideal)) (ix2 z l) = 0 := by
  unfold storedWeight
  rw [first_flag t h]
  pointwise [k0_pay7, k0_pay6]

end first

/-! ## The rows' gradients, block by block -/

theorem row_flush5 : ∀ t : Fin cfg0.N, (cfg0.win 5).flush t = true := (by decide +kernel : ∀ t : Fin grid0.N, win0_5.flush t = true)
theorem row_flush6 : ∀ t : Fin cfg0.N, (cfg0.win 6).flush t = true := (by decide +kernel : ∀ t : Fin grid0.N, win0_6.flush t = true)

theorem block_of (R : Fin 2304) : ∃ (t : Fin cfg0.N) (r : Fin 256), R = row t r := by
  have hN : cfg0.N = 9 := N_0
  exact ⟨⟨R.val / 256, by omega⟩, ⟨R.val % 256, by omega⟩, Fin.ext (by show R.val = R.val / 256 * 256 + R.val % 256; omega)⟩

theorem padded_context (g : Fin 2048 → Fin 2048 → EReal) (R : Fin 2304) (h : R.val < 256) (l : Fin 2048) : padded g R l = 0 := dif_pos h
theorem padded_token (g : Fin 2048 → Fin 2048 → EReal) (R : Fin 2304) (h : ¬R.val < 256) (l : Fin 2048) : padded g R l = g ⟨R.val - 256, by omega⟩ l := dif_neg h
theorem padded_first (g : Fin 2048 → Fin 2048 → EReal) (t : Fin cfg0.N) (h : t.val % 9 = 0) (r : Fin 256) (l : Fin 2048) : padded g (row t r) l = 0 := by
  have h9 : t.val < 9 := t.isLt
  exact padded_context g _ (by show t.val * 256 + r.val < 256; omega) l
theorem padded_later (g : Fin 2048 → Fin 2048 → EReal) (t : Fin cfg0.N) (h : ¬t.val % 9 = 0) (r : Fin 256) (l : Fin 2048) :
    padded g (row t r) l = g (tokenAt t r) l := by
  have h9 : t.val < 9 := t.isLt
  refine (padded_token g _ (by show ¬t.val * 256 + r.val < 256; omega) l).trans (congrArg (fun R => g R l) (Fin.ext ?_))
  show t.val * 256 + r.val - 256 = (t.val - 1) * 256 + r.val; omega

theorem rows_value (R : Fin 2304) (l : Fin 2048) : (dats m 0 c).arrAt 5 cfg0.N (ix2 R l) = padded (gradRow m c) R l := by
  have he : ∀ (t : Fin cfg0.N) (r : Fin 256) (l : Fin 2048), ((cfg0.win 5).blk t).view.emb (ix2 r l) = ix2 (row t r) l := fun t r l => by
    funext a
    apply Fin.ext
    match a with
    | ⟨0, _⟩ => show win0_5.index t 0 * 256 + 1 * r.val = t.val * 256 + r.val; rw [(starts t).2.2.2.2.1.1]; omega
    | ⟨1, _⟩ => show win0_5.index t 1 * 2048 + 1 * l.val = l.val; rw [(starts t).2.2.2.2.1.2]; omega
  obtain ⟨t, r, rfl⟩ := block_of R
  have hmem := ((cfg0.win 5).blk t).view.emb_mem_set (ix2 r l)
  rw [he] at hmem
  refine (dats m 0 c).arrAt_apply_of_mem 5 ((fun i => padded (gradRow m c) (i 0) (i 1)) : FVec Ideal S2304x2048 .f32) (fun t _ => ?_) cfg0.N t (ix2 (row t r) l) t.isLt (row_flush5 t) hmem
  by_cases h : t.val % 9 = 0
  · rw [flushed5_A m c t h h h, stored5_A]
    funext y
    obtain ⟨r, l, rfl⟩ : ∃ (r : Fin 256) (l : Fin 2048), y = ix2 r l := ⟨y 0, y 1, funext fun a => by fin_cases a <;> rfl⟩
    rw [View.read_apply, he]
    exact (first_row t h _ _ _ _ _ r l).trans (padded_first _ t h r l).symm
  · rw [flushed5_B m c t h h h, stored5_B]
    funext y
    obtain ⟨r, l, rfl⟩ : ∃ (r : Fin 256) (l : Fin 2048), y = ix2 r l := ⟨y 0, y 1, funext fun a => by fin_cases a <;> rfl⟩
    rw [View.read_apply, he]
    exact (point_row m c t h r l).trans (padded_later _ t h r l).symm

theorem outs_value (R : Fin 2304) (l : Fin 2048) : (dats m 0 c).arrAt 6 cfg0.N (ix2 R l) = padded (gradOut m c) R l := by
  have he : ∀ (t : Fin cfg0.N) (r : Fin 256) (l : Fin 2048), ((cfg0.win 6).blk t).view.emb (ix2 r l) = ix2 (row t r) l := fun t r l => by
    funext a
    apply Fin.ext
    match a with
    | ⟨0, _⟩ => show win0_6.index t 0 * 256 + 1 * r.val = t.val * 256 + r.val; rw [(starts t).2.2.2.2.2.1]; omega
    | ⟨1, _⟩ => show win0_6.index t 1 * 2048 + 1 * l.val = l.val; rw [(starts t).2.2.2.2.2.2]; omega
  obtain ⟨t, r, rfl⟩ := block_of R
  have hmem := ((cfg0.win 6).blk t).view.emb_mem_set (ix2 r l)
  rw [he] at hmem
  refine (dats m 0 c).arrAt_apply_of_mem 6 ((fun i => padded (gradOut m c) (i 0) (i 1)) : FVec Ideal S2304x2048 .bf16) (fun t _ => ?_) cfg0.N t (ix2 (row t r) l) t.isLt (row_flush6 t) hmem
  by_cases h : t.val % 9 = 0
  · rw [flushed6_A m c t h h h, stored6_A]
    funext y
    obtain ⟨r, l, rfl⟩ : ∃ (r : Fin 256) (l : Fin 2048), y = ix2 r l := ⟨y 0, y 1, funext fun a => by fin_cases a <;> rfl⟩
    rw [View.read_apply, he]
    exact (first_out t h _ _ _ _ _ r l).trans (padded_first _ t h r l).symm
  · rw [flushed6_B m c t h h h, stored6_B]
    funext y
    obtain ⟨r, l, rfl⟩ : ∃ (r : Fin 256) (l : Fin 2048), y = ix2 r l := ⟨y 0, y 1, funext fun a => by fin_cases a <;> rfl⟩
    rw [View.read_apply, he]
    exact (point_out m c t h r l).trans (padded_later _ t h r l).symm

/-! ## The summed results: what the last point leaves -/

theorem last_lt : 8 < cfg0.N := by have : cfg0.N = 9 := N_0; omega

theorem last_loss (e : Fin 8) (l : Fin 128) : (dats m 0 c).arrAt 7 cfg0.N (ix2 e l) = (outsAt0 m c 8 last_lt).2.2.1 (ix2 e l) := by
  have hmem := ((cfg0.win 7).blk ⟨8, last_lt⟩).view.emb_mem_set (ix2 e l)
  have he : ∀ (t : Fin cfg0.N) (y : S8x128.Idx), ((cfg0.win 7).blk t).view.emb y = y := fun t y => by
    funext a
    apply Fin.ext
    match a with
    | ⟨0, _⟩ => show win0_7.index t 0 * 8 + 1 * (y 0).val = (y 0).val; rw [(still t).1.1]; omega
    | ⟨1, _⟩ => show win0_7.index t 1 * 128 + 1 * (y 1).val = (y 1).val; rw [(still t).1.2]; omega
  rw [he] at hmem
  refine (dats m 0 c).arrAt_apply_of_mem 7 ((outsAt0 m c 8 last_lt).2.2.1) (fun t hf => ?_) cfg0.N ⟨8, last_lt⟩ (ix2 e l) last_lt ((flush0_7 _).mpr rfl) hmem
  obtain rfl : t = ⟨8, last_lt⟩ := Fin.ext (by have := (flush0_7 t).mp hf; have h9 : t.val < 9 := t.isLt; show t.val = 8; omega)
  rw [flushed7]
  funext y
  rw [View.read_apply, he]
  rfl

theorem last_mod (e : Fin 8) (l : Fin 6144) : (dats m 0 c).arrAt 8 cfg0.N (ix2 e l) = (outsAt0 m c 8 last_lt).2.2.2.1 (ix2 e l) := by
  have hmem := ((cfg0.win 8).blk ⟨8, last_lt⟩).view.emb_mem_set (ix2 e l)
  have he : ∀ (t : Fin cfg0.N) (y : S8x6144.Idx), ((cfg0.win 8).blk t).view.emb y = y := fun t y => by
    funext a
    apply Fin.ext
    match a with
    | ⟨0, _⟩ => show win0_8.index t 0 * 8 + 1 * (y 0).val = (y 0).val; rw [(still t).2.1.1]; omega
    | ⟨1, _⟩ => show win0_8.index t 1 * 6144 + 1 * (y 1).val = (y 1).val; rw [(still t).2.1.2]; omega
  rw [he] at hmem
  refine (dats m 0 c).arrAt_apply_of_mem 8 ((outsAt0 m c 8 last_lt).2.2.2.1) (fun t hf => ?_) cfg0.N ⟨8, last_lt⟩ (ix2 e l) last_lt ((flush0_8 _).mpr rfl) hmem
  obtain rfl : t = ⟨8, last_lt⟩ := Fin.ext (by have := (flush0_8 t).mp hf; have h9 : t.val < 9 := t.isLt; show t.val = 8; omega)
  rw [flushed8]
  funext y
  rw [View.read_apply, he]
  rfl

theorem last_weight (z : Fin 1) (l : Fin 2048) : (dats m 0 c).arrAt 9 cfg0.N (ix2 z l) = (outsAt0 m c 8 last_lt).2.2.2.2 (ix2 z l) := by
  have hmem := ((cfg0.win 9).blk ⟨8, last_lt⟩).view.emb_mem_set (ix2 z l)
  have he : ∀ (t : Fin cfg0.N) (y : S1x2048.Idx), ((cfg0.win 9).blk t).view.emb y = y := fun t y => by
    funext a
    apply Fin.ext
    match a with
    | ⟨0, _⟩ => show win0_9.index t 0 * 1 + 1 * (y 0).val = (y 0).val; rw [(still t).2.2.1]; omega
    | ⟨1, _⟩ => show win0_9.index t 1 * 2048 + 1 * (y 1).val = (y 1).val; rw [(still t).2.2.2]; omega
  rw [he] at hmem
  refine (dats m 0 c).arrAt_apply_of_mem 9 ((outsAt0 m c 8 last_lt).2.2.2.2) (fun t hf => ?_) cfg0.N ⟨8, last_lt⟩ (ix2 z l) last_lt ((flush0_9 _).mpr rfl) hmem
  obtain rfl : t = ⟨8, last_lt⟩ := Fin.ext (by have := (flush0_9 t).mp hf; have h9 : t.val < 9 := t.isLt; show t.val = 8; omega)
  rw [flushed9]
  funext y
  rw [View.read_apply, he]
  rfl

/-- A quantity that is zero after the context's point and grows at each later point by the sum over the block's tokens is, after the
    last, the sum over all tokens. -/
theorem over_tokens (f : (n : ℕ) → n < cfg0.N → EReal) (g : Fin 2048 → EReal)
    (h0 : ∀ (n : ℕ) (h : n < cfg0.N), n % 9 = 0 → f n h = 0)
    (hs : ∀ (n : ℕ) (h : n + 1 < cfg0.N), ¬(n + 1) % 9 = 0 → f (n + 1) h = f n (Nat.lt_of_succ_lt h) + ∑ r : Fin 256, g (tokenAt ⟨n + 1, h⟩ r)) :
    f 8 last_lt = ∑ R : Fin 2048, g R := by
  have hN : cfg0.N = 9 := N_0
  have hrun := run_sum 9 f (fun n h => if n % 9 = 0 then 0 else ∑ r : Fin 256, g (tokenAt ⟨n, h⟩ r))
    (fun n h hn => (h0 n h hn).trans (if_pos hn).symm) (fun n h hn => (hs n h hn).trans (congrArg (f n _ + ·) (if_neg hn).symm)) 0 8 (by omega) last_lt
  refine Eq.trans hrun ?_
  rw [Fin.sum_univ_succ, ← sum_blocks 8 256 rfl g, if_pos (by rfl), zero_add]
  refine Finset.sum_congr rfl fun s _ => ?_
  rw [if_neg (by show ¬(9 * 0 + (s.val + 1)) % 9 = 0; omega)]
  refine Finset.sum_congr rfl fun r _ => congrArg g (Fin.ext ?_)
  show (9 * 0 + (s.val + 1) - 1) * 256 + r.val = s.val * 256 + r.val; omega

theorem half_nonneg : 0 ≤ Ideal.ofBits .f32 1056964608#32 ∧ Ideal.ofBits .f32 1056964608#32 ≠ ⊤ := by
  have e : Ideal.ofBits .f32 1056964608#32 = ((1 / 2 : ℝ) : EReal) := by simp [Ideal.ofBits, Ideal.ieee]; rw [← EReal.coe_mul]; norm_num
  rw [e]
  exact ⟨EReal.coe_nonneg.mpr (by norm_num), EReal.coe_ne_top _⟩

/-- a half of a sum is the sum of the halves -/
theorem half_sum {n : ℕ} (g : Fin n → EReal) : Ideal.ofBits .f32 1056964608#32 * ∑ r : Fin n, g r = ∑ r : Fin n, Ideal.ofBits .f32 1056964608#32 * g r := by
  induction n with
  | zero => simp only [Finset.univ_eq_empty, Finset.sum_empty, mul_zero]
  | succ n ih => rw [Fin.sum_univ_succ, Fin.sum_univ_succ, EReal.left_distrib_of_nonneg_of_ne_top half_nonneg.1 half_nonneg.2, ih]

theorem loss_value (e : Fin 8) (l : Fin 128) :
    (dats m 0 c).arrAt 7 cfg0.N (ix2 e l) = Ideal.ofBits .f32 1056964608#32 * ∑ R : Fin 2048, lossRow m c R := by
  rw [last_loss, half_sum]
  refine over_tokens (fun n h => (outsAt0 m c n h).2.2.1 (ix2 e l)) (fun R => Ideal.ofBits .f32 1056964608#32 * lossRow m c R)
    (fun n h h0 => ?_) (fun n h h0 => ?_)
  · rw [outsAt0_A m c ⟨n, h⟩ h0 h0 h0]
    dsimp only
    rw [stored7_A]
    exact first_loss ⟨n, h⟩ h0 _ _ _ _ _ e l
  · rw [outsAt0_B m c ⟨n + 1, h⟩ h0 h0 h0]
    dsimp only
    rw [stored7_B, point_loss m c ⟨n + 1, h⟩ h0, half_sum]
    rfl

theorem placed_sum {n : ℕ} (e : Fin 8) (l : Fin 6144) (a : Fin n → Fin 2048 → EReal) :
    placed e l (fun k => ∑ r : Fin n, a r k) = ∑ r : Fin n, placed e l (a r) := by
  unfold placed
  split_ifs
  · exact Finset.sum_const_zero.symm
  · rfl
  · exact Finset.sum_const_zero.symm

theorem mod_value (e : Fin 8) (l : Fin 6144) :
    (dats m 0 c).arrAt 8 cfg0.N (ix2 e l) = placed e l (fun k => ∑ R : Fin 2048, gradGate m c R k) := by
  rw [last_mod, placed_sum]
  refine over_tokens (fun n h => (outsAt0 m c n h).2.2.2.1 (ix2 e l)) (fun R => placed e l (gradGate m c R))
    (fun n h h0 => ?_) (fun n h h0 => ?_)
  · rw [outsAt0_A m c ⟨n, h⟩ h0 h0 h0]
    dsimp only
    rw [stored8_A]
    exact first_mod ⟨n, h⟩ h0 _ _ _ _ _ e l
  · rw [outsAt0_B m c ⟨n + 1, h⟩ h0 h0 h0]
    dsimp only
    rw [stored8_B, point_mod m c ⟨n + 1, h⟩ h0, placed_sum]
    rfl

theorem weight_value (z : Fin 1) (l : Fin 2048) :
    (dats m 0 c).arrAt 9 cfg0.N (ix2 z l) = ∑ R : Fin 2048, gradWeight m c R l := by
  rw [last_weight]
  refine over_tokens (fun n h => (outsAt0 m c n h).2.2.2.2 (ix2 z l)) (fun R => gradWeight m c R l)
    (fun n h h0 => ?_) (fun n h h0 => ?_)
  · rw [outsAt0_A m c ⟨n, h⟩ h0 h0 h0]
    dsimp only
    rw [stored9_A]
    exact first_weight ⟨n, h⟩ h0 _ _ _ _ _ z l
  · rw [outsAt0_B m c ⟨n + 1, h⟩ h0 h0 h0]
    dsimp only
    rw [stored9_B, point_weight m c ⟨n + 1, h⟩ h0]
    rfl

end Cert.KernelFinalIdeal.Rows

namespace Cert.Final

open Idealize.ShloMosaic Idealize.ShloMosaic.TcCoe Idealize.SL.Sem

/-- The reference leaves its arguments as they are, and has no semaphore. -/
theorem reference_frame : Cert.quiescent_ReferenceFinalIdeal (hReferenceFinalIdeal := Cert.ReferenceFinalIdeal.Gen.facts) :=
  fun m ρ _ => (θ_run _ _ _).mono (fun r h => ⟨fun c => (h c).2.2.2.2.2, sem_eq_zero_of_no_sems (by decide) r.2⟩) (Cert.ReferenceFinalIdeal.Value.run (F := Ideal) m ρ)

set_option maxHeartbeats 4000000 in
theorem algebraic : Cert.algebraic_KernelFinalIdeal_ReferenceFinalIdeal
    (hKernelFinalIdeal := Cert.KernelFinalIdeal.Gen.facts) (hReferenceFinalIdeal := Cert.ReferenceFinalIdeal.Gen.facts) := by
  intro m ρ m' ρ' _ hagree
  refine ⟨_, _, _, _, _, Cert.KernelFinalIdeal.Value.run_blocks (F := Ideal) m ρ, ?_⟩
  refine (θ_run _ _ _).mono (fun _ h c => ⟨(h c).1.trans ?_, (h c).2.1.trans ?_, (h c).2.2.1.trans ?_, (h c).2.2.2.1.trans ?_, (h c).2.2.2.2.1.trans ?_, (h c).2.2.2.2.2⟩) (Cert.ReferenceFinalIdeal.Value.run (F := Ideal) m' ρ')
  · unfold Cert.ReferenceFinalIdeal.Value.res_main_v68
    obtain ⟨e0, e1, e2, e3, e4⟩ := hagree c
    rw [e0, e1, e2, e3, e4]
    clear e0 e1 e2 e3 e4
    funext i
    obtain ⟨R, l, rfl⟩ : ∃ (R : Fin 2304) (l : Fin 2048), i = ix2 R l := ⟨i 0, i 1, funext fun a => by fin_cases a <;> rfl⟩
    refine Eq.trans ?_ (Cert.KernelFinalIdeal.Rows.rows_value m c R l).symm
    unfold Cert.KernelFinalIdeal.Rows.padded
    pointwise []
    simp only [Fin.sum_univ_one]
    rfl
  · unfold Cert.ReferenceFinalIdeal.Value.res_main_v69
    obtain ⟨e0, e1, e2, e3, e4⟩ := hagree c
    rw [e0, e1, e2, e3, e4]
    clear e0 e1 e2 e3 e4
    funext i
    obtain ⟨R, l, rfl⟩ : ∃ (R : Fin 2304) (l : Fin 2048), i = ix2 R l := ⟨i 0, i 1, funext fun a => by fin_cases a <;> rfl⟩
    refine Eq.trans ?_ (Cert.KernelFinalIdeal.Rows.outs_value m c R l).symm
    pointwise []
    simp only [Fin.sum_univ_one]
    by_cases h : R.val < 256
    · exact (dif_neg (by omega)).trans (Cert.KernelFinalIdeal.Rows.padded_context _ R h l).symm
    · exact (dif_pos ⟨by omega, by omega⟩).trans (Eq.trans rfl (Cert.KernelFinalIdeal.Rows.padded_token (Cert.KernelFinalIdeal.Rows.gradOut m c) R h l).symm)
  · obtain ⟨e0, e1, e2, e3, e4⟩ := hagree c
    rw [e0, e1, e2, e3, e4]
    clear e0 e1 e2 e3 e4
    funext i
    obtain ⟨e, l, rfl⟩ : ∃ (e : Fin 8) (l : Fin 128), i = ix2 e l := ⟨i 0, i 1, funext fun a => by fin_cases a <;> rfl⟩
    refine Eq.trans ?_ (Cert.KernelFinalIdeal.Rows.loss_value m c e l).symm
    pointwise []
    rfl
  · unfold Cert.ReferenceFinalIdeal.Value.res_main_v66
    obtain ⟨e0, e1, e2, e3, e4⟩ := hagree c
    rw [e0, e1, e2, e3, e4]
    clear e0 e1 e2 e3 e4
    funext i
    obtain ⟨e, l, rfl⟩ : ∃ (e : Fin 8) (l : Fin 6144), i = ix2 e l := ⟨i 0, i 1, funext fun a => by fin_cases a <;> rfl⟩
    refine Eq.trans ?_ (Cert.KernelFinalIdeal.Rows.mod_value m c e l).symm
    unfold Cert.KernelFinalIdeal.Rows.placed
    pointwise []
    simp only [Fin.sum_univ_one]
    by_cases he : e.val < 1
    · refine (dif_pos he).trans (Eq.trans ?_ (if_pos he).symm)
      by_cases h : l.val < 4096
      · refine Eq.trans ?_ (dif_pos h).symm
        by_cases k : l.val < 2048
        · exact dif_pos k
        · exact (dif_neg k).trans (dif_pos (by omega))
      · refine (dif_neg (by omega)).trans ((dif_neg (by omega)).trans (Eq.trans ?_ (dif_neg h).symm))
        exact congrArg (fun k => ∑ R : Fin 2048, Cert.KernelFinalIdeal.Rows.gradGate m c R k) (Fin.ext (by show l.val - 2048 - 2048 = l.val - 4096; omega))
    · exact (dif_neg he).trans (if_neg he).symm
  · obtain ⟨e0, e1, e2, e3, e4⟩ := hagree c
    rw [e0, e1, e2, e3, e4]
    clear e0 e1 e2 e3 e4
    funext i
    obtain ⟨z, l, rfl⟩ : ∃ z l, i = ix2 z l := ⟨i 0, i 1, funext fun a => by fin_cases a <;> rfl⟩
    refine Eq.trans ?_ (Cert.KernelFinalIdeal.Rows.weight_value m c z l).symm
    pointwise []
    rfl

end Cert.Final
-- ==== Proof.HFwd.lean ====
/-
  The normalisation and modulation that make the block's input, over nine blocks of 256 rows: first the context's rows, under the
  modulation's second row, then the tokens', under its first.
-/
module

public import proofs.«01_k».proof.Defs
public import proofs.«01_k».proof.Proof.Blocked
public import proofs.«01_k».proof.Proof.Gen.KernelHFwdIdeal.Value
public import proofs.«01_k».proof.Proof.Gen.ReferenceHFwdIdeal.Run
public import Idealize.ShloMosaic.Lib.VecWindow

@[expose] public section

set_option maxRecDepth 65536

noncomputable section

namespace Cert.KernelHFwdIdeal.Rows

open Idealize.ShloMosaic Idealize.ShloMosaic.TcCoe Idealize.SL.Sem Cert.KernelHFwdIdeal Cert.KernelHFwdIdeal.Gen Cert.KernelHFwdIdeal.Value Cert.Blocked

variable (m : (ℓ : Loc nD τ sig) → Buf (Elt Ideal) ℓ) (c : Dev nD)

abbrev argX : FVec Ideal S2048x2048 .f32 := m (c.tc.loc main_arg0)
abbrev argC : FVec Ideal S256x2048 .f32 := m (c.tc.loc main_arg1)
abbrev argM : FVec Ideal S8x6144 .f32 := m (c.tc.loc main_arg2)
abbrev argW : FVec Ideal S1x2048 .f32 := m (c.tc.loc main_arg3)

/-- which blocks point `t` loads and writes -/
theorem starts : ∀ t : Fin cfg0.N, (win0_0.index t 0 = 0 ∧ win0_0.index t 1 = 0)
    ∧ (win0_1.index t 0 = t.val - 1 ∧ win0_1.index t 1 = 0)
    ∧ (win0_2.index t 0 = 0 ∧ win0_2.index t 1 = 0)
    ∧ (win0_4.index t 0 = t.val ∧ win0_4.index t 1 = 0) :=
  (by decide +kernel : ∀ t : Fin grid0.N, (win0_0.index t 0 = 0 ∧ win0_0.index t 1 = 0)
    ∧ (win0_1.index t 0 = t.val - 1 ∧ win0_1.index t 1 = 0)
    ∧ (win0_2.index t 0 = 0 ∧ win0_2.index t 1 = 0)
    ∧ (win0_4.index t 0 = t.val ∧ win0_4.index t 1 = 0))

/-- row `r` of block `t` -/
def row (t : Fin cfg0.N) (r : Fin 256) : Fin 2304 := ⟨t.val * 256 + r.val, by have := t.isLt; have : cfg0.N = 9 := N_0; omega⟩

theorem rows (R : Fin 2304) : ∃ (t : Fin cfg0.N) (r : Fin 256), R = row t r := by
  have hN : cfg0.N = 9 := N_0
  exact ⟨⟨R.val / 256, by omega⟩, ⟨R.val % 256, by omega⟩, Fin.ext (by show R.val = R.val / 256 * 256 + R.val % 256; omega)⟩

theorem first_flag : ∀ t : Fin cfg0.N, t.val % 9 = 0 → Scalar.cmpi .slt (BitVec.ofNat 32 (grid0.coords t 0).val) 1#32 = 1#1 :=
  (by decide +kernel : ∀ t : Fin grid0.N, t.val % 9 = 0 → Scalar.cmpi .slt (BitVec.ofNat 32 (grid0.coords t 0).val) 1#32 = 1#1)
theorem later_flag : ∀ t : Fin cfg0.N, ¬t.val % 9 = 0 → Scalar.cmpi .slt (BitVec.ofNat 32 (grid0.coords t 0).val) 1#32 = 0#1 :=
  (by decide +kernel : ∀ t : Fin grid0.N, ¬t.val % 9 = 0 → Scalar.cmpi .slt (BitVec.ofNat 32 (grid0.coords t 0).val) 1#32 = 0#1)

/-- the token that row `r` of a later point's block is -/
def tokenAt (t : Fin cfg0.N) (r : Fin 256) : Fin 2048 := ⟨(t.val - 1) * 256 + r.val, by have := t.isLt; have : cfg0.N = 9 := N_0; omega⟩

theorem block_c (t : Fin cfg0.N) (r : Fin 256) (l : Fin 2048) : iblk m c 0 t (ix2 r l) = argC m c (ix2 r l) := by
  unfold iblk
  rw [View.read_apply]
  show V m c main_arg1 _ = _
  rw [V_main_arg1]
  show m (c.tc.loc main_arg1) _ = m (c.tc.loc main_arg1) _
  congr 1
  funext a
  apply Fin.ext
  match a with
  | ⟨0, _⟩ => show win0_0.index t 0 * 256 + 1 * r.val = r.val; rw [(starts t).1.1]; omega
  | ⟨1, _⟩ => show win0_0.index t 1 * 2048 + 1 * l.val = l.val; rw [(starts t).1.2]; omega

theorem block_x (t : Fin cfg0.N) (r : Fin 256) (l : Fin 2048) : iblk m c 1 t (ix2 r l) = argX m c (ix2 (tokenAt t r) l) := by
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_1.index t 0 * 256 + 1 * r.val = (t.val - 1) * 256 + r.val; rw [(starts t).2.1.1]; omega
  | ⟨1, _⟩ => show win0_1.index t 1 * 2048 + 1 * l.val = l.val; rw [(starts t).2.1.2]; omega

theorem block_w (t : Fin cfg0.N) (z : Fin 1) (l : Fin 2048) : iblk m c 2 t (ix2 z l) = argW m c (ix2 z l) := by
  unfold iblk
  rw [View.read_apply]
  show V m c main_arg3 _ = _
  rw [V_main_arg3]
  show m (c.tc.loc main_arg3) _ = m (c.tc.loc main_arg3) _
  congr 1
  funext a
  apply Fin.ext
  match a with
  | ⟨0, _⟩ => show win0_2.index t 0 * 1 + 1 * z.val = z.val; rw [(starts t).2.2.1.1]; omega
  | ⟨1, _⟩ => show win0_2.index t 1 * 2048 + 1 * l.val = l.val; rw [(starts t).2.2.1.2]; omega

theorem modulation : V m c main_v0 = shapeCast S8x3x2048 (argM m c) shapeCasts_S8x6144_S8x3x2048 := by
  show StableHlo.after hostOps0 _ _ = _
  after_results_simp
  rfl

/-- the modulation's window is the whole array, its rows cut in three -/
theorem block_m (t : Fin cfg0.N) (e : Fin 8) (j : Fin 3) (l : Fin 2048) :
    iblk m c 3 t (ix3 e j l) = shapeCast S8x3x2048 (argM m c) shapeCasts_S8x6144_S8x3x2048 (ix3 e j l) := by
  have hs : ∀ t : Fin cfg0.N, win0_3.index t 0 = 0 ∧ win0_3.index t 1 = 0 ∧ win0_3.index t 2 = 0 :=
    (by decide +kernel : ∀ t : Fin grid0.N, win0_3.index t 0 = 0 ∧ win0_3.index t 1 = 0 ∧ win0_3.index t 2 = 0)
  unfold iblk
  rw [View.read_apply]
  show V m c main_v0 _ = _
  rw [modulation]
  congr 1
  funext a
  apply Fin.ext
  match a with
  | ⟨0, _⟩ => show win0_3.index t 0 * 8 + 1 * e.val = e.val; rw [(hs t).1]; omega
  | ⟨1, _⟩ => show win0_3.index t 1 * 3 + 1 * j.val = j.val; rw [(hs t).2.1]; omega
  | ⟨2, _⟩ => show win0_3.index t 2 * 2048 + 1 * l.val = l.val; rw [(hs t).2.2]; omega
theorem block_shift (t : Fin cfg0.N) (e : Fin 8) (l : Fin 2048) : iblk m c 3 t (ix3 e 0 l) = argM m c (ix2 e ⟨l.val, by omega⟩) :=
  (block_m m c t e 0 l).trans (by pointwise [])
theorem block_scale (t : Fin cfg0.N) (e : Fin 8) (l : Fin 2048) : iblk m c 3 t (ix3 e 1 l) = argM m c (ix2 e ⟨2048 + l.val, by omega⟩) :=
  (block_m m c t e 1 l).trans (by pointwise [])

/-- a row's mean square, and epsilon -/
def square (x : Fin 2048 → EReal) : EReal := Ideal.div (∑ k, x k * x k) (Ideal.ofBits .f32 1157627904#32) + Ideal.ofBits .f32 897988541#32
/-- a row `x`, normalised, weighted and modulated by row `e` of the modulation -/
def modulated (x : Fin 2048 → EReal) (e : Fin 8) (l : Fin 2048) : EReal :=
  x l * Ideal.rsqrt (square x) * argW m c (ix2 0 l) * (1 + argM m c (ix2 e ⟨2048 + l.val, by omega⟩)) + argM m c (ix2 e ⟨l.val, by omega⟩)
/-- the result's rows: the context's, then the tokens' -/
def result (R : Fin 2304) (l : Fin 2048) : EReal :=
  if h : R.val < 256 then modulated m c (fun k => argC m c (ix2 ⟨R.val, h⟩ k)) 1 l
  else modulated m c (fun k => argX m c (ix2 ⟨R.val - 256, by omega⟩ k)) 0 l
theorem result_context (R : Fin 2304) (h : R.val < 256) (l : Fin 2048) : result m c R l = modulated m c (fun k => argC m c (ix2 ⟨R.val, h⟩ k)) 1 l := dif_pos h
theorem result_token (R : Fin 2304) (h : ¬R.val < 256) (l : Fin 2048) :
    result m c R l = modulated m c (fun k => argX m c (ix2 ⟨R.val - 256, by omega⟩ k)) 0 l := dif_neg h

theorem point (t : Fin cfg0.N) (r : Fin 256) (l : Fin 2048) :
    k0_pay1 (F := Ideal) (grid0.coords t) (iblk m c 0 t) (iblk m c 1 t) (iblk m c 2 t) (iblk m c 3 t) (ix2 r l) = result m c (row t r) l := by
  have hN : cfg0.N = 9 := N_0
  have ht := t.isLt
  unfold k0_pay1
  dsimp only
  by_cases h : t.val % 9 = 0
  · rw [first_flag t h]
    have hr : (row t r).val < 256 := by show t.val * 256 + r.val < 256; omega
    have e : r = ⟨(row t r).val, hr⟩ := Fin.ext (by show r.val = t.val * 256 + r.val; omega)
    refine Eq.trans ?_ (Eq.trans (congrArg (fun r => modulated m c (fun k => argC m c (ix2 r k)) 1 l) e) (result_context m c (row t r) hr l).symm)
    pointwise []
    simp only [block_c, block_w, block_shift, block_scale]
    rfl
  · rw [later_flag t h]
    have hr : ¬(row t r).val < 256 := by show ¬t.val * 256 + r.val < 256; omega
    have e : tokenAt t r = ⟨(row t r).val - 256, by omega⟩ := Fin.ext (by show (t.val - 1) * 256 + r.val = t.val * 256 + r.val - 256; omega)
    refine Eq.trans ?_ (Eq.trans (congrArg (fun r => modulated m c (fun k => argX m c (ix2 r k)) 0 l) e) (result_token m c (row t r) hr l).symm)
    pointwise []
    simp only [block_x, block_w, block_shift, block_scale]
    rfl

theorem value (R : Fin 2304) (l : Fin 2048) : (dats m 0 c).arrAt 4 cfg0.N (ix2 R l) = result m c R l := by
  obtain ⟨t, r, rfl⟩ := rows R
  have hb := congrFun (blocks4 m c t (flush0_4 t)) (ix2 r l)
  rw [flushed4, View.read_apply] at hb
  unfold out0_4 at hb
  rw [View.canon_unit_zero zeros2] at hb
  simp only [View.ld_unit_zero (S := S256x2048) zeros2, View.ld_unit_zero (S := S1x2048) zeros2, View.ld_unit_zero (S := S8x3x2048) zeros3] at hb
  refine Eq.trans ?_ (hb.trans (point m c t r l))
  congr 1
  funext a
  apply Fin.ext
  match a with
  | ⟨0, _⟩ => show t.val * 256 + r.val = win0_4.index t 0 * 256 + 1 * r.val; rw [(starts t).2.2.2.1]; omega
  | ⟨1, _⟩ => show l.val = win0_4.index t 1 * 2048 + 1 * l.val; rw [(starts t).2.2.2.2]; omega

end Cert.KernelHFwdIdeal.Rows

namespace Cert.HFwd

open Idealize.ShloMosaic Idealize.ShloMosaic.TcCoe Idealize.SL.Sem

/-- The reference leaves its arguments as they are, and has no semaphore. -/
theorem reference_frame : Cert.quiescent_ReferenceHFwdIdeal (hReferenceHFwdIdeal := Cert.ReferenceHFwdIdeal.Gen.facts) :=
  fun m ρ _ => (θ_run _ _ _).mono (fun r h => ⟨fun c => (h c).2, sem_eq_zero_of_no_sems (by decide) r.2⟩) (Cert.ReferenceHFwdIdeal.Value.run (F := Ideal) m ρ)

set_option maxHeartbeats 4000000 in
theorem algebraic : Cert.algebraic_KernelHFwdIdeal_ReferenceHFwdIdeal
    (hKernelHFwdIdeal := Cert.KernelHFwdIdeal.Gen.facts) (hReferenceHFwdIdeal := Cert.ReferenceHFwdIdeal.Gen.facts) := by
  intro m ρ m' ρ' _ hagree
  refine ⟨_, Cert.KernelHFwdIdeal.Value.run_blocks (F := Ideal) m ρ, ?_⟩
  refine (θ_run _ _ _).mono (fun _ h c => ⟨(h c).1.trans ?_, (h c).2⟩) (Cert.ReferenceHFwdIdeal.Value.run (F := Ideal) m' ρ')
  obtain ⟨e0, e1, e2, e3⟩ := hagree c
  rw [e0, e1, e2, e3]
  clear e0 e1 e2 e3
  funext i
  obtain ⟨R, l, rfl⟩ : ∃ R l, i = ix2 R l := ⟨i 0, i 1, funext fun a => by fin_cases a <;> rfl⟩
  refine Eq.trans ?_ (Cert.KernelHFwdIdeal.Rows.value m c R l).symm
  pointwise []
  by_cases h : R.val < 256
  · exact (dif_pos h).trans (Eq.trans rfl (Cert.KernelHFwdIdeal.Rows.result_context m c R h l).symm)
  · exact (dif_neg h).trans (Eq.trans rfl (Cert.KernelHFwdIdeal.Rows.result_token m c R h l).symm)

end Cert.HFwd
-- ==== Proof.MergeFwd.lean ====
/-
  The merged branches: each row of the result is a function of the same row of the arguments, and the kernel's blocks of 256
  rows are the reference's rows.
-/
module

public import proofs.«01_k».proof.Defs
public import proofs.«01_k».proof.Proof.Blocked
public import proofs.«01_k».proof.Proof.Gen.KernelMergeFwdIdeal.Value
public import proofs.«01_k».proof.Proof.Gen.ReferenceMergeFwdIdeal.Run
public import Idealize.ShloMosaic.Lib.VecWindow

@[expose] public section

set_option maxRecDepth 65536

noncomputable section

namespace Cert.KernelMergeFwdIdeal.Rows

open Idealize.ShloMosaic Idealize.ShloMosaic.TcCoe Idealize.SL.Sem Cert.KernelMergeFwdIdeal Cert.KernelMergeFwdIdeal.Gen Cert.KernelMergeFwdIdeal.Value Cert.Blocked

variable (m : (ℓ : Loc nD τ sig) → Buf (Elt Ideal) ℓ) (c : Dev nD)

abbrev argA : FVec Ideal S2304x2048 .f32 := m (c.tc.loc main_arg0)
abbrev argB : FVec Ideal S2304x2048 .f32 := m (c.tc.loc main_arg1)
abbrev argG : FVec Ideal S2304x4096 .f32 := m (c.tc.loc main_arg2)

/-- which blocks point `t` loads and writes -/
theorem starts : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 1)
    ∧ (win0_4.index t 0 = t.val ∧ win0_4.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 1)
    ∧ (win0_4.index t 0 = t.val ∧ win0_4.index t 1 = 0))

/-- row `r` of block `t` -/
def row (t : Fin cfg0.N) (r : Fin 256) : Fin 2304 := ⟨t.val * 256 + r.val, by have := t.isLt; have : cfg0.N = 9 := N_0; omega⟩

theorem rows (R : Fin 2304) : ∃ (t : Fin cfg0.N) (r : Fin 256), R = row t r := by
  have hN : cfg0.N = 9 := N_0
  exact ⟨⟨R.val / 256, by omega⟩, ⟨R.val % 256, by omega⟩, Fin.ext (by show R.val = R.val / 256 * 256 + R.val % 256; omega)⟩

theorem block_a (t : Fin cfg0.N) (r : Fin 256) (l : Fin 2048) : iblk m c 0 t (ix2 r l) = argA m c (ix2 (row t r) l) := by
  unfold iblk
  rw [View.read_apply]
  show m (c.tc.loc main_arg0) _ = m (c.tc.loc main_arg0) _
  congr 1
  funext a
  apply Fin.ext
  match a with
  | ⟨0, _⟩ => show win0_0.index t 0 * 256 + 1 * r.val = t.val * 256 + r.val; rw [(starts t).1.1]; omega
  | ⟨1, _⟩ => show win0_0.index t 1 * 2048 + 1 * l.val = l.val; rw [(starts t).1.2]; omega

theorem block_b (t : Fin cfg0.N) (r : Fin 256) (l : Fin 2048) : iblk m c 1 t (ix2 r l) = argB m c (ix2 (row t r) l) := by
  unfold iblk
  rw [View.read_apply]
  show m (c.tc.loc main_arg1) _ = m (c.tc.loc main_arg1) _
  congr 1
  funext a
  apply Fin.ext
  match a with
  | ⟨0, _⟩ => show win0_1.index t 0 * 256 + 1 * r.val = t.val * 256 + r.val; rw [(starts t).2.1.1]; omega
  | ⟨1, _⟩ => show win0_1.index t 1 * 2048 + 1 * l.val = l.val; rw [(starts t).2.1.2]; omega

/-- the first gate -/
theorem block_g (t : Fin cfg0.N) (r : Fin 256) (l : Fin 2048) : iblk m c 2 t (ix2 r l) = argG m c (ix2 (row t r) ⟨l.val, by omega⟩) := by
  unfold iblk
  rw [View.read_apply]
  show m (c.tc.loc main_arg2) _ = m (c.tc.loc main_arg2) _
  congr 1
  funext a
  apply Fin.ext
  match a with
  | ⟨0, _⟩ => show win0_2.index t 0 * 256 + 1 * r.val = t.val * 256 + r.val; rw [(starts t).2.2.1.1]; omega
  | ⟨1, _⟩ => show win0_2.index t 1 * 2048 + 1 * l.val = l.val; rw [(starts t).2.2.1.2]; omega

/-- the second gate -/
theorem block_h (t : Fin cfg0.N) (r : Fin 256) (l : Fin 2048) : iblk m c 3 t (ix2 r l) = argG m c (ix2 (row t r) ⟨2048 + l.val, by omega⟩) := by
  unfold iblk
  rw [View.read_apply]
  show m (c.tc.loc main_arg2) _ = m (c.tc.loc main_arg2) _
  congr 1
  funext a
  apply Fin.ext
  match a with
  | ⟨0, _⟩ => show win0_3.index t 0 * 256 + 1 * r.val = t.val * 256 + r.val; rw [(starts t).2.2.2.1.1]; omega
  | ⟨1, _⟩ => show win0_3.index t 1 * 2048 + 1 * l.val = 2048 + l.val; rw [(starts t).2.2.2.1.2]; omega

/-- the result, entry by entry -/
theorem value (R : Fin 2304) (l : Fin 2048) :
    ((dats m 0 c).arrAt 4 cfg0.N : FVec Ideal S2304x2048 .bf16) (ix2 R l)
      = Ideal.logistic (argG m c (ix2 R ⟨l.val, by omega⟩)) * argA m c (ix2 R l)
        + Ideal.logistic (argG m c (ix2 R ⟨2048 + l.val, by omega⟩)) * argB m c (ix2 R l) := by
  obtain ⟨t, r, rfl⟩ := rows R
  have hb := congrFun (blocks4 m c t (flush0_4 t)) (ix2 r l)
  rw [flushed4, View.read_apply] at hb
  unfold out0_4 at hb
  rw [View.canon_unit_zero zeros2] at hb
  simp only [View.ld_unit_zero (S := S256x2048) zeros2] at hb
  refine Eq.trans ?_ (hb.trans ?_)
  · congr 1
    funext a
    apply Fin.ext
    match a with
    | ⟨0, _⟩ => show t.val * 256 + r.val = win0_4.index t 0 * 256 + 1 * r.val; rw [(starts t).2.2.2.2.1]; omega
    | ⟨1, _⟩ => show l.val = win0_4.index t 1 * 2048 + 1 * l.val; rw [(starts t).2.2.2.2.2]; omega
  · refine Eq.trans (b := k0_pay1 (F := Ideal) (iblk m c 0 t) (iblk m c 1 t) (iblk m c 2 t) (iblk m c 3 t) (ix2 r l)) rfl ?_
    pointwise [k0_pay1]
    rw [block_a, block_b, block_g, block_h]

end Cert.KernelMergeFwdIdeal.Rows

namespace Cert.MergeFwd

open Idealize.ShloMosaic Idealize.ShloMosaic.TcCoe Idealize.SL.Sem

/-- The reference leaves its arguments as they are, and has no semaphore. -/
theorem reference_frame : Cert.quiescent_ReferenceMergeFwdIdeal (hReferenceMergeFwdIdeal := Cert.ReferenceMergeFwdIdeal.Gen.facts) :=
  fun m ρ _ => (θ_run _ _ _).mono (fun r h => ⟨fun c => (h c).2, sem_eq_zero_of_no_sems (by decide) r.2⟩) (Cert.ReferenceMergeFwdIdeal.Value.run (F := Ideal) m ρ)

theorem algebraic : Cert.algebraic_KernelMergeFwdIdeal_ReferenceMergeFwdIdeal
    (hKernelMergeFwdIdeal := Cert.KernelMergeFwdIdeal.Gen.facts) (hReferenceMergeFwdIdeal := Cert.ReferenceMergeFwdIdeal.Gen.facts) := by
  intro m ρ m' ρ' _ hagree
  refine ⟨_, Cert.KernelMergeFwdIdeal.Value.run_blocks (F := Ideal) m ρ, ?_⟩
  refine (θ_run _ _ _).mono (fun _ h c => ⟨(h c).1.trans ?_, (h c).2⟩) (Cert.ReferenceMergeFwdIdeal.Value.run (F := Ideal) m' ρ')
  obtain ⟨e0, e1, e2⟩ := hagree c
  rw [e0, e1, e2]
  clear e0 e1 e2
  funext i
  obtain ⟨R, l, rfl⟩ : ∃ R l, i = ix2 R l := ⟨i 0, i 1, funext fun a => by fin_cases a <;> rfl⟩
  refine Eq.trans ?_ (Cert.KernelMergeFwdIdeal.Rows.value m c R l).symm
  pointwise []
  rfl

end Cert.MergeFwd
-- ==== Proof.PostFwd.lean ====
/-
  The output's normalisation and gate, over blocks of 256 rows: the two directions' sum is normalised in each head of 128 columns,
  weighted and gated.
-/
module

public import proofs.«01_k».proof.Defs
public import proofs.«01_k».proof.Proof.Blocked
public import proofs.«01_k».proof.Proof.Gen.KernelPostFwdIdeal.Value
public import proofs.«01_k».proof.Proof.Gen.ReferencePostFwdIdeal.Run
public import Idealize.ShloMosaic.Lib.VecWindow

@[expose] public section

set_option maxRecDepth 65536

noncomputable section

namespace Cert.KernelPostFwdIdeal.Rows

open Idealize.ShloMosaic Idealize.ShloMosaic.TcCoe Idealize.SL.Sem Cert.KernelPostFwdIdeal Cert.KernelPostFwdIdeal.Gen Cert.KernelPostFwdIdeal.Value Cert.Blocked

theorem stored (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S1x1024 .f32) (h4 : a4.IsWhole)
    (a5 : Memref sig .tc .vmem S256x1024 .bf16) (h5 : a5.IsWhole)
    (x0 x1 x2 : FVec Ideal S256x1024 .f32) (x3 : FVec Ideal S1x1024 .f32) :
    out0_A_4 (F := Ideal) c i a1 h1 a2 h2 a3 h3 a4 h4 a5 h5 x0 x1 x2 x3 = k0_pay1 (F := Ideal) x0 x1 x2 x3 := by
  unfold out0_A_4
  rw [View.read_writes_eq_canon _ _ _ (cover0_A_4 (F := Ideal) c i a1 h1 a2 h2 a3 h3 a4 h4 a5 h5 x0 x1 x2 x3)]
  unfold kernelRun0_A
  dsimp only
  rw [View.canon_unit_zero zeros2]
  simp only [View.readAt_eq_ld, h1.read_unread, h2.read_unread, h3.read_unread, h4.read_unread, View.ld_unit_zero (S := S256x1024) zeros2, View.ld_unit_zero (S := S1x1024) zeros2]

variable (m : (ℓ : Loc nD τ sig) → Buf (Elt Ideal) ℓ) (c : Dev nD)

abbrev argF : FVec Ideal S2304x1024 .f32 := m (c.tc.loc main_arg0)
abbrev argB : FVec Ideal S2304x1024 .f32 := m (c.tc.loc main_arg1)
abbrev argZ : FVec Ideal S2304x13568 .f32 := m (c.tc.loc main_arg2)
abbrev argW : FVec Ideal S1x1024 .f32 := m (c.tc.loc main_arg3)

/-- which blocks point `t` loads and writes -/
theorem starts : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 4)
    ∧ (win0_3.index t 0 = 0 ∧ win0_3.index t 1 = 0)
    ∧ (win0_4.index t 0 = t.val ∧ win0_4.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 4)
    ∧ (win0_3.index t 0 = 0 ∧ win0_3.index t 1 = 0)
    ∧ (win0_4.index t 0 = t.val ∧ win0_4.index t 1 = 0))

/-- row `r` of block `t` -/
def row (t : Fin cfg0.N) (r : Fin 256) : Fin 2304 := ⟨t.val * 256 + r.val, by have := t.isLt; have : cfg0.N = 9 := N_0; omega⟩

theorem rows (R : Fin 2304) : ∃ (t : Fin cfg0.N) (r : Fin 256), R = row t r := by
  have hN : cfg0.N = 9 := N_0
  exact ⟨⟨R.val / 256, by omega⟩, ⟨R.val % 256, by omega⟩, Fin.ext (by show R.val = R.val / 256 * 256 + R.val % 256; omega)⟩

theorem block_f (t : Fin cfg0.N) (r : Fin 256) (l : Fin 1024) : iblk m c 0 t (ix2 r l) = argF m c (ix2 (row t r) l) := by
  unfold iblk
  rw [View.read_apply]
  show m (c.tc.loc main_arg0) _ = m (c.tc.loc main_arg0) _
  congr 1
  funext a
  apply Fin.ext
  match a with
  | ⟨0, _⟩ => show win0_0.index t 0 * 256 + 1 * r.val = t.val * 256 + r.val; rw [(starts t).1.1]; omega
  | ⟨1, _⟩ => show win0_0.index t 1 * 1024 + 1 * l.val = l.val; rw [(starts t).1.2]; omega

theorem block_b (t : Fin cfg0.N) (r : Fin 256) (l : Fin 1024) : iblk m c 1 t (ix2 r l) = argB m c (ix2 (row t r) l) := by
  unfold iblk
  rw [View.read_apply]
  show m (c.tc.loc main_arg1) _ = m (c.tc.loc main_arg1) _
  congr 1
  funext a
  apply Fin.ext
  match a with
  | ⟨0, _⟩ => show win0_1.index t 0 * 256 + 1 * r.val = t.val * 256 + r.val; rw [(starts t).2.1.1]; omega
  | ⟨1, _⟩ => show win0_1.index t 1 * 1024 + 1 * l.val = l.val; rw [(starts t).2.1.2]; omega

/-- the gate's columns are the fifth 1024 of the projections -/
theorem block_z (t : Fin cfg0.N) (r : Fin 256) (l : Fin 1024) : X0_2 m c t (ix2 r l) = argZ m c (ix2 (row t r) ⟨4096 + l.val, by omega⟩) := by
  unfold X0_2 Pipeline.Window.fill
  rw [dif_pos (moved0_2 t (ix2 r l))]
  unfold iblk
  rw [View.read_apply]
  show m (c.tc.loc main_arg2) _ = m (c.tc.loc main_arg2) _
  congr 1
  funext a
  apply Fin.ext
  match a with
  | ⟨0, _⟩ => show win0_2.index t 0 * 256 + 1 * r.val = t.val * 256 + r.val; rw [(starts t).2.2.1.1]; omega
  | ⟨1, _⟩ => show win0_2.index t 1 * 1024 + 1 * l.val = 4096 + l.val; rw [(starts t).2.2.1.2]; omega

theorem block_w (t : Fin cfg0.N) (z : Fin 1) (l : Fin 1024) : iblk m c 3 t (ix2 z l) = argW m c (ix2 z l) := by
  unfold iblk
  rw [View.read_apply]
  show m (c.tc.loc main_arg3) _ = m (c.tc.loc main_arg3) _
  congr 1
  funext a
  apply Fin.ext
  match a with
  | ⟨0, _⟩ => show win0_3.index t 0 * 1 + 1 * z.val = z.val; rw [(starts t).2.2.2.1.1]; omega
  | ⟨1, _⟩ => show win0_3.index t 1 * 1024 + 1 * l.val = l.val; rw [(starts t).2.2.2.1.2]; omega

/-- place `k` of the head that column `l` belongs to -/
def inHead (l : Fin 1024) (k : Fin 128) : Fin 1024 := ⟨l.val / 128 * 128 + k.val, by omega⟩
/-- the two directions' outputs summed -/
def both (R : Fin 2304) (l : Fin 1024) : EReal := argF m c (ix2 R l) + argB m c (ix2 R l)
/-- the head's mean square, and epsilon -/
def square (R : Fin 2304) (l : Fin 1024) : EReal :=
  Ideal.div (∑ k : Fin 128, both m c R (inHead l k) * both m c R (inHead l k)) (Ideal.ofBits .f32 1124073472#32) + Ideal.ofBits .f32 897988541#32
def gate (R : Fin 2304) (l : Fin 1024) : EReal := argZ m c (ix2 R ⟨4096 + l.val, by omega⟩)
/-- the normalised, weighted and gated output -/
def gated (R : Fin 2304) (l : Fin 1024) : EReal :=
  both m c R l * Ideal.rsqrt (square m c R l) * argW m c (ix2 0 l) * (gate m c R l * Ideal.logistic (gate m c R l))

/-- the result, entry by entry -/
theorem value (R : Fin 2304) (l : Fin 1024) : (dats m 0 c).arrAt 4 cfg0.N (ix2 R l) = gated m c R l := by
  obtain ⟨t, r, rfl⟩ := rows R
  have hb := congrFun (blocks4 m c t (flush0_4 t)) (ix2 r l)
  rw [flushed4_A, stored, View.read_apply] at hb
  refine Eq.trans ?_ (hb.trans ?_)
  · congr 1
    funext a
    apply Fin.ext
    match a with
    | ⟨0, _⟩ => show t.val * 256 + r.val = win0_4.index t 0 * 256 + 1 * r.val; rw [(starts t).2.2.2.2.1]; omega
    | ⟨1, _⟩ => show l.val = win0_4.index t 1 * 1024 + 1 * l.val; rw [(starts t).2.2.2.2.2]; omega
  · refine Eq.trans (b := k0_pay1 (F := Ideal) (iblk m c 0 t) (iblk m c 1 t) (X0_2 m c t) (iblk m c 3 t) (ix2 r l)) rfl ?_
    pointwise [k0_pay1]
    simp only [Fin.sum_univ_one, block_f, block_b, block_z, block_w]
    rfl

end Cert.KernelPostFwdIdeal.Rows

namespace Cert.PostFwd

open Idealize.ShloMosaic Idealize.ShloMosaic.TcCoe Idealize.SL.Sem

/-- The reference leaves its arguments as they are, and has no semaphore. -/
theorem reference_frame : Cert.quiescent_ReferencePostFwdIdeal (hReferencePostFwdIdeal := Cert.ReferencePostFwdIdeal.Gen.facts) :=
  fun m ρ _ => (θ_run _ _ _).mono (fun r h => ⟨fun c => (h c).2, sem_eq_zero_of_no_sems (by decide) r.2⟩) (Cert.ReferencePostFwdIdeal.Value.run (F := Ideal) m ρ)

set_option maxHeartbeats 4000000 in
theorem algebraic : Cert.algebraic_KernelPostFwdIdeal_ReferencePostFwdIdeal
    (hKernelPostFwdIdeal := Cert.KernelPostFwdIdeal.Gen.facts) (hReferencePostFwdIdeal := Cert.ReferencePostFwdIdeal.Gen.facts) := by
  intro m ρ m' ρ' _ hagree
  refine ⟨_, Cert.KernelPostFwdIdeal.Value.run_blocks (F := Ideal) m ρ, ?_⟩
  refine (θ_run _ _ _).mono (fun _ h c => ⟨(h c).1.trans ?_, (h c).2⟩) (Cert.ReferencePostFwdIdeal.Value.run (F := Ideal) m' ρ')
  obtain ⟨e0, e1, e2, e3⟩ := hagree c
  rw [e0, e1, e2, e3]
  clear e0 e1 e2 e3
  funext i
  obtain ⟨R, l, rfl⟩ : ∃ R l, i = ix2 R l := ⟨i 0, i 1, funext fun a => by fin_cases a <;> rfl⟩
  refine Eq.trans ?_ (Cert.KernelPostFwdIdeal.Rows.value m c R l).symm
  pointwise []
  rfl

end Cert.PostFwd
-- ==== Proof.Silu.lean ====
/-
  The silu of the conditioning's sixteen rows: one block, entry by entry.
-/
module

public import proofs.«01_k».proof.Defs
public import proofs.«01_k».proof.Proof.Blocked
public import proofs.«01_k».proof.Proof.Gen.KernelSiluIdeal.Value
public import proofs.«01_k».proof.Proof.Gen.ReferenceSiluIdeal.Run
public import Idealize.ShloMosaic.Lib.VecWindow

@[expose] public section

set_option maxRecDepth 65536

noncomputable section

namespace Cert.Silu

open Idealize.ShloMosaic Idealize.ShloMosaic.TcCoe Idealize.SL.Sem

/-- The reference leaves its arguments as they are, and has no semaphore. -/
theorem reference_frame : Cert.quiescent_ReferenceSiluIdeal (hReferenceSiluIdeal := Cert.ReferenceSiluIdeal.Gen.facts) :=
  fun m ρ _ => (θ_run _ _ _).mono (fun r h => ⟨fun c => (h c).2, sem_eq_zero_of_no_sems (by decide) r.2⟩) (Cert.ReferenceSiluIdeal.Value.run (F := Ideal) m ρ)

theorem algebraic : Cert.algebraic_KernelSiluIdeal_ReferenceSiluIdeal
    (hKernelSiluIdeal := Cert.KernelSiluIdeal.Gen.facts) (hReferenceSiluIdeal := Cert.ReferenceSiluIdeal.Gen.facts) := by
  intro m ρ m' ρ' _ hagree
  refine ⟨_, Cert.KernelSiluIdeal.Value.run (F := Ideal) m ρ, ?_⟩
  refine (θ_run _ _ _).mono (fun _ h c => ⟨(h c).1.trans ?_, (h c).2⟩) (Cert.ReferenceSiluIdeal.Value.run (F := Ideal) m' ρ')
  obtain e0 := hagree c
  rw [e0]
  clear e0
  funext i
  obtain ⟨R, l, rfl⟩ : ∃ R l, i = ix2 R l := ⟨i 0, i 1, funext fun a => by fin_cases a <;> rfl⟩
  pointwise []
  rfl

end Cert.Silu
-- ==== Proof.SiluBwd.lean ====
/-
  The gradient of the silu of the conditioning's sixteen rows: one block, entry by entry.
-/
module

public import proofs.«01_k».proof.Defs
public import proofs.«01_k».proof.Proof.Blocked
public import proofs.«01_k».proof.Proof.Gen.KernelSiluBwdIdeal.Value
public import proofs.«01_k».proof.Proof.Gen.ReferenceSiluBwdIdeal.Run
public import Idealize.ShloMosaic.Lib.VecWindow

@[expose] public section

set_option maxRecDepth 65536

noncomputable section

namespace Cert.SiluBwd

open Idealize.ShloMosaic Idealize.ShloMosaic.TcCoe Idealize.SL.Sem

/-- The reference leaves its arguments as they are, and has no semaphore. -/
theorem reference_frame : Cert.quiescent_ReferenceSiluBwdIdeal (hReferenceSiluBwdIdeal := Cert.ReferenceSiluBwdIdeal.Gen.facts) :=
  fun m ρ _ => (θ_run _ _ _).mono (fun r h => ⟨fun c => (h c).2, sem_eq_zero_of_no_sems (by decide) r.2⟩) (Cert.ReferenceSiluBwdIdeal.Value.run (F := Ideal) m ρ)

theorem algebraic : Cert.algebraic_KernelSiluBwdIdeal_ReferenceSiluBwdIdeal
    (hKernelSiluBwdIdeal := Cert.KernelSiluBwdIdeal.Gen.facts) (hReferenceSiluBwdIdeal := Cert.ReferenceSiluBwdIdeal.Gen.facts) := by
  intro m ρ m' ρ' _ hagree
  refine ⟨_, Cert.KernelSiluBwdIdeal.Value.run (F := Ideal) m ρ, ?_⟩
  refine (θ_run _ _ _).mono (fun _ h c => ⟨(h c).1.trans ?_, (h c).2⟩) (Cert.ReferenceSiluBwdIdeal.Value.run (F := Ideal) m' ρ')
  obtain ⟨e0, e1⟩ := hagree c
  rw [e0, e1]
  clear e0 e1
  funext i
  obtain ⟨R, l, rfl⟩ : ∃ R l, i = ix2 R l := ⟨i 0, i 1, funext fun a => by fin_cases a <;> rfl⟩
  pointwise []
  rfl

end Cert.SiluBwd
-- ==== Proof.Ada.lean ====
/-
  The modulation product, `sc · w`: the kernel's sum over two blocks of 1024 features is the reference's sum over all 2048.
-/
module

public import proofs.«01_k».proof.Defs
public import proofs.«01_k».proof.Proof.Blocked
public import proofs.«01_k».proof.Proof.Gen.KernelAdaIdeal.Value
public import proofs.«01_k».proof.Proof.Gen.ReferenceAdaIdeal.Run

@[expose] public section

set_option maxRecDepth 65536

noncomputable section

namespace Cert.KernelAdaIdeal.Product

open Idealize.ShloMosaic Idealize.ShloMosaic.TcCoe Idealize.SL.Sem Cert.KernelAdaIdeal Cert.KernelAdaIdeal.Gen Cert.KernelAdaIdeal.Value Cert.Blocked

/-! ## One point of the grid -/

/-- what a point adds to entry `(r, l)` of the accumulator -/
def term (x : FVec Ideal S16x1024 .f32) (y : FVec Ideal S1024x512 .f32) (r : Fin 16) (l : Fin 512) : EReal :=
  ∑ p : Fin 1024, x (ix2 r p) * y (ix2 p l)

section Point

variable (c : Dev nD) (i : grid0.Coords)
  (a3 : Memref sig .tc .vmem S16x1024 .f32) (h3 : a3.IsWhole) (a4 : Memref sig .tc .vmem S1024x512 .f32) (h4 : a4.IsWhole)
  (a5 : Memref sig .tc .vmem S16x512 .f32) (h5 : a5.IsWhole) (a6 : Memref sig .tc .vmem S16x512 .f32) (h6 : a6.IsWhole)
  (x : FVec Ideal S16x1024 .f32) (y : FVec Ideal S1024x512 .f32) (acc : FVec Ideal S16x512 .f32)

theorem added (r : Fin 16) (l : Fin 512) : k0_pay2 (F := Ideal) acc x y (ix2 r l) = acc (ix2 r l) + term x y r l := by
  pointwise [k0_pay2]
  rfl

theorem zero (r : Fin 16) (l : Fin 512) : k0_pay1 (F := Ideal) (ix2 r l) = 0 := by
  pointwise [k0_pay1]

theorem first (hc0 : cond0_0 i) (hc1 : ¬cond0_1 i) :
    sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 (F := Ideal) c i a3 h3 a4 h4 a5 h5 a6 h6 hc0 hc1 x y)]
  unfold kernelRun0_A
  dsimp only
  sl_unfold_words
  rw [View.canon_cons_unit_zero zeros2]
  simp only [View.readAt_eq_ld, h3.read_unread, h4.read_unread, View.ld_unit_zero (S := S16x1024) zeros2, View.ld_unit_zero (S := S1024x512) zeros2, View.readCov_unit_zero (S := S16x512) _ zeros2]

theorem last (hc0 : ¬cond0_0 i) (hc1 : cond0_1 i) :
    sout0_B_0 (F := Ideal) c i a3 h3 a4 h4 a5 h5 a6 h6 hc0 hc1 x y acc = k0_pay2 (F := Ideal) acc x y := by
  unfold sout0_B_0
  rw [View.read_writes_eq_canon _ _ _ (scover0_B_0 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S16x1024) zeros2, View.ld_unit_zero (S := S1024x512) zeros2, View.ld_unit_zero (S := S16x512) zeros2]

theorem stored (hc0 : ¬cond0_0 i) (hc1 : cond0_1 i) :
    out0_B_2 (F := Ideal) c i a3 h3 a4 h4 a5 h5 a6 h6 hc0 hc1 x y acc = k0_pay2 (F := Ideal) acc x y := by
  unfold out0_B_2
  rw [View.read_writes_eq_canon _ _ _ (cover0_B_2 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S16x1024) zeros2, View.ld_unit_zero (S := S1024x512) zeros2, View.ld_unit_zero (S := S16x512) zeros2, View.readCov_unit_zero (S := S16x512) _ zeros2]

end Point

/-! ## The grid -/

variable (m : (ℓ : Loc nD τ sig) → Buf (Elt Ideal) ℓ) (c : Dev nD)

abbrev argX : FVec Ideal S16x2048 .f32 := m (c.tc.loc main_arg0)
abbrev argY : FVec Ideal S2048x1536 .f32 := m (c.tc.loc main_arg1)

/-- which blocks point `t` loads -/
theorem starts : ∀ t : Fin cfg0.N, win0_0.index t 0 = 0 ∧ win0_0.index t 1 = t.val % 2 ∧ win0_1.index t 0 = t.val % 2 ∧ win0_1.index t 1 = t.val / 2 :=
  (by decide +kernel : ∀ t : Fin grid0.N, win0_0.index t 0 = 0 ∧ win0_0.index t 1 = t.val % 2 ∧ win0_1.index t 0 = t.val % 2 ∧ win0_1.index t 1 = t.val / 2)

/-- entry `(r, l)` of the accumulator after point `n`, and what point `n` adds to it -/
def held (r : Fin 16) (l : Fin 512) (n : ℕ) (h : n < cfg0.N) : EReal := (outsAt0 m c n h).2 (ix2 r l)
def adds (r : Fin 16) (l : Fin 512) (n : ℕ) (h : n < cfg0.N) : EReal := term (iblk m c 0 ⟨n, h⟩) (iblk m c 1 ⟨n, h⟩) r l

theorem held_first (r : Fin 16) (l : Fin 512) (n : ℕ) (h : n < cfg0.N) (hn : n % 2 = 0) : held m c r l n h = adds m c r l n h := by
  unfold held
  rw [outsAt0_A m c ⟨n, h⟩ hn (by dsimp only; omega)]
  dsimp only
  rw [first, added, zero, zero_add]
  rfl

theorem held_later (r : Fin 16) (l : Fin 512) (n : ℕ) (h : n + 1 < cfg0.N) (hn : ¬(n + 1) % 2 = 0) :
    held m c r l (n + 1) h = held m c r l n (Nat.lt_of_succ_lt h) + adds m c r l (n + 1) h := by
  unfold held
  rw [outsAt0_B m c ⟨n + 1, h⟩ hn (by dsimp only; omega)]
  dsimp only
  rw [last, added]
  rfl

/-- what a point that ends a run writes is what the accumulator then holds -/
theorem written (r : Fin 16) (l : Fin 512) (n : ℕ) (h : n < cfg0.N) (hn : n % 2 = 1) :
    (outsAt0 m c n h).1 (ix2 r l) = held m c r l n h := by
  unfold held
  rw [outsAt0_B m c ⟨n, h⟩ (by dsimp only; omega) hn]
  dsimp only
  rw [stored, last]

/-- the result array, entry by entry -/
theorem value (R : Fin 16) (l : Fin 1536) :
    (G2 m c : FVec Ideal S16x1536 .f32) (ix2 R l) = ∑ p : Fin 2048, argX m c (ix2 R p) * argY m c (ix2 p l) := by
  have hN : cfg0.N = 6 := N_0
  have hq : run2Of (ix2 R l) = 3 * (R.val / 16) + l.val / 512 := by
    show 3 * (R.val / 16 - 0) + 1 * (l.val / 512 - 0) = _; omega
  have hloc : loc2Of (ix2 R l) = ix2 ⟨R.val % 16, by omega⟩ ⟨l.val % 512, by omega⟩ := funext fun a => Fin.ext <| by
    match a with
    | ⟨0, _⟩ => rfl
    | ⟨1, _⟩ => rfl
  have hlt : pt2Of (ix2 R l) < cfg0.N := by show 2 * run2Of (ix2 R l) + 1 < _; omega
  unfold G2
  rw [dif_pos hlt, ← outsAt0_sweep m c _ hlt, hloc, written m c _ _ _ hlt (by show (2 * run2Of (ix2 R l) + 1) % 2 = 1; omega)]
  refine whole_sum 1 1024 rfl (held m c _ _) (adds m c _ _) (fun p : Fin 2048 => argX m c (ix2 R p) * argY m c (ix2 p l))
    (held_first m c _ _) (held_later m c _ _) (run2Of (ix2 R l)) hlt fun s h => ?_
  generalize run2Of (ix2 R l) = q at hq h ⊢
  have hs : s.val < 2 := s.isLt
  unfold adds term
  refine Finset.sum_congr rfl fun p _ => ?_
  obtain ⟨f0, f1, g0, g1⟩ := starts ⟨2 * q + s.val, h⟩
  dsimp only at f0 f1 g0 g1
  refine congrArg₂ (· * ·) ?_ ?_
  · unfold iblk
    rw [View.read_apply]
    show m (c.tc.loc main_arg0) _ = m (c.tc.loc main_arg0) _
    congr 1
    funext a
    apply Fin.ext
    match a with
    | ⟨0, _⟩ => show win0_0.index _ 0 * 16 + 1 * (R.val % 16) = R.val; rw [f0]; omega
    | ⟨1, _⟩ => show win0_0.index _ 1 * 1024 + 1 * p.val = s.val * 1024 + p.val; rw [f1]; omega
  · unfold iblk
    rw [View.read_apply]
    show m (c.tc.loc main_arg1) _ = m (c.tc.loc main_arg1) _
    congr 1
    funext a
    apply Fin.ext
    match a with
    | ⟨0, _⟩ => show win0_1.index _ 0 * 1024 + 1 * p.val = s.val * 1024 + p.val; rw [g0]; omega
    | ⟨1, _⟩ => show win0_1.index _ 1 * 512 + 1 * (l.val % 512) = l.val; rw [g1]; omega

end Cert.KernelAdaIdeal.Product

namespace Cert.Ada

open Idealize.ShloMosaic Idealize.ShloMosaic.TcCoe Idealize.SL.Sem

/-- The reference leaves its arguments as they are, and has no semaphore. -/
theorem reference_frame : Cert.quiescent_ReferenceAdaIdeal (hReferenceAdaIdeal := Cert.ReferenceAdaIdeal.Gen.facts) :=
  fun m ρ _ => (θ_run _ _ _).mono (fun r h => ⟨fun c => (h c).2, sem_eq_zero_of_no_sems (by decide) r.2⟩) (Cert.ReferenceAdaIdeal.Value.run (F := Ideal) m ρ)

theorem algebraic : Cert.algebraic_KernelAdaIdeal_ReferenceAdaIdeal
    (hKernelAdaIdeal := Cert.KernelAdaIdeal.Gen.facts) (hReferenceAdaIdeal := Cert.ReferenceAdaIdeal.Gen.facts) := by
  intro m ρ m' ρ' _ hagree
  refine ⟨_, Cert.KernelAdaIdeal.Value.run (F := Ideal) m ρ, ?_⟩
  refine (θ_run _ _ _).mono (fun _ h c => ⟨(h c).1.trans ?_, (h c).2⟩) (Cert.ReferenceAdaIdeal.Value.run (F := Ideal) m' ρ')
  obtain ⟨e0, e1⟩ := hagree c
  rw [e0, e1]
  funext i
  obtain ⟨R, l, rfl⟩ : ∃ (R : Fin 16) (l : Fin 1536), i = ix2 R l := ⟨i 0, i 1, funext fun a => by fin_cases a <;> rfl⟩
  refine Eq.trans ?_ (Cert.KernelAdaIdeal.Product.value m c R l).symm
  pointwise []

end Cert.Ada
-- ==== Proof.AdaX.lean ====
/-
  The gradient of the modulation product's input, `ct · wᵀ`: the kernel's sum over two blocks of 768 columns is the reference's
  sum over all 1536.
-/
module

public import proofs.«01_k».proof.Defs
public import proofs.«01_k».proof.Proof.Blocked
public import proofs.«01_k».proof.Proof.Gen.KernelAdaXIdeal.Value
public import proofs.«01_k».proof.Proof.Gen.ReferenceAdaXIdeal.Run

@[expose] public section

set_option maxRecDepth 65536

noncomputable section

namespace Cert.KernelAdaXIdeal.Product

open Idealize.ShloMosaic Idealize.ShloMosaic.TcCoe Idealize.SL.Sem Cert.KernelAdaXIdeal Cert.KernelAdaXIdeal.Gen Cert.KernelAdaXIdeal.Value Cert.Blocked

/-! ## One point of the grid -/

/-- what a point adds to entry `(r, l)` of the accumulator -/
def term (x : FVec Ideal S16x768 .f32) (y : FVec Ideal S512x768 .f32) (r : Fin 16) (l : Fin 512) : EReal :=
  ∑ p : Fin 768, x (ix2 r p) * y (ix2 l p)

section Point

variable (c : Dev nD) (i : grid0.Coords)
  (a3 : Memref sig .tc .vmem S16x768 .f32) (h3 : a3.IsWhole) (a4 : Memref sig .tc .vmem S512x768 .f32) (h4 : a4.IsWhole)
  (a5 : Memref sig .tc .vmem S16x512 .f32) (h5 : a5.IsWhole) (a6 : Memref sig .tc .vmem S16x512 .f32) (h6 : a6.IsWhole)
  (x : FVec Ideal S16x768 .f32) (y : FVec Ideal S512x768 .f32) (acc : FVec Ideal S16x512 .f32)

theorem added (r : Fin 16) (l : Fin 512) : k0_pay2 (F := Ideal) acc x y (ix2 r l) = acc (ix2 r l) + term x y r l := by
  pointwise [k0_pay2]
  rfl

theorem zero (r : Fin 16) (l : Fin 512) : k0_pay1 (F := Ideal) (ix2 r l) = 0 := by
  pointwise [k0_pay1]

theorem first (hc0 : cond0_0 i) (hc1 : ¬cond0_1 i) :
    sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 (F := Ideal) c i a3 h3 a4 h4 a5 h5 a6 h6 hc0 hc1 x y)]
  unfold kernelRun0_A
  dsimp only
  sl_unfold_words
  rw [View.canon_cons_unit_zero zeros2]
  simp only [View.readAt_eq_ld, h3.read_unread, h4.read_unread, View.ld_unit_zero (S := S16x768) zeros2, View.ld_unit_zero (S := S512x768) zeros2, View.readCov_unit_zero (S := S16x512) _ zeros2]

theorem last (hc0 : ¬cond0_0 i) (hc1 : cond0_1 i) :
    sout0_B_0 (F := Ideal) c i a3 h3 a4 h4 a5 h5 a6 h6 hc0 hc1 x y acc = k0_pay2 (F := Ideal) acc x y := by
  unfold sout0_B_0
  rw [View.read_writes_eq_canon _ _ _ (scover0_B_0 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S16x768) zeros2, View.ld_unit_zero (S := S512x768) zeros2, View.ld_unit_zero (S := S16x512) zeros2]

theorem stored (hc0 : ¬cond0_0 i) (hc1 : cond0_1 i) :
    out0_B_2 (F := Ideal) c i a3 h3 a4 h4 a5 h5 a6 h6 hc0 hc1 x y acc = k0_pay2 (F := Ideal) acc x y := by
  unfold out0_B_2
  rw [View.read_writes_eq_canon _ _ _ (cover0_B_2 (F := Ideal) c i a3 h3 a4 h4 a5 h5 a6 h6 hc0 hc1 x y acc)]
  unfold kernelRun0_B
  dsimp only
  sl_unfold_words
  rw [View.canon_unit_zero zeros2]
  simp only [View.readAt_eq_ld, h3.read_unread, h4.read_unread, h6.read_unread, View.ld_unit_zero (S := S16x768) zeros2, View.ld_unit_zero (S := S512x768) zeros2, View.ld_unit_zero (S := S16x512) zeros2, View.readCov_unit_zero (S := S16x512) _ zeros2]

end Point

/-! ## The grid -/

variable (m : (ℓ : Loc nD τ sig) → Buf (Elt Ideal) ℓ) (c : Dev nD)

abbrev argX : FVec Ideal S16x1536 .f32 := m (c.tc.loc main_arg0)
abbrev argY : FVec Ideal S2048x1536 .f32 := m (c.tc.loc main_arg1)

/-- which blocks point `t` loads -/
theorem starts : ∀ t : Fin cfg0.N, win0_0.index t 0 = 0 ∧ win0_0.index t 1 = t.val % 2 ∧ win0_1.index t 0 = t.val / 2 ∧ win0_1.index t 1 = t.val % 2 :=
  (by decide +kernel : ∀ t : Fin grid0.N, win0_0.index t 0 = 0 ∧ win0_0.index t 1 = t.val % 2 ∧ win0_1.index t 0 = t.val / 2 ∧ win0_1.index t 1 = t.val % 2)

/-- entry `(r, l)` of the accumulator after point `n`, and what point `n` adds to it -/
def held (r : Fin 16) (l : Fin 512) (n : ℕ) (h : n < cfg0.N) : EReal := (outsAt0 m c n h).2 (ix2 r l)
def adds (r : Fin 16) (l : Fin 512) (n : ℕ) (h : n < cfg0.N) : EReal := term (iblk m c 0 ⟨n, h⟩) (iblk m c 1 ⟨n, h⟩) r l

theorem held_first (r : Fin 16) (l : Fin 512) (n : ℕ) (h : n < cfg0.N) (hn : n % 2 = 0) : held m c r l n h = adds m c r l n h := by
  unfold held
  rw [outsAt0_A m c ⟨n, h⟩ hn (by dsimp only; omega)]
  dsimp only
  rw [first, added, zero, zero_add]
  rfl

theorem held_later (r : Fin 16) (l : Fin 512) (n : ℕ) (h : n + 1 < cfg0.N) (hn : ¬(n + 1) % 2 = 0) :
    held m c r l (n + 1) h = held m c r l n (Nat.lt_of_succ_lt h) + adds m c r l (n + 1) h := by
  unfold held
  rw [outsAt0_B m c ⟨n + 1, h⟩ hn (by dsimp only; omega)]
  dsimp only
  rw [last, added]
  rfl

/-- what a point that ends a run writes is what the accumulator then holds -/
theorem written (r : Fin 16) (l : Fin 512) (n : ℕ) (h : n < cfg0.N) (hn : n % 2 = 1) :
    (outsAt0 m c n h).1 (ix2 r l) = held m c r l n h := by
  unfold held
  rw [outsAt0_B m c ⟨n, h⟩ (by dsimp only; omega) hn]
  dsimp only
  rw [stored, last]

/-- the result array, entry by entry -/
theorem value (R : Fin 16) (l : Fin 2048) :
    (G2 m c : FVec Ideal S16x2048 .f32) (ix2 R l) = ∑ p : Fin 1536, argX m c (ix2 R p) * argY m c (ix2 l p) := by
  have hN : cfg0.N = 8 := N_0
  have hq : run2Of (ix2 R l) = 4 * (R.val / 16) + l.val / 512 := by
    show 4 * (R.val / 16 - 0) + 1 * (l.val / 512 - 0) = _; omega
  have hloc : loc2Of (ix2 R l) = ix2 ⟨R.val % 16, by omega⟩ ⟨l.val % 512, by omega⟩ := funext fun a => Fin.ext <| by
    match a with
    | ⟨0, _⟩ => rfl
    | ⟨1, _⟩ => rfl
  have hlt : pt2Of (ix2 R l) < cfg0.N := by show 2 * run2Of (ix2 R l) + 1 < _; omega
  unfold G2
  rw [dif_pos hlt, ← outsAt0_sweep m c _ hlt, hloc, written m c _ _ _ hlt (by show (2 * run2Of (ix2 R l) + 1) % 2 = 1; omega)]
  refine whole_sum 1 768 rfl (held m c _ _) (adds m c _ _) (fun p : Fin 1536 => argX m c (ix2 R p) * argY m c (ix2 l p))
    (held_first m c _ _) (held_later m c _ _) (run2Of (ix2 R l)) hlt fun s h => ?_
  generalize run2Of (ix2 R l) = q at hq h ⊢
  have hs : s.val < 2 := s.isLt
  unfold adds term
  refine Finset.sum_congr rfl fun p _ => ?_
  obtain ⟨f0, f1, g0, g1⟩ := starts ⟨2 * q + s.val, h⟩
  dsimp only at f0 f1 g0 g1
  refine congrArg₂ (· * ·) ?_ ?_
  · unfold iblk
    rw [View.read_apply]
    show m (c.tc.loc main_arg0) _ = m (c.tc.loc main_arg0) _
    congr 1
    funext a
    apply Fin.ext
    match a with
    | ⟨0, _⟩ => show win0_0.index _ 0 * 16 + 1 * (R.val % 16) = R.val; rw [f0]; omega
    | ⟨1, _⟩ => show win0_0.index _ 1 * 768 + 1 * p.val = s.val * 768 + p.val; rw [f1]; omega
  · unfold iblk
    rw [View.read_apply]
    show m (c.tc.loc main_arg1) _ = m (c.tc.loc main_arg1) _
    congr 1
    funext a
    apply Fin.ext
    match a with
    | ⟨0, _⟩ => show win0_1.index _ 0 * 512 + 1 * (l.val % 512) = l.val; rw [g0]; omega
    | ⟨1, _⟩ => show win0_1.index _ 1 * 768 + 1 * p.val = s.val * 768 + p.val; rw [g1]; omega

end Cert.KernelAdaXIdeal.Product

namespace Cert.AdaX

open Idealize.ShloMosaic Idealize.ShloMosaic.TcCoe Idealize.SL.Sem

/-- The reference leaves its arguments as they are, and has no semaphore. -/
theorem reference_frame : Cert.quiescent_ReferenceAdaXIdeal (hReferenceAdaXIdeal := Cert.ReferenceAdaXIdeal.Gen.facts) :=
  fun m ρ _ => (θ_run _ _ _).mono (fun r h => ⟨fun c => (h c).2, sem_eq_zero_of_no_sems (by decide) r.2⟩) (Cert.ReferenceAdaXIdeal.Value.run (F := Ideal) m ρ)

theorem algebraic : Cert.algebraic_KernelAdaXIdeal_ReferenceAdaXIdeal
    (hKernelAdaXIdeal := Cert.KernelAdaXIdeal.Gen.facts) (hReferenceAdaXIdeal := Cert.ReferenceAdaXIdeal.Gen.facts) := by
  intro m ρ m' ρ' _ hagree
  refine ⟨_, Cert.KernelAdaXIdeal.Value.run (F := Ideal) m ρ, ?_⟩
  refine (θ_run _ _ _).mono (fun _ h c => ⟨(h c).1.trans ?_, (h c).2⟩) (Cert.ReferenceAdaXIdeal.Value.run (F := Ideal) m' ρ')
  obtain ⟨e0, e1⟩ := hagree c
  rw [e0, e1]
  funext i
  obtain ⟨R, l, rfl⟩ : ∃ (R : Fin 16) (l : Fin 2048), i = ix2 R l := ⟨i 0, i 1, funext fun a => by fin_cases a <;> rfl⟩
  refine Eq.trans ?_ (Cert.KernelAdaXIdeal.Product.value m c R l).symm
  pointwise []

end Cert.AdaX
-- ==== Proof.RwPost.lean ====
/-
  The rwkv branch's normalisation, bonus and gate, over blocks of 256 rows: the two directions' sum is normalised in each head of 64
  columns, and the head's product of receptance, summed keys and weight is added to it times the value, before the gate.
-/
module

public import proofs.«01_k».proof.Defs
public import proofs.«01_k».proof.Proof.Blocked
public import proofs.«01_k».proof.Proof.Gen.KernelRwPostIdeal.Value
public import proofs.«01_k».proof.Proof.Gen.ReferenceRwPostIdeal.Run
public import proofs.«01_k».proof.Proof.Gen.Pre_real_keys
public import proofs.«01_k».proof.Proof.Equal
public import proofs.«01_k».proof.Proof.Gate
public import Idealize.ShloMosaic.Lib.VecWindow

@[expose] public section

set_option maxRecDepth 65536

noncomputable section

namespace Cert.RwPost

open Idealize.ShloMosaic

/-! ## The summed keys -/

/-- a rate is below 1 or is 1 -/
theorem less_one (s : ℝ) (h : s ≤ 1) : s - 1 < 0 ∨ s = 1 := by
  rcases lt_or_eq_of_le h with h | h
  · exact Or.inl (by linarith)
  · exact Or.inr h

/-- twice a real number -/
theorem twice (r : ℝ) : (r : EReal) * ((2 : ℝ) : EReal) = (r : EReal) + (r : EReal) := by
  rw [← EReal.coe_mul, ← EReal.coe_add]
  congr 1
  ring

theorem one_top : (1 : EReal) + ⊤ = ⊤ := EReal.coe_add_top 1

/-- The kernel adds the two directions' rates first, the reference the two directions' keys; for a real key these agree, whatever the
    weight `k`, since neither rate exceeds 1. -/
theorem keys_sum (r s0 s1 : ℝ) (h0 : s0 ≤ 1) (h1 : s1 ≤ 1) (k : EReal) :
    (r : EReal) * (((2 : ℝ) : EReal) + ((s0 : EReal) + (s1 : EReal) - ((2 : ℝ) : EReal)) * k)
      = (r : EReal) * (((1 : ℝ) : EReal) + ((s0 : EReal) - ((1 : ℝ) : EReal)) * k) + (r : EReal) * (((1 : ℝ) : EReal) + ((s1 : EReal) - ((1 : ℝ) : EReal)) * k) := by
  rw [← EReal.coe_add, ← EReal.coe_sub, ← EReal.coe_sub, ← EReal.coe_sub]
  rcases eq_or_ne r 0 with rfl | hn
  · simp only [EReal.coe_zero, zero_mul, add_zero]
  induction k using EReal.rec with
  | coe k =>
    rw [← EReal.coe_mul, ← EReal.coe_mul, ← EReal.coe_mul, ← EReal.coe_add, ← EReal.coe_add, ← EReal.coe_add, ← EReal.coe_mul, ← EReal.coe_mul, ← EReal.coe_mul, ← EReal.coe_add]
    congr 1
    ring
  | top =>
    rcases less_one s0 h0 with a | rfl <;> rcases less_one s1 h1 with b | rfl
    · rw [EReal.coe_mul_top_of_neg (by linarith : s0 + s1 - 2 < 0), EReal.coe_mul_top_of_neg a, EReal.coe_mul_top_of_neg b]
      rcases lt_or_gt_of_ne hn with hr | hr <;> simp [EReal.coe_mul_bot_of_neg, EReal.coe_mul_bot_of_pos, hr]
    · rw [EReal.coe_mul_top_of_neg (by linarith : s0 + 1 - 2 < 0), EReal.coe_mul_top_of_neg a]
      rcases lt_or_gt_of_ne hn with hr | hr <;> simp [EReal.coe_mul_bot_of_neg, EReal.coe_mul_bot_of_pos, hr]
    · rw [EReal.coe_mul_top_of_neg (by linarith : 1 + s1 - 2 < 0), EReal.coe_mul_top_of_neg b]
      rcases lt_or_gt_of_ne hn with hr | hr <;> simp [EReal.coe_mul_bot_of_neg, EReal.coe_mul_bot_of_pos, hr]
    · norm_num
      exact twice r
  | bot =>
    rcases less_one s0 h0 with a | rfl <;> rcases less_one s1 h1 with b | rfl
    · rw [EReal.coe_mul_bot_of_neg (by linarith : s0 + s1 - 2 < 0), EReal.coe_mul_bot_of_neg a, EReal.coe_mul_bot_of_neg b]
      rcases lt_or_gt_of_ne hn with hr | hr <;> simp [EReal.coe_mul_top_of_neg, EReal.coe_mul_top_of_pos, hr, one_top]
    · rw [EReal.coe_mul_bot_of_neg (by linarith : s0 + 1 - 2 < 0), EReal.coe_mul_bot_of_neg a]
      rcases lt_or_gt_of_ne hn with hr | hr <;> simp [EReal.coe_mul_top_of_neg, EReal.coe_mul_top_of_pos, hr, one_top]
    · rw [EReal.coe_mul_bot_of_neg (by linarith : 1 + s1 - 2 < 0), EReal.coe_mul_bot_of_neg b]
      rcases lt_or_gt_of_ne hn with hr | hr <;> simp [EReal.coe_mul_top_of_neg, EReal.coe_mul_top_of_pos, hr, one_top]
    · norm_num
      exact twice r

theorem two_real : Ideal.ofBits .f32 1073741824#32 = ((2 : ℝ) : EReal) := by
  simp [Ideal.ofBits, Ideal.ieee]
  rw [← EReal.coe_mul]
  norm_num

theorem one_real : Ideal.ofBits .f32 1065353216#32 = ((1 : ℝ) : EReal) := by
  simp [Ideal.ofBits, Ideal.ieee]
  rw [← EReal.coe_mul]
  norm_num

/-- the same with the rates as sigmoids and the numbers 1 and 2 as they are printed -/
theorem keys_agree (key a b k : EReal) (h : ∃ r : ℝ, key = (r : EReal)) :
    key * (Ideal.ofBits .f32 1073741824#32 + (Ideal.logistic a + Ideal.logistic b - Ideal.ofBits .f32 1073741824#32) * k)
      = key * (Ideal.ofBits .f32 1065353216#32 + (Ideal.logistic a - Ideal.ofBits .f32 1065353216#32) * k)
        + key * (Ideal.ofBits .f32 1065353216#32 + (Ideal.logistic b - Ideal.ofBits .f32 1065353216#32) * k) := by
  obtain ⟨r, rfl⟩ := h
  obtain ⟨s0, -, h0, e0⟩ := Cert.Scan.logistic_unit a
  obtain ⟨s1, -, h1, e1⟩ := Cert.Scan.logistic_unit b
  rw [e0, e1, two_real, one_real]
  exact keys_sum r s0 s1 h0 h1 k

end Cert.RwPost

namespace Cert.KernelRwPostIdeal.Rows

open Idealize.ShloMosaic Idealize.ShloMosaic.TcCoe Idealize.SL.Sem Cert.KernelRwPostIdeal Cert.KernelRwPostIdeal.Gen Cert.KernelRwPostIdeal.Value Cert.Blocked

theorem stored (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x128 .f32) (h6 : a6.IsWhole)
    (a7 : Memref sig .tc .vmem S256x1024 .f32) (h7 : a7.IsWhole)
    (a8 : Memref sig .tc .vmem S2x1024 .f32) (h8 : a8.IsWhole)
    (a9 : Memref sig .tc .vmem S2x64x1024 .f32) (h9 : a9.IsWhole)
    (a10 : Memref sig .tc .vmem S1x1024 .f32) (h10 : a10.IsWhole)
    (a11 : Memref sig .tc .vmem S1x1024 .f32) (h11 : a11.IsWhole)
    (a12 : Memref sig .tc .vmem S1x1024 .f32) (h12 : a12.IsWhole)
    (a13 : Memref sig .tc .vmem S1x1024 .f32) (h13 : a13.IsWhole)
    (a14 : Memref sig .tc .vmem S256x1024 .bf16) (h14 : a14.IsWhole)
    (x0 : FVec Ideal S256x1024 .f32)    (x1 : FVec Ideal S256x1024 .f32)    (x2 : FVec Ideal S256x1024 .f32)    (x3 : FVec Ideal S256x1024 .f32)
    (x4 : FVec Ideal S256x1024 .f32)    (x5 : FVec Ideal S256x128 .f32)    (x6 : FVec Ideal S256x1024 .f32)    (x7 : FVec Ideal S2x1024 .f32)
    (x8 : FVec Ideal S2x64x1024 .f32)    (x9 : FVec Ideal S1x1024 .f32)    (x10 : FVec Ideal S1x1024 .f32)    (x11 : FVec Ideal S1x1024 .f32)
    (x12 : FVec Ideal S1x1024 .f32) :
    out0_A_13 (F := Ideal) c i a1 h1 a2 h2 a3 h3 a4 h4 a5 h5 a6 h6 a7 h7 a8 h8 a9 h9 a10 h10 a11 h11 a12 h12 a13 h13 a14 h14 x0 x1 x2 x3 x4 x5 x6 x7 x8 x9 x10 x11 x12
      = k0_pay4 (F := Ideal) x0 x1 x2 x3 x4 x6 x9 x10 x11 x12 (k0_pay1 x5 x7 x8) (k0_pay2 x5 x8) (k0_pay3 x7) := by
  unfold out0_A_13
  rw [View.read_writes_eq_canon _ _ _ (cover0_A_13 (F := Ideal) c i a1 h1 a2 h2 a3 h3 a4 h4 a5 h5 a6 h6 a7 h7 a8 h8 a9 h9 a10 h10 a11 h11 a12 h12 a13 h13 a14 h14 x0 x1 x2 x3 x4 x5 x6 x7 x8 x9 x10 x11 x12)]
  unfold kernelRun0_A
  dsimp only
  sl_unfold_words
  rw [View.canon_unit_zero zeros2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) zeros2, View.ld_unit_zero (S := S256x128) zeros2, View.ld_unit_zero (S := S2x1024) zeros2, View.ld_unit_zero (S := S1x1024) zeros2, View.ld_unit_zero (S := S2x64x1024) zeros3]

variable (m : (ℓ : Loc nD τ sig) → Buf (Elt Ideal) ℓ) (c : Dev nD)

abbrev argF : FVec Ideal S2304x1024 .f32 := m (c.tc.loc main_arg0)
abbrev argB : FVec Ideal S2304x1024 .f32 := m (c.tc.loc main_arg1)
abbrev argS : FVec Ideal S2304x3328 .f32 := m (c.tc.loc main_arg2)
abbrev argZ : FVec Ideal S2304x1024 .f32 := m (c.tc.loc main_arg3)
abbrev argA : FVec Ideal S2x1024 .f32 := m (c.tc.loc main_arg4)
abbrev argL : FVec Ideal S2x64x1024 .f32 := m (c.tc.loc main_arg5)
abbrev argK : FVec Ideal S1x1024 .f32 := m (c.tc.loc main_arg6)
abbrev argR : FVec Ideal S1x1024 .f32 := m (c.tc.loc main_arg7)
abbrev argG : FVec Ideal S1x1024 .f32 := m (c.tc.loc main_arg8)
abbrev argC : FVec Ideal S1x1024 .f32 := m (c.tc.loc main_arg9)

/-- which blocks point `t` loads and writes: its rows, of five windows at the first block of columns -/
theorem starts : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 1) ∧ (win0_4.index t 0 = t.val ∧ win0_4.index t 1 = 2)
    ∧ (win0_5.index t 0 = t.val ∧ win0_5.index t 1 = 25) ∧ (win0_6.index t 0 = t.val ∧ win0_6.index t 1 = 0)
    ∧ (win0_13.index t 0 = t.val ∧ win0_13.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 1) ∧ (win0_4.index t 0 = t.val ∧ win0_4.index t 1 = 2)
    ∧ (win0_5.index t 0 = t.val ∧ win0_5.index t 1 = 25) ∧ (win0_6.index t 0 = t.val ∧ win0_6.index t 1 = 0)
    ∧ (win0_13.index t 0 = t.val ∧ win0_13.index t 1 = 0))
/-- the six small windows are whole arrays -/
theorem whole : ∀ t : Fin cfg0.N, (∀ a, win0_7.index t a = 0) ∧ (∀ a, win0_8.index t a = 0) ∧ (∀ a, win0_9.index t a = 0)
    ∧ (∀ a, win0_10.index t a = 0) ∧ (∀ a, win0_11.index t a = 0) ∧ (∀ a, win0_12.index t a = 0) :=
  (by decide +kernel : ∀ t : Fin grid0.N, (∀ a, win0_7.index t a = 0) ∧ (∀ a, win0_8.index t a = 0) ∧ (∀ a, win0_9.index t a = 0)
    ∧ (∀ a, win0_10.index t a = 0) ∧ (∀ a, win0_11.index t a = 0) ∧ (∀ a, win0_12.index t a = 0))

/-- row `r` of block `t` -/
def row (t : Fin cfg0.N) (r : Fin 256) : Fin 2304 := ⟨t.val * 256 + r.val, by have := t.isLt; have : cfg0.N = 9 := N_0; omega⟩

theorem rows (R : Fin 2304) : ∃ (t : Fin cfg0.N) (r : Fin 256), R = row t r := by
  have hN : cfg0.N = 9 := N_0
  exact ⟨⟨R.val / 256, by omega⟩, ⟨R.val % 256, by omega⟩, Fin.ext (by show R.val = R.val / 256 * 256 + R.val % 256; omega)⟩

theorem block_0 (t : Fin cfg0.N) (r : Fin 256) (l : Fin 1024) : iblk m c 0 t (ix2 r l) = argF m c (ix2 (row t r) l) := by
  unfold iblk
  rw [View.read_apply]
  show m (c.tc.loc main_arg0) _ = m (c.tc.loc main_arg0) _
  congr 1
  funext a
  apply Fin.ext
  match a with
  | ⟨0, _⟩ => show win0_0.index t 0 * 256 + 1 * r.val = t.val * 256 + r.val; rw [(starts t).1.1]; omega
  | ⟨1, _⟩ => show win0_0.index t 1 * 1024 + 1 * l.val = l.val; rw [(starts t).1.2]; omega

theorem block_1 (t : Fin cfg0.N) (r : Fin 256) (l : Fin 1024) : iblk m c 1 t (ix2 r l) = argB m c (ix2 (row t r) l) := by
  unfold iblk
  rw [View.read_apply]
  show m (c.tc.loc main_arg1) _ = m (c.tc.loc main_arg1) _
  congr 1
  funext a
  apply Fin.ext
  match a with
  | ⟨0, _⟩ => show win0_1.index t 0 * 256 + 1 * r.val = t.val * 256 + r.val; rw [(starts t).2.1.1]; omega
  | ⟨1, _⟩ => show win0_1.index t 1 * 1024 + 1 * l.val = l.val; rw [(starts t).2.1.2]; omega

theorem block_2 (t : Fin cfg0.N) (r : Fin 256) (l : Fin 1024) : X0_2 m c t (ix2 r l) = argS m c (ix2 (row t r) ⟨0 + l.val, by omega⟩) := by
  unfold X0_2 Pipeline.Window.fill
  rw [dif_pos (moved0_2 t (ix2 r l))]
  unfold iblk
  rw [View.read_apply]
  show m (c.tc.loc main_arg2) _ = m (c.tc.loc main_arg2) _
  congr 1
  funext a
  apply Fin.ext
  match a with
  | ⟨0, _⟩ => show win0_2.index t 0 * 256 + 1 * r.val = t.val * 256 + r.val; rw [(starts t).2.2.1.1]; omega
  | ⟨1, _⟩ => show win0_2.index t 1 * 1024 + 1 * l.val = 0 + l.val; rw [(starts t).2.2.1.2]; omega

theorem block_3 (t : Fin cfg0.N) (r : Fin 256) (l : Fin 1024) : X0_3 m c t (ix2 r l) = argS m c (ix2 (row t r) ⟨1024 + l.val, by omega⟩) := by
  unfold X0_3 Pipeline.Window.fill
  rw [dif_pos (moved0_3 t (ix2 r l))]
  unfold iblk
  rw [View.read_apply]
  show m (c.tc.loc main_arg2) _ = m (c.tc.loc main_arg2) _
  congr 1
  funext a
  apply Fin.ext
  match a with
  | ⟨0, _⟩ => show win0_3.index t 0 * 256 + 1 * r.val = t.val * 256 + r.val; rw [(starts t).2.2.2.1.1]; omega
  | ⟨1, _⟩ => show win0_3.index t 1 * 1024 + 1 * l.val = 1024 + l.val; rw [(starts t).2.2.2.1.2]; omega

theorem block_4 (t : Fin cfg0.N) (r : Fin 256) (l : Fin 1024) : X0_4 m c t (ix2 r l) = argS m c (ix2 (row t r) ⟨2048 + l.val, by omega⟩) := by
  unfold X0_4 Pipeline.Window.fill
  rw [dif_pos (moved0_4 t (ix2 r l))]
  unfold iblk
  rw [View.read_apply]
  show m (c.tc.loc main_arg2) _ = m (c.tc.loc main_arg2) _
  congr 1
  funext a
  apply Fin.ext
  match a with
  | ⟨0, _⟩ => show win0_4.index t 0 * 256 + 1 * r.val = t.val * 256 + r.val; rw [(starts t).2.2.2.2.1.1]; omega
  | ⟨1, _⟩ => show win0_4.index t 1 * 1024 + 1 * l.val = 2048 + l.val; rw [(starts t).2.2.2.2.1.2]; omega

theorem block_5 (t : Fin cfg0.N) (r : Fin 256) (l : Fin 128) : iblk m c 5 t (ix2 r l) = argS m c (ix2 (row t r) ⟨3200 + l.val, by omega⟩) := by
  unfold iblk
  rw [View.read_apply]
  show m (c.tc.loc main_arg2) _ = m (c.tc.loc main_arg2) _
  congr 1
  funext a
  apply Fin.ext
  match a with
  | ⟨0, _⟩ => show win0_5.index t 0 * 256 + 1 * r.val = t.val * 256 + r.val; rw [(starts t).2.2.2.2.2.1.1]; omega
  | ⟨1, _⟩ => show win0_5.index t 1 * 128 + 1 * l.val = 3200 + l.val; rw [(starts t).2.2.2.2.2.1.2]; omega

theorem block_6 (t : Fin cfg0.N) (r : Fin 256) (l : Fin 1024) : iblk m c 6 t (ix2 r l) = argZ m c (ix2 (row t r) l) := by
  unfold iblk
  rw [View.read_apply]
  show m (c.tc.loc main_arg3) _ = m (c.tc.loc main_arg3) _
  congr 1
  funext a
  apply Fin.ext
  match a with
  | ⟨0, _⟩ => show win0_6.index t 0 * 256 + 1 * r.val = t.val * 256 + r.val; rw [(starts t).2.2.2.2.2.2.1.1]; omega
  | ⟨1, _⟩ => show win0_6.index t 1 * 1024 + 1 * l.val = l.val; rw [(starts t).2.2.2.2.2.2.1.2]; omega

theorem block_7 (t : Fin cfg0.N) : iblk m c 7 t = argA m c := by
  funext i
  unfold iblk
  rw [View.read_apply]
  show m (c.tc.loc main_arg4) _ = m (c.tc.loc main_arg4) _
  congr 1
  funext a
  apply Fin.ext
  show win0_7.index t a * _ + 1 * (i a).val = (i a).val
  rw [(whole t).1 a]; omega

theorem block_8 (t : Fin cfg0.N) : iblk m c 8 t = argL m c := by
  funext i
  unfold iblk
  rw [View.read_apply]
  show m (c.tc.loc main_arg5) _ = m (c.tc.loc main_arg5) _
  congr 1
  funext a
  apply Fin.ext
  show win0_8.index t a * _ + 1 * (i a).val = (i a).val
  rw [(whole t).2.1 a]; omega

theorem block_9 (t : Fin cfg0.N) : iblk m c 9 t = argK m c := by
  funext i
  unfold iblk
  rw [View.read_apply]
  show m (c.tc.loc main_arg6) _ = m (c.tc.loc main_arg6) _
  congr 1
  funext a
  apply Fin.ext
  show win0_9.index t a * _ + 1 * (i a).val = (i a).val
  rw [(whole t).2.2.1 a]; omega

theorem block_10 (t : Fin cfg0.N) : iblk m c 10 t = argR m c := by
  funext i
  unfold iblk
  rw [View.read_apply]
  show m (c.tc.loc main_arg7) _ = m (c.tc.loc main_arg7) _
  congr 1
  funext a
  apply Fin.ext
  show win0_10.index t a * _ + 1 * (i a).val = (i a).val
  rw [(whole t).2.2.2.1 a]; omega

theorem block_11 (t : Fin cfg0.N) : iblk m c 11 t = argG m c := by
  funext i
  unfold iblk
  rw [View.read_apply]
  show m (c.tc.loc main_arg8) _ = m (c.tc.loc main_arg8) _
  congr 1
  funext a
  apply Fin.ext
  show win0_11.index t a * _ + 1 * (i a).val = (i a).val
  rw [(whole t).2.2.2.2.1 a]; omega

theorem block_12 (t : Fin cfg0.N) : iblk m c 12 t = argC m c := by
  funext i
  unfold iblk
  rw [View.read_apply]
  show m (c.tc.loc main_arg9) _ = m (c.tc.loc main_arg9) _
  congr 1
  funext a
  apply Fin.ext
  show win0_12.index t a * _ + 1 * (i a).val = (i a).val
  rw [(whole t).2.2.2.2.2 a]; omega

/-! ## The result -/

/-- the column `x` of the head that column `l` lies in -/
def inHead (l : Fin 1024) (x : Fin 64) : Fin 1024 := ⟨l.val / 64 * 64 + x.val, by omega⟩

/-- the two directions' sum -/
def both (R : Fin 2304) (l : Fin 1024) : EReal := argF m c (ix2 R l) + argB m c (ix2 R l)

/-- its mean over the head -/
def mean (R : Fin 2304) (l : Fin 1024) : EReal := Ideal.div (∑ x : Fin 64, both m c R (inHead l x)) (Ideal.ofBits .f32 1115684864#32)

/-- its variance over the head -/
def variance (R : Fin 2304) (l : Fin 1024) : EReal :=
  Ideal.div (∑ x : Fin 64, (both m c R (inHead l x) - mean m c R l) * (both m c R (inHead l x) - mean m c R l)) (Ideal.ofBits .f32 1115684864#32)

/-- the first direction's rate before the sigmoid -/
def rate0 (R : Fin 2304) (l : Fin 1024) : EReal :=
  argA m c (ix2 0 l) + ∑ x : Fin 64, argS m c (ix2 R ⟨3200 + x.val, by omega⟩) * argL m c (ix3 0 x l)

/-- the second direction's -/
def rate1 (R : Fin 2304) (l : Fin 1024) : EReal :=
  argA m c (ix2 1 l) + ∑ x : Fin 64, argS m c (ix2 R ⟨3200 + (64 + x.val), by omega⟩) * argL m c (ix3 1 x l)

/-- the two directions' keys in sum, as the kernel computes them -/
def keys (R : Fin 2304) (l : Fin 1024) : EReal :=
  argS m c (ix2 R ⟨1024 + l.val, by omega⟩)
    * (Ideal.ofBits .f32 1073741824#32 + (Ideal.logistic (rate0 m c R l) + Ideal.logistic (rate1 m c R l) - Ideal.ofBits .f32 1073741824#32) * argK m c (ix2 0 l))

/-- the result, of any summed keys -/
def gated (key : Fin 1024 → EReal) (R : Fin 2304) (l : Fin 1024) : EReal :=
  ((both m c R l - mean m c R l) * Ideal.rsqrt (variance m c R l + Ideal.ofBits .f32 975685036#32) * argG m c (ix2 0 l) + argC m c (ix2 0 l)
      + (∑ x : Fin 64, argS m c (ix2 R ⟨(inHead l x).val, by have := (inHead l x).isLt; omega⟩) * key (inHead l x) * argR m c (ix2 0 (inHead l x)))
        * argS m c (ix2 R ⟨2048 + l.val, by omega⟩))
    * (argZ m c (ix2 R l) * Ideal.logistic (argZ m c (ix2 R l)))

set_option maxHeartbeats 1000000 in
/-- the result, entry by entry -/
theorem value (R : Fin 2304) (l : Fin 1024) : (dats m 0 c).arrAt 13 cfg0.N (ix2 R l) = gated m c (keys m c R) R l := by
  obtain ⟨t, r, rfl⟩ := rows R
  have hb := congrFun (blocks13 m c t (flush0_13 t)) (ix2 r l)
  rw [flushed13_A, stored, View.read_apply] at hb
  refine Eq.trans ?_ (hb.trans ?_)
  · congr 1
    funext a
    apply Fin.ext
    match a with
    | ⟨0, _⟩ => show t.val * 256 + r.val = win0_13.index t 0 * 256 + 1 * r.val; rw [(starts t).2.2.2.2.2.2.2.1]; omega
    | ⟨1, _⟩ => show l.val = win0_13.index t 1 * 1024 + 1 * l.val; rw [(starts t).2.2.2.2.2.2.2.2]; omega
  · refine Eq.trans (b := k0_pay4 (F := Ideal) (iblk m c 0 t) (iblk m c 1 t) (X0_2 m c t) (X0_3 m c t) (X0_4 m c t) (iblk m c 6 t) (iblk m c 9 t) (iblk m c 10 t) (iblk m c 11 t) (iblk m c 12 t) (k0_pay1 (iblk m c 5 t) (iblk m c 7 t) (iblk m c 8 t)) (k0_pay2 (iblk m c 5 t) (iblk m c 8 t)) (k0_pay3 (iblk m c 7 t)) (ix2 r l)) rfl ?_
    rw [block_7, block_8, block_9, block_10, block_11, block_12]
    pointwise [k0_pay4, k0_pay1, k0_pay2, k0_pay3]
    simp only [Fin.sum_univ_one, block_0, block_1, block_2, block_3, block_4, block_5, block_6, zero_add]
    rfl

end Cert.KernelRwPostIdeal.Rows

namespace Cert.RwPost

open Idealize.ShloMosaic Idealize.ShloMosaic.TcCoe Idealize.SL.Sem

/-- The precondition, read: every key is a real number. -/
theorem real_keys (m : (ℓ : Loc Cert.KernelRwPostIdeal.nD Cert.KernelRwPostIdeal.τ Cert.KernelRwPostIdeal.sig) → Buf (Elt Ideal) ℓ)
    (hpre : Cert.Pre_KernelRwPostIdeal_real_keys (hPre_real_keys := Cert.Pre_real_keys.Gen.facts) m) (c : Dev Cert.KernelRwPostIdeal.nD) (R : Fin 2304) (l : Fin 1024) :
    ∃ z : ℝ, Cert.KernelRwPostIdeal.Rows.argS m c (ix2 R ⟨1024 + l.val, by omega⟩) = (z : EReal) := by
  have h := congrFun (hpre c) (ix2 R l)
  have h' : BitVec.ofBool (decide (max (Cert.KernelRwPostIdeal.Rows.argS m c (ix2 R ⟨1024 + l.val, by omega⟩)) (-Cert.KernelRwPostIdeal.Rows.argS m c (ix2 R ⟨1024 + l.val, by omega⟩)) < Ideal.ofBits .f32 0x7F800000#32)) = 1#1 := by
    refine Eq.trans ?_ h
    unfold Cert.Pre_real_keys.fn
    pointwise []
    rfl
  rw [Cert.Equal.infinity] at h'
  generalize Cert.KernelRwPostIdeal.Rows.argS m c (ix2 R ⟨1024 + l.val, by omega⟩) = z at h' ⊢
  induction z using EReal.rec with
  | bot => simp at h'
  | coe z => exact ⟨z, rfl⟩
  | top => simp at h'

/-- The reference leaves its arguments as they are, and has no semaphore. -/
theorem reference_frame : Cert.quiescent_ReferenceRwPostIdeal (hReferenceRwPostIdeal := Cert.ReferenceRwPostIdeal.Gen.facts) :=
  fun m ρ _ => (θ_run _ _ _).mono (fun r h => ⟨fun c => (h c).2, sem_eq_zero_of_no_sems (by decide) r.2⟩) (Cert.ReferenceRwPostIdeal.Value.run (F := Ideal) m ρ)

set_option maxHeartbeats 4000000 in
theorem algebraic : Cert.algebraic_KernelRwPostIdeal_ReferenceRwPostIdeal_pre_real_keys
    (hKernelRwPostIdeal := Cert.KernelRwPostIdeal.Gen.facts) (hReferenceRwPostIdeal := Cert.ReferenceRwPostIdeal.Gen.facts) (hPre_real_keys := Cert.Pre_real_keys.Gen.facts) := by
  intro m ρ m' ρ' hpre hagree
  refine ⟨_, Cert.KernelRwPostIdeal.Value.run_blocks (F := Ideal) m ρ, ?_⟩
  refine (θ_run _ _ _).mono (fun _ h c => ⟨(h c).1.trans ?_, (h c).2⟩) (Cert.ReferenceRwPostIdeal.Value.run (F := Ideal) m' ρ')
  obtain ⟨e0, e1, e2, e3, e4, e5, e6, e7, e8, e9⟩ := hagree c
  unfold Cert.ReferenceRwPostIdeal.Value.res_main_v90
  rw [e0, e1, e2, e3, e4, e5, e6, e7, e8, e9]
  clear e0 e1 e2 e3 e4 e5 e6 e7 e8 e9
  funext i
  obtain ⟨R, l, rfl⟩ : ∃ R l, i = ix2 R l := ⟨i 0, i 1, funext fun a => by fin_cases a <;> rfl⟩
  refine Eq.trans ?_ (Cert.KernelRwPostIdeal.Rows.value m c R l).symm
  rw [show Cert.KernelRwPostIdeal.Rows.keys m c R = _ from funext fun x => keys_agree _ _ _ _ (real_keys m hpre c R x)]
  pointwise []
  refine congrArg₂ (· * ·) (congrArg₂ (· + ·) (congrArg₂ (· + ·) (congrArg₂ (· * ·) ?_ ?_) ?_) (congrArg₂ (· * ·) (Finset.sum_congr rfl fun x _ => congrArg₂ (· * ·) (congrArg₂ (· * ·) ?_ (congrArg₂ (· + ·) ?_ ?_)) ?_) ?_)) ?_
  all_goals rfl

end Cert.RwPost
-- ==== Proof.Shift.lean ====
/-
  The token shift, over blocks of 128 columns: each row moves towards its left and right neighbours, a token also towards the ones
  above and below, and neighbours beyond a border are 0. The kernel turns the whole block of rows around and masks the borders.
-/
module

public import proofs.«01_k».proof.Defs
public import proofs.«01_k».proof.Proof.Blocked
public import proofs.«01_k».proof.Proof.Gen.KernelShiftIdeal.Value
public import proofs.«01_k».proof.Proof.Gen.ReferenceShiftIdeal.Run
public import Idealize.ShloMosaic.Lib.VecWindow

@[expose] public section

set_option maxRecDepth 65536

noncomputable section

namespace Cert.KernelShiftIdeal.Rows

open Idealize.ShloMosaic Idealize.ShloMosaic.TcCoe Idealize.SL.Sem Cert.KernelShiftIdeal Cert.KernelShiftIdeal.Gen Cert.KernelShiftIdeal.Value Cert.Blocked

variable (m : (ℓ : Loc nD τ sig) → Buf (Elt Ideal) ℓ) (c : Dev nD)

abbrev argP : FVec Ideal S2304x13568 .f32 := m (c.tc.loc main_arg0)
abbrev argM : FVec Ideal S4x3328 .f32 := m (c.tc.loc main_arg1)

/-- which blocks point `t` loads and writes -/
theorem starts : ∀ t : Fin cfg0.N, (win0_0.index t 0 = 0 ∧ win0_0.index t 1 = 40 + t.val)
    ∧ (win0_1.index t 0 = 0 ∧ win0_1.index t 1 = t.val)
    ∧ (win0_2.index t 0 = 0 ∧ win0_2.index t 1 = t.val) :=
  (by decide +kernel : ∀ t : Fin grid0.N, (win0_0.index t 0 = 0 ∧ win0_0.index t 1 = 40 + t.val)
    ∧ (win0_1.index t 0 = 0 ∧ win0_1.index t 1 = t.val)
    ∧ (win0_2.index t 0 = 0 ∧ win0_2.index t 1 = t.val))

/-- column `l` of block `t` -/
def col (t : Fin cfg0.N) (l : Fin 128) : Fin 3328 := ⟨t.val * 128 + l.val, by have := t.isLt; have : cfg0.N = 26 := N_0; omega⟩

theorem cols (C : Fin 3328) : ∃ (t : Fin cfg0.N) (l : Fin 128), C = col t l := by
  have hN : cfg0.N = 26 := N_0
  exact ⟨⟨C.val / 128, by omega⟩, ⟨C.val % 128, by omega⟩, Fin.ext (by show C.val = C.val / 128 * 128 + C.val % 128; omega)⟩

theorem block_p (t : Fin cfg0.N) (R : Fin 2304) (l : Fin 128) :
    iblk m c 0 t (ix2 R l) = argP m c (ix2 R ⟨5120 + (col t l).val, by omega⟩) := by
  unfold iblk
  rw [View.read_apply]
  show m (c.tc.loc main_arg0) _ = m (c.tc.loc main_arg0) _
  congr 1
  funext a
  apply Fin.ext
  match a with
  | ⟨0, _⟩ => show win0_0.index t 0 * 2304 + 1 * R.val = R.val; rw [(starts t).1.1]; omega
  | ⟨1, _⟩ => show win0_0.index t 1 * 128 + 1 * l.val = 5120 + (t.val * 128 + l.val); rw [(starts t).1.2]; omega

theorem block_m (t : Fin cfg0.N) (k : Fin 4) (l : Fin 128) : iblk m c 1 t (ix2 k l) = argM m c (ix2 k (col t l)) := by
  unfold iblk
  rw [View.read_apply]
  show m (c.tc.loc main_arg1) _ = m (c.tc.loc main_arg1) _
  congr 1
  funext a
  apply Fin.ext
  match a with
  | ⟨0, _⟩ => show win0_1.index t 0 * 4 + 1 * k.val = k.val; rw [(starts t).2.1.1]; omega
  | ⟨1, _⟩ => show win0_1.index t 1 * 128 + 1 * l.val = t.val * 128 + l.val; rw [(starts t).2.1.2]; omega

/-- whether row `R` is a token's -/
theorem bit_token : ∀ R : Fin 2304, k0_pay2 (ix2 R 0) = if 256 ≤ R.val then 1#1 else 0#1 := by
  intro R
  pointwise [k0_pay2]
  revert R
  decide +kernel

/-- the row's place in its stream, and in its line -/
theorem place : ∀ R : Fin 2304, k0_pay3 (ix2 R 0) = BitVec.ofNat 32 (if 256 ≤ R.val then R.val - 256 else R.val) := by
  intro R
  pointwise [k0_pay3]
  rw [bit_token]
  revert R
  decide +kernel
theorem place_line : ∀ R : Fin 2304, k0_pay4 (ix2 R 0) = BitVec.ofNat 32 (if 256 ≤ R.val then R.val % 64 else R.val) := by
  intro R
  pointwise [k0_pay4]
  rw [bit_token, place]
  revert R
  decide +kernel

/-- row `R` has a neighbour on the left, on the right, above, below -/
def hasLeft (R : Fin 2304) : Prop := R.val % 64 ≠ 0 ∨ (R.val ≠ 0 ∧ R.val < 256)
def hasRight (R : Fin 2304) : Prop := R.val % 64 ≠ 63 ∨ R.val < 255
def hasUp (R : Fin 2304) : Prop := 320 ≤ R.val
def hasDown (R : Fin 2304) : Prop := 256 ≤ R.val ∧ R.val < 2240
instance (R : Fin 2304) : Decidable (hasLeft R) := by unfold hasLeft; infer_instance
instance (R : Fin 2304) : Decidable (hasRight R) := by unfold hasRight; infer_instance
instance (R : Fin 2304) : Decidable (hasUp R) := by unfold hasUp; infer_instance
instance (R : Fin 2304) : Decidable (hasDown R) := by unfold hasDown; infer_instance

/-- the row that stands at `R` after the rows are turned around by `k` -/
def turn (k : Nat) (R : Fin 2304) : Fin 2304 := ⟨(R.val + 2304 - k % 2304) % 2304, Nat.mod_lt _ (by decide)⟩

theorem chosen {α : Type} (p : Prop) [Decidable p] (b : BitVec 1) (x y : α) (h : b = if p then 1#1 else 0#1) :
    Scalar.select b x y = if p then x else y := by
  subst h
  split <;> rfl

theorem bit_left : ∀ R : Fin 2304, IntOp.cmpi CmpIPredicate.ne (BitVec.ofNat 32 (if 256 ≤ R.val then R.val % 64 else R.val)) 0#32
    = if hasLeft R then 1#1 else 0#1 := by decide +kernel

theorem left_row (x : FVec Ideal S2304x128 .f32) (R : Fin 2304) (l : Fin 128) :
    k0_pay6 x (ix2 R l) = if hasLeft R then x (ix2 (turn 1 R) l) else 0 := by
  pointwise [k0_pay6]
  rw [place_line]
  exact chosen _ _ _ _ (bit_left R)

theorem right_row (x : FVec Ideal S2304x128 .f32) (R : Fin 2304) (l : Fin 128) :
    k0_pay7 x (ix2 R l) = if hasRight R then x (ix2 (turn 2303 R) l) else 0 := by
  pointwise [k0_pay7]
  rw [place_line, bit_token]
  refine chosen _ _ _ _ ?_
  revert R
  decide +kernel

theorem up_row (x : FVec Ideal S2304x128 .f32) (R : Fin 2304) (l : Fin 128) :
    k0_pay8 x (ix2 R l) = if hasUp R then x (ix2 (turn 64 R) l) else 0 := by
  pointwise [k0_pay8]
  rw [place, bit_token]
  refine chosen _ _ _ _ ?_
  revert R
  decide +kernel

theorem bit_down : ∀ R : Fin 2304, k0_pay5 (ix2 R 0) = if hasDown R then 1#1 else 0#1 := by
  intro R
  pointwise [k0_pay5]
  rw [place, bit_token]
  revert R
  decide +kernel

/-- row `R` of the shifted block -/
def mixed (x : Fin 2304 → EReal) (μ : Fin 4 → EReal) (R : Fin 2304) : EReal :=
  x R + μ 0 * ((if hasLeft R then x (turn 1 R) else 0) - x R) + μ 1 * ((if hasRight R then x (turn 2303 R) else 0) - x R)
    + if 256 ≤ R.val then μ 2 * ((if hasUp R then x (turn 64 R) else 0) - x R) + μ 3 * ((if hasDown R then x (turn 2240 R) else 0) - x R) else 0

theorem stored (x : FVec Ideal S2304x128 .f32) (μ : FVec Ideal S4x128 .f32) (R : Fin 2304) (l : Fin 128) :
    k0_pay1 (F := Ideal) x μ k0_pay2 k0_pay5 (k0_pay6 x) (k0_pay7 x) (k0_pay8 x) (ix2 R l) = mixed (fun r => x (ix2 r l)) (fun k => μ (ix2 k l)) R := by
  pointwise [k0_pay1]
  rw [left_row, right_row, up_row, chosen _ _ _ _ (bit_token R), chosen _ _ _ _ (bit_down R)]
  rfl

/-- a neighbour read where there is one is the turned row there -/
theorem absent {p q : Prop} [Decidable p] [Decidable q] (x : Fin 2304 → EReal) (f : ¬p → Fin 2304) (b : Fin 2304)
    (hpq : p ↔ ¬q) (hf : ∀ h, f h = b) : (if h : p then 0 else x (f h)) = if q then x b else 0 := by
  by_cases hp : p
  · rw [dif_pos hp, if_neg (hpq.1 hp)]
  · rw [dif_neg hp, if_pos (by_contra fun hq => hp (hpq.2 hq)), hf]
theorem present {p q : Prop} [Decidable p] [Decidable q] (x : Fin 2304 → EReal) (f : p → Fin 2304) (b : Fin 2304)
    (hpq : p ↔ q) (hf : ∀ h, f h = b) : (if h : p then x (f h) else 0) = if q then x b else 0 := by
  by_cases hp : p
  · rw [dif_pos hp, if_pos (hpq.1 hp), hf]
  · rw [dif_neg hp, if_neg (fun hq => hp (hpq.2 hq))]

/-- the context's rows are one line, and have no neighbours above and below -/
theorem context (x : Fin 2304 → EReal) (μ : Fin 4 → EReal) (R : Fin 2304) (h : R.val < 256) :
    x R + μ 0 * ((if h1 : R.val < 1 then 0 else x ⟨R.val - 1, by omega⟩) - x R)
      + μ 1 * ((if h1 : R.val < 255 then x ⟨1 + R.val, by omega⟩ else 0) - x R) = mixed x μ R := by
  unfold mixed
  rw [if_neg (by omega : ¬ 256 ≤ R.val), add_zero,
    absent (q := hasLeft R) x (fun _ => ⟨R.val - 1, by omega⟩) (turn 1 R) (by unfold hasLeft; omega)
      (fun h1 => Fin.ext (by show R.val - 1 = (R.val + 2304 - 1 % 2304) % 2304; omega)),
    present (q := hasRight R) x (fun h1 => ⟨1 + R.val, by omega⟩) (turn 2303 R) (by unfold hasRight; omega)
      (fun h1 => Fin.ext (by show 1 + R.val = (R.val + 2304 - 2303 % 2304) % 2304; omega))]

/-- a token's row is its place in its line of 64, and its line -/
theorem token (x : Fin 2304 → EReal) (μ : Fin 4 → EReal) (R : Fin 2304) (h : ¬R.val < 256) :
    x ⟨256 + ((R.val - 256) / 64 * 64 + (R.val - 256) % 64), by omega⟩
      + μ 0 * ((if h1 : (R.val - 256) % 64 < 1 then 0 else x ⟨256 + ((R.val - 256) / 64 * 64 + ((R.val - 256) % 64 - 1)), by omega⟩)
          - x ⟨256 + ((R.val - 256) / 64 * 64 + (R.val - 256) % 64), by omega⟩)
      + μ 1 * ((if h1 : (R.val - 256) % 64 < 63 then x ⟨256 + ((R.val - 256) / 64 * 64 + (1 + (R.val - 256) % 64)), by omega⟩ else 0)
          - x ⟨256 + ((R.val - 256) / 64 * 64 + (R.val - 256) % 64), by omega⟩)
      + μ 2 * ((if h1 : (R.val - 256) / 64 < 1 then 0 else x ⟨256 + (((R.val - 256) / 64 - 1) * 64 + (R.val - 256) % 64), by omega⟩)
          - x ⟨256 + ((R.val - 256) / 64 * 64 + (R.val - 256) % 64), by omega⟩)
      + μ 3 * ((if h1 : (R.val - 256) / 64 < 31 then x ⟨256 + ((1 + (R.val - 256) / 64) * 64 + (R.val - 256) % 64), by omega⟩ else 0)
          - x ⟨256 + ((R.val - 256) / 64 * 64 + (R.val - 256) % 64), by omega⟩) = mixed x μ R := by
  have hR : (⟨256 + ((R.val - 256) / 64 * 64 + (R.val - 256) % 64), by omega⟩ : Fin 2304) = R := Fin.ext (by show 256 + ((R.val - 256) / 64 * 64 + (R.val - 256) % 64) = R.val; omega)
  unfold mixed
  rw [if_pos (by omega : 256 ≤ R.val), hR,
    absent (q := hasLeft R) x (fun _ => ⟨256 + ((R.val - 256) / 64 * 64 + ((R.val - 256) % 64 - 1)), by omega⟩) (turn 1 R) (by unfold hasLeft; omega)
      (fun h1 => Fin.ext (by show 256 + ((R.val - 256) / 64 * 64 + ((R.val - 256) % 64 - 1)) = (R.val + 2304 - 1 % 2304) % 2304; omega)),
    present (q := hasRight R) x (fun h1 => ⟨256 + ((R.val - 256) / 64 * 64 + (1 + (R.val - 256) % 64)), by omega⟩) (turn 2303 R) (by unfold hasRight; omega)
      (fun h1 => Fin.ext (by show 256 + ((R.val - 256) / 64 * 64 + (1 + (R.val - 256) % 64)) = (R.val + 2304 - 2303 % 2304) % 2304; omega)),
    absent (q := hasUp R) x (fun _ => ⟨256 + (((R.val - 256) / 64 - 1) * 64 + (R.val - 256) % 64), by omega⟩) (turn 64 R) (by unfold hasUp; omega)
      (fun h1 => Fin.ext (by show 256 + (((R.val - 256) / 64 - 1) * 64 + (R.val - 256) % 64) = (R.val + 2304 - 64 % 2304) % 2304; omega)),
    present (q := hasDown R) x (fun h1 => ⟨256 + ((1 + (R.val - 256) / 64) * 64 + (R.val - 256) % 64), by omega⟩) (turn 2240 R) (by unfold hasDown; omega)
      (fun h1 => Fin.ext (by show 256 + ((1 + (R.val - 256) / 64) * 64 + (R.val - 256) % 64) = (R.val + 2304 - 2240 % 2304) % 2304; omega)),
    add_assoc (x R + _ + _)]

/-- the result, entry by entry -/
theorem value (R : Fin 2304) (C : Fin 3328) : (dats m 0 c).arrAt 2 cfg0.N (ix2 R C)
    = mixed (fun r => argP m c (ix2 r ⟨5120 + C.val, by omega⟩)) (fun k => argM m c (ix2 k C)) R := by
  obtain ⟨t, l, rfl⟩ := cols C
  have hb := congrFun (blocks2 m c t (flush0_2 t)) (ix2 R l)
  rw [flushed2, View.read_apply] at hb
  refine Eq.trans ?_ (hb.trans ?_)
  · congr 1
    funext a
    apply Fin.ext
    match a with
    | ⟨0, _⟩ => show R.val = win0_2.index t 0 * 2304 + 1 * R.val; rw [(starts t).2.2.1]; omega
    | ⟨1, _⟩ => show t.val * 128 + l.val = win0_2.index t 1 * 128 + 1 * l.val; rw [(starts t).2.2.2]; omega
  · refine Eq.trans (b := out0_2 (F := Ideal) (iblk m c 0 t) (iblk m c 1 t) (ix2 R l)) rfl ?_
    unfold out0_2
    rw [View.canon_unit_zero zeros2]
    simp only [View.ld_unit_zero (S := S2304x128) zeros2, View.ld_unit_zero (S := S4x128) zeros2]
    rw [stored]
    simp only [block_p, block_m]

end Cert.KernelShiftIdeal.Rows

namespace Cert.Shift

open Idealize.ShloMosaic Idealize.ShloMosaic.TcCoe Idealize.SL.Sem

/-- The reference leaves its arguments as they are, and has no semaphore. -/
theorem reference_frame : Cert.quiescent_ReferenceShiftIdeal (hReferenceShiftIdeal := Cert.ReferenceShiftIdeal.Gen.facts) :=
  fun m ρ _ => (θ_run _ _ _).mono (fun r h => ⟨fun c => (h c).2, sem_eq_zero_of_no_sems (by decide) r.2⟩) (Cert.ReferenceShiftIdeal.Value.run (F := Ideal) m ρ)

set_option maxHeartbeats 4000000 in
theorem algebraic : Cert.algebraic_KernelShiftIdeal_ReferenceShiftIdeal
    (hKernelShiftIdeal := Cert.KernelShiftIdeal.Gen.facts) (hReferenceShiftIdeal := Cert.ReferenceShiftIdeal.Gen.facts) := by
  intro m ρ m' ρ' _ hagree
  refine ⟨_, Cert.KernelShiftIdeal.Value.run_blocks (F := Ideal) m ρ, ?_⟩
  refine (θ_run _ _ _).mono (fun _ h c => ⟨(h c).1.trans ?_, (h c).2⟩) (Cert.ReferenceShiftIdeal.Value.run (F := Ideal) m' ρ')
  unfold Cert.ReferenceShiftIdeal.Value.res_main_v67
  obtain ⟨e0, e1⟩ := hagree c
  rw [e0, e1]
  clear e0 e1
  funext i
  obtain ⟨R, l, rfl⟩ : ∃ R l, i = ix2 R l := ⟨i 0, i 1, funext fun a => by fin_cases a <;> rfl⟩
  refine Eq.trans ?_ (Cert.KernelShiftIdeal.Rows.value m c R l).symm
  pointwise []
  by_cases h : R.val < 256
  · exact (dif_pos h).trans (Cert.KernelShiftIdeal.Rows.context (fun r => Cert.KernelShiftIdeal.Rows.argP m c (ix2 r ⟨5120 + l.val, by omega⟩)) (fun k => Cert.KernelShiftIdeal.Rows.argM m c (ix2 k l)) R h)
  · exact (dif_neg h).trans (Cert.KernelShiftIdeal.Rows.token (fun r => Cert.KernelShiftIdeal.Rows.argP m c (ix2 r ⟨5120 + l.val, by omega⟩)) (fun k => Cert.KernelShiftIdeal.Rows.argM m c (ix2 k l)) R h)

end Cert.Shift
-- ==== Proof.ShiftBwd.lean ====
/-
  The backward of the token shift, over blocks of 128 columns: the gradient of a row is its own gradient less what it gave to its
  neighbours' weights, plus what its neighbours took from it; the gradients of the weights are sums over all rows.
-/
module

public import proofs.«01_k».proof.Proof.Shift
public import proofs.«01_k».proof.Proof.Equal
public import proofs.«01_k».proof.Proof.Gen.KernelShiftBwdIdeal.Value
public import proofs.«01_k».proof.Proof.Gen.ReferenceShiftBwdIdeal.Run
public import proofs.«01_k».proof.Proof.Gen.Pre_real_shift

@[expose] public section

set_option maxRecDepth 65536

noncomputable section

namespace Cert.KernelShiftBwdIdeal.Rows

open Idealize.ShloMosaic Idealize.ShloMosaic.TcCoe Idealize.SL.Sem Cert.KernelShiftBwdIdeal Cert.KernelShiftBwdIdeal.Gen Cert.KernelShiftBwdIdeal.Value Cert.Blocked
open Cert.KernelShiftIdeal.Rows (hasLeft hasRight hasUp hasDown turn chosen absent present)

variable (m : (ℓ : Loc nD τ sig) → Buf (Elt Ideal) ℓ) (c : Dev nD)

abbrev argP : FVec Ideal S2304x13568 .f32 := m (c.tc.loc main_arg0)
abbrev argM : FVec Ideal S4x3328 .f32 := m (c.tc.loc main_arg1)
abbrev argD0 : FVec Ideal S2304x3328 .f32 := m (c.tc.loc main_arg2)
abbrev argD1 : FVec Ideal S2304x3328 .f32 := m (c.tc.loc main_arg3)
abbrev argD2 : FVec Ideal S2304x3328 .f32 := m (c.tc.loc main_arg4)

/-- which blocks point `t` loads and writes -/
theorem starts : ∀ t : Fin cfg0.N, (win0_0.index t 0 = 0 ∧ win0_0.index t 1 = 40 + t.val)
    ∧ (win0_1.index t 0 = 0 ∧ win0_1.index t 1 = t.val) ∧ (win0_2.index t 0 = 0 ∧ win0_2.index t 1 = t.val)
    ∧ (win0_3.index t 0 = 0 ∧ win0_3.index t 1 = t.val) ∧ (win0_4.index t 0 = 0 ∧ win0_4.index t 1 = t.val)
    ∧ (win0_5.index t 0 = 0 ∧ win0_5.index t 1 = t.val) ∧ (win0_6.index t 0 = 0 ∧ win0_6.index t 1 = t.val) :=
  (by decide +kernel : ∀ t : Fin grid0.N, (win0_0.index t 0 = 0 ∧ win0_0.index t 1 = 40 + t.val)
    ∧ (win0_1.index t 0 = 0 ∧ win0_1.index t 1 = t.val) ∧ (win0_2.index t 0 = 0 ∧ win0_2.index t 1 = t.val)
    ∧ (win0_3.index t 0 = 0 ∧ win0_3.index t 1 = t.val) ∧ (win0_4.index t 0 = 0 ∧ win0_4.index t 1 = t.val)
    ∧ (win0_5.index t 0 = 0 ∧ win0_5.index t 1 = t.val) ∧ (win0_6.index t 0 = 0 ∧ win0_6.index t 1 = t.val))

/-- column `l` of block `t` -/
def col (t : Fin cfg0.N) (l : Fin 128) : Fin 3328 := ⟨t.val * 128 + l.val, by have := t.isLt; have : cfg0.N = 26 := N_0; omega⟩

theorem cols (C : Fin 3328) : ∃ (t : Fin cfg0.N) (l : Fin 128), C = col t l := by
  have hN : cfg0.N = 26 := N_0
  exact ⟨⟨C.val / 128, by omega⟩, ⟨C.val % 128, by omega⟩, Fin.ext (by show C.val = C.val / 128 * 128 + C.val % 128; omega)⟩

theorem block_p (t : Fin cfg0.N) (R : Fin 2304) (l : Fin 128) :
    iblk m c 0 t (ix2 R l) = argP m c (ix2 R ⟨5120 + (col t l).val, by omega⟩) := by
  unfold iblk
  rw [View.read_apply]
  show m (c.tc.loc main_arg0) _ = m (c.tc.loc main_arg0) _
  congr 1
  funext a
  apply Fin.ext
  match a with
  | ⟨0, _⟩ => show win0_0.index t 0 * 2304 + 1 * R.val = R.val; rw [(starts t).1.1]; omega
  | ⟨1, _⟩ => show win0_0.index t 1 * 128 + 1 * l.val = 5120 + (t.val * 128 + l.val); rw [(starts t).1.2]; omega

theorem block_m (t : Fin cfg0.N) (k : Fin 4) (l : Fin 128) : iblk m c 1 t (ix2 k l) = argM m c (ix2 k (col t l)) := by
  unfold iblk
  rw [View.read_apply]
  show m (c.tc.loc main_arg1) _ = m (c.tc.loc main_arg1) _
  congr 1
  funext a
  apply Fin.ext
  match a with
  | ⟨0, _⟩ => show win0_1.index t 0 * 4 + 1 * k.val = k.val; rw [(starts t).2.1.1]; omega
  | ⟨1, _⟩ => show win0_1.index t 1 * 128 + 1 * l.val = t.val * 128 + l.val; rw [(starts t).2.1.2]; omega

theorem block_d0 (t : Fin cfg0.N) (R : Fin 2304) (l : Fin 128) : iblk m c 2 t (ix2 R l) = argD0 m c (ix2 R (col t l)) := by
  unfold iblk
  rw [View.read_apply]
  show m (c.tc.loc main_arg2) _ = m (c.tc.loc main_arg2) _
  congr 1
  funext a
  apply Fin.ext
  match a with
  | ⟨0, _⟩ => show win0_2.index t 0 * 2304 + 1 * R.val = R.val; rw [(starts t).2.2.1.1]; omega
  | ⟨1, _⟩ => show win0_2.index t 1 * 128 + 1 * l.val = t.val * 128 + l.val; rw [(starts t).2.2.1.2]; omega

theorem block_d1 (t : Fin cfg0.N) (R : Fin 2304) (l : Fin 128) : iblk m c 3 t (ix2 R l) = argD1 m c (ix2 R (col t l)) := by
  unfold iblk
  rw [View.read_apply]
  show m (c.tc.loc main_arg3) _ = m (c.tc.loc main_arg3) _
  congr 1
  funext a
  apply Fin.ext
  match a with
  | ⟨0, _⟩ => show win0_3.index t 0 * 2304 + 1 * R.val = R.val; rw [(starts t).2.2.2.1.1]; omega
  | ⟨1, _⟩ => show win0_3.index t 1 * 128 + 1 * l.val = t.val * 128 + l.val; rw [(starts t).2.2.2.1.2]; omega

theorem block_d2 (t : Fin cfg0.N) (R : Fin 2304) (l : Fin 128) : iblk m c 4 t (ix2 R l) = argD2 m c (ix2 R (col t l)) := by
  unfold iblk
  rw [View.read_apply]
  show m (c.tc.loc main_arg4) _ = m (c.tc.loc main_arg4) _
  congr 1
  funext a
  apply Fin.ext
  match a with
  | ⟨0, _⟩ => show win0_4.index t 0 * 2304 + 1 * R.val = R.val; rw [(starts t).2.2.2.2.1.1]; omega
  | ⟨1, _⟩ => show win0_4.index t 1 * 128 + 1 * l.val = t.val * 128 + l.val; rw [(starts t).2.2.2.2.1.2]; omega

/-! ## The borders -/

/-- whether row `R` is a token's -/
theorem bit_token : ∀ R : Fin 2304, k0_pay3 (ix2 R 0) = if 256 ≤ R.val then 1#1 else 0#1 := by
  intro R
  pointwise [k0_pay3]
  revert R
  decide +kernel

/-- the row's place in its stream, and in its line -/
theorem place : ∀ R : Fin 2304, k0_pay4 (ix2 R 0) = BitVec.ofNat 32 (if 256 ≤ R.val then R.val - 256 else R.val) := by
  intro R
  pointwise [k0_pay4]
  rw [bit_token]
  revert R
  decide +kernel
theorem place_line : ∀ R : Fin 2304, k0_pay5 (ix2 R 0) = BitVec.ofNat 32 (if 256 ≤ R.val then R.val % 64 else R.val) := by
  intro R
  pointwise [k0_pay5]
  rw [bit_token, place]
  revert R
  decide +kernel

theorem bit_left : ∀ R : Fin 2304, k0_pay6 (ix2 R 0) = if hasLeft R then 1#1 else 0#1 := by
  intro R
  pointwise [k0_pay6]
  rw [place_line]
  revert R
  decide +kernel
theorem bit_right : ∀ R : Fin 2304, k0_pay7 (ix2 R 0) = if hasRight R then 1#1 else 0#1 := by
  intro R
  pointwise [k0_pay7]
  rw [place_line, bit_token]
  revert R
  decide +kernel
theorem bit_up : ∀ R : Fin 2304, k0_pay8 (ix2 R 0) = if hasUp R then 1#1 else 0#1 := by
  intro R
  pointwise [k0_pay8]
  rw [place, bit_token]
  revert R
  decide +kernel
theorem bit_down : ∀ R : Fin 2304, k0_pay9 (ix2 R 0) = if hasDown R then 1#1 else 0#1 := by
  intro R
  pointwise [k0_pay9]
  rw [place, bit_token]
  revert R
  decide +kernel

/-! ## The results of a block -/

/-- the gradient of row `R`, from the summed gradient `g` of a column -/
def back (g : Fin 2304 → EReal) (μ : Fin 4 → EReal) (R : Fin 2304) : EReal :=
  (1 - μ 0 - μ 1 - (if 256 ≤ R.val then μ 2 + μ 3 else 0)) * g R
    + (if hasLeft (turn 2303 R) then μ 0 * g (turn 2303 R) else 0) + (if hasRight (turn 1 R) then μ 1 * g (turn 1 R) else 0)
    + (if hasUp (turn 2240 R) then μ 2 * g (turn 2240 R) else 0) + (if hasDown (turn 64 R) then μ 3 * g (turn 64 R) else 0)

/-- what row `R` adds to the gradient of the weight `k`, from a column's rows `x` -/
def part (g x : Fin 2304 → EReal) (k : Fin 4) (R : Fin 2304) : EReal :=
  match k with
  | 0 => g R * ((if hasLeft R then x (turn 1 R) else 0) - x R)
  | 1 => g R * ((if hasRight R then x (turn 2303 R) else 0) - x R)
  | 2 => if 256 ≤ R.val then g R * ((if hasUp R then x (turn 64 R) else 0) - x R) else 0
  | 3 => if 256 ≤ R.val then g R * ((if hasDown R then x (turn 2240 R) else 0) - x R) else 0

theorem stored_row (μ : FVec Ideal S4x128 .f32) (g : FVec Ideal S2304x128 .f32) (R : Fin 2304) (l : Fin 128) :
    k0_pay1 (F := Ideal) μ g k0_pay6 k0_pay7 k0_pay8 k0_pay9 (k0_pay13 μ) (k0_pay14 μ) (Scalar.ofBits .f32 0x00000000#32) (k0_pay15 k0_pay3) (ix2 R l)
      = back (fun r => g (ix2 r l)) (fun k => μ (ix2 k l)) R := by
  pointwise [k0_pay1, k0_pay13, k0_pay14, k0_pay15]
  rw [chosen _ _ _ _ (bit_token R), chosen _ _ _ _ (bit_left _), chosen _ _ _ _ (bit_right _), chosen _ _ _ _ (bit_up _), chosen _ _ _ _ (bit_down _)]
  rfl

set_option maxHeartbeats 4000000 in
theorem stored_sum (x g : FVec Ideal S2304x128 .f32) (k : Fin 4) (l : Fin 128) :
    k0_pay12 (F := Ideal) x g k0_pay3 k0_pay7 k0_pay8 k0_pay9 (k0_pay10 x) (k0_pay11 x) (Scalar.ofBits .f32 0x00000000#32) (ix2 k l)
      = ∑ R : Fin 2304, part (fun r => g (ix2 r l)) (fun r => x (ix2 r l)) k R := by
  pointwise [k0_pay12, k0_pay10, k0_pay11]
  have hT := fun (R : Fin 2304) (a b : EReal) => chosen _ _ a b (bit_token R)
  have hL := fun (R : Fin 2304) (a b : EReal) => chosen _ _ a b (bit_left R)
  have hR := fun (R : Fin 2304) (a b : EReal) => chosen _ _ a b (bit_right R)
  have hU := fun (R : Fin 2304) (a b : EReal) => chosen _ _ a b (bit_up R)
  have hD := fun (R : Fin 2304) (a b : EReal) => chosen _ _ a b (bit_down R)
  simp only [hT, hL, hR, hU, hD]
  fin_cases k <;> rfl

/-- the summed gradient's column, and the rows' -/
def grad (C : Fin 3328) (R : Fin 2304) : EReal := argD0 m c (ix2 R C) + argD1 m c (ix2 R C) + argD2 m c (ix2 R C)
def rows (C : Fin 3328) (R : Fin 2304) : EReal := argP m c (ix2 R ⟨5120 + C.val, by omega⟩)

theorem summed (t : Fin cfg0.N) (R : Fin 2304) (l : Fin 128) :
    k0_pay2 (F := Ideal) (iblk m c 2 t) (iblk m c 3 t) (iblk m c 4 t) (ix2 R l) = grad m c (col t l) R := by
  pointwise [k0_pay2]
  rw [block_d0, block_d1, block_d2]
  rfl

/-- the first result, entry by entry -/
theorem value_row (R : Fin 2304) (C : Fin 3328) : (dats m 0 c).arrAt 5 cfg0.N (ix2 R C) = back (grad m c C) (fun k => argM m c (ix2 k C)) R := by
  obtain ⟨t, l, rfl⟩ := cols C
  have hb := congrFun (blocks5 m c t (flush0_5 t)) (ix2 R l)
  rw [flushed5, View.read_apply] at hb
  refine Eq.trans ?_ (hb.trans ?_)
  · congr 1
    funext a
    apply Fin.ext
    match a with
    | ⟨0, _⟩ => show R.val = win0_5.index t 0 * 2304 + 1 * R.val; rw [(starts t).2.2.2.2.2.1.1]; omega
    | ⟨1, _⟩ => show t.val * 128 + l.val = win0_5.index t 1 * 128 + 1 * l.val; rw [(starts t).2.2.2.2.2.1.2]; omega
  · refine Eq.trans (b := out0_5 (F := Ideal) (iblk m c 0 t) (iblk m c 1 t) (iblk m c 2 t) (iblk m c 3 t) (iblk m c 4 t) (ix2 R l)) rfl ?_
    unfold out0_5 k0_pay16 k0_pay17 k0_pay18 k0_pay19 k0_pay20
    rw [View.canon_unit_zero zeros2]
    simp only [View.ld_unit_zero (S := S2304x128) zeros2, View.ld_unit_zero (S := S4x128) zeros2]
    rw [stored_row]
    simp only [summed, block_m]

/-- the second result, entry by entry -/
theorem value_sum (k : Fin 4) (C : Fin 3328) : (dats m 0 c).arrAt 6 cfg0.N (ix2 k C) = ∑ R : Fin 2304, part (grad m c C) (rows m c C) k R := by
  obtain ⟨t, l, rfl⟩ := cols C
  have hb := congrFun (blocks6 m c t (flush0_6 t)) (ix2 k l)
  rw [flushed6, View.read_apply] at hb
  refine Eq.trans ?_ (hb.trans ?_)
  · congr 1
    funext a
    apply Fin.ext
    match a with
    | ⟨0, _⟩ => show k.val = win0_6.index t 0 * 4 + 1 * k.val; rw [(starts t).2.2.2.2.2.2.1]; omega
    | ⟨1, _⟩ => show t.val * 128 + l.val = win0_6.index t 1 * 128 + 1 * l.val; rw [(starts t).2.2.2.2.2.2.2]; omega
  · refine Eq.trans (b := out0_6 (F := Ideal) (iblk m c 0 t) (iblk m c 1 t) (iblk m c 2 t) (iblk m c 3 t) (iblk m c 4 t) (ix2 k l)) rfl ?_
    unfold out0_6 k0_pay16 k0_pay17 k0_pay18 k0_pay19 k0_pay20
    rw [View.canon_unit_zero zeros2]
    simp only [View.ld_unit_zero (S := S2304x128) zeros2]
    rw [stored_sum]
    simp only [summed, block_p]
    rfl

end Cert.KernelShiftBwdIdeal.Rows

namespace Cert.ShiftBwd

open Idealize.ShloMosaic Idealize.ShloMosaic.TcCoe Idealize.SL.Sem
open Cert.KernelShiftBwdIdeal.Rows (argM grad rows back part)
open Cert.KernelShiftIdeal.Rows (hasLeft hasRight hasUp hasDown turn present)

/-- the entries that a sum over the first two of three axes takes together -/
theorem fiber01 {a b n : Nat} (h : (⟨3, ![a, b, n]⟩ : Shape).ReducesTo [0, 1] ⟨1, ![n]⟩) (l : Fin n) (i : (⟨3, ![a, b, n]⟩ : Shape).Idx) :
    h.drop i = ix1 l ↔ ∃ k : Fin a × Fin b, ix3 k.1 k.2 l = i := by
  constructor
  · intro e
    refine ⟨(i 0, i 1), ?_⟩
    funext x
    apply Fin.ext
    match x with
    | ⟨0, _⟩ => rfl
    | ⟨1, _⟩ => rfl
    | ⟨2, _⟩ => exact (congrArg Fin.val (congrFun e 0)).symm
  · rintro ⟨k, rfl⟩
    funext x
    apply Fin.ext
    match x with
    | ⟨0, _⟩ => rfl

/-- a sum over the first two of three axes -/
theorem sum01 {a b n : Nat} (h : (⟨3, ![a, b, n]⟩ : Shape).ReducesTo [0, 1] ⟨1, ![n]⟩) (v : (⟨3, ![a, b, n]⟩ : Shape).Idx → EReal) (init : EReal) (l : Fin n) :
    Ideal.hostReduceAdd h v init (ix1 l) = init + ∑ i : Fin a, ∑ j : Fin b, v (ix3 i j l) := by
  refine congrArg (init + ·) ((Finset.sum_filter_eq_sum_of_fiber _ (fun k : Fin a × Fin b => ix3 k.1 k.2 l)
    (fun _ _ e => Prod.ext (congrFun e 0) (congrFun e 1)) (fiber01 h l) v).trans ?_)
  simp only [Fintype.sum_prod_type]

/-- A row's terms are the same in any order; only the row's own are taken together, and those are real numbers. -/
theorem gathered_token (g a b d e A B U D : EReal) (hg : ∃ y : ℝ, g = y) (ha : ∃ y : ℝ, a = y) (hb : ∃ y : ℝ, b = y) (hd : ∃ y : ℝ, d = y) (he : ∃ y : ℝ, e = y) :
    (((((((-(e * g) + -(d * g)) + D) + U) + -(b * g)) + g) + -(a * g)) + B) + A = (1 - a - b - (d + e)) * g + A + B + U + D := by
  obtain ⟨g, rfl⟩ := hg; obtain ⟨a, rfl⟩ := ha; obtain ⟨b, rfl⟩ := hb; obtain ⟨d, rfl⟩ := hd; obtain ⟨e, rfl⟩ := he
  have h : -((e : EReal) * g) + -((d : EReal) * g) + -((b : EReal) * g) + g + -((a : EReal) * g) = (1 - a - b - (d + e)) * g := by
    norm_cast
    ring
  rw [← h]
  ac_rfl
theorem gathered_context (g a b A B : EReal) (hg : ∃ y : ℝ, g = y) (ha : ∃ y : ℝ, a = y) (hb : ∃ y : ℝ, b = y) :
    (((-(b * g) + g) + -(a * g)) + B) + A = (1 - a - b - 0) * g + A + B := by
  obtain ⟨g, rfl⟩ := hg; obtain ⟨a, rfl⟩ := ha; obtain ⟨b, rfl⟩ := hb
  have h : -((b : EReal) * g) + g + -((a : EReal) * g) = (1 - a - b - 0) * g := by
    norm_cast
    ring
  rw [← h]
  ac_rfl

/-- of two parts that exclude each other, the one that is there -/
theorem second {p q : Prop} {ip : Decidable p} {iq : Decidable q} (X : p → EReal) (Y : q → EReal) (z : EReal) (hp : ¬p) (hq : q) (h : Y hq = z) :
    (@dite EReal p ip X fun _ => 0) + (@dite EReal q iq Y fun _ => 0) = z := by
  rw [dif_neg hp, dif_pos hq, zero_add, h]
theorem first {p q : Prop} {ip : Decidable p} {iq : Decidable q} (X : p → EReal) (Y : q → EReal) (z : EReal) (hp : p) (hq : ¬q) (h : X hp = z) :
    (@dite EReal p ip X fun _ => 0) + (@dite EReal q iq Y fun _ => 0) = z := by
  rw [dif_pos hp, dif_neg hq, add_zero, h]

/-- a context row of the reference's gradient -/
theorem context (g : Fin 2304 → EReal) (μ : Fin 4 → EReal) (hg : ∀ R, ∃ y : ℝ, g R = y) (hμ : ∀ k, ∃ y : ℝ, μ k = y) (R : Fin 2304) (h : R.val < 256) :
    (((-(μ 1 * g R) + g R) + -(μ 0 * g R)) + (if h1 : 1 ≤ R.val ∧ R.val - 1 < 255 then μ 1 * g ⟨R.val - 1, by omega⟩ else 0))
      + (if h1 : R.val < 255 then μ 0 * g ⟨1 + R.val, by omega⟩ else 0) = back g μ R := by
  unfold back
  rw [if_neg (by omega : ¬256 ≤ R.val),
    if_neg (show ¬hasUp (turn 2240 R) by unfold hasUp turn; dsimp only; omega),
    if_neg (show ¬hasDown (turn 64 R) by unfold hasDown turn; dsimp only; omega), add_zero, add_zero,
    present (q := hasRight (turn 1 R)) (fun r => μ 1 * g r) (fun _ => ⟨R.val - 1, by omega⟩) (turn 1 R) (by unfold hasRight turn; dsimp only; omega)
      (fun h1 => Fin.ext (by show R.val - 1 = (R.val + 2304 - 1 % 2304) % 2304; omega)),
    present (q := hasLeft (turn 2303 R)) (fun r => μ 0 * g r) (fun h1 => ⟨1 + R.val, by omega⟩) (turn 2303 R) (by unfold hasLeft turn; dsimp only; omega)
      (fun h1 => Fin.ext (by show 1 + R.val = (R.val + 2304 - 2303 % 2304) % 2304; omega))]
  exact gathered_context _ _ _ _ _ (hg R) (hμ 0) (hμ 1)

/-- a token's row of the reference's gradient -/
theorem token (g : Fin 2304 → EReal) (μ : Fin 4 → EReal) (hg : ∀ R, ∃ y : ℝ, g R = y) (hμ : ∀ k, ∃ y : ℝ, μ k = y) (R : Fin 2304) (h : ¬R.val < 256) :
    (((((((-(μ 3 * g ⟨256 + ((R.val - 256) / 64 * 64 + (R.val - 256) % 64), by omega⟩) + -(μ 2 * g ⟨256 + ((R.val - 256) / 64 * 64 + (R.val - 256) % 64), by omega⟩))
      + (if h1 : (1 ≤ (R.val - 256) / 64 ∧ (R.val - 256) / 64 - 1 < 31) ∧ (R.val - 256) % 64 < 64 then μ 3 * g ⟨256 + (((R.val - 256) / 64 - 1) * 64 + (R.val - 256) % 64), by omega⟩ else 0))
      + (if h1 : (R.val - 256) / 64 < 31 ∧ (R.val - 256) % 64 < 64 then μ 2 * g ⟨256 + ((1 + (R.val - 256) / 64) * 64 + (R.val - 256) % 64), by omega⟩ else 0))
      + -(μ 1 * g ⟨256 + ((R.val - 256) / 64 * 64 + (R.val - 256) % 64), by omega⟩)) + g ⟨256 + ((R.val - 256) / 64 * 64 + (R.val - 256) % 64), by omega⟩)
      + -(μ 0 * g ⟨256 + ((R.val - 256) / 64 * 64 + (R.val - 256) % 64), by omega⟩))
      + (if h1 : (R.val - 256) / 64 < 32 ∧ 1 ≤ (R.val - 256) % 64 ∧ (R.val - 256) % 64 - 1 < 63 then μ 1 * g ⟨256 + ((R.val - 256) / 64 * 64 + ((R.val - 256) % 64 - 1)), by omega⟩ else 0))
      + (if h1 : (R.val - 256) / 64 < 32 ∧ (R.val - 256) % 64 < 63 then μ 0 * g ⟨256 + ((R.val - 256) / 64 * 64 + (1 + (R.val - 256) % 64)), by omega⟩ else 0) = back g μ R := by
  have hR : (⟨256 + ((R.val - 256) / 64 * 64 + (R.val - 256) % 64), by omega⟩ : Fin 2304) = R := Fin.ext (by show 256 + ((R.val - 256) / 64 * 64 + (R.val - 256) % 64) = R.val; omega)
  unfold back
  rw [if_pos (by omega : 256 ≤ R.val), hR,
    present (q := hasDown (turn 64 R)) (fun r => μ 3 * g r) (fun _ => ⟨256 + (((R.val - 256) / 64 - 1) * 64 + (R.val - 256) % 64), by omega⟩) (turn 64 R) (by unfold hasDown turn; dsimp only; omega)
      (fun h1 => Fin.ext (by show 256 + (((R.val - 256) / 64 - 1) * 64 + (R.val - 256) % 64) = (R.val + 2304 - 64 % 2304) % 2304; omega)),
    present (q := hasUp (turn 2240 R)) (fun r => μ 2 * g r) (fun h1 => ⟨256 + ((1 + (R.val - 256) / 64) * 64 + (R.val - 256) % 64), by omega⟩) (turn 2240 R) (by unfold hasUp turn; dsimp only; omega)
      (fun h1 => Fin.ext (by show 256 + ((1 + (R.val - 256) / 64) * 64 + (R.val - 256) % 64) = (R.val + 2304 - 2240 % 2304) % 2304; omega)),
    present (q := hasRight (turn 1 R)) (fun r => μ 1 * g r) (fun _ => ⟨256 + ((R.val - 256) / 64 * 64 + ((R.val - 256) % 64 - 1)), by omega⟩) (turn 1 R) (by unfold hasRight turn; dsimp only; omega)
      (fun h1 => Fin.ext (by show 256 + ((R.val - 256) / 64 * 64 + ((R.val - 256) % 64 - 1)) = (R.val + 2304 - 1 % 2304) % 2304; omega)),
    present (q := hasLeft (turn 2303 R)) (fun r => μ 0 * g r) (fun h1 => ⟨256 + ((R.val - 256) / 64 * 64 + (1 + (R.val - 256) % 64)), by omega⟩) (turn 2303 R) (by unfold hasLeft turn; dsimp only; omega)
      (fun h1 => Fin.ext (by show 256 + ((R.val - 256) / 64 * 64 + (1 + (R.val - 256) % 64)) = (R.val + 2304 - 2303 % 2304) % 2304; omega))]
  exact gathered_token _ _ _ _ _ _ _ _ _ (hg R) (hμ 0) (hμ 1) (hμ 2) (hμ 3)

/-- the sum over all rows: the tokens, line by line, and the context -/
theorem split (f : Fin 2304 → EReal) : ∑ R, f R = (∑ a : Fin 32, ∑ b : Fin 64, f ⟨256 + (a.val * 64 + b.val), by omega⟩) + ∑ r : Fin 256, f ⟨r.val, by omega⟩ := by
  rw [add_comm, ← Fintype.sum_prod_type', ← (finProdFinEquiv (m := 32) (n := 64)).symm.sum_comp]
  refine (Fin.sum_univ_add (a := 256) (b := 2048) f).trans (congrArg₂ (· + ·) rfl (Finset.sum_congr rfl fun x _ => congrArg f (Fin.ext ?_)))
  show 256 + x.val = 256 + (x.val / 64 * 64 + x.val % 64)
  omega

section
variable (g x : Fin 2304 → EReal)

/-! What a row adds to a weight's gradient, with a neighbour (`_in`) and at the edge (`_edge`). -/

theorem left_in (R R' : Fin 2304) (h : hasLeft R) (e : R'.val + 1 = R.val) : g R * (x R' - x R) = part g x 0 R := by
  obtain rfl : R' = turn 1 R := Fin.ext (by show R'.val = (R.val + 2304 - 1 % 2304) % 2304; omega)
  rw [show part g x 0 R = g R * ((if hasLeft R then x (turn 1 R) else 0) - x R) from rfl, if_pos h]
theorem left_edge (R : Fin 2304) (h : ¬hasLeft R) : g R * (0 - x R) = part g x 0 R := by
  rw [show part g x 0 R = g R * ((if hasLeft R then x (turn 1 R) else 0) - x R) from rfl, if_neg h]
theorem right_in (R R' : Fin 2304) (h : hasRight R) (e : R'.val = R.val + 1) : g R * (x R' - x R) = part g x 1 R := by
  obtain rfl : R' = turn 2303 R := Fin.ext (by show R'.val = (R.val + 2304 - 2303 % 2304) % 2304; omega)
  rw [show part g x 1 R = g R * ((if hasRight R then x (turn 2303 R) else 0) - x R) from rfl, if_pos h]
theorem right_edge (R : Fin 2304) (h : ¬hasRight R) : g R * (0 - x R) = part g x 1 R := by
  rw [show part g x 1 R = g R * ((if hasRight R then x (turn 2303 R) else 0) - x R) from rfl, if_neg h]
theorem up_in (R R' : Fin 2304) (h : hasUp R) (e : R'.val + 64 = R.val) : g R * (x R' - x R) = part g x 2 R := by
  obtain rfl : R' = turn 64 R := Fin.ext (by show R'.val = (R.val + 2304 - 64 % 2304) % 2304; omega)
  rw [show part g x 2 R = if 256 ≤ R.val then g R * ((if hasUp R then x (turn 64 R) else 0) - x R) else 0 from rfl, if_pos (show 256 ≤ R.val by unfold hasUp at h; omega), if_pos h]
theorem up_edge (R : Fin 2304) (h : ¬hasUp R) (h' : 256 ≤ R.val) : g R * (0 - x R) = part g x 2 R := by
  rw [show part g x 2 R = if 256 ≤ R.val then g R * ((if hasUp R then x (turn 64 R) else 0) - x R) else 0 from rfl, if_pos h', if_neg h]
theorem down_in (R R' : Fin 2304) (h : hasDown R) (e : R'.val = R.val + 64) : g R * (x R' - x R) = part g x 3 R := by
  obtain rfl : R' = turn 2240 R := Fin.ext (by show R'.val = (R.val + 2304 - 2240 % 2304) % 2304; unfold hasDown at h; omega)
  rw [show part g x 3 R = if 256 ≤ R.val then g R * ((if hasDown R then x (turn 2240 R) else 0) - x R) else 0 from rfl, if_pos h.1, if_pos h]
theorem down_edge (R : Fin 2304) (h : ¬hasDown R) (h' : 256 ≤ R.val) : g R * (0 - x R) = part g x 3 R := by
  rw [show part g x 3 R = if 256 ≤ R.val then g R * ((if hasDown R then x (turn 2240 R) else 0) - x R) else 0 from rfl, if_pos h', if_neg h]

/-! The reference's sums, each of which takes the rows with a neighbour apart from the edge, are the sums over all rows. -/

theorem sum_down : (∑ a : Fin 31, ∑ b : Fin 64, g ⟨256 + (a.val * 64 + b.val), by omega⟩ * (x ⟨256 + ((1 + a.val) * 64 + b.val), by omega⟩ - x ⟨256 + (a.val * 64 + b.val), by omega⟩))
      + ∑ b : Fin 64, g ⟨256 + (1984 + b.val), by omega⟩ * (0 - x ⟨256 + (1984 + b.val), by omega⟩) = ∑ R, part g x 3 R := by
  have z : ∑ r : Fin 256, part g x 3 ⟨r.val, by omega⟩ = 0 := Finset.sum_eq_zero fun r _ => if_neg (show ¬256 ≤ r.val by omega)
  rw [split, z, add_zero, Fin.sum_univ_castSucc (n := 31)]
  refine congrArg₂ (· + ·) (Finset.sum_congr rfl fun a _ => Finset.sum_congr rfl fun b _ => ?_) (Finset.sum_congr rfl fun b _ => ?_)
  · exact down_in g x _ _ (by unfold hasDown; dsimp only; omega) (by dsimp only; omega)
  · exact down_edge g x _ (by unfold hasDown; dsimp only; omega) (by dsimp only; omega)

theorem sum_up : (∑ b : Fin 64, g ⟨256 + b.val, by omega⟩ * (0 - x ⟨256 + b.val, by omega⟩))
      + (∑ a : Fin 31, ∑ b : Fin 64, g ⟨256 + ((1 + a.val) * 64 + b.val), by omega⟩ * (x ⟨256 + (a.val * 64 + b.val), by omega⟩ - x ⟨256 + ((1 + a.val) * 64 + b.val), by omega⟩))
      = ∑ R, part g x 2 R := by
  have z : ∑ r : Fin 256, part g x 2 ⟨r.val, by omega⟩ = 0 := Finset.sum_eq_zero fun r _ => if_neg (show ¬256 ≤ r.val by omega)
  rw [split, z, add_zero, Fin.sum_univ_succ (n := 31)]
  refine congrArg₂ (· + ·) (Finset.sum_congr rfl fun b _ => ?_) (Finset.sum_congr rfl fun a _ => Finset.sum_congr rfl fun b _ => ?_)
  · refine (up_edge g x _ (by unfold hasUp; dsimp only; omega) (by dsimp only; omega)).trans (congrArg (part g x 2) (Fin.ext ?_))
    show 256 + b.val = 256 + (0 * 64 + b.val)
    omega
  · refine (up_in g x _ _ (by unfold hasUp; dsimp only; omega) (by dsimp only; omega)).trans (congrArg (part g x 2) (Fin.ext ?_))
    show 256 + ((1 + a.val) * 64 + b.val) = 256 + ((a.val + 1) * 64 + b.val)
    omega

theorem sum_right : (∑ a : Fin 32, ((∑ b : Fin 63, g ⟨256 + (a.val * 64 + b.val), by omega⟩ * (x ⟨256 + (a.val * 64 + (1 + b.val)), by omega⟩ - x ⟨256 + (a.val * 64 + b.val), by omega⟩))
        + g ⟨256 + (a.val * 64 + 63), by omega⟩ * (0 - x ⟨256 + (a.val * 64 + 63), by omega⟩)))
      + ((∑ r : Fin 255, g ⟨r.val, by omega⟩ * (x ⟨1 + r.val, by omega⟩ - x ⟨r.val, by omega⟩)) + g 255 * (0 - x 255)) = ∑ R, part g x 1 R := by
  rw [split]
  refine congrArg₂ (· + ·) (Finset.sum_congr rfl fun a _ => ?_) ?_
  · rw [Fin.sum_univ_castSucc (n := 63)]
    refine congrArg₂ (· + ·) (Finset.sum_congr rfl fun b _ => ?_) ?_
    · exact right_in g x _ _ (by unfold hasRight; dsimp only; omega) (by dsimp only; omega)
    · exact right_edge g x _ (by unfold hasRight; dsimp only; omega)
  · rw [Fin.sum_univ_castSucc (n := 255)]
    refine congrArg₂ (· + ·) (Finset.sum_congr rfl fun b _ => ?_) ?_
    · exact right_in g x _ _ (by unfold hasRight; dsimp only; omega) (by dsimp only; omega)
    · exact right_edge g x _ (by decide)

theorem sum_left : (∑ a : Fin 32, (g ⟨256 + a.val * 64, by omega⟩ * (0 - x ⟨256 + a.val * 64, by omega⟩)
        + (∑ b : Fin 63, g ⟨256 + (a.val * 64 + (1 + b.val)), by omega⟩ * (x ⟨256 + (a.val * 64 + b.val), by omega⟩ - x ⟨256 + (a.val * 64 + (1 + b.val)), by omega⟩))))
      + (g 0 * (0 - x 0) + ∑ r : Fin 255, g ⟨1 + r.val, by omega⟩ * (x ⟨r.val, by omega⟩ - x ⟨1 + r.val, by omega⟩)) = ∑ R, part g x 0 R := by
  rw [split]
  refine congrArg₂ (· + ·) (Finset.sum_congr rfl fun a _ => ?_) ?_
  · rw [Fin.sum_univ_succ (n := 63)]
    refine congrArg₂ (· + ·) ?_ (Finset.sum_congr rfl fun b _ => ?_)
    · exact left_edge g x _ (by unfold hasLeft; dsimp only; omega)
    · refine (left_in g x _ _ (by unfold hasLeft; dsimp only; omega) (by dsimp only; omega)).trans (congrArg (part g x 0) (Fin.ext ?_))
      show 256 + (a.val * 64 + (1 + b.val)) = 256 + (a.val * 64 + (b.val + 1))
      omega
  · rw [Fin.sum_univ_succ (n := 255)]
    refine congrArg₂ (· + ·) ?_ (Finset.sum_congr rfl fun b _ => ?_)
    · exact left_edge g x _ (by decide)
    · refine (left_in g x _ _ (by unfold hasLeft; dsimp only; omega) (by dsimp only; omega)).trans (congrArg (part g x 0) (Fin.ext ?_))
      show 1 + b.val = b.val + 1
      omega
end

/-- a value whose magnitude is below infinity is a real number -/
theorem real_of_below (z : EReal) (h : BitVec.ofBool (decide (max z (-z) < Ideal.ofBits .f32 0x7F800000#32)) = 1#1) : ∃ y : ℝ, z = (y : EReal) := by
  rw [Cert.Equal.infinity] at h
  induction z using EReal.rec with
  | bot => simp at h
  | coe z => exact ⟨z, rfl⟩
  | top => simp at h

/-- The precondition, read: every weight is a real number. -/
theorem real_weight (m : (ℓ : Loc Cert.KernelShiftBwdIdeal.nD Cert.KernelShiftBwdIdeal.τ Cert.KernelShiftBwdIdeal.sig) → Buf (Elt Ideal) ℓ)
    (hpre : Cert.Pre_KernelShiftBwdIdeal_real_shift (hPre_real_shift := Cert.Pre_real_shift.Gen.facts) m) (c : Dev Cert.KernelShiftBwdIdeal.nD) (k : Fin 4) (C : Fin 3328) :
    ∃ z : ℝ, argM m c (ix2 k C) = (z : EReal) := by
  have h := congrFun (hpre c) (ix2 (⟨k.val, by omega⟩ : Fin 2308) C)
  refine real_of_below _ (Eq.trans ?_ h)
  unfold Cert.Pre_real_shift.fn
  pointwise []
  rfl

/-- the same, for the summed gradient -/
theorem real_grad (m : (ℓ : Loc Cert.KernelShiftBwdIdeal.nD Cert.KernelShiftBwdIdeal.τ Cert.KernelShiftBwdIdeal.sig) → Buf (Elt Ideal) ℓ)
    (hpre : Cert.Pre_KernelShiftBwdIdeal_real_shift (hPre_real_shift := Cert.Pre_real_shift.Gen.facts) m) (c : Dev Cert.KernelShiftBwdIdeal.nD) (R : Fin 2304) (C : Fin 3328) :
    ∃ z : ℝ, grad m c C R = (z : EReal) := by
  have h := congrFun (hpre c) (ix2 (⟨4 + R.val, by omega⟩ : Fin 2308) C)
  refine real_of_below _ (Eq.trans ?_ h)
  unfold Cert.Pre_real_shift.fn
  pointwise []
  rfl

/-- The reference leaves its arguments as they are, and has no semaphore. -/
theorem reference_frame : Cert.quiescent_ReferenceShiftBwdIdeal (hReferenceShiftBwdIdeal := Cert.ReferenceShiftBwdIdeal.Gen.facts) :=
  fun m ρ _ => (θ_run _ _ _).mono (fun r h => ⟨fun c => (h c).2.2, sem_eq_zero_of_no_sems (by decide) r.2⟩) (Cert.ReferenceShiftBwdIdeal.Value.run (F := Ideal) m ρ)

set_option maxHeartbeats 400000 in
theorem algebraic : Cert.algebraic_KernelShiftBwdIdeal_ReferenceShiftBwdIdeal_pre_real_shift
    (hKernelShiftBwdIdeal := Cert.KernelShiftBwdIdeal.Gen.facts) (hReferenceShiftBwdIdeal := Cert.ReferenceShiftBwdIdeal.Gen.facts) (hPre_real_shift := Cert.Pre_real_shift.Gen.facts) := by
  intro m ρ m' ρ' hpre hagree
  refine ⟨_, _, Cert.KernelShiftBwdIdeal.Value.run_blocks (F := Ideal) m ρ, ?_⟩
  refine (θ_run _ _ _).mono (fun _ h c => ⟨(h c).1.trans ?_, (h c).2.1.trans ?_, (h c).2.2⟩) (Cert.ReferenceShiftBwdIdeal.Value.run (F := Ideal) m' ρ')
  all_goals obtain ⟨e0, e1, e2, e3, e4⟩ := hagree c
  · clear h
    funext i
    obtain ⟨R, l, rfl⟩ : ∃ R l, i = ix2 R l := ⟨i 0, i 1, funext fun a => by fin_cases a <;> rfl⟩
    refine Eq.trans ?_ (Cert.KernelShiftBwdIdeal.Rows.value_row m c R l).symm
    pointwise [Cert.ReferenceShiftBwdIdeal.Value.res_main_v80, Cert.ReferenceShiftBwdIdeal.Value.res_main_v89, Cert.ReferenceShiftBwdIdeal.Value.res_main_v108, Cert.ReferenceShiftBwdIdeal.Value.res_main_v120, Cert.ReferenceShiftBwdIdeal.Value.res_main_v142, Cert.ReferenceShiftBwdIdeal.Value.res_main_v153, Cert.ReferenceShiftBwdIdeal.Value.res_main_v78, Cert.ReferenceShiftBwdIdeal.Value.res_main_v140, Cert.ReferenceShiftBwdIdeal.Value.res_main_v75, Cert.ReferenceShiftBwdIdeal.Value.res_main_v68, Cert.ReferenceShiftBwdIdeal.Value.res_main_v61, Cert.ReferenceShiftBwdIdeal.Value.res_main_v46, Cert.ReferenceShiftBwdIdeal.Value.res_main_v39, Cert.ReferenceShiftBwdIdeal.Value.res_main_v21, Cert.ReferenceShiftBwdIdeal.Value.res_main_v14]
    have E1 : StableHlo.launchContents m' c (Proc.tc.devRef Cert.ReferenceShiftBwdIdeal.main_arg1) = m (c.tc.loc Cert.KernelShiftBwdIdeal.main_arg1) := e1
    have E2 : StableHlo.launchContents m' c (Proc.tc.devRef Cert.ReferenceShiftBwdIdeal.main_arg2) = m (c.tc.loc Cert.KernelShiftBwdIdeal.main_arg2) := e2
    have E3 : StableHlo.launchContents m' c (Proc.tc.devRef Cert.ReferenceShiftBwdIdeal.main_arg3) = m (c.tc.loc Cert.KernelShiftBwdIdeal.main_arg3) := e3
    have E4 : StableHlo.launchContents m' c (Proc.tc.devRef Cert.ReferenceShiftBwdIdeal.main_arg4) = m (c.tc.loc Cert.KernelShiftBwdIdeal.main_arg4) := e4
    simp only [E1, E2, E3, E4]
    have rg : ∀ R, ∃ y : ℝ, grad m c l R = y := fun R => real_grad m hpre c R l
    have rμ : ∀ k, ∃ y : ℝ, (fun k => argM m c (ix2 k l)) k = y := fun k => real_weight m hpre c k l
    by_cases h : R.val < 256
    · refine second _ _ _ (by omega) (by omega) ?_
      exact context (grad m c l) (fun k => argM m c (ix2 k l)) rg rμ R h
    · refine first _ _ _ (by omega) (by omega) ?_
      exact token (grad m c l) (fun k => argM m c (ix2 k l)) rg rμ R h
  · clear h
    funext i
    obtain ⟨k, l, rfl⟩ : ∃ k l, i = ix2 k l := ⟨i 0, i 1, funext fun a => by fin_cases a <;> rfl⟩
    refine Eq.trans ?_ (Cert.KernelShiftBwdIdeal.Rows.value_sum m c k l).symm
    pointwise [sum01, Cert.ReferenceShiftBwdIdeal.Value.res_main_v67, Cert.ReferenceShiftBwdIdeal.Value.res_main_v60, Cert.ReferenceShiftBwdIdeal.Value.res_main_v51, Cert.ReferenceShiftBwdIdeal.Value.res_main_v45, Cert.ReferenceShiftBwdIdeal.Value.res_main_v38, Cert.ReferenceShiftBwdIdeal.Value.res_main_v29, Cert.ReferenceShiftBwdIdeal.Value.res_main_v27, Cert.ReferenceShiftBwdIdeal.Value.res_main_v20, Cert.ReferenceShiftBwdIdeal.Value.res_main_v13, Cert.ReferenceShiftBwdIdeal.Value.res_main_v4, Cert.ReferenceShiftBwdIdeal.Value.res_main_v2, Cert.ReferenceShiftBwdIdeal.Value.res_main_v0, Cert.ReferenceShiftBwdIdeal.Value.res_main_v78, Cert.ReferenceShiftBwdIdeal.Value.res_main_v140, Cert.ReferenceShiftBwdIdeal.Value.res_main_v75]
    have E0 : StableHlo.launchContents m' c (Proc.tc.devRef Cert.ReferenceShiftBwdIdeal.main_arg0) = m (c.tc.loc Cert.KernelShiftBwdIdeal.main_arg0) := e0
    have E2 : StableHlo.launchContents m' c (Proc.tc.devRef Cert.ReferenceShiftBwdIdeal.main_arg2) = m (c.tc.loc Cert.KernelShiftBwdIdeal.main_arg2) := e2
    have E3 : StableHlo.launchContents m' c (Proc.tc.devRef Cert.ReferenceShiftBwdIdeal.main_arg3) = m (c.tc.loc Cert.KernelShiftBwdIdeal.main_arg3) := e3
    have E4 : StableHlo.launchContents m' c (Proc.tc.devRef Cert.ReferenceShiftBwdIdeal.main_arg4) = m (c.tc.loc Cert.KernelShiftBwdIdeal.main_arg4) := e4
    simp only [E0, E2, E3, E4]
    simp only [Finset.univ_unique, Finset.sum_singleton]
    fin_cases k
    · refine Eq.trans ?_ (sum_left (grad m c l) (rows m c l))
      simp only [Nat.reduceLeDiff, Nat.reduceSub, Nat.reduceLT, Nat.lt_one_iff, true_and, and_true, and_false, false_and, dite_true, dite_false, zero_add, add_zero, Fin.isValue, Nat.not_ofNat_le_one, Nat.one_le_ofNat, Nat.zero_le, le_refl, nonpos_iff_eq_zero, one_ne_zero, OfNat.ofNat_ne_zero, ite_true, ite_false]
      rfl
    · refine Eq.trans ?_ (sum_right (grad m c l) (rows m c l))
      simp only [Nat.reduceLeDiff, Nat.reduceSub, Nat.reduceLT, Nat.lt_one_iff, true_and, and_true, and_false, false_and, dite_true, dite_false, zero_add, add_zero, Fin.isValue, Nat.not_ofNat_le_one, Nat.one_le_ofNat, Nat.zero_le, le_refl, nonpos_iff_eq_zero, one_ne_zero, OfNat.ofNat_ne_zero]
      rfl
    · refine Eq.trans ?_ (sum_up (grad m c l) (rows m c l))
      simp only [Nat.reduceLeDiff, Nat.reduceSub, Nat.reduceLT, Nat.lt_one_iff, true_and, and_true, and_false, false_and, dite_true, dite_false, zero_add, add_zero, Fin.isValue, Nat.not_ofNat_le_one, Nat.one_le_ofNat, Nat.zero_le, le_refl, nonpos_iff_eq_zero, one_ne_zero, OfNat.ofNat_ne_zero]
      rfl
    · refine Eq.trans ?_ (sum_down (grad m c l) (rows m c l))
      simp only [Nat.reduceLeDiff, Nat.reduceSub, Nat.reduceLT, Nat.lt_one_iff, true_and, and_true, and_false, false_and, dite_true, dite_false, zero_add, add_zero, Fin.isValue, Nat.not_ofNat_le_one, Nat.one_le_ofNat, Nat.zero_le, le_refl, nonpos_iff_eq_zero, one_ne_zero, OfNat.ofNat_ne_zero]
      rfl

end Cert.ShiftBwd
-- ==== Proof.lean ====
/-
  The claims of this directory, put together: the frames of every program, and each kernel's result as its reference's.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Equal
public import proofs.«01_k».proof.Proof.Gen.KernelIn.Frame
public import proofs.«01_k».proof.Proof.Gen.KernelInIdeal.Value
public import proofs.«01_k».proof.Proof.Gen.ReferenceInIdeal.Run
public import proofs.«01_k».proof.Proof.In
public import proofs.«01_k».proof.Proof.Gen.KernelInW.Frame
public import proofs.«01_k».proof.Proof.Gen.KernelInWIdeal.Value
public import proofs.«01_k».proof.Proof.Gen.ReferenceInWIdeal.Run
public import proofs.«01_k».proof.Proof.InW
public import proofs.«01_k».proof.Proof.Gen.KernelInX.Frame
public import proofs.«01_k».proof.Proof.Gen.KernelInXIdeal.Value
public import proofs.«01_k».proof.Proof.Gen.ReferenceInXIdeal.Run
public import proofs.«01_k».proof.Proof.InX
public import proofs.«01_k».proof.Proof.Gen.KernelBranch.Frame
public import proofs.«01_k».proof.Proof.Gen.KernelBranchIdeal.Value
public import proofs.«01_k».proof.Proof.Gen.ReferenceBranchIdeal.Run
public import proofs.«01_k».proof.Proof.Branch
public import proofs.«01_k».proof.Proof.Gen.KernelBranchW.Frame
public import proofs.«01_k».proof.Proof.Gen.KernelBranchWIdeal.Value
public import proofs.«01_k».proof.Proof.Gen.ReferenceBranchWIdeal.Run
public import proofs.«01_k».proof.Proof.BranchW
public import proofs.«01_k».proof.Proof.Gen.KernelBranchX.Frame
public import proofs.«01_k».proof.Proof.Gen.KernelBranchXIdeal.Value
public import proofs.«01_k».proof.Proof.Gen.ReferenceBranchXIdeal.Run
public import proofs.«01_k».proof.Proof.BranchX
public import proofs.«01_k».proof.Proof.Gen.KernelOut.Frame
public import proofs.«01_k».proof.Proof.Gen.KernelOutIdeal.Value
public import proofs.«01_k».proof.Proof.Gen.ReferenceOutIdeal.Run
public import proofs.«01_k».proof.Proof.Out
public import proofs.«01_k».proof.Proof.Gen.KernelOutW.Frame
public import proofs.«01_k».proof.Proof.Gen.KernelOutWIdeal.Value
public import proofs.«01_k».proof.Proof.Gen.ReferenceOutWIdeal.Run
public import proofs.«01_k».proof.Proof.OutW
public import proofs.«01_k».proof.Proof.Gen.KernelOutX.Frame
public import proofs.«01_k».proof.Proof.Gen.KernelOutXIdeal.Value
public import proofs.«01_k».proof.Proof.Gen.ReferenceOutXIdeal.Run
public import proofs.«01_k».proof.Proof.OutX
public import proofs.«01_k».proof.Proof.Gen.KernelH.Frame
public import proofs.«01_k».proof.Proof.Gen.KernelHIdeal.Value
public import proofs.«01_k».proof.Proof.Gen.ReferenceHIdeal.Run
public import proofs.«01_k».proof.Proof.H
public import proofs.«01_k».proof.Proof.Gen.KernelMerge.Frame
public import proofs.«01_k».proof.Proof.Gen.KernelMergeIdeal.Value
public import proofs.«01_k».proof.Proof.Gen.ReferenceMergeIdeal.Run
public import proofs.«01_k».proof.Proof.Merge
public import proofs.«01_k».proof.Proof.Gen.KernelPost.Frame
public import proofs.«01_k».proof.Proof.Gen.KernelPostIdeal.Value
public import proofs.«01_k».proof.Proof.Gen.ReferencePostIdeal.Run
public import proofs.«01_k».proof.Proof.Post
public import proofs.«01_k».proof.Proof.Gen.KernelAdaW.Frame
public import proofs.«01_k».proof.Proof.Gen.KernelAdaWIdeal.Value
public import proofs.«01_k».proof.Proof.Gen.ReferenceAdaWIdeal.Run
public import proofs.«01_k».proof.Proof.AdaW
public import proofs.«01_k».proof.Proof.Gen.KernelAdam.Frame
public import proofs.«01_k».proof.Proof.Gen.KernelAdamIdeal.Value
public import proofs.«01_k».proof.Proof.Gen.ReferenceAdamIdeal.Run
public import proofs.«01_k».proof.Proof.Adam
public import proofs.«01_k».proof.Proof.Gen.KernelAdamRep.Frame
public import proofs.«01_k».proof.Proof.Gen.KernelAdamRepIdeal.Value
public import proofs.«01_k».proof.Proof.Gen.ReferenceAdamRepIdeal.Run
public import proofs.«01_k».proof.Proof.AdamRep
public import proofs.«01_k».proof.Proof.Gen.KernelHalvesIn.Frame
public import proofs.«01_k».proof.Proof.Gen.KernelHalvesInIdeal.Frame
public import proofs.«01_k».proof.Proof.Gen.ReferenceHalvesInIdeal.Run
public import proofs.«01_k».proof.Proof.HalvesIn
public import proofs.«01_k».proof.Proof.Gen.KernelHalvesBranch.Frame
public import proofs.«01_k».proof.Proof.Gen.KernelHalvesBranchIdeal.Frame
public import proofs.«01_k».proof.Proof.Gen.ReferenceHalvesBranchIdeal.Run
public import proofs.«01_k».proof.Proof.HalvesBranch
public import proofs.«01_k».proof.Proof.Gen.KernelHalvesOut.Frame
public import proofs.«01_k».proof.Proof.Gen.KernelHalvesOutIdeal.Frame
public import proofs.«01_k».proof.Proof.Gen.ReferenceHalvesOutIdeal.Run
public import proofs.«01_k».proof.Proof.HalvesOut
public import proofs.«01_k».proof.Proof.Gen.KernelHalvesSmall.Frame
public import proofs.«01_k».proof.Proof.Gen.KernelHalvesSmallIdeal.Frame
public import proofs.«01_k».proof.Proof.Gen.ReferenceHalvesSmallIdeal.Run
public import proofs.«01_k».proof.Proof.HalvesSmall
public import proofs.«01_k».proof.Proof.Gen.KernelFinal.Frame
public import proofs.«01_k».proof.Proof.Gen.KernelFinalIdeal.Value
public import proofs.«01_k».proof.Proof.Gen.ReferenceFinalIdeal.Run
public import proofs.«01_k».proof.Proof.Final
public import proofs.«01_k».proof.Proof.Gen.KernelHFwd.Frame
public import proofs.«01_k».proof.Proof.Gen.KernelHFwdIdeal.Value
public import proofs.«01_k».proof.Proof.Gen.ReferenceHFwdIdeal.Run
public import proofs.«01_k».proof.Proof.HFwd
public import proofs.«01_k».proof.Proof.Gen.KernelMergeFwd.Frame
public import proofs.«01_k».proof.Proof.Gen.KernelMergeFwdIdeal.Value
public import proofs.«01_k».proof.Proof.Gen.ReferenceMergeFwdIdeal.Run
public import proofs.«01_k».proof.Proof.MergeFwd
public import proofs.«01_k».proof.Proof.Gen.KernelPostFwd.Frame
public import proofs.«01_k».proof.Proof.Gen.KernelPostFwdIdeal.Value
public import proofs.«01_k».proof.Proof.Gen.ReferencePostFwdIdeal.Run
public import proofs.«01_k».proof.Proof.PostFwd
public import proofs.«01_k».proof.Proof.Gen.KernelSilu.Frame
public import proofs.«01_k».proof.Proof.Gen.KernelSiluIdeal.Value
public import proofs.«01_k».proof.Proof.Gen.ReferenceSiluIdeal.Run
public import proofs.«01_k».proof.Proof.Silu
public import proofs.«01_k».proof.Proof.Gen.KernelSiluBwd.Frame
public import proofs.«01_k».proof.Proof.Gen.KernelSiluBwdIdeal.Value
public import proofs.«01_k».proof.Proof.Gen.ReferenceSiluBwdIdeal.Run
public import proofs.«01_k».proof.Proof.SiluBwd
public import proofs.«01_k».proof.Proof.Gen.KernelAda.Frame
public import proofs.«01_k».proof.Proof.Gen.KernelAdaIdeal.Value
public import proofs.«01_k».proof.Proof.Gen.ReferenceAdaIdeal.Run
public import proofs.«01_k».proof.Proof.Ada
public import proofs.«01_k».proof.Proof.Gen.KernelAdaX.Frame
public import proofs.«01_k».proof.Proof.Gen.KernelAdaXIdeal.Value
public import proofs.«01_k».proof.Proof.Gen.ReferenceAdaXIdeal.Run
public import proofs.«01_k».proof.Proof.AdaX
public import proofs.«01_k».proof.Proof.Gen.KernelRwPost.Frame
public import proofs.«01_k».proof.Proof.Gen.KernelRwPostIdeal.Value
public import proofs.«01_k».proof.Proof.Gen.ReferenceRwPostIdeal.Run
public import proofs.«01_k».proof.Proof.RwPost
public import proofs.«01_k».proof.Proof.Gen.KernelShift.Frame
public import proofs.«01_k».proof.Proof.Gen.KernelShiftIdeal.Value
public import proofs.«01_k».proof.Proof.Gen.ReferenceShiftIdeal.Run
public import proofs.«01_k».proof.Proof.Shift
public import proofs.«01_k».proof.Proof.Gen.KernelShiftBwd.Frame
public import proofs.«01_k».proof.Proof.Gen.KernelShiftBwdIdeal.Value
public import proofs.«01_k».proof.Proof.Gen.ReferenceShiftBwdIdeal.Run
public import proofs.«01_k».proof.Proof.ShiftBwd
public import proofs.«01_k».proof.Proof.Gen.Pre_real_keys
public import proofs.«01_k».proof.Proof.Gen.Pre_real_shift
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.KernelIn.Gen.facts, Cert.KernelInIdeal.Gen.facts, Cert.ReferenceInIdeal.Gen.facts, Cert.KernelInW.Gen.facts, Cert.KernelInWIdeal.Gen.facts, Cert.ReferenceInWIdeal.Gen.facts, Cert.KernelInX.Gen.facts, Cert.KernelInXIdeal.Gen.facts, Cert.ReferenceInXIdeal.Gen.facts, Cert.KernelBranch.Gen.facts, Cert.KernelBranchIdeal.Gen.facts, Cert.ReferenceBranchIdeal.Gen.facts, Cert.KernelBranchW.Gen.facts, Cert.KernelBranchWIdeal.Gen.facts, Cert.ReferenceBranchWIdeal.Gen.facts, Cert.KernelBranchX.Gen.facts, Cert.KernelBranchXIdeal.Gen.facts, Cert.ReferenceBranchXIdeal.Gen.facts, Cert.KernelOut.Gen.facts, Cert.KernelOutIdeal.Gen.facts, Cert.ReferenceOutIdeal.Gen.facts, Cert.KernelOutW.Gen.facts, Cert.KernelOutWIdeal.Gen.facts, Cert.ReferenceOutWIdeal.Gen.facts, Cert.KernelOutX.Gen.facts, Cert.KernelOutXIdeal.Gen.facts, Cert.ReferenceOutXIdeal.Gen.facts, Cert.KernelH.Gen.facts, Cert.KernelHIdeal.Gen.facts, Cert.ReferenceHIdeal.Gen.facts, Cert.KernelMerge.Gen.facts, Cert.KernelMergeIdeal.Gen.facts, Cert.ReferenceMergeIdeal.Gen.facts, Cert.KernelPost.Gen.facts, Cert.KernelPostIdeal.Gen.facts, Cert.ReferencePostIdeal.Gen.facts, Cert.KernelAdaW.Gen.facts, Cert.KernelAdaWIdeal.Gen.facts, Cert.ReferenceAdaWIdeal.Gen.facts, Cert.KernelAdam.Gen.facts, Cert.KernelAdamIdeal.Gen.facts, Cert.ReferenceAdamIdeal.Gen.facts, Cert.KernelAdamRep.Gen.facts, Cert.KernelAdamRepIdeal.Gen.facts, Cert.ReferenceAdamRepIdeal.Gen.facts, Cert.KernelHalvesIn.Gen.facts, Cert.KernelHalvesInIdeal.Gen.facts, Cert.ReferenceHalvesInIdeal.Gen.facts, Cert.KernelHalvesBranch.Gen.facts, Cert.KernelHalvesBranchIdeal.Gen.facts, Cert.ReferenceHalvesBranchIdeal.Gen.facts, Cert.KernelHalvesOut.Gen.facts, Cert.KernelHalvesOutIdeal.Gen.facts, Cert.ReferenceHalvesOutIdeal.Gen.facts, Cert.KernelHalvesSmall.Gen.facts, Cert.KernelHalvesSmallIdeal.Gen.facts, Cert.ReferenceHalvesSmallIdeal.Gen.facts, Cert.KernelFinal.Gen.facts, Cert.KernelFinalIdeal.Gen.facts, Cert.ReferenceFinalIdeal.Gen.facts, Cert.KernelHFwd.Gen.facts, Cert.KernelHFwdIdeal.Gen.facts, Cert.ReferenceHFwdIdeal.Gen.facts, Cert.KernelMergeFwd.Gen.facts, Cert.KernelMergeFwdIdeal.Gen.facts, Cert.ReferenceMergeFwdIdeal.Gen.facts, Cert.KernelPostFwd.Gen.facts, Cert.KernelPostFwdIdeal.Gen.facts, Cert.ReferencePostFwdIdeal.Gen.facts, Cert.KernelSilu.Gen.facts, Cert.KernelSiluIdeal.Gen.facts, Cert.ReferenceSiluIdeal.Gen.facts, Cert.KernelSiluBwd.Gen.facts, Cert.KernelSiluBwdIdeal.Gen.facts, Cert.ReferenceSiluBwdIdeal.Gen.facts, Cert.KernelAda.Gen.facts, Cert.KernelAdaIdeal.Gen.facts, Cert.ReferenceAdaIdeal.Gen.facts, Cert.KernelAdaX.Gen.facts, Cert.KernelAdaXIdeal.Gen.facts, Cert.ReferenceAdaXIdeal.Gen.facts, Cert.KernelRwPost.Gen.facts, Cert.KernelRwPostIdeal.Gen.facts, Cert.ReferenceRwPostIdeal.Gen.facts, Cert.KernelShift.Gen.facts, Cert.KernelShiftIdeal.Gen.facts, Cert.ReferenceShiftIdeal.Gen.facts, Cert.KernelShiftBwd.Gen.facts, Cert.KernelShiftBwdIdeal.Gen.facts, Cert.ReferenceShiftBwdIdeal.Gen.facts, Cert.Pre_real_bounds.Gen.facts, Cert.Pre_real_keys.Gen.facts, Cert.Pre_real_shift.Gen.facts,
    fun m ρ _ => Cert.Kernel.Gen.frame m ρ, fun m ρ _ => Cert.KernelIdeal.Gen.frame m ρ, fun m ρ _ => Cert.KernelIdeal.Gen.frame m ρ,
    Cert.Equal.reference_frame, fun m ρ _ => Cert.Equal.reference_frame m ρ trivial,
    fun m ρ _ => Cert.KernelIn.Gen.frame m ρ, fun m ρ _ => Cert.KernelInIdeal.Gen.frame m ρ, Cert.In.reference_frame,
    fun m ρ _ => Cert.KernelInW.Gen.frame m ρ, fun m ρ _ => Cert.KernelInWIdeal.Gen.frame m ρ, Cert.InW.reference_frame,
    fun m ρ _ => Cert.KernelInX.Gen.frame m ρ, fun m ρ _ => Cert.KernelInXIdeal.Gen.frame m ρ, Cert.InX.reference_frame,
    fun m ρ _ => Cert.KernelBranch.Gen.frame m ρ, fun m ρ _ => Cert.KernelBranchIdeal.Gen.frame m ρ, Cert.Branch.reference_frame,
    fun m ρ _ => Cert.KernelBranchW.Gen.frame m ρ, fun m ρ _ => Cert.KernelBranchWIdeal.Gen.frame m ρ, Cert.BranchW.reference_frame,
    fun m ρ _ => Cert.KernelBranchX.Gen.frame m ρ, fun m ρ _ => Cert.KernelBranchXIdeal.Gen.frame m ρ, Cert.BranchX.reference_frame,
    fun m ρ _ => Cert.KernelOut.Gen.frame m ρ, fun m ρ _ => Cert.KernelOutIdeal.Gen.frame m ρ, Cert.Out.reference_frame,
    fun m ρ _ => Cert.KernelOutW.Gen.frame m ρ, fun m ρ _ => Cert.KernelOutWIdeal.Gen.frame m ρ, Cert.OutW.reference_frame,
    fun m ρ _ => Cert.KernelOutX.Gen.frame m ρ, fun m ρ _ => Cert.KernelOutXIdeal.Gen.frame m ρ, Cert.OutX.reference_frame,
    fun m ρ _ => Cert.KernelH.Gen.frame m ρ, fun m ρ _ => Cert.KernelHIdeal.Gen.frame m ρ, Cert.H.reference_frame,
    fun m ρ _ => Cert.KernelMerge.Gen.frame m ρ, fun m ρ _ => Cert.KernelMergeIdeal.Gen.frame m ρ, Cert.Merge.reference_frame,
    fun m ρ _ => Cert.KernelPost.Gen.frame m ρ, fun m ρ _ => Cert.KernelPostIdeal.Gen.frame m ρ, Cert.Post.reference_frame,
    fun m ρ _ => Cert.KernelAdaW.Gen.frame m ρ, fun m ρ _ => Cert.KernelAdaWIdeal.Gen.frame m ρ, Cert.AdaW.reference_frame,
    fun m ρ _ => Cert.KernelAdam.Gen.frame m ρ, fun m ρ _ => Cert.KernelAdamIdeal.Gen.frame m ρ, Cert.Adam.reference_frame,
    fun m ρ _ => Cert.KernelAdamRep.Gen.frame m ρ, fun m ρ _ => Cert.KernelAdamRepIdeal.Gen.frame m ρ, Cert.AdamRep.reference_frame,
    fun m ρ _ => Cert.KernelHalvesIn.Gen.frame m ρ trivial, fun m ρ _ => Cert.KernelHalvesInIdeal.Gen.frame m ρ trivial, Cert.HalvesIn.reference_frame,
    fun m ρ _ => Cert.KernelHalvesBranch.Gen.frame m ρ trivial, fun m ρ _ => Cert.KernelHalvesBranchIdeal.Gen.frame m ρ trivial, Cert.HalvesBranch.reference_frame,
    fun m ρ _ => Cert.KernelHalvesOut.Gen.frame m ρ trivial, fun m ρ _ => Cert.KernelHalvesOutIdeal.Gen.frame m ρ trivial, Cert.HalvesOut.reference_frame,
    fun m ρ _ => Cert.KernelHalvesSmall.Gen.frame m ρ trivial, fun m ρ _ => Cert.KernelHalvesSmallIdeal.Gen.frame m ρ trivial, Cert.HalvesSmall.reference_frame,
    fun m ρ _ => Cert.KernelFinal.Gen.frame m ρ, fun m ρ _ => Cert.KernelFinalIdeal.Gen.frame m ρ, Cert.Final.reference_frame,
    fun m ρ _ => Cert.KernelHFwd.Gen.frame m ρ, fun m ρ _ => Cert.KernelHFwdIdeal.Gen.frame m ρ, Cert.HFwd.reference_frame,
    fun m ρ _ => Cert.KernelMergeFwd.Gen.frame m ρ, fun m ρ _ => Cert.KernelMergeFwdIdeal.Gen.frame m ρ, Cert.MergeFwd.reference_frame,
    fun m ρ _ => Cert.KernelPostFwd.Gen.frame m ρ, fun m ρ _ => Cert.KernelPostFwdIdeal.Gen.frame m ρ, Cert.PostFwd.reference_frame,
    fun m ρ _ => Cert.KernelSilu.Gen.frame m ρ, fun m ρ _ => Cert.KernelSiluIdeal.Gen.frame m ρ, Cert.Silu.reference_frame,
    fun m ρ _ => Cert.KernelSiluBwd.Gen.frame m ρ, fun m ρ _ => Cert.KernelSiluBwdIdeal.Gen.frame m ρ, Cert.SiluBwd.reference_frame,
    fun m ρ _ => Cert.KernelAda.Gen.frame m ρ, fun m ρ _ => Cert.KernelAdaIdeal.Gen.frame m ρ, Cert.Ada.reference_frame,
    fun m ρ _ => Cert.KernelAdaX.Gen.frame m ρ, fun m ρ _ => Cert.KernelAdaXIdeal.Gen.frame m ρ, Cert.AdaX.reference_frame,
    fun m ρ _ => Cert.KernelRwPost.Gen.frame m ρ, fun m ρ _ => Cert.KernelRwPostIdeal.Gen.frame m ρ, fun m ρ _ => Cert.KernelRwPostIdeal.Gen.frame m ρ,
    Cert.RwPost.reference_frame, fun m ρ _ => Cert.RwPost.reference_frame m ρ trivial,
    fun m ρ _ => Cert.KernelShift.Gen.frame m ρ, fun m ρ _ => Cert.KernelShiftIdeal.Gen.frame m ρ, Cert.Shift.reference_frame,
    fun m ρ _ => Cert.KernelShiftBwd.Gen.frame m ρ, fun m ρ _ => Cert.KernelShiftBwdIdeal.Gen.frame m ρ, fun m ρ _ => Cert.KernelShiftBwdIdeal.Gen.frame m ρ,
    Cert.ShiftBwd.reference_frame, fun m ρ _ => Cert.ShiftBwd.reference_frame m ρ trivial,
    trivial, Cert.Equal.algebraic, trivial, Cert.In.algebraic, trivial, Cert.InW.algebraic, trivial, Cert.InX.algebraic, trivial, Cert.Branch.algebraic, trivial, Cert.BranchW.algebraic, trivial, Cert.BranchX.algebraic, trivial, Cert.Out.algebraic, trivial, Cert.OutW.algebraic, trivial, Cert.OutX.algebraic, trivial, Cert.H.algebraic, trivial, Cert.Merge.algebraic, trivial, Cert.Post.algebraic, trivial, Cert.AdaW.algebraic, trivial, Cert.Adam.algebraic, trivial, Cert.AdamRep.algebraic, trivial, Cert.HalvesIn.algebraic, trivial, Cert.HalvesBranch.algebraic, trivial, Cert.HalvesOut.algebraic, trivial, Cert.HalvesSmall.algebraic, trivial, Cert.Final.algebraic, trivial, Cert.HFwd.algebraic, trivial, Cert.MergeFwd.algebraic, trivial, Cert.PostFwd.algebraic, trivial, Cert.Silu.algebraic, trivial, Cert.SiluBwd.algebraic, trivial, Cert.Ada.algebraic, trivial, Cert.AdaX.algebraic, trivial, Cert.RwPost.algebraic, trivial, Cert.Shift.algebraic, trivial, Cert.ShiftBwd.algebraic⟩

end Cert.Proof

end
